-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S12x1024x2048 : Shape := ⟨3, ![12, 1024, 2048]⟩
abbrev S256x8192 : Shape := ⟨2, ![256, 8192]⟩
abbrev S16x8192 : Shape := ⟨2, ![16, 8192]⟩
abbrev S3x1000x2048 : Shape := ⟨3, ![3, 1000, 2048]⟩
abbrev S1000x8192 : Shape := ⟨2, ![1000, 8192]⟩
abbrev S23 : Shape := ⟨1, ![23]⟩
abbrev S23x3 : Shape := ⟨2, ![23, 3]⟩
abbrev S20 : Shape := ⟨1, ![20]⟩
abbrev S19 : Shape := ⟨1, ![19]⟩
abbrev S19x1 : Shape := ⟨2, ![19, 1]⟩
abbrev S24 : Shape := ⟨1, ![24]⟩
abbrev S24x1 : Shape := ⟨2, ![24, 1]⟩
abbrev S_ : Shape := ⟨0, ![]⟩
abbrev S1 : Shape := ⟨1, ![1]⟩
abbrev S13 : Shape := ⟨1, ![13]⟩
abbrev S1x13 : Shape := ⟨2, ![1, 13]⟩
abbrev S24x13 : Shape := ⟨2, ![24, 13]⟩

class Facts : Prop where
  bcast_S19_S19x1_0 : S19.BroadcastsInDim S19x1 (![0] : Fin 1 → Fin S19x1.rank)
  bcast_S24_S24x1_0 : S24.BroadcastsInDim S24x1 (![0] : Fin 1 → Fin S24x1.rank)
  bcast_S_S24x1 : S_.BroadcastsInDim S24x1 (![] : Fin 0 → Fin S24x1.rank)
  bcast_S_S19 : S_.BroadcastsInDim S19 (![] : Fin 0 → Fin S19.rank)
  reducesTo_S19_S_d0 : S19.ReducesTo [0] S_
  h_S_ : 0 < S_.numel
  slices_S20_S19_0 : S20.Slices ![0] S19
  slices_S20_S19_1 : S20.Slices ![1] S19
  slices_S20_S1_19 : S20.Slices ![19] S1
  shapeCasts_S1_S_ : S1.ShapeCasts S_
  slices_S20_S13_1 : S20.Slices ![1] S13
  bcast_S13_S1x13_1 : S13.BroadcastsInDim S1x13 (![1] : Fin 1 → Fin S1x13.rank)
  bcast_S1x13_S24x13_0_1 : S1x13.BroadcastsInDim S24x13 (![0, 1] : Fin 2 → Fin S24x13.rank)
  bcast_S24x1_S24x13_0_1 : S24x1.BroadcastsInDim S24x13 (![0, 1] : Fin 2 → Fin S24x13.rank)
  slices_S20_S13_6 : S20.Slices ![6] S13
  reducesTo_S24x13_S_d0_1 : S24x13.ReducesTo [0, 1] S_
  gather_S23_S19x1_S19_n_0_n_n_0_1_1_wf : GatherDims.WF S23 S19x1 S19 [] [0] [] [0] [] 1 ![1]

variable [Facts]

def gather_S23_S19x1_S19_n_0_n_n_0_1_1 : GatherDims S23 S19x1 S19 where
  offsetDims := []
  collapsedSliceDims := [0]
  operandBatchingDims := []
  startIndicesBatchingDims := []
  startIndexMap := [0]
  indexVectorDim := 1
  sliceSizes := ![1]
  wf := gather_S23_S19x1_S19_n_0_n_n_0_1_1_wf
def fn_take {F : FTy → Type} [FloatOps F] (arg0 : IVec S23 32) (arg1 : IVec S19 32) : IVec S19 32 :=
  let v0 : IVec S19x1 32 := broadcastInDim S19x1 ![0] bcast_S19_S19x1_0 arg1
  let v1 : IVec S19 32 := (fun x i => Host.gather gather_S23_S19x1_S19_n_0_n_n_0_1_1 x i) arg0 v0
  v1

def fn_part2 {F : FTy → Type} [FloatOps F] (main_arg8 : IVec S20 32) (main_v5 : IVec S24x1 32) (main_v31 : IVec S_ 1) (main_v36 : IVec S24x13 1) : IVec S_ 1 :=
  let main_v37 : IVec S13 32 := (extractStridedSlice S13 ![6] · slices_S20_S13_6) main_arg8
  let main_v38 : IVec S1x13 32 := broadcastInDim S1x13 ![1] bcast_S13_S1x13_1 main_v37
  let main_c_10 : IVec S_ 32 := constantI S_ 32 512#32
  let main_v39 : IVec S24x1 32 := broadcastInDim S24x1 ![] bcast_S_S24x1 main_c_10
  let main_v40 : IVec S24x1 32 := addi main_v5 main_v39
  let main_v41 : IVec S24x13 32 := broadcastInDim S24x13 ![0, 1] bcast_S1x13_S24x13_0_1 main_v38
  let main_v42 : IVec S24x13 32 := broadcastInDim S24x13 ![0, 1] bcast_S24x1_S24x13_0_1 main_v40
  let main_v43 : IVec S24x13 1 := cmpi .sge main_v41 main_v42
  let main_v44 : IVec S24x13 1 := ori main_v36 main_v43
  let main_c_11 : IVec S_ 1 := constantI S_ 1 1#1
  let main_v45 : IVec S_ 1 := (fun x v => Host.reduce IntOp.andi x v reducesTo_S24x13_S_d0_1 h_S_) main_v44 main_c_11
  let main_v46 : IVec S_ 1 := andi main_v31 main_v45
  main_v46

def fn_part1 {F : FTy → Type} [FloatOps F] (main_arg8 : IVec S20 32) (main_v1 : IVec S19 32) (main_v5 : IVec S24x1 32) (main_v11 : IVec S_ 1) (main_v16 : IVec S19 1) (main_c_5 : IVec S_ 1) : IVec S_ 1 :=
  let main_v17 : IVec S_ 1 := (fun x v => Host.reduce IntOp.andi x v reducesTo_S19_S_d0 h_S_) main_v16 main_c_5
  let main_v18 : IVec S_ 1 := andi main_v11 main_v17
  let main_c_6 : IVec S_ 32 := constantI S_ 32 32#32
  let main_v19 : IVec S19 32 := broadcastInDim S19 ![] bcast_S_S19 main_c_6
  let main_v20 : IVec S19 1 := cmpi .sle main_v1 main_v19
  let main_c_7 : IVec S_ 1 := constantI S_ 1 1#1
  let main_v21 : IVec S_ 1 := (fun x v => Host.reduce IntOp.andi x v reducesTo_S19_S_d0 h_S_) main_v20 main_c_7
  let main_v22 : IVec S_ 1 := andi main_v18 main_v21
  let main_v23 : IVec S19 32 := (extractStridedSlice S19 ![0] · slices_S20_S19_0) main_arg8
  let main_v24 : IVec S19 32 := (extractStridedSlice S19 ![1] · slices_S20_S19_1) main_arg8
  let main_v25 : IVec S19 1 := cmpi .sle main_v23 main_v24
  let main_c_8 : IVec S_ 1 := constantI S_ 1 1#1
  let main_v26 : IVec S_ 1 := (fun x v => Host.reduce IntOp.andi x v reducesTo_S19_S_d0 h_S_) main_v25 main_c_8
  let main_v27 : IVec S_ 1 := andi main_v22 main_v26
  let main_v28 : IVec S1 32 := (extractStridedSlice S1 ![19] · slices_S20_S1_19) main_arg8
  let main_v29 : IVec S_ 32 := shapeCast S_ main_v28 shapeCasts_S1_S_
  let main_c_9 : IVec S_ 32 := constantI S_ 32 11776#32
  let main_v30 : IVec S_ 1 := cmpi .sgt main_v29 main_c_9
  let main_v31 : IVec S_ 1 := andi main_v27 main_v30
  let main_v32 : IVec S13 32 := (extractStridedSlice S13 ![1] · slices_S20_S13_1) main_arg8
  let main_v33 : IVec S1x13 32 := broadcastInDim S1x13 ![1] bcast_S13_S1x13_1 main_v32
  let main_v34 : IVec S24x13 32 := broadcastInDim S24x13 ![0, 1] bcast_S1x13_S24x13_0_1 main_v33
  let main_v35 : IVec S24x13 32 := broadcastInDim S24x13 ![0, 1] bcast_S24x1_S24x13_0_1 main_v5
  let main_v36 : IVec S24x13 1 := cmpi .sle main_v34 main_v35
  fn_part2 (F := F) main_arg8 main_v5 main_v31 main_v36

def fn {F : FTy → Type} [FloatOps F] (main_arg0 : FVec F S12x1024x2048 .bf16) (main_arg1 : IVec S256x8192 32) (main_arg2 : FVec F S16x8192 .bf16) (main_arg3 : FVec F S3x1000x2048 .bf16) (main_arg4 : FVec F S1000x8192 .bf16) (main_arg5 : IVec S23 32) (main_arg6 : IVec S23 32) (main_arg7 : FVec F S23x3 .f32) (main_arg8 : IVec S20 32) (main_arg9 : IVec S19 32) : IVec S_ 1 :=
  let main_v0 : IVec S19 32 := fn_take (F := F) main_arg5 main_arg9
  let main_v1 : IVec S19 32 := fn_take (F := F) main_arg6 main_arg9
  let main_v2 : IVec S24 32 := iotaInDim S24 32 0
  let main_v3 : IVec S24x1 32 := broadcastInDim S24x1 ![0] bcast_S24_S24x1_0 main_v2
  let main_c : IVec S_ 32 := constantI S_ 32 512#32
  let main_v4 : IVec S24x1 32 := broadcastInDim S24x1 ![] bcast_S_S24x1 main_c
  let main_v5 : IVec S24x1 32 := muli main_v4 main_v3
  let main_c_0 : IVec S_ 32 := constantI S_ 32 0#32
  let main_v6 : IVec S19 32 := broadcastInDim S19 ![] bcast_S_S19 main_c_0
  let main_v7 : IVec S19 1 := cmpi .sge main_arg9 main_v6
  let main_c_1 : IVec S_ 32 := constantI S_ 32 23#32
  let main_v8 : IVec S19 32 := broadcastInDim S19 ![] bcast_S_S19 main_c_1
  let main_v9 : IVec S19 1 := cmpi .slt main_arg9 main_v8
  let main_v10 : IVec S19 1 := andi main_v7 main_v9
  let main_c_2 : IVec S_ 1 := constantI S_ 1 1#1
  let main_v11 : IVec S_ 1 := (fun x v => Host.reduce IntOp.andi x v reducesTo_S19_S_d0 h_S_) main_v10 main_c_2
  let main_c_3 : IVec S_ 32 := constantI S_ 32 0#32
  let main_v12 : IVec S19 32 := broadcastInDim S19 ![] bcast_S_S19 main_c_3
  let main_v13 : IVec S19 1 := cmpi .sge main_v0 main_v12
  let main_c_4 : IVec S_ 32 := constantI S_ 32 968#32
  let main_v14 : IVec S19 32 := broadcastInDim S19 ![] bcast_S_S19 main_c_4
  let main_v15 : IVec S19 1 := cmpi .sle main_v0 main_v14
  let main_v16 : IVec S19 1 := andi main_v13 main_v15
  let main_c_5 : IVec S_ 1 := constantI S_ 1 1#1
  fn_part1 (F := F) main_arg8 main_v1 main_v5 main_v11 main_v16 main_c_5
-- ==== Kernel.lean ====
abbrev S12x1024x2048 : Shape := ⟨3, ![12, 1024, 2048]⟩
abbrev S256x8192 : Shape := ⟨2, ![256, 8192]⟩
abbrev S16x8192 : Shape := ⟨2, ![16, 8192]⟩
abbrev S3x1000x2048 : Shape := ⟨3, ![3, 1000, 2048]⟩
abbrev S1000x8192 : Shape := ⟨2, ![1000, 8192]⟩
abbrev S23 : Shape := ⟨1, ![23]⟩
abbrev S23x3 : Shape := ⟨2, ![23, 3]⟩
abbrev S20 : Shape := ⟨1, ![20]⟩
abbrev S19 : Shape := ⟨1, ![19]⟩
abbrev S12288x2048 : Shape := ⟨2, ![12288, 2048]⟩
abbrev S12288x8192 : Shape := ⟨2, ![12288, 8192]⟩
abbrev S3x32x12288 : Shape := ⟨3, ![3, 32, 12288]⟩
abbrev S16x2048x512 : Shape := ⟨3, ![16, 2048, 512]⟩
abbrev S2x512x2048 : Shape := ⟨3, ![2, 512, 2048]⟩
abbrev S2x256x512 : Shape := ⟨3, ![2, 256, 512]⟩
abbrev S8x120x2048 : Shape := ⟨3, ![8, 120, 2048]⟩
abbrev S776x8192 : Shape := ⟨2, ![776, 8192]⟩
abbrev S3x256x512 : Shape := ⟨3, ![3, 256, 512]⟩
abbrev S3x512x256 : Shape := ⟨3, ![3, 512, 256]⟩
abbrev S4x40x128 : Shape := ⟨3, ![4, 40, 128]⟩
abbrev S3x32x512 : Shape := ⟨3, ![3, 32, 512]⟩
abbrev S4x512x512 : Shape := ⟨3, ![4, 512, 512]⟩
abbrev S2 : Shape := ⟨1, ![2]⟩
abbrev S_ : Shape := ⟨0, ![]⟩
abbrev S8 : Shape := ⟨1, ![8]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S1x256x512 : Shape := ⟨3, ![1, 256, 512]⟩
abbrev S256x512 : Shape := ⟨2, ![256, 512]⟩
abbrev S40x8192 : Shape := ⟨2, ![40, 8192]⟩
abbrev S256x1x512 : Shape := ⟨3, ![256, 1, 512]⟩
abbrev S256x8x512 : Shape := ⟨3, ![256, 8, 512]⟩
abbrev S2048x512 : Shape := ⟨2, ![2048, 512]⟩
abbrev S1x512 : Shape := ⟨2, ![1, 512]⟩
abbrev S128x512 : Shape := ⟨2, ![128, 512]⟩
abbrev S1x128x512 : Shape := ⟨3, ![1, 128, 512]⟩
abbrev S1x40x2048 : Shape := ⟨3, ![1, 40, 2048]⟩
abbrev S40x2048 : Shape := ⟨2, ![40, 2048]⟩
abbrev S1x120x2048 : Shape := ⟨3, ![1, 120, 2048]⟩
abbrev S120x2048 : Shape := ⟨2, ![120, 2048]⟩
abbrev S120x512 : Shape := ⟨2, ![120, 512]⟩
abbrev S40x512 : Shape := ⟨2, ![40, 512]⟩
abbrev S1x1 : Shape := ⟨2, ![1, 1]⟩
abbrev S1x40x512 : Shape := ⟨3, ![1, 40, 512]⟩
abbrev S40x128 : Shape := ⟨2, ![40, 128]⟩
abbrev S1x40x128 : Shape := ⟨3, ![1, 40, 128]⟩
abbrev S1x32x128 : Shape := ⟨3, ![1, 32, 128]⟩
abbrev S32x128 : Shape := ⟨2, ![32, 128]⟩
abbrev S512x256 : Shape := ⟨2, ![512, 256]⟩
abbrev S1x512x256 : Shape := ⟨3, ![1, 512, 256]⟩
abbrev S1x2048x512 : Shape := ⟨3, ![1, 2048, 512]⟩
abbrev S512x512 : Shape := ⟨2, ![512, 512]⟩
abbrev S1x512x512 : Shape := ⟨3, ![1, 512, 512]⟩
abbrev S12x1024x8192 : Shape := ⟨3, ![12, 1024, 8192]⟩
abbrev S12288x3x32 : Shape := ⟨3, ![12288, 3, 32]⟩

abbrev nBuf : Space → Nat
  | .hbm => 15
  | .vmem => 11
  | .smem => 5
  | _ => 0

abbrev bufTy : (tb : Table) → Fin (tcTables nBuf tb) → BufTy
  | .hbm, ⟨0, _⟩ => ⟨S12x1024x2048, .bf16⟩
  | .hbm, ⟨1, _⟩ => ⟨S256x8192, .i32⟩
  | .hbm, ⟨2, _⟩ => ⟨S16x8192, .bf16⟩
  | .hbm, ⟨3, _⟩ => ⟨S3x1000x2048, .bf16⟩
  | .hbm, ⟨4, _⟩ => ⟨S1000x8192, .bf16⟩
  | .hbm, ⟨5, _⟩ => ⟨S23, .i32⟩
  | .hbm, ⟨6, _⟩ => ⟨S23, .i32⟩
  | .hbm, ⟨7, _⟩ => ⟨S23x3, .f32⟩
  | .hbm, ⟨8, _⟩ => ⟨S20, .i32⟩
  | .hbm, ⟨9, _⟩ => ⟨S19, .i32⟩
  | .hbm, ⟨10, _⟩ => ⟨S12288x2048, .bf16⟩
  | .hbm, ⟨11, _⟩ => ⟨S12288x8192, .bf16⟩
  | .hbm, ⟨12, _⟩ => ⟨S3x32x12288, .bf16⟩
  | .hbm, ⟨13, _⟩ => ⟨S12x1024x8192, .bf16⟩
  | .hbm, ⟨14, _⟩ => ⟨S12288x3x32, .bf16⟩
  | .local _ .vmem, ⟨0, _⟩ => ⟨S16x2048x512, .bf16⟩
  | .local _ .vmem, ⟨1, _⟩ => ⟨S2x512x2048, .bf16⟩
  | .local _ .vmem, ⟨2, _⟩ => ⟨S2x256x512, .i32⟩
  | .local _ .vmem, ⟨3, _⟩ => ⟨S16x8192, .bf16⟩
  | .local _ .vmem, ⟨4, _⟩ => ⟨S8x120x2048, .bf16⟩
  | .local _ .vmem, ⟨5, _⟩ => ⟨S776x8192, .bf16⟩
  | .local _ .vmem, ⟨6, _⟩ => ⟨S3x256x512, .f32⟩
  | .local _ .vmem, ⟨7, _⟩ => ⟨S3x512x256, .bf16⟩
  | .local _ .vmem, ⟨8, _⟩ => ⟨S4x40x128, .f32⟩
  | .local _ .vmem, ⟨9, _⟩ => ⟨S3x32x512, .bf16⟩
  | .local _ .vmem, ⟨10, _⟩ => ⟨S4x512x512, .bf16⟩
  | .local _ .smem, ⟨0, _⟩ => ⟨S20, .i32⟩
  | .local _ .smem, ⟨1, _⟩ => ⟨S19, .i32⟩
  | .local _ .smem, ⟨2, _⟩ => ⟨S23, .i32⟩
  | .local _ .smem, ⟨3, _⟩ => ⟨S23, .i32⟩
  | .local _ .smem, ⟨4, _⟩ => ⟨S23x3, .f32⟩
  | _, _ => ⟨S12x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_5 : BitVec 32 := 0#32
  c0_i32_5
@[reducible] def k0_t1_loop : Scf.Loop 32 :=
  let c0_i32_11 : BitVec 32 := 0#32
  let c19_i32 : BitVec 32 := 19#32
  let v12 : BitVec 32 := Scalar.addi c0_i32_11 c19_i32
  let c1_i32 : BitVec 32 := 1#32
  ⟨c0_i32_11, v12, c1_i32⟩
def k0_off1 (k0_t1 : Fin k0_t1_loop.trips) : Fin 1 → Nat :=
  let c0_i32_11 : BitVec 32 := 0#32
  let c1_i32 : BitVec 32 := 1#32
  let arg30 : BitVec 32 := Scf.iv c0_i32_11 c1_i32 k0_t1
  let v51 : Index := Scalar.indexCast arg30
  ![v51.toNat]
def k0_off2 (v52 : BitVec 32) : Fin 1 → Nat :=
  let v53 : Index := Scalar.indexCast v52
  ![v53.toNat]

def k0_chk1 (v52 : BitVec 32) : Prop :=
  (∀ a, (k0_off2 v52) a + S1.size a ≤ S23.size a)
theorem k0_off2_inb : ∀ (v52 : BitVec 32) (k0_hw1 : k0_chk1 v52), ∀ a, (k0_off2 v52) a + S1.size a ≤ S23.size a := fun v52 k0_hw1 => k0_hw1

def k0_mult3 (v54 : BitVec 32) : BitVec 32 :=
  let c3_i32_44 : BitVec 32 := 3#32
  let v55 : BitVec 32 := Scalar.shrsi v54 c3_i32_44
  let c3_i32_45 : BitVec 32 := 3#32
  let v56 : BitVec 32 := Scalar.shli v55 c3_i32_45
  let c960_i32 : BitVec 32 := 960#32
  let v57 : BitVec 32 := Scalar.minsi v56 c960_i32
  v57

def k0_mult4 (k0_t1 : Fin k0_t1_loop.trips) : BitVec 32 :=
  let c0_i32_11 : BitVec 32 := 0#32
  let c1_i32 : BitVec 32 := 1#32
  let arg30 : BitVec 32 := Scf.iv c0_i32_11 c1_i32 k0_t1
  let c40_i32 : BitVec 32 := 40#32
  let v59 : BitVec 32 := Scalar.muli arg30 c40_i32
  v59
def k0_off3 (k0_t1 : Fin k0_t1_loop.trips) : Fin 1 → Nat :=
  let c0_i32_11 : BitVec 32 := 0#32
  let c1_i32 : BitVec 32 := 1#32
  let arg30 : BitVec 32 := Scf.iv c0_i32_11 c1_i32 k0_t1
  ![arg30.toNat]
def k0_off4 (k0_t1 : Fin k0_t1_loop.trips) : Fin 2 → Nat :=
  let c0_i32_11 : BitVec 32 := 0#32
  let c1_i32 : BitVec 32 := 1#32
  let arg30 : BitVec 32 := Scf.iv c0_i32_11 c1_i32 k0_t1
  let c40_i32 : BitVec 32 := 40#32
  let v59 : BitVec 32 := Scalar.muli arg30 c40_i32
  let v60 : BitVec 32 := v59
  let c0_i32_46 : BitVec 32 := 0#32
  ![v60.toNat, 0]
def k0_off5 (v54 : BitVec 32) : Fin 2 → Nat :=
  let c3_i32_44 : BitVec 32 := 3#32
  let v55 : BitVec 32 := Scalar.shrsi v54 c3_i32_44
  let c3_i32_45 : BitVec 32 := 3#32
  let v56 : BitVec 32 := Scalar.shli v55 c3_i32_45
  let c960_i32 : BitVec 32 := 960#32
  let v57 : BitVec 32 := Scalar.minsi v56 c960_i32
  let v58 : BitVec 32 := v57
  let c0_i32_47 : BitVec 32 := 0#32
  ![v58.toNat, 0]

def k0_chk2 (v54 : BitVec 32) : Prop :=
  (8 ∣ (k0_mult3 v54).toNat) ∧
  (∀ a, (k0_off5 v54) a + S40x8192.size a ≤ S1000x8192.size a) ∧
  (∀ (hinb : ∀ a, (k0_off5 v54) a + S40x8192.size a ≤ S1000x8192.size a), (Rect.unit (s := S1000x8192) (k0_off5 v54) S40x8192.size hinb).WholeWords (EltTy.packing .bf16))
theorem k0_mult3_dvd : ∀ (v54 : BitVec 32) (k0_hw2 : k0_chk2 v54), 8 ∣ (k0_mult3 v54).toNat := fun v54 k0_hw2 => k0_hw2.1
theorem k0_off5_inb : ∀ (v54 : BitVec 32) (k0_hw2 : k0_chk2 v54), ∀ a, (k0_off5 v54) a + S40x8192.size a ≤ S1000x8192.size a := fun v54 k0_hw2 => k0_hw2.2.1
theorem k0_off5_wordsbf16 : ∀ (v54 : BitVec 32) (k0_hw2 : k0_chk2 v54), (Rect.unit (s := S1000x8192) (k0_off5 v54) S40x8192.size (k0_off5_inb v54 k0_hw2)).WholeWords (EltTy.packing .bf16) := fun v54 k0_hw2 => k0_hw2.2.2 (k0_off5_inb v54 k0_hw2)

@[reducible] def k0_t2_loop : Scf.Loop 32 :=
  let c0_i32_13 : BitVec 32 := 0#32
  let c16_i32 : BitVec 32 := 16#32
  let v17 : BitVec 32 := Scalar.addi c0_i32_13 c16_i32
  let c1_i32_14 : BitVec 32 := 1#32
  ⟨c0_i32_13, v17, c1_i32_14⟩
def k0_cond1 (k0_t2 : Fin k0_t2_loop.trips) : BitVec 1 :=
  let c0_i32_13 : BitVec 32 := 0#32
  let c1_i32_14 : BitVec 32 := 1#32
  let arg30 : BitVec 32 := Scf.iv c0_i32_13 c1_i32_14 k0_t2
  let c1_i32_44 : BitVec 32 := 1#32
  let v51 : BitVec 32 := Scalar.addi arg30 c1_i32_44
  let c16_i32_45 : BitVec 32 := 16#32
  let v52 : BitVec 1 := Scalar.cmpi .slt v51 c16_i32_45
  let v53 : BitVec 32 := Scalar.extui v52
  let c0_i32_46 : BitVec 32 := 0#32
  let v54 : BitVec 1 := Scalar.cmpi .ne v53 c0_i32_46
  v54

def k0_mult5 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c1_i32_105 : BitVec 32 := 1#32
  let v286 : BitVec 32 := Scalar.addi arg30 c1_i32_105
  let c512_i32_106 : BitVec 32 := 512#32
  let v287 : BitVec 32 := Scalar.muli v286 c512_i32_106
  v287
def k0_off6 (k0_t2 : Fin k0_t2_loop.trips) : Fin 1 → Nat :=
  let c0_i32_13 : BitVec 32 := 0#32
  let c1_i32_14 : BitVec 32 := 1#32
  let arg30 : BitVec 32 := Scf.iv c0_i32_13 c1_i32_14 k0_t2
  let c1_i32_105 : BitVec 32 := 1#32
  let v286 : BitVec 32 := Scalar.addi arg30 c1_i32_105
  let c2_i32_113 : BitVec 32 := 2#32
  let c0_i32_114 : BitVec 32 := 0#32
  let v299 : BitVec 1 := Scalar.cmpi .eq c2_i32_113 c0_i32_114
  let c1_i32_115 : BitVec 32 := 1#32
  let v300 : BitVec 32 := Scalar.select v299 c1_i32_115 c2_i32_113
  let v301 : BitVec 32 := Scalar.remsi v286 v300
  let c0_i32_117 : BitVec 32 := 0#32
  let v303 : BitVec 1 := Scalar.cmpi .slt v301 c0_i32_117
  let c0_i32_118 : BitVec 32 := 0#32
  let v304 : BitVec 1 := Scalar.cmpi .slt v300 c0_i32_118
  let v305 : BitVec 1 := Scalar.xori v303 v304
  let c0_i32_116 : BitVec 32 := 0#32
  let v302 : BitVec 1 := Scalar.cmpi .ne v301 c0_i32_116
  let v306 : BitVec 1 := Scalar.andi v305 v302
  let v307 : BitVec 32 := Scalar.addi v301 v300
  let v308 : BitVec 32 := Scalar.select v306 v307 v301
  ![v308.toNat]
def k0_off7 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let c1_i32_105 : BitVec 32 := 1#32
  let v286 : BitVec 32 := Scalar.addi arg30 c1_i32_105
  let c2_i32_107 : BitVec 32 := 2#32
  let c0_i32_108 : BitVec 32 := 0#32
  let v289 : BitVec 1 := Scalar.cmpi .eq c2_i32_107 c0_i32_108
  let c1_i32_109 : BitVec 32 := 1#32
  let v290 : BitVec 32 := Scalar.select v289 c1_i32_109 c2_i32_107
  let v291 : BitVec 32 := Scalar.remsi v286 v290
  let c0_i32_111 : BitVec 32 := 0#32
  let v293 : BitVec 1 := Scalar.cmpi .slt v291 c0_i32_111
  let c0_i32_112 : BitVec 32 := 0#32
  let v294 : BitVec 1 := Scalar.cmpi .slt v290 c0_i32_112
  let v295 : BitVec 1 := Scalar.xori v293 v294
  let c0_i32_110 : BitVec 32 := 0#32
  let v292 : BitVec 1 := Scalar.cmpi .ne v291 c0_i32_110
  let v296 : BitVec 1 := Scalar.andi v295 v292
  let v297 : BitVec 32 := Scalar.addi v291 v290
  let v298 : BitVec 32 := Scalar.select v296 v297 v291
  let c0_i32_119 : BitVec 32 := 0#32
  let c0_i32_120 : BitVec 32 := 0#32
  ![v298.toNat, 0, 0]
def k0_off8 (k0_t2 : Fin k0_t2_loop.trips) : Fin 2 → Nat :=
  let c0_i32_121 : BitVec 32 := 0#32
  let c0_i32_13 : BitVec 32 := 0#32
  let c1_i32_14 : BitVec 32 := 1#32
  let arg30 : BitVec 32 := Scf.iv c0_i32_13 c1_i32_14 k0_t2
  let c1_i32_105 : BitVec 32 := 1#32
  let v286 : BitVec 32 := Scalar.addi arg30 c1_i32_105
  let c512_i32_106 : BitVec 32 := 512#32
  let v287 : BitVec 32 := Scalar.muli v286 c512_i32_106
  let v288 : BitVec 32 := v287
  ![0, v288.toNat]
def k0_mult6 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32 : BitVec 32 := 512#32
  let v55 : BitVec 32 := Scalar.muli arg30 c512_i32
  v55
def k0_off9 (k0_t2 : Fin k0_t2_loop.trips) : Fin 1 → Nat :=
  let c0_i32_13 : BitVec 32 := 0#32
  let c1_i32_14 : BitVec 32 := 1#32
  let arg30 : BitVec 32 := Scf.iv c0_i32_13 c1_i32_14 k0_t2
  let c2_i32_53 : BitVec 32 := 2#32
  let c0_i32_54 : BitVec 32 := 0#32
  let v67 : BitVec 1 := Scalar.cmpi .eq c2_i32_53 c0_i32_54
  let c1_i32_55 : BitVec 32 := 1#32
  let v68 : BitVec 32 := Scalar.select v67 c1_i32_55 c2_i32_53
  let v69 : BitVec 32 := Scalar.remsi arg30 v68
  let c0_i32_57 : BitVec 32 := 0#32
  let v71 : BitVec 1 := Scalar.cmpi .slt v69 c0_i32_57
  let c0_i32_58 : BitVec 32 := 0#32
  let v72 : BitVec 1 := Scalar.cmpi .slt v68 c0_i32_58
  let v73 : BitVec 1 := Scalar.xori v71 v72
  let c0_i32_56 : BitVec 32 := 0#32
  let v70 : BitVec 1 := Scalar.cmpi .ne v69 c0_i32_56
  let v74 : BitVec 1 := Scalar.andi v73 v70
  let v75 : BitVec 32 := Scalar.addi v69 v68
  let v76 : BitVec 32 := Scalar.select v74 v75 v69
  ![v76.toNat]
def k0_off10 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let c2_i32_47 : BitVec 32 := 2#32
  let c0_i32_48 : BitVec 32 := 0#32
  let v57 : BitVec 1 := Scalar.cmpi .eq c2_i32_47 c0_i32_48
  let c1_i32_49 : BitVec 32 := 1#32
  let v58 : BitVec 32 := Scalar.select v57 c1_i32_49 c2_i32_47
  let v59 : BitVec 32 := Scalar.remsi arg30 v58
  let c0_i32_51 : BitVec 32 := 0#32
  let v61 : BitVec 1 := Scalar.cmpi .slt v59 c0_i32_51
  let c0_i32_52 : BitVec 32 := 0#32
  let v62 : BitVec 1 := Scalar.cmpi .slt v58 c0_i32_52
  let v63 : BitVec 1 := Scalar.xori v61 v62
  let c0_i32_50 : BitVec 32 := 0#32
  let v60 : BitVec 1 := Scalar.cmpi .ne v59 c0_i32_50
  let v64 : BitVec 1 := Scalar.andi v63 v60
  let v65 : BitVec 32 := Scalar.addi v59 v58
  let v66 : BitVec 32 := Scalar.select v64 v65 v59
  let c0_i32_59 : BitVec 32 := 0#32
  let c0_i32_60 : BitVec 32 := 0#32
  ![v66.toNat, 0, 0]
def k0_off11 (k0_t2 : Fin k0_t2_loop.trips) : Fin 2 → Nat :=
  let c0_i32_61 : BitVec 32 := 0#32
  let c0_i32_13 : BitVec 32 := 0#32
  let c1_i32_14 : BitVec 32 := 1#32
  let arg30 : BitVec 32 := Scf.iv c0_i32_13 c1_i32_14 k0_t2
  let c512_i32 : BitVec 32 := 512#32
  let v55 : BitVec 32 := Scalar.muli arg30 c512_i32
  let v56 : BitVec 32 := v55
  ![0, v56.toNat]
def k0_off12 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let c2_i32_62 : BitVec 32 := 2#32
  let c0_i32_63 : BitVec 32 := 0#32
  let v82 : BitVec 1 := Scalar.cmpi .eq c2_i32_62 c0_i32_63
  let c1_i32_64 : BitVec 32 := 1#32
  let v83 : BitVec 32 := Scalar.select v82 c1_i32_64 c2_i32_62
  let v84 : BitVec 32 := Scalar.remsi arg30 v83
  let c0_i32_66 : BitVec 32 := 0#32
  let v86 : BitVec 1 := Scalar.cmpi .slt v84 c0_i32_66
  let c0_i32_67 : BitVec 32 := 0#32
  let v87 : BitVec 1 := Scalar.cmpi .slt v83 c0_i32_67
  let v88 : BitVec 1 := Scalar.xori v86 v87
  let c0_i32_65 : BitVec 32 := 0#32
  let v85 : BitVec 1 := Scalar.cmpi .ne v84 c0_i32_65
  let v89 : BitVec 1 := Scalar.andi v88 v85
  let v90 : BitVec 32 := Scalar.addi v84 v83
  let v91 : BitVec 32 := Scalar.select v89 v90 v84
  let v92 : Index := Scalar.indexCast v91
  let c0_68 : Index := 0#32
  let c0_69 : Index := 0#32
  ![v92.toNat, 0, 0]
def k0_mult7 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_71 : BitVec 32 := 512#32
  let v110 : BitVec 32 := Scalar.muli arg30 c512_i32_71
  v110
def k0_off13 (k0_t2 : Fin k0_t2_loop.trips) : Fin 2 → Nat :=
  let c0_72 : Index := 0#32
  let c0_i32_13 : BitVec 32 := 0#32
  let c1_i32_14 : BitVec 32 := 1#32
  let arg30 : BitVec 32 := Scf.iv c0_i32_13 c1_i32_14 k0_t2
  let c512_i32_71 : BitVec 32 := 512#32
  let v110 : BitVec 32 := Scalar.muli arg30 c512_i32_71
  let v111 : BitVec 32 := v110
  let v112 : Index := Scalar.indexCast v111
  ![0, v112.toNat]
def k0_off14 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v117 : Index := Scalar.indexCast arg30
  let c0_73 : Index := 0#32
  let c0_74 : Index := 0#32
  ![v117.toNat, 0, 0]
def k0_mult8 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_75 : BitVec 32 := 512#32
  let v121 : BitVec 32 := Scalar.muli arg30 c512_i32_75
  v121
def k0_off15 (k0_t2 : Fin k0_t2_loop.trips) : Fin 2 → Nat :=
  let c1 : Index := 1#32
  let c0_i32_13 : BitVec 32 := 0#32
  let c1_i32_14 : BitVec 32 := 1#32
  let arg30 : BitVec 32 := Scf.iv c0_i32_13 c1_i32_14 k0_t2
  let c512_i32_75 : BitVec 32 := 512#32
  let v121 : BitVec 32 := Scalar.muli arg30 c512_i32_75
  let v122 : BitVec 32 := v121
  let v123 : Index := Scalar.indexCast v122
  ![1, v123.toNat]
def k0_off16 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v128 : Index := Scalar.indexCast arg30
  let c128 : Index := 128#32
  let c0_76 : Index := 0#32
  ![v128.toNat, 128, 0]
def k0_mult9 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_77 : BitVec 32 := 512#32
  let v132 : BitVec 32 := Scalar.muli arg30 c512_i32_77
  v132
def k0_off17 (k0_t2 : Fin k0_t2_loop.trips) : Fin 2 → Nat :=
  let c2 : Index := 2#32
  let c0_i32_13 : BitVec 32 := 0#32
  let c1_i32_14 : BitVec 32 := 1#32
  let arg30 : BitVec 32 := Scf.iv c0_i32_13 c1_i32_14 k0_t2
  let c512_i32_77 : BitVec 32 := 512#32
  let v132 : BitVec 32 := Scalar.muli arg30 c512_i32_77
  let v133 : BitVec 32 := v132
  let v134 : Index := Scalar.indexCast v133
  ![2, v134.toNat]
def k0_off18 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v139 : Index := Scalar.indexCast arg30
  let c256 : Index := 256#32
  let c0_78 : Index := 0#32
  ![v139.toNat, 256, 0]
def k0_mult10 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_79 : BitVec 32 := 512#32
  let v143 : BitVec 32 := Scalar.muli arg30 c512_i32_79
  v143
def k0_off19 (k0_t2 : Fin k0_t2_loop.trips) : Fin 2 → Nat :=
  let c3 : Index := 3#32
  let c0_i32_13 : BitVec 32 := 0#32
  let c1_i32_14 : BitVec 32 := 1#32
  let arg30 : BitVec 32 := Scf.iv c0_i32_13 c1_i32_14 k0_t2
  let c512_i32_79 : BitVec 32 := 512#32
  let v143 : BitVec 32 := Scalar.muli arg30 c512_i32_79
  let v144 : BitVec 32 := v143
  let v145 : Index := Scalar.indexCast v144
  ![3, v145.toNat]
def k0_off20 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v150 : Index := Scalar.indexCast arg30
  let c384 : Index := 384#32
  let c0_80 : Index := 0#32
  ![v150.toNat, 384, 0]
def k0_mult11 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_81 : BitVec 32 := 512#32
  let v154 : BitVec 32 := Scalar.muli arg30 c512_i32_81
  v154
def k0_off21 (k0_t2 : Fin k0_t2_loop.trips) : Fin 2 → Nat :=
  let c4 : Index := 4#32
  let c0_i32_13 : BitVec 32 := 0#32
  let c1_i32_14 : BitVec 32 := 1#32
  let arg30 : BitVec 32 := Scf.iv c0_i32_13 c1_i32_14 k0_t2
  let c512_i32_81 : BitVec 32 := 512#32
  let v154 : BitVec 32 := Scalar.muli arg30 c512_i32_81
  let v155 : BitVec 32 := v154
  let v156 : Index := Scalar.indexCast v155
  ![4, v156.toNat]
def k0_off22 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v161 : Index := Scalar.indexCast arg30
  let c512 : Index := 512#32
  let c0_82 : Index := 0#32
  ![v161.toNat, 512, 0]
def k0_mult12 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_83 : BitVec 32 := 512#32
  let v165 : BitVec 32 := Scalar.muli arg30 c512_i32_83
  v165
def k0_off23 (k0_t2 : Fin k0_t2_loop.trips) : Fin 2 → Nat :=
  let c5 : Index := 5#32
  let c0_i32_13 : BitVec 32 := 0#32
  let c1_i32_14 : BitVec 32 := 1#32
  let arg30 : BitVec 32 := Scf.iv c0_i32_13 c1_i32_14 k0_t2
  let c512_i32_83 : BitVec 32 := 512#32
  let v165 : BitVec 32 := Scalar.muli arg30 c512_i32_83
  let v166 : BitVec 32 := v165
  let v167 : Index := Scalar.indexCast v166
  ![5, v167.toNat]
def k0_off24 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v172 : Index := Scalar.indexCast arg30
  let c640 : Index := 640#32
  let c0_84 : Index := 0#32
  ![v172.toNat, 640, 0]
def k0_mult13 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_85 : BitVec 32 := 512#32
  let v176 : BitVec 32 := Scalar.muli arg30 c512_i32_85
  v176
def k0_off25 (k0_t2 : Fin k0_t2_loop.trips) : Fin 2 → Nat :=
  let c6 : Index := 6#32
  let c0_i32_13 : BitVec 32 := 0#32
  let c1_i32_14 : BitVec 32 := 1#32
  let arg30 : BitVec 32 := Scf.iv c0_i32_13 c1_i32_14 k0_t2
  let c512_i32_85 : BitVec 32 := 512#32
  let v176 : BitVec 32 := Scalar.muli arg30 c512_i32_85
  let v177 : BitVec 32 := v176
  let v178 : Index := Scalar.indexCast v177
  ![6, v178.toNat]
def k0_off26 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v183 : Index := Scalar.indexCast arg30
  let c768 : Index := 768#32
  let c0_86 : Index := 0#32
  ![v183.toNat, 768, 0]
def k0_mult14 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_87 : BitVec 32 := 512#32
  let v187 : BitVec 32 := Scalar.muli arg30 c512_i32_87
  v187
def k0_off27 (k0_t2 : Fin k0_t2_loop.trips) : Fin 2 → Nat :=
  let c7 : Index := 7#32
  let c0_i32_13 : BitVec 32 := 0#32
  let c1_i32_14 : BitVec 32 := 1#32
  let arg30 : BitVec 32 := Scf.iv c0_i32_13 c1_i32_14 k0_t2
  let c512_i32_87 : BitVec 32 := 512#32
  let v187 : BitVec 32 := Scalar.muli arg30 c512_i32_87
  let v188 : BitVec 32 := v187
  let v189 : Index := Scalar.indexCast v188
  ![7, v189.toNat]
def k0_off28 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v194 : Index := Scalar.indexCast arg30
  let c896 : Index := 896#32
  let c0_88 : Index := 0#32
  ![v194.toNat, 896, 0]
def k0_mult15 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_89 : BitVec 32 := 512#32
  let v198 : BitVec 32 := Scalar.muli arg30 c512_i32_89
  v198
def k0_off29 (k0_t2 : Fin k0_t2_loop.trips) : Fin 2 → Nat :=
  let c8 : Index := 8#32
  let c0_i32_13 : BitVec 32 := 0#32
  let c1_i32_14 : BitVec 32 := 1#32
  let arg30 : BitVec 32 := Scf.iv c0_i32_13 c1_i32_14 k0_t2
  let c512_i32_89 : BitVec 32 := 512#32
  let v198 : BitVec 32 := Scalar.muli arg30 c512_i32_89
  let v199 : BitVec 32 := v198
  let v200 : Index := Scalar.indexCast v199
  ![8, v200.toNat]
def k0_off30 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v205 : Index := Scalar.indexCast arg30
  let c1024 : Index := 1024#32
  let c0_90 : Index := 0#32
  ![v205.toNat, 1024, 0]
def k0_mult16 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_91 : BitVec 32 := 512#32
  let v209 : BitVec 32 := Scalar.muli arg30 c512_i32_91
  v209
def k0_off31 (k0_t2 : Fin k0_t2_loop.trips) : Fin 2 → Nat :=
  let c9 : Index := 9#32
  let c0_i32_13 : BitVec 32 := 0#32
  let c1_i32_14 : BitVec 32 := 1#32
  let arg30 : BitVec 32 := Scf.iv c0_i32_13 c1_i32_14 k0_t2
  let c512_i32_91 : BitVec 32 := 512#32
  let v209 : BitVec 32 := Scalar.muli arg30 c512_i32_91
  let v210 : BitVec 32 := v209
  let v211 : Index := Scalar.indexCast v210
  ![9, v211.toNat]
def k0_off32 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v216 : Index := Scalar.indexCast arg30
  let c1152 : Index := 1152#32
  let c0_92 : Index := 0#32
  ![v216.toNat, 1152, 0]
def k0_mult17 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_93 : BitVec 32 := 512#32
  let v220 : BitVec 32 := Scalar.muli arg30 c512_i32_93
  v220
def k0_off33 (k0_t2 : Fin k0_t2_loop.trips) : Fin 2 → Nat :=
  let c10 : Index := 10#32
  let c0_i32_13 : BitVec 32 := 0#32
  let c1_i32_14 : BitVec 32 := 1#32
  let arg30 : BitVec 32 := Scf.iv c0_i32_13 c1_i32_14 k0_t2
  let c512_i32_93 : BitVec 32 := 512#32
  let v220 : BitVec 32 := Scalar.muli arg30 c512_i32_93
  let v221 : BitVec 32 := v220
  let v222 : Index := Scalar.indexCast v221
  ![10, v222.toNat]
def k0_off34 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v227 : Index := Scalar.indexCast arg30
  let c1280 : Index := 1280#32
  let c0_94 : Index := 0#32
  ![v227.toNat, 1280, 0]
def k0_mult18 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_95 : BitVec 32 := 512#32
  let v231 : BitVec 32 := Scalar.muli arg30 c512_i32_95
  v231
def k0_off35 (k0_t2 : Fin k0_t2_loop.trips) : Fin 2 → Nat :=
  let c11 : Index := 11#32
  let c0_i32_13 : BitVec 32 := 0#32
  let c1_i32_14 : BitVec 32 := 1#32
  let arg30 : BitVec 32 := Scf.iv c0_i32_13 c1_i32_14 k0_t2
  let c512_i32_95 : BitVec 32 := 512#32
  let v231 : BitVec 32 := Scalar.muli arg30 c512_i32_95
  let v232 : BitVec 32 := v231
  let v233 : Index := Scalar.indexCast v232
  ![11, v233.toNat]
def k0_off36 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v238 : Index := Scalar.indexCast arg30
  let c1408 : Index := 1408#32
  let c0_96 : Index := 0#32
  ![v238.toNat, 1408, 0]
def k0_mult19 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_97 : BitVec 32 := 512#32
  let v242 : BitVec 32 := Scalar.muli arg30 c512_i32_97
  v242
def k0_off37 (k0_t2 : Fin k0_t2_loop.trips) : Fin 2 → Nat :=
  let c12 : Index := 12#32
  let c0_i32_13 : BitVec 32 := 0#32
  let c1_i32_14 : BitVec 32 := 1#32
  let arg30 : BitVec 32 := Scf.iv c0_i32_13 c1_i32_14 k0_t2
  let c512_i32_97 : BitVec 32 := 512#32
  let v242 : BitVec 32 := Scalar.muli arg30 c512_i32_97
  let v243 : BitVec 32 := v242
  let v244 : Index := Scalar.indexCast v243
  ![12, v244.toNat]
def k0_off38 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v249 : Index := Scalar.indexCast arg30
  let c1536 : Index := 1536#32
  let c0_98 : Index := 0#32
  ![v249.toNat, 1536, 0]
def k0_mult20 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_99 : BitVec 32 := 512#32
  let v253 : BitVec 32 := Scalar.muli arg30 c512_i32_99
  v253
def k0_off39 (k0_t2 : Fin k0_t2_loop.trips) : Fin 2 → Nat :=
  let c13 : Index := 13#32
  let c0_i32_13 : BitVec 32 := 0#32
  let c1_i32_14 : BitVec 32 := 1#32
  let arg30 : BitVec 32 := Scf.iv c0_i32_13 c1_i32_14 k0_t2
  let c512_i32_99 : BitVec 32 := 512#32
  let v253 : BitVec 32 := Scalar.muli arg30 c512_i32_99
  let v254 : BitVec 32 := v253
  let v255 : Index := Scalar.indexCast v254
  ![13, v255.toNat]
def k0_off40 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v260 : Index := Scalar.indexCast arg30
  let c1664 : Index := 1664#32
  let c0_100 : Index := 0#32
  ![v260.toNat, 1664, 0]
def k0_mult21 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_101 : BitVec 32 := 512#32
  let v264 : BitVec 32 := Scalar.muli arg30 c512_i32_101
  v264
def k0_off41 (k0_t2 : Fin k0_t2_loop.trips) : Fin 2 → Nat :=
  let c14 : Index := 14#32
  let c0_i32_13 : BitVec 32 := 0#32
  let c1_i32_14 : BitVec 32 := 1#32
  let arg30 : BitVec 32 := Scf.iv c0_i32_13 c1_i32_14 k0_t2
  let c512_i32_101 : BitVec 32 := 512#32
  let v264 : BitVec 32 := Scalar.muli arg30 c512_i32_101
  let v265 : BitVec 32 := v264
  let v266 : Index := Scalar.indexCast v265
  ![14, v266.toNat]
def k0_off42 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v271 : Index := Scalar.indexCast arg30
  let c1792 : Index := 1792#32
  let c0_102 : Index := 0#32
  ![v271.toNat, 1792, 0]
def k0_mult22 (k0_t2 : Fin k0_t2_loop.trips) : BitVec 32 :=
  let c0_i32_13 : BitVec 32 := 0#32
  let c1_i32_14 : BitVec 32 := 1#32
  let arg30 : BitVec 32 := Scf.iv c0_i32_13 c1_i32_14 k0_t2
  let c512_i32_103 : BitVec 32 := 512#32
  let v275 : BitVec 32 := Scalar.muli arg30 c512_i32_103
  v275
def k0_off43 (k0_t2 : Fin k0_t2_loop.trips) : Fin 2 → Nat :=
  let c15 : Index := 15#32
  let c0_i32_13 : BitVec 32 := 0#32
  let c1_i32_14 : BitVec 32 := 1#32
  let arg30 : BitVec 32 := Scf.iv c0_i32_13 c1_i32_14 k0_t2
  let c512_i32_103 : BitVec 32 := 512#32
  let v275 : BitVec 32 := Scalar.muli arg30 c512_i32_103
  let v276 : BitVec 32 := v275
  let v277 : Index := Scalar.indexCast v276
  ![15, v277.toNat]
def k0_off44 (k0_t2 : Fin k0_t2_loop.trips) : Fin 3 → Nat :=
  let c0_i32_13 : BitVec 32 := 0#32
  let c1_i32_14 : BitVec 32 := 1#32
  let arg30 : BitVec 32 := Scf.iv c0_i32_13 c1_i32_14 k0_t2
  let v282 : Index := Scalar.indexCast arg30
  let c1920 : Index := 1920#32
  let c0_104 : Index := 0#32
  ![v282.toNat, 1920, 0]
@[reducible] def k0_t3_loop : Scf.Loop 32 :=
  let c0_i32_16 : BitVec 32 := 0#32
  let c19_i32_17 : BitVec 32 := 19#32
  let v18 : BitVec 32 := Scalar.addi c0_i32_16 c19_i32_17
  let c1_i32_18 : BitVec 32 := 1#32
  ⟨c0_i32_16, v18, c1_i32_18⟩
def k0_off45 (k0_t3 : Fin k0_t3_loop.trips) : Fin 1 → Nat :=
  let c0_i32_16 : BitVec 32 := 0#32
  let c1_i32_18 : BitVec 32 := 1#32
  let arg30 : BitVec 32 := Scf.iv c0_i32_16 c1_i32_18 k0_t3
  let v51 : Index := Scalar.indexCast arg30
  ![v51.toNat]
def k0_off46 (v52 : BitVec 32) : Fin 1 → Nat :=
  let v53 : Index := Scalar.indexCast v52
  ![v53.toNat]

def k0_chk3 (v52 : BitVec 32) : Prop :=
  (∀ a, (k0_off46 v52) a + S1.size a ≤ S23.size a)
theorem k0_off46_inb : ∀ (v52 : BitVec 32) (k0_hw3 : k0_chk3 v52), ∀ a, (k0_off46 v52) a + S1.size a ≤ S23.size a := fun v52 k0_hw3 => k0_hw3

def k0_mult23 (v54 : BitVec 32) : BitVec 32 :=
  let c3_i32_44 : BitVec 32 := 3#32
  let v55 : BitVec 32 := Scalar.shrsi v54 c3_i32_44
  let c3_i32_45 : BitVec 32 := 3#32
  let v56 : BitVec 32 := Scalar.shli v55 c3_i32_45
  let c960_i32 : BitVec 32 := 960#32
  let v57 : BitVec 32 := Scalar.minsi v56 c960_i32
  v57

def k0_mult24 (k0_t3 : Fin k0_t3_loop.trips) : BitVec 32 :=
  let c0_i32_16 : BitVec 32 := 0#32
  let c1_i32_18 : BitVec 32 := 1#32
  let arg30 : BitVec 32 := Scf.iv c0_i32_16 c1_i32_18 k0_t3
  let c40_i32 : BitVec 32 := 40#32
  let v59 : BitVec 32 := Scalar.muli arg30 c40_i32
  v59
def k0_off47 (k0_t3 : Fin k0_t3_loop.trips) : Fin 1 → Nat :=
  let c0_i32_16 : BitVec 32 := 0#32
  let c1_i32_18 : BitVec 32 := 1#32
  let arg30 : BitVec 32 := Scf.iv c0_i32_16 c1_i32_18 k0_t3
  ![arg30.toNat]
def k0_off48 (k0_t3 : Fin k0_t3_loop.trips) : Fin 2 → Nat :=
  let c0_i32_16 : BitVec 32 := 0#32
  let c1_i32_18 : BitVec 32 := 1#32
  let arg30 : BitVec 32 := Scf.iv c0_i32_16 c1_i32_18 k0_t3
  let c40_i32 : BitVec 32 := 40#32
  let v59 : BitVec 32 := Scalar.muli arg30 c40_i32
  let v60 : BitVec 32 := v59
  let c0_i32_46 : BitVec 32 := 0#32
  ![v60.toNat, 0]
def k0_off49 (v54 : BitVec 32) : Fin 2 → Nat :=
  let c3_i32_44 : BitVec 32 := 3#32
  let v55 : BitVec 32 := Scalar.shrsi v54 c3_i32_44
  let c3_i32_45 : BitVec 32 := 3#32
  let v56 : BitVec 32 := Scalar.shli v55 c3_i32_45
  let c960_i32 : BitVec 32 := 960#32
  let v57 : BitVec 32 := Scalar.minsi v56 c960_i32
  let v58 : BitVec 32 := v57
  let c0_i32_47 : BitVec 32 := 0#32
  ![v58.toNat, 0]

def k0_chk4 (v54 : BitVec 32) : Prop :=
  (8 ∣ (k0_mult23 v54).toNat) ∧
  (∀ a, (k0_off49 v54) a + S40x8192.size a ≤ S1000x8192.size a) ∧
  (∀ (hinb : ∀ a, (k0_off49 v54) a + S40x8192.size a ≤ S1000x8192.size a), (Rect.unit (s := S1000x8192) (k0_off49 v54) S40x8192.size hinb).WholeWords (EltTy.packing .bf16))
theorem k0_mult23_dvd : ∀ (v54 : BitVec 32) (k0_hw4 : k0_chk4 v54), 8 ∣ (k0_mult23 v54).toNat := fun v54 k0_hw4 => k0_hw4.1
theorem k0_off49_inb : ∀ (v54 : BitVec 32) (k0_hw4 : k0_chk4 v54), ∀ a, (k0_off49 v54) a + S40x8192.size a ≤ S1000x8192.size a := fun v54 k0_hw4 => k0_hw4.2.1
theorem k0_off49_wordsbf16 : ∀ (v54 : BitVec 32) (k0_hw4 : k0_chk4 v54), (Rect.unit (s := S1000x8192) (k0_off49 v54) S40x8192.size (k0_off49_inb v54 k0_hw4)).WholeWords (EltTy.packing .bf16) := fun v54 k0_hw4 => k0_hw4.2.2 (k0_off49_inb v54 k0_hw4)

@[reducible] def k0_t4_loop : Scf.Loop 32 :=
  let c0_i32_21 : BitVec 32 := 0#32
  let c24_i32 : BitVec 32 := 24#32
  let v19 : BitVec 32 := Scalar.addi c0_i32_21 c24_i32
  let c1_i32_22 : BitVec 32 := 1#32
  ⟨c0_i32_21, v19, c1_i32_22⟩
def k0_cond2 (k0_t4 : Fin k0_t4_loop.trips) : BitVec 1 :=
  let c0_i32_21 : BitVec 32 := 0#32
  let c1_i32_22 : BitVec 32 := 1#32
  let arg30 : BitVec 32 := Scf.iv c0_i32_21 c1_i32_22 k0_t4
  let c1_i32_44 : BitVec 32 := 1#32
  let v52 : BitVec 32 := Scalar.addi arg30 c1_i32_44
  let c24_i32_45 : BitVec 32 := 24#32
  let v53 : BitVec 1 := Scalar.cmpi .slt v52 c24_i32_45
  let v54 : BitVec 32 := Scalar.extui v53
  let c0_i32_46 : BitVec 32 := 0#32
  let v55 : BitVec 1 := Scalar.cmpi .ne v54 c0_i32_46
  v55

def k0_mult25 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.addi arg30 c1_i32_101
  let c512_i32_102 : BitVec 32 := 512#32
  let v131 : BitVec 32 := Scalar.muli v130 c512_i32_102
  v131
def k0_off50 (k0_t4 : Fin k0_t4_loop.trips) : Fin 1 → Nat :=
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.addi arg30 c1_i32_101
  let c2_i32_109 : BitVec 32 := 2#32
  let c0_i32_110 : BitVec 32 := 0#32
  let v143 : BitVec 1 := Scalar.cmpi .eq c2_i32_109 c0_i32_110
  let c1_i32_111 : BitVec 32 := 1#32
  let v144 : BitVec 32 := Scalar.select v143 c1_i32_111 c2_i32_109
  let v145 : BitVec 32 := Scalar.remsi v130 v144
  let c0_i32_113 : BitVec 32 := 0#32
  let v147 : BitVec 1 := Scalar.cmpi .slt v145 c0_i32_113
  let c0_i32_114 : BitVec 32 := 0#32
  let v148 : BitVec 1 := Scalar.cmpi .slt v144 c0_i32_114
  let v149 : BitVec 1 := Scalar.xori v147 v148
  let c0_i32_112 : BitVec 32 := 0#32
  let v146 : BitVec 1 := Scalar.cmpi .ne v145 c0_i32_112
  let v150 : BitVec 1 := Scalar.andi v149 v146
  let v151 : BitVec 32 := Scalar.addi v145 v144
  let v152 : BitVec 32 := Scalar.select v150 v151 v145
  ![v152.toNat]
def k0_off51 (k0_t4 : Fin k0_t4_loop.trips) : Fin 3 → Nat :=
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.addi arg30 c1_i32_101
  let c2_i32_103 : BitVec 32 := 2#32
  let c0_i32_104 : BitVec 32 := 0#32
  let v133 : BitVec 1 := Scalar.cmpi .eq c2_i32_103 c0_i32_104
  let c1_i32_105 : BitVec 32 := 1#32
  let v134 : BitVec 32 := Scalar.select v133 c1_i32_105 c2_i32_103
  let v135 : BitVec 32 := Scalar.remsi v130 v134
  let c0_i32_107 : BitVec 32 := 0#32
  let v137 : BitVec 1 := Scalar.cmpi .slt v135 c0_i32_107
  let c0_i32_108 : BitVec 32 := 0#32
  let v138 : BitVec 1 := Scalar.cmpi .slt v134 c0_i32_108
  let v139 : BitVec 1 := Scalar.xori v137 v138
  let c0_i32_106 : BitVec 32 := 0#32
  let v136 : BitVec 1 := Scalar.cmpi .ne v135 c0_i32_106
  let v140 : BitVec 1 := Scalar.andi v139 v136
  let v141 : BitVec 32 := Scalar.addi v135 v134
  let v142 : BitVec 32 := Scalar.select v140 v141 v135
  let c0_i32_115 : BitVec 32 := 0#32
  let c0_i32_116 : BitVec 32 := 0#32
  ![v142.toNat, 0, 0]
def k0_off52 (k0_t4 : Fin k0_t4_loop.trips) : Fin 2 → Nat :=
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.addi arg30 c1_i32_101
  let c512_i32_102 : BitVec 32 := 512#32
  let v131 : BitVec 32 := Scalar.muli v130 c512_i32_102
  let v132 : BitVec 32 := v131
  let c0_i32_117 : BitVec 32 := 0#32
  ![v132.toNat, 0]
def k0_off53 (arg32 : BitVec 32) : Fin 1 → Nat :=
  let c1_i32_101 : BitVec 32 := 1#32
  let v130 : BitVec 32 := Scalar.addi arg32 c1_i32_101
  let v131 : Index := Scalar.indexCast v130
  ![v131.toNat]

def k0_chk5 (arg32 : BitVec 32) : Prop :=
  (∀ a, (k0_off53 arg32) a + S1.size a ≤ S20.size a)
theorem k0_off53_inb : ∀ (arg32 : BitVec 32) (k0_hw5 : k0_chk5 arg32), ∀ a, (k0_off53 arg32) a + S1.size a ≤ S20.size a := fun arg32 k0_hw5 => k0_hw5

def k0_off54 (arg32 : BitVec 32) : Fin 1 → Nat :=
  let c19_i32_102 : BitVec 32 := 19#32
  let v131 : BitVec 32 := Scalar.minsi arg32 c19_i32_102
  let v132 : Index := Scalar.indexCast v131
  ![v132.toNat]

def k0_chk6 (arg32 : BitVec 32) : Prop :=
  (∀ a, (k0_off54 arg32) a + S1.size a ≤ S20.size a)
theorem k0_off54_inb : ∀ (arg32 : BitVec 32) (k0_hw6 : k0_chk6 arg32), ∀ a, (k0_off54 arg32) a + S1.size a ≤ S20.size a := fun arg32 k0_hw6 => k0_hw6

def k0_mult26 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c512_i32_48 : BitVec 32 := 512#32
  let v60 : BitVec 32 := Scalar.muli arg30 c512_i32_48
  v60
def k0_off55 (k0_t4 : Fin k0_t4_loop.trips) : Fin 1 → Nat :=
  let c0_i32_21 : BitVec 32 := 0#32
  let c1_i32_22 : BitVec 32 := 1#32
  let arg30 : BitVec 32 := Scf.iv c0_i32_21 c1_i32_22 k0_t4
  let c2_i32_55 : BitVec 32 := 2#32
  let c0_i32_56 : BitVec 32 := 0#32
  let v72 : BitVec 1 := Scalar.cmpi .eq c2_i32_55 c0_i32_56
  let c1_i32_57 : BitVec 32 := 1#32
  let v73 : BitVec 32 := Scalar.select v72 c1_i32_57 c2_i32_55
  let v74 : BitVec 32 := Scalar.remsi arg30 v73
  let c0_i32_59 : BitVec 32 := 0#32
  let v76 : BitVec 1 := Scalar.cmpi .slt v74 c0_i32_59
  let c0_i32_60 : BitVec 32 := 0#32
  let v77 : BitVec 1 := Scalar.cmpi .slt v73 c0_i32_60
  let v78 : BitVec 1 := Scalar.xori v76 v77
  let c0_i32_58 : BitVec 32 := 0#32
  let v75 : BitVec 1 := Scalar.cmpi .ne v74 c0_i32_58
  let v79 : BitVec 1 := Scalar.andi v78 v75
  let v80 : BitVec 32 := Scalar.addi v74 v73
  let v81 : BitVec 32 := Scalar.select v79 v80 v74
  ![v81.toNat]
def k0_off56 (k0_t4 : Fin k0_t4_loop.trips) : Fin 3 → Nat :=
  let c0_i32_21 : BitVec 32 := 0#32
  let c1_i32_22 : BitVec 32 := 1#32
  let arg30 : BitVec 32 := Scf.iv c0_i32_21 c1_i32_22 k0_t4
  let c2_i32_49 : BitVec 32 := 2#32
  let c0_i32_50 : BitVec 32 := 0#32
  let v62 : BitVec 1 := Scalar.cmpi .eq c2_i32_49 c0_i32_50
  let c1_i32_51 : BitVec 32 := 1#32
  let v63 : BitVec 32 := Scalar.select v62 c1_i32_51 c2_i32_49
  let v64 : BitVec 32 := Scalar.remsi arg30 v63
  let c0_i32_53 : BitVec 32 := 0#32
  let v66 : BitVec 1 := Scalar.cmpi .slt v64 c0_i32_53
  let c0_i32_54 : BitVec 32 := 0#32
  let v67 : BitVec 1 := Scalar.cmpi .slt v63 c0_i32_54
  let v68 : BitVec 1 := Scalar.xori v66 v67
  let c0_i32_52 : BitVec 32 := 0#32
  let v65 : BitVec 1 := Scalar.cmpi .ne v64 c0_i32_52
  let v69 : BitVec 1 := Scalar.andi v68 v65
  let v70 : BitVec 32 := Scalar.addi v64 v63
  let v71 : BitVec 32 := Scalar.select v69 v70 v64
  let c0_i32_61 : BitVec 32 := 0#32
  let c0_i32_62 : BitVec 32 := 0#32
  ![v71.toNat, 0, 0]
def k0_off57 (k0_t4 : Fin k0_t4_loop.trips) : Fin 2 → Nat :=
  let c0_i32_21 : BitVec 32 := 0#32
  let c1_i32_22 : BitVec 32 := 1#32
  let arg30 : BitVec 32 := Scf.iv c0_i32_21 c1_i32_22 k0_t4
  let c512_i32_48 : BitVec 32 := 512#32
  let v60 : BitVec 32 := Scalar.muli arg30 c512_i32_48
  let v61 : BitVec 32 := v60
  let c0_i32_63 : BitVec 32 := 0#32
  ![v61.toNat, 0]
def k0_cond3 (k0_t4 : Fin k0_t4_loop.trips) : BitVec 1 :=
  let c0_i32_21 : BitVec 32 := 0#32
  let c1_i32_22 : BitVec 32 := 1#32
  let arg30 : BitVec 32 := Scf.iv c0_i32_21 c1_i32_22 k0_t4
  let c0_i32_64 : BitVec 32 := 0#32
  let v87 : BitVec 1 := Scalar.cmpi .sgt arg30 c0_i32_64
  let v88 : BitVec 32 := Scalar.extui v87
  let c0_i32_65 : BitVec 32 := 0#32
  let v89 : BitVec 1 := Scalar.cmpi .ne v88 c0_i32_65
  v89

def k0_mult27 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.subi arg30 c1_i32_101
  let c512_i32_102 : BitVec 32 := 512#32
  let v131 : BitVec 32 := Scalar.muli v130 c512_i32_102
  v131
def k0_off58 (k0_t4 : Fin k0_t4_loop.trips) : Fin 3 → Nat :=
  let c0_i32_103 : BitVec 32 := 0#32
  let c0_i32_104 : BitVec 32 := 0#32
  let c0_i32_21 : BitVec 32 := 0#32
  let c1_i32_22 : BitVec 32 := 1#32
  let arg30 : BitVec 32 := Scf.iv c0_i32_21 c1_i32_22 k0_t4
  let c1_i32_101 : BitVec 32 := 1#32
  let v130 : BitVec 32 := Scalar.subi arg30 c1_i32_101
  let c512_i32_102 : BitVec 32 := 512#32
  let v131 : BitVec 32 := Scalar.muli v130 c512_i32_102
  let v132 : BitVec 32 := v131
  ![0, 0, v132.toNat]
@[reducible] def k0_t5_loop (v56 : BitVec 32) (v58 : BitVec 32) : Scf.Loop 32 :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_76 : BitVec 32 := 1#32
  ⟨v56, v102, c1_i32_76⟩

def k0_off59 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v130 : Index := Scalar.indexCast arg32
  ![v130.toNat]
def k0_off60 (v131 : BitVec 32) : Fin 1 → Nat :=
  let v132 : Index := Scalar.indexCast v131
  ![v132.toNat]

def k0_chk8 (v131 : BitVec 32) : Prop :=
  (∀ a, (k0_off60 v131) a + S1.size a ≤ S23.size a)
theorem k0_off60_inb : ∀ (v131 : BitVec 32) (k0_hw8 : k0_chk8 v131), ∀ a, (k0_off60 v131) a + S1.size a ≤ S23.size a := fun v131 k0_hw8 => k0_hw8

def k0_mult28 (v133 : BitVec 32) : BitVec 32 :=
  let c3_i32_101 : BitVec 32 := 3#32
  let v134 : BitVec 32 := Scalar.shrsi v133 c3_i32_101
  let c3_i32_102 : BitVec 32 := 3#32
  let v135 : BitVec 32 := Scalar.shli v134 c3_i32_102
  let c960_i32 : BitVec 32 := 960#32
  let v136 : BitVec 32 := Scalar.minsi v135 c960_i32
  v136

def k0_off61 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_108 : BitVec 32 := 8#32
  let c0_i32_109 : BitVec 32 := 0#32
  let v148 : BitVec 1 := Scalar.cmpi .eq c8_i32_108 c0_i32_109
  let c1_i32_110 : BitVec 32 := 1#32
  let v149 : BitVec 32 := Scalar.select v148 c1_i32_110 c8_i32_108
  let v150 : BitVec 32 := Scalar.remsi arg32 v149
  let c0_i32_112 : BitVec 32 := 0#32
  let v152 : BitVec 1 := Scalar.cmpi .slt v150 c0_i32_112
  let c0_i32_113 : BitVec 32 := 0#32
  let v153 : BitVec 1 := Scalar.cmpi .slt v149 c0_i32_113
  let v154 : BitVec 1 := Scalar.xori v152 v153
  let c0_i32_111 : BitVec 32 := 0#32
  let v151 : BitVec 1 := Scalar.cmpi .ne v150 c0_i32_111
  let v155 : BitVec 1 := Scalar.andi v154 v151
  let v156 : BitVec 32 := Scalar.addi v150 v149
  let v157 : BitVec 32 := Scalar.select v155 v156 v150
  ![v157.toNat]
def k0_off62 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32 : BitVec 32 := 8#32
  let c0_i32_103 : BitVec 32 := 0#32
  let v138 : BitVec 1 := Scalar.cmpi .eq c8_i32 c0_i32_103
  let c1_i32_104 : BitVec 32 := 1#32
  let v139 : BitVec 32 := Scalar.select v138 c1_i32_104 c8_i32
  let v140 : BitVec 32 := Scalar.remsi arg32 v139
  let c0_i32_106 : BitVec 32 := 0#32
  let v142 : BitVec 1 := Scalar.cmpi .slt v140 c0_i32_106
  let c0_i32_107 : BitVec 32 := 0#32
  let v143 : BitVec 1 := Scalar.cmpi .slt v139 c0_i32_107
  let v144 : BitVec 1 := Scalar.xori v142 v143
  let c0_i32_105 : BitVec 32 := 0#32
  let v141 : BitVec 1 := Scalar.cmpi .ne v140 c0_i32_105
  let v145 : BitVec 1 := Scalar.andi v144 v141
  let v146 : BitVec 32 := Scalar.addi v140 v139
  let v147 : BitVec 32 := Scalar.select v145 v146 v140
  let c0_i32_115 : BitVec 32 := 0#32
  let c0_i32_116 : BitVec 32 := 0#32
  ![v147.toNat, 0, 0]
def k0_off63 (v133 : BitVec 32) : Fin 3 → Nat :=
  let c0_i32_114 : BitVec 32 := 0#32
  let c3_i32_101 : BitVec 32 := 3#32
  let v134 : BitVec 32 := Scalar.shrsi v133 c3_i32_101
  let c3_i32_102 : BitVec 32 := 3#32
  let v135 : BitVec 32 := Scalar.shli v134 c3_i32_102
  let c960_i32 : BitVec 32 := 960#32
  let v136 : BitVec 32 := Scalar.minsi v135 c960_i32
  let v137 : BitVec 32 := v136
  let c0_i32_117 : BitVec 32 := 0#32
  ![0, v137.toNat, 0]

def k0_chk9 (v133 : BitVec 32) : Prop :=
  (8 ∣ (k0_mult28 v133).toNat) ∧
  (∀ a, (k0_off63 v133) a + S1x40x2048.size a ≤ S3x1000x2048.size a) ∧
  (∀ (hinb : ∀ a, (k0_off63 v133) a + S1x40x2048.size a ≤ S3x1000x2048.size a), (Rect.unit (s := S3x1000x2048) (k0_off63 v133) S1x40x2048.size hinb).WholeWords (EltTy.packing .bf16))
theorem k0_mult28_dvd : ∀ (v133 : BitVec 32) (k0_hw9 : k0_chk9 v133), 8 ∣ (k0_mult28 v133).toNat := fun v133 k0_hw9 => k0_hw9.1
theorem k0_off63_inb : ∀ (v133 : BitVec 32) (k0_hw9 : k0_chk9 v133), ∀ a, (k0_off63 v133) a + S1x40x2048.size a ≤ S3x1000x2048.size a := fun v133 k0_hw9 => k0_hw9.2.1
theorem k0_off63_wordsbf16 : ∀ (v133 : BitVec 32) (k0_hw9 : k0_chk9 v133), (Rect.unit (s := S3x1000x2048) (k0_off63 v133) S1x40x2048.size (k0_off63_inb v133 k0_hw9)).WholeWords (EltTy.packing .bf16) := fun v133 k0_hw9 => k0_hw9.2.2 (k0_off63_inb v133 k0_hw9)

def k0_off64 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v164 : Index := Scalar.indexCast arg32
  ![v164.toNat]
def k0_off65 (v165 : BitVec 32) : Fin 1 → Nat :=
  let v166 : Index := Scalar.indexCast v165
  ![v166.toNat]

def k0_chk10 (v165 : BitVec 32) : Prop :=
  (∀ a, (k0_off65 v165) a + S1.size a ≤ S23.size a)
theorem k0_off65_inb : ∀ (v165 : BitVec 32) (k0_hw10 : k0_chk10 v165), ∀ a, (k0_off65 v165) a + S1.size a ≤ S23.size a := fun v165 k0_hw10 => k0_hw10

def k0_mult29 (v167 : BitVec 32) : BitVec 32 :=
  let c3_i32_118 : BitVec 32 := 3#32
  let v168 : BitVec 32 := Scalar.shrsi v167 c3_i32_118
  let c3_i32_119 : BitVec 32 := 3#32
  let v169 : BitVec 32 := Scalar.shli v168 c3_i32_119
  let c960_i32_120 : BitVec 32 := 960#32
  let v170 : BitVec 32 := Scalar.minsi v169 c960_i32_120
  v170

def k0_off66 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_127 : BitVec 32 := 8#32
  let c0_i32_128 : BitVec 32 := 0#32
  let v182 : BitVec 1 := Scalar.cmpi .eq c8_i32_127 c0_i32_128
  let c1_i32_129 : BitVec 32 := 1#32
  let v183 : BitVec 32 := Scalar.select v182 c1_i32_129 c8_i32_127
  let v184 : BitVec 32 := Scalar.remsi arg32 v183
  let c0_i32_131 : BitVec 32 := 0#32
  let v186 : BitVec 1 := Scalar.cmpi .slt v184 c0_i32_131
  let c0_i32_132 : BitVec 32 := 0#32
  let v187 : BitVec 1 := Scalar.cmpi .slt v183 c0_i32_132
  let v188 : BitVec 1 := Scalar.xori v186 v187
  let c0_i32_130 : BitVec 32 := 0#32
  let v185 : BitVec 1 := Scalar.cmpi .ne v184 c0_i32_130
  let v189 : BitVec 1 := Scalar.andi v188 v185
  let v190 : BitVec 32 := Scalar.addi v184 v183
  let v191 : BitVec 32 := Scalar.select v189 v190 v184
  ![v191.toNat]
def k0_off67 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_121 : BitVec 32 := 8#32
  let c0_i32_122 : BitVec 32 := 0#32
  let v172 : BitVec 1 := Scalar.cmpi .eq c8_i32_121 c0_i32_122
  let c1_i32_123 : BitVec 32 := 1#32
  let v173 : BitVec 32 := Scalar.select v172 c1_i32_123 c8_i32_121
  let v174 : BitVec 32 := Scalar.remsi arg32 v173
  let c0_i32_125 : BitVec 32 := 0#32
  let v176 : BitVec 1 := Scalar.cmpi .slt v174 c0_i32_125
  let c0_i32_126 : BitVec 32 := 0#32
  let v177 : BitVec 1 := Scalar.cmpi .slt v173 c0_i32_126
  let v178 : BitVec 1 := Scalar.xori v176 v177
  let c0_i32_124 : BitVec 32 := 0#32
  let v175 : BitVec 1 := Scalar.cmpi .ne v174 c0_i32_124
  let v179 : BitVec 1 := Scalar.andi v178 v175
  let v180 : BitVec 32 := Scalar.addi v174 v173
  let v181 : BitVec 32 := Scalar.select v179 v180 v174
  let c40_i32 : BitVec 32 := 40#32
  let c0_i32_134 : BitVec 32 := 0#32
  ![v181.toNat, 40, 0]
def k0_off68 (v167 : BitVec 32) : Fin 3 → Nat :=
  let c1_i32_133 : BitVec 32 := 1#32
  let c3_i32_118 : BitVec 32 := 3#32
  let v168 : BitVec 32 := Scalar.shrsi v167 c3_i32_118
  let c3_i32_119 : BitVec 32 := 3#32
  let v169 : BitVec 32 := Scalar.shli v168 c3_i32_119
  let c960_i32_120 : BitVec 32 := 960#32
  let v170 : BitVec 32 := Scalar.minsi v169 c960_i32_120
  let v171 : BitVec 32 := v170
  let c0_i32_135 : BitVec 32 := 0#32
  ![1, v171.toNat, 0]

def k0_chk11 (v167 : BitVec 32) : Prop :=
  (8 ∣ (k0_mult29 v167).toNat) ∧
  (∀ a, (k0_off68 v167) a + S1x40x2048.size a ≤ S3x1000x2048.size a) ∧
  (∀ (hinb : ∀ a, (k0_off68 v167) a + S1x40x2048.size a ≤ S3x1000x2048.size a), (Rect.unit (s := S3x1000x2048) (k0_off68 v167) S1x40x2048.size hinb).WholeWords (EltTy.packing .bf16))
theorem k0_mult29_dvd : ∀ (v167 : BitVec 32) (k0_hw11 : k0_chk11 v167), 8 ∣ (k0_mult29 v167).toNat := fun v167 k0_hw11 => k0_hw11.1
theorem k0_off68_inb : ∀ (v167 : BitVec 32) (k0_hw11 : k0_chk11 v167), ∀ a, (k0_off68 v167) a + S1x40x2048.size a ≤ S3x1000x2048.size a := fun v167 k0_hw11 => k0_hw11.2.1
theorem k0_off68_wordsbf16 : ∀ (v167 : BitVec 32) (k0_hw11 : k0_chk11 v167), (Rect.unit (s := S3x1000x2048) (k0_off68 v167) S1x40x2048.size (k0_off68_inb v167 k0_hw11)).WholeWords (EltTy.packing .bf16) := fun v167 k0_hw11 => k0_hw11.2.2 (k0_off68_inb v167 k0_hw11)

def k0_off69 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v198 : Index := Scalar.indexCast arg32
  ![v198.toNat]
def k0_off70 (v199 : BitVec 32) : Fin 1 → Nat :=
  let v200 : Index := Scalar.indexCast v199
  ![v200.toNat]

def k0_chk12 (v199 : BitVec 32) : Prop :=
  (∀ a, (k0_off70 v199) a + S1.size a ≤ S23.size a)
theorem k0_off70_inb : ∀ (v199 : BitVec 32) (k0_hw12 : k0_chk12 v199), ∀ a, (k0_off70 v199) a + S1.size a ≤ S23.size a := fun v199 k0_hw12 => k0_hw12

def k0_mult30 (v201 : BitVec 32) : BitVec 32 :=
  let c3_i32_136 : BitVec 32 := 3#32
  let v202 : BitVec 32 := Scalar.shrsi v201 c3_i32_136
  let c3_i32_137 : BitVec 32 := 3#32
  let v203 : BitVec 32 := Scalar.shli v202 c3_i32_137
  let c960_i32_138 : BitVec 32 := 960#32
  let v204 : BitVec 32 := Scalar.minsi v203 c960_i32_138
  v204

def k0_off71 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_145 : BitVec 32 := 8#32
  let c0_i32_146 : BitVec 32 := 0#32
  let v216 : BitVec 1 := Scalar.cmpi .eq c8_i32_145 c0_i32_146
  let c1_i32_147 : BitVec 32 := 1#32
  let v217 : BitVec 32 := Scalar.select v216 c1_i32_147 c8_i32_145
  let v218 : BitVec 32 := Scalar.remsi arg32 v217
  let c0_i32_149 : BitVec 32 := 0#32
  let v220 : BitVec 1 := Scalar.cmpi .slt v218 c0_i32_149
  let c0_i32_150 : BitVec 32 := 0#32
  let v221 : BitVec 1 := Scalar.cmpi .slt v217 c0_i32_150
  let v222 : BitVec 1 := Scalar.xori v220 v221
  let c0_i32_148 : BitVec 32 := 0#32
  let v219 : BitVec 1 := Scalar.cmpi .ne v218 c0_i32_148
  let v223 : BitVec 1 := Scalar.andi v222 v219
  let v224 : BitVec 32 := Scalar.addi v218 v217
  let v225 : BitVec 32 := Scalar.select v223 v224 v218
  ![v225.toNat]
def k0_off72 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_139 : BitVec 32 := 8#32
  let c0_i32_140 : BitVec 32 := 0#32
  let v206 : BitVec 1 := Scalar.cmpi .eq c8_i32_139 c0_i32_140
  let c1_i32_141 : BitVec 32 := 1#32
  let v207 : BitVec 32 := Scalar.select v206 c1_i32_141 c8_i32_139
  let v208 : BitVec 32 := Scalar.remsi arg32 v207
  let c0_i32_143 : BitVec 32 := 0#32
  let v210 : BitVec 1 := Scalar.cmpi .slt v208 c0_i32_143
  let c0_i32_144 : BitVec 32 := 0#32
  let v211 : BitVec 1 := Scalar.cmpi .slt v207 c0_i32_144
  let v212 : BitVec 1 := Scalar.xori v210 v211
  let c0_i32_142 : BitVec 32 := 0#32
  let v209 : BitVec 1 := Scalar.cmpi .ne v208 c0_i32_142
  let v213 : BitVec 1 := Scalar.andi v212 v209
  let v214 : BitVec 32 := Scalar.addi v208 v207
  let v215 : BitVec 32 := Scalar.select v213 v214 v208
  let c80_i32 : BitVec 32 := 80#32
  let c0_i32_152 : BitVec 32 := 0#32
  ![v215.toNat, 80, 0]
def k0_off73 (v201 : BitVec 32) : Fin 3 → Nat :=
  let c2_i32_151 : BitVec 32 := 2#32
  let c3_i32_136 : BitVec 32 := 3#32
  let v202 : BitVec 32 := Scalar.shrsi v201 c3_i32_136
  let c3_i32_137 : BitVec 32 := 3#32
  let v203 : BitVec 32 := Scalar.shli v202 c3_i32_137
  let c960_i32_138 : BitVec 32 := 960#32
  let v204 : BitVec 32 := Scalar.minsi v203 c960_i32_138
  let v205 : BitVec 32 := v204
  let c0_i32_153 : BitVec 32 := 0#32
  ![2, v205.toNat, 0]

def k0_chk13 (v201 : BitVec 32) : Prop :=
  (8 ∣ (k0_mult30 v201).toNat) ∧
  (∀ a, (k0_off73 v201) a + S1x40x2048.size a ≤ S3x1000x2048.size a) ∧
  (∀ (hinb : ∀ a, (k0_off73 v201) a + S1x40x2048.size a ≤ S3x1000x2048.size a), (Rect.unit (s := S3x1000x2048) (k0_off73 v201) S1x40x2048.size hinb).WholeWords (EltTy.packing .bf16))
theorem k0_mult30_dvd : ∀ (v201 : BitVec 32) (k0_hw13 : k0_chk13 v201), 8 ∣ (k0_mult30 v201).toNat := fun v201 k0_hw13 => k0_hw13.1
theorem k0_off73_inb : ∀ (v201 : BitVec 32) (k0_hw13 : k0_chk13 v201), ∀ a, (k0_off73 v201) a + S1x40x2048.size a ≤ S3x1000x2048.size a := fun v201 k0_hw13 => k0_hw13.2.1
theorem k0_off73_wordsbf16 : ∀ (v201 : BitVec 32) (k0_hw13 : k0_chk13 v201), (Rect.unit (s := S3x1000x2048) (k0_off73 v201) S1x40x2048.size (k0_off73_inb v201 k0_hw13)).WholeWords (EltTy.packing .bf16) := fun v201 k0_hw13 => k0_hw13.2.2 (k0_off73_inb v201 k0_hw13)

def k0_off74 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v232 : Index := Scalar.indexCast arg32
  ![v232.toNat]
def k0_off75 (v233 : BitVec 32) : Fin 1 → Nat :=
  let v234 : Index := Scalar.indexCast v233
  ![v234.toNat]

def k0_chk14 (v233 : BitVec 32) : Prop :=
  (∀ a, (k0_off75 v233) a + S1.size a ≤ S23.size a)
theorem k0_off75_inb : ∀ (v233 : BitVec 32) (k0_hw14 : k0_chk14 v233), ∀ a, (k0_off75 v233) a + S1.size a ≤ S23.size a := fun v233 k0_hw14 => k0_hw14

def k0_mult31 (v235 : BitVec 32) : BitVec 32 :=
  let c3_i32_154 : BitVec 32 := 3#32
  let v236 : BitVec 32 := Scalar.shrsi v235 c3_i32_154
  let c3_i32_155 : BitVec 32 := 3#32
  let v237 : BitVec 32 := Scalar.shli v236 c3_i32_155
  let c960_i32_156 : BitVec 32 := 960#32
  let v238 : BitVec 32 := Scalar.minsi v237 c960_i32_156
  v238

def k0_off76 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_163 : BitVec 32 := 8#32
  let c0_i32_164 : BitVec 32 := 0#32
  let v250 : BitVec 1 := Scalar.cmpi .eq c8_i32_163 c0_i32_164
  let c1_i32_165 : BitVec 32 := 1#32
  let v251 : BitVec 32 := Scalar.select v250 c1_i32_165 c8_i32_163
  let v252 : BitVec 32 := Scalar.remsi arg32 v251
  let c0_i32_167 : BitVec 32 := 0#32
  let v254 : BitVec 1 := Scalar.cmpi .slt v252 c0_i32_167
  let c0_i32_168 : BitVec 32 := 0#32
  let v255 : BitVec 1 := Scalar.cmpi .slt v251 c0_i32_168
  let v256 : BitVec 1 := Scalar.xori v254 v255
  let c0_i32_166 : BitVec 32 := 0#32
  let v253 : BitVec 1 := Scalar.cmpi .ne v252 c0_i32_166
  let v257 : BitVec 1 := Scalar.andi v256 v253
  let v258 : BitVec 32 := Scalar.addi v252 v251
  let v259 : BitVec 32 := Scalar.select v257 v258 v252
  ![v259.toNat]
def k0_off77 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_157 : BitVec 32 := 8#32
  let c0_i32_158 : BitVec 32 := 0#32
  let v240 : BitVec 1 := Scalar.cmpi .eq c8_i32_157 c0_i32_158
  let c1_i32_159 : BitVec 32 := 1#32
  let v241 : BitVec 32 := Scalar.select v240 c1_i32_159 c8_i32_157
  let v242 : BitVec 32 := Scalar.remsi arg32 v241
  let c0_i32_161 : BitVec 32 := 0#32
  let v244 : BitVec 1 := Scalar.cmpi .slt v242 c0_i32_161
  let c0_i32_162 : BitVec 32 := 0#32
  let v245 : BitVec 1 := Scalar.cmpi .slt v241 c0_i32_162
  let v246 : BitVec 1 := Scalar.xori v244 v245
  let c0_i32_160 : BitVec 32 := 0#32
  let v243 : BitVec 1 := Scalar.cmpi .ne v242 c0_i32_160
  let v247 : BitVec 1 := Scalar.andi v246 v243
  let v248 : BitVec 32 := Scalar.addi v242 v241
  let v249 : BitVec 32 := Scalar.select v247 v248 v242
  let c0_i32_170 : BitVec 32 := 0#32
  let c0_i32_171 : BitVec 32 := 0#32
  ![v249.toNat, 0, 0]
def k0_off78 (v235 : BitVec 32) : Fin 3 → Nat :=
  let c0_i32_169 : BitVec 32 := 0#32
  let c3_i32_154 : BitVec 32 := 3#32
  let v236 : BitVec 32 := Scalar.shrsi v235 c3_i32_154
  let c3_i32_155 : BitVec 32 := 3#32
  let v237 : BitVec 32 := Scalar.shli v236 c3_i32_155
  let c960_i32_156 : BitVec 32 := 960#32
  let v238 : BitVec 32 := Scalar.minsi v237 c960_i32_156
  let v239 : BitVec 32 := v238
  let c0_i32_172 : BitVec 32 := 0#32
  ![0, v239.toNat, 0]

def k0_chk15 (v235 : BitVec 32) : Prop :=
  (8 ∣ (k0_mult31 v235).toNat) ∧
  (∀ a, (k0_off78 v235) a + S1x40x2048.size a ≤ S3x1000x2048.size a) ∧
  (∀ (hinb : ∀ a, (k0_off78 v235) a + S1x40x2048.size a ≤ S3x1000x2048.size a), (Rect.unit (s := S3x1000x2048) (k0_off78 v235) S1x40x2048.size hinb).WholeWords (EltTy.packing .bf16))
theorem k0_mult31_dvd : ∀ (v235 : BitVec 32) (k0_hw15 : k0_chk15 v235), 8 ∣ (k0_mult31 v235).toNat := fun v235 k0_hw15 => k0_hw15.1
theorem k0_off78_inb : ∀ (v235 : BitVec 32) (k0_hw15 : k0_chk15 v235), ∀ a, (k0_off78 v235) a + S1x40x2048.size a ≤ S3x1000x2048.size a := fun v235 k0_hw15 => k0_hw15.2.1
theorem k0_off78_wordsbf16 : ∀ (v235 : BitVec 32) (k0_hw15 : k0_chk15 v235), (Rect.unit (s := S3x1000x2048) (k0_off78 v235) S1x40x2048.size (k0_off78_inb v235 k0_hw15)).WholeWords (EltTy.packing .bf16) := fun v235 k0_hw15 => k0_hw15.2.2 (k0_off78_inb v235 k0_hw15)

def k0_off79 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v266 : Index := Scalar.indexCast arg32
  ![v266.toNat]
def k0_off80 (v267 : BitVec 32) : Fin 1 → Nat :=
  let v268 : Index := Scalar.indexCast v267
  ![v268.toNat]

def k0_chk16 (v267 : BitVec 32) : Prop :=
  (∀ a, (k0_off80 v267) a + S1.size a ≤ S23.size a)
theorem k0_off80_inb : ∀ (v267 : BitVec 32) (k0_hw16 : k0_chk16 v267), ∀ a, (k0_off80 v267) a + S1.size a ≤ S23.size a := fun v267 k0_hw16 => k0_hw16

def k0_mult32 (v269 : BitVec 32) : BitVec 32 :=
  let c3_i32_173 : BitVec 32 := 3#32
  let v270 : BitVec 32 := Scalar.shrsi v269 c3_i32_173
  let c3_i32_174 : BitVec 32 := 3#32
  let v271 : BitVec 32 := Scalar.shli v270 c3_i32_174
  let c960_i32_175 : BitVec 32 := 960#32
  let v272 : BitVec 32 := Scalar.minsi v271 c960_i32_175
  v272

def k0_off81 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_182 : BitVec 32 := 8#32
  let c0_i32_183 : BitVec 32 := 0#32
  let v284 : BitVec 1 := Scalar.cmpi .eq c8_i32_182 c0_i32_183
  let c1_i32_184 : BitVec 32 := 1#32
  let v285 : BitVec 32 := Scalar.select v284 c1_i32_184 c8_i32_182
  let v286 : BitVec 32 := Scalar.remsi arg32 v285
  let c0_i32_186 : BitVec 32 := 0#32
  let v288 : BitVec 1 := Scalar.cmpi .slt v286 c0_i32_186
  let c0_i32_187 : BitVec 32 := 0#32
  let v289 : BitVec 1 := Scalar.cmpi .slt v285 c0_i32_187
  let v290 : BitVec 1 := Scalar.xori v288 v289
  let c0_i32_185 : BitVec 32 := 0#32
  let v287 : BitVec 1 := Scalar.cmpi .ne v286 c0_i32_185
  let v291 : BitVec 1 := Scalar.andi v290 v287
  let v292 : BitVec 32 := Scalar.addi v286 v285
  let v293 : BitVec 32 := Scalar.select v291 v292 v286
  ![v293.toNat]
def k0_off82 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_176 : BitVec 32 := 8#32
  let c0_i32_177 : BitVec 32 := 0#32
  let v274 : BitVec 1 := Scalar.cmpi .eq c8_i32_176 c0_i32_177
  let c1_i32_178 : BitVec 32 := 1#32
  let v275 : BitVec 32 := Scalar.select v274 c1_i32_178 c8_i32_176
  let v276 : BitVec 32 := Scalar.remsi arg32 v275
  let c0_i32_180 : BitVec 32 := 0#32
  let v278 : BitVec 1 := Scalar.cmpi .slt v276 c0_i32_180
  let c0_i32_181 : BitVec 32 := 0#32
  let v279 : BitVec 1 := Scalar.cmpi .slt v275 c0_i32_181
  let v280 : BitVec 1 := Scalar.xori v278 v279
  let c0_i32_179 : BitVec 32 := 0#32
  let v277 : BitVec 1 := Scalar.cmpi .ne v276 c0_i32_179
  let v281 : BitVec 1 := Scalar.andi v280 v277
  let v282 : BitVec 32 := Scalar.addi v276 v275
  let v283 : BitVec 32 := Scalar.select v281 v282 v276
  let c40_i32_189 : BitVec 32 := 40#32
  let c0_i32_190 : BitVec 32 := 0#32
  ![v283.toNat, 40, 0]
def k0_off83 (v269 : BitVec 32) : Fin 3 → Nat :=
  let c1_i32_188 : BitVec 32 := 1#32
  let c3_i32_173 : BitVec 32 := 3#32
  let v270 : BitVec 32 := Scalar.shrsi v269 c3_i32_173
  let c3_i32_174 : BitVec 32 := 3#32
  let v271 : BitVec 32 := Scalar.shli v270 c3_i32_174
  let c960_i32_175 : BitVec 32 := 960#32
  let v272 : BitVec 32 := Scalar.minsi v271 c960_i32_175
  let v273 : BitVec 32 := v272
  let c0_i32_191 : BitVec 32 := 0#32
  ![1, v273.toNat, 0]

def k0_chk17 (v269 : BitVec 32) : Prop :=
  (8 ∣ (k0_mult32 v269).toNat) ∧
  (∀ a, (k0_off83 v269) a + S1x40x2048.size a ≤ S3x1000x2048.size a) ∧
  (∀ (hinb : ∀ a, (k0_off83 v269) a + S1x40x2048.size a ≤ S3x1000x2048.size a), (Rect.unit (s := S3x1000x2048) (k0_off83 v269) S1x40x2048.size hinb).WholeWords (EltTy.packing .bf16))
theorem k0_mult32_dvd : ∀ (v269 : BitVec 32) (k0_hw17 : k0_chk17 v269), 8 ∣ (k0_mult32 v269).toNat := fun v269 k0_hw17 => k0_hw17.1
theorem k0_off83_inb : ∀ (v269 : BitVec 32) (k0_hw17 : k0_chk17 v269), ∀ a, (k0_off83 v269) a + S1x40x2048.size a ≤ S3x1000x2048.size a := fun v269 k0_hw17 => k0_hw17.2.1
theorem k0_off83_wordsbf16 : ∀ (v269 : BitVec 32) (k0_hw17 : k0_chk17 v269), (Rect.unit (s := S3x1000x2048) (k0_off83 v269) S1x40x2048.size (k0_off83_inb v269 k0_hw17)).WholeWords (EltTy.packing .bf16) := fun v269 k0_hw17 => k0_hw17.2.2 (k0_off83_inb v269 k0_hw17)

def k0_off84 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v300 : Index := Scalar.indexCast arg32
  ![v300.toNat]
def k0_off85 (v301 : BitVec 32) : Fin 1 → Nat :=
  let v302 : Index := Scalar.indexCast v301
  ![v302.toNat]

def k0_chk18 (v301 : BitVec 32) : Prop :=
  (∀ a, (k0_off85 v301) a + S1.size a ≤ S23.size a)
theorem k0_off85_inb : ∀ (v301 : BitVec 32) (k0_hw18 : k0_chk18 v301), ∀ a, (k0_off85 v301) a + S1.size a ≤ S23.size a := fun v301 k0_hw18 => k0_hw18

def k0_mult33 (v303 : BitVec 32) : BitVec 32 :=
  let c3_i32_192 : BitVec 32 := 3#32
  let v304 : BitVec 32 := Scalar.shrsi v303 c3_i32_192
  let c3_i32_193 : BitVec 32 := 3#32
  let v305 : BitVec 32 := Scalar.shli v304 c3_i32_193
  let c960_i32_194 : BitVec 32 := 960#32
  let v306 : BitVec 32 := Scalar.minsi v305 c960_i32_194
  v306

def k0_off86 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c8_i32_201 : BitVec 32 := 8#32
  let c0_i32_202 : BitVec 32 := 0#32
  let v318 : BitVec 1 := Scalar.cmpi .eq c8_i32_201 c0_i32_202
  let c1_i32_203 : BitVec 32 := 1#32
  let v319 : BitVec 32 := Scalar.select v318 c1_i32_203 c8_i32_201
  let v320 : BitVec 32 := Scalar.remsi arg32 v319
  let c0_i32_205 : BitVec 32 := 0#32
  let v322 : BitVec 1 := Scalar.cmpi .slt v320 c0_i32_205
  let c0_i32_206 : BitVec 32 := 0#32
  let v323 : BitVec 1 := Scalar.cmpi .slt v319 c0_i32_206
  let v324 : BitVec 1 := Scalar.xori v322 v323
  let c0_i32_204 : BitVec 32 := 0#32
  let v321 : BitVec 1 := Scalar.cmpi .ne v320 c0_i32_204
  let v325 : BitVec 1 := Scalar.andi v324 v321
  let v326 : BitVec 32 := Scalar.addi v320 v319
  let v327 : BitVec 32 := Scalar.select v325 v326 v320
  ![v327.toNat]
def k0_off87 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_195 : BitVec 32 := 8#32
  let c0_i32_196 : BitVec 32 := 0#32
  let v308 : BitVec 1 := Scalar.cmpi .eq c8_i32_195 c0_i32_196
  let c1_i32_197 : BitVec 32 := 1#32
  let v309 : BitVec 32 := Scalar.select v308 c1_i32_197 c8_i32_195
  let v310 : BitVec 32 := Scalar.remsi arg32 v309
  let c0_i32_199 : BitVec 32 := 0#32
  let v312 : BitVec 1 := Scalar.cmpi .slt v310 c0_i32_199
  let c0_i32_200 : BitVec 32 := 0#32
  let v313 : BitVec 1 := Scalar.cmpi .slt v309 c0_i32_200
  let v314 : BitVec 1 := Scalar.xori v312 v313
  let c0_i32_198 : BitVec 32 := 0#32
  let v311 : BitVec 1 := Scalar.cmpi .ne v310 c0_i32_198
  let v315 : BitVec 1 := Scalar.andi v314 v311
  let v316 : BitVec 32 := Scalar.addi v310 v309
  let v317 : BitVec 32 := Scalar.select v315 v316 v310
  let c80_i32_208 : BitVec 32 := 80#32
  let c0_i32_209 : BitVec 32 := 0#32
  ![v317.toNat, 80, 0]
def k0_off88 (v303 : BitVec 32) : Fin 3 → Nat :=
  let c2_i32_207 : BitVec 32 := 2#32
  let c3_i32_192 : BitVec 32 := 3#32
  let v304 : BitVec 32 := Scalar.shrsi v303 c3_i32_192
  let c3_i32_193 : BitVec 32 := 3#32
  let v305 : BitVec 32 := Scalar.shli v304 c3_i32_193
  let c960_i32_194 : BitVec 32 := 960#32
  let v306 : BitVec 32 := Scalar.minsi v305 c960_i32_194
  let v307 : BitVec 32 := v306
  let c0_i32_210 : BitVec 32 := 0#32
  ![2, v307.toNat, 0]

def k0_chk19 (v303 : BitVec 32) : Prop :=
  (8 ∣ (k0_mult33 v303).toNat) ∧
  (∀ a, (k0_off88 v303) a + S1x40x2048.size a ≤ S3x1000x2048.size a) ∧
  (∀ (hinb : ∀ a, (k0_off88 v303) a + S1x40x2048.size a ≤ S3x1000x2048.size a), (Rect.unit (s := S3x1000x2048) (k0_off88 v303) S1x40x2048.size hinb).WholeWords (EltTy.packing .bf16))
theorem k0_mult33_dvd : ∀ (v303 : BitVec 32) (k0_hw19 : k0_chk19 v303), 8 ∣ (k0_mult33 v303).toNat := fun v303 k0_hw19 => k0_hw19.1
theorem k0_off88_inb : ∀ (v303 : BitVec 32) (k0_hw19 : k0_chk19 v303), ∀ a, (k0_off88 v303) a + S1x40x2048.size a ≤ S3x1000x2048.size a := fun v303 k0_hw19 => k0_hw19.2.1
theorem k0_off88_wordsbf16 : ∀ (v303 : BitVec 32) (k0_hw19 : k0_chk19 v303), (Rect.unit (s := S3x1000x2048) (k0_off88 v303) S1x40x2048.size (k0_off88_inb v303 k0_hw19)).WholeWords (EltTy.packing .bf16) := fun v303 k0_hw19 => k0_hw19.2.2 (k0_off88_inb v303 k0_hw19)

def k0_off89 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v334 : Index := Scalar.indexCast arg32
  ![v334.toNat]
def k0_off90 (v335 : BitVec 32) : Fin 1 → Nat :=
  let v336 : Index := Scalar.indexCast v335
  ![v336.toNat]

def k0_off91 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v338 : Index := Scalar.indexCast arg32
  ![v338.toNat]
def k0_off92 (v339 : BitVec 32) : Fin 1 → Nat :=
  let v340 : Index := Scalar.indexCast v339
  ![v340.toNat]

def k0_chk21 (v339 : BitVec 32) : Prop :=
  (∀ a, (k0_off92 v339) a + S1.size a ≤ S23.size a)
theorem k0_off92_inb : ∀ (v339 : BitVec 32) (k0_hw21 : k0_chk21 v339), ∀ a, (k0_off92 v339) a + S1.size a ≤ S23.size a := fun v339 k0_hw21 => k0_hw21

def k0_off93 (v335 : BitVec 32) : Fin 1 → Nat :=
  let v346 : Index := Scalar.indexCast v335
  ![v346.toNat]
def k0_off94 (v56 : BitVec 32) (v58 : BitVec 32) (k0_t5 : Fin (k0_t5_loop v56 v58).trips) : Fin 3 → Nat :=
  let c1_i32_76 : BitVec 32 := 1#32
  let arg32 : BitVec 32 := Scf.iv v56 c1_i32_76 k0_t5
  let c8_i32_214 : BitVec 32 := 8#32
  let c0_i32_215 : BitVec 32 := 0#32
  let v348 : BitVec 1 := Scalar.cmpi .eq c8_i32_214 c0_i32_215
  let c1_i32_216 : BitVec 32 := 1#32
  let v349 : BitVec 32 := Scalar.select v348 c1_i32_216 c8_i32_214
  let v350 : BitVec 32 := Scalar.remsi arg32 v349
  let c0_i32_218 : BitVec 32 := 0#32
  let v352 : BitVec 1 := Scalar.cmpi .slt v350 c0_i32_218
  let c0_i32_219 : BitVec 32 := 0#32
  let v353 : BitVec 1 := Scalar.cmpi .slt v349 c0_i32_219
  let v354 : BitVec 1 := Scalar.xori v352 v353
  let c0_i32_217 : BitVec 32 := 0#32
  let v351 : BitVec 1 := Scalar.cmpi .ne v350 c0_i32_217
  let v355 : BitVec 1 := Scalar.andi v354 v351
  let v356 : BitVec 32 := Scalar.addi v350 v349
  let v357 : BitVec 32 := Scalar.select v355 v356 v350
  let v358 : Index := Scalar.indexCast v357
  let c0_220 : Index := 0#32
  let c0_221 : Index := 0#32
  ![v358.toNat, 0, 0]
def k0_off95 (k0_t4 : Fin k0_t4_loop.trips) : Fin 3 → Nat :=
  let c0_i32_21 : BitVec 32 := 0#32
  let c1_i32_22 : BitVec 32 := 1#32
  let arg30 : BitVec 32 := Scf.iv c0_i32_21 c1_i32_22 k0_t4
  let c2_i32_222 : BitVec 32 := 2#32
  let c0_i32_223 : BitVec 32 := 0#32
  let v361 : BitVec 1 := Scalar.cmpi .eq c2_i32_222 c0_i32_223
  let c1_i32_224 : BitVec 32 := 1#32
  let v362 : BitVec 32 := Scalar.select v361 c1_i32_224 c2_i32_222
  let v363 : BitVec 32 := Scalar.remsi arg30 v362
  let c0_i32_226 : BitVec 32 := 0#32
  let v365 : BitVec 1 := Scalar.cmpi .slt v363 c0_i32_226
  let c0_i32_227 : BitVec 32 := 0#32
  let v366 : BitVec 1 := Scalar.cmpi .slt v362 c0_i32_227
  let v367 : BitVec 1 := Scalar.xori v365 v366
  let c0_i32_225 : BitVec 32 := 0#32
  let v364 : BitVec 1 := Scalar.cmpi .ne v363 c0_i32_225
  let v368 : BitVec 1 := Scalar.andi v367 v364
  let v369 : BitVec 32 := Scalar.addi v363 v362
  let v370 : BitVec 32 := Scalar.select v368 v369 v363
  let v371 : Index := Scalar.indexCast v370
  let c0_228 : Index := 0#32
  let c0_229 : Index := 0#32
  ![v371.toNat, 0, 0]
def k0_off96 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let v381 : Index := Scalar.indexCast arg32
  ![v381.toNat]
def k0_off97 (v56 : BitVec 32) (v58 : BitVec 32) (k0_t5 : Fin (k0_t5_loop v56 v58).trips) : Fin 1 → Nat :=
  let c1_i32_76 : BitVec 32 := 1#32
  let arg32 : BitVec 32 := Scf.iv v56 c1_i32_76 k0_t5
  let c1_i32_231 : BitVec 32 := 1#32
  let v385 : BitVec 32 := Scalar.addi arg32 c1_i32_231
  let v386 : Index := Scalar.indexCast v385
  ![v386.toNat]
def k0_off98 (v335 : BitVec 32) : Fin 2 → Nat :=
  let v398 : Index := Scalar.indexCast v335
  let c0_233 : Index := 0#32
  ![v398.toNat, 0]
def k0_mult34 (v56 : BitVec 32) (v58 : BitVec 32) (k0_t5 : Fin (k0_t5_loop v56 v58).trips) : BitVec 32 :=
  let c1_i32_76 : BitVec 32 := 1#32
  let arg32 : BitVec 32 := Scf.iv v56 c1_i32_76 k0_t5
  let c13_i32 : BitVec 32 := 13#32
  let v59 : BitVec 32 := Scalar.minsi v56 c13_i32
  let v406 : BitVec 32 := Scalar.subi arg32 v59
  let c40_i32_235 : BitVec 32 := 40#32
  let v407 : BitVec 32 := Scalar.muli v406 c40_i32_235
  v407
def k0_off99 (v56 : BitVec 32) (v58 : BitVec 32) (k0_t5 : Fin (k0_t5_loop v56 v58).trips) : Fin 3 → Nat :=
  let c0_236 : Index := 0#32
  let c1_i32_76 : BitVec 32 := 1#32
  let arg32 : BitVec 32 := Scf.iv v56 c1_i32_76 k0_t5
  let c13_i32 : BitVec 32 := 13#32
  let v59 : BitVec 32 := Scalar.minsi v56 c13_i32
  let v406 : BitVec 32 := Scalar.subi arg32 v59
  let c40_i32_235 : BitVec 32 := 40#32
  let v407 : BitVec 32 := Scalar.muli v406 c40_i32_235
  let v408 : BitVec 32 := v407
  let v409 : Index := Scalar.indexCast v408
  let c0_237 : Index := 0#32
  ![0, v409.toNat, 0]
def k0_off100 (v337 : BitVec 32) (v341 : BitVec 32) : Fin 3 → Nat :=
  let c0_244 : Index := 0#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v420 : Index := Scalar.indexCast v345
  let c0_245 : Index := 0#32
  ![0, v420.toNat, 0]

def k0_off101 (v337 : BitVec 32) (v341 : BitVec 32) : Fin 3 → Nat :=
  let c1_254 : Index := 1#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v435 : Index := Scalar.indexCast v345
  let c0_255 : Index := 0#32
  ![1, v435.toNat, 0]
def k0_off102 (v337 : BitVec 32) (v341 : BitVec 32) : Fin 3 → Nat :=
  let c2_264 : Index := 2#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v450 : Index := Scalar.indexCast v345
  let c0_265 : Index := 0#32
  ![2, v450.toNat, 0]
def k0_off103 (v337 : BitVec 32) (v341 : BitVec 32) : Fin 3 → Nat :=
  let c3_273 : Index := 3#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v465 : Index := Scalar.indexCast v345
  let c0_274 : Index := 0#32
  ![3, v465.toNat, 0]

def k0_chk22 (v337 : BitVec 32) (v341 : BitVec 32) : Prop :=
  (∀ a, (k0_off100 v337 v341) a + S1x32x128.size a ≤ S4x40x128.size a) ∧
  (∀ a, (k0_off101 v337 v341) a + S1x32x128.size a ≤ S4x40x128.size a) ∧
  (∀ a, (k0_off102 v337 v341) a + S1x32x128.size a ≤ S4x40x128.size a) ∧
  (∀ a, (k0_off103 v337 v341) a + S1x32x128.size a ≤ S4x40x128.size a)
theorem k0_off100_inb : ∀ (v337 : BitVec 32) (v341 : BitVec 32) (k0_hw22 : k0_chk22 v337 v341), ∀ a, (k0_off100 v337 v341) a + S1x32x128.size a ≤ S4x40x128.size a := fun v337 v341 k0_hw22 => k0_hw22.1
theorem k0_off101_inb : ∀ (v337 : BitVec 32) (v341 : BitVec 32) (k0_hw22 : k0_chk22 v337 v341), ∀ a, (k0_off101 v337 v341) a + S1x32x128.size a ≤ S4x40x128.size a := fun v337 v341 k0_hw22 => k0_hw22.2.1
theorem k0_off102_inb : ∀ (v337 : BitVec 32) (v341 : BitVec 32) (k0_hw22 : k0_chk22 v337 v341), ∀ a, (k0_off102 v337 v341) a + S1x32x128.size a ≤ S4x40x128.size a := fun v337 v341 k0_hw22 => k0_hw22.2.2.1
theorem k0_off103_inb : ∀ (v337 : BitVec 32) (v341 : BitVec 32) (k0_hw22 : k0_chk22 v337 v341), ∀ a, (k0_off103 v337 v341) a + S1x32x128.size a ≤ S4x40x128.size a := fun v337 v341 k0_hw22 => k0_hw22.2.2.2

def k0_off104 (v335 : BitVec 32) : Fin 2 → Nat :=
  let v474 : Index := Scalar.indexCast v335
  let c1_278 : Index := 1#32
  ![v474.toNat, 1]
def k0_mult35 (v56 : BitVec 32) (v58 : BitVec 32) (k0_t5 : Fin (k0_t5_loop v56 v58).trips) : BitVec 32 :=
  let c1_i32_76 : BitVec 32 := 1#32
  let arg32 : BitVec 32 := Scf.iv v56 c1_i32_76 k0_t5
  let c13_i32 : BitVec 32 := 13#32
  let v59 : BitVec 32 := Scalar.minsi v56 c13_i32
  let v482 : BitVec 32 := Scalar.subi arg32 v59
  let c40_i32_280 : BitVec 32 := 40#32
  let v483 : BitVec 32 := Scalar.muli v482 c40_i32_280
  v483
def k0_off105 (v56 : BitVec 32) (v58 : BitVec 32) (k0_t5 : Fin (k0_t5_loop v56 v58).trips) : Fin 3 → Nat :=
  let c1_281 : Index := 1#32
  let c1_i32_76 : BitVec 32 := 1#32
  let arg32 : BitVec 32 := Scf.iv v56 c1_i32_76 k0_t5
  let c13_i32 : BitVec 32 := 13#32
  let v59 : BitVec 32 := Scalar.minsi v56 c13_i32
  let v482 : BitVec 32 := Scalar.subi arg32 v59
  let c40_i32_280 : BitVec 32 := 40#32
  let v483 : BitVec 32 := Scalar.muli v482 c40_i32_280
  let v484 : BitVec 32 := v483
  let v485 : Index := Scalar.indexCast v484
  let c0_282 : Index := 0#32
  ![1, v485.toNat, 0]
def k0_off106 (v335 : BitVec 32) : Fin 2 → Nat :=
  let v550 : Index := Scalar.indexCast v335
  let c2_327 : Index := 2#32
  ![v550.toNat, 2]

def k0_chk20 (v335 : BitVec 32) : Prop :=
  (∀ a, (k0_off90 v335) a + S1.size a ≤ S23.size a) ∧
  (∀ a, (k0_off93 v335) a + S1.size a ≤ S23.size a) ∧
  (∀ a, (k0_off98 v335) a + S1x1.size a ≤ S23x3.size a) ∧
  (∀ a, (k0_off104 v335) a + S1x1.size a ≤ S23x3.size a) ∧
  (∀ a, (k0_off106 v335) a + S1x1.size a ≤ S23x3.size a)
theorem k0_off90_inb : ∀ (v335 : BitVec 32) (k0_hw20 : k0_chk20 v335), ∀ a, (k0_off90 v335) a + S1.size a ≤ S23.size a := fun v335 k0_hw20 => k0_hw20.1
theorem k0_off93_inb : ∀ (v335 : BitVec 32) (k0_hw20 : k0_chk20 v335), ∀ a, (k0_off93 v335) a + S1.size a ≤ S23.size a := fun v335 k0_hw20 => k0_hw20.2.1
theorem k0_off98_inb : ∀ (v335 : BitVec 32) (k0_hw20 : k0_chk20 v335), ∀ a, (k0_off98 v335) a + S1x1.size a ≤ S23x3.size a := fun v335 k0_hw20 => k0_hw20.2.2.1
theorem k0_off104_inb : ∀ (v335 : BitVec 32) (k0_hw20 : k0_chk20 v335), ∀ a, (k0_off104 v335) a + S1x1.size a ≤ S23x3.size a := fun v335 k0_hw20 => k0_hw20.2.2.2.1
theorem k0_off106_inb : ∀ (v335 : BitVec 32) (k0_hw20 : k0_chk20 v335), ∀ a, (k0_off106 v335) a + S1x1.size a ≤ S23x3.size a := fun v335 k0_hw20 => k0_hw20.2.2.2.2

def k0_mult36 (v56 : BitVec 32) (v58 : BitVec 32) (k0_t5 : Fin (k0_t5_loop v56 v58).trips) : BitVec 32 :=
  let c1_i32_76 : BitVec 32 := 1#32
  let arg32 : BitVec 32 := Scf.iv v56 c1_i32_76 k0_t5
  let c13_i32 : BitVec 32 := 13#32
  let v59 : BitVec 32 := Scalar.minsi v56 c13_i32
  let v558 : BitVec 32 := Scalar.subi arg32 v59
  let c40_i32_329 : BitVec 32 := 40#32
  let v559 : BitVec 32 := Scalar.muli v558 c40_i32_329
  v559
def k0_off107 (v56 : BitVec 32) (v58 : BitVec 32) (k0_t5 : Fin (k0_t5_loop v56 v58).trips) : Fin 3 → Nat :=
  let c2_330 : Index := 2#32
  let c1_i32_76 : BitVec 32 := 1#32
  let arg32 : BitVec 32 := Scf.iv v56 c1_i32_76 k0_t5
  let c13_i32 : BitVec 32 := 13#32
  let v59 : BitVec 32 := Scalar.minsi v56 c13_i32
  let v558 : BitVec 32 := Scalar.subi arg32 v59
  let c40_i32_329 : BitVec 32 := 40#32
  let v559 : BitVec 32 := Scalar.muli v558 c40_i32_329
  let v560 : BitVec 32 := v559
  let v561 : Index := Scalar.indexCast v560
  let c0_331 : Index := 0#32
  ![2, v561.toNat, 0]
@[reducible] def k0_t6_loop (v56 : BitVec 32) (v58 : BitVec 32) : Scf.Loop 32 :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let v99 : BitVec 32 := Scalar.addi v56 v98
  let c1_i32_77 : BitVec 32 := 1#32
  ⟨v102, v99, c1_i32_77⟩
def k0_off108 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v130 : Index := Scalar.indexCast arg32
  ![v130.toNat]
def k0_off109 (v131 : BitVec 32) : Fin 1 → Nat :=
  let v132 : Index := Scalar.indexCast v131
  ![v132.toNat]

def k0_chk23 (v131 : BitVec 32) : Prop :=
  (∀ a, (k0_off109 v131) a + S1.size a ≤ S23.size a)
theorem k0_off109_inb : ∀ (v131 : BitVec 32) (k0_hw23 : k0_chk23 v131), ∀ a, (k0_off109 v131) a + S1.size a ≤ S23.size a := fun v131 k0_hw23 => k0_hw23

def k0_mult37 (v133 : BitVec 32) : BitVec 32 :=
  let c3_i32_101 : BitVec 32 := 3#32
  let v134 : BitVec 32 := Scalar.shrsi v133 c3_i32_101
  let c3_i32_102 : BitVec 32 := 3#32
  let v135 : BitVec 32 := Scalar.shli v134 c3_i32_102
  let c960_i32 : BitVec 32 := 960#32
  let v136 : BitVec 32 := Scalar.minsi v135 c960_i32
  v136

def k0_off110 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_108 : BitVec 32 := 8#32
  let c0_i32_109 : BitVec 32 := 0#32
  let v148 : BitVec 1 := Scalar.cmpi .eq c8_i32_108 c0_i32_109
  let c1_i32_110 : BitVec 32 := 1#32
  let v149 : BitVec 32 := Scalar.select v148 c1_i32_110 c8_i32_108
  let v150 : BitVec 32 := Scalar.remsi arg32 v149
  let c0_i32_112 : BitVec 32 := 0#32
  let v152 : BitVec 1 := Scalar.cmpi .slt v150 c0_i32_112
  let c0_i32_113 : BitVec 32 := 0#32
  let v153 : BitVec 1 := Scalar.cmpi .slt v149 c0_i32_113
  let v154 : BitVec 1 := Scalar.xori v152 v153
  let c0_i32_111 : BitVec 32 := 0#32
  let v151 : BitVec 1 := Scalar.cmpi .ne v150 c0_i32_111
  let v155 : BitVec 1 := Scalar.andi v154 v151
  let v156 : BitVec 32 := Scalar.addi v150 v149
  let v157 : BitVec 32 := Scalar.select v155 v156 v150
  ![v157.toNat]
def k0_off111 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32 : BitVec 32 := 8#32
  let c0_i32_103 : BitVec 32 := 0#32
  let v138 : BitVec 1 := Scalar.cmpi .eq c8_i32 c0_i32_103
  let c1_i32_104 : BitVec 32 := 1#32
  let v139 : BitVec 32 := Scalar.select v138 c1_i32_104 c8_i32
  let v140 : BitVec 32 := Scalar.remsi arg32 v139
  let c0_i32_106 : BitVec 32 := 0#32
  let v142 : BitVec 1 := Scalar.cmpi .slt v140 c0_i32_106
  let c0_i32_107 : BitVec 32 := 0#32
  let v143 : BitVec 1 := Scalar.cmpi .slt v139 c0_i32_107
  let v144 : BitVec 1 := Scalar.xori v142 v143
  let c0_i32_105 : BitVec 32 := 0#32
  let v141 : BitVec 1 := Scalar.cmpi .ne v140 c0_i32_105
  let v145 : BitVec 1 := Scalar.andi v144 v141
  let v146 : BitVec 32 := Scalar.addi v140 v139
  let v147 : BitVec 32 := Scalar.select v145 v146 v140
  let c0_i32_115 : BitVec 32 := 0#32
  let c0_i32_116 : BitVec 32 := 0#32
  ![v147.toNat, 0, 0]
def k0_off112 (v133 : BitVec 32) : Fin 3 → Nat :=
  let c0_i32_114 : BitVec 32 := 0#32
  let c3_i32_101 : BitVec 32 := 3#32
  let v134 : BitVec 32 := Scalar.shrsi v133 c3_i32_101
  let c3_i32_102 : BitVec 32 := 3#32
  let v135 : BitVec 32 := Scalar.shli v134 c3_i32_102
  let c960_i32 : BitVec 32 := 960#32
  let v136 : BitVec 32 := Scalar.minsi v135 c960_i32
  let v137 : BitVec 32 := v136
  let c0_i32_117 : BitVec 32 := 0#32
  ![0, v137.toNat, 0]

def k0_chk24 (v133 : BitVec 32) : Prop :=
  (8 ∣ (k0_mult37 v133).toNat) ∧
  (∀ a, (k0_off112 v133) a + S1x40x2048.size a ≤ S3x1000x2048.size a) ∧
  (∀ (hinb : ∀ a, (k0_off112 v133) a + S1x40x2048.size a ≤ S3x1000x2048.size a), (Rect.unit (s := S3x1000x2048) (k0_off112 v133) S1x40x2048.size hinb).WholeWords (EltTy.packing .bf16))
theorem k0_mult37_dvd : ∀ (v133 : BitVec 32) (k0_hw24 : k0_chk24 v133), 8 ∣ (k0_mult37 v133).toNat := fun v133 k0_hw24 => k0_hw24.1
theorem k0_off112_inb : ∀ (v133 : BitVec 32) (k0_hw24 : k0_chk24 v133), ∀ a, (k0_off112 v133) a + S1x40x2048.size a ≤ S3x1000x2048.size a := fun v133 k0_hw24 => k0_hw24.2.1
theorem k0_off112_wordsbf16 : ∀ (v133 : BitVec 32) (k0_hw24 : k0_chk24 v133), (Rect.unit (s := S3x1000x2048) (k0_off112 v133) S1x40x2048.size (k0_off112_inb v133 k0_hw24)).WholeWords (EltTy.packing .bf16) := fun v133 k0_hw24 => k0_hw24.2.2 (k0_off112_inb v133 k0_hw24)

def k0_off113 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v164 : Index := Scalar.indexCast arg32
  ![v164.toNat]
def k0_off114 (v165 : BitVec 32) : Fin 1 → Nat :=
  let v166 : Index := Scalar.indexCast v165
  ![v166.toNat]

def k0_chk25 (v165 : BitVec 32) : Prop :=
  (∀ a, (k0_off114 v165) a + S1.size a ≤ S23.size a)
theorem k0_off114_inb : ∀ (v165 : BitVec 32) (k0_hw25 : k0_chk25 v165), ∀ a, (k0_off114 v165) a + S1.size a ≤ S23.size a := fun v165 k0_hw25 => k0_hw25

def k0_mult38 (v167 : BitVec 32) : BitVec 32 :=
  let c3_i32_118 : BitVec 32 := 3#32
  let v168 : BitVec 32 := Scalar.shrsi v167 c3_i32_118
  let c3_i32_119 : BitVec 32 := 3#32
  let v169 : BitVec 32 := Scalar.shli v168 c3_i32_119
  let c960_i32_120 : BitVec 32 := 960#32
  let v170 : BitVec 32 := Scalar.minsi v169 c960_i32_120
  v170

def k0_off115 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_127 : BitVec 32 := 8#32
  let c0_i32_128 : BitVec 32 := 0#32
  let v182 : BitVec 1 := Scalar.cmpi .eq c8_i32_127 c0_i32_128
  let c1_i32_129 : BitVec 32 := 1#32
  let v183 : BitVec 32 := Scalar.select v182 c1_i32_129 c8_i32_127
  let v184 : BitVec 32 := Scalar.remsi arg32 v183
  let c0_i32_131 : BitVec 32 := 0#32
  let v186 : BitVec 1 := Scalar.cmpi .slt v184 c0_i32_131
  let c0_i32_132 : BitVec 32 := 0#32
  let v187 : BitVec 1 := Scalar.cmpi .slt v183 c0_i32_132
  let v188 : BitVec 1 := Scalar.xori v186 v187
  let c0_i32_130 : BitVec 32 := 0#32
  let v185 : BitVec 1 := Scalar.cmpi .ne v184 c0_i32_130
  let v189 : BitVec 1 := Scalar.andi v188 v185
  let v190 : BitVec 32 := Scalar.addi v184 v183
  let v191 : BitVec 32 := Scalar.select v189 v190 v184
  ![v191.toNat]
def k0_off116 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_121 : BitVec 32 := 8#32
  let c0_i32_122 : BitVec 32 := 0#32
  let v172 : BitVec 1 := Scalar.cmpi .eq c8_i32_121 c0_i32_122
  let c1_i32_123 : BitVec 32 := 1#32
  let v173 : BitVec 32 := Scalar.select v172 c1_i32_123 c8_i32_121
  let v174 : BitVec 32 := Scalar.remsi arg32 v173
  let c0_i32_125 : BitVec 32 := 0#32
  let v176 : BitVec 1 := Scalar.cmpi .slt v174 c0_i32_125
  let c0_i32_126 : BitVec 32 := 0#32
  let v177 : BitVec 1 := Scalar.cmpi .slt v173 c0_i32_126
  let v178 : BitVec 1 := Scalar.xori v176 v177
  let c0_i32_124 : BitVec 32 := 0#32
  let v175 : BitVec 1 := Scalar.cmpi .ne v174 c0_i32_124
  let v179 : BitVec 1 := Scalar.andi v178 v175
  let v180 : BitVec 32 := Scalar.addi v174 v173
  let v181 : BitVec 32 := Scalar.select v179 v180 v174
  let c40_i32 : BitVec 32 := 40#32
  let c0_i32_134 : BitVec 32 := 0#32
  ![v181.toNat, 40, 0]
def k0_off117 (v167 : BitVec 32) : Fin 3 → Nat :=
  let c1_i32_133 : BitVec 32 := 1#32
  let c3_i32_118 : BitVec 32 := 3#32
  let v168 : BitVec 32 := Scalar.shrsi v167 c3_i32_118
  let c3_i32_119 : BitVec 32 := 3#32
  let v169 : BitVec 32 := Scalar.shli v168 c3_i32_119
  let c960_i32_120 : BitVec 32 := 960#32
  let v170 : BitVec 32 := Scalar.minsi v169 c960_i32_120
  let v171 : BitVec 32 := v170
  let c0_i32_135 : BitVec 32 := 0#32
  ![1, v171.toNat, 0]

def k0_chk26 (v167 : BitVec 32) : Prop :=
  (8 ∣ (k0_mult38 v167).toNat) ∧
  (∀ a, (k0_off117 v167) a + S1x40x2048.size a ≤ S3x1000x2048.size a) ∧
  (∀ (hinb : ∀ a, (k0_off117 v167) a + S1x40x2048.size a ≤ S3x1000x2048.size a), (Rect.unit (s := S3x1000x2048) (k0_off117 v167) S1x40x2048.size hinb).WholeWords (EltTy.packing .bf16))
theorem k0_mult38_dvd : ∀ (v167 : BitVec 32) (k0_hw26 : k0_chk26 v167), 8 ∣ (k0_mult38 v167).toNat := fun v167 k0_hw26 => k0_hw26.1
theorem k0_off117_inb : ∀ (v167 : BitVec 32) (k0_hw26 : k0_chk26 v167), ∀ a, (k0_off117 v167) a + S1x40x2048.size a ≤ S3x1000x2048.size a := fun v167 k0_hw26 => k0_hw26.2.1
theorem k0_off117_wordsbf16 : ∀ (v167 : BitVec 32) (k0_hw26 : k0_chk26 v167), (Rect.unit (s := S3x1000x2048) (k0_off117 v167) S1x40x2048.size (k0_off117_inb v167 k0_hw26)).WholeWords (EltTy.packing .bf16) := fun v167 k0_hw26 => k0_hw26.2.2 (k0_off117_inb v167 k0_hw26)

def k0_off118 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v198 : Index := Scalar.indexCast arg32
  ![v198.toNat]
def k0_off119 (v199 : BitVec 32) : Fin 1 → Nat :=
  let v200 : Index := Scalar.indexCast v199
  ![v200.toNat]

def k0_chk27 (v199 : BitVec 32) : Prop :=
  (∀ a, (k0_off119 v199) a + S1.size a ≤ S23.size a)
theorem k0_off119_inb : ∀ (v199 : BitVec 32) (k0_hw27 : k0_chk27 v199), ∀ a, (k0_off119 v199) a + S1.size a ≤ S23.size a := fun v199 k0_hw27 => k0_hw27

def k0_mult39 (v201 : BitVec 32) : BitVec 32 :=
  let c3_i32_136 : BitVec 32 := 3#32
  let v202 : BitVec 32 := Scalar.shrsi v201 c3_i32_136
  let c3_i32_137 : BitVec 32 := 3#32
  let v203 : BitVec 32 := Scalar.shli v202 c3_i32_137
  let c960_i32_138 : BitVec 32 := 960#32
  let v204 : BitVec 32 := Scalar.minsi v203 c960_i32_138
  v204

def k0_off120 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_145 : BitVec 32 := 8#32
  let c0_i32_146 : BitVec 32 := 0#32
  let v216 : BitVec 1 := Scalar.cmpi .eq c8_i32_145 c0_i32_146
  let c1_i32_147 : BitVec 32 := 1#32
  let v217 : BitVec 32 := Scalar.select v216 c1_i32_147 c8_i32_145
  let v218 : BitVec 32 := Scalar.remsi arg32 v217
  let c0_i32_149 : BitVec 32 := 0#32
  let v220 : BitVec 1 := Scalar.cmpi .slt v218 c0_i32_149
  let c0_i32_150 : BitVec 32 := 0#32
  let v221 : BitVec 1 := Scalar.cmpi .slt v217 c0_i32_150
  let v222 : BitVec 1 := Scalar.xori v220 v221
  let c0_i32_148 : BitVec 32 := 0#32
  let v219 : BitVec 1 := Scalar.cmpi .ne v218 c0_i32_148
  let v223 : BitVec 1 := Scalar.andi v222 v219
  let v224 : BitVec 32 := Scalar.addi v218 v217
  let v225 : BitVec 32 := Scalar.select v223 v224 v218
  ![v225.toNat]
def k0_off121 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_139 : BitVec 32 := 8#32
  let c0_i32_140 : BitVec 32 := 0#32
  let v206 : BitVec 1 := Scalar.cmpi .eq c8_i32_139 c0_i32_140
  let c1_i32_141 : BitVec 32 := 1#32
  let v207 : BitVec 32 := Scalar.select v206 c1_i32_141 c8_i32_139
  let v208 : BitVec 32 := Scalar.remsi arg32 v207
  let c0_i32_143 : BitVec 32 := 0#32
  let v210 : BitVec 1 := Scalar.cmpi .slt v208 c0_i32_143
  let c0_i32_144 : BitVec 32 := 0#32
  let v211 : BitVec 1 := Scalar.cmpi .slt v207 c0_i32_144
  let v212 : BitVec 1 := Scalar.xori v210 v211
  let c0_i32_142 : BitVec 32 := 0#32
  let v209 : BitVec 1 := Scalar.cmpi .ne v208 c0_i32_142
  let v213 : BitVec 1 := Scalar.andi v212 v209
  let v214 : BitVec 32 := Scalar.addi v208 v207
  let v215 : BitVec 32 := Scalar.select v213 v214 v208
  let c80_i32 : BitVec 32 := 80#32
  let c0_i32_152 : BitVec 32 := 0#32
  ![v215.toNat, 80, 0]
def k0_off122 (v201 : BitVec 32) : Fin 3 → Nat :=
  let c2_i32_151 : BitVec 32 := 2#32
  let c3_i32_136 : BitVec 32 := 3#32
  let v202 : BitVec 32 := Scalar.shrsi v201 c3_i32_136
  let c3_i32_137 : BitVec 32 := 3#32
  let v203 : BitVec 32 := Scalar.shli v202 c3_i32_137
  let c960_i32_138 : BitVec 32 := 960#32
  let v204 : BitVec 32 := Scalar.minsi v203 c960_i32_138
  let v205 : BitVec 32 := v204
  let c0_i32_153 : BitVec 32 := 0#32
  ![2, v205.toNat, 0]

def k0_chk28 (v201 : BitVec 32) : Prop :=
  (8 ∣ (k0_mult39 v201).toNat) ∧
  (∀ a, (k0_off122 v201) a + S1x40x2048.size a ≤ S3x1000x2048.size a) ∧
  (∀ (hinb : ∀ a, (k0_off122 v201) a + S1x40x2048.size a ≤ S3x1000x2048.size a), (Rect.unit (s := S3x1000x2048) (k0_off122 v201) S1x40x2048.size hinb).WholeWords (EltTy.packing .bf16))
theorem k0_mult39_dvd : ∀ (v201 : BitVec 32) (k0_hw28 : k0_chk28 v201), 8 ∣ (k0_mult39 v201).toNat := fun v201 k0_hw28 => k0_hw28.1
theorem k0_off122_inb : ∀ (v201 : BitVec 32) (k0_hw28 : k0_chk28 v201), ∀ a, (k0_off122 v201) a + S1x40x2048.size a ≤ S3x1000x2048.size a := fun v201 k0_hw28 => k0_hw28.2.1
theorem k0_off122_wordsbf16 : ∀ (v201 : BitVec 32) (k0_hw28 : k0_chk28 v201), (Rect.unit (s := S3x1000x2048) (k0_off122 v201) S1x40x2048.size (k0_off122_inb v201 k0_hw28)).WholeWords (EltTy.packing .bf16) := fun v201 k0_hw28 => k0_hw28.2.2 (k0_off122_inb v201 k0_hw28)

def k0_off123 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v232 : Index := Scalar.indexCast arg32
  ![v232.toNat]
def k0_off124 (v233 : BitVec 32) : Fin 1 → Nat :=
  let v234 : Index := Scalar.indexCast v233
  ![v234.toNat]

def k0_chk29 (v233 : BitVec 32) : Prop :=
  (∀ a, (k0_off124 v233) a + S1.size a ≤ S23.size a)
theorem k0_off124_inb : ∀ (v233 : BitVec 32) (k0_hw29 : k0_chk29 v233), ∀ a, (k0_off124 v233) a + S1.size a ≤ S23.size a := fun v233 k0_hw29 => k0_hw29

def k0_mult40 (v235 : BitVec 32) : BitVec 32 :=
  let c3_i32_154 : BitVec 32 := 3#32
  let v236 : BitVec 32 := Scalar.shrsi v235 c3_i32_154
  let c3_i32_155 : BitVec 32 := 3#32
  let v237 : BitVec 32 := Scalar.shli v236 c3_i32_155
  let c960_i32_156 : BitVec 32 := 960#32
  let v238 : BitVec 32 := Scalar.minsi v237 c960_i32_156
  v238

def k0_off125 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_163 : BitVec 32 := 8#32
  let c0_i32_164 : BitVec 32 := 0#32
  let v250 : BitVec 1 := Scalar.cmpi .eq c8_i32_163 c0_i32_164
  let c1_i32_165 : BitVec 32 := 1#32
  let v251 : BitVec 32 := Scalar.select v250 c1_i32_165 c8_i32_163
  let v252 : BitVec 32 := Scalar.remsi arg32 v251
  let c0_i32_167 : BitVec 32 := 0#32
  let v254 : BitVec 1 := Scalar.cmpi .slt v252 c0_i32_167
  let c0_i32_168 : BitVec 32 := 0#32
  let v255 : BitVec 1 := Scalar.cmpi .slt v251 c0_i32_168
  let v256 : BitVec 1 := Scalar.xori v254 v255
  let c0_i32_166 : BitVec 32 := 0#32
  let v253 : BitVec 1 := Scalar.cmpi .ne v252 c0_i32_166
  let v257 : BitVec 1 := Scalar.andi v256 v253
  let v258 : BitVec 32 := Scalar.addi v252 v251
  let v259 : BitVec 32 := Scalar.select v257 v258 v252
  ![v259.toNat]
def k0_off126 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_157 : BitVec 32 := 8#32
  let c0_i32_158 : BitVec 32 := 0#32
  let v240 : BitVec 1 := Scalar.cmpi .eq c8_i32_157 c0_i32_158
  let c1_i32_159 : BitVec 32 := 1#32
  let v241 : BitVec 32 := Scalar.select v240 c1_i32_159 c8_i32_157
  let v242 : BitVec 32 := Scalar.remsi arg32 v241
  let c0_i32_161 : BitVec 32 := 0#32
  let v244 : BitVec 1 := Scalar.cmpi .slt v242 c0_i32_161
  let c0_i32_162 : BitVec 32 := 0#32
  let v245 : BitVec 1 := Scalar.cmpi .slt v241 c0_i32_162
  let v246 : BitVec 1 := Scalar.xori v244 v245
  let c0_i32_160 : BitVec 32 := 0#32
  let v243 : BitVec 1 := Scalar.cmpi .ne v242 c0_i32_160
  let v247 : BitVec 1 := Scalar.andi v246 v243
  let v248 : BitVec 32 := Scalar.addi v242 v241
  let v249 : BitVec 32 := Scalar.select v247 v248 v242
  let c0_i32_170 : BitVec 32 := 0#32
  let c0_i32_171 : BitVec 32 := 0#32
  ![v249.toNat, 0, 0]
def k0_off127 (v235 : BitVec 32) : Fin 3 → Nat :=
  let c0_i32_169 : BitVec 32 := 0#32
  let c3_i32_154 : BitVec 32 := 3#32
  let v236 : BitVec 32 := Scalar.shrsi v235 c3_i32_154
  let c3_i32_155 : BitVec 32 := 3#32
  let v237 : BitVec 32 := Scalar.shli v236 c3_i32_155
  let c960_i32_156 : BitVec 32 := 960#32
  let v238 : BitVec 32 := Scalar.minsi v237 c960_i32_156
  let v239 : BitVec 32 := v238
  let c0_i32_172 : BitVec 32 := 0#32
  ![0, v239.toNat, 0]

def k0_chk30 (v235 : BitVec 32) : Prop :=
  (8 ∣ (k0_mult40 v235).toNat) ∧
  (∀ a, (k0_off127 v235) a + S1x40x2048.size a ≤ S3x1000x2048.size a) ∧
  (∀ (hinb : ∀ a, (k0_off127 v235) a + S1x40x2048.size a ≤ S3x1000x2048.size a), (Rect.unit (s := S3x1000x2048) (k0_off127 v235) S1x40x2048.size hinb).WholeWords (EltTy.packing .bf16))
theorem k0_mult40_dvd : ∀ (v235 : BitVec 32) (k0_hw30 : k0_chk30 v235), 8 ∣ (k0_mult40 v235).toNat := fun v235 k0_hw30 => k0_hw30.1
theorem k0_off127_inb : ∀ (v235 : BitVec 32) (k0_hw30 : k0_chk30 v235), ∀ a, (k0_off127 v235) a + S1x40x2048.size a ≤ S3x1000x2048.size a := fun v235 k0_hw30 => k0_hw30.2.1
theorem k0_off127_wordsbf16 : ∀ (v235 : BitVec 32) (k0_hw30 : k0_chk30 v235), (Rect.unit (s := S3x1000x2048) (k0_off127 v235) S1x40x2048.size (k0_off127_inb v235 k0_hw30)).WholeWords (EltTy.packing .bf16) := fun v235 k0_hw30 => k0_hw30.2.2 (k0_off127_inb v235 k0_hw30)

def k0_off128 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v266 : Index := Scalar.indexCast arg32
  ![v266.toNat]
def k0_off129 (v267 : BitVec 32) : Fin 1 → Nat :=
  let v268 : Index := Scalar.indexCast v267
  ![v268.toNat]

def k0_chk31 (v267 : BitVec 32) : Prop :=
  (∀ a, (k0_off129 v267) a + S1.size a ≤ S23.size a)
theorem k0_off129_inb : ∀ (v267 : BitVec 32) (k0_hw31 : k0_chk31 v267), ∀ a, (k0_off129 v267) a + S1.size a ≤ S23.size a := fun v267 k0_hw31 => k0_hw31

def k0_mult41 (v269 : BitVec 32) : BitVec 32 :=
  let c3_i32_173 : BitVec 32 := 3#32
  let v270 : BitVec 32 := Scalar.shrsi v269 c3_i32_173
  let c3_i32_174 : BitVec 32 := 3#32
  let v271 : BitVec 32 := Scalar.shli v270 c3_i32_174
  let c960_i32_175 : BitVec 32 := 960#32
  let v272 : BitVec 32 := Scalar.minsi v271 c960_i32_175
  v272

def k0_off130 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_182 : BitVec 32 := 8#32
  let c0_i32_183 : BitVec 32 := 0#32
  let v284 : BitVec 1 := Scalar.cmpi .eq c8_i32_182 c0_i32_183
  let c1_i32_184 : BitVec 32 := 1#32
  let v285 : BitVec 32 := Scalar.select v284 c1_i32_184 c8_i32_182
  let v286 : BitVec 32 := Scalar.remsi arg32 v285
  let c0_i32_186 : BitVec 32 := 0#32
  let v288 : BitVec 1 := Scalar.cmpi .slt v286 c0_i32_186
  let c0_i32_187 : BitVec 32 := 0#32
  let v289 : BitVec 1 := Scalar.cmpi .slt v285 c0_i32_187
  let v290 : BitVec 1 := Scalar.xori v288 v289
  let c0_i32_185 : BitVec 32 := 0#32
  let v287 : BitVec 1 := Scalar.cmpi .ne v286 c0_i32_185
  let v291 : BitVec 1 := Scalar.andi v290 v287
  let v292 : BitVec 32 := Scalar.addi v286 v285
  let v293 : BitVec 32 := Scalar.select v291 v292 v286
  ![v293.toNat]
def k0_off131 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_176 : BitVec 32 := 8#32
  let c0_i32_177 : BitVec 32 := 0#32
  let v274 : BitVec 1 := Scalar.cmpi .eq c8_i32_176 c0_i32_177
  let c1_i32_178 : BitVec 32 := 1#32
  let v275 : BitVec 32 := Scalar.select v274 c1_i32_178 c8_i32_176
  let v276 : BitVec 32 := Scalar.remsi arg32 v275
  let c0_i32_180 : BitVec 32 := 0#32
  let v278 : BitVec 1 := Scalar.cmpi .slt v276 c0_i32_180
  let c0_i32_181 : BitVec 32 := 0#32
  let v279 : BitVec 1 := Scalar.cmpi .slt v275 c0_i32_181
  let v280 : BitVec 1 := Scalar.xori v278 v279
  let c0_i32_179 : BitVec 32 := 0#32
  let v277 : BitVec 1 := Scalar.cmpi .ne v276 c0_i32_179
  let v281 : BitVec 1 := Scalar.andi v280 v277
  let v282 : BitVec 32 := Scalar.addi v276 v275
  let v283 : BitVec 32 := Scalar.select v281 v282 v276
  let c40_i32_189 : BitVec 32 := 40#32
  let c0_i32_190 : BitVec 32 := 0#32
  ![v283.toNat, 40, 0]
def k0_off132 (v269 : BitVec 32) : Fin 3 → Nat :=
  let c1_i32_188 : BitVec 32 := 1#32
  let c3_i32_173 : BitVec 32 := 3#32
  let v270 : BitVec 32 := Scalar.shrsi v269 c3_i32_173
  let c3_i32_174 : BitVec 32 := 3#32
  let v271 : BitVec 32 := Scalar.shli v270 c3_i32_174
  let c960_i32_175 : BitVec 32 := 960#32
  let v272 : BitVec 32 := Scalar.minsi v271 c960_i32_175
  let v273 : BitVec 32 := v272
  let c0_i32_191 : BitVec 32 := 0#32
  ![1, v273.toNat, 0]

def k0_chk32 (v269 : BitVec 32) : Prop :=
  (8 ∣ (k0_mult41 v269).toNat) ∧
  (∀ a, (k0_off132 v269) a + S1x40x2048.size a ≤ S3x1000x2048.size a) ∧
  (∀ (hinb : ∀ a, (k0_off132 v269) a + S1x40x2048.size a ≤ S3x1000x2048.size a), (Rect.unit (s := S3x1000x2048) (k0_off132 v269) S1x40x2048.size hinb).WholeWords (EltTy.packing .bf16))
theorem k0_mult41_dvd : ∀ (v269 : BitVec 32) (k0_hw32 : k0_chk32 v269), 8 ∣ (k0_mult41 v269).toNat := fun v269 k0_hw32 => k0_hw32.1
theorem k0_off132_inb : ∀ (v269 : BitVec 32) (k0_hw32 : k0_chk32 v269), ∀ a, (k0_off132 v269) a + S1x40x2048.size a ≤ S3x1000x2048.size a := fun v269 k0_hw32 => k0_hw32.2.1
theorem k0_off132_wordsbf16 : ∀ (v269 : BitVec 32) (k0_hw32 : k0_chk32 v269), (Rect.unit (s := S3x1000x2048) (k0_off132 v269) S1x40x2048.size (k0_off132_inb v269 k0_hw32)).WholeWords (EltTy.packing .bf16) := fun v269 k0_hw32 => k0_hw32.2.2 (k0_off132_inb v269 k0_hw32)

def k0_off133 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v300 : Index := Scalar.indexCast arg32
  ![v300.toNat]
def k0_off134 (v301 : BitVec 32) : Fin 1 → Nat :=
  let v302 : Index := Scalar.indexCast v301
  ![v302.toNat]

def k0_chk33 (v301 : BitVec 32) : Prop :=
  (∀ a, (k0_off134 v301) a + S1.size a ≤ S23.size a)
theorem k0_off134_inb : ∀ (v301 : BitVec 32) (k0_hw33 : k0_chk33 v301), ∀ a, (k0_off134 v301) a + S1.size a ≤ S23.size a := fun v301 k0_hw33 => k0_hw33

def k0_mult42 (v303 : BitVec 32) : BitVec 32 :=
  let c3_i32_192 : BitVec 32 := 3#32
  let v304 : BitVec 32 := Scalar.shrsi v303 c3_i32_192
  let c3_i32_193 : BitVec 32 := 3#32
  let v305 : BitVec 32 := Scalar.shli v304 c3_i32_193
  let c960_i32_194 : BitVec 32 := 960#32
  let v306 : BitVec 32 := Scalar.minsi v305 c960_i32_194
  v306

def k0_off135 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_201 : BitVec 32 := 8#32
  let c0_i32_202 : BitVec 32 := 0#32
  let v318 : BitVec 1 := Scalar.cmpi .eq c8_i32_201 c0_i32_202
  let c1_i32_203 : BitVec 32 := 1#32
  let v319 : BitVec 32 := Scalar.select v318 c1_i32_203 c8_i32_201
  let v320 : BitVec 32 := Scalar.remsi arg32 v319
  let c0_i32_205 : BitVec 32 := 0#32
  let v322 : BitVec 1 := Scalar.cmpi .slt v320 c0_i32_205
  let c0_i32_206 : BitVec 32 := 0#32
  let v323 : BitVec 1 := Scalar.cmpi .slt v319 c0_i32_206
  let v324 : BitVec 1 := Scalar.xori v322 v323
  let c0_i32_204 : BitVec 32 := 0#32
  let v321 : BitVec 1 := Scalar.cmpi .ne v320 c0_i32_204
  let v325 : BitVec 1 := Scalar.andi v324 v321
  let v326 : BitVec 32 := Scalar.addi v320 v319
  let v327 : BitVec 32 := Scalar.select v325 v326 v320
  ![v327.toNat]
def k0_off136 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_195 : BitVec 32 := 8#32
  let c0_i32_196 : BitVec 32 := 0#32
  let v308 : BitVec 1 := Scalar.cmpi .eq c8_i32_195 c0_i32_196
  let c1_i32_197 : BitVec 32 := 1#32
  let v309 : BitVec 32 := Scalar.select v308 c1_i32_197 c8_i32_195
  let v310 : BitVec 32 := Scalar.remsi arg32 v309
  let c0_i32_199 : BitVec 32 := 0#32
  let v312 : BitVec 1 := Scalar.cmpi .slt v310 c0_i32_199
  let c0_i32_200 : BitVec 32 := 0#32
  let v313 : BitVec 1 := Scalar.cmpi .slt v309 c0_i32_200
  let v314 : BitVec 1 := Scalar.xori v312 v313
  let c0_i32_198 : BitVec 32 := 0#32
  let v311 : BitVec 1 := Scalar.cmpi .ne v310 c0_i32_198
  let v315 : BitVec 1 := Scalar.andi v314 v311
  let v316 : BitVec 32 := Scalar.addi v310 v309
  let v317 : BitVec 32 := Scalar.select v315 v316 v310
  let c80_i32_208 : BitVec 32 := 80#32
  let c0_i32_209 : BitVec 32 := 0#32
  ![v317.toNat, 80, 0]
def k0_off137 (v303 : BitVec 32) : Fin 3 → Nat :=
  let c2_i32_207 : BitVec 32 := 2#32
  let c3_i32_192 : BitVec 32 := 3#32
  let v304 : BitVec 32 := Scalar.shrsi v303 c3_i32_192
  let c3_i32_193 : BitVec 32 := 3#32
  let v305 : BitVec 32 := Scalar.shli v304 c3_i32_193
  let c960_i32_194 : BitVec 32 := 960#32
  let v306 : BitVec 32 := Scalar.minsi v305 c960_i32_194
  let v307 : BitVec 32 := v306
  let c0_i32_210 : BitVec 32 := 0#32
  ![2, v307.toNat, 0]

def k0_chk34 (v303 : BitVec 32) : Prop :=
  (8 ∣ (k0_mult42 v303).toNat) ∧
  (∀ a, (k0_off137 v303) a + S1x40x2048.size a ≤ S3x1000x2048.size a) ∧
  (∀ (hinb : ∀ a, (k0_off137 v303) a + S1x40x2048.size a ≤ S3x1000x2048.size a), (Rect.unit (s := S3x1000x2048) (k0_off137 v303) S1x40x2048.size hinb).WholeWords (EltTy.packing .bf16))
theorem k0_mult42_dvd : ∀ (v303 : BitVec 32) (k0_hw34 : k0_chk34 v303), 8 ∣ (k0_mult42 v303).toNat := fun v303 k0_hw34 => k0_hw34.1
theorem k0_off137_inb : ∀ (v303 : BitVec 32) (k0_hw34 : k0_chk34 v303), ∀ a, (k0_off137 v303) a + S1x40x2048.size a ≤ S3x1000x2048.size a := fun v303 k0_hw34 => k0_hw34.2.1
theorem k0_off137_wordsbf16 : ∀ (v303 : BitVec 32) (k0_hw34 : k0_chk34 v303), (Rect.unit (s := S3x1000x2048) (k0_off137 v303) S1x40x2048.size (k0_off137_inb v303 k0_hw34)).WholeWords (EltTy.packing .bf16) := fun v303 k0_hw34 => k0_hw34.2.2 (k0_off137_inb v303 k0_hw34)

def k0_off138 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v334 : Index := Scalar.indexCast arg32
  ![v334.toNat]
def k0_off139 (v335 : BitVec 32) : Fin 1 → Nat :=
  let v336 : Index := Scalar.indexCast v335
  ![v336.toNat]

def k0_off140 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v338 : Index := Scalar.indexCast arg32
  ![v338.toNat]
def k0_off141 (v339 : BitVec 32) : Fin 1 → Nat :=
  let v340 : Index := Scalar.indexCast v339
  ![v340.toNat]

def k0_chk36 (v339 : BitVec 32) : Prop :=
  (∀ a, (k0_off141 v339) a + S1.size a ≤ S23.size a)
theorem k0_off141_inb : ∀ (v339 : BitVec 32) (k0_hw36 : k0_chk36 v339), ∀ a, (k0_off141 v339) a + S1.size a ≤ S23.size a := fun v339 k0_hw36 => k0_hw36

def k0_off142 (v335 : BitVec 32) : Fin 1 → Nat :=
  let v346 : Index := Scalar.indexCast v335
  ![v346.toNat]
def k0_off143 (v56 : BitVec 32) (v58 : BitVec 32) (k0_t6 : Fin (k0_t6_loop v56 v58).trips) : Fin 3 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c8_i32_214 : BitVec 32 := 8#32
  let c0_i32_215 : BitVec 32 := 0#32
  let v348 : BitVec 1 := Scalar.cmpi .eq c8_i32_214 c0_i32_215
  let c1_i32_216 : BitVec 32 := 1#32
  let v349 : BitVec 32 := Scalar.select v348 c1_i32_216 c8_i32_214
  let v350 : BitVec 32 := Scalar.remsi arg32 v349
  let c0_i32_218 : BitVec 32 := 0#32
  let v352 : BitVec 1 := Scalar.cmpi .slt v350 c0_i32_218
  let c0_i32_219 : BitVec 32 := 0#32
  let v353 : BitVec 1 := Scalar.cmpi .slt v349 c0_i32_219
  let v354 : BitVec 1 := Scalar.xori v352 v353
  let c0_i32_217 : BitVec 32 := 0#32
  let v351 : BitVec 1 := Scalar.cmpi .ne v350 c0_i32_217
  let v355 : BitVec 1 := Scalar.andi v354 v351
  let v356 : BitVec 32 := Scalar.addi v350 v349
  let v357 : BitVec 32 := Scalar.select v355 v356 v350
  let v358 : Index := Scalar.indexCast v357
  let c0_220 : Index := 0#32
  let c0_221 : Index := 0#32
  ![v358.toNat, 0, 0]
def k0_off144 (k0_t4 : Fin k0_t4_loop.trips) : Fin 3 → Nat :=
  let c0_i32_21 : BitVec 32 := 0#32
  let c1_i32_22 : BitVec 32 := 1#32
  let arg30 : BitVec 32 := Scf.iv c0_i32_21 c1_i32_22 k0_t4
  let c2_i32_222 : BitVec 32 := 2#32
  let c0_i32_223 : BitVec 32 := 0#32
  let v361 : BitVec 1 := Scalar.cmpi .eq c2_i32_222 c0_i32_223
  let c1_i32_224 : BitVec 32 := 1#32
  let v362 : BitVec 32 := Scalar.select v361 c1_i32_224 c2_i32_222
  let v363 : BitVec 32 := Scalar.remsi arg30 v362
  let c0_i32_226 : BitVec 32 := 0#32
  let v365 : BitVec 1 := Scalar.cmpi .slt v363 c0_i32_226
  let c0_i32_227 : BitVec 32 := 0#32
  let v366 : BitVec 1 := Scalar.cmpi .slt v362 c0_i32_227
  let v367 : BitVec 1 := Scalar.xori v365 v366
  let c0_i32_225 : BitVec 32 := 0#32
  let v364 : BitVec 1 := Scalar.cmpi .ne v363 c0_i32_225
  let v368 : BitVec 1 := Scalar.andi v367 v364
  let v369 : BitVec 32 := Scalar.addi v363 v362
  let v370 : BitVec 32 := Scalar.select v368 v369 v363
  let v371 : Index := Scalar.indexCast v370
  let c0_228 : Index := 0#32
  let c0_229 : Index := 0#32
  ![v371.toNat, 0, 0]
def k0_off145 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let v381 : Index := Scalar.indexCast arg32
  ![v381.toNat]
def k0_off146 (v56 : BitVec 32) (v58 : BitVec 32) (k0_t6 : Fin (k0_t6_loop v56 v58).trips) : Fin 1 → Nat :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c1_i32_231 : BitVec 32 := 1#32
  let v385 : BitVec 32 := Scalar.addi arg32 c1_i32_231
  let v386 : Index := Scalar.indexCast v385
  ![v386.toNat]
def k0_off147 (v335 : BitVec 32) : Fin 2 → Nat :=
  let v398 : Index := Scalar.indexCast v335
  let c0_233 : Index := 0#32
  ![v398.toNat, 0]
def k0_mult43 (v56 : BitVec 32) (v58 : BitVec 32) (k0_t6 : Fin (k0_t6_loop v56 v58).trips) : BitVec 32 :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v406 : BitVec 32 := Scalar.subi arg32 v59
  let c40_i32_235 : BitVec 32 := 40#32
  let v407 : BitVec 32 := Scalar.muli v406 c40_i32_235
  v407
def k0_off148 (v56 : BitVec 32) (v58 : BitVec 32) (k0_t6 : Fin (k0_t6_loop v56 v58).trips) : Fin 3 → Nat :=
  let c0_236 : Index := 0#32
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v406 : BitVec 32 := Scalar.subi arg32 v59
  let c40_i32_235 : BitVec 32 := 40#32
  let v407 : BitVec 32 := Scalar.muli v406 c40_i32_235
  let v408 : BitVec 32 := v407
  let v409 : Index := Scalar.indexCast v408
  let c0_237 : Index := 0#32
  ![0, v409.toNat, 0]
def k0_off149 (v337 : BitVec 32) (v341 : BitVec 32) : Fin 3 → Nat :=
  let c0_244 : Index := 0#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v420 : Index := Scalar.indexCast v345
  let c0_245 : Index := 0#32
  ![0, v420.toNat, 0]

def k0_off150 (v337 : BitVec 32) (v341 : BitVec 32) : Fin 3 → Nat :=
  let c1_254 : Index := 1#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v435 : Index := Scalar.indexCast v345
  let c0_255 : Index := 0#32
  ![1, v435.toNat, 0]
def k0_off151 (v337 : BitVec 32) (v341 : BitVec 32) : Fin 3 → Nat :=
  let c2_264 : Index := 2#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v450 : Index := Scalar.indexCast v345
  let c0_265 : Index := 0#32
  ![2, v450.toNat, 0]
def k0_off152 (v337 : BitVec 32) (v341 : BitVec 32) : Fin 3 → Nat :=
  let c3_273 : Index := 3#32
  let c3_i32_211 : BitVec 32 := 3#32
  let v342 : BitVec 32 := Scalar.shrsi v341 c3_i32_211
  let c3_i32_212 : BitVec 32 := 3#32
  let v343 : BitVec 32 := Scalar.shli v342 c3_i32_212
  let c960_i32_213 : BitVec 32 := 960#32
  let v344 : BitVec 32 := Scalar.minsi v343 c960_i32_213
  let v345 : BitVec 32 := Scalar.subi v337 v344
  let v465 : Index := Scalar.indexCast v345
  let c0_274 : Index := 0#32
  ![3, v465.toNat, 0]

def k0_chk37 (v337 : BitVec 32) (v341 : BitVec 32) : Prop :=
  (∀ a, (k0_off149 v337 v341) a + S1x32x128.size a ≤ S4x40x128.size a) ∧
  (∀ a, (k0_off150 v337 v341) a + S1x32x128.size a ≤ S4x40x128.size a) ∧
  (∀ a, (k0_off151 v337 v341) a + S1x32x128.size a ≤ S4x40x128.size a) ∧
  (∀ a, (k0_off152 v337 v341) a + S1x32x128.size a ≤ S4x40x128.size a)
theorem k0_off149_inb : ∀ (v337 : BitVec 32) (v341 : BitVec 32) (k0_hw37 : k0_chk37 v337 v341), ∀ a, (k0_off149 v337 v341) a + S1x32x128.size a ≤ S4x40x128.size a := fun v337 v341 k0_hw37 => k0_hw37.1
theorem k0_off150_inb : ∀ (v337 : BitVec 32) (v341 : BitVec 32) (k0_hw37 : k0_chk37 v337 v341), ∀ a, (k0_off150 v337 v341) a + S1x32x128.size a ≤ S4x40x128.size a := fun v337 v341 k0_hw37 => k0_hw37.2.1
theorem k0_off151_inb : ∀ (v337 : BitVec 32) (v341 : BitVec 32) (k0_hw37 : k0_chk37 v337 v341), ∀ a, (k0_off151 v337 v341) a + S1x32x128.size a ≤ S4x40x128.size a := fun v337 v341 k0_hw37 => k0_hw37.2.2.1
theorem k0_off152_inb : ∀ (v337 : BitVec 32) (v341 : BitVec 32) (k0_hw37 : k0_chk37 v337 v341), ∀ a, (k0_off152 v337 v341) a + S1x32x128.size a ≤ S4x40x128.size a := fun v337 v341 k0_hw37 => k0_hw37.2.2.2

def k0_off153 (v335 : BitVec 32) : Fin 2 → Nat :=
  let v474 : Index := Scalar.indexCast v335
  let c1_278 : Index := 1#32
  ![v474.toNat, 1]
def k0_mult44 (v56 : BitVec 32) (v58 : BitVec 32) (k0_t6 : Fin (k0_t6_loop v56 v58).trips) : BitVec 32 :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v482 : BitVec 32 := Scalar.subi arg32 v59
  let c40_i32_280 : BitVec 32 := 40#32
  let v483 : BitVec 32 := Scalar.muli v482 c40_i32_280
  v483
def k0_off154 (v56 : BitVec 32) (v58 : BitVec 32) (k0_t6 : Fin (k0_t6_loop v56 v58).trips) : Fin 3 → Nat :=
  let c1_281 : Index := 1#32
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v482 : BitVec 32 := Scalar.subi arg32 v59
  let c40_i32_280 : BitVec 32 := 40#32
  let v483 : BitVec 32 := Scalar.muli v482 c40_i32_280
  let v484 : BitVec 32 := v483
  let v485 : Index := Scalar.indexCast v484
  let c0_282 : Index := 0#32
  ![1, v485.toNat, 0]
def k0_off155 (v335 : BitVec 32) : Fin 2 → Nat :=
  let v550 : Index := Scalar.indexCast v335
  let c2_327 : Index := 2#32
  ![v550.toNat, 2]

def k0_chk35 (v335 : BitVec 32) : Prop :=
  (∀ a, (k0_off139 v335) a + S1.size a ≤ S23.size a) ∧
  (∀ a, (k0_off142 v335) a + S1.size a ≤ S23.size a) ∧
  (∀ a, (k0_off147 v335) a + S1x1.size a ≤ S23x3.size a) ∧
  (∀ a, (k0_off153 v335) a + S1x1.size a ≤ S23x3.size a) ∧
  (∀ a, (k0_off155 v335) a + S1x1.size a ≤ S23x3.size a)
theorem k0_off139_inb : ∀ (v335 : BitVec 32) (k0_hw35 : k0_chk35 v335), ∀ a, (k0_off139 v335) a + S1.size a ≤ S23.size a := fun v335 k0_hw35 => k0_hw35.1
theorem k0_off142_inb : ∀ (v335 : BitVec 32) (k0_hw35 : k0_chk35 v335), ∀ a, (k0_off142 v335) a + S1.size a ≤ S23.size a := fun v335 k0_hw35 => k0_hw35.2.1
theorem k0_off147_inb : ∀ (v335 : BitVec 32) (k0_hw35 : k0_chk35 v335), ∀ a, (k0_off147 v335) a + S1x1.size a ≤ S23x3.size a := fun v335 k0_hw35 => k0_hw35.2.2.1
theorem k0_off153_inb : ∀ (v335 : BitVec 32) (k0_hw35 : k0_chk35 v335), ∀ a, (k0_off153 v335) a + S1x1.size a ≤ S23x3.size a := fun v335 k0_hw35 => k0_hw35.2.2.2.1
theorem k0_off155_inb : ∀ (v335 : BitVec 32) (k0_hw35 : k0_chk35 v335), ∀ a, (k0_off155 v335) a + S1x1.size a ≤ S23x3.size a := fun v335 k0_hw35 => k0_hw35.2.2.2.2

def k0_mult45 (v56 : BitVec 32) (v58 : BitVec 32) (k0_t6 : Fin (k0_t6_loop v56 v58).trips) : BitVec 32 :=
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v558 : BitVec 32 := Scalar.subi arg32 v59
  let c40_i32_329 : BitVec 32 := 40#32
  let v559 : BitVec 32 := Scalar.muli v558 c40_i32_329
  v559
def k0_off156 (v56 : BitVec 32) (v58 : BitVec 32) (k0_t6 : Fin (k0_t6_loop v56 v58).trips) : Fin 3 → Nat :=
  let c2_330 : Index := 2#32
  let v98 : BitVec 32 := Scalar.subi v58 v56
  let c1_i32_75 : BitVec 32 := 1#32
  let v100 : BitVec 32 := Scalar.divsi v98 c1_i32_75
  let v101 : BitVec 32 := Scalar.muli v100 c1_i32_75
  let v102 : BitVec 32 := Scalar.addi v56 v101
  let c1_i32_77 : BitVec 32 := 1#32
  let arg32 : BitVec 32 := Scf.iv v102 c1_i32_77 k0_t6
  let c13_i32 : BitVec 32 := 13#32
  let v59 : BitVec 32 := Scalar.minsi v56 c13_i32
  let v558 : BitVec 32 := Scalar.subi arg32 v59
  let c40_i32_329 : BitVec 32 := 40#32
  let v559 : BitVec 32 := Scalar.muli v558 c40_i32_329
  let v560 : BitVec 32 := v559
  let v561 : Index := Scalar.indexCast v560
  let c0_331 : Index := 0#32
  ![2, v561.toNat, 0]

def k0_chk7_0 (v56 : BitVec 32) (v58 : BitVec 32) : Prop :=
  ((k0_t5_loop v56 v58).OK) ∧
  (∀ k0_t5 : Fin (k0_t5_loop v56 v58).trips, ∀ a, (k0_off59 v56 v58 k0_t5) a + S1.size a ≤ S19.size a) ∧
  (∀ k0_t5 : Fin (k0_t5_loop v56 v58).trips, ∀ a, (k0_off61 v56 v58 k0_t5) a + S1.size a ≤ S8.size a) ∧
  (∀ k0_t5 : Fin (k0_t5_loop v56 v58).trips, ∀ a, (k0_off62 v56 v58 k0_t5) a + S1x40x2048.size a ≤ S8x120x2048.size a) ∧
  (∀ k0_t5 : Fin (k0_t5_loop v56 v58).trips, ∀ (hinb : ∀ a, (k0_off62 v56 v58 k0_t5) a + S1x40x2048.size a ≤ S8x120x2048.size a), (Rect.unit (s := S8x120x2048) (k0_off62 v56 v58 k0_t5) S1x40x2048.size hinb).WholeWords (EltTy.packing .bf16)) ∧
  (∀ k0_t5 : Fin (k0_t5_loop v56 v58).trips, ∀ a, (k0_off64 v56 v58 k0_t5) a + S1.size a ≤ S19.size a) ∧
  (∀ k0_t5 : Fin (k0_t5_loop v56 v58).trips, ∀ a, (k0_off66 v56 v58 k0_t5) a + S1.size a ≤ S8.size a) ∧
  (∀ k0_t5 : Fin (k0_t5_loop v56 v58).trips, ∀ a, (k0_off67 v56 v58 k0_t5) a + S1x40x2048.size a ≤ S8x120x2048.size a) ∧
  (∀ k0_t5 : Fin (k0_t5_loop v56 v58).trips, ∀ (hinb : ∀ a, (k0_off67 v56 v58 k0_t5) a + S1x40x2048.size a ≤ S8x120x2048.size a), (Rect.unit (s := S8x120x2048) (k0_off67 v56 v58 k0_t5) S1x40x2048.size hinb).WholeWords (EltTy.packing .bf16)) ∧
  (∀ k0_t5 : Fin (k0_t5_loop v56 v58).trips, ∀ a, (k0_off69 v56 v58 k0_t5) a + S1.size a ≤ S19.size a) ∧
  (∀ k0_t5 : Fin (k0_t5_loop v56 v58).trips, ∀ a, (k0_off71 v56 v58 k0_t5) a + S1.size a ≤ S8.size a) ∧
  (∀ k0_t5 : Fin (k0_t5_loop v56 v58).trips, ∀ a, (k0_off72 v56 v58 k0_t5) a + S1x40x2048.size a ≤ S8x120x2048.size a) ∧
  (∀ k0_t5 : Fin (k0_t5_loop v56 v58).trips, ∀ (hinb : ∀ a, (k0_off72 v56 v58 k0_t5) a + S1x40x2048.size a ≤ S8x120x2048.size a), (Rect.unit (s := S8x120x2048) (k0_off72 v56 v58 k0_t5) S1x40x2048.size hinb).WholeWords (EltTy.packing .bf16)) ∧
  (∀ k0_t5 : Fin (k0_t5_loop v56 v58).trips, ∀ a, (k0_off74 v56 v58 k0_t5) a + S1.size a ≤ S19.size a) ∧
  (∀ k0_t5 : Fin (k0_t5_loop v56 v58).trips, ∀ a, (k0_off76 v56 v58 k0_t5) a + S1.size a ≤ S8.size a) ∧
  (∀ k0_t5 : Fin (k0_t5_loop v56 v58).trips, ∀ a, (k0_off77 v56 v58 k0_t5) a + S1x40x2048.size a ≤ S8x120x2048.size a) ∧
  (∀ k0_t5 : Fin (k0_t5_loop v56 v58).trips, ∀ (hinb : ∀ a, (k0_off77 v56 v58 k0_t5) a + S1x40x2048.size a ≤ S8x120x2048.size a), (Rect.unit (s := S8x120x2048) (k0_off77 v56 v58 k0_t5) S1x40x2048.size hinb).WholeWords (EltTy.packing .bf16)) ∧
  (∀ k0_t5 : Fin (k0_t5_loop v56 v58).trips, ∀ a, (k0_off79 v56 v58 k0_t5) a + S1.size a ≤ S19.size a) ∧
  (∀ k0_t5 : Fin (k0_t5_loop v56 v58).trips, ∀ a, (k0_off81 v56 v58 k0_t5) a + S1.size a ≤ S8.size a) ∧
  (∀ k0_t5 : Fin (k0_t5_loop v56 v58).trips, ∀ a, (k0_off82 v56 v58 k0_t5) a + S1x40x2048.size a ≤ S8x120x2048.size a) ∧
  (∀ k0_t5 : Fin (k0_t5_loop v56 v58).trips, ∀ (hinb : ∀ a, (k0_off82 v56 v58 k0_t5) a + S1x40x2048.size a ≤ S8x120x2048.size a), (Rect.unit (s := S8x120x2048) (k0_off82 v56 v58 k0_t5) S1x40x2048.size hinb).WholeWords (EltTy.packing .bf16)) ∧
  (∀ k0_t5 : Fin (k0_t5_loop v56 v58).trips, ∀ a, (k0_off84 v56 v58 k0_t5) a + S1.size a ≤ S19.size a) ∧
  (∀ k0_t5 : Fin (k0_t5_loop v56 v58).trips, ∀ a, (k0_off86 v56 v58 k0_t5) a + S1.size a ≤ S8.size a) ∧
  (∀ k0_t5 : Fin (k0_t5_loop v56 v58).trips, ∀ a, (k0_off87 v56 v58 k0_t5) a + S1x40x2048.size a ≤ S8x120x2048.size a) ∧
  (∀ k0_t5 : Fin (k0_t5_loop v56 v58).trips, ∀ (hinb : ∀ a, (k0_off87 v56 v58 k0_t5) a + S1x40x2048.size a ≤ S8x120x2048.size a), (Rect.unit (s := S8x120x2048) (k0_off87 v56 v58 k0_t5) S1x40x2048.size hinb).WholeWords (EltTy.packing .bf16)) ∧
  (∀ k0_t5 : Fin (k0_t5_loop v56 v58).trips, ∀ a, (k0_off89 v56 v58 k0_t5) a + S1.size a ≤ S19.size a) ∧
  (∀ k0_t5 : Fin (k0_t5_loop v56 v58).trips, ∀ a, (k0_off91 v56 v58 k0_t5) a + S1.size a ≤ S19.size a) ∧
  (∀ k0_t5 : Fin (k0_t5_loop v56 v58).trips, ∀ a, (k0_off94 v56 v58 k0_t5) a + S1x120x2048.size a ≤ S8x120x2048.size a) ∧
  (∀ k0_t5 : Fin (k0_t5_loop v56 v58).trips, ∀ a, (k0_off96 v56 v58 k0_t5) a + S1.size a ≤ S20.size a) ∧
  (∀ k0_t5 : Fin (k0_t5_loop v56 v58).trips, ∀ a, (k0_off97 v56 v58 k0_t5) a + S1.size a ≤ S20.size a) ∧
  (∀ k0_t5 : Fin (k0_t5_loop v56 v58).trips, 8 ∣ (k0_mult34 v56 v58 k0_t5).toNat) ∧
  (∀ k0_t5 : Fin (k0_t5_loop v56 v58).trips, ∀ a, (k0_off99 v56 v58 k0_t5) a + S1x40x512.size a ≤ S3x256x512.size a)
def k0_chk7_1 (v56 : BitVec 32) (v58 : BitVec 32) : Prop :=
  (∀ k0_t5 : Fin (k0_t5_loop v56 v58).trips, 8 ∣ (k0_mult35 v56 v58 k0_t5).toNat) ∧
  (∀ k0_t5 : Fin (k0_t5_loop v56 v58).trips, ∀ a, (k0_off105 v56 v58 k0_t5) a + S1x40x512.size a ≤ S3x256x512.size a) ∧
  (∀ k0_t5 : Fin (k0_t5_loop v56 v58).trips, 8 ∣ (k0_mult36 v56 v58 k0_t5).toNat) ∧
  (∀ k0_t5 : Fin (k0_t5_loop v56 v58).trips, ∀ a, (k0_off107 v56 v58 k0_t5) a + S1x40x512.size a ≤ S3x256x512.size a) ∧
  ((k0_t6_loop v56 v58).OK) ∧
  (∀ k0_t6 : Fin (k0_t6_loop v56 v58).trips, ∀ a, (k0_off108 v56 v58 k0_t6) a + S1.size a ≤ S19.size a) ∧
  (∀ k0_t6 : Fin (k0_t6_loop v56 v58).trips, ∀ a, (k0_off110 v56 v58 k0_t6) a + S1.size a ≤ S8.size a) ∧
  (∀ k0_t6 : Fin (k0_t6_loop v56 v58).trips, ∀ a, (k0_off111 v56 v58 k0_t6) a + S1x40x2048.size a ≤ S8x120x2048.size a) ∧
  (∀ k0_t6 : Fin (k0_t6_loop v56 v58).trips, ∀ (hinb : ∀ a, (k0_off111 v56 v58 k0_t6) a + S1x40x2048.size a ≤ S8x120x2048.size a), (Rect.unit (s := S8x120x2048) (k0_off111 v56 v58 k0_t6) S1x40x2048.size hinb).WholeWords (EltTy.packing .bf16)) ∧
  (∀ k0_t6 : Fin (k0_t6_loop v56 v58).trips, ∀ a, (k0_off113 v56 v58 k0_t6) a + S1.size a ≤ S19.size a) ∧
  (∀ k0_t6 : Fin (k0_t6_loop v56 v58).trips, ∀ a, (k0_off115 v56 v58 k0_t6) a + S1.size a ≤ S8.size a) ∧
  (∀ k0_t6 : Fin (k0_t6_loop v56 v58).trips, ∀ a, (k0_off116 v56 v58 k0_t6) a + S1x40x2048.size a ≤ S8x120x2048.size a) ∧
  (∀ k0_t6 : Fin (k0_t6_loop v56 v58).trips, ∀ (hinb : ∀ a, (k0_off116 v56 v58 k0_t6) a + S1x40x2048.size a ≤ S8x120x2048.size a), (Rect.unit (s := S8x120x2048) (k0_off116 v56 v58 k0_t6) S1x40x2048.size hinb).WholeWords (EltTy.packing .bf16)) ∧
  (∀ k0_t6 : Fin (k0_t6_loop v56 v58).trips, ∀ a, (k0_off118 v56 v58 k0_t6) a + S1.size a ≤ S19.size a) ∧
  (∀ k0_t6 : Fin (k0_t6_loop v56 v58).trips, ∀ a, (k0_off120 v56 v58 k0_t6) a + S1.size a ≤ S8.size a) ∧
  (∀ k0_t6 : Fin (k0_t6_loop v56 v58).trips, ∀ a, (k0_off121 v56 v58 k0_t6) a + S1x40x2048.size a ≤ S8x120x2048.size a) ∧
  (∀ k0_t6 : Fin (k0_t6_loop v56 v58).trips, ∀ (hinb : ∀ a, (k0_off121 v56 v58 k0_t6) a + S1x40x2048.size a ≤ S8x120x2048.size a), (Rect.unit (s := S8x120x2048) (k0_off121 v56 v58 k0_t6) S1x40x2048.size hinb).WholeWords (EltTy.packing .bf16)) ∧
  (∀ k0_t6 : Fin (k0_t6_loop v56 v58).trips, ∀ a, (k0_off123 v56 v58 k0_t6) a + S1.size a ≤ S19.size a) ∧
  (∀ k0_t6 : Fin (k0_t6_loop v56 v58).trips, ∀ a, (k0_off125 v56 v58 k0_t6) a + S1.size a ≤ S8.size a) ∧
  (∀ k0_t6 : Fin (k0_t6_loop v56 v58).trips, ∀ a, (k0_off126 v56 v58 k0_t6) a + S1x40x2048.size a ≤ S8x120x2048.size a) ∧
  (∀ k0_t6 : Fin (k0_t6_loop v56 v58).trips, ∀ (hinb : ∀ a, (k0_off126 v56 v58 k0_t6) a + S1x40x2048.size a ≤ S8x120x2048.size a), (Rect.unit (s := S8x120x2048) (k0_off126 v56 v58 k0_t6) S1x40x2048.size hinb).WholeWords (EltTy.packing .bf16)) ∧
  (∀ k0_t6 : Fin (k0_t6_loop v56 v58).trips, ∀ a, (k0_off128 v56 v58 k0_t6) a + S1.size a ≤ S19.size a) ∧
  (∀ k0_t6 : Fin (k0_t6_loop v56 v58).trips, ∀ a, (k0_off130 v56 v58 k0_t6) a + S1.size a ≤ S8.size a) ∧
  (∀ k0_t6 : Fin (k0_t6_loop v56 v58).trips, ∀ a, (k0_off131 v56 v58 k0_t6) a + S1x40x2048.size a ≤ S8x120x2048.size a) ∧
  (∀ k0_t6 : Fin (k0_t6_loop v56 v58).trips, ∀ (hinb : ∀ a, (k0_off131 v56 v58 k0_t6) a + S1x40x2048.size a ≤ S8x120x2048.size a), (Rect.unit (s := S8x120x2048) (k0_off131 v56 v58 k0_t6) S1x40x2048.size hinb).WholeWords (EltTy.packing .bf16)) ∧
  (∀ k0_t6 : Fin (k0_t6_loop v56 v58).trips, ∀ a, (k0_off133 v56 v58 k0_t6) a + S1.size a ≤ S19.size a) ∧
  (∀ k0_t6 : Fin (k0_t6_loop v56 v58).trips, ∀ a, (k0_off135 v56 v58 k0_t6) a + S1.size a ≤ S8.size a) ∧
  (∀ k0_t6 : Fin (k0_t6_loop v56 v58).trips, ∀ a, (k0_off136 v56 v58 k0_t6) a + S1x40x2048.size a ≤ S8x120x2048.size a) ∧
  (∀ k0_t6 : Fin (k0_t6_loop v56 v58).trips, ∀ (hinb : ∀ a, (k0_off136 v56 v58 k0_t6) a + S1x40x2048.size a ≤ S8x120x2048.size a), (Rect.unit (s := S8x120x2048) (k0_off136 v56 v58 k0_t6) S1x40x2048.size hinb).WholeWords (EltTy.packing .bf16)) ∧
  (∀ k0_t6 : Fin (k0_t6_loop v56 v58).trips, ∀ a, (k0_off138 v56 v58 k0_t6) a + S1.size a ≤ S19.size a) ∧
  (∀ k0_t6 : Fin (k0_t6_loop v56 v58).trips, ∀ a, (k0_off140 v56 v58 k0_t6) a + S1.size a ≤ S19.size a) ∧
  (∀ k0_t6 : Fin (k0_t6_loop v56 v58).trips, ∀ a, (k0_off143 v56 v58 k0_t6) a + S1x120x2048.size a ≤ S8x120x2048.size a)
def k0_chk7_2 (v56 : BitVec 32) (v58 : BitVec 32) : Prop :=
  (∀ k0_t6 : Fin (k0_t6_loop v56 v58).trips, ∀ a, (k0_off145 v56 v58 k0_t6) a + S1.size a ≤ S20.size a) ∧
  (∀ k0_t6 : Fin (k0_t6_loop v56 v58).trips, ∀ a, (k0_off146 v56 v58 k0_t6) a + S1.size a ≤ S20.size a) ∧
  (∀ k0_t6 : Fin (k0_t6_loop v56 v58).trips, 8 ∣ (k0_mult43 v56 v58 k0_t6).toNat) ∧
  (∀ k0_t6 : Fin (k0_t6_loop v56 v58).trips, ∀ a, (k0_off148 v56 v58 k0_t6) a + S1x40x512.size a ≤ S3x256x512.size a) ∧
  (∀ k0_t6 : Fin (k0_t6_loop v56 v58).trips, 8 ∣ (k0_mult44 v56 v58 k0_t6).toNat) ∧
  (∀ k0_t6 : Fin (k0_t6_loop v56 v58).trips, ∀ a, (k0_off154 v56 v58 k0_t6) a + S1x40x512.size a ≤ S3x256x512.size a) ∧
  (∀ k0_t6 : Fin (k0_t6_loop v56 v58).trips, 8 ∣ (k0_mult45 v56 v58 k0_t6).toNat) ∧
  (∀ k0_t6 : Fin (k0_t6_loop v56 v58).trips, ∀ a, (k0_off156 v56 v58 k0_t6) a + S1x40x512.size a ≤ S3x256x512.size a)
def k0_chk7 (v56 : BitVec 32) (v58 : BitVec 32) : Prop :=
  k0_chk7_0 v56 v58 ∧
  k0_chk7_1 v56 v58 ∧
  k0_chk7_2 v56 v58
theorem k0_t5_ok : ∀ (v56 : BitVec 32) (v58 : BitVec 32) (k0_hw7 : k0_chk7 v56 v58), (k0_t5_loop v56 v58).OK := fun v56 v58 k0_hw7 => k0_hw7.1.1
theorem k0_off59_inb : ∀ (v56 : BitVec 32) (v58 : BitVec 32) (k0_hw7 : k0_chk7 v56 v58) (k0_t5 : Fin (k0_t5_loop v56 v58).trips), ∀ a, (k0_off59 v56 v58 k0_t5) a + S1.size a ≤ S19.size a := fun v56 v58 k0_hw7 k0_t5 => k0_hw7.1.2.1 k0_t5
theorem k0_off61_inb : ∀ (v56 : BitVec 32) (v58 : BitVec 32) (k0_hw7 : k0_chk7 v56 v58) (k0_t5 : Fin (k0_t5_loop v56 v58).trips), ∀ a, (k0_off61 v56 v58 k0_t5) a + S1.size a ≤ S8.size a := fun v56 v58 k0_hw7 k0_t5 => k0_hw7.1.2.2.1 k0_t5
theorem k0_off62_inb : ∀ (v56 : BitVec 32) (v58 : BitVec 32) (k0_hw7 : k0_chk7 v56 v58) (k0_t5 : Fin (k0_t5_loop v56 v58).trips), ∀ a, (k0_off62 v56 v58 k0_t5) a + S1x40x2048.size a ≤ S8x120x2048.size a := fun v56 v58 k0_hw7 k0_t5 => k0_hw7.1.2.2.2.1 k0_t5
theorem k0_off62_wordsbf16 : ∀ (v56 : BitVec 32) (v58 : BitVec 32) (k0_hw7 : k0_chk7 v56 v58) (k0_t5 : Fin (k0_t5_loop v56 v58).trips), (Rect.unit (s := S8x120x2048) (k0_off62 v56 v58 k0_t5) S1x40x2048.size (k0_off62_inb v56 v58 k0_hw7 k0_t5)).WholeWords (EltTy.packing .bf16) := fun v56 v58 k0_hw7 k0_t5 => k0_hw7.1.2.2.2.2.1 k0_t5 (k0_off62_inb v56 v58 k0_hw7 k0_t5)
theorem k0_off64_inb : ∀ (v56 : BitVec 32) (v58 : BitVec 32) (k0_hw7 : k0_chk7 v56 v58) (k0_t5 : Fin (k0_t5_loop v56 v58).trips), ∀ a, (k0_off64 v56 v58 k0_t5) a + S1.size a ≤ S19.size a := fun v56 v58 k0_hw7 k0_t5 => k0_hw7.1.2.2.2.2.2.1 k0_t5
theorem k0_off66_inb : ∀ (v56 : BitVec 32) (v58 : BitVec 32) (k0_hw7 : k0_chk7 v56 v58) (k0_t5 : Fin (k0_t5_loop v56 v58).trips), ∀ a, (k0_off66 v56 v58 k0_t5) a + S1.size a ≤ S8.size a := fun v56 v58 k0_hw7 k0_t5 => k0_hw7.1.2.2.2.2.2.2.1 k0_t5
theorem k0_off67_inb : ∀ (v56 : BitVec 32) (v58 : BitVec 32) (k0_hw7 : k0_chk7 v56 v58) (k0_t5 : Fin (k0_t5_loop v56 v58).trips), ∀ a, (k0_off67 v56 v58 k0_t5) a + S1x40x2048.size a ≤ S8x120x2048.size a := fun v56 v58 k0_hw7 k0_t5 => k0_hw7.1.2.2.2.2.2.2.2.1 k0_t5
theorem k0_off67_wordsbf16 : ∀ (v56 : BitVec 32) (v58 : BitVec 32) (k0_hw7 : k0_chk7 v56 v58) (k0_t5 : Fin (k0_t5_loop v56 v58).trips), (Rect.unit (s := S8x120x2048) (k0_off67 v56 v58 k0_t5) S1x40x2048.size (k0_off67_inb v56 v58 k0_hw7 k0_t5)).WholeWords (EltTy.packing .bf16) := fun v56 v58 k0_hw7 k0_t5 => k0_hw7.1.2.2.2.2.2.2.2.2.1 k0_t5 (k0_off67_inb v56 v58 k0_hw7 k0_t5)
theorem k0_off69_inb : ∀ (v56 : BitVec 32) (v58 : BitVec 32) (k0_hw7 : k0_chk7 v56 v58) (k0_t5 : Fin (k0_t5_loop v56 v58).trips), ∀ a, (k0_off69 v56 v58 k0_t5) a + S1.size a ≤ S19.size a := fun v56 v58 k0_hw7 k0_t5 => k0_hw7.1.2.2.2.2.2.2.2.2.2.1 k0_t5
theorem k0_off71_inb : ∀ (v56 : BitVec 32) (v58 : BitVec 32) (k0_hw7 : k0_chk7 v56 v58) (k0_t5 : Fin (k0_t5_loop v56 v58).trips), ∀ a, (k0_off71 v56 v58 k0_t5) a + S1.size a ≤ S8.size a := fun v56 v58 k0_hw7 k0_t5 => k0_hw7.1.2.2.2.2.2.2.2.2.2.2.1 k0_t5
theorem k0_off72_inb : ∀ (v56 : BitVec 32) (v58 : BitVec 32) (k0_hw7 : k0_chk7 v56 v58) (k0_t5 : Fin (k0_t5_loop v56 v58).trips), ∀ a, (k0_off72 v56 v58 k0_t5) a + S1x40x2048.size a ≤ S8x120x2048.size a := fun v56 v58 k0_hw7 k0_t5 => k0_hw7.1.2.2.2.2.2.2.2.2.2.2.2.1 k0_t5
theorem k0_off72_wordsbf16 : ∀ (v56 : BitVec 32) (v58 : BitVec 32) (k0_hw7 : k0_chk7 v56 v58) (k0_t5 : Fin (k0_t5_loop v56 v58).trips), (Rect.unit (s := S8x120x2048) (k0_off72 v56 v58 k0_t5) S1x40x2048.size (k0_off72_inb v56 v58 k0_hw7 k0_t5)).WholeWords (EltTy.packing .bf16) := fun v56 v58 k0_hw7 k0_t5 => k0_hw7.1.2.2.2.2.2.2.2.2.2.2.2.2.1 k0_t5 (k0_off72_inb v56 v58 k0_hw7 k0_t5)
theorem k0_off74_inb : ∀ (v56 : BitVec 32) (v58 : BitVec 32) (k0_hw7 : k0_chk7 v56 v58) (k0_t5 : Fin (k0_t5_loop v56 v58).trips), ∀ a, (k0_off74 v56 v58 k0_t5) a + S1.size a ≤ S19.size a := fun v56 v58 k0_hw7 k0_t5 => k0_hw7.1.2.2.2.2.2.2.2.2.2.2.2.2.2.1 k0_t5
theorem k0_off76_inb : ∀ (v56 : BitVec 32) (v58 : BitVec 32) (k0_hw7 : k0_chk7 v56 v58) (k0_t5 : Fin (k0_t5_loop v56 v58).trips), ∀ a, (k0_off76 v56 v58 k0_t5) a + S1.size a ≤ S8.size a := fun v56 v58 k0_hw7 k0_t5 => k0_hw7.1.2.2.2.2.2.2.2.2.2.2.2.2.2.2.1 k0_t5
theorem k0_off77_inb : ∀ (v56 : BitVec 32) (v58 : BitVec 32) (k0_hw7 : k0_chk7 v56 v58) (k0_t5 : Fin (k0_t5_loop v56 v58).trips), ∀ a, (k0_off77 v56 v58 k0_t5) a + S1x40x2048.size a ≤ S8x120x2048.size a := fun v56 v58 k0_hw7 k0_t5 => k0_hw7.1.2.2.2.2.2.2.2.2.2.2.2.2.2.2.2.1 k0_t5
theorem k0_off77_wordsbf16 : ∀ (v56 : BitVec 32) (v58 : BitVec 32) (k0_hw7 : k0_chk7 v56 v58) (k0_t5 : Fin (k0_t5_loop v56 v58).trips), (Rect.unit (s := S8x120x2048) (k0_off77 v56 v58 k0_t5) S1x40x2048.size (k0_off77_inb v56 v58 k0_hw7 k0_t5)).WholeWords (EltTy.packing .bf16) := fun v56 v58 k0_hw7 k0_t5 => k0_hw7.1.2.2.2.2.2.2.2.2.2.2.2.2.2.2.2.2.1 k0_t5 (k0_off77_inb v56 v58 k0_hw7 k0_t5)
theorem k0_off79_inb : ∀ (v56 : BitVec 32) (v58 : BitVec 32) (k0_hw7 : k0_chk7 v56 v58) (k0_t5 : Fin (k0_t5_loop v56 v58).trips), ∀ a, (k0_off79 v56 v58 k0_t5) a + S1.size a ≤ S19.size a := fun v56 v58 k0_hw7 k0_t5 => k0_hw7.1.2.2.2.2.2.2.2.2.2.2.2.2.2.2.2.2.2.1 k0_t5
theorem k0_off81_inb : ∀ (v56 : BitVec 32) (v58 : BitVec 32) (k0_hw7 : k0_chk7 v56 v58) (k0_t5 : Fin (k0_t5_loop v56 v58).trips), ∀ a, (k0_off81 v56 v58 k0_t5) a + S1.size a ≤ S8.size a := fun v56 v58 k0_hw7 k0_t5 => k0_hw7.1.2.2.2.2.2.2.2.2.2.2.2.2.2.2.2.2.2.2.1 k0_t5
theorem k0_off82_inb : ∀ (v56 : BitVec 32) (v58 : BitVec 32) (k0_hw7 : k0_chk7 v56 v58) (k0_t5 : Fin (k0_t5_loop v56 v58).trips), ∀ a, (k0_off82 v56 v58 k0_t5) a + S1x40x2048.size a ≤ S8x120x2048.size a := fun v56 v58 k0_hw7 k0_t5 => k0_hw7.1.2.2.2.2.2.2.2.2.2.2.2.2.2.2.2.2.2.2.2.1 k0_t5
theorem k0_off82_wordsbf16 : ∀ (v56 : BitVec 32) (v58 : BitVec 32) (k0_hw7 : k0_chk7 v56 v58) (k0_t5 : Fin (k0_t5_loop v56 v58).trips), (Rect.unit (s := S8x120x2048) (k0_off82 v56 v58 k0_t5) S1x40x2048.size (k0_off82_inb v56 v58 k0_hw7 k0_t5)).WholeWords (EltTy.packing .bf16) := fun v56 v58 k0_hw7 k0_t5 => k0_hw7.1.2.2.2.2.2.2.2.2.2.2.2.2.2.2.2.2.2.2.2.2.1 k0_t5 (k0_off82_inb v56 v58 k0_hw7 k0_t5)
theorem k0_off84_inb : ∀ (v56 : BitVec 32) (v58 : BitVec 32) (k0_hw7 : k0_chk7 v56 v58) (k0_t5 : Fin (k0_t5_loop v56 v58).trips), ∀ a, (k0_off84 v56 v58 k0_t5) a + S1.size a ≤ S19.size a := fun v56 v58 k0_hw7 k0_t5 => k0_hw7.1.2.2.2.2.2.2.2.2.2.2.2.2.2.2.2.2.2.2.2.2.2.1 k0_t5
theorem k0_off86_inb : ∀ (v56 : BitVec 32) (v58 : BitVec 32) (k0_hw7 : k0_chk7 v56 v58) (k0_t5 : Fin (k0_t5_loop v56 v58).trips), ∀ a, (k0_off86 v56 v58 k0_t5) a + S1.size a ≤ S8.size a := fun v56 v58 k0_hw7 k0_t5 => k0_hw7.1.2.2.2.2.2.2.2.2.2.2.2.2.2.2.2.2.2.2.2.2.2.2.1 k0_t5
theorem k0_off87_inb : ∀ (v56 : BitVec 32) (v58 : BitVec 32) (k0_hw7 : k0_chk7 v56 v58) (k0_t5 : Fin (k0_t5_loop v56 v58).trips), ∀ a, (k0_off87 v56 v58 k0_t5) a + S1x40x2048.size a ≤ S8x120x2048.size a := fun v56 v58 k0_hw7 k0_t5 => k0_hw7.1.2.2.2.2.2.2.2.2.2.2.2.2.2.2.2.2.2.2.2.2.2.2.2.1 k0_t5
theorem k0_off87_wordsbf16 : ∀ (v56 : BitVec 32) (v58 : BitVec 32) (k0_hw7 : k0_chk7 v56 v58) (k0_t5 : Fin (k0_t5_loop v56 v58).trips), (Rect.unit (s := S8x120x2048) (k0_off87 v56 v58 k0_t5) S1x40x2048.size (k0_off87_inb v56 v58 k0_hw7 k0_t5)).WholeWords (EltTy.packing .bf16) := fun v56 v58 k0_hw7 k0_t5 => k0_hw7.1.2.2.2.2.2.2.2.2.2.2.2.2.2.2.2.2.2.2.2.2.2.2.2.2.1 k0_t5 (k0_off87_inb v56 v58 k0_hw7 k0_t5)
theorem k0_off89_inb : ∀ (v56 : BitVec 32) (v58 : BitVec 32) (k0_hw7 : k0_chk7 v56 v58) (k0_t5 : Fin (k0_t5_loop v56 v58).trips), ∀ a, (k0_off89 v56 v58 k0_t5) a + S1.size a ≤ S19.size a := fun v56 v58 k0_hw7 k0_t5 => k0_hw7.1.2.2.2.2.2.2.2.2.2.2.2.2.2.2.2.2.2.2.2.2.2.2.2.2.2.1 k0_t5
theorem k0_off91_inb : ∀ (v56 : BitVec 32) (v58 : BitVec 32) (k0_hw7 : k0_chk7 v56 v58) (k0_t5 : Fin (k0_t5_loop v56 v58).trips), ∀ a, (k0_off91 v56 v58 k0_t5) a + S1.size a ≤ S19.size a := fun v56 v58 k0_hw7 k0_t5 => k0_hw7.1.2.2.2.2.2.2.2.2.2.2.2.2.2.2.2.2.2.2.2.2.2.2.2.2.2.2.1 k0_t5
theorem k0_off94_inb : ∀ (v56 : BitVec 32) (v58 : BitVec 32) (k0_hw7 : k0_chk7 v56 v58) (k0_t5 : Fin (k0_t5_loop v56 v58).trips), ∀ a, (k0_off94 v56 v58 k0_t5) a + S1x120x2048.size a ≤ S8x120x2048.size a := fun v56 v58 k0_hw7 k0_t5 => k0_hw7.1.2.2.2.2.2.2.2.2.2.2.2.2.2.2.2.2.2.2.2.2.2.2.2.2.2.2.2.1 k0_t5
theorem k0_off96_inb : ∀ (v56 : BitVec 32) (v58 : BitVec 32) (k0_hw7 : k0_chk7 v56 v58) (k0_t5 : Fin (k0_t5_loop v56 v58).trips), ∀ a, (k0_off96 v56 v58 k0_t5) a + S1.size a ≤ S20.size a := fun v56 v58 k0_hw7 k0_t5 => k0_hw7.1.2.2.2.2.2.2.2.2.2.2.2.2.2.2.2.2.2.2.2.2.2.2.2.2.2.2.2.2.1 k0_t5
theorem k0_off97_inb : ∀ (v56 : BitVec 32) (v58 : BitVec 32) (k0_hw7 : k0_chk7 v56 v58) (k0_t5 : Fin (k0_t5_loop v56 v58).trips), ∀ a, (k0_off97 v56 v58 k0_t5) a + S1.size a ≤ S20.size a := fun v56 v58 k0_hw7 k0_t5 => k0_hw7.1.2.2.2.2.2.2.2.2.2.2.2.2.2.2.2.2.2.2.2.2.2.2.2.2.2.2.2.2.2.1 k0_t5
theorem k0_mult34_dvd : ∀ (v56 : BitVec 32) (v58 : BitVec 32) (k0_hw7 : k0_chk7 v56 v58) (k0_t5 : Fin (k0_t5_loop v56 v58).trips), 8 ∣ (k0_mult34 v56 v58 k0_t5).toNat := fun v56 v58 k0_hw7 k0_t5 => k0_hw7.1.2.2.2.2.2.2.2.2.2.2.2.2.2.2.2.2.2.2.2.2.2.2.2.2.2.2.2.2.2.2.1 k0_t5
theorem k0_off99_inb : ∀ (v56 : BitVec 32) (v58 : BitVec 32) (k0_hw7 : k0_chk7 v56 v58) (k0_t5 : Fin (k0_t5_loop v56 v58).trips), ∀ a, (k0_off99 v56 v58 k0_t5) a + S1x40x512.size a ≤ S3x256x512.size a := fun v56 v58 k0_hw7 k0_t5 => k0_hw7.1.2.2.2.2.2.2.2.2.2.2.2.2.2.2.2.2.2.2.2.2.2.2.2.2.2.2.2.2.2.2.2 k0_t5
theorem k0_mult35_dvd : ∀ (v56 : BitVec 32) (v58 : BitVec 32) (k0_hw7 : k0_chk7 v56 v58) (k0_t5 : Fin (k0_t5_loop v56 v58).trips), 8 ∣ (k0_mult35 v56 v58 k0_t5).toNat := fun v56 v58 k0_hw7 k0_t5 => k0_hw7.2.1.1 k0_t5
theorem k0_off105_inb : ∀ (v56 : BitVec 32) (v58 : BitVec 32) (k0_hw7 : k0_chk7 v56 v58) (k0_t5 : Fin (k0_t5_loop v56 v58).trips), ∀ a, (k0_off105 v56 v58 k0_t5) a + S1x40x512.size a ≤ S3x256x512.size a := fun v56 v58 k0_hw7 k0_t5 => k0_hw7.2.1.2.1 k0_t5
theorem k0_mult36_dvd : ∀ (v56 : BitVec 32) (v58 : BitVec 32) (k0_hw7 : k0_chk7 v56 v58) (k0_t5 : Fin (k0_t5_loop v56 v58).trips), 8 ∣ (k0_mult36 v56 v58 k0_t5).toNat := fun v56 v58 k0_hw7 k0_t5 => k0_hw7.2.1.2.2.1 k0_t5
theorem k0_off107_inb : ∀ (v56 : BitVec 32) (v58 : BitVec 32) (k0_hw7 : k0_chk7 v56 v58) (k0_t5 : Fin (k0_t5_loop v56 v58).trips), ∀ a, (k0_off107 v56 v58 k0_t5) a + S1x40x512.size a ≤ S3x256x512.size a := fun v56 v58 k0_hw7 k0_t5 => k0_hw7.2.1.2.2.2.1 k0_t5
theorem k0_t6_ok : ∀ (v56 : BitVec 32) (v58 : BitVec 32) (k0_hw7 : k0_chk7 v56 v58), (k0_t6_loop v56 v58).OK := fun v56 v58 k0_hw7 => k0_hw7.2.1.2.2.2.2.1
theorem k0_off108_inb : ∀ (v56 : BitVec 32) (v58 : BitVec 32) (k0_hw7 : k0_chk7 v56 v58) (k0_t6 : Fin (k0_t6_loop v56 v58).trips), ∀ a, (k0_off108 v56 v58 k0_t6) a + S1.size a ≤ S19.size a := fun v56 v58 k0_hw7 k0_t6 => k0_hw7.2.1.2.2.2.2.2.1 k0_t6
theorem k0_off110_inb : ∀ (v56 : BitVec 32) (v58 : BitVec 32) (k0_hw7 : k0_chk7 v56 v58) (k0_t6 : Fin (k0_t6_loop v56 v58).trips), ∀ a, (k0_off110 v56 v58 k0_t6) a + S1.size a ≤ S8.size a := fun v56 v58 k0_hw7 k0_t6 => k0_hw7.2.1.2.2.2.2.2.2.1 k0_t6
theorem k0_off111_inb : ∀ (v56 : BitVec 32) (v58 : BitVec 32) (k0_hw7 : k0_chk7 v56 v58) (k0_t6 : Fin (k0_t6_loop v56 v58).trips), ∀ a, (k0_off111 v56 v58 k0_t6) a + S1x40x2048.size a ≤ S8x120x2048.size a := fun v56 v58 k0_hw7 k0_t6 => k0_hw7.2.1.2.2.2.2.2.2.2.1 k0_t6
theorem k0_off111_wordsbf16 : ∀ (v56 : BitVec 32) (v58 : BitVec 32) (k0_hw7 : k0_chk7 v56 v58) (k0_t6 : Fin (k0_t6_loop v56 v58).trips), (Rect.unit (s := S8x120x2048) (k0_off111 v56 v58 k0_t6) S1x40x2048.size (k0_off111_inb v56 v58 k0_hw7 k0_t6)).WholeWords (EltTy.packing .bf16) := fun v56 v58 k0_hw7 k0_t6 => k0_hw7.2.1.2.2.2.2.2.2.2.2.1 k0_t6 (k0_off111_inb v56 v58 k0_hw7 k0_t6)
theorem k0_off113_inb : ∀ (v56 : BitVec 32) (v58 : BitVec 32) (k0_hw7 : k0_chk7 v56 v58) (k0_t6 : Fin (k0_t6_loop v56 v58).trips), ∀ a, (k0_off113 v56 v58 k0_t6) a + S1.size a ≤ S19.size a := fun v56 v58 k0_hw7 k0_t6 => k0_hw7.2.1.2.2.2.2.2.2.2.2.2.1 k0_t6
theorem k0_off115_inb : ∀ (v56 : BitVec 32) (v58 : BitVec 32) (k0_hw7 : k0_chk7 v56 v58) (k0_t6 : Fin (k0_t6_loop v56 v58).trips), ∀ a, (k0_off115 v56 v58 k0_t6) a + S1.size a ≤ S8.size a := fun v56 v58 k0_hw7 k0_t6 => k0_hw7.2.1.2.2.2.2.2.2.2.2.2.2.1 k0_t6
theorem k0_off116_inb : ∀ (v56 : BitVec 32) (v58 : BitVec 32) (k0_hw7 : k0_chk7 v56 v58) (k0_t6 : Fin (k0_t6_loop v56 v58).trips), ∀ a, (k0_off116 v56 v58 k0_t6) a + S1x40x2048.size a ≤ S8x120x2048.size a := fun v56 v58 k0_hw7 k0_t6 => k0_hw7.2.1.2.2.2.2.2.2.2.2.2.2.2.1 k0_t6
theorem k0_off116_wordsbf16 : ∀ (v56 : BitVec 32) (v58 : BitVec 32) (k0_hw7 : k0_chk7 v56 v58) (k0_t6 : Fin (k0_t6_loop v56 v58).trips), (Rect.unit (s := S8x120x2048) (k0_off116 v56 v58 k0_t6) S1x40x2048.size (k0_off116_inb v56 v58 k0_hw7 k0_t6)).WholeWords (EltTy.packing .bf16) := fun v56 v58 k0_hw7 k0_t6 => k0_hw7.2.1.2.2.2.2.2.2.2.2.2.2.2.2.1 k0_t6 (k0_off116_inb v56 v58 k0_hw7 k0_t6)
theorem k0_off118_inb : ∀ (v56 : BitVec 32) (v58 : BitVec 32) (k0_hw7 : k0_chk7 v56 v58) (k0_t6 : Fin (k0_t6_loop v56 v58).trips), ∀ a, (k0_off118 v56 v58 k0_t6) a + S1.size a ≤ S19.size a := fun v56 v58 k0_hw7 k0_t6 => k0_hw7.2.1.2.2.2.2.2.2.2.2.2.2.2.2.2.1 k0_t6
theorem k0_off120_inb : ∀ (v56 : BitVec 32) (v58 : BitVec 32) (k0_hw7 : k0_chk7 v56 v58) (k0_t6 : Fin (k0_t6_loop v56 v58).trips), ∀ a, (k0_off120 v56 v58 k0_t6) a + S1.size a ≤ S8.size a := fun v56 v58 k0_hw7 k0_t6 => k0_hw7.2.1.2.2.2.2.2.2.2.2.2.2.2.2.2.2.1 k0_t6
theorem k0_off121_inb : ∀ (v56 : BitVec 32) (v58 : BitVec 32) (k0_hw7 : k0_chk7 v56 v58) (k0_t6 : Fin (k0_t6_loop v56 v58).trips), ∀ a, (k0_off121 v56 v58 k0_t6) a + S1x40x2048.size a ≤ S8x120x2048.size a := fun v56 v58 k0_hw7 k0_t6 => k0_hw7.2.1.2.2.2.2.2.2.2.2.2.2.2.2.2.2.2.1 k0_t6
theorem k0_off121_wordsbf16 : ∀ (v56 : BitVec 32) (v58 : BitVec 32) (k0_hw7 : k0_chk7 v56 v58) (k0_t6 : Fin (k0_t6_loop v56 v58).trips), (Rect.unit (s := S8x120x2048) (k0_off121 v56 v58 k0_t6) S1x40x2048.size (k0_off121_inb v56 v58 k0_hw7 k0_t6)).WholeWords (EltTy.packing .bf16) := fun v56 v58 k0_hw7 k0_t6 => k0_hw7.2.1.2.2.2.2.2.2.2.2.2.2.2.2.2.2.2.2.1 k0_t6 (k0_off121_inb v56 v58 k0_hw7 k0_t6)
theorem k0_off123_inb : ∀ (v56 : BitVec 32) (v58 : BitVec 32) (k0_hw7 : k0_chk7 v56 v58) (k0_t6 : Fin (k0_t6_loop v56 v58).trips), ∀ a, (k0_off123 v56 v58 k0_t6) a + S1.size a ≤ S19.size a := fun v56 v58 k0_hw7 k0_t6 => k0_hw7.2.1.2.2.2.2.2.2.2.2.2.2.2.2.2.2.2.2.2.1 k0_t6
theorem k0_off125_inb : ∀ (v56 : BitVec 32) (v58 : BitVec 32) (k0_hw7 : k0_chk7 v56 v58) (k0_t6 : Fin (k0_t6_loop v56 v58).trips), ∀ a, (k0_off125 v56 v58 k0_t6) a + S1.size a ≤ S8.size a := fun v56 v58 k0_hw7 k0_t6 => k0_hw7.2.1.2.2.2.2.2.2.2.2.2.2.2.2.2.2.2.2.2.2.1 k0_t6
theorem k0_off126_inb : ∀ (v56 : BitVec 32) (v58 : BitVec 32) (k0_hw7 : k0_chk7 v56 v58) (k0_t6 : Fin (k0_t6_loop v56 v58).trips), ∀ a, (k0_off126 v56 v58 k0_t6) a + S1x40x2048.size a ≤ S8x120x2048.size a := fun v56 v58 k0_hw7 k0_t6 => k0_hw7.2.1.2.2.2.2.2.2.2.2.2.2.2.2.2.2.2.2.2.2.2.1 k0_t6
theorem k0_off126_wordsbf16 : ∀ (v56 : BitVec 32) (v58 : BitVec 32) (k0_hw7 : k0_chk7 v56 v58) (k0_t6 : Fin (k0_t6_loop v56 v58).trips), (Rect.unit (s := S8x120x2048) (k0_off126 v56 v58 k0_t6) S1x40x2048.size (k0_off126_inb v56 v58 k0_hw7 k0_t6)).WholeWords (EltTy.packing .bf16) := fun v56 v58 k0_hw7 k0_t6 => k0_hw7.2.1.2.2.2.2.2.2.2.2.2.2.2.2.2.2.2.2.2.2.2.2.1 k0_t6 (k0_off126_inb v56 v58 k0_hw7 k0_t6)
theorem k0_off128_inb : ∀ (v56 : BitVec 32) (v58 : BitVec 32) (k0_hw7 : k0_chk7 v56 v58) (k0_t6 : Fin (k0_t6_loop v56 v58).trips), ∀ a, (k0_off128 v56 v58 k0_t6) a + S1.size a ≤ S19.size a := fun v56 v58 k0_hw7 k0_t6 => k0_hw7.2.1.2.2.2.2.2.2.2.2.2.2.2.2.2.2.2.2.2.2.2.2.2.1 k0_t6
theorem k0_off130_inb : ∀ (v56 : BitVec 32) (v58 : BitVec 32) (k0_hw7 : k0_chk7 v56 v58) (k0_t6 : Fin (k0_t6_loop v56 v58).trips), ∀ a, (k0_off130 v56 v58 k0_t6) a + S1.size a ≤ S8.size a := fun v56 v58 k0_hw7 k0_t6 => k0_hw7.2.1.2.2.2.2.2.2.2.2.2.2.2.2.2.2.2.2.2.2.2.2.2.2.1 k0_t6
theorem k0_off131_inb : ∀ (v56 : BitVec 32) (v58 : BitVec 32) (k0_hw7 : k0_chk7 v56 v58) (k0_t6 : Fin (k0_t6_loop v56 v58).trips), ∀ a, (k0_off131 v56 v58 k0_t6) a + S1x40x2048.size a ≤ S8x120x2048.size a := fun v56 v58 k0_hw7 k0_t6 => k0_hw7.2.1.2.2.2.2.2.2.2.2.2.2.2.2.2.2.2.2.2.2.2.2.2.2.2.1 k0_t6
theorem k0_off131_wordsbf16 : ∀ (v56 : BitVec 32) (v58 : BitVec 32) (k0_hw7 : k0_chk7 v56 v58) (k0_t6 : Fin (k0_t6_loop v56 v58).trips), (Rect.unit (s := S8x120x2048) (k0_off131 v56 v58 k0_t6) S1x40x2048.size (k0_off131_inb v56 v58 k0_hw7 k0_t6)).WholeWords (EltTy.packing .bf16) := fun v56 v58 k0_hw7 k0_t6 => k0_hw7.2.1.2.2.2.2.2.2.2.2.2.2.2.2.2.2.2.2.2.2.2.2.2.2.2.2.1 k0_t6 (k0_off131_inb v56 v58 k0_hw7 k0_t6)
theorem k0_off133_inb : ∀ (v56 : BitVec 32) (v58 : BitVec 32) (k0_hw7 : k0_chk7 v56 v58) (k0_t6 : Fin (k0_t6_loop v56 v58).trips), ∀ a, (k0_off133 v56 v58 k0_t6) a + S1.size a ≤ S19.size a := fun v56 v58 k0_hw7 k0_t6 => k0_hw7.2.1.2.2.2.2.2.2.2.2.2.2.2.2.2.2.2.2.2.2.2.2.2.2.2.2.2.1 k0_t6
theorem k0_off135_inb : ∀ (v56 : BitVec 32) (v58 : BitVec 32) (k0_hw7 : k0_chk7 v56 v58) (k0_t6 : Fin (k0_t6_loop v56 v58).trips), ∀ a, (k0_off135 v56 v58 k0_t6) a + S1.size a ≤ S8.size a := fun v56 v58 k0_hw7 k0_t6 => k0_hw7.2.1.2.2.2.2.2.2.2.2.2.2.2.2.2.2.2.2.2.2.2.2.2.2.2.2.2.2.1 k0_t6
theorem k0_off136_inb : ∀ (v56 : BitVec 32) (v58 : BitVec 32) (k0_hw7 : k0_chk7 v56 v58) (k0_t6 : Fin (k0_t6_loop v56 v58).trips), ∀ a, (k0_off136 v56 v58 k0_t6) a + S1x40x2048.size a ≤ S8x120x2048.size a := fun v56 v58 k0_hw7 k0_t6 => k0_hw7.2.1.2.2.2.2.2.2.2.2.2.2.2.2.2.2.2.2.2.2.2.2.2.2.2.2.2.2.2.1 k0_t6
theorem k0_off136_wordsbf16 : ∀ (v56 : BitVec 32) (v58 : BitVec 32) (k0_hw7 : k0_chk7 v56 v58) (k0_t6 : Fin (k0_t6_loop v56 v58).trips), (Rect.unit (s := S8x120x2048) (k0_off136 v56 v58 k0_t6) S1x40x2048.size (k0_off136_inb v56 v58 k0_hw7 k0_t6)).WholeWords (EltTy.packing .bf16) := fun v56 v58 k0_hw7 k0_t6 => k0_hw7.2.1.2.2.2.2.2.2.2.2.2.2.2.2.2.2.2.2.2.2.2.2.2.2.2.2.2.2.2.2.1 k0_t6 (k0_off136_inb v56 v58 k0_hw7 k0_t6)
theorem k0_off138_inb : ∀ (v56 : BitVec 32) (v58 : BitVec 32) (k0_hw7 : k0_chk7 v56 v58) (k0_t6 : Fin (k0_t6_loop v56 v58).trips), ∀ a, (k0_off138 v56 v58 k0_t6) a + S1.size a ≤ S19.size a := fun v56 v58 k0_hw7 k0_t6 => k0_hw7.2.1.2.2.2.2.2.2.2.2.2.2.2.2.2.2.2.2.2.2.2.2.2.2.2.2.2.2.2.2.2.1 k0_t6
theorem k0_off140_inb : ∀ (v56 : BitVec 32) (v58 : BitVec 32) (k0_hw7 : k0_chk7 v56 v58) (k0_t6 : Fin (k0_t6_loop v56 v58).trips), ∀ a, (k0_off140 v56 v58 k0_t6) a + S1.size a ≤ S19.size a := fun v56 v58 k0_hw7 k0_t6 => k0_hw7.2.1.2.2.2.2.2.2.2.2.2.2.2.2.2.2.2.2.2.2.2.2.2.2.2.2.2.2.2.2.2.2.1 k0_t6
theorem k0_off143_inb : ∀ (v56 : BitVec 32) (v58 : BitVec 32) (k0_hw7 : k0_chk7 v56 v58) (k0_t6 : Fin (k0_t6_loop v56 v58).trips), ∀ a, (k0_off143 v56 v58 k0_t6) a + S1x120x2048.size a ≤ S8x120x2048.size a := fun v56 v58 k0_hw7 k0_t6 => k0_hw7.2.1.2.2.2.2.2.2.2.2.2.2.2.2.2.2.2.2.2.2.2.2.2.2.2.2.2.2.2.2.2.2.2 k0_t6
theorem k0_off145_inb : ∀ (v56 : BitVec 32) (v58 : BitVec 32) (k0_hw7 : k0_chk7 v56 v58) (k0_t6 : Fin (k0_t6_loop v56 v58).trips), ∀ a, (k0_off145 v56 v58 k0_t6) a + S1.size a ≤ S20.size a := fun v56 v58 k0_hw7 k0_t6 => k0_hw7.2.2.1 k0_t6
theorem k0_off146_inb : ∀ (v56 : BitVec 32) (v58 : BitVec 32) (k0_hw7 : k0_chk7 v56 v58) (k0_t6 : Fin (k0_t6_loop v56 v58).trips), ∀ a, (k0_off146 v56 v58 k0_t6) a + S1.size a ≤ S20.size a := fun v56 v58 k0_hw7 k0_t6 => k0_hw7.2.2.2.1 k0_t6
theorem k0_mult43_dvd : ∀ (v56 : BitVec 32) (v58 : BitVec 32) (k0_hw7 : k0_chk7 v56 v58) (k0_t6 : Fin (k0_t6_loop v56 v58).trips), 8 ∣ (k0_mult43 v56 v58 k0_t6).toNat := fun v56 v58 k0_hw7 k0_t6 => k0_hw7.2.2.2.2.1 k0_t6
theorem k0_off148_inb : ∀ (v56 : BitVec 32) (v58 : BitVec 32) (k0_hw7 : k0_chk7 v56 v58) (k0_t6 : Fin (k0_t6_loop v56 v58).trips), ∀ a, (k0_off148 v56 v58 k0_t6) a + S1x40x512.size a ≤ S3x256x512.size a := fun v56 v58 k0_hw7 k0_t6 => k0_hw7.2.2.2.2.2.1 k0_t6
theorem k0_mult44_dvd : ∀ (v56 : BitVec 32) (v58 : BitVec 32) (k0_hw7 : k0_chk7 v56 v58) (k0_t6 : Fin (k0_t6_loop v56 v58).trips), 8 ∣ (k0_mult44 v56 v58 k0_t6).toNat := fun v56 v58 k0_hw7 k0_t6 => k0_hw7.2.2.2.2.2.2.1 k0_t6
theorem k0_off154_inb : ∀ (v56 : BitVec 32) (v58 : BitVec 32) (k0_hw7 : k0_chk7 v56 v58) (k0_t6 : Fin (k0_t6_loop v56 v58).trips), ∀ a, (k0_off154 v56 v58 k0_t6) a + S1x40x512.size a ≤ S3x256x512.size a := fun v56 v58 k0_hw7 k0_t6 => k0_hw7.2.2.2.2.2.2.2.1 k0_t6
theorem k0_mult45_dvd : ∀ (v56 : BitVec 32) (v58 : BitVec 32) (k0_hw7 : k0_chk7 v56 v58) (k0_t6 : Fin (k0_t6_loop v56 v58).trips), 8 ∣ (k0_mult45 v56 v58 k0_t6).toNat := fun v56 v58 k0_hw7 k0_t6 => k0_hw7.2.2.2.2.2.2.2.2.1 k0_t6
theorem k0_off156_inb : ∀ (v56 : BitVec 32) (v58 : BitVec 32) (k0_hw7 : k0_chk7 v56 v58) (k0_t6 : Fin (k0_t6_loop v56 v58).trips), ∀ a, (k0_off156 v56 v58 k0_t6) a + S1x40x512.size a ≤ S3x256x512.size a := fun v56 v58 k0_hw7 k0_t6 => k0_hw7.2.2.2.2.2.2.2.2.2 k0_t6

def k0_mult46 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c512_i32_78 : BitVec 32 := 512#32
  let v105 : BitVec 32 := Scalar.muli arg30 c512_i32_78
  v105
def k0_off157 (k0_t4 : Fin k0_t4_loop.trips) : Fin 3 → Nat :=
  let c0_i32_79 : BitVec 32 := 0#32
  let c0_i32_80 : BitVec 32 := 0#32
  let c0_i32_21 : BitVec 32 := 0#32
  let c1_i32_22 : BitVec 32 := 1#32
  let arg30 : BitVec 32 := Scf.iv c0_i32_21 c1_i32_22 k0_t4
  let c512_i32_78 : BitVec 32 := 512#32
  let v105 : BitVec 32 := Scalar.muli arg30 c512_i32_78
  let v106 : BitVec 32 := v105
  ![0, 0, v106.toNat]
@[reducible] def k0_t7_loop : Scf.Loop 32 :=
  let c0_i32_97 : BitVec 32 := 0#32
  let c16_i32_98 : BitVec 32 := 16#32
  let v129 : BitVec 32 := Scalar.addi c0_i32_97 c16_i32_98
  let c1_i32_99 : BitVec 32 := 1#32
  ⟨c0_i32_97, v129, c1_i32_99⟩
def k0_off158 (k0_t4 : Fin k0_t4_loop.trips) : Fin 3 → Nat :=
  let c0_i32_21 : BitVec 32 := 0#32
  let c1_i32_22 : BitVec 32 := 1#32
  let arg30 : BitVec 32 := Scf.iv c0_i32_21 c1_i32_22 k0_t4
  let c2_i32_105 : BitVec 32 := 2#32
  let c0_i32_106 : BitVec 32 := 0#32
  let v135 : BitVec 1 := Scalar.cmpi .eq c2_i32_105 c0_i32_106
  let c1_i32_107 : BitVec 32 := 1#32
  let v136 : BitVec 32 := Scalar.select v135 c1_i32_107 c2_i32_105
  let v137 : BitVec 32 := Scalar.remsi arg30 v136
  let c0_i32_109 : BitVec 32 := 0#32
  let v139 : BitVec 1 := Scalar.cmpi .slt v137 c0_i32_109
  let c0_i32_110 : BitVec 32 := 0#32
  let v140 : BitVec 1 := Scalar.cmpi .slt v136 c0_i32_110
  let v141 : BitVec 1 := Scalar.xori v139 v140
  let c0_i32_108 : BitVec 32 := 0#32
  let v138 : BitVec 1 := Scalar.cmpi .ne v137 c0_i32_108
  let v142 : BitVec 1 := Scalar.andi v141 v138
  let v143 : BitVec 32 := Scalar.addi v137 v136
  let v144 : BitVec 32 := Scalar.select v142 v143 v137
  let v145 : Index := Scalar.indexCast v144
  let c0_111 : Index := 0#32
  let c0_112 : Index := 0#32
  ![v145.toNat, 0, 0]
def k0_off159 (k0_t7 : Fin k0_t7_loop.trips) : Fin 3 → Nat :=
  let c0_i32_97 : BitVec 32 := 0#32
  let c1_i32_99 : BitVec 32 := 1#32
  let arg32 : BitVec 32 := Scf.iv c0_i32_97 c1_i32_99 k0_t7
  let v148 : Index := Scalar.indexCast arg32
  let c0_113 : Index := 0#32
  let c0_114 : Index := 0#32
  ![v148.toNat, 0, 0]
def k0_off160 (k0_t7 : Fin k0_t7_loop.trips) : Fin 3 → Nat :=
  let c0_i32_97 : BitVec 32 := 0#32
  let c1_i32_99 : BitVec 32 := 1#32
  let arg32 : BitVec 32 := Scf.iv c0_i32_97 c1_i32_99 k0_t7
  let c8_i32 : BitVec 32 := 8#32
  let v130 : BitVec 1 := Scalar.cmpi .sge arg32 c8_i32
  let c1_i32_101 : BitVec 32 := 1#32
  let c0_i32_102 : BitVec 32 := 0#32
  let v131 : BitVec 32 := Scalar.select v130 c1_i32_101 c0_i32_102
  let c12_i32 : BitVec 32 := 12#32
  let v132 : BitVec 1 := Scalar.cmpi .sge arg32 c12_i32
  let c1_i32_103 : BitVec 32 := 1#32
  let c0_i32_104 : BitVec 32 := 0#32
  let v133 : BitVec 32 := Scalar.select v132 c1_i32_103 c0_i32_104
  let v134 : BitVec 32 := Scalar.addi v131 v133
  let v152 : Index := Scalar.indexCast v134
  let c0_116 : Index := 0#32
  let c0_117 : Index := 0#32
  ![v152.toNat, 0, 0]
def k0_mult47 (v56 : BitVec 32) : BitVec 32 :=
  let c13_i32 : BitVec 32 := 13#32
  let v59 : BitVec 32 := Scalar.minsi v56 c13_i32
  let c40_i32 : BitVec 32 := 40#32
  let v155 : BitVec 32 := Scalar.muli v59 c40_i32
  v155

def k0_mult48 (k0_t7 : Fin k0_t7_loop.trips) : BitVec 32 :=
  let c0_i32_97 : BitVec 32 := 0#32
  let c1_i32_99 : BitVec 32 := 1#32
  let arg32 : BitVec 32 := Scf.iv c0_i32_97 c1_i32_99 k0_t7
  let c512_i32_118 : BitVec 32 := 512#32
  let v157 : BitVec 32 := Scalar.muli arg32 c512_i32_118
  v157
def k0_off161 (v56 : BitVec 32) (k0_t7 : Fin k0_t7_loop.trips) : Fin 2 → Nat :=
  let c13_i32 : BitVec 32 := 13#32
  let v59 : BitVec 32 := Scalar.minsi v56 c13_i32
  let c40_i32 : BitVec 32 := 40#32
  let v155 : BitVec 32 := Scalar.muli v59 c40_i32
  let v156 : BitVec 32 := v155
  let v159 : Index := Scalar.indexCast v156
  let c0_i32_97 : BitVec 32 := 0#32
  let c1_i32_99 : BitVec 32 := 1#32
  let arg32 : BitVec 32 := Scf.iv c0_i32_97 c1_i32_99 k0_t7
  let c512_i32_118 : BitVec 32 := 512#32
  let v157 : BitVec 32 := Scalar.muli arg32 c512_i32_118
  let v158 : BitVec 32 := v157
  let v160 : Index := Scalar.indexCast v158
  ![v159.toNat, v160.toNat]

def k0_chk38 (v56 : BitVec 32) : Prop :=
  (8 ∣ (k0_mult47 v56).toNat) ∧
  (∀ k0_t7 : Fin k0_t7_loop.trips, ∀ a, (k0_off161 v56 k0_t7) a + S256x512.size a ≤ S776x8192.size a)
theorem k0_mult47_dvd : ∀ (v56 : BitVec 32) (k0_hw38 : k0_chk38 v56), 8 ∣ (k0_mult47 v56).toNat := fun v56 k0_hw38 => k0_hw38.1
theorem k0_off161_inb : ∀ (v56 : BitVec 32) (k0_hw38 : k0_chk38 v56) (k0_t7 : Fin k0_t7_loop.trips), ∀ a, (k0_off161 v56 k0_t7) a + S256x512.size a ≤ S776x8192.size a := fun v56 k0_hw38 k0_t7 => k0_hw38.2 k0_t7

def k0_cond4 (k0_t4 : Fin k0_t4_loop.trips) (k0_t7 : Fin k0_t7_loop.trips) : BitVec 1 :=
  let c0_i32_21 : BitVec 32 := 0#32
  let c1_i32_22 : BitVec 32 := 1#32
  let arg30 : BitVec 32 := Scf.iv c0_i32_21 c1_i32_22 k0_t4
  let c0_i32_120 : BitVec 32 := 0#32
  let v164 : BitVec 1 := Scalar.cmpi .sgt arg30 c0_i32_120
  let c0_i32_97 : BitVec 32 := 0#32
  let c1_i32_99 : BitVec 32 := 1#32
  let arg32 : BitVec 32 := Scf.iv c0_i32_97 c1_i32_99 k0_t7
  let c4_i32 : BitVec 32 := 4#32
  let v165 : BitVec 1 := Scalar.cmpi .sge arg32 c4_i32
  let v166 : BitVec 1 := Scalar.ori v164 v165
  let v167 : BitVec 32 := Scalar.extui v166
  let c0_i32_121 : BitVec 32 := 0#32
  let v168 : BitVec 1 := Scalar.cmpi .ne v167 c0_i32_121
  v168

def k0_mult49 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c512_i32_152 : BitVec 32 := 512#32
  let v223 : BitVec 32 := Scalar.muli arg30 c512_i32_152
  v223
def k0_mult50 (k0_t7 : Fin k0_t7_loop.trips) : BitVec 32 :=
  let c0_i32_97 : BitVec 32 := 0#32
  let c1_i32_99 : BitVec 32 := 1#32
  let arg32 : BitVec 32 := Scf.iv c0_i32_97 c1_i32_99 k0_t7
  let c512_i32_153 : BitVec 32 := 512#32
  let v225 : BitVec 32 := Scalar.muli arg32 c512_i32_153
  v225
def k0_off162 (k0_t7 : Fin k0_t7_loop.trips) : Fin 1 → Nat :=
  let c0_i32_97 : BitVec 32 := 0#32
  let c1_i32_99 : BitVec 32 := 1#32
  let arg32 : BitVec 32 := Scf.iv c0_i32_97 c1_i32_99 k0_t7
  let c4_i32_154 : BitVec 32 := 4#32
  let c0_i32_155 : BitVec 32 := 0#32
  let v227 : BitVec 1 := Scalar.cmpi .eq c4_i32_154 c0_i32_155
  let c1_i32_156 : BitVec 32 := 1#32
  let v228 : BitVec 32 := Scalar.select v227 c1_i32_156 c4_i32_154
  let v229 : BitVec 32 := Scalar.remsi arg32 v228
  let c0_i32_158 : BitVec 32 := 0#32
  let v231 : BitVec 1 := Scalar.cmpi .slt v229 c0_i32_158
  let c0_i32_159 : BitVec 32 := 0#32
  let v232 : BitVec 1 := Scalar.cmpi .slt v228 c0_i32_159
  let v233 : BitVec 1 := Scalar.xori v231 v232
  let c0_i32_157 : BitVec 32 := 0#32
  let v230 : BitVec 1 := Scalar.cmpi .ne v229 c0_i32_157
  let v234 : BitVec 1 := Scalar.andi v233 v230
  let v235 : BitVec 32 := Scalar.addi v229 v228
  let v236 : BitVec 32 := Scalar.select v234 v235 v229
  ![v236.toNat]
def k0_off163 (k0_t4 : Fin k0_t4_loop.trips) (k0_t7 : Fin k0_t7_loop.trips) : Fin 2 → Nat :=
  let c0_i32_21 : BitVec 32 := 0#32
  let c1_i32_22 : BitVec 32 := 1#32
  let arg30 : BitVec 32 := Scf.iv c0_i32_21 c1_i32_22 k0_t4
  let c512_i32_152 : BitVec 32 := 512#32
  let v223 : BitVec 32 := Scalar.muli arg30 c512_i32_152
  let v224 : BitVec 32 := v223
  let c0_i32_97 : BitVec 32 := 0#32
  let c1_i32_99 : BitVec 32 := 1#32
  let arg32 : BitVec 32 := Scf.iv c0_i32_97 c1_i32_99 k0_t7
  let c512_i32_153 : BitVec 32 := 512#32
  let v225 : BitVec 32 := Scalar.muli arg32 c512_i32_153
  let v226 : BitVec 32 := v225
  ![v224.toNat, v226.toNat]
def k0_off164 (k0_t7 : Fin k0_t7_loop.trips) : Fin 3 → Nat :=
  let c0_i32_97 : BitVec 32 := 0#32
  let c1_i32_99 : BitVec 32 := 1#32
  let arg32 : BitVec 32 := Scf.iv c0_i32_97 c1_i32_99 k0_t7
  let c4_i32_146 : BitVec 32 := 4#32
  let c0_i32_147 : BitVec 32 := 0#32
  let v213 : BitVec 1 := Scalar.cmpi .eq c4_i32_146 c0_i32_147
  let c1_i32_148 : BitVec 32 := 1#32
  let v214 : BitVec 32 := Scalar.select v213 c1_i32_148 c4_i32_146
  let v215 : BitVec 32 := Scalar.remsi arg32 v214
  let c0_i32_150 : BitVec 32 := 0#32
  let v217 : BitVec 1 := Scalar.cmpi .slt v215 c0_i32_150
  let c0_i32_151 : BitVec 32 := 0#32
  let v218 : BitVec 1 := Scalar.cmpi .slt v214 c0_i32_151
  let v219 : BitVec 1 := Scalar.xori v217 v218
  let c0_i32_149 : BitVec 32 := 0#32
  let v216 : BitVec 1 := Scalar.cmpi .ne v215 c0_i32_149
  let v220 : BitVec 1 := Scalar.andi v219 v216
  let v221 : BitVec 32 := Scalar.addi v215 v214
  let v222 : BitVec 32 := Scalar.select v220 v221 v215
  let c0_i32_160 : BitVec 32 := 0#32
  let c0_i32_161 : BitVec 32 := 0#32
  ![v222.toNat, 0, 0]
def k0_off165 (k0_t7 : Fin k0_t7_loop.trips) : Fin 3 → Nat :=
  let c0_i32_97 : BitVec 32 := 0#32
  let c1_i32_99 : BitVec 32 := 1#32
  let arg32 : BitVec 32 := Scf.iv c0_i32_97 c1_i32_99 k0_t7
  let c4_i32_122 : BitVec 32 := 4#32
  let c0_i32_123 : BitVec 32 := 0#32
  let v170 : BitVec 1 := Scalar.cmpi .eq c4_i32_122 c0_i32_123
  let c1_i32_124 : BitVec 32 := 1#32
  let v171 : BitVec 32 := Scalar.select v170 c1_i32_124 c4_i32_122
  let v172 : BitVec 32 := Scalar.remsi arg32 v171
  let c0_i32_126 : BitVec 32 := 0#32
  let v174 : BitVec 1 := Scalar.cmpi .slt v172 c0_i32_126
  let c0_i32_127 : BitVec 32 := 0#32
  let v175 : BitVec 1 := Scalar.cmpi .slt v171 c0_i32_127
  let v176 : BitVec 1 := Scalar.xori v174 v175
  let c0_i32_125 : BitVec 32 := 0#32
  let v173 : BitVec 1 := Scalar.cmpi .ne v172 c0_i32_125
  let v177 : BitVec 1 := Scalar.andi v176 v173
  let v178 : BitVec 32 := Scalar.addi v172 v171
  let v179 : BitVec 32 := Scalar.select v177 v178 v172
  let v180 : Index := Scalar.indexCast v179
  let c0_128 : Index := 0#32
  let c0_129 : Index := 0#32
  ![v180.toNat, 0, 0]
def k0_mult51 (k0_t4 : Fin k0_t4_loop.trips) : BitVec 32 :=
  let c0_i32_21 : BitVec 32 := 0#32
  let c1_i32_22 : BitVec 32 := 1#32
  let arg30 : BitVec 32 := Scf.iv c0_i32_21 c1_i32_22 k0_t4
  let c512_i32_136 : BitVec 32 := 512#32
  let v194 : BitVec 32 := Scalar.muli arg30 c512_i32_136
  v194
def k0_mult52 (k0_t7 : Fin k0_t7_loop.trips) : BitVec 32 :=
  let c0_i32_97 : BitVec 32 := 0#32
  let c1_i32_99 : BitVec 32 := 1#32
  let arg32 : BitVec 32 := Scf.iv c0_i32_97 c1_i32_99 k0_t7
  let c512_i32_137 : BitVec 32 := 512#32
  let v196 : BitVec 32 := Scalar.muli arg32 c512_i32_137
  v196
def k0_off166 (k0_t7 : Fin k0_t7_loop.trips) : Fin 1 → Nat :=
  let c0_i32_97 : BitVec 32 := 0#32
  let c1_i32_99 : BitVec 32 := 1#32
  let arg32 : BitVec 32 := Scf.iv c0_i32_97 c1_i32_99 k0_t7
  let c4_i32_138 : BitVec 32 := 4#32
  let c0_i32_139 : BitVec 32 := 0#32
  let v198 : BitVec 1 := Scalar.cmpi .eq c4_i32_138 c0_i32_139
  let c1_i32_140 : BitVec 32 := 1#32
  let v199 : BitVec 32 := Scalar.select v198 c1_i32_140 c4_i32_138
  let v200 : BitVec 32 := Scalar.remsi arg32 v199
  let c0_i32_142 : BitVec 32 := 0#32
  let v202 : BitVec 1 := Scalar.cmpi .slt v200 c0_i32_142
  let c0_i32_143 : BitVec 32 := 0#32
  let v203 : BitVec 1 := Scalar.cmpi .slt v199 c0_i32_143
  let v204 : BitVec 1 := Scalar.xori v202 v203
  let c0_i32_141 : BitVec 32 := 0#32
  let v201 : BitVec 1 := Scalar.cmpi .ne v200 c0_i32_141
  let v205 : BitVec 1 := Scalar.andi v204 v201
  let v206 : BitVec 32 := Scalar.addi v200 v199
  let v207 : BitVec 32 := Scalar.select v205 v206 v200
  ![v207.toNat]
def k0_off167 (k0_t4 : Fin k0_t4_loop.trips) (k0_t7 : Fin k0_t7_loop.trips) : Fin 2 → Nat :=
  let c0_i32_21 : BitVec 32 := 0#32
  let c1_i32_22 : BitVec 32 := 1#32
  let arg30 : BitVec 32 := Scf.iv c0_i32_21 c1_i32_22 k0_t4
  let c512_i32_136 : BitVec 32 := 512#32
  let v194 : BitVec 32 := Scalar.muli arg30 c512_i32_136
  let v195 : BitVec 32 := v194
  let c0_i32_97 : BitVec 32 := 0#32
  let c1_i32_99 : BitVec 32 := 1#32
  let arg32 : BitVec 32 := Scf.iv c0_i32_97 c1_i32_99 k0_t7
  let c512_i32_137 : BitVec 32 := 512#32
  let v196 : BitVec 32 := Scalar.muli arg32 c512_i32_137
  let v197 : BitVec 32 := v196
  ![v195.toNat, v197.toNat]
def k0_off168 (k0_t7 : Fin k0_t7_loop.trips) : Fin 3 → Nat :=
  let c0_i32_97 : BitVec 32 := 0#32
  let c1_i32_99 : BitVec 32 := 1#32
  let arg32 : BitVec 32 := Scf.iv c0_i32_97 c1_i32_99 k0_t7
  let c4_i32_130 : BitVec 32 := 4#32
  let c0_i32_131 : BitVec 32 := 0#32
  let v184 : BitVec 1 := Scalar.cmpi .eq c4_i32_130 c0_i32_131
  let c1_i32_132 : BitVec 32 := 1#32
  let v185 : BitVec 32 := Scalar.select v184 c1_i32_132 c4_i32_130
  let v186 : BitVec 32 := Scalar.remsi arg32 v185
  let c0_i32_134 : BitVec 32 := 0#32
  let v188 : BitVec 1 := Scalar.cmpi .slt v186 c0_i32_134
  let c0_i32_135 : BitVec 32 := 0#32
  let v189 : BitVec 1 := Scalar.cmpi .slt v185 c0_i32_135
  let v190 : BitVec 1 := Scalar.xori v188 v189
  let c0_i32_133 : BitVec 32 := 0#32
  let v187 : BitVec 1 := Scalar.cmpi .ne v186 c0_i32_133
  let v191 : BitVec 1 := Scalar.andi v190 v187
  let v192 : BitVec 32 := Scalar.addi v186 v185
  let v193 : BitVec 32 := Scalar.select v191 v192 v186
  let c0_i32_144 : BitVec 32 := 0#32
  let c0_i32_145 : BitVec 32 := 0#32
  ![v193.toNat, 0, 0]
def k0_mult53 : BitVec 32 :=
  let c11776_i32 : BitVec 32 := 11776#32
  c11776_i32
def k0_mult54 : BitVec 32 :=
  let c6144_i32 : BitVec 32 := 6144#32
  c6144_i32
def k0_mult55 : BitVec 32 :=
  let c11776_i32_28 : BitVec 32 := 11776#32
  c11776_i32_28
def k0_mult56 : BitVec 32 :=
  let c6656_i32 : BitVec 32 := 6656#32
  c6656_i32
def k0_mult57 : BitVec 32 :=
  let c11776_i32_33 : BitVec 32 := 11776#32
  c11776_i32_33
def k0_mult58 : BitVec 32 :=
  let c7168_i32 : BitVec 32 := 7168#32
  c7168_i32
def k0_mult59 : BitVec 32 :=
  let c11776_i32_37 : BitVec 32 := 11776#32
  c11776_i32_37
def k0_mult60 : BitVec 32 :=
  let c7680_i32 : BitVec 32 := 7680#32
  c7680_i32
def k0_mult61 : BitVec 32 :=
  let c11776_i32_41 : BitVec 32 := 11776#32
  c11776_i32_41
abbrev stage0_0 : Fin 1 → Memref sig .tc .smem S20 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S19 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S23 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S23 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S23x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S12x1024x2048 : Shape := ⟨3, ![12, 1024, 2048]⟩
abbrev S256x8192 : Shape := ⟨2, ![256, 8192]⟩
abbrev S16x8192 : Shape := ⟨2, ![16, 8192]⟩
abbrev S3x1000x2048 : Shape := ⟨3, ![3, 1000, 2048]⟩
abbrev S1000x8192 : Shape := ⟨2, ![1000, 8192]⟩
abbrev S23 : Shape := ⟨1, ![23]⟩
abbrev S23x3 : Shape := ⟨2, ![23, 3]⟩
abbrev S20 : Shape := ⟨1, ![20]⟩
abbrev S19 : Shape := ⟨1, ![19]⟩
abbrev S12288x2048 : Shape := ⟨2, ![12288, 2048]⟩
abbrev S16x16x8192 : Shape := ⟨3, ![16, 16, 8192]⟩
abbrev S_ : Shape := ⟨0, ![]⟩
abbrev S12288x256 : Shape := ⟨2, ![12288, 256]⟩
abbrev S12288x8192 : Shape := ⟨2, ![12288, 8192]⟩
abbrev S12288 : Shape := ⟨1, ![12288]⟩
abbrev S12288x1 : Shape := ⟨2, ![12288, 1]⟩
abbrev S1x19 : Shape := ⟨2, ![1, 19]⟩
abbrev S12288x19 : Shape := ⟨2, ![12288, 19]⟩
abbrev S19x1 : Shape := ⟨2, ![19, 1]⟩
abbrev S32 : Shape := ⟨1, ![32]⟩
abbrev S1x32 : Shape := ⟨2, ![1, 32]⟩
abbrev S19x32 : Shape := ⟨2, ![19, 32]⟩
abbrev S19x32x1 : Shape := ⟨3, ![19, 32, 1]⟩
abbrev S3x19x32x2048 : Shape := ⟨4, ![3, 19, 32, 2048]⟩
abbrev S19x2048x3x32 : Shape := ⟨4, ![19, 2048, 3, 32]⟩
abbrev S19x2048x96 : Shape := ⟨3, ![19, 2048, 96]⟩
abbrev S19x3 : Shape := ⟨2, ![19, 3]⟩
abbrev S12288x3 : Shape := ⟨2, ![12288, 3]⟩
abbrev S12288x19x96 : Shape := ⟨3, ![12288, 19, 96]⟩
abbrev S12288x19x1 : Shape := ⟨3, ![12288, 19, 1]⟩
abbrev S12288x96 : Shape := ⟨2, ![12288, 96]⟩
abbrev S12288x3x32 : Shape := ⟨3, ![12288, 3, 32]⟩
abbrev S1x1x32 : Shape := ⟨3, ![1, 1, 32]⟩
abbrev S12288x1x1 : Shape := ⟨3, ![12288, 1, 1]⟩
abbrev S12288x1x32 : Shape := ⟨3, ![12288, 1, 32]⟩
abbrev S12288x3x1 : Shape := ⟨3, ![12288, 3, 1]⟩
abbrev S19x32x8192 : Shape := ⟨3, ![19, 32, 8192]⟩
abbrev S12288x32 : Shape := ⟨2, ![12288, 32]⟩
abbrev S19x32x4096 : Shape := ⟨3, ![19, 32, 4096]⟩
abbrev S12288x19x4096 : Shape := ⟨3, ![12288, 19, 4096]⟩
abbrev S12288x4096 : Shape := ⟨2, ![12288, 4096]⟩
abbrev S19x32x2048 : Shape := ⟨3, ![19, 32, 2048]⟩
abbrev S12288x19x2048 : Shape := ⟨3, ![12288, 19, 2048]⟩
abbrev S12x1024x8192 : Shape := ⟨3, ![12, 1024, 8192]⟩

abbrev nBuf : Space → Nat
  | .hbm => 297
  | .vmem => 0
  | .smem => 0
  | _ => 0

abbrev hbmTy0_0 (i : Nat) : BufTy := match i % 128 with
  | 0 => ⟨S12x1024x2048, .bf16⟩
  | 1 => ⟨S256x8192, .i32⟩
  | 2 => ⟨S16x8192, .bf16⟩
  | 3 => ⟨S3x1000x2048, .bf16⟩
  | 4 => ⟨S1000x8192, .bf16⟩
  | 5 => ⟨S23, .i32⟩
  | 6 => ⟨S23, .i32⟩
  | 7 => ⟨S23x3, .f32⟩
  | 8 => ⟨S20, .i32⟩
  | 9 => ⟨S19, .i32⟩
  | 10 => ⟨S12288x2048, .bf16⟩
  | 11 => ⟨S16x16x8192, .bf16⟩
  | 12 => ⟨S256x8192, .bf16⟩
  | 13 => ⟨S_, .i32⟩
  | 14 => ⟨S256x8192, .i32⟩
  | 15 => ⟨S256x8192, .i32⟩
  | 16 => ⟨S_, .i32⟩
  | 17 => ⟨S256x8192, .i32⟩
  | 18 => ⟨S256x8192, .i32⟩
  | 19 => ⟨S_, .i32⟩
  | 20 => ⟨S256x8192, .i32⟩
  | 21 => ⟨S256x8192, .i1⟩
  | 22 => ⟨S256x8192, .i32⟩
  | 23 => ⟨S_, .i32⟩
  | 24 => ⟨S256x8192, .i32⟩
  | 25 => ⟨S256x8192, .i32⟩
  | 26 => ⟨S256x8192, .i32⟩
  | 27 => ⟨S256x8192, .bf16⟩
  | 28 => ⟨S256x8192, .bf16⟩
  | 29 => ⟨S12288x256, .bf16⟩
  | 30 => ⟨S12288x8192, .f32⟩
  | 31 => ⟨S_, .i32⟩
  | 32 => ⟨S256x8192, .i32⟩
  | 33 => ⟨S256x8192, .i32⟩
  | 34 => ⟨S_, .i32⟩
  | 35 => ⟨S256x8192, .i32⟩
  | 36 => ⟨S256x8192, .i32⟩
  | 37 => ⟨S_, .i32⟩
  | 38 => ⟨S256x8192, .i32⟩
  | 39 => ⟨S256x8192, .i1⟩
  | 40 => ⟨S256x8192, .i32⟩
  | 41 => ⟨S_, .i32⟩
  | 42 => ⟨S256x8192, .i32⟩
  | 43 => ⟨S256x8192, .i32⟩
  | 44 => ⟨S256x8192, .i32⟩
  | 45 => ⟨S256x8192, .bf16⟩
  | 46 => ⟨S256x8192, .bf16⟩
  | 47 => ⟨S12288x256, .bf16⟩
  | 48 => ⟨S12288x8192, .f32⟩
  | 49 => ⟨S12288x8192, .f32⟩
  | 50 => ⟨S_, .i32⟩
  | 51 => ⟨S256x8192, .i32⟩
  | 52 => ⟨S256x8192, .i32⟩
  | 53 => ⟨S_, .i32⟩
  | 54 => ⟨S256x8192, .i32⟩
  | 55 => ⟨S256x8192, .i32⟩
  | 56 => ⟨S_, .i32⟩
  | 57 => ⟨S256x8192, .i32⟩
  | 58 => ⟨S256x8192, .i1⟩
  | 59 => ⟨S256x8192, .i32⟩
  | 60 => ⟨S_, .i32⟩
  | 61 => ⟨S256x8192, .i32⟩
  | 62 => ⟨S256x8192, .i32⟩
  | 63 => ⟨S256x8192, .i32⟩
  | 64 => ⟨S256x8192, .bf16⟩
  | 65 => ⟨S256x8192, .bf16⟩
  | 66 => ⟨S12288x256, .bf16⟩
  | 67 => ⟨S12288x8192, .f32⟩
  | 68 => ⟨S12288x8192, .f32⟩
  | 69 => ⟨S_, .i32⟩
  | 70 => ⟨S256x8192, .i32⟩
  | 71 => ⟨S256x8192, .i32⟩
  | 72 => ⟨S_, .i32⟩
  | 73 => ⟨S256x8192, .i32⟩
  | 74 => ⟨S256x8192, .i32⟩
  | 75 => ⟨S_, .i32⟩
  | 76 => ⟨S256x8192, .i32⟩
  | 77 => ⟨S256x8192, .i1⟩
  | 78 => ⟨S256x8192, .i32⟩
  | 79 => ⟨S_, .i32⟩
  | 80 => ⟨S256x8192, .i32⟩
  | 81 => ⟨S256x8192, .i32⟩
  | 82 => ⟨S256x8192, .i32⟩
  | 83 => ⟨S256x8192, .bf16⟩
  | 84 => ⟨S256x8192, .bf16⟩
  | 85 => ⟨S12288x256, .bf16⟩
  | 86 => ⟨S12288x8192, .f32⟩
  | 87 => ⟨S12288x8192, .f32⟩
  | 88 => ⟨S_, .i32⟩
  | 89 => ⟨S256x8192, .i32⟩
  | 90 => ⟨S256x8192, .i32⟩
  | 91 => ⟨S_, .i32⟩
  | 92 => ⟨S256x8192, .i32⟩
  | 93 => ⟨S256x8192, .i32⟩
  | 94 => ⟨S_, .i32⟩
  | 95 => ⟨S256x8192, .i32⟩
  | 96 => ⟨S256x8192, .i1⟩
  | 97 => ⟨S256x8192, .i32⟩
  | 98 => ⟨S_, .i32⟩
  | 99 => ⟨S256x8192, .i32⟩
  | 100 => ⟨S256x8192, .i32⟩
  | 101 => ⟨S256x8192, .i32⟩
  | 102 => ⟨S256x8192, .bf16⟩
  | 103 => ⟨S256x8192, .bf16⟩
  | 104 => ⟨S12288x256, .bf16⟩
  | 105 => ⟨S12288x8192, .f32⟩
  | 106 => ⟨S12288x8192, .f32⟩
  | 107 => ⟨S_, .i32⟩
  | 108 => ⟨S256x8192, .i32⟩
  | 109 => ⟨S256x8192, .i32⟩
  | 110 => ⟨S_, .i32⟩
  | 111 => ⟨S256x8192, .i32⟩
  | 112 => ⟨S256x8192, .i32⟩
  | 113 => ⟨S_, .i32⟩
  | 114 => ⟨S256x8192, .i32⟩
  | 115 => ⟨S256x8192, .i1⟩
  | 116 => ⟨S256x8192, .i32⟩
  | 117 => ⟨S_, .i32⟩
  | 118 => ⟨S256x8192, .i32⟩
  | 119 => ⟨S256x8192, .i32⟩
  | 120 => ⟨S256x8192, .i32⟩
  | 121 => ⟨S256x8192, .bf16⟩
  | 122 => ⟨S256x8192, .bf16⟩
  | 123 => ⟨S12288x256, .bf16⟩
  | 124 => ⟨S12288x8192, .f32⟩
  | 125 => ⟨S12288x8192, .f32⟩
  | 126 => ⟨S_, .i32⟩
  | 127 => ⟨S256x8192, .i32⟩
  | _ => ⟨S12x1024x2048, .bf16⟩

abbrev hbmTy0_1 (i : Nat) : BufTy := match i % 128 with
  | 0 => ⟨S256x8192, .i32⟩
  | 1 => ⟨S_, .i32⟩
  | 2 => ⟨S256x8192, .i32⟩
  | 3 => ⟨S256x8192, .i32⟩
  | 4 => ⟨S_, .i32⟩
  | 5 => ⟨S256x8192, .i32⟩
  | 6 => ⟨S256x8192, .i1⟩
  | 7 => ⟨S256x8192, .i32⟩
  | 8 => ⟨S_, .i32⟩
  | 9 => ⟨S256x8192, .i32⟩
  | 10 => ⟨S256x8192, .i32⟩
  | 11 => ⟨S256x8192, .i32⟩
  | 12 => ⟨S256x8192, .bf16⟩
  | 13 => ⟨S256x8192, .bf16⟩
  | 14 => ⟨S12288x256, .bf16⟩
  | 15 => ⟨S12288x8192, .f32⟩
  | 16 => ⟨S12288x8192, .f32⟩
  | 17 => ⟨S_, .i32⟩
  | 18 => ⟨S256x8192, .i32⟩
  | 19 => ⟨S256x8192, .i32⟩
  | 20 => ⟨S_, .i32⟩
  | 21 => ⟨S256x8192, .i32⟩
  | 22 => ⟨S256x8192, .i32⟩
  | 23 => ⟨S_, .i32⟩
  | 24 => ⟨S256x8192, .i32⟩
  | 25 => ⟨S256x8192, .i1⟩
  | 26 => ⟨S256x8192, .i32⟩
  | 27 => ⟨S_, .i32⟩
  | 28 => ⟨S256x8192, .i32⟩
  | 29 => ⟨S256x8192, .i32⟩
  | 30 => ⟨S256x8192, .i32⟩
  | 31 => ⟨S256x8192, .bf16⟩
  | 32 => ⟨S256x8192, .bf16⟩
  | 33 => ⟨S12288x256, .bf16⟩
  | 34 => ⟨S12288x8192, .f32⟩
  | 35 => ⟨S12288x8192, .f32⟩
  | 36 => ⟨S12288, .i32⟩
  | 37 => ⟨S12288x1, .i32⟩
  | 38 => ⟨S19, .i32⟩
  | 39 => ⟨S1x19, .i32⟩
  | 40 => ⟨S12288x19, .i32⟩
  | 41 => ⟨S12288x19, .i32⟩
  | 42 => ⟨S12288x19, .i1⟩
  | 43 => ⟨S19, .i32⟩
  | 44 => ⟨S1x19, .i32⟩
  | 45 => ⟨S12288x19, .i32⟩
  | 46 => ⟨S12288x19, .i32⟩
  | 47 => ⟨S12288x19, .i1⟩
  | 48 => ⟨S12288x19, .i1⟩
  | 49 => ⟨S19x1, .i32⟩
  | 50 => ⟨S19, .i32⟩
  | 51 => ⟨S19x1, .i32⟩
  | 52 => ⟨S32, .i32⟩
  | 53 => ⟨S1x32, .i32⟩
  | 54 => ⟨S19x32, .i32⟩
  | 55 => ⟨S19x32, .i32⟩
  | 56 => ⟨S19x32, .i32⟩
  | 57 => ⟨S19x32x1, .i32⟩
  | 58 => ⟨S3x19x32x2048, .bf16⟩
  | 59 => ⟨S19x2048x3x32, .bf16⟩
  | 60 => ⟨S19x2048x96, .bf16⟩
  | 61 => ⟨S19x1, .i32⟩
  | 62 => ⟨S19, .i32⟩
  | 63 => ⟨S1x19, .i32⟩
  | 64 => ⟨S_, .i32⟩
  | 65 => ⟨S12288x19, .i32⟩
  | 66 => ⟨S12288x19, .i32⟩
  | 67 => ⟨S12288x19, .i32⟩
  | 68 => ⟨S_, .i32⟩
  | 69 => ⟨S12288, .i32⟩
  | 70 => ⟨S19x1, .i32⟩
  | 71 => ⟨S19x3, .f32⟩
  | 72 => ⟨S19x1, .f32⟩
  | 73 => ⟨S19, .f32⟩
  | 74 => ⟨S1x19, .f32⟩
  | 75 => ⟨S_, .f32⟩
  | 76 => ⟨S12288x19, .f32⟩
  | 77 => ⟨S12288x19, .f32⟩
  | 78 => ⟨S12288x19, .f32⟩
  | 79 => ⟨S_, .f32⟩
  | 80 => ⟨S12288, .f32⟩
  | 81 => ⟨S19x1, .f32⟩
  | 82 => ⟨S19, .f32⟩
  | 83 => ⟨S1x19, .f32⟩
  | 84 => ⟨S_, .f32⟩
  | 85 => ⟨S12288x19, .f32⟩
  | 86 => ⟨S12288x19, .f32⟩
  | 87 => ⟨S12288x19, .f32⟩
  | 88 => ⟨S_, .f32⟩
  | 89 => ⟨S12288, .f32⟩
  | 90 => ⟨S19x1, .f32⟩
  | 91 => ⟨S19, .f32⟩
  | 92 => ⟨S1x19, .f32⟩
  | 93 => ⟨S_, .f32⟩
  | 94 => ⟨S12288x19, .f32⟩
  | 95 => ⟨S12288x19, .f32⟩
  | 96 => ⟨S12288x19, .f32⟩
  | 97 => ⟨S_, .f32⟩
  | 98 => ⟨S12288, .f32⟩
  | 99 => ⟨S12288x1, .f32⟩
  | 100 => ⟨S12288x1, .f32⟩
  | 101 => ⟨S12288x1, .f32⟩
  | 102 => ⟨S12288x3, .f32⟩
  | 103 => ⟨S12288x19x96, .f32⟩
  | 104 => ⟨S12288x19x1, .i1⟩
  | 105 => ⟨S_, .f32⟩
  | 106 => ⟨S_, .f32⟩
  | 107 => ⟨S12288x19x96, .i1⟩
  | 108 => ⟨S12288x19x96, .f32⟩
  | 109 => ⟨S12288x19x96, .f32⟩
  | 110 => ⟨S_, .f32⟩
  | 111 => ⟨S12288x96, .f32⟩
  | 112 => ⟨S12288x3x32, .f32⟩
  | 113 => ⟨S32, .i32⟩
  | 114 => ⟨S1x1x32, .i32⟩
  | 115 => ⟨S12288x1x1, .i32⟩
  | 116 => ⟨S12288x1x32, .i32⟩
  | 117 => ⟨S12288x1x32, .i32⟩
  | 118 => ⟨S12288x1x32, .i1⟩
  | 119 => ⟨S12288x3x1, .f32⟩
  | 120 => ⟨S12288x3x32, .f32⟩
  | 121 => ⟨S12288x3x32, .f32⟩
  | 122 => ⟨S12288x3x32, .bf16⟩
  | 123 => ⟨S_, .bf16⟩
  | 124 => ⟨S12288x3x32, .i1⟩
  | 125 => ⟨S12288x3x32, .bf16⟩
  | 126 => ⟨S12288x3x32, .bf16⟩
  | 127 => ⟨S19x32x1, .i32⟩
  | _ => ⟨S12x1024x2048, .bf16⟩

abbrev hbmTy0_2 (i : Nat) : BufTy := match i % 128 with
  | 0 => ⟨S19x32x8192, .bf16⟩
  | 1 => ⟨S12288x1x32, .bf16⟩
  | 2 => ⟨S12288x32, .bf16⟩
  | 3 => ⟨S19x32x4096, .bf16⟩
  | 4 => ⟨S12288x19x4096, .f32⟩
  | 5 => ⟨S12288x19x1, .i1⟩
  | 6 => ⟨S_, .f32⟩
  | 7 => ⟨S_, .f32⟩
  | 8 => ⟨S12288x19x4096, .i1⟩
  | 9 => ⟨S12288x19x4096, .f32⟩
  | 10 => ⟨S12288x19x4096, .f32⟩
  | 11 => ⟨S_, .f32⟩
  | 12 => ⟨S12288x4096, .f32⟩
  | 13 => ⟨S12288x1x32, .bf16⟩
  | 14 => ⟨S12288x32, .bf16⟩
  | 15 => ⟨S19x32x2048, .bf16⟩
  | 16 => ⟨S12288x19x2048, .f32⟩
  | 17 => ⟨S12288x19x1, .i1⟩
  | 18 => ⟨S_, .f32⟩
  | 19 => ⟨S_, .f32⟩
  | 20 => ⟨S12288x19x2048, .i1⟩
  | 21 => ⟨S12288x19x2048, .f32⟩
  | 22 => ⟨S12288x19x2048, .f32⟩
  | 23 => ⟨S_, .f32⟩
  | 24 => ⟨S12288x2048, .f32⟩
  | 25 => ⟨S12288x1x32, .bf16⟩
  | 26 => ⟨S12288x32, .bf16⟩
  | 27 => ⟨S19x32x2048, .bf16⟩
  | 28 => ⟨S12288x19x2048, .f32⟩
  | 29 => ⟨S12288x19x1, .i1⟩
  | 30 => ⟨S_, .f32⟩
  | 31 => ⟨S_, .f32⟩
  | 32 => ⟨S12288x19x2048, .i1⟩
  | 33 => ⟨S12288x19x2048, .f32⟩
  | 34 => ⟨S12288x19x2048, .f32⟩
  | 35 => ⟨S_, .f32⟩
  | 36 => ⟨S12288x2048, .f32⟩
  | 37 => ⟨S12288x8192, .f32⟩
  | 38 => ⟨S12288x8192, .f32⟩
  | 39 => ⟨S12288x8192, .bf16⟩
  | 40 => ⟨S12x1024x8192, .bf16⟩
  | _ => ⟨S12x1024x2048, .bf16⟩

abbrev hbmTy (i : Nat) : BufTy := match i / 128 with
  | 0 => hbmTy0_0 i
  | 1 => hbmTy0_1 i
  | 2 => hbmTy0_2 i
  | _ => ⟨S12x1024x2048, .bf16⟩

abbrev bufTy : (tb : Table) → Fin (tcTables nBuf tb) → BufTy
  | .hbm, ⟨i, _⟩ => hbmTy i
  | _, _ => ⟨S12x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_c_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_c_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_23 : Ref sig .tc := ⟨.hbm, 126, rfl⟩
abbrev main_v92 : Ref sig .tc := ⟨.hbm, 127, rfl⟩
abbrev main_v93 : Ref sig .tc := ⟨.hbm, 128, rfl⟩
abbrev main_c_24 : Ref sig .tc := ⟨.hbm, 129, rfl⟩
abbrev main_v94 : Ref sig .tc := ⟨.hbm, 130, rfl⟩
abbrev main_v95 : Ref sig .tc := ⟨.hbm, 131, rfl⟩
abbrev main_c_25 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_27 : Ref sig .tc := ⟨.hbm, 145, rfl⟩
abbrev main_v107 : Ref sig .tc := ⟨.hbm, 146, rfl⟩
abbrev main_v108 : Ref sig .tc := ⟨.hbm, 147, rfl⟩
abbrev main_c_28 : Ref sig .tc := ⟨.hbm, 148, rfl⟩
abbrev main_v109 : Ref sig .tc := ⟨.hbm, 149, rfl⟩
abbrev main_v110 : Ref sig .tc := ⟨.hbm, 150, rfl⟩
abbrev main_c_29 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call0_v0 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_call1_v0 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_call2_v0 : Ref sig .tc := ⟨.hbm, 189, rfl⟩
abbrev main_v145 : Ref sig .tc := ⟨.hbm, 190, rfl⟩
abbrev main_v146 : Ref sig .tc := ⟨.hbm, 191, rfl⟩
abbrev main_c_31 : Ref sig .tc := ⟨.hbm, 192, rfl⟩
abbrev main_call3_v0 : Ref sig .tc := ⟨.hbm, 193, rfl⟩
abbrev main_call3_v1 : Ref sig .tc := ⟨.hbm, 194, rfl⟩
abbrev main_v147 : Ref sig .tc := ⟨.hbm, 195, rfl⟩
abbrev main_c_32 : Ref sig .tc := ⟨.hbm, 196, rfl⟩
abbrev main_v148 : Ref sig .tc := ⟨.hbm, 197, rfl⟩
abbrev main_call4_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst : Ref sig .tc := ⟨.hbm, 203, rfl⟩
abbrev main_call5_v0 : Ref sig .tc := ⟨.hbm, 204, rfl⟩
abbrev main_call5_v1 : Ref sig .tc := ⟨.hbm, 205, rfl⟩
abbrev main_v153 : Ref sig .tc := ⟨.hbm, 206, rfl⟩
abbrev main_cst_33 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_34 : Ref sig .tc := ⟨.hbm, 212, rfl⟩
abbrev main_call6_v0 : Ref sig .tc := ⟨.hbm, 213, rfl⟩
abbrev main_call6_v1 : Ref sig .tc := ⟨.hbm, 214, rfl⟩
abbrev main_v158 : Ref sig .tc := ⟨.hbm, 215, rfl⟩
abbrev main_cst_35 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_36 : Ref sig .tc := ⟨.hbm, 221, rfl⟩
abbrev main_call7_v0 : Ref sig .tc := ⟨.hbm, 222, rfl⟩
abbrev main_call7_v1 : Ref sig .tc := ⟨.hbm, 223, rfl⟩
abbrev main_v163 : Ref sig .tc := ⟨.hbm, 224, rfl⟩
abbrev main_cst_37 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_38 : Ref sig .tc := ⟨.hbm, 233, rfl⟩
abbrev main_call8_v0 : Ref sig .tc := ⟨.hbm, 234, rfl⟩
abbrev main_call8_v1 : Ref sig .tc := ⟨.hbm, 235, rfl⟩
abbrev main_call8_v2 : Ref sig .tc := ⟨.hbm, 236, rfl⟩
abbrev main_v171 : Ref sig .tc := ⟨.hbm, 237, rfl⟩
abbrev main_cst_39 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_40 : Ref sig .tc := ⟨.hbm, 251, rfl⟩
abbrev main_call9_v0 : Ref sig .tc := ⟨.hbm, 252, rfl⟩
abbrev main_call9_v1 : Ref sig .tc := ⟨.hbm, 253, rfl⟩
abbrev main_v184 : Ref sig .tc := ⟨.hbm, 254, rfl⟩
abbrev main_call10_v0 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_cst_41 : Ref sig .tc := ⟨.hbm, 262, rfl⟩
abbrev main_call11_v0 : Ref sig .tc := ⟨.hbm, 263, rfl⟩
abbrev main_call11_v1 : Ref sig .tc := ⟨.hbm, 264, rfl⟩
abbrev main_call11_v2 : Ref sig .tc := ⟨.hbm, 265, rfl⟩
abbrev main_v191 : Ref sig .tc := ⟨.hbm, 266, rfl⟩
abbrev main_cst_42 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_43 : Ref sig .tc := ⟨.hbm, 274, rfl⟩
abbrev main_call12_v0 : Ref sig .tc := ⟨.hbm, 275, rfl⟩
abbrev main_call12_v1 : Ref sig .tc := ⟨.hbm, 276, rfl⟩
abbrev main_call12_v2 : Ref sig .tc := ⟨.hbm, 277, rfl⟩
abbrev main_v198 : Ref sig .tc := ⟨.hbm, 278, rfl⟩
abbrev main_cst_44 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_45 : Ref sig .tc := ⟨.hbm, 286, rfl⟩
abbrev main_call13_v0 : Ref sig .tc := ⟨.hbm, 287, rfl⟩
abbrev main_call13_v1 : Ref sig .tc := ⟨.hbm, 288, rfl⟩
abbrev main_call13_v2 : Ref sig .tc := ⟨.hbm, 289, rfl⟩
abbrev main_v205 : Ref sig .tc := ⟨.hbm, 290, rfl⟩
abbrev main_cst_46 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩

abbrev nD : Nat := 1
abbrev τ : Topo := Topo.v7x

variable {F : FTy → Type} [FloatOps F]
-- ==== Proof.Run.Basic.lean ====
/-
  Rules of the run, over buffers held by the coordinates of a memref.

  `At c v q S X`: elements `S` (indices of the view `v`) of the view's buffer are held at share `q` and hold `X`.
  The rules for loads, stores, local copies and waits are restated for it, so that the loops of the kernel can be
  written with index functions only.
-/
module

public import Idealize.ShloMosaic.Lib.Batch
public import Idealize.ShloMosaic.Lib.Exec
public import Idealize.ShloMosaic.Lib.Pipeline.FrameSuffixV

@[expose] public section

namespace Lora

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Transfers

noncomputable section

variable {nD : Nat} {τ : Topo} {sig : RefSig} {Val : EltTy → Type} [∀ e, Nonempty (Val e)]

local notation "𝕄" => MT nD τ sig Unit Val ℕ (Pipeline.UD sig nD τ) ℕ

variable {sp sp' : Space} {s s' : Shape} {e e' : EltTy}

/-- Elements `S` of the view are held at share `q` and hold `X` there. -/
def At (c : Thread nD τ) (v : View sig c.2.kind sp s e) (q : PosShare TreeShare) (S : Finset s.Idx) (X : s.Idx → Val e) : sProp 𝕄 :=
  iprop(v.loc c ↦[v.setOn S]{q} v.rep X)

/-- The same, at contents not named. -/
def Any (c : Thread nD τ) (v : View sig c.2.kind sp s e) (S : Finset s.Idx) : sProp 𝕄 :=
  iprop(∃ X : s.Idx → Val e, At c v fullShare S X)

theorem ent_of_eq {P Q : sProp 𝕄} (h : P = Q) : P ⊢ Q := by
  subst h; iintro H; iexact H

variable (c : Thread nD τ)

theorem rep_emb (v : View sig c.2.kind sp s e) (X : s.Idx → Val e) (x : s.Idx) :
    (v.rep X) (v.emb x) = _root_.cast (congrArg Val v.elt_eq.symm) (X x) := by
  have h := congrFun (View.read_rep v X) x
  rw [View.read_apply] at h
  rw [← h]; simp

theorem At_of_pointsTo (v : View sig c.2.kind sp s e) (q : PosShare TreeShare) (S : Finset s.Idx) (X : s.Idx → Val e)
    (f : Buf Val (v.loc c)) (h : ∀ x ∈ S, v.read Val f x = X x) :
    (v.loc c ↦[v.setOn S]{q} f : sProp 𝕄) = At c v q S X := by
  unfold At
  apply pointsTo_congr
  intro i hi
  obtain ⟨x, hx, rfl⟩ := Finset.mem_map.mp hi
  rw [rep_emb, ← h x hx, View.read_apply]; simp

theorem At_congr {v : View sig c.2.kind sp s e} {q : PosShare TreeShare} {S : Finset s.Idx} {X Y : s.Idx → Val e}
    (h : ∀ x ∈ S, X x = Y x) : (At c v q S X : sProp 𝕄) = At c v q S Y := by
  rw [← At_of_pointsTo c v q S Y (v.rep X) (fun x hx => by rw [View.read_rep]; exact h x hx)]; rfl

theorem At_split {v : View sig c.2.kind sp s e} {q : PosShare TreeShare} {S I J : Finset s.Idx} {X : s.Idx → Val e}
    (hS : S = I ∪ J) (h : Disjoint I J) :
    (At c v q S X : sProp 𝕄) ⊣⊢ iprop(At c v q I X ∗ At c v q J X) := by
  subst hS
  unfold At View.setOn
  rw [Finset.map_union]
  exact pointsTo_union (Finset.disjoint_map _ |>.mpr h)

theorem Any_of_At {v : View sig c.2.kind sp s e} {S : Finset s.Idx} {X : s.Idx → Val e} :
    (At c v fullShare S X : sProp 𝕄) ⊢ Any c v S := by
  unfold Any; iintro H; iexists X; iexact H

theorem Any_split {v : View sig c.2.kind sp s e} {S I J : Finset s.Idx} (hS : S = I ∪ J) (h : Disjoint I J) :
    (Any c v S : sProp 𝕄) ⊢ iprop(Any c v I ∗ Any c v J) := by
  unfold Any
  iintro ⟨%X, H⟩
  ihave H := (At_split c hS h).1 $$ H
  icases H with ⟨HI, HJ⟩
  isplitl [HI]
  · iexists X; iexact HI
  · iexists X; iexact HJ

theorem At_empty {v : View sig c.2.kind sp s e} {q : PosShare TreeShare} {X : s.Idx → Val e} : (At c v q ∅ X : sProp 𝕄) = emp := by
  unfold At View.setOn
  rw [Finset.map_empty]; exact pointsTo_empty

/-- A slice held whole is its elements of the memref. -/
theorem At_slice {m : Memref sig c.2.kind sp s e} {q : PosShare TreeShare} {r : Rect s} {hr} {X : s.Idx → Val e} {Y : r.shape.Idx → Val e}
    (h : ∀ x, Y x = X (r.emb x)) :
    (At c (m.slice r hr).view q Finset.univ Y : sProp 𝕄) = At c m.view q r.set X := by
  have hs : (m.slice r hr).view.setOn Finset.univ = m.view.setOn r.set := View.set_slice m.view r
  have : (At c (m.slice r hr).view q Finset.univ Y : sProp 𝕄)
      = iprop((m.slice r hr).view.loc c ↦[(m.slice r hr).view.setOn Finset.univ]{q} m.view.rep X) := by
    refine (At_of_pointsTo c (m.slice r hr).view q Finset.univ Y (m.view.rep X) ?_).symm
    intro x _
    rw [h]
    exact congrFun (View.read_rep m.view X) (r.emb x)
  rw [this, hs]
  rfl

/-- Another shape held whole is the memref held whole. -/
theorem At_squeeze {m : Memref sig c.2.kind sp s e} {q : PosShare TreeShare} {hsq : s.Squeezes s'} {X : s.Idx → Val e} {Y : s'.Idx → Val e}
    (h : ∀ x, Y x = X (Shape.reshapeEquiv hsq.numel_eq x)) :
    (At c (m.squeeze s' hsq).view q Finset.univ Y : sProp 𝕄) = At c m.view q Finset.univ X := by
  have hs : (m.squeeze s' hsq).view.setOn Finset.univ = m.view.setOn Finset.univ := by
    ext i
    simp only [View.setOn, Finset.mem_map, Finset.mem_univ, true_and]
    constructor
    · rintro ⟨x, rfl⟩; exact ⟨_, rfl⟩
    · rintro ⟨x, rfl⟩
      exact ⟨(Shape.reshapeEquiv hsq.numel_eq).symm x, by
        show m.view.emb (Shape.reshapeEquiv hsq.numel_eq ((Shape.reshapeEquiv hsq.numel_eq).symm x)) = _
        rw [Equiv.apply_symm_apply]⟩
  have : (At c (m.squeeze s' hsq).view q Finset.univ Y : sProp 𝕄)
      = iprop((m.squeeze s' hsq).view.loc c ↦[(m.squeeze s' hsq).view.setOn Finset.univ]{q} m.view.rep X) := by
    refine (At_of_pointsTo c (m.squeeze s' hsq).view q Finset.univ Y (m.view.rep X) ?_).symm
    intro x _
    rw [h]
    exact congrFun (View.read_rep m.view X) _
  rw [this, hs]
  rfl

/-- `m'` names the elements `S` of `m`, its index `x` the index `φ x`. -/
def Sub (m : Memref sig c.2.kind sp s e) (m' : Memref sig c.2.kind sp s' e) (S : Finset s.Idx) (φ : s'.Idx → s.Idx) : Prop :=
  ∀ (q : PosShare TreeShare) (X : s.Idx → Val e), (At c m'.view q Finset.univ (fun x => X (φ x)) : sProp 𝕄) = At c m.view q S X

theorem Sub.whole (m : Memref sig c.2.kind sp s e) : Sub (Val := Val) c m m Finset.univ id := fun _ _ => rfl

theorem Sub.slice (m : Memref sig c.2.kind sp s e) (r : Rect s) (hr) : Sub (Val := Val) c m (m.slice r hr) r.set r.emb :=
  fun _ _ => At_slice c fun _ => rfl

theorem Sub.squeeze {m : Memref sig c.2.kind sp s e} {s'' : Shape} {m' : Memref sig c.2.kind sp s' e} {S : Finset s.Idx} {φ : s'.Idx → s.Idx}
    (h : Sub (Val := Val) c m m' S φ) (hsq : s'.Squeezes s'') :
    Sub (Val := Val) c m (m'.squeeze s'' hsq) S (fun x => φ (Shape.reshapeEquiv hsq.numel_eq x)) :=
  fun q X => (At_squeeze c (X := fun x => X (φ x)) fun _ => rfl).trans (h q X)

/-- A share halved. -/
theorem At_drop {v : View sig c.2.kind sp s e} {q : PosShare TreeShare} {k : ℕ} {S : Finset s.Idx} {X : s.Idx → Val e} :
    (At c v (shareDrop q k) S X : sProp 𝕄) ⊣⊢ iprop(At c v (shareDrop q (k + 1)) S X ∗ At c v (shareTokN q k) S X) :=
  pointsTo_share (PosShare.mem_left_op_right _)

section Rules

variable {Λ : Labels} {defs : Defs nD τ sig Val Λ} (𝒱 : Variants) (bd : Option 𝒱.V)
variable {α : Type}

local notation "EC" => (countersEmb (U := Pipeline.UD sig nD τ) : UEmb Counters 𝕄)

/-- A load reads what is held. -/
theorem wp_ld {Q : α → sProp 𝕄} {cs : CoreSpace} {m : Memref sig c.2.kind cs s e} {r : LoadRect s} {hl : m.view.LoadsAt r}
    {k : (r.shape.Idx → Val e) → Prog (TpuEff nD τ sig Val Λ c.2) α} {q : PosShare TreeShare} {S : Finset s.Idx} {X : s.Idx → Val e}
    (hS : r.set ⊆ S) :
    (At c m.view q S X : sProp 𝕄)
      ⊢ iprop((At c m.view q S X -∗ wp frame (wpE defs 𝒱 c bd) Set.univ (k (fun x => X (r.idx x))) Q)
        -∗ wp frame (wpE defs 𝒱 c bd) Set.univ (Prog.lift (.load m r hl) >>= k) Q) := by
  unfold At
  have h := wp_load 𝒱 c bd Set.univ (Γ := .empty) (defs := defs) (hl := hl) (k := k) (Q := Q) (q := q) (S := m.view.setOn S) (f := m.view.rep X)
    (show m.view.setOn r.set ⊆ m.view.setOn S from Finset.map_subset_map.mpr hS)
  rw [View.readAt_rep] at h
  exact h

/-- A store changes what is held to `X'`. -/
theorem wp_st {Q : α → sProp 𝕄} {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {S : Finset s.Idx} {X : s.Idx → Val e} (X' : s.Idx → Val e)
    (hS : r.set ⊆ S) (hin : ∀ x, X' (r.emb x) = w x) (hout : ∀ i ∈ S, i ∉ r.set → X' i = X i) :
    (At c m.view fullShare S X : sProp 𝕄)
      ⊢ iprop((At c m.view fullShare S X' -∗ wp frame (wpE defs 𝒱 c bd) Set.univ (k ⟨⟩) Q)
        -∗ wp frame (wpE defs 𝒱 c bd) Set.univ (Prog.lift (.store m r w Finset.univ hx hm) >>= k) Q) := by
  have hset : (m.access r).setOn Finset.univ = m.view.setOn r.set := View.set_slice m.view r
  have h := wp_store 𝒱 c bd Set.univ (Γ := .empty) (defs := defs) (w := w) (hx := hx) (hm := hm) (k := k) (Q := Q) (S := m.view.setOn S) (f := m.view.rep X)
    (hset ▸ Finset.map_subset_map.mpr hS)
  have e2 : (iprop((m.access r).loc c ↦[m.view.setOn S]{fullShare} ((m.access r).write Val (m.view.rep X) w Finset.univ)) : sProp 𝕄)
      = At c m.view fullShare S X' := by
    refine At_of_pointsTo c m.view fullShare S X' _ ?_
    intro i hi
    by_cases hr : i ∈ r.set
    · rw [← Rect.map_emb_univ] at hr
      obtain ⟨x, _, rfl⟩ := Finset.mem_map.mp hr
      rw [hin]
      rw [View.read_apply]
      have := View.write_emb_of_mem (v := m.access r) (m.view.rep X) w (Finset.mem_univ x)
      refine (congrArg (fun z => _root_.cast (congrArg Val m.view.elt_eq) z) this).trans ?_
      simp
    · rw [hout i hi hr]
      have : (m.access r).write Val (m.view.rep X) w Finset.univ (m.view.emb i) = m.view.rep X (m.view.emb i) := by
        apply View.write_of_not_mem
        rw [hset, View.mem_setOn]; exact hr
      rw [View.read_apply]
      refine (congrArg (fun z => _root_.cast (congrArg Val m.view.elt_eq) z) this).trans ?_
      exact congrFun (View.read_rep m.view X) i
  rw [e2] at h
  exact h

/-- What a flight delivers may be taken together with anything held meanwhile. -/
theorem Flight_frame {sm : SemLoc sig} {N : ℕ} {D R : sProp 𝕄} :
    iprop(Flight EC c sm () N D ∗ R) ⊢ (Flight EC c sm () N iprop(D ∗ R) : sProp 𝕄) := by
  unfold Flight
  iintro ⟨⟨⟨%R0, HR0, %hcap, %hpeek⟩, Hcred⟩, HR⟩
  isplitl [HR0 HR]
  · iexists iprop(R0 ∗ R)
    isplitl [HR0 HR]; · isplitl [HR0] <;> iassumption
    isplit
    · ipureintro
      intro K
      iintro ⟨⟨HR0, HR⟩, HK⟩
      iapply (hcap K)
      isplitl [HR0]; · iexact HR0
      iintro ⟨Hv, HD⟩
      iapply HK
      isplitl [Hv]; · iexact Hv
      isplitl [HD] <;> iassumption
    · ipureintro
      intro K
      iintro ⟨⟨HR0, HR⟩, HK⟩
      iapply (hpeek K)
      isplitl [HR0]; · iexact HR0
      iintro HR0
      iapply HK
      isplitl [HR0] <;> iassumption
  · iexact Hcred

/-- A local copy: the destination's elements will hold the source's. -/
theorem wp_cp {Q : α → sProp 𝕄} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (N : ℕ) (hN : dst.view.amount sm = N) (hN0 : 0 < N) :
    iprop(At c src.view q Finset.univ X ∗ Any c dst.view Finset.univ ∗ semVal (c, sm) 0)
      ⊢ iprop((Flight EC c sm () N iprop(At c dst.view fullShare Finset.univ X ∗ At c src.view q Finset.univ X)
              -∗ wp frame (wpE defs 𝒱 c bd) Set.univ (k ⟨⟩) Q)
          -∗ wp frame (wpE defs 𝒱 c bd) Set.univ (Prog.lift (.enqueueDma src (.here dst) sm hsrc hdst hsem) >>= k) Q) := by
  have key : ∀ Y : s.Idx → Val e, iprop(At c src.view q Finset.univ X ∗ At c dst.view fullShare Finset.univ Y ∗ semVal (c, sm) 0)
      ⊢ iprop((Flight EC c sm () N iprop(At c dst.view fullShare Finset.univ X ∗ At c src.view q Finset.univ X)
              -∗ wp frame (wpE defs 𝒱 c bd) Set.univ (k ⟨⟩) Q)
          -∗ wp frame (wpE defs 𝒱 c bd) Set.univ (Prog.lift (.enqueueDma src (.here dst) sm hsrc hdst hsem) >>= k) Q) := by
    intro Y
    have h := wp_dmaLocal EC 𝒱 c bd (defs := defs) (via := .same) (hsem := hsem) (hsrc := hsrc) (hdst := hdst) (k := k) (Q := Q) () N hN hN0
      (src := src) (fs := src.view.rep X) (q := q) (dst := dst) (fd := dst.view.rep Y) (Sd := dst.view.set) (le_refl _)
    have e1 : (iprop(dst.view.loc c ↦[dst.view.set]{fullShare}
        (dst.view.write Val (dst.view.rep Y) ((ReadAs.same : ReadAs Val s e s e).apply (src.view.read Val (src.view.rep X))) Finset.univ)) : sProp 𝕄)
        = At c dst.view fullShare Finset.univ X := by
      refine At_of_pointsTo c dst.view fullShare Finset.univ X _ ?_
      intro x _
      rw [View.read_apply, View.write_emb_of_mem _ _ (Finset.mem_univ x), View.read_rep]
      simp
    rw [e1] at h
    exact h
  iintro ⟨Hs, Hd, Hv⟩ Hk
  unfold Any
  icases Hd with ⟨%Y, Hd⟩
  iapply (key Y) $$ [Hs Hd Hv]
  · isplitl [Hs]; · iexact Hs
    isplitl [Hd]; · iexact Hd
    iexact Hv
  iexact Hk

/-- A local copy between parts of two buffers: the destination's elements will hold `Y`, the source is given back with it. -/
theorem wp_cpG {Q : α → sProp 𝕄} {s₁ s₂ : Shape} {ms : Memref sig c.2.kind sp s₁ e} {md : Memref sig c.2.kind sp' s₂ e}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s₁.Idx → Val e} {Y : s₂.Idx → Val e}
    {Ss T : Finset s₁.Idx} {Sd : Finset s₂.Idx} {φs φd} (hs : Sub (Val := Val) c ms src Ss φs) (hd : Sub (Val := Val) c md dst Sd φd)
    (sm' : SemLoc sig) (hsm : sm = sm') (hT : Ss ⊆ T) (hY : ∀ x, Y (φd x) = X (φs x))
    (N : ℕ) (hN : dst.view.amount sm = N) (hN0 : 0 < N) :
    iprop(At c ms.view q T X ∗ Any c md.view Sd ∗ semVal (c, sm') 0)
      ⊢ iprop((Flight EC c sm' () N iprop(At c md.view fullShare Sd Y ∗ At c ms.view q T X)
              -∗ wp frame (wpE defs 𝒱 c bd) Set.univ (k ⟨⟩) Q)
          -∗ wp frame (wpE defs 𝒱 c bd) Set.univ (Prog.lift (.enqueueDma src (.here dst) sm hsrc hdst hsem) >>= k) Q) := by
  subst hsm
  have hsplit := At_split (Val := Val) c (v := ms.view) (q := q) (X := X) (Finset.union_sdiff_of_subset hT).symm Finset.disjoint_sdiff
  have hdst : (Any c md.view Sd : sProp 𝕄) ⊢ Any c dst.view Finset.univ := by
    unfold Any
    iintro ⟨%Z, H⟩
    iexists (fun x => Z (φd x))
    rw [hd fullShare Z]
    iexact H
  iintro ⟨Hs, Hd, Hv⟩ Hk
  ihave H := hsplit.1 $$ Hs
  icases H with ⟨Hs, Hrest⟩
  have hs' : (At c ms.view q Ss X : sProp 𝕄) ⊢ At c src.view q Finset.univ (fun x => X (φs x)) := ent_of_eq (hs q X).symm
  ihave Hs := hs' $$ Hs
  iapply (wp_cp c 𝒱 bd (X := fun x => X (φs x)) N hN hN0) $$ [Hs Hd Hv]
  · isplitl [Hs]; · iexact Hs
    isplitl [Hd]; · iapply hdst $$ Hd
    iexact Hv
  iintro HF
  iapply Hk
  have hm : iprop((At c dst.view fullShare Finset.univ (fun x => X (φs x)) ∗ At c src.view q Finset.univ (fun x => X (φs x))) ∗ At c ms.view q (T \ Ss) X)
      ⊢ iprop(At c md.view fullShare Sd Y ∗ At c ms.view q T X : sProp 𝕄) := by
    rw [hs q X, show (fun x => X (φs x)) = (fun x => Y (φd x)) from funext fun x => (hY x).symm, hd fullShare Y]
    iintro ⟨⟨H1, H2⟩, H3⟩
    isplitl [H1]; · iexact H1
    iapply hsplit.2
    isplitl [H2] <;> iassumption
  iapply (Flight_mono EC c hm)
  iapply (Flight_frame c)
  isplitl [HF] <;> iassumption

/-- The wait of a copy. -/
theorem wp_wt {Q : α → sProp 𝕄} {sem : DmaSem sig} {κ' : Kind}
    {srcw : Memref sig c.2.kind sp' s' e'} {dstw : Memref sig κ' sp s e} {hsrc : srcw.view.WordExact} {hdst : dstw.view.WordExact}
    {k : PUnit → Prog (TpuEff nD τ sig Val Λ c.2) α} {N : ℕ} (sem' : DmaSem sig) (hsm : sem = sem') (hN : dstw.view.dmaCredit = N) {D : sProp 𝕄} :
    iprop(Flight EC c (.dma sem') () N D ∗ (∃ W, owes c 0 W))
      ⊢ iprop((iprop(D ∗ semVal (c, .dma sem') 0 ∗ (∃ W, owes c 0 W)) -∗ wp frame (wpE defs 𝒱 c bd) Set.univ (k ⟨⟩) Q)
          -∗ wp frame (wpE defs 𝒱 c bd) Set.univ (Prog.lift (.waitDma2 sem srcw dstw hsrc hdst) >>= k) Q) := by
  subst hsm
  iintro ⟨HF, %W, HW⟩ Hk
  have h : ∀ W, iprop(Flight EC c (.dma sem) () N D ∗ owes c 0 W)
      ⊢ iprop((iprop(D ∗ semVal (c, .dma sem) 0 ∗ owes c 0 (insert (SemLoc.dma sem, ()) W)) -∗ wp frame (wpE defs 𝒱 c bd) Set.univ (k ⟨⟩) Q)
          -∗ wp frame (wpE defs 𝒱 c bd) Set.univ (Prog.lift (.waitDma2 sem srcw dstw hsrc hdst) >>= k) Q) := fun W =>
    wp_waitLocal EC 𝒱 c bd (srcw := srcw) (hsrc := hsrc) (hdst := hdst) (k := k) (Q := Q) () hN
  iapply (h W) $$ [HF HW]
  · isplitl [HF] <;> iassumption
  iintro ⟨HD, Hv, HW⟩
  iapply Hk
  isplitl [HD]; · iexact HD
  isplitl [Hv]; · iexact Hv
  iexists _; iexact HW

/-- A word of a table. -/
theorem wp_word {Q : α → sProp 𝕄} {m : Memref sig c.2.kind .smem s e} {r : Rect s} {h1 : r.shape.numel = 1} {hp : e.packing = 1}
    {k : Val e → Prog (TpuEff nD τ sig Val Λ c.2) α} {q : PosShare TreeShare} {X : s.Idx → Val e} (i : s.Idx) (hi : ∀ x, r.emb x = i) :
    (At c m.view q Finset.univ X : sProp 𝕄)
      ⊢ iprop((At c m.view q Finset.univ X -∗ wp frame (wpE defs 𝒱 c bd) Set.univ (k (X i)) Q)
        -∗ wp frame (wpE defs 𝒱 c bd) Set.univ (smemLoad m r h1 hp >>= k) Q) := by
  have h := wp_ld c 𝒱 bd (defs := defs) (m := m) (r := r.toLoadRect) (hl := View.loadsAt_rect (View.loads_smem_one hp h1)) (Q := Q) (q := q) (X := X) (k := fun f => k (f (Shape.Idx.first (h1.symm ▸ Nat.one_pos))))
    (Finset.subset_univ _)
  have e1 : X (r.toLoadRect.idx (Shape.Idx.first (h1.symm ▸ Nat.one_pos))) = X i := congrArg X (hi _)
  rw [← e1]
  exact h

/-- The end of a program. -/
theorem wp_done {Q : α → sProp 𝕄} {a : α} : Q a ⊢ (wp frame (wpE defs 𝒱 c bd) Set.univ (pure a) Q : sProp 𝕄) :=
  by
  rw [wp_pure]; iintro H; imodintro; iexact H

/-- A side condition that holds. -/
theorem wp_as {Q : α → sProp 𝕄} {P : Prop} {d : Decidable P} {k : PLift P → Prog (TpuEff nD τ sig Val Λ c.2) α} (h : P) :
    (wp frame (wpE defs 𝒱 c bd) Set.univ (k ⟨h⟩) Q : sProp 𝕄) ⊢ wp frame (wpE defs 𝒱 c bd) Set.univ (Prog.lift (TpuEff.assume P d) >>= k) Q :=
  wp_assume 𝒱 c bd Set.univ h

end Rules

/-! ## Runs of resources `Φ a, …, Φ (a + n - 1)` -/

/-- `Φ a, …, Φ (a + n - 1)` held together. -/
def Rg (Φ : ℕ → sProp 𝕄) : ℕ → ℕ → sProp 𝕄
  | _, 0 => iprop(emp)
  | a, n + 1 => iprop(Φ a ∗ Rg Φ (a + 1) n)

theorem Rg_zero (Φ : ℕ → sProp 𝕄) (a : ℕ) : Rg Φ a 0 = iprop(emp) := rfl
theorem Rg_succ (Φ : ℕ → sProp 𝕄) (a n : ℕ) : Rg Φ a (n + 1) = iprop(Φ a ∗ Rg Φ (a + 1) n) := rfl

theorem Rg_snoc (Φ : ℕ → sProp 𝕄) (a n : ℕ) : iprop(Rg Φ a n ∗ Φ (a + n)) ⊢ Rg Φ a (n + 1) := by
  induction n generalizing a with
  | zero =>
    rw [Rg_succ, Rg_zero]
    iintro ⟨_, H⟩
    isplitl [H]; · iexact H
    iempintro
  | succ n ih =>
    rw [Rg_succ, Rg_succ]
    iintro ⟨⟨H1, H2⟩, H3⟩
    isplitl [H1]; · iexact H1
    iapply (ih (a + 1))
    isplitl [H2]; · iexact H2
    rw [show a + 1 + n = a + (n + 1) by omega]
    iexact H3

theorem Rg_congr {Φ Ψ : ℕ → sProp 𝕄} {a n : ℕ} (h : ∀ i, a ≤ i → i < a + n → Φ i = Ψ i) : Rg Φ a n = Rg Ψ a n := by
  induction n generalizing a with
  | zero => rfl
  | succ n ih =>
    rw [Rg_succ, Rg_succ, h a (le_refl _) (by omega), ih (fun i h1 h2 => h i (by omega) (by omega))]

/-! ## Cells of semaphore arrays -/

theorem sem_at {α : Type} {s : Shape} (a : SemArray α s) {d : Fin 0 → Nat} (r : Rect s) (hsq : r.shape.Squeezes ⟨0, d⟩) (i : s.Idx) (hi : ∀ x, r.emb x = i) :
    ((a.slice r).squeeze ⟨0, d⟩ hsq).sem = a.ix i := congrArg a.ix (hi _)

end
end Lora
-- ==== Proof.Run.K.Env.lean ====
/-
  The kernel's operands as one record, and the loop bodies over it.
-/
module

public import proofs.«01_k».proof.Proof.Run.Basic
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Pointwise.Index

@[expose] public section

noncomputable section

namespace Cert.Kernel.Hand

open Cert.Kernel Cert.Kernel.Gen Lora
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The operands and scratch buffers of the kernel. -/
structure Env where
  arg0 : Memref sig .tc .smem S20 .i32
  harg0 : arg0.IsWhole
  arg1 : Memref sig .tc .smem S19 .i32
  harg1 : arg1.IsWhole
  arg2 : Memref sig .tc .smem S23 .i32
  harg2 : arg2.IsWhole
  arg3 : Memref sig .tc .smem S23 .i32
  harg3 : arg3.IsWhole
  arg4 : Memref sig .tc .smem S23x3 .f32
  harg4 : arg4.IsWhole
  arg5 : Memref sig .tc .hbm S12288x2048 .bf16
  harg5 : arg5.IsWhole
  arg6 : Memref sig .tc .hbm S256x8192 .i32
  harg6 : arg6.IsWhole
  arg7 : Memref sig .tc .hbm S16x8192 .bf16
  harg7 : arg7.IsWhole
  arg8 : Memref sig .tc .hbm S3x1000x2048 .bf16
  harg8 : arg8.IsWhole
  arg9 : Memref sig .tc .hbm S1000x8192 .bf16
  harg9 : arg9.IsWhole
  arg10 : Memref sig .tc .hbm S12288x8192 .bf16
  harg10 : arg10.IsWhole
  arg11 : Memref sig .tc .hbm S3x32x12288 .bf16
  harg11 : arg11.IsWhole
  arg12 : Memref sig .tc .vmem S16x2048x512 .bf16
  harg12 : arg12.IsWhole
  arg13 : Memref sig .tc .vmem S2x512x2048 .bf16
  harg13 : arg13.IsWhole
  arg14 : Memref sig .tc .vmem S2x256x512 .i32
  harg14 : arg14.IsWhole
  arg15 : Memref sig .tc .vmem S16x8192 .bf16
  harg15 : arg15.IsWhole
  arg16 : Memref sig .tc .vmem S8x120x2048 .bf16
  harg16 : arg16.IsWhole
  arg17 : Memref sig .tc .vmem S776x8192 .bf16
  harg17 : arg17.IsWhole
  arg18 : Memref sig .tc .vmem S3x256x512 .f32
  harg18 : arg18.IsWhole
  arg19 : Memref sig .tc .vmem S3x512x256 .bf16
  harg19 : arg19.IsWhole
  arg20 : Memref sig .tc .vmem S4x40x128 .f32
  harg20 : arg20.IsWhole
  arg21 : Memref sig .tc .vmem S3x32x512 .bf16
  harg21 : arg21.IsWhole
  arg22 : Memref sig .tc .vmem S4x512x512 .bf16
  harg22 : arg22.IsWhole
  arg23 : DmaSems sig S2
  arg24 : DmaSems sig S2
  arg25 : DmaSems sig S_
  arg26 : DmaSems sig S8
  arg27 : DmaSems sig S19
  arg28 : DmaSems sig S4
  arg29 : DmaSems sig S_

/-- The contents of the operands the kernel reads. -/
structure In (F : FTy → Type) where
  off : S20.Idx → Elt F .i32
  seg : S19.Idx → Elt F .i32
  start : S23.Idx → Elt F .i32
  rank : S23.Idx → Elt F .i32
  scal : S23x3.Idx → Elt F .f32
  X : S12288x2048.Idx → Elt F .bf16
  WP : S256x8192.Idx → Elt F .i32
  WS : S16x8192.Idx → Elt F .bf16
  A : S3x1000x2048.Idx → Elt F .bf16
  B : S1000x8192.Idx → Elt F .bf16

/-- A trip of the kernel's loop t1. -/
abbrev Env.t1 (E : Env) := k0_t1_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t2. -/
abbrev Env.t2 (E : Env) := k0_t2_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t3. -/
abbrev Env.t3 (E : Env) := k0_t3_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t4. -/
abbrev Env.t4 (E : Env) := k0_t4_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

end Cert.Kernel.Hand

end
-- ==== Proof.Run.K.T1.lean ====
/-
  The loops that fetch the adapters' up-projection windows: nineteen copies are started, each on its own cell, and
  later waited for in the same order.
-/
module

public import proofs.«01_k».proof.Proof.Run.K.Env

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

/-- The first row of the aligned window of forty rows around row `w`. -/
def base (w : BitVec 32) : ℕ := (Scalar.minsi (Scalar.shli (Scalar.shrsi w 3#32) 3#32) 960#32).toNat

namespace In
variable (I : In F)
/-- The adapter of segment `s`, as a word. -/
def sgw (s : ℕ) : BitVec 32 := I.seg (ix1 (Fin.ofNat 19 s))
/-- The first slot of the adapter of segment `s`. -/
def st (s : ℕ) : BitVec 32 := I.start (ix1 (Fin.ofNat 23 (I.sgw s).toNat))
/-- The rank of the adapter of segment `s`. -/
def rk (s : ℕ) : BitVec 32 := I.rank (ix1 (Fin.ofNat 23 (I.sgw s).toNat))
/-- The token where segment `s` begins. -/
def of (s : ℕ) : BitVec 32 := I.off (ix1 (Fin.ofNat 20 s))
/-- The scratch of up-projection windows once filled: forty rows a segment, then zeros. -/
def Bv : S776x8192.Idx → Elt F .bf16 := fun i =>
  if (i 0).val < 760 then I.B (ix2 (Fin.ofNat 1000 (base (I.st ((i 0).val / 40)) + (i 0).val % 40)) (i 1))
  else k0_pay102 (F := F) (ix2 (Fin.ofNat 16 ((i 0).val - 760)) (i 1))
end In

/-- What the precondition says of the tables. -/
structure Good (I : In F) : Prop where
  sg : ∀ s < 19, (I.sgw s).toNat < 23
  st : ∀ s < 19, (I.st s).toNat ≤ 968
  rk : ∀ s < 19, (I.rk s).toInt ≤ 32
  mono : ∀ s < 19, (I.of s).toInt ≤ (I.of (s + 1)).toInt
  last : 11776 < (I.of 19).toInt
  near : ∀ i : ℕ, i < 24 → ∀ a < 13, (I.of (a + 1)).toInt ≤ 512 * (i : ℤ) ∨ 512 * (i : ℤ) + 512 ≤ (I.of (a + 6)).toInt

theorem base_eq (w : BitVec 32) (h : w.toNat ≤ 968) : base w = min (w.toNat / 8 * 8) 960 := by
  have : ∀ n : Fin 969, base (BitVec.ofNat 32 n.val) = min (n.val / 8 * 8) 960 := by decide +kernel
  have h1 := this ⟨w.toNat, by omega⟩
  simpa using h1

theorem emb1 {n : ℕ} {off : Fin 1 → ℕ} {inb} (i : (⟨1, ![n]⟩ : Shape).Idx) (h : off 0 = (i 0).val) :
    ∀ x, (Rect.unit (s := ⟨1, ![n]⟩) off S1.size inb).emb x = i := by
  intro x
  funext a
  apply Fin.ext
  rw [Rect.emb_apply]
  have ha : a = 0 := Subsingleton.elim _ _
  subst ha
  have hx : (x 0).val < 1 := (x 0).isLt
  show off 0 + 1 * (x 0).val = _
  omega

/-- Rows `lo` up to `hi` of the scratch of windows. -/
def rowsB (lo hi : ℕ) : Finset S776x8192.Idx := Finset.univ.filter fun i => lo ≤ (i 0).val ∧ (i 0).val < hi

theorem rowsB_split (lo mid hi : ℕ) (h1 : lo ≤ mid) (h2 : mid ≤ hi) : rowsB lo hi = rowsB lo mid ∪ rowsB mid hi := by
  ext i; simp only [rowsB, Finset.mem_filter, Finset.mem_union, Finset.mem_univ, true_and]; omega

theorem rowsB_disj (lo mid hi : ℕ) : Disjoint (rowsB lo mid) (rowsB mid hi) := by
  rw [Finset.disjoint_left]; intro i; simp only [rowsB, Finset.mem_filter, Finset.mem_univ, true_and]; omega

theorem set_rowsB {off : Fin 2 → ℕ} {n : ℕ} {inb} (h0 : off 1 = 0) :
    (Rect.unit (s := S776x8192) off (![n, 8192] : Fin 2 → ℕ) inb).set = rowsB (off 0) (off 0 + n) := by
  ext i
  rw [Rect.mem_set_unit]
  simp only [rowsB, Finset.mem_filter, Finset.mem_univ, true_and, Fin.forall_fin_two, h0]
  have : (i 1).val < 8192 := (i 1).isLt
  simp only [Matrix.cons_val_zero, Matrix.cons_val_one]
  omega

theorem words_B (m : Fin 121) (inb) : (Rect.unit (s := S1000x8192) ![8 * m.val, 0] S40x8192.size inb).WholeWords (EltTy.packing .bf16) := by
  revert inb; revert m; decide +kernel

theorem chk2_of (w : BitVec 32) (h : w.toNat ≤ 968) : k0_chk2 w := by
  have hb := base_eq w h
  have ho : k0_off5 w = ![base w, 0] := rfl
  have hm : k0_mult3 w = Scalar.minsi (Scalar.shli (Scalar.shrsi w 3#32) 3#32) 960#32 := rfl
  obtain ⟨m, hm'⟩ : ∃ m : Fin 121, base w = 8 * m.val := ⟨⟨min (w.toNat / 8) 120, by omega⟩, by rw [hb]; dsimp only; omega⟩
  refine ⟨?_, ?_, ?_⟩
  · rw [hm]; exact ⟨m.val, hm'⟩
  · rw [ho, hm']; have := m.isLt
    intro a; fin_cases a <;> simp <;> omega
  · rw [ho, hm']; exact words_B m

theorem chk1_of (w : BitVec 32) (h : w.toNat < 23) : k0_chk1 w := by
  intro a
  have ha : a = 0 := Subsingleton.elim _ _
  subst ha
  show w.toNat + 1 ≤ 23
  omega

variable (c : Dev nD) (E : Env) (I : In F)

/-- The units a window's copy credits. -/
abbrev Nb : ℕ := sig.dmaCredit .tc (Kind.table .tc .vmem) E.arg17.view.buf S40x8192 .bf16
/-- The cell of window `t`. -/
abbrev bsem (t : ℕ) : DmaSem sig := E.arg27.ix (ix1 (Fin.ofNat 19 t))
/-- Window `t` being fetched. -/
abbrev bFlight (t : ℕ) : sProp 𝕄 :=
  Flight EC (c : Thread nD τ) (.dma (bsem E t)) () (Nb E)
    iprop(At (c : Thread nD τ) E.arg17.view fullShare (rowsB (40 * t) (40 * t + 40)) I.Bv
      ∗ At (c : Thread nD τ) E.arg9.view (shareTokN fullShare t) Finset.univ I.B)
/-- The cell of window `t` at rest. -/
abbrev bCell (t : ℕ) : sProp 𝕄 := semVal ((c : Thread nD τ), .dma (bsem E t)) 0

/-- After `k` windows are started. -/
def T1inv (k : ℕ) : sProp 𝕄 :=
  iprop(At (c : Thread nD τ) E.arg1.view fullShare Finset.univ I.seg ∗ At (c : Thread nD τ) E.arg2.view fullShare Finset.univ I.start
    ∗ At (c : Thread nD τ) E.arg9.view (shareDrop fullShare k) Finset.univ I.B ∗ Any (c : Thread nD τ) E.arg17.view (rowsB (40 * k) 760)
    ∗ Rg (bCell c E) k (19 - k) ∗ Rg (bFlight c E I) 0 k)

variable (𝒱 : Variants) (bd : Option 𝒱.V)

theorem t1_step (hI : Good I) (t : Fin k0_t1_loop.trips) (u : Unit) :
    T1inv c E I t.val ⊢ wp frame (wpE (defs₀ (F := F)) 𝒱 (c : Thread nD τ) bd) Set.univ (E.t1 (F := F) t u) (fun _ => T1inv c E I (t.val + 1)) := by
  have ht : t.val < 19 := t.isLt
  have hoff1 : k0_off1 t 0 = t.val := by revert t; decide +kernel
  have hoff3 : k0_off3 t 0 = t.val := by revert t; decide +kernel
  have hoff4 : k0_off4 t = ![40 * t.val, 0] := by revert t; decide +kernel
  unfold Env.t1 k0_t1_body T1inv
  have hsem : ((E.arg27.slice (Rect.unit (s := S19) (k0_off3 t) S1.size (k0_off3_inb t))).squeeze S_ squeezes_S1_S_).sem = bsem E t.val :=
    sem_at _ _ _ _ (emb1 _ (by rw [hoff3]; simp [Nat.mod_eq_of_lt ht]))
  rw [show 19 - t.val = (19 - (t.val + 1)) + 1 by omega, Rg_succ]
  have hs := hI.sg t.val ht
  have hw := hI.st t.val ht
  iintro ⟨Hseg, Hst, HB, Hv, Hcell, HF⟩
  iapply (wp_word (c : Thread nD τ) 𝒱 bd (X := I.seg) (ix1 (Fin.ofNat 19 t.val)) (emb1 _ (by rw [hoff1]; simp [Nat.mod_eq_of_lt ht]))) $$ Hseg
  iintro Hseg
  iapply (wp_as (c : Thread nD τ) 𝒱 bd (chk1_of _ hs))
  iapply (wp_word (c : Thread nD τ) 𝒱 bd (X := I.start) (ix1 (Fin.ofNat 23 (I.sgw t.val).toNat)) (emb1 _ (by
    show (I.sgw t.val).toNat = _; simp [Nat.mod_eq_of_lt hs]))) $$ Hst
  iintro Hst
  iapply (wp_as (c : Thread nD τ) 𝒱 bd (chk2_of _ hw))
  ihave HB := (At_drop (c : Thread nD τ)).1 $$ HB
  icases HB with ⟨HB, Htok⟩
  ihave Hv := (Any_split (c : Thread nD τ) (rowsB_split (40 * t.val) (40 * t.val + 40) 760 (by omega) (by omega)) (rowsB_disj _ _ _)) $$ Hv
  icases Hv with ⟨Hw, Hv⟩
  icases Hcell with ⟨Hc, Hcell⟩
  have hset := set_rowsB (off := k0_off4 t) (n := 40) (inb := k0_off4_inb t) (by rw [hoff4]; rfl)
  rw [show k0_off4 t 0 = 40 * t.val by rw [hoff4]; rfl] at hset
  have hsd := Sub.slice (Val := Elt F) (c : Thread nD τ) E.arg17 (Rect.unit (s := S776x8192) (k0_off4 t) S40x8192.size (k0_off4_inb t)) (fun _ => rfl)
  rw [hset] at hsd
  have hN0 : 0 < Nb E := sig.dmaCredit_pos _ _ _ _ _ (by rw [Shape.numel]; simp [Fin.prod_univ_succ])
  have hs2 := Sub.slice (Val := Elt F) (c : Thread nD τ) E.arg9 (Rect.unit (s := S1000x8192) (k0_off5 (I.st t.val)) S40x8192.size (k0_off5_inb (I.st t.val) (chk2_of _ hw))) (fun _ => rfl)
  iapply (wp_cpG (c : Thread nD τ) 𝒱 bd (ms := E.arg9) (md := E.arg17) (X := I.B) (Y := I.Bv)
    hs2 hsd _ (congrArg SemLoc.dma hsem) (Finset.subset_univ _) ?_ (Nb E) rfl hN0) $$ [Htok Hw Hc]
  · intro x
    have h0 : (x 0).val < 40 := (x 0).isLt
    have e0 : ((Rect.unit (s := S776x8192) (k0_off4 t) S40x8192.size (k0_off4_inb t)).emb x 0).val = 40 * t.val + (x 0).val := by
      rw [Rect.emb_apply]; show k0_off4 t 0 + 1 * (x 0).val = _; rw [hoff4]; simp
    have e1 : ((Rect.unit (s := S776x8192) (k0_off4 t) S40x8192.size (k0_off4_inb t)).emb x 1).val = (x 1).val := by
      rw [Rect.emb_apply]; show k0_off4 t 1 + 1 * (x 1).val = _; rw [hoff4]; simp
    unfold In.Bv
    rw [if_pos (by rw [e0]; omega)]
    refine congrArg I.B ?_
    have hb := base_eq _ hw
    funext a
    apply Fin.ext
    refine Eq.trans ?_ (Rect.emb_apply _ _ _).symm
    match a with
    | ⟨0, _⟩ =>
      show (Fin.ofNat 1000 _).val = base (I.st t.val) + 1 * (x 0).val
      rw [e0, show (40 * t.val + (x 0).val) / 40 = t.val by omega, show (40 * t.val + (x 0).val) % 40 = (x 0).val by omega]
      simp only [Fin.val_ofNat]
      omega
    | ⟨1, _⟩ =>
      refine e1.trans ?_
      show _ = 0 + 1 * (x 1).val
      omega
  · isplitl [Htok]; · iexact Htok
    isplitl [Hw]; · iexact Hw
    iexact Hc
  iintro HF1
  iapply (wp_done (c : Thread nD τ) 𝒱 bd)
  isplitl [Hseg]; · iexact Hseg
  isplitl [Hst]; · iexact Hst
  isplitl [HB]; · iexact HB
  isplitl [Hv]; · iexact Hv
  isplitl [Hcell]; · iexact Hcell
  iapply (Rg_snoc (bFlight c E I) 0 t.val)
  isplitl [HF]; · iexact HF
  iapply (ent_of_eq (congrArg (bFlight c E I) (Nat.zero_add t.val).symm)) $$ HF1

end Cert.Kernel.Hand

end
-- ==== Proof.Run.Keyed.lean ====
/-
  Further rules of the run: parts of a body as steps, loads whose value is not used, and buffers filled piece by piece
  in the order of a key.
-/
module

public import proofs.«01_k».proof.Proof.Run.Basic

@[expose] public section

namespace Lora

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Transfers

noncomputable section

variable {nD : Nat} {τ : Topo} {sig : RefSig} {Val : EltTy → Type} [∀ e, Nonempty (Val e)]

local notation "𝕄" => MT nD τ sig Unit Val ℕ (Pipeline.UD sig nD τ) ℕ

variable {sp sp' : Space} {s s' : Shape} {e e' : EltTy}

/-- The indices whose key is below `n`. -/
def below (key : s.Idx → ℕ) (n : ℕ) : Finset s.Idx := Finset.univ.filter fun i => key i < n
/-- The indices whose key is `n` or more. -/
def above (key : s.Idx → ℕ) (n : ℕ) : Finset s.Idx := Finset.univ.filter fun i => n ≤ key i
/-- The indices whose key is `n`. -/
def only (key : s.Idx → ℕ) (n : ℕ) : Finset s.Idx := Finset.univ.filter fun i => key i = n

theorem below_zero (key : s.Idx → ℕ) : below key 0 = ∅ := by
  ext i; simp [below]
theorem above_zero (key : s.Idx → ℕ) : above key 0 = Finset.univ := by
  ext i; simp [above]
theorem below_all (key : s.Idx → ℕ) (n : ℕ) (h : ∀ i, key i < n) : below key n = Finset.univ := by
  ext i; simp [below, h]
theorem above_all (key : s.Idx → ℕ) (n : ℕ) (h : ∀ i, key i < n) : above key n = ∅ := by
  ext i; simp [above, h]
theorem below_succ (key : s.Idx → ℕ) (n : ℕ) : below key (n + 1) = below key n ∪ only key n := by
  ext i; simp only [below, only, Finset.mem_filter, Finset.mem_union, Finset.mem_univ, true_and]; omega
theorem below_disj (key : s.Idx → ℕ) (n : ℕ) : Disjoint (below key n) (only key n) := by
  rw [Finset.disjoint_left]; intro i; simp only [below, only, Finset.mem_filter, Finset.mem_univ, true_and]; omega
theorem above_succ (key : s.Idx → ℕ) (n : ℕ) : above key n = only key n ∪ above key (n + 1) := by
  ext i; simp only [above, only, Finset.mem_filter, Finset.mem_union, Finset.mem_univ, true_and]; omega
theorem above_disj (key : s.Idx → ℕ) (n : ℕ) : Disjoint (only key n) (above key (n + 1)) := by
  rw [Finset.disjoint_left]; intro i; simp only [above, only, Finset.mem_filter, Finset.mem_univ, true_and]; omega

variable (c : Thread nD τ)

theorem below_snoc {v : View sig c.2.kind sp s e} {q : PosShare TreeShare} {key : s.Idx → ℕ} {n : ℕ} {X : s.Idx → Val e} :
    (iprop(At c v q (below key n) X ∗ At c v q (only key n) X) : sProp 𝕄) ⊢ At c v q (below key (n + 1)) X :=
  (At_split c (below_succ key n) (below_disj key n)).2

theorem above_take {v : View sig c.2.kind sp s e} {key : s.Idx → ℕ} {n : ℕ} :
    (Any c v (above key n) : sProp 𝕄) ⊢ iprop(Any c v (only key n) ∗ Any c v (above key (n + 1))) :=
  Any_split c (above_succ key n) (above_disj key n)

/-- The shares of a buffer taken out one by one, given back. -/
theorem At_rejoin {v : View sig c.2.kind sp s e} {q : PosShare TreeShare} {S : Finset s.Idx} {X : s.Idx → Val e} (n : ℕ) :
    iprop(At c v (shareDrop q n) S X ∗ Rg (fun k => At c v (shareTokN q k) S X) 0 n) ⊢ (At c v q S X : sProp 𝕄) := by
  have h : ∀ n a, iprop(At c v (shareDrop q (a + n)) S X ∗ Rg (fun k => At c v (shareTokN q k) S X) a n) ⊢ (At c v (shareDrop q a) S X : sProp 𝕄) := by
    intro n
    induction n with
    | zero => intro a; iintro ⟨H, _⟩; iexact H
    | succ n ih =>
      intro a
      rw [Rg_succ, show a + (n + 1) = a + 1 + n by omega]
      iintro ⟨H, ⟨H1, H2⟩⟩
      iapply (At_drop c).2
      isplitr [H1]
      · iapply (ih (a + 1))
        isplitl [H] <;> iassumption
      · iexact H1
  have h0 := h n 0
  rw [Nat.zero_add] at h0
  exact h0

section Rules

variable {Λ : Labels} {defs : Defs nD τ sig Val Λ} (𝒱 : Variants) (bd : Option 𝒱.V)
variable {α β : Type}

/-- A part of a program as one step. -/
theorem wp_part {Q : α → sProp 𝕄} {p : Prog (TpuEff nD τ sig Val Λ c.2) β} {k : β → Prog (TpuEff nD τ sig Val Λ c.2) α}
    {P P' : sProp 𝕄} (a : β) (h : P ⊢ wp frame (wpE defs 𝒱 c bd) Set.univ p (fun r => iprop(⌜r = a⌝ ∗ P'))) :
    P ⊢ iprop((P' -∗ wp frame (wpE defs 𝒱 c bd) Set.univ (k a) Q) -∗ wp frame (wpE defs 𝒱 c bd) Set.univ (p >>= k) Q) := by
  rw [wp_bind]
  iintro HP Hk
  ihave H := h $$ HP
  have hm : iprop((P' -∗ wp frame (wpE defs 𝒱 c bd) Set.univ (k a) Q) ∗ wp frame (wpE defs 𝒱 c bd) Set.univ p (fun r => iprop(⌜r = a⌝ ∗ P')))
      ⊢ wp frame (wpE defs 𝒱 c bd) Set.univ p (fun r => wp frame (wpE defs 𝒱 c bd) Set.univ (k r) Q) := by
    refine (wp_frame_l _ _ _).trans (wp_mono _ _ _ ?_)
    intro r
    iintro ⟨Hk, %hr, HP⟩
    subst hr
    iapply Hk $$ HP
  iapply hm
  isplitl [Hk] <;> iassumption

/-- A load whose value is not used. -/
theorem wp_ldA {Q : α → sProp 𝕄} {cs : CoreSpace} {m : Memref sig c.2.kind cs s e} {r : LoadRect s} {hl : m.view.LoadsAt r}
    {k : (r.shape.Idx → Val e) → Prog (TpuEff nD τ sig Val Λ c.2) α} {S : Finset s.Idx} (hS : r.set ⊆ S) :
    (Any c m.view S : sProp 𝕄)
      ⊢ iprop((∀ v, Any c m.view S -∗ wp frame (wpE defs 𝒱 c bd) Set.univ (k v) Q)
        -∗ wp frame (wpE defs 𝒱 c bd) Set.univ (Prog.lift (.load m r hl) >>= k) Q) := by
  unfold Any
  iintro ⟨%X, H⟩ Hk
  iapply (wp_ld c 𝒱 bd (defs := defs) (hl := hl) (k := k) (Q := Q) (X := X) (q := fullShare) hS) $$ H
  iintro H
  iapply Hk
  iexists X
  iexact H

/-- A store over elements whatever they hold. -/
theorem wp_stA {Q : α → sProp 𝕄} {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {S : Finset s.Idx} (X : s.Idx → Val e)
    (hS : r.set = S) (hin : ∀ x, X (r.emb x) = w x) :
    (Any c m.view S : sProp 𝕄)
      ⊢ iprop((At c m.view fullShare S X -∗ wp frame (wpE defs 𝒱 c bd) Set.univ (k ⟨⟩) Q)
        -∗ wp frame (wpE defs 𝒱 c bd) Set.univ (Prog.lift (.store m r w Finset.univ hx hm) >>= k) Q) := by
  unfold Any
  iintro ⟨%Y, H⟩
  iapply (wp_st c 𝒱 bd (defs := defs) (hx := hx) (hm := hm) (k := k) (Q := Q) (X := Y) (S := S) X (le_of_eq hS) hin (fun i hi hn => absurd (hS ▸ hi) hn)) $$ H

/-- A store of the next piece of a buffer. -/
theorem wp_fill {Q : α → sProp 𝕄} {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {key : s.Idx → ℕ} {n : ℕ} (X : s.Idx → Val e)
    (hS : r.set = only key n) (hin : ∀ x, X (r.emb x) = w x) :
    (iprop(At c m.view fullShare (below key n) X ∗ Any c m.view (above key n)) : sProp 𝕄)
      ⊢ iprop((iprop(At c m.view fullShare (below key (n + 1)) X ∗ Any c m.view (above key (n + 1))) -∗ wp frame (wpE defs 𝒱 c bd) Set.univ (k ⟨⟩) Q)
        -∗ wp frame (wpE defs 𝒱 c bd) Set.univ (Prog.lift (.store m r w Finset.univ hx hm) >>= k) Q) := by
  iintro ⟨H1, H2⟩ Hk
  ihave H2 := (above_take c) $$ H2
  icases H2 with ⟨H2, H3⟩
  iapply (wp_stA c 𝒱 bd (defs := defs) (hx := hx) (hm := hm) (k := k) (Q := Q) X hS hin) $$ H2
  iintro H2
  iapply Hk
  isplitr [H3]
  · iapply (below_snoc c)
    isplitl [H1] <;> iassumption
  · iexact H3

end Rules

end
end Lora
-- ==== Proof.Run.K.T3.lean ====
/-
  The loop that waits for the nineteen windows of the up-projection.
-/
module

public import proofs.«01_k».proof.Proof.Run.K.T1
public import proofs.«01_k».proof.Proof.Run.Keyed

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (c : Dev nD) (E : Env) (I : In F)

/-- What the waits a thread has passed leave behind. -/
abbrev Ow : sProp 𝕄 := iprop(∃ W, owes (c : Thread nD τ) 0 W)

/-- After `k` windows have arrived. -/
def T3inv (k : ℕ) : sProp 𝕄 :=
  iprop(At (c : Thread nD τ) E.arg1.view fullShare Finset.univ I.seg ∗ At (c : Thread nD τ) E.arg2.view fullShare Finset.univ I.start
    ∗ At (c : Thread nD τ) E.arg17.view fullShare (rowsB 0 (40 * k)) I.Bv
    ∗ Rg (fun t => At (c : Thread nD τ) E.arg9.view (shareTokN fullShare t) Finset.univ I.B) 0 k
    ∗ Rg (bCell c E) 0 k ∗ Rg (bFlight c E I) k (19 - k) ∗ Ow c)

variable (𝒱 : Variants) (bd : Option 𝒱.V)

theorem chk3_of (w : BitVec 32) (h : w.toNat < 23) : k0_chk3 w := chk1_of w h
theorem chk4_of (w : BitVec 32) (h : w.toNat ≤ 968) : k0_chk4 w := chk2_of w h

theorem t3_step (hI : Good I) (t : Fin k0_t3_loop.trips) (u : Unit) :
    T3inv c E I t.val ⊢ wp frame (wpE (defs₀ (F := F)) 𝒱 (c : Thread nD τ) bd) Set.univ (E.t3 (F := F) t u) (fun _ => T3inv c E I (t.val + 1)) := by
  have ht : t.val < 19 := t.isLt
  have hoff1 : k0_off45 t 0 = t.val := by revert t; decide +kernel
  have hoff3 : k0_off47 t 0 = t.val := by revert t; decide +kernel
  unfold Env.t3 k0_t3_body T3inv
  have hsem : ((E.arg27.slice (Rect.unit (s := S19) (k0_off47 t) S1.size (k0_off47_inb t))).squeeze S_ squeezes_S1_S_).sem = bsem E t.val :=
    sem_at _ _ _ _ (emb1 _ (by rw [hoff3]; simp [Nat.mod_eq_of_lt ht]))
  rw [show 19 - t.val = (19 - (t.val + 1)) + 1 by omega, Rg_succ]
  have hs := hI.sg t.val ht
  have hw := hI.st t.val ht
  iintro ⟨Hseg, Hst, Hv, Htok, Hcell, HF, HO⟩
  iapply (wp_word (c : Thread nD τ) 𝒱 bd (X := I.seg) (ix1 (Fin.ofNat 19 t.val)) (emb1 _ (by rw [hoff1]; simp [Nat.mod_eq_of_lt ht]))) $$ Hseg
  iintro Hseg
  iapply (wp_as (c : Thread nD τ) 𝒱 bd (chk3_of _ hs))
  iapply (wp_word (c : Thread nD τ) 𝒱 bd (X := I.start) (ix1 (Fin.ofNat 23 (I.sgw t.val).toNat)) (emb1 _ (by
    show (I.sgw t.val).toNat = _; simp [Nat.mod_eq_of_lt hs]))) $$ Hst
  iintro Hst
  iapply (wp_as (c : Thread nD τ) 𝒱 bd (chk4_of _ hw))
  icases HF with ⟨HF1, HF⟩
  iapply (wp_wt (c : Thread nD τ) 𝒱 bd (N := Nb E) (bsem E t.val) hsem rfl) $$ [HF1 HO]
  · isplitl [HF1] <;> iassumption
  iintro ⟨⟨HD, HT⟩, Hc, HO⟩
  iapply (wp_done (c : Thread nD τ) 𝒱 bd)
  isplitl [Hseg]; · iexact Hseg
  isplitl [Hst]; · iexact Hst
  isplitl [Hv HD]
  · iapply (At_split (c : Thread nD τ) (rowsB_split 0 (40 * t.val) (40 * (t.val + 1)) (by omega) (by omega)) (rowsB_disj _ _ _)).2
    isplitl [Hv] <;> iassumption
  isplitl [Htok HT]
  · iapply (Rg_snoc (fun t => At (c : Thread nD τ) E.arg9.view (shareTokN fullShare t) Finset.univ I.B) 0 t.val)
    isplitl [Htok]; · iexact Htok
    iapply (ent_of_eq (congrArg (fun t => At (c : Thread nD τ) E.arg9.view (shareTokN fullShare t) Finset.univ I.B) (Nat.zero_add t.val).symm)) $$ HT
  isplitl [Hcell Hc]
  · iapply (Rg_snoc (bCell c E) 0 t.val)
    isplitl [Hcell]; · iexact Hcell
    iapply (ent_of_eq (congrArg (bCell c E) (Nat.zero_add t.val).symm)) $$ Hc
  isplitl [HF] <;> iassumption

end Cert.Kernel.Hand

end
-- ==== Proof.Run.Slots.lean ====
/-
  The pieces of memrefs that the copies, loads and stores of the kernel name, by coordinates.
-/
module

public import proofs.«01_k».proof.Proof.Run.Keyed
public import Idealize.ShloMosaic.Lib.Pointwise

@[expose] public section

namespace Lora

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Transfers

noncomputable section

/-- Dropping a leading axis of one element. -/
theorem reshape3_2 {a b : ℕ} (h : (⟨2, ![a, b]⟩ : Shape).numel = (⟨3, ![1, a, b]⟩ : Shape).numel) (x : (⟨2, ![a, b]⟩ : Shape).Idx) :
    Shape.reshapeEquiv h x = ix3 (n0 := 1) (n1 := a) (n2 := b) 0 (x 0) (x 1) :=
  Shape.reshapeEquiv_eq_of_vals h x _ _ _ (rowMajor_val3 _ (a * b) b rfl rfl) (rowMajor_val2 _ b rfl) (by simp)

/-- Adding a leading axis of one element. -/
theorem reshape2_3 {a b : ℕ} (h : (⟨3, ![1, a, b]⟩ : Shape).numel = (⟨2, ![a, b]⟩ : Shape).numel) (x : (⟨3, ![1, a, b]⟩ : Shape).Idx) :
    Shape.reshapeEquiv h x = ix2 (n0 := a) (n1 := b) (x 1) (x 2) :=
  Shape.reshapeEquiv_eq_of_vals h x _ _ _ (rowMajor_val2 _ b rfl) (rowMajor_val3 _ (a * b) b rfl rfl) (by
    have : (x 0).val < 1 := (x 0).isLt
    rw [show (x 0).val = 0 by omega]; simp)

theorem cast3_2 {α : Type} {a b : ℕ} (v : (⟨3, ![1, a, b]⟩ : Shape).Idx → α) (h : (⟨3, ![1, a, b]⟩ : Shape).ShapeCasts ⟨2, ![a, b]⟩) (x : (⟨2, ![a, b]⟩ : Shape).Idx) :
    shapeCast ⟨2, ![a, b]⟩ v h x = v (ix3 (n0 := 1) (n1 := a) (n2 := b) 0 (x 0) (x 1)) := congrArg v (reshape3_2 h x)

theorem cast2_3 {α : Type} {a b : ℕ} (v : (⟨2, ![a, b]⟩ : Shape).Idx → α) (h : (⟨2, ![a, b]⟩ : Shape).ShapeCasts ⟨3, ![1, a, b]⟩) (x : (⟨3, ![1, a, b]⟩ : Shape).Idx) :
    shapeCast ⟨3, ![1, a, b]⟩ v h x = v (ix2 (n0 := a) (n1 := b) (x 1) (x 2)) := congrArg v (reshape2_3 h x)

theorem ext3 {n0 n1 n2 : ℕ} {i j : (⟨3, ![n0, n1, n2]⟩ : Shape).Idx} (h0 : (i 0).val = (j 0).val) (h1 : (i 1).val = (j 1).val) (h2 : (i 2).val = (j 2).val) : i = j := by
  funext a; apply Fin.ext
  match a with
  | ⟨0, _⟩ => exact h0
  | ⟨1, _⟩ => exact h1
  | ⟨2, _⟩ => exact h2

theorem ext2 {n0 n1 : ℕ} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

/-- The elements of a unit-stride block of a rank 3 shape. -/
theorem mem3 {n0 n1 n2 : ℕ} {off sz : Fin 3 → ℕ} {inb} {i : (⟨3, ![n0, n1, n2]⟩ : Shape).Idx} {p q r a b d : ℕ} (ho : off = ![p, q, r]) (hs : sz = ![a, b, d]) :
    i ∈ (Rect.unit (s := ⟨3, ![n0, n1, n2]⟩) off sz inb).set ↔
      (p ≤ (i 0).val ∧ (i 0).val < p + a) ∧ (q ≤ (i 1).val ∧ (i 1).val < q + b) ∧ (r ≤ (i 2).val ∧ (i 2).val < r + d) := by
  subst ho hs
  rw [Rect.mem_set_unit]
  simp only [Fin.forall_fin_succ, Matrix.cons_val_zero, Matrix.cons_val_succ, Fin.forall_fin_zero, and_true]
  rfl

theorem mem2 {n0 n1 : ℕ} {off sz : Fin 2 → ℕ} {inb} {i : (⟨2, ![n0, n1]⟩ : Shape).Idx} {p q a b : ℕ} (ho : off = ![p, q]) (hs : sz = ![a, b]) :
    i ∈ (Rect.unit (s := ⟨2, ![n0, n1]⟩) off sz inb).set ↔
      (p ≤ (i 0).val ∧ (i 0).val < p + a) ∧ (q ≤ (i 1).val ∧ (i 1).val < q + b) := by
  subst ho hs
  rw [Rect.mem_set_unit]
  simp only [Fin.forall_fin_succ, Matrix.cons_val_zero, Matrix.cons_val_succ, Fin.forall_fin_zero, and_true]
  rfl

/-- An index of a unit-stride block, by coordinates. -/
theorem emb_val {s : Shape} {off sz : Fin s.rank → ℕ} {inb} {x : (Rect.unit (s := s) off sz inb).shape.Idx} (a : Fin s.rank) :
    ((Rect.unit (s := s) off sz inb).emb x a).val = off a + (x a).val := by
  refine (Rect.emb_apply _ _ _).trans ?_
  show off a + 1 * (x a).val = _
  rw [Nat.one_mul]

variable {nD : Nat} {τ : Topo} {sig : RefSig} {Val : EltTy → Type} [∀ e, Nonempty (Val e)]
variable {sp : Space} {e : EltTy} (c : Thread nD τ)

/-- A block of one leading coordinate, its leading axis dropped. -/
theorem slot_sub {n0 n1 n2 h b p r : ℕ} (m : Memref sig c.2.kind sp ⟨3, ![n0, n1, n2]⟩ e) {off sz : Fin 3 → ℕ} {inb hr}
    (ho : off = ![p, r, 0]) (hz : sz = ![1, h, b]) (hsq : (Rect.unit (s := ⟨3, ![n0, n1, n2]⟩) off sz inb).shape.Squeezes ⟨2, ![h, b]⟩)
    {S : Finset (⟨3, ![n0, n1, n2]⟩ : Shape).Idx} (hS : ∀ i, i ∈ S ↔ (i 0).val = p ∧ r ≤ (i 1).val ∧ (i 1).val < r + h ∧ (i 2).val < b) :
    ∃ φ : (⟨2, ![h, b]⟩ : Shape).Idx → (⟨3, ![n0, n1, n2]⟩ : Shape).Idx,
      Sub (Val := Val) c m ((m.slice (Rect.unit (s := ⟨3, ![n0, n1, n2]⟩) off sz inb) hr).squeeze ⟨2, ![h, b]⟩ hsq) S φ
      ∧ ∀ x, (φ x 0).val = p ∧ (φ x 1).val = r + (x 0).val ∧ (φ x 2).val = (x 1).val := by
  subst ho hz
  have h1 := Sub.squeeze (Val := Val) c (Sub.slice c m (Rect.unit (s := ⟨3, ![n0, n1, n2]⟩) ![p, r, 0] ![1, h, b] inb) hr) hsq
  have e1 : (Rect.unit (s := ⟨3, ![n0, n1, n2]⟩) ![p, r, 0] ![1, h, b] inb).set = S := by
    ext i; rw [mem3 rfl rfl, hS]; omega
  rw [e1] at h1
  refine ⟨_, h1, fun x => ?_⟩
  have hx := reshape3_2 (a := h) (b := b) hsq.numel_eq x
  refine ⟨?_, ?_, ?_⟩
  · rw [emb_val, show Shape.reshapeEquiv hsq.numel_eq x = _ from hx]; rfl
  · rw [emb_val, show Shape.reshapeEquiv hsq.numel_eq x = _ from hx]; rfl
  · rw [emb_val, show Shape.reshapeEquiv hsq.numel_eq x = _ from hx]; exact Nat.zero_add _

/-- A block of a rank 2 memref. -/
theorem blk_sub {n0 n1 h b p r : ℕ} (m : Memref sig c.2.kind sp ⟨2, ![n0, n1]⟩ e) {off : Fin 2 → ℕ} {sz : Fin 2 → ℕ} {inb hr}
    (ho : off = ![p, r]) (hz : sz = ![h, b]) :
    ∃ (S : Finset (⟨2, ![n0, n1]⟩ : Shape).Idx) (φ : (Rect.unit (s := ⟨2, ![n0, n1]⟩) off sz inb).shape.Idx → (⟨2, ![n0, n1]⟩ : Shape).Idx),
      Sub (Val := Val) c m (m.slice (Rect.unit (s := ⟨2, ![n0, n1]⟩) off sz inb) hr) S φ
      ∧ (∀ i, i ∈ S ↔ p ≤ (i 0).val ∧ (i 0).val < p + h ∧ r ≤ (i 1).val ∧ (i 1).val < r + b)
      ∧ ∀ x, (φ x 0).val = p + (x 0).val ∧ (φ x 1).val = r + (x 1).val := by
  subst ho hz
  refine ⟨_, _, Sub.slice (Val := Val) c m (Rect.unit (s := ⟨2, ![n0, n1]⟩) ![p, r] ![h, b] inb) hr, fun i => ?_, fun x => ⟨?_, ?_⟩⟩
  · rw [mem2 rfl rfl]; omega
  · exact emb_val 0
  · exact emb_val 1

section Rules

variable {Λ : Labels} {defs : Defs nD τ sig Val Λ} (𝒱 : Variants) (bd : Option 𝒱.V)
variable {α : Type}

local notation "𝕄" => MT nD τ sig Unit Val ℕ (Pipeline.UD sig nD τ) ℕ
local notation "EC" => (countersEmb (U := Pipeline.UD sig nD τ) : UEmb Counters 𝕄)

/-- The slot `p` of a ring of `n0` planes. -/
abbrev plane {n0 n1 n2 : ℕ} (p : ℕ) : Finset (⟨3, ![n0, n1, n2]⟩ : Shape).Idx := only (fun i => (i 0).val) p

theorem mem_plane {n0 n1 n2 : ℕ} {p : ℕ} {i : (⟨3, ![n0, n1, n2]⟩ : Shape).Idx} : i ∈ (plane p : Finset (⟨3, ![n0, n1, n2]⟩ : Shape).Idx) ↔ (i 0).val = p := by
  simp [plane, only]

/-- A copy of a block of a matrix into a plane of a ring. -/
theorem ring_start {Q : α → sProp 𝕄} {sp' : Space} {N0 N1 n0 h b ps rs p : ℕ} {ms : Memref sig c.2.kind sp ⟨2, ![N0, N1]⟩ e} {md : Memref sig c.2.kind sp' ⟨3, ![n0, h, b]⟩ e}
    {offs szs : Fin 2 → ℕ} {inbs hrs} {offd szd : Fin 3 → ℕ} {inbd hrd} {hsq : (Rect.unit (s := ⟨3, ![n0, h, b]⟩) offd szd inbd).shape.Squeezes ⟨2, szs⟩}
    {sm : SemLoc sig} {hsrc hdst hsem}
    {k : PUnit → Prog (TpuEff nD τ sig Val Λ c.2) α} {q : PosShare TreeShare} {X : (⟨2, ![N0, N1]⟩ : Shape).Idx → Val e} {Y : (⟨3, ![n0, h, b]⟩ : Shape).Idx → Val e}
    (hos : offs = ![ps, rs]) (hzs : szs = ![h, b]) (hod : offd = ![p, 0, 0]) (hzd : szd = ![1, h, b]) (sm' : SemLoc sig) (hsm : sm = sm')
    (hY : ∀ i j, (i 0).val = p → (j 0).val = ps + (i 1).val → (j 1).val = rs + (i 2).val → Y i = X j)
    (N : ℕ) (hN : ((md.slice (Rect.unit (s := ⟨3, ![n0, h, b]⟩) offd szd inbd) hrd).squeeze ⟨2, szs⟩ hsq).view.amount sm = N) (hN0 : 0 < N) :
    iprop(At c ms.view q Finset.univ X ∗ Any c md.view (plane p) ∗ semVal (c, sm') 0)
      ⊢ iprop((Flight EC c sm' () N iprop(At c md.view fullShare (plane p) Y ∗ At c ms.view q Finset.univ X)
              -∗ wp frame (wpE defs 𝒱 c bd) Set.univ (k ⟨⟩) Q)
          -∗ wp frame (wpE defs 𝒱 c bd) Set.univ (Prog.lift (.enqueueDma (ms.slice (Rect.unit (s := ⟨2, ![N0, N1]⟩) offs szs inbs) hrs)
              (.here ((md.slice (Rect.unit (s := ⟨3, ![n0, h, b]⟩) offd szd inbd) hrd).squeeze ⟨2, szs⟩ hsq)) sm hsrc hdst hsem) >>= k) Q) := by
  subst hzs
  obtain ⟨Ss, φs, h1, -, h3⟩ := blk_sub (Val := Val) c ms (inb := inbs) (hr := hrs) hos rfl
  obtain ⟨φd, h4, h5⟩ := slot_sub (Val := Val) c md (inb := inbd) (hr := hrd) hod hzd hsq (S := plane p) (fun i => by
    rw [mem_plane]
    have := (i 1).isLt
    have := (i 2).isLt
    simp only [Matrix.cons_val_zero, Matrix.cons_val_one] at *
    constructor
    · intro h; refine ⟨h, Nat.zero_le _, ?_, ?_⟩
      · rw [Nat.zero_add]; exact (i 1).isLt
      · exact (i 2).isLt
    · exact fun h => h.1)
  exact wp_cpG c 𝒱 bd h1 h4 sm' hsm (Finset.subset_univ _) (fun x => hY _ _ (h5 x).1
    ((h3 x).1.trans (by rw [(h5 x).2.1]; simp)) ((h3 x).2.trans (by rw [(h5 x).2.2]))) N hN hN0

end Rules

end
end Lora
-- ==== Proof.Run.K.T2.lean ====
/-
  The loop that decodes the packed weights: sixteen blocks of words arrive in turn in two slots; each is decoded,
  scaled group by group and stored in the resident weight.
-/
module

public import proofs.«01_k».proof.Proof.Run.K.T3
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- Block `k` of the packed words. -/
def wblk (k : ℕ) : S1x256x512.Idx → Elt F .i32 := fun x => I.WP (ix2 (x 1) (Fin.ofNat 8192 (512 * k + (x 2).val)))
/-- A slot holding block `k`. -/
def wC (k : ℕ) : S2x256x512.Idx → Elt F .i32 := fun x => I.WP (ix2 (x 1) (Fin.ofNat 8192 (512 * k + (x 2).val)))
/-- The decoded, scaled weight, block by block. -/
def W : S16x2048x512.Idx → Elt F .bf16 := fun i =>
  FloatOps.mulf (φ := .bf16) (k0_pay1 (F := F) (I.wblk (i 0).val) (ix2 (i 1) (i 2)))
    (I.WS (ix2 (Fin.ofNat 16 ((i 1).val / 128)) (Fin.ofNat 8192 (512 * (i 0).val + (i 2).val))))
end In

/-- The order in which the pieces of the weight are stored. -/
abbrev keyW (i : S16x2048x512.Idx) : ℕ := 16 * (i 0).val + (i 1).val / 128

variable (c : Dev nD) (E : Env) (I : In F)

/-- The units a block's copy credits. -/
abbrev Nw : ℕ := sig.dmaCredit .tc (Kind.table .tc .vmem) E.arg14.view.buf S256x512 .i32
/-- The cell of slot `p`. -/
abbrev wsem (p : ℕ) : DmaSem sig := E.arg24.ix (ix1 (Fin.ofNat 2 p))
/-- Slot `p` unused. -/
abbrev wIdle (p : ℕ) : sProp 𝕄 :=
  iprop(At (c : Thread nD τ) E.arg6.view (shareTokN fullShare p) Finset.univ I.WP ∗ Any (c : Thread nD τ) E.arg14.view (plane p)
    ∗ semVal ((c : Thread nD τ), .dma (wsem E p)) 0)
/-- Slot `p` being filled with block `k`. -/
abbrev wBusy (p k : ℕ) : sProp 𝕄 :=
  Flight EC (c : Thread nD τ) (.dma (wsem E p)) () (Nw E)
    iprop(At (c : Thread nD τ) E.arg14.view fullShare (plane p) (I.wC k) ∗ At (c : Thread nD τ) E.arg6.view (shareTokN fullShare p) Finset.univ I.WP)
/-- The slot of block `k`: being filled while there is such a block. -/
def wNext (k : ℕ) : sProp 𝕄 := if k < 16 then wBusy c E I (k % 2) k else wIdle c E I (k % 2)

variable (𝒱 : Variants) (bd : Option 𝒱.V)

/-- Part 1 of a trip: the next block is asked for, this one is awaited. -/
theorem part1_spec (t : Fin k0_t2_loop.trips) :
    iprop(wNext c E I t.val ∗ wIdle c E I ((t.val + 1) % 2) ∗ Ow c)
      ⊢ wp frame (wpE (defs₀ (F := F)) 𝒱 (c : Thread nD τ) bd) Set.univ
          (k0_part1 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 0#32 1#32 t)
          (fun r => iprop(⌜r = ⟨Scf.iv 0#32 1#32 t, Scalar.select (Scalar.cmpi .eq 2#32 0#32) 1#32 2#32, Scalar.remsi (Scf.iv 0#32 1#32 t) (Scalar.select (Scalar.cmpi .eq 2#32 0#32) 1#32 2#32), 0#32⟩⌝
            ∗ iprop(At (c : Thread nD τ) E.arg14.view fullShare (plane (t.val % 2)) (I.wC t.val)
              ∗ At (c : Thread nD τ) E.arg6.view (shareTokN fullShare (t.val % 2)) Finset.univ I.WP ∗ semVal ((c : Thread nD τ), .dma (wsem E (t.val % 2))) 0
              ∗ wNext c E I (t.val + 1) ∗ Ow c))) := by
  have ht : t.val < 16 := t.isLt
  have hoff9 : k0_off9 t 0 = t.val % 2 := by revert t; decide +kernel
  have hsem : ((E.arg24.slice (Rect.unit (s := S2) (k0_off9 t) S1.size (k0_off9_inb t))).squeeze S_ squeezes_S1_S_).sem = wsem E (t.val % 2) :=
    sem_at _ _ _ _ (emb1 _ (by rw [hoff9]; simp))
  have hN0 : 0 < Nw E := sig.dmaCredit_pos _ _ _ _ _ (by rw [Shape.numel]; simp [Fin.prod_univ_succ])
  rw [k0_part1_eq_skeleton]
  unfold k0_part1_skel wNext
  by_cases h : t.val + 1 < 16
  · have hc : k0_cond1 t = 1#1 := by clear hsem hN0 hoff9; revert t; decide +kernel
    have hoff6 : k0_off6 t 0 = (t.val + 1) % 2 := by clear hsem hN0 hc hoff9; revert t; decide +kernel
    have hoff7 : k0_off7 t = ![(t.val + 1) % 2, 0, 0] := by clear hsem hN0 hc hoff9; revert t; decide +kernel
    have hoff8 : k0_off8 t = ![0, 512 * (t.val + 1)] := by clear hsem hN0 hc hoff9 hoff6 hoff7; revert t; decide +kernel
    have hsem' : ((E.arg24.slice (Rect.unit (s := S2) (k0_off6 t) S1.size (k0_off6_inb t hc))).squeeze S_ squeezes_S1_S_).sem = wsem E ((t.val + 1) % 2) :=
      sem_at _ _ _ _ (emb1 _ (by rw [hoff6]; simp))
    rw [dif_pos hc, if_pos ht, if_pos h]
    simp only [bind_assoc, pure_bind]
    iintro ⟨HF, HI, HO⟩
    iapply (ring_start (c : Thread nD τ) 𝒱 bd (ms := E.arg6) (md := E.arg14) (X := I.WP) (Y := I.wC (t.val + 1)) hoff8 rfl hoff7 rfl _ (congrArg SemLoc.dma hsem') ?_ (Nw E) rfl hN0) $$ HI
    · intro i j h0 h1 h2
      have := (i 2).isLt
      refine congrArg I.WP (ext2 ?_ ?_)
      · rw [h1]; simp
      · rw [h2]
        have e : (i 2).val < 512 := (i 2).isLt
        simp; omega
    iintro HB
    iapply (wp_wt (c : Thread nD τ) 𝒱 bd (N := Nw E) (wsem E (t.val % 2)) hsem rfl) $$ [HF HO]
    · isplitl [HF] <;> iassumption
    iintro ⟨⟨HD, HT⟩, Hc, HO⟩
    iapply (wp_done (c : Thread nD τ) 𝒱 bd)
    isplitr [HD HT Hc HB HO]
    · ipureintro; rfl
    isplitl [HD]; · iexact HD
    isplitl [HT]; · iexact HT
    isplitl [Hc]; · iexact Hc
    isplitl [HB] <;> iassumption
  · have hc : ¬ k0_cond1 t = 1#1 := by clear hsem hN0 hoff9; revert t; decide +kernel
    rw [dif_neg hc, if_pos ht, if_neg h]
    simp only [bind_assoc, pure_bind]
    iintro ⟨HF, HI, HO⟩
    iapply (wp_wt (c : Thread nD τ) 𝒱 bd (N := Nw E) (wsem E (t.val % 2)) hsem rfl) $$ [HF HO]
    · isplitl [HF] <;> iassumption
    iintro ⟨⟨HD, HT⟩, Hc, HO⟩
    iapply (wp_done (c : Thread nD τ) 𝒱 bd)
    isplitr [HD HT Hc HI HO]
    · ipureintro; rfl
    isplitl [HD]; · iexact HD
    isplitl [HT]; · iexact HT
    isplitl [Hc]; · iexact Hc
    isplitl [HI] <;> iassumption

/-- A group of 128 rows of a decoded block, scaled. -/
theorem pay_at (v109 : FVec F S2048x512 .bf16) (v : Vec F S1x512 .bf16) (o : ℕ) (ho : o + 128 ≤ 2048) (h : S2048x512.Slices ![o, 0] S128x512) (x : S1x128x512.Idx) :
    shapeCast S1x128x512 (mulf (extractStridedSlice S128x512 ![o, 0] v109 h) (broadcastTo S128x512 v broadcasts_S1x512_S128x512)) shapeCasts_S128x512_S1x128x512 x
      = FloatOps.mulf (φ := .bf16) (v109 (ix2 (Fin.ofNat 2048 (o + (x 1).val)) (x 2))) (v (ix2 0 (x 2))) := by
  have h1 : (x 1).val < 128 := (x 1).isLt
  refine (cast2_3 (a := 128) (b := 512) _ shapeCasts_S128x512_S1x128x512 x).trans ?_
  refine congrArg₂ (FloatOps.mulf (φ := .bf16)) (congrArg v109 (ext2 ?_ ?_)) (congrArg v (ext2 ?_ ?_))
  · show o + (x 1).val = (o + (x 1).val) % 2048
    omega
  · exact Nat.zero_add _
  · rfl
  · rfl

/-- What a group's store writes is its piece of the weight. -/
theorem piece (t g : ℕ) (ht : t < 16) (hg : g < 16) {off : Fin 3 → ℕ} {inb} (ho : off = ![t, 128 * g, 0]) {off2 : Fin 2 → ℕ} {inb2} (ho2 : off2 = ![g, 512 * t])
    (h : S2048x512.Slices ![128 * g, 0] S128x512) (x : S1x128x512.Idx) :
    I.W ((Rect.unit (s := S16x2048x512) off S1x128x512.size inb).emb x)
      = shapeCast S1x128x512 (mulf (extractStridedSlice S128x512 ![128 * g, 0] (k0_pay1 (F := F) (I.wblk t)) h)
          (broadcastTo S128x512 (fun y => I.WS ((Rect.unit (s := S16x8192) off2 S1x512.size inb2).toLoadRect.idx y)) broadcasts_S1x512_S128x512)) shapeCasts_S128x512_S1x128x512 x := by
  subst ho ho2
  have h0 : (x 0).val < 1 := (x 0).isLt
  have h1 : (x 1).val < 128 := (x 1).isLt
  have h2 : (x 2).val < 512 := (x 2).isLt
  have e0 : ((Rect.unit (s := S16x2048x512) ![t, 128 * g, 0] S1x128x512.size inb).emb x 0).val = t := (emb_val 0).trans (by show t + (x 0).val = t; omega)
  have e1 : ((Rect.unit (s := S16x2048x512) ![t, 128 * g, 0] S1x128x512.size inb).emb x 1).val = 128 * g + (x 1).val := emb_val 1
  have e2 : ((Rect.unit (s := S16x2048x512) ![t, 128 * g, 0] S1x128x512.size inb).emb x 2).val = (x 2).val := (emb_val 2).trans (by show 0 + (x 2).val = _; omega)
  rw [pay_at _ _ _ (by omega)]
  unfold In.W
  refine congrArg₂ (FloatOps.mulf (φ := .bf16)) ?_ (congrArg I.WS (ext2 ?_ ?_))
  · rw [e0]
    refine congrArg (k0_pay1 (F := F) (I.wblk t)) (ext2 ?_ ?_)
    · refine e1.trans ?_
      show _ = (128 * g + (x 1).val) % 2048
      omega
    · exact e2
  · show (_ / 128) % 16 = g + 0
    rw [e1]; omega
  · show (512 * _ + _) % 8192 = 512 * t + 1 * (x 2).val
    rw [e0, e2]; omega

/-- The elements of a group's store. -/
theorem piece_set (t g : ℕ) (hg : g < 16) {off : Fin 3 → ℕ} {inb} (ho : off = ![t, 128 * g, 0]) :
    (Rect.unit (s := S16x2048x512) off S1x128x512.size inb).set = only keyW (16 * t + g) := by
  ext i
  rw [mem3 ho rfl]
  have h1 : (i 1).val < 2048 := (i 1).isLt
  have h2 : (i 2).val < 512 := (i 2).isLt
  simp only [only, Finset.mem_filter, Finset.mem_univ, true_and, keyW]
  omega

theorem ow0 (t : Fin k0_t2_loop.trips) : k0_off13 t = ![0, 512 * t.val] := by revert t; decide +kernel
theorem os0 (t : Fin k0_t2_loop.trips) : k0_off14 t = ![t.val, 128 * 0, 0] := by revert t; decide +kernel
theorem ow1 (t : Fin k0_t2_loop.trips) : k0_off15 t = ![1, 512 * t.val] := by revert t; decide +kernel
theorem os1 (t : Fin k0_t2_loop.trips) : k0_off16 t = ![t.val, 128 * 1, 0] := by revert t; decide +kernel
theorem ow2 (t : Fin k0_t2_loop.trips) : k0_off17 t = ![2, 512 * t.val] := by revert t; decide +kernel
theorem os2 (t : Fin k0_t2_loop.trips) : k0_off18 t = ![t.val, 128 * 2, 0] := by revert t; decide +kernel
theorem ow3 (t : Fin k0_t2_loop.trips) : k0_off19 t = ![3, 512 * t.val] := by revert t; decide +kernel
theorem os3 (t : Fin k0_t2_loop.trips) : k0_off20 t = ![t.val, 128 * 3, 0] := by revert t; decide +kernel
theorem ow4 (t : Fin k0_t2_loop.trips) : k0_off21 t = ![4, 512 * t.val] := by revert t; decide +kernel
theorem os4 (t : Fin k0_t2_loop.trips) : k0_off22 t = ![t.val, 128 * 4, 0] := by revert t; decide +kernel
theorem ow5 (t : Fin k0_t2_loop.trips) : k0_off23 t = ![5, 512 * t.val] := by revert t; decide +kernel
theorem os5 (t : Fin k0_t2_loop.trips) : k0_off24 t = ![t.val, 128 * 5, 0] := by revert t; decide +kernel
theorem ow6 (t : Fin k0_t2_loop.trips) : k0_off25 t = ![6, 512 * t.val] := by revert t; decide +kernel
theorem os6 (t : Fin k0_t2_loop.trips) : k0_off26 t = ![t.val, 128 * 6, 0] := by revert t; decide +kernel
theorem ow7 (t : Fin k0_t2_loop.trips) : k0_off27 t = ![7, 512 * t.val] := by revert t; decide +kernel
theorem os7 (t : Fin k0_t2_loop.trips) : k0_off28 t = ![t.val, 128 * 7, 0] := by revert t; decide +kernel
theorem ow8 (t : Fin k0_t2_loop.trips) : k0_off29 t = ![8, 512 * t.val] := by revert t; decide +kernel
theorem os8 (t : Fin k0_t2_loop.trips) : k0_off30 t = ![t.val, 128 * 8, 0] := by revert t; decide +kernel
theorem ow9 (t : Fin k0_t2_loop.trips) : k0_off31 t = ![9, 512 * t.val] := by revert t; decide +kernel
theorem os9 (t : Fin k0_t2_loop.trips) : k0_off32 t = ![t.val, 128 * 9, 0] := by revert t; decide +kernel
theorem ow10 (t : Fin k0_t2_loop.trips) : k0_off33 t = ![10, 512 * t.val] := by revert t; decide +kernel
theorem os10 (t : Fin k0_t2_loop.trips) : k0_off34 t = ![t.val, 128 * 10, 0] := by revert t; decide +kernel
theorem ow11 (t : Fin k0_t2_loop.trips) : k0_off35 t = ![11, 512 * t.val] := by revert t; decide +kernel
theorem os11 (t : Fin k0_t2_loop.trips) : k0_off36 t = ![t.val, 128 * 11, 0] := by revert t; decide +kernel
theorem ow12 (t : Fin k0_t2_loop.trips) : k0_off37 t = ![12, 512 * t.val] := by revert t; decide +kernel
theorem os12 (t : Fin k0_t2_loop.trips) : k0_off38 t = ![t.val, 128 * 12, 0] := by revert t; decide +kernel
theorem ow13 (t : Fin k0_t2_loop.trips) : k0_off39 t = ![13, 512 * t.val] := by revert t; decide +kernel
theorem os13 (t : Fin k0_t2_loop.trips) : k0_off40 t = ![t.val, 128 * 13, 0] := by revert t; decide +kernel
theorem ow14 (t : Fin k0_t2_loop.trips) : k0_off41 t = ![14, 512 * t.val] := by revert t; decide +kernel
theorem os14 (t : Fin k0_t2_loop.trips) : k0_off42 t = ![t.val, 128 * 14, 0] := by revert t; decide +kernel
theorem ow15 (t : Fin k0_t2_loop.trips) : k0_off43 t = ![15, 512 * t.val] := by revert t; decide +kernel
theorem os15 (t : Fin k0_t2_loop.trips) : k0_off44 t = ![t.val, 128 * 15, 0] := by revert t; decide +kernel
theorem ow_blk (t : Fin k0_t2_loop.trips) : k0_off12 t = ![t.val % 2, 0, 0] := by revert t; decide +kernel

/-- The weight with its first `n` pieces stored, and the scales. -/
abbrev Wp (n : ℕ) : sProp 𝕄 :=
  iprop(At (c : Thread nD τ) E.arg15.view fullShare Finset.univ I.WS
    ∗ At (c : Thread nD τ) E.arg12.view fullShare (below keyW n) I.W ∗ Any (c : Thread nD τ) E.arg12.view (above keyW n))

/-- A group's row of scales. -/
abbrev wsv {off : Fin 2 → ℕ} (inb : ∀ a, off a + S1x512.size a ≤ S16x8192.size a) : Vec F S1x512 .bf16 :=
  fun y => I.WS ((Rect.unit (s := S16x8192) off S1x512.size inb).toLoadRect.idx y)

theorem blk_load (t : Fin k0_t2_loop.trips) :
    (fun y => I.wC t.val ((Rect.unit (s := S2x256x512) (k0_off12 t) S1x256x512.size (k0_off12_inb t)).toLoadRect.idx y)) = I.wblk t.val := by
  funext y
  refine congrArg I.WP (ext2 ?_ ?_)
  · show (k0_off12 t) 1 + 1 * (y 1).val = (y 1).val
    have h : k0_off12 t 1 = 0 := by rw [ow_blk]; rfl
    omega
  · show (512 * t.val + ((k0_off12 t) 2 + 1 * (y 2).val)) % 8192 = (512 * t.val + (y 2).val) % 8192
    have h : k0_off12 t 2 = 0 := by rw [ow_blk]; rfl
    omega

theorem piece_in (t g : ℕ) (hg : g < 16) {off : Fin 3 → ℕ} {inb} (ho : off = ![t, 128 * g, 0]) :
    (Rect.unit (s := S16x2048x512) off S1x128x512.size inb).toLoadRect.set ⊆ above keyW (16 * t + g) := by
  have h : (Rect.unit (s := S16x2048x512) off S1x128x512.size inb).toLoadRect.set = only keyW (16 * t + g) :=
    piece_set t g hg ho
  rw [h]
  intro i
  simp only [only, above, Finset.mem_filter, Finset.mem_univ, _root_.true_and]
  omega

theorem part2_spec (t : Fin k0_t2_loop.trips) (a1 a2 a3 a4 : BitVec 32) :
    iprop(At (c : Thread nD τ) E.arg14.view fullShare (plane (t.val % 2)) (I.wC t.val) ∗ Wp c E I (16 * t.val + 0)) ⊢ wp frame (wpE (defs₀ (F := F)) 𝒱 (c : Thread nD τ) bd) Set.univ
          (k0_part2 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 a2 a3 a4)
          (fun r => iprop(⌜r = ⟨(k0_pay1 (F := F) (I.wblk t.val)), k0_pay3 (F := F) (I.wblk t.val) (wsv I (k0_off15_inb t))⟩⌝
            ∗ iprop(At (c : Thread nD τ) E.arg14.view fullShare (plane (t.val % 2)) (I.wC t.val) ∗ Wp c E I (16 * t.val + 1)))) := by
  have ht : t.val < 16 := t.isLt
  have hsub : (Rect.unit (s := S2x256x512) (k0_off12 t) S1x256x512.size (k0_off12_inb t)).toLoadRect.set ⊆ plane (t.val % 2) := by
    intro i hi
    have h := (mem3 (ow_blk t) rfl).mp hi
    rw [mem_plane]; omega
  rw [k0_part2_eq_skeleton]
  unfold k0_part2_skel
  iintro ⟨Hblk, Hws, Hb, Ha⟩
  iapply (wp_ld (c : Thread nD τ) 𝒱 bd (X := I.wC t.val) hsub) $$ Hblk
  rw [blk_load]
  iintro Hblk
  iapply (wp_ld (c : Thread nD τ) 𝒱 bd (X := I.WS) (Finset.subset_univ _)) $$ Hws
  iintro Hws
  iapply (wp_ldA (c : Thread nD τ) 𝒱 bd (piece_in t.val 0 (by decide) (os0 t))) $$ Ha
  iintro %_ Ha
  iapply (wp_fill (c : Thread nD τ) 𝒱 bd (key := keyW) (n := 16 * t.val + 0) I.W (piece_set t.val 0 (by decide) (os0 t)) (piece I t.val 0 ht (by decide) (os0 t) (ow0 t) slices_S2048x512_o0_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_done (c : Thread nD τ) 𝒱 bd)
  isplitr [Hblk Hws Hb Ha]
  · ipureintro; rfl
  isplitl [Hblk]; · iexact Hblk
  isplitl [Hws]; · iexact Hws
  isplitl [Hb] <;> iassumption

theorem part3_spec (t : Fin k0_t2_loop.trips) (a1 : BitVec 32) :
    Wp c E I (16 * t.val + 1) ⊢ wp frame (wpE (defs₀ (F := F)) 𝒱 (c : Thread nD τ) bd) Set.univ
          (k0_part3 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 (k0_pay1 (F := F) (I.wblk t.val)) (k0_pay3 (F := F) (I.wblk t.val) (wsv I (k0_off15_inb t))))
          (fun r => iprop(⌜r = ⟨(wsv I (k0_off23_inb t)), k0_pay8 (k0_pay1 (F := F) (I.wblk t.val))⟩⌝ ∗ Wp c E I (16 * t.val + 5))) := by
  have ht : t.val < 16 := t.isLt
  rw [k0_part3_eq_skeleton]
  unfold k0_part3_skel
  iintro ⟨Hws, Hb, Ha⟩
  iapply (wp_ldA (c : Thread nD τ) 𝒱 bd (piece_in t.val 1 (by decide) (os1 t))) $$ Ha
  iintro %_ Ha
  iapply (wp_fill (c : Thread nD τ) 𝒱 bd (key := keyW) (n := 16 * t.val + 1) I.W (piece_set t.val 1 (by decide) (os1 t)) (piece I t.val 1 ht (by decide) (os1 t) (ow1 t) slices_S2048x512_o128_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 2 (by decide) (os2 t))) $$ Ha
  iintro %_ Ha
  iapply (wp_fill (c : Thread nD τ) 𝒱 bd (key := keyW) (n := 16 * t.val + 2) I.W (piece_set t.val 2 (by decide) (os2 t)) (piece I t.val 2 ht (by decide) (os2 t) (ow2 t) slices_S2048x512_o256_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 3 (by decide) (os3 t))) $$ Ha
  iintro %_ Ha
  iapply (wp_fill (c : Thread nD τ) 𝒱 bd (key := keyW) (n := 16 * t.val + 3) I.W (piece_set t.val 3 (by decide) (os3 t)) (piece I t.val 3 ht (by decide) (os3 t) (ow3 t) slices_S2048x512_o384_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 4 (by decide) (os4 t))) $$ Ha
  iintro %_ Ha
  iapply (wp_fill (c : Thread nD τ) 𝒱 bd (key := keyW) (n := 16 * t.val + 4) I.W (piece_set t.val 4 (by decide) (os4 t)) (piece I t.val 4 ht (by decide) (os4 t) (ow4 t) slices_S2048x512_o512_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_done (c : Thread nD τ) 𝒱 bd)
  isplitr [Hws Hb Ha]
  · ipureintro; rfl
  isplitl [Hws]; · iexact Hws
  isplitl [Hb] <;> iassumption

theorem part4_spec (t : Fin k0_t2_loop.trips)  :
    Wp c E I (16 * t.val + 5) ⊢ wp frame (wpE (defs₀ (F := F)) 𝒱 (c : Thread nD τ) bd) Set.univ
          (k0_part4 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t (Scf.iv 0#32 1#32 t) (k0_pay1 (F := F) (I.wblk t.val)) (wsv I (k0_off23_inb t)) (k0_pay8 (k0_pay1 (F := F) (I.wblk t.val))))
          (fun r => iprop(⌜r = (Scalar.muli (Scf.iv 0#32 1#32 t) 512#32)⌝ ∗ Wp c E I (16 * t.val + 9))) := by
  have ht : t.val < 16 := t.isLt
  rw [k0_part4_eq_skeleton]
  unfold k0_part4_skel
  iintro ⟨Hws, Hb, Ha⟩
  iapply (wp_ldA (c : Thread nD τ) 𝒱 bd (piece_in t.val 5 (by decide) (os5 t))) $$ Ha
  iintro %_ Ha
  iapply (wp_fill (c : Thread nD τ) 𝒱 bd (key := keyW) (n := 16 * t.val + 5) I.W (piece_set t.val 5 (by decide) (os5 t)) (piece I t.val 5 ht (by decide) (os5 t) (ow5 t) slices_S2048x512_o640_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 6 (by decide) (os6 t))) $$ Ha
  iintro %_ Ha
  iapply (wp_fill (c : Thread nD τ) 𝒱 bd (key := keyW) (n := 16 * t.val + 6) I.W (piece_set t.val 6 (by decide) (os6 t)) (piece I t.val 6 ht (by decide) (os6 t) (ow6 t) slices_S2048x512_o768_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 7 (by decide) (os7 t))) $$ Ha
  iintro %_ Ha
  iapply (wp_fill (c : Thread nD τ) 𝒱 bd (key := keyW) (n := 16 * t.val + 7) I.W (piece_set t.val 7 (by decide) (os7 t)) (piece I t.val 7 ht (by decide) (os7 t) (ow7 t) slices_S2048x512_o896_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 8 (by decide) (os8 t))) $$ Ha
  iintro %_ Ha
  iapply (wp_fill (c : Thread nD τ) 𝒱 bd (key := keyW) (n := 16 * t.val + 8) I.W (piece_set t.val 8 (by decide) (os8 t)) (piece I t.val 8 ht (by decide) (os8 t) (ow8 t) slices_S2048x512_o1024_0_S128x512)) $$ [Hb Ha]
  · isplitl [Hb] <;> iassumption
  iintro ⟨Hb, Ha⟩
  iapply (wp_done (c : Thread nD τ) 𝒱 bd)
  isplitr [Hws Hb Ha]
  · ipureintro; rfl
  isplitl [Hws]; · iexact Hws
  isplitl [Hb] <;> iassumption

theorem part5_spec (t : Fin k0_t2_loop.trips) (a1 a2 : BitVec 32) :
    Wp c E I (16 * t.val + 9) ⊢ wp frame (wpE (defs₀ (F := F)) 𝒱 (c : Thread nD τ) bd) Set.univ
          (k0_part5 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 (k0_pay1 (F := F) (I.wblk t.val)) a2)
          (fun r => iprop(⌜r = k0_pay16 (k0_pay1 (F := F) (I.wblk t.val)) (wsv I (k0_off37_inb t))⌝ ∗ Wp c E I (16 * t.val + 12))) := by
  have ht : t.val < 16 := t.isLt
  rw [k0_part5_eq_skeleton]
  unfold k0_part5_skel
  iintro ⟨Hws, Hb, Ha⟩
  iapply (wp_ld (c : Thread nD τ) 𝒱 bd (X := I.WS) (Finset.subset_univ _)) $$ Hws
  iintro Hws
  iapply (wp_ldA (c : Thread nD τ) 𝒱 bd (piece_in t.val 9 (by decide) (os9 t))) $$ Ha
  iintro %_ Ha
  iapply (wp_fill (c : Thread nD τ) 𝒱 bd (key := keyW) (n := 16 * t.val + 9) I.W (piece_set t.val 9 (by decide) (os9 t)) (piece I t.val 9 ht (by decide) (os9 t) (ow9 t) slices_S2048x512_o1152_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 10 (by decide) (os10 t))) $$ Ha
  iintro %_ Ha
  iapply (wp_fill (c : Thread nD τ) 𝒱 bd (key := keyW) (n := 16 * t.val + 10) I.W (piece_set t.val 10 (by decide) (os10 t)) (piece I t.val 10 ht (by decide) (os10 t) (ow10 t) slices_S2048x512_o1280_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 11 (by decide) (os11 t))) $$ Ha
  iintro %_ Ha
  iapply (wp_fill (c : Thread nD τ) 𝒱 bd (key := keyW) (n := 16 * t.val + 11) I.W (piece_set t.val 11 (by decide) (os11 t)) (piece I t.val 11 ht (by decide) (os11 t) (ow11 t) slices_S2048x512_o1408_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 12 (by decide) (os12 t))) $$ Ha
  iintro %_ Ha
  iapply (wp_done (c : Thread nD τ) 𝒱 bd)
  isplitr [Hws Hb Ha]
  · ipureintro; rfl
  isplitl [Hws]; · iexact Hws
  isplitl [Hb] <;> iassumption

/-- After `k` blocks. -/
def T2inv (k : ℕ) : sProp 𝕄 := iprop(wNext c E I k ∗ wIdle c E I ((k + 1) % 2) ∗ Wp c E I (16 * k) ∗ Ow c)

theorem t2_step (t : Fin k0_t2_loop.trips) (u : Unit) :
    T2inv c E I t.val ⊢ wp frame (wpE (defs₀ (F := F)) 𝒱 (c : Thread nD τ) bd) Set.univ (E.t2 (F := F) t u) (fun _ => T2inv c E I (t.val + 1)) := by
  have ht : t.val < 16 := t.isLt
  unfold Env.t2 k0_t2_body T2inv
  iintro ⟨HF, HI, HW, HO⟩
  iapply (wp_part (c : Thread nD τ) 𝒱 bd _ (part1_spec c E I 𝒱 bd t)) $$ [HF HI HO]
  · isplitl [HF]; · iexact HF
    isplitl [HI] <;> iassumption
  iintro ⟨Hblk, HT, Hc, HN, HO⟩
  iapply (wp_part (c : Thread nD τ) 𝒱 bd _ (part2_spec c E I 𝒱 bd t _ _ _ _)) $$ [Hblk HW]
  · isplitl [Hblk] <;> iassumption
  iintro ⟨Hblk, HW⟩
  iapply (wp_part (c : Thread nD τ) 𝒱 bd _ (part3_spec c E I 𝒱 bd t _)) $$ HW
  iintro HW
  iapply (wp_part (c : Thread nD τ) 𝒱 bd _ (part4_spec c E I 𝒱 bd t)) $$ HW
  iintro HW
  iapply (wp_part (c : Thread nD τ) 𝒱 bd _ (part5_spec c E I 𝒱 bd t _ _)) $$ HW
  iintro ⟨Hws, Hb, Ha⟩
  iapply (wp_fill (c : Thread nD τ) 𝒱 bd (key := keyW) (n := 16 * t.val + 12) I.W (piece_set t.val 12 (by decide) (os12 t)) (piece I t.val 12 ht (by decide) (os12 t) (ow12 t) slices_S2048x512_o1536_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 13 (by decide) (os13 t))) $$ Ha
  iintro %_ Ha
  iapply (wp_fill (c : Thread nD τ) 𝒱 bd (key := keyW) (n := 16 * t.val + 13) I.W (piece_set t.val 13 (by decide) (os13 t)) (piece I t.val 13 ht (by decide) (os13 t) (ow13 t) slices_S2048x512_o1664_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 14 (by decide) (os14 t))) $$ Ha
  iintro %_ Ha
  iapply (wp_fill (c : Thread nD τ) 𝒱 bd (key := keyW) (n := 16 * t.val + 14) I.W (piece_set t.val 14 (by decide) (os14 t)) (piece I t.val 14 ht (by decide) (os14 t) (ow14 t) slices_S2048x512_o1792_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 15 (by decide) (os15 t))) $$ Ha
  iintro %_ Ha
  iapply (wp_fill (c : Thread nD τ) 𝒱 bd (key := keyW) (n := 16 * t.val + 15) I.W (piece_set t.val 15 (by decide) (os15 t)) (piece I t.val 15 ht (by decide) (os15 t) (ow15 t) slices_S2048x512_o1920_0_S128x512)) $$ [Hb Ha]
  · isplitl [Hb] <;> iassumption
  iintro ⟨Hb, Ha⟩
  iapply (wp_done (c : Thread nD τ) 𝒱 bd)
  isplitl [HN]; · iexact HN
  isplitl [Hblk HT Hc]
  · iapply (ent_of_eq (congrArg (wIdle c E I) (show t.val % 2 = (t.val + 1 + 1) % 2 by omega)))
    isplitl [HT]; · iexact HT
    isplitl [Hblk]; · iapply (Any_of_At (c : Thread nD τ)) $$ Hblk
    iexact Hc
  isplitl [Hws Hb Ha]
  · iapply (ent_of_eq (congrArg (Wp c E I) (show 16 * t.val + 16 = 16 * (t.val + 1) by omega)))
    isplitl [Hws]; · iexact Hws
    isplitl [Hb] <;> iassumption
  iexact HO

end Cert.Kernel.Hand

end
-- ==== Proof.Run.K.T7.lean ====
/-
  The loop over the sixteen column blocks of a tile of tokens: two products, their sum rounded, and a copy to the result.
-/
module

public import proofs.«01_k».proof.Proof.Run.K.T2
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- Tile `i` of the tokens, in its slot. -/
def xC (i : ℕ) : S2x512x2048.Idx → Elt F .bf16 := fun x => I.X (ix2 (Fin.ofNat 12288 (512 * i + (x 1).val)) (x 2))
/-- Tile `i` of the tokens. -/
def xblk (i : ℕ) : S1x512x2048.Idx → Elt F .bf16 := fun x => I.X (ix2 (Fin.ofNat 12288 (512 * i + (x 1).val)) (x 2))
/-- Column block `j` of the weight. -/
def Wblk (j : ℕ) : S1x2048x512.Idx → Elt F .bf16 := fun x => I.W (ix3 (Fin.ofNat 16 j) (x 1) (x 2))
/-- The window of the up-projection that tile's segments use, its column block `j`. -/
def Bblk (a j : ℕ) : S256x512.Idx → Elt F .bf16 := fun x => I.Bv (ix2 (Fin.ofNat 776 (40 * min a 13 + (x 0).val)) (Fin.ofNat 8192 (512 * j + (x 1).val)))
end In

/-- The slice of the layer that column block `j` belongs to. -/
def sl (j : ℕ) : ℕ := if j < 8 then 0 else if j < 12 then 1 else 2
/-- The down-projected rows of slice `c`. -/
def Lblk (L : S3x512x256.Idx → Elt F .bf16) (j : ℕ) : S1x512x256.Idx → Elt F .bf16 := fun x => L (ix3 (Fin.ofNat 3 (sl j)) (x 1) (x 2))
/-- A tile of the result. -/
def ytile (I : In F) (i j : ℕ) (L : S3x512x256.Idx → Elt F .bf16) (a : ℕ) : FVec F S1x512x512 .bf16 :=
  k0_pay98 (k0_pay97 (I.xblk i) (I.Wblk j) (Lblk L j) (I.Bblk a j))

/-- The order in which the tiles of the result are written. -/
abbrev keyY (r : S12288x8192.Idx) : ℕ := 16 * ((r 0).val / 512) + (r 1).val / 512

variable (c : Dev nD) (E : Env) (I : In F) (Y : S12288x8192.Idx → Elt F .bf16)

/-- The units a tile's copy credits. -/
abbrev Ny : ℕ := sig.dmaCredit .tc (Kind.table .tc .hbm) E.arg10.view.buf S512x512 .bf16
/-- The cell of slot `p`. -/
abbrev ysem (p : ℕ) : DmaSem sig := E.arg28.ix (ix1 (Fin.ofNat 4 p))
/-- A slot that holds tile `g` of the result. -/
def yC (g : ℕ) : S4x512x512.Idx → Elt F .bf16 := fun x => Y (ix2 (Fin.ofNat 12288 (512 * (g / 16) + (x 1).val)) (Fin.ofNat 8192 (512 * (g % 16) + (x 2).val)))
/-- Slot `p` unused. -/
abbrev yIdle (p : ℕ) : sProp 𝕄 :=
  iprop(Any (c : Thread nD τ) E.arg22.view (plane p) ∗ semVal ((c : Thread nD τ), .dma (ysem E p)) 0)
/-- Slot `p` being written out as tile `g`. -/
abbrev yBusy (p g : ℕ) : sProp 𝕄 :=
  Flight EC (c : Thread nD τ) (.dma (ysem E p)) () (Ny E)
    iprop(At (c : Thread nD τ) E.arg10.view fullShare (only keyY g) Y ∗ At (c : Thread nD τ) E.arg22.view fullShare (plane p) (yC Y g))
/-- The slot of tile `g` before its turn. -/
def ySl (g : ℕ) : sProp 𝕄 := if g < 4 then yIdle c E (g % 4) else yBusy c E Y (g % 4) (g - 4)
/-- Before tile `g`: four slots, the tiles written, the tiles to come. -/
def Yinv (g : ℕ) : sProp 𝕄 :=
  iprop(ySl c E Y g ∗ ySl c E Y (g + 1) ∗ ySl c E Y (g + 2) ∗ ySl c E Y (g + 3)
    ∗ At (c : Thread nD τ) E.arg10.view fullShare (below keyY (g - 4)) Y ∗ Any (c : Thread nD τ) E.arg10.view (above keyY g))

variable (𝒱 : Variants) (bd : Option 𝒱.V)

/-- A trip of the loop over the column blocks. -/
abbrev Env.t7 (E : Env) := k0_t7_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

theorem of158 (t : Fin k0_t4_loop.trips) : k0_off158 t = ![t.val % 2, 0, 0] := by revert t; decide +kernel
theorem of159 (t : Fin k0_t7_loop.trips) : k0_off159 t = ![t.val, 0, 0] := by revert t; decide +kernel
theorem of160 (t : Fin k0_t7_loop.trips) : k0_off160 t = ![sl t.val, 0, 0] := by revert t; decide +kernel
theorem of161 (a : Fin 19) (t : Fin k0_t7_loop.trips) : k0_off161 (BitVec.ofNat 32 a.val) t = ![40 * min a.val 13, 512 * t.val] := by revert a t; decide +kernel
theorem of162 (t : Fin k0_t7_loop.trips) : k0_off162 t = ![t.val % 4] := by revert t; decide +kernel
theorem of165 (t : Fin k0_t7_loop.trips) : k0_off165 t = ![t.val % 4, 0, 0] := by revert t; decide +kernel
theorem of166 (t : Fin k0_t7_loop.trips) : k0_off166 t = ![t.val % 4] := by revert t; decide +kernel
theorem of167 (i : Fin k0_t4_loop.trips) (t : Fin k0_t7_loop.trips) : k0_off167 i t = ![512 * i.val, 512 * t.val] := by revert i t; decide +kernel
theorem of168 (t : Fin k0_t7_loop.trips) : k0_off168 t = ![t.val % 4, 0, 0] := by revert t; decide +kernel
theorem cond4_pos (i : Fin k0_t4_loop.trips) (t : Fin k0_t7_loop.trips) : 4 ≤ 16 * i.val + t.val → k0_cond4 i t = 1#1 := by revert i t; decide +kernel
theorem cond4_neg (i : Fin k0_t4_loop.trips) (t : Fin k0_t7_loop.trips) : 16 * i.val + t.val < 4 → ¬ k0_cond4 i t = 1#1 := by revert i t; decide +kernel

theorem x_load (i : Fin k0_t4_loop.trips) :
    (fun y => I.xC i.val ((Rect.unit (s := S2x512x2048) (k0_off158 i) S1x512x2048.size (k0_off158_inb i)).toLoadRect.idx y)) = I.xblk i.val := by
  funext y
  refine congrArg I.X (ext2 ?_ ?_)
  · show (512 * i.val + ((k0_off158 i) 1 + 1 * (y 1).val)) % 12288 = (512 * i.val + (y 1).val) % 12288
    have h : k0_off158 i 1 = 0 := by rw [of158]; rfl
    omega
  · show (k0_off158 i) 2 + 1 * (y 2).val = (y 2).val
    have h : k0_off158 i 2 = 0 := by rw [of158]; rfl
    omega

theorem w_load (t : Fin k0_t7_loop.trips) :
    (fun y => I.W ((Rect.unit (s := S16x2048x512) (k0_off159 t) S1x2048x512.size (k0_off159_inb t)).toLoadRect.idx y)) = I.Wblk t.val := by
  funext y
  have ht : t.val < 16 := t.isLt
  refine congrArg I.W (ext3 ?_ ?_ ?_)
  · show (k0_off159 t) 0 + 1 * (y 0).val = t.val % 16
    have h : k0_off159 t 0 = t.val := by rw [of159]; rfl
    have : (y 0).val < 1 := (y 0).isLt
    omega
  · show (k0_off159 t) 1 + 1 * (y 1).val = (y 1).val
    have h : k0_off159 t 1 = 0 := by rw [of159]; rfl
    omega
  · show (k0_off159 t) 2 + 1 * (y 2).val = (y 2).val
    have h : k0_off159 t 2 = 0 := by rw [of159]; rfl
    omega

theorem l_load (L : S3x512x256.Idx → Elt F .bf16) (t : Fin k0_t7_loop.trips) :
    (fun y => L ((Rect.unit (s := S3x512x256) (k0_off160 t) S1x512x256.size (k0_off160_inb t)).toLoadRect.idx y)) = Lblk L t.val := by
  funext y
  have hsl : sl t.val < 3 := by unfold sl; split_ifs <;> omega
  refine congrArg L (ext3 ?_ ?_ ?_)
  · show (k0_off160 t) 0 + 1 * (y 0).val = sl t.val % 3
    have h : k0_off160 t 0 = sl t.val := by rw [of160]; rfl
    have : (y 0).val < 1 := (y 0).isLt
    omega
  · show (k0_off160 t) 1 + 1 * (y 1).val = (y 1).val
    have h : k0_off160 t 1 = 0 := by rw [of160]; rfl
    omega
  · show (k0_off160 t) 2 + 1 * (y 2).val = (y 2).val
    have h : k0_off160 t 2 = 0 := by rw [of160]; rfl
    omega

theorem b_load (a : Fin 19) (hw : k0_chk38 (BitVec.ofNat 32 a.val)) (t : Fin k0_t7_loop.trips) :
    (fun y => I.Bv ((Rect.unit (s := S776x8192) (k0_off161 (BitVec.ofNat 32 a.val) t) S256x512.size (k0_off161_inb (BitVec.ofNat 32 a.val) hw t)).toLoadRect.idx y)) = I.Bblk a.val t.val := by
  funext y
  have ht : t.val < 16 := t.isLt
  have h0 : (y 0).val < 256 := (y 0).isLt
  have h1 : (y 1).val < 512 := (y 1).isLt
  refine congrArg I.Bv (ext2 ?_ ?_)
  · show (k0_off161 (BitVec.ofNat 32 a.val) t) 0 + 1 * (y 0).val = (40 * min a.val 13 + (y 0).val) % 776
    have h : k0_off161 (BitVec.ofNat 32 a.val) t 0 = 40 * min a.val 13 := by rw [of161]; rfl
    omega
  · show (k0_off161 (BitVec.ofNat 32 a.val) t) 1 + 1 * (y 1).val = (512 * t.val + (y 1).val) % 8192
    have h : k0_off161 (BitVec.ofNat 32 a.val) t 1 = 512 * t.val := by rw [of161]; rfl
    omega

/-- What the trips of a tile keep: the tokens, the weight, the down-projected rows, the up-projection windows. -/
def T7inv (L : S3x512x256.Idx → Elt F .bf16) (i j : ℕ) : sProp 𝕄 :=
  iprop(At (c : Thread nD τ) E.arg13.view fullShare (plane (i % 2)) (I.xC i) ∗ At (c : Thread nD τ) E.arg12.view fullShare Finset.univ I.W
    ∗ At (c : Thread nD τ) E.arg19.view fullShare Finset.univ L ∗ At (c : Thread nD τ) E.arg17.view fullShare Finset.univ I.Bv
    ∗ Yinv c E Y (16 * i + j) ∗ Ow c)

theorem part34_spec (L : S3x512x256.Idx → Elt F .bf16) (i : Fin k0_t4_loop.trips) (a : Fin 19) (hw : k0_chk38 (BitVec.ofNat 32 a.val)) (v59 : BitVec 32) (t : Fin k0_t7_loop.trips) :
    iprop(At (c : Thread nD τ) E.arg13.view fullShare (plane (i.val % 2)) (I.xC i.val) ∗ At (c : Thread nD τ) E.arg12.view fullShare Finset.univ I.W
      ∗ At (c : Thread nD τ) E.arg19.view fullShare Finset.univ L ∗ At (c : Thread nD τ) E.arg17.view fullShare Finset.univ I.Bv)
      ⊢ wp frame (wpE (defs₀ (F := F)) 𝒱 (c : Thread nD τ) bd) Set.univ
          (k0_part34 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i (Scf.iv 0#32 1#32 i) (BitVec.ofNat 32 a.val) hw v59 0#32 1#32 t)
          (fun r => iprop(⌜r = ⟨Scf.iv 0#32 1#32 t, k0_pay97 (I.xblk i.val) (I.Wblk t.val) (Lblk L t.val) (I.Bblk a.val t.val), Scalar.cmpi .sgt (Scf.iv 0#32 1#32 i) 0#32, 4#32⟩⌝
            ∗ iprop(At (c : Thread nD τ) E.arg13.view fullShare (plane (i.val % 2)) (I.xC i.val) ∗ At (c : Thread nD τ) E.arg12.view fullShare Finset.univ I.W
      ∗ At (c : Thread nD τ) E.arg19.view fullShare Finset.univ L ∗ At (c : Thread nD τ) E.arg17.view fullShare Finset.univ I.Bv))) := by
  have hsub : (Rect.unit (s := S2x512x2048) (k0_off158 i) S1x512x2048.size (k0_off158_inb i)).toLoadRect.set ⊆ plane (i.val % 2) := by
    intro z hz
    have h := (mem3 (of158 i) rfl).mp hz
    rw [mem_plane]; omega
  rw [k0_part34_eq_skeleton]
  unfold k0_part34_skel
  rw [← x_load I i, ← w_load I t, ← l_load L t, ← b_load I a hw t]
  iintro ⟨H1, H2, H3, H4⟩
  iapply (wp_ld (c : Thread nD τ) 𝒱 bd (X := I.xC i.val) hsub) $$ H1
  iintro H1
  iapply (wp_ld (c : Thread nD τ) 𝒱 bd (X := I.W) (Finset.subset_univ _)) $$ H2
  iintro H2
  iapply (wp_ld (c : Thread nD τ) 𝒱 bd (X := L) (Finset.subset_univ _)) $$ H3
  iintro H3
  iapply (wp_ld (c : Thread nD τ) 𝒱 bd (X := I.Bv) (Finset.subset_univ _)) $$ H4
  iintro H4
  iapply (wp_done (c : Thread nD τ) 𝒱 bd)
  isplitr [H1 H2 H3 H4]
  · ipureintro; rfl
  isplitl [H1]; · iexact H1
  isplitl [H2]; · iexact H2
  isplitl [H3] <;> iassumption

/-- Part 35: the slot's previous tile is awaited, and the slot filled. -/
theorem part35_spec (i : Fin k0_t4_loop.trips) (t : Fin k0_t7_loop.trips) (a30 a32 a4 : BitVec 32) (b164 : BitVec 1) (v : FVec F S512x512 .f32)
    (hv : ∀ x : S4x512x512.Idx, yC Y (16 * i.val + t.val) x = k0_pay98 v (ix3 0 (x 1) (x 2))) :
    iprop(ySl c E Y (16 * i.val + t.val) ∗ At (c : Thread nD τ) E.arg10.view fullShare (below keyY (16 * i.val + t.val - 4)) Y ∗ Ow c)
      ⊢ wp frame (wpE (defs₀ (F := F)) 𝒱 (c : Thread nD τ) bd) Set.univ
          (k0_part35 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 t a32 v b164 a4)
          (fun r => iprop(⌜r = ⟨Scalar.select (Scalar.cmpi .eq 4#32 0#32) 1#32 4#32, Scalar.remsi a32 (Scalar.select (Scalar.cmpi .eq 4#32 0#32) 1#32 4#32), Scalar.cmpi .ne (Scalar.remsi a32 (Scalar.select (Scalar.cmpi .eq 4#32 0#32) 1#32 4#32)) 0#32⟩⌝
            ∗ iprop(At (c : Thread nD τ) E.arg22.view fullShare (plane (t.val % 4)) (yC Y (16 * i.val + t.val)) ∗ semVal ((c : Thread nD τ), .dma (ysem E (t.val % 4))) 0
              ∗ At (c : Thread nD τ) E.arg10.view fullShare (below keyY (16 * i.val + t.val + 1 - 4)) Y ∗ Ow c))) := by
  have ht : t.val < 16 := t.isLt
  have hset : (Rect.unit (s := S4x512x512) (k0_off165 t) S1x512x512.size (k0_off165_inb t)).set = plane (t.val % 4) := by
    ext z
    rw [mem3 (of165 t) rfl, mem_plane]
    have h1 : (z 1).val < 512 := (z 1).isLt
    have h2 : (z 2).val < 512 := (z 2).isLt
    omega
  have hin : ∀ x, yC Y (16 * i.val + t.val) ((Rect.unit (s := S4x512x512) (k0_off165 t) S1x512x512.size (k0_off165_inb t)).emb x) = k0_pay98 v x := by
    intro x
    rw [hv]
    refine congrArg (k0_pay98 v) (ext3 ?_ ?_ ?_)
    · have : (x 0).val < 1 := (x 0).isLt
      show 0 = (x 0).val
      omega
    · refine (emb_val 1).trans ?_
      have h : k0_off165 t 1 = 0 := by rw [of165]; rfl
      exact (congrArg (· + (x 1).val) h).trans (Nat.zero_add _)
    · refine (emb_val 2).trans ?_
      have h : k0_off165 t 2 = 0 := by rw [of165]; rfl
      exact (congrArg (· + (x 2).val) h).trans (Nat.zero_add _)
  have e4 : (16 * i.val + t.val) % 4 = t.val % 4 := by omega
  rw [k0_part35_eq_skeleton]
  unfold k0_part35_skel ySl
  rw [e4]
  by_cases h : 16 * i.val + t.val < 4
  · rw [dif_neg (cond4_neg i t h), if_pos h]
    simp only [bind_assoc, pure_bind]
    rw [show 16 * i.val + t.val + 1 - 4 = 16 * i.val + t.val - 4 by omega]
    iintro ⟨⟨HS, Hc⟩, HY, HO⟩
    iapply (wp_ldA (c : Thread nD τ) 𝒱 bd (le_of_eq hset)) $$ HS
    iintro %_ HS
    iapply (wp_stA (c : Thread nD τ) 𝒱 bd (yC Y (16 * i.val + t.val)) hset hin) $$ HS
    iintro HS
    iapply (wp_done (c : Thread nD τ) 𝒱 bd)
    isplitr [HS Hc HY HO]
    · ipureintro; rfl
    isplitl [HS]; · iexact HS
    isplitl [Hc]; · iexact Hc
    isplitl [HY] <;> iassumption
  · have hc := cond4_pos i t (by omega)
    have hsem : ((E.arg28.slice (Rect.unit (s := S4) (k0_off162 t) S1.size (k0_off162_inb i t hc))).squeeze S_ squeezes_S1_S_).sem = ysem E (t.val % 4) :=
      sem_at _ _ _ _ (emb1 _ (by rw [of162]; simp))
    rw [dif_pos hc, if_neg h]
    simp only [bind_assoc, pure_bind]
    rw [show 16 * i.val + t.val + 1 - 4 = 16 * i.val + t.val - 4 + 1 by omega]
    iintro ⟨HS, HY, HO⟩
    iapply (wp_wt (c : Thread nD τ) 𝒱 bd (N := Ny E) (ysem E (t.val % 4)) hsem rfl) $$ [HS HO]
    · isplitl [HS] <;> iassumption
    iintro ⟨⟨HD, HS⟩, Hc, HO⟩
    ihave HS := (Any_of_At (c : Thread nD τ)) $$ HS
    iapply (wp_ldA (c : Thread nD τ) 𝒱 bd (le_of_eq hset)) $$ HS
    iintro %_ HS
    iapply (wp_stA (c : Thread nD τ) 𝒱 bd (yC Y (16 * i.val + t.val)) hset hin) $$ HS
    iintro HS
    iapply (wp_done (c : Thread nD τ) 𝒱 bd)
    isplitr [HS Hc HY HD HO]
    · ipureintro; rfl
    isplitl [HS]; · iexact HS
    isplitl [Hc]; · iexact Hc
    isplitl [HY HD]
    · iapply (below_snoc (c : Thread nD τ))
      isplitl [HY] <;> iassumption
    iexact HO

theorem t7_step (L : S3x512x256.Idx → Elt F .bf16) (i : Fin k0_t4_loop.trips) (a : Fin 19) (hw : k0_chk38 (BitVec.ofNat 32 a.val)) (v59 : BitVec 32)
    (hY : ∀ j < 16, ∀ r : S12288x8192.Idx, (r 0).val / 512 = i.val → (r 1).val / 512 = j →
      Y r = ytile I i.val j L a.val (ix3 0 (Fin.ofNat 512 (r 0).val) (Fin.ofNat 512 (r 1).val)))
    (t : Fin k0_t7_loop.trips) (u : Unit) :
    T7inv c E I Y L i.val t.val ⊢ wp frame (wpE (defs₀ (F := F)) 𝒱 (c : Thread nD τ) bd) Set.univ
      (E.t7 (F := F) i (Scf.iv 0#32 1#32 i) (BitVec.ofNat 32 a.val) hw v59 t u) (fun _ => T7inv c E I Y L i.val (t.val + 1)) := by
  have ht : t.val < 16 := t.isLt
  have hi : i.val < 24 := i.isLt
  have hsem : ((E.arg28.slice (Rect.unit (s := S4) (k0_off166 t) S1.size (k0_off166_inb t))).squeeze S_ squeezes_S1_S_).sem = ysem E (t.val % 4) :=
    sem_at _ _ _ _ (emb1 _ (by rw [of166]; simp))
  have hN0 : 0 < Ny E := sig.dmaCredit_pos _ _ _ _ _ (by rw [Shape.numel]; simp [Fin.prod_univ_succ])
  have hv : ∀ x : S4x512x512.Idx, yC Y (16 * i.val + t.val) x
      = k0_pay98 (k0_pay97 (I.xblk i.val) (I.Wblk t.val) (Lblk L t.val) (I.Bblk a.val t.val)) (ix3 0 (x 1) (x 2)) := by
    intro x
    have h1 : (x 1).val < 512 := (x 1).isLt
    have h2 : (x 2).val < 512 := (x 2).isLt
    unfold yC
    rw [hY t.val ht _ (by show (_ % 12288) / 512 = _; omega) (by show (_ % 8192) / 512 = _; omega)]
    refine congrArg (ytile I i.val t.val L a.val) (ext3 rfl ?_ ?_)
    · show (_ % 12288) % 512 = (x 1).val
      omega
    · show (_ % 8192) % 512 = (x 2).val
      omega
  obtain ⟨Sd, φd, hsd, hSd, hφd⟩ := blk_sub (Val := Elt F) (c : Thread nD τ) E.arg10 (sz := S512x512.size) (inb := k0_off167_inb i t) (hr := fun _ => rfl) (of167 i t) rfl
  have hSd' : Sd = only keyY (16 * i.val + t.val) := by
    ext r
    rw [hSd]
    have h1 : (r 0).val < 12288 := (r 0).isLt
    have h2 : (r 1).val < 8192 := (r 1).isLt
    simp only [only, Finset.mem_filter, Finset.mem_univ, _root_.true_and, keyY]
    omega
  subst hSd'
  obtain ⟨φs, hss, hφs⟩ := slot_sub (Val := Elt F) (c : Thread nD τ) (h := 512) (b := 512) E.arg22 (sz := S1x512x512.size) (inb := k0_off168_inb t) (hr := fun _ => rfl) (of168 t) rfl
    squeezes_S1x512x512_S512x512 (S := plane (t.val % 4)) (fun z => by
      rw [mem_plane]
      have h1 : (z 1).val < 512 := (z 1).isLt
      have h2 : (z 2).val < 512 := (z 2).isLt
      omega)
  have hYc : ∀ x, Y (φd x) = yC Y (16 * i.val + t.val) (φs x) := by
    intro x
    have h1 : (x 0).val < 512 := (x 0).isLt
    have h2 : (x 1).val < 512 := (x 1).isLt
    obtain ⟨a0, a1⟩ := hφd x
    obtain ⟨b0, b1, b2⟩ := hφs x
    refine congrArg Y (ext2 ?_ ?_)
    · rw [a0]; show _ = (_ % 12288); rw [b1]; omega
    · rw [a1]; show _ = (_ % 8192); rw [b2]; omega
  unfold Env.t7 k0_t7_body T7inv Yinv
  iintro ⟨H1, H2, H3, H4, ⟨S0, S1, S2, S3, HY, HA⟩, HO⟩
  iapply (wp_part (c : Thread nD τ) 𝒱 bd _ (part34_spec c E I 𝒱 bd L i a hw v59 t)) $$ [H1 H2 H3 H4]
  · isplitl [H1]; · iexact H1
    isplitl [H2]; · iexact H2
    isplitl [H3] <;> iassumption
  iintro ⟨H1, H2, H3, H4⟩
  iapply (wp_part (c : Thread nD τ) 𝒱 bd _ (part35_spec c E Y 𝒱 bd i t _ _ _ _ _ hv)) $$ [S0 HY HO]
  · isplitl [S0]; · iexact S0
    isplitl [HY] <;> iassumption
  iintro ⟨HS, Hc, HY, HO⟩
  ihave HA := (above_take (c : Thread nD τ)) $$ HA
  icases HA with ⟨HA1, HA⟩
  iapply (wp_cpG (c : Thread nD τ) 𝒱 bd (ms := E.arg22) (md := E.arg10) (X := yC Y (16 * i.val + t.val)) (Y := Y)
    hss hsd _ (congrArg SemLoc.dma hsem) (le_refl _) hYc (Ny E) rfl hN0) $$ [HS HA1 Hc]
  · isplitl [HS]; · iexact HS
    isplitl [HA1]; · iexact HA1
    iexact Hc
  iintro HB
  iapply (wp_done (c : Thread nD τ) 𝒱 bd)
  isplitl [H1]; · iexact H1
  isplitl [H2]; · iexact H2
  isplitl [H3]; · iexact H3
  isplitl [H4]; · iexact H4
  isplitr [HO]
  · isplitl [S1]; · iexact S1
    isplitl [S2]; · iexact S2
    isplitl [S3]; · iexact S3
    isplitl [HB]
    · have e : yBusy c E Y (t.val % 4) (16 * i.val + t.val) = ySl c E Y (16 * i.val + t.val + 1 + 3) := by
        unfold ySl
        rw [if_neg (by omega), show (16 * i.val + t.val + 1 + 3) % 4 = t.val % 4 by omega, show 16 * i.val + t.val + 1 + 3 - 4 = 16 * i.val + t.val by omega]
      iapply (ent_of_eq e) $$ HB
    isplitl [HY] <;> iassumption
  iexact HO

end Cert.Kernel.Hand

end
-- ==== Proof.Run.Batch.lean ====
/-
  Three copies on one semaphore cell, and buffers rewritten piece by piece.
-/
module

public import proofs.«01_k».proof.Proof.Run.Keyed
public import Idealize.ShloMosaic.Lib.Batch

@[expose] public section

namespace Lora

open Idealize.ShloMosaic
open Idealize.SL
open Idealize.SL.BI (sProp Storable bigSep bigSep_insert bigSep_empty)
open scoped Idealize.SL.BI
open Idealize.SL.BI.BIBase Idealize.SL.BI.Laws Idealize.SL.Sem Idealize.SL.ProofMode
open Idealize.SL.RA
open Idealize.ShloMosaic.Transfers

noncomputable section

variable {nD : Nat} {τ : Topo} {sig : RefSig} {Val : EltTy → Type} [∀ e, Nonempty (Val e)]

local notation "𝕄" => MT nD τ sig Unit Val ℕ (Pipeline.UD sig nD τ) ℕ

variable {sp sp' : Space} {s s' : Shape} {e e' : EltTy}

variable (c : Thread nD τ)
local notation "EC" => (countersEmb (U := Pipeline.UD sig nD τ) : UEmb Counters 𝕄)

instance At_storable {v : View sig c.2.kind sp s e} {q : PosShare TreeShare} {S : Finset s.Idx} {X : s.Idx → Val e} :
    Storable (upEmb : UEmb _ 𝕄) (At c v q S X) := by unfold At; infer_instance

/-- Two pieces rejoined. -/
theorem Any_join {v : View sig c.2.kind sp s e} {S I J : Finset s.Idx} (hS : S = I ∪ J) (h : Disjoint I J) :
    iprop(Any c v I ∗ Any c v J) ⊢ (Any c v S : sProp 𝕄) := by
  classical
  have e1 : ∀ X Y : s.Idx → Val e, (At c v fullShare I X : sProp 𝕄) = At c v fullShare I (fun x => if x ∈ I then X x else Y x) :=
    fun X Y => At_congr c fun x hx => by rw [if_pos hx]
  have e2 : ∀ X Y : s.Idx → Val e, (At c v fullShare J Y : sProp 𝕄) = At c v fullShare J (fun x => if x ∈ I then X x else Y x) :=
    fun X Y => At_congr c fun x hx => by rw [if_neg (fun hi => (Finset.disjoint_left.mp h) hi hx)]
  unfold Any
  iintro ⟨⟨%X, HI⟩, %Y, HJ⟩
  iexists (fun x => if x ∈ I then X x else Y x)
  iapply (At_split c hS h).2
  isplitl [HI]
  · iapply (ent_of_eq (e1 X Y)) $$ HI
  · iapply (ent_of_eq (e2 X Y)) $$ HJ

/-- Three deliveries. -/
def three (A B C : sProp 𝕄) : Fin 3 → sProp 𝕄 := ![A, B, C]

instance three_storable {A B C : sProp 𝕄} [Storable (upEmb : UEmb _ 𝕄) A] [Storable (upEmb : UEmb _ 𝕄) B] [Storable (upEmb : UEmb _ 𝕄) C] (t : Fin 3) :
    Storable (upEmb : UEmb _ 𝕄) (three A B C t) := by
  fin_cases t <;> (simp only [three]; first | assumption | (show Storable _ A; infer_instance) | (show Storable _ B; infer_instance) | (show Storable _ C; infer_instance))

variable {Λ : Labels} {defs : Defs nD τ sig Val Λ} (𝒱 : Variants) (bd : Option 𝒱.V)
variable {α : Type}

/-- Three copies on one cell, `k` of them started and `u` units waited for. -/
abbrev Batch3 (sm : SemLoc sig) (N : ℕ) (A B C : sProp 𝕄) (k u : ℕ) : sProp 𝕄 := Batch EC c sm () N (three A B C) k u

theorem wp_batch {Q : α → sProp 𝕄} {p : Prog (TpuEff nD τ sig Val Λ c.2) α} (sm : SemLoc sig) (N : ℕ) (A B C : sProp 𝕄)
    [Storable (upEmb : UEmb _ 𝕄) A] [Storable (upEmb : UEmb _ 𝕄) B] [Storable (upEmb : UEmb _ 𝕄) C] :
    (semVal (c, sm) 0 : sProp 𝕄) ⊢ iprop((Batch3 c sm N A B C 0 0 -∗ wp frame (wpE defs 𝒱 c bd) Set.univ p Q)
      -∗ wp frame (wpE defs 𝒱 c bd) Set.univ p Q) := by
  iintro H Hk
  imod (batch_alloc' EC (c := c) () N (three A B C) (sm := sm) (E := Set.univ)) $$ H with HB
  iapply Hk $$ HB

/-- Copy `j` of the three. -/
theorem wp_cpB {Q : α → sProp 𝕄} {s₁ s₂ : Shape} {ms : Memref sig c.2.kind sp s₁ e} {md : Memref sig c.2.kind sp' s₂ e}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s₁.Idx → Val e} {Y : s₂.Idx → Val e}
    {Ss : Finset s₁.Idx} {Sd : Finset s₂.Idx} {φs φd} (hs : Sub (Val := Val) c ms src Ss φs) (hd : Sub (Val := Val) c md dst Sd φd)
    (sm' : SemLoc sig) (hsm : sm = sm') (hY : ∀ x, Y (φd x) = X (φs x))
    (N : ℕ) (hN : dst.view.amount sm = N) {A B C : sProp 𝕄} {j : ℕ} (hj : j < 3)
    (hD : three A B C ⟨j, hj⟩ = iprop(At c md.view fullShare Sd Y ∗ At c ms.view q Ss X)) :
    iprop(At c ms.view q Ss X ∗ Any c md.view Sd ∗ Batch3 c sm' N A B C j 0)
      ⊢ iprop((Batch3 c sm' N A B C (j + 1) 0
              -∗ wp frame (wpE defs 𝒱 c bd) Set.univ (k ⟨⟩) Q)
          -∗ wp frame (wpE defs 𝒱 c bd) Set.univ (Prog.lift (.enqueueDma src (.here dst) sm hsrc hdst hsem) >>= k) Q) := by
  subst hsm
  have hdst0 : (Any c md.view Sd : sProp 𝕄) ⊢ Any c dst.view Finset.univ := by
    unfold Any
    iintro ⟨%Z, H⟩
    iexists (fun x => Z (φd x))
    rw [hd fullShare Z]
    iexact H
  have hs' : (At c ms.view q Ss X : sProp 𝕄) ⊢ At c src.view q Finset.univ (fun x => X (φs x)) := ent_of_eq (hs q X).symm
  have key : ∀ Z : s.Idx → Val e, iprop(At c src.view q Finset.univ (fun x => X (φs x)) ∗ At c dst.view fullShare Finset.univ Z ∗ Batch3 c sm N A B C j 0)
      ⊢ iprop((Batch3 c sm N A B C (j + 1) 0 -∗ wp frame (wpE defs 𝒱 c bd) Set.univ (k ⟨⟩) Q)
          -∗ wp frame (wpE defs 𝒱 c bd) Set.univ (Prog.lift (.enqueueDma src (.here dst) sm hsrc hdst hsem) >>= k) Q) := by
    intro Z
    have e1 : (iprop(dst.view.loc c ↦[dst.view.set]{fullShare}
        (dst.view.write Val (dst.view.rep Z) ((ReadAs.same : ReadAs Val s e s e).apply (src.view.read Val (src.view.rep (fun x => X (φs x))))) Finset.univ)) : sProp 𝕄)
        = At c dst.view fullShare Finset.univ (fun x => X (φs x)) := by
      refine At_of_pointsTo c dst.view fullShare Finset.univ _ _ ?_
      intro x _
      rw [View.read_apply, View.write_emb_of_mem _ _ (Finset.mem_univ x), View.read_rep]
      simp
    have hm : iprop((dst.view.loc c ↦[dst.view.set]{fullShare}
        (dst.view.write Val (dst.view.rep Z) ((ReadAs.same : ReadAs Val s e s e).apply (src.view.read Val (src.view.rep (fun x => X (φs x))))) Finset.univ))
        ∗ (src.view.loc c ↦[src.view.set]{q} (src.view.rep (fun x => X (φs x))))) ⊢ three A B C ⟨j, hj⟩ := by
      rw [hD, e1, show (iprop(src.view.loc c ↦[src.view.set]{q} (src.view.rep (fun x => X (φs x)))) : sProp 𝕄) = At c src.view q Finset.univ (fun x => X (φs x)) from rfl,
        hs q X, show (fun x => X (φs x)) = (fun x => Y (φd x)) from funext fun x => (hY x).symm, hd fullShare Y]
    have h := wp_dmaBatch EC 𝒱 c bd (defs := defs) (via := .same) (hsem := hsem) (hsrc := hsrc) (hdst := hdst) (k := k) (Q := Q) (j := j) (u := 0) () N hN
      (src := src) (fs := src.view.rep (fun x => X (φs x))) (q := q) (dst := dst) (fd := dst.view.rep Z) (Sd := dst.view.set) (le_refl _) hj (Nat.zero_le _) hm
    exact h
  iintro ⟨Hs, Hd, Hv⟩ Hk
  ihave Hs := hs' $$ Hs
  ihave Hd := hdst0 $$ Hd
  unfold Any
  icases Hd with ⟨%Z, Hd⟩
  iapply (key Z) $$ [Hs Hd Hv]
  · isplitl [Hs]; · iexact Hs
    isplitl [Hd]; · iexact Hd
    iexact Hv
  iexact Hk

/-- A wait that is not the last. -/
theorem wp_wtB {Q : α → sProp 𝕄} {sem : DmaSem sig} {κ' : Kind}
    {srcw : Memref sig c.2.kind sp' s' e'} {dstw : Memref sig κ' sp s e} {hsrc : srcw.view.WordExact} {hdst : dstw.view.WordExact}
    {k : PUnit → Prog (TpuEff nD τ sig Val Λ c.2) α} {N : ℕ} (sem' : DmaSem sig) (hsm : sem = sem') (hN : dstw.view.dmaCredit = N) {A B C : sProp 𝕄}
    {u : ℕ} (hu : u + N < N * 3) :
    iprop(Batch3 c (.dma sem') N A B C 3 u ∗ (∃ W, owes c 0 W))
      ⊢ iprop((iprop(Batch3 c (.dma sem') N A B C 3 (u + N) ∗ (∃ W, owes c 0 W)) -∗ wp frame (wpE defs 𝒱 c bd) Set.univ (k ⟨⟩) Q)
          -∗ wp frame (wpE defs 𝒱 c bd) Set.univ (Prog.lift (.waitDma2 sem srcw dstw hsrc hdst) >>= k) Q) := by
  subst hsm
  iintro ⟨HF, %W, HW⟩ Hk
  have h : ∀ W, iprop(Batch3 c (.dma sem) N A B C 3 u ∗ owes c 0 W)
      ⊢ iprop((iprop(Batch3 c (.dma sem) N A B C 3 (u + N) ∗ owes c 0 (insert (SemLoc.dma sem, ()) W)) -∗ wp frame (wpE defs 𝒱 c bd) Set.univ (k ⟨⟩) Q)
          -∗ wp frame (wpE defs 𝒱 c bd) Set.univ (Prog.lift (.waitDma2 sem srcw dstw hsrc hdst) >>= k) Q) := fun W =>
    wp_waitBatch EC 𝒱 c bd (srcw := srcw) (hsrc := hsrc) (hdst := hdst) (k := k) (Q := Q) () hN hu
  iapply (h W) $$ [HF HW]
  · isplitl [HF] <;> iassumption
  iintro ⟨HD, HW⟩
  iapply Hk
  isplitl [HD]; · iexact HD
  iexists _; iexact HW

/-- The last wait. -/
theorem wp_wtBLast {Q : α → sProp 𝕄} {sem : DmaSem sig} {κ' : Kind}
    {srcw : Memref sig c.2.kind sp' s' e'} {dstw : Memref sig κ' sp s e} {hsrc : srcw.view.WordExact} {hdst : dstw.view.WordExact}
    {k : PUnit → Prog (TpuEff nD τ sig Val Λ c.2) α} {N : ℕ} (sem' : DmaSem sig) (hsm : sem = sem') (hN : dstw.view.dmaCredit = N) (hN0 : 0 < N) {A B C : sProp 𝕄}
    {u : ℕ} (hu : u + N = N * 3) :
    iprop(Batch3 c (.dma sem') N A B C 3 u ∗ (∃ W, owes c 0 W))
      ⊢ iprop((iprop((A ∗ B ∗ C) ∗ semVal (c, .dma sem') 0 ∗ (∃ W, owes c 0 W)) -∗ wp frame (wpE defs 𝒱 c bd) Set.univ (k ⟨⟩) Q)
          -∗ wp frame (wpE defs 𝒱 c bd) Set.univ (Prog.lift (.waitDma2 sem srcw dstw hsrc hdst) >>= k) Q) := by
  subst hsm
  have hb : (bigSep Finset.univ (three A B C) : sProp 𝕄) ⊢ iprop(A ∗ B ∗ C) := by
    have e : (Finset.univ : Finset (Fin 3)) = insert 0 (insert 1 (insert 2 ∅)) := by decide
    rw [e, bigSep_insert (by decide), bigSep_insert (by decide), bigSep_insert (by decide), bigSep_empty]
    show iprop(A ∗ B ∗ C ∗ emp) ⊢ _
    iintro ⟨H1, H2, H3, -⟩
    isplitl [H1]; · iexact H1
    isplitl [H2] <;> iassumption
  iintro ⟨HF, %W, HW⟩ Hk
  have h : ∀ W, iprop(Batch3 c (.dma sem) N A B C 3 u ∗ owes c 0 W)
      ⊢ iprop((iprop(bigSep Finset.univ (three A B C) ∗ semVal (c, .dma sem) 0 ∗ owes c 0 (insert (SemLoc.dma sem, ()) W)) -∗ wp frame (wpE defs 𝒱 c bd) Set.univ (k ⟨⟩) Q)
          -∗ wp frame (wpE defs 𝒱 c bd) Set.univ (Prog.lift (.waitDma2 sem srcw dstw hsrc hdst) >>= k) Q) := fun W =>
    wp_waitBatchLast EC 𝒱 c bd (srcw := srcw) (hsrc := hsrc) (hdst := hdst) (k := k) (Q := Q) () hN hN0 hu
  iapply (h W) $$ [HF HW]
  · isplitl [HF] <;> iassumption
  iintro ⟨HD, HS, HW⟩
  iapply Hk
  isplitl [HD]; · iapply hb $$ HD
  isplitl [HS]; · iexact HS
  iexists _; iexact HW

/-- One of a row of resources, and the rest. -/
theorem Rg_take (Φ : ℕ → sProp 𝕄) : ∀ (n a k : ℕ), k < n → (Rg Φ a n : sProp 𝕄) ⊢ iprop(Φ (a + k) ∗ (Φ (a + k) -∗ Rg Φ a n)) := by
  intro n
  induction n with
  | zero => intro a k h; omega
  | succ n ih =>
    intro a k h
    rw [Rg_succ]
    cases k with
    | zero =>
      iintro ⟨H1, H2⟩
      isplitl [H1]; · iexact H1
      iintro H1
      isplitl [H1] <;> iassumption
    | succ k =>
      have hk := ih (a + 1) k (by omega)
      rw [show a + 1 + k = a + (k + 1) by omega] at hk
      iintro ⟨H1, H2⟩
      ihave H2 := hk $$ H2
      icases H2 with ⟨H2, H3⟩
      isplitl [H2]; · iexact H2
      iintro H2
      isplitl [H1]; · iexact H1
      iapply H3 $$ H2

/-- The new contents where the key is below `n`, the old ones elsewhere. -/
def mix (key : s.Idx → ℕ) (n : ℕ) (A B : s.Idx → Val e) : s.Idx → Val e := fun i => if key i < n then B i else A i

theorem mix_all {key : s.Idx → ℕ} {n : ℕ} {A B : s.Idx → Val e} (h : ∀ i, key i < n ∨ A i = B i) : mix key n A B = B := by
  funext i
  unfold mix
  rcases h i with h | h
  · rw [if_pos h]
  · rw [h, ite_self]

theorem mix_zero {key : s.Idx → ℕ} {A B : s.Idx → Val e} : mix key 0 A B = A := by
  funext i; unfold mix; rw [if_neg (Nat.not_lt_zero _)]

/-- A store of the pieces with key `n`. -/
theorem wp_mix {Q : α → sProp 𝕄} {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {key : s.Idx → ℕ} {n : ℕ} {A B : s.Idx → Val e}
    (hS : ∀ i, i ∈ r.set ↔ key i = n) (hin : ∀ x, B (r.emb x) = w x) :
    (At c m.view fullShare Finset.univ (mix key n A B) : sProp 𝕄)
      ⊢ iprop((At c m.view fullShare Finset.univ (mix key (n + 1) A B) -∗ wp frame (wpE defs 𝒱 c bd) Set.univ (k ⟨⟩) Q)
        -∗ wp frame (wpE defs 𝒱 c bd) Set.univ (Prog.lift (.store m r w Finset.univ hx hm) >>= k) Q) := by
  refine wp_st c 𝒱 bd (mix key (n + 1) A B) (Finset.subset_univ _) ?_ ?_
  · intro x
    have h : key (r.emb x) = n := (hS _).mp (by rw [← r.map_emb_univ]; exact Finset.mem_map_of_mem _ (Finset.mem_univ x))
    unfold mix
    rw [if_pos (by omega)]
    exact hin x
  · intro i _ hi
    have h : key i ≠ n := fun h => hi ((hS i).mpr h)
    unfold mix
    by_cases h' : key i < n
    · rw [if_pos h', if_pos (by omega)]
    · rw [if_neg h', if_neg (by omega)]

end

end Lora

end
-- ==== Proof.Run.K.T5a.lean ====
/-
  The three windows of the down-projection that a segment uses: started together on one cell, then waited for.
-/
module

public import proofs.«01_k».proof.Proof.Run.K.T2
public import proofs.«01_k».proof.Proof.Run.Batch
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The three windows of segment `s`, in a slot. -/
def aC (s : ℕ) : S8x120x2048.Idx → Elt F .bf16 := fun x => I.A (ix3 (Fin.ofNat 3 ((x 1).val / 40)) (Fin.ofNat 1000 (base (I.st s) + (x 1).val % 40)) (x 2))
/-- The three windows of segment `s`. -/
def aseg (s : ℕ) : S1x120x2048.Idx → Elt F .bf16 := fun x => I.A (ix3 (Fin.ofNat 3 ((x 1).val / 40)) (Fin.ofNat 1000 (base (I.st s) + (x 1).val % 40)) (x 2))
end In

/-- Rows `lo ≤ r < hi` of slot `p`. -/
def arow (p lo hi : ℕ) : Finset S8x120x2048.Idx := Finset.univ.filter fun i => (i 0).val = p ∧ lo ≤ (i 1).val ∧ (i 1).val < hi
theorem mem_arow (p lo hi : ℕ) (i) : i ∈ arow p lo hi ↔ (i 0).val = p ∧ lo ≤ (i 1).val ∧ (i 1).val < hi := by simp [arow]
/-- The other slots. -/
def aoff (p : ℕ) : Finset S8x120x2048.Idx := Finset.univ.filter fun i => (i 0).val ≠ p
theorem arow_split (p lo mid hi : ℕ) (h1 : lo ≤ mid) (h2 : mid ≤ hi) : arow p lo hi = arow p lo mid ∪ arow p mid hi := by
  ext i; simp only [Finset.mem_union, mem_arow]; omega
theorem arow_disj (p lo mid hi : ℕ) : Disjoint (arow p lo mid) (arow p mid hi) := by
  rw [Finset.disjoint_left]; intro i; simp only [mem_arow]; omega
theorem aoff_split (p : ℕ) : (Finset.univ : Finset S8x120x2048.Idx) = arow p 0 120 ∪ aoff p := by
  ext i
  have h : (i 1).val < 120 := (i 1).isLt
  simp only [Finset.mem_union, mem_arow, aoff, Finset.mem_filter, Finset.mem_univ, _root_.true_and, true_iff]; omega
theorem aoff_disj (p : ℕ) : Disjoint (arow p 0 120) (aoff p) := by
  rw [Finset.disjoint_left]; intro i; simp only [mem_arow, aoff, Finset.mem_filter, Finset.mem_univ, _root_.true_and]; omega

/-- Plane `q` of the down-projection: a window of forty rows, and the rest. -/
def awin (q w : ℕ) : Finset S3x1000x2048.Idx := Finset.univ.filter fun i => (i 0).val = q ∧ w ≤ (i 1).val ∧ (i 1).val < w + 40
def arest (q w : ℕ) : Finset S3x1000x2048.Idx := Finset.univ.filter fun i => (i 0).val = q ∧ ¬ (w ≤ (i 1).val ∧ (i 1).val < w + 40)
theorem mem_awin (q w : ℕ) (i) : i ∈ awin q w ↔ (i 0).val = q ∧ w ≤ (i 1).val ∧ (i 1).val < w + 40 := by simp [awin]
theorem awin_split (q w : ℕ) : (plane q : Finset S3x1000x2048.Idx) = awin q w ∪ arest q w := by
  ext i; simp only [Finset.mem_union, mem_awin, mem_plane, arest, Finset.mem_filter, Finset.mem_univ, _root_.true_and]; tauto
theorem awin_disj (q w : ℕ) : Disjoint (awin q w) (arest q w) := by
  rw [Finset.disjoint_left]; intro i; simp only [mem_awin, arest, Finset.mem_filter, Finset.mem_univ, _root_.true_and]; tauto

theorem words_A (q : Fin 3) (m : Fin 121) (inb) : (Rect.unit (s := S3x1000x2048) ![q.val, 8 * m.val, 0] S1x40x2048.size inb).WholeWords (EltTy.packing .bf16) := by
  revert inb; revert m; revert q; decide +kernel

theorem chk9_of (w : BitVec 32) (h : w.toNat ≤ 968) : k0_chk9 w := by
  have hb := base_eq w h
  obtain ⟨m, hm'⟩ : ∃ m : Fin 121, base w = 8 * m.val := ⟨⟨min (w.toNat / 8) 120, by omega⟩, by rw [hb]; dsimp only; omega⟩
  have ho : k0_off63 w = ![0, base w, 0] := rfl
  refine ⟨⟨m.val, hm'⟩, ?_, ?_⟩
  · rw [ho, hm']; have := m.isLt
    intro a; fin_cases a <;> simp <;> omega
  · rw [ho, hm']; exact words_A 0 m
theorem chk11_of (w : BitVec 32) (h : w.toNat ≤ 968) : k0_chk11 w := by
  have hb := base_eq w h
  obtain ⟨m, hm'⟩ : ∃ m : Fin 121, base w = 8 * m.val := ⟨⟨min (w.toNat / 8) 120, by omega⟩, by rw [hb]; dsimp only; omega⟩
  have ho : k0_off68 w = ![1, base w, 0] := rfl
  refine ⟨⟨m.val, hm'⟩, ?_, ?_⟩
  · rw [ho, hm']; have := m.isLt
    intro a; fin_cases a <;> simp <;> omega
  · rw [ho, hm']; exact words_A 1 m
theorem chk13_of (w : BitVec 32) (h : w.toNat ≤ 968) : k0_chk13 w := by
  have hb := base_eq w h
  obtain ⟨m, hm'⟩ : ∃ m : Fin 121, base w = 8 * m.val := ⟨⟨min (w.toNat / 8) 120, by omega⟩, by rw [hb]; dsimp only; omega⟩
  have ho : k0_off73 w = ![2, base w, 0] := rfl
  refine ⟨⟨m.val, hm'⟩, ?_, ?_⟩
  · rw [ho, hm']; have := m.isLt
    intro a; fin_cases a <;> simp <;> omega
  · rw [ho, hm']; exact words_A 2 m
theorem chk20_of (w : BitVec 32) (h : w.toNat < 23) : k0_chk20 w := by
  have h1 : k0_off90 w = ![w.toNat] := rfl
  have h2 : k0_off93 w = ![w.toNat] := rfl
  have h3 : k0_off98 w = ![w.toNat, 0] := rfl
  have h4 : k0_off104 w = ![w.toNat, 1] := rfl
  have h5 : k0_off106 w = ![w.toNat, 2] := rfl
  refine ⟨?_, ?_, ?_, ?_, ?_⟩
  · rw [h1]; intro a; fin_cases a <;> simp <;> omega
  · rw [h2]; intro a; fin_cases a <;> simp <;> omega
  · rw [h3]; intro a; fin_cases a <;> simp <;> omega
  · rw [h4]; intro a; fin_cases a <;> simp <;> omega
  · rw [h5]; intro a; fin_cases a <;> simp <;> omega
theorem chk22_nat : ∀ n : Fin 969, k0_chk22 (BitVec.ofNat 32 n.val) (BitVec.ofNat 32 n.val) := by decide +kernel
theorem chk22_of (w : BitVec 32) (h : w.toNat ≤ 968) : k0_chk22 w w := by
  have := chk22_nat ⟨w.toNat, by omega⟩
  simpa using this

section offs
variable (a : Fin 19) (d : Fin 6) (t : Fin (k0_t5_loop (BitVec.ofNat 32 a.val) (BitVec.ofNat 32 (a.val + d.val + 1))).trips)
theorem t5_trips : (k0_t5_loop (BitVec.ofNat 32 a.val) (BitVec.ofNat 32 (a.val + d.val + 1))).trips = d.val + 1 := by revert a d; decide +kernel
theorem of59 : k0_off59 (BitVec.ofNat 32 a.val) (BitVec.ofNat 32 (a.val + d.val + 1)) t = ![a.val + t.val] := by revert a d; decide +kernel
theorem of64 : k0_off64 (BitVec.ofNat 32 a.val) (BitVec.ofNat 32 (a.val + d.val + 1)) t = ![a.val + t.val] := by revert a d; decide +kernel
theorem of69 : k0_off69 (BitVec.ofNat 32 a.val) (BitVec.ofNat 32 (a.val + d.val + 1)) t = ![a.val + t.val] := by revert a d; decide +kernel
theorem of74 : k0_off74 (BitVec.ofNat 32 a.val) (BitVec.ofNat 32 (a.val + d.val + 1)) t = ![a.val + t.val] := by revert a d; decide +kernel
theorem of79 : k0_off79 (BitVec.ofNat 32 a.val) (BitVec.ofNat 32 (a.val + d.val + 1)) t = ![a.val + t.val] := by revert a d; decide +kernel
theorem of84 : k0_off84 (BitVec.ofNat 32 a.val) (BitVec.ofNat 32 (a.val + d.val + 1)) t = ![a.val + t.val] := by revert a d; decide +kernel
theorem of89 : k0_off89 (BitVec.ofNat 32 a.val) (BitVec.ofNat 32 (a.val + d.val + 1)) t = ![a.val + t.val] := by revert a d; decide +kernel
theorem of91 : k0_off91 (BitVec.ofNat 32 a.val) (BitVec.ofNat 32 (a.val + d.val + 1)) t = ![a.val + t.val] := by revert a d; decide +kernel
theorem of96 : k0_off96 (BitVec.ofNat 32 a.val) (BitVec.ofNat 32 (a.val + d.val + 1)) t = ![a.val + t.val] := by revert a d; decide +kernel
theorem of97 : k0_off97 (BitVec.ofNat 32 a.val) (BitVec.ofNat 32 (a.val + d.val + 1)) t = ![a.val + t.val + 1] := by revert a d; decide +kernel
theorem of61 : k0_off61 (BitVec.ofNat 32 a.val) (BitVec.ofNat 32 (a.val + d.val + 1)) t = ![(a.val + t.val) % 8] := by revert a d; decide +kernel
theorem of66 : k0_off66 (BitVec.ofNat 32 a.val) (BitVec.ofNat 32 (a.val + d.val + 1)) t = ![(a.val + t.val) % 8] := by revert a d; decide +kernel
theorem of71 : k0_off71 (BitVec.ofNat 32 a.val) (BitVec.ofNat 32 (a.val + d.val + 1)) t = ![(a.val + t.val) % 8] := by revert a d; decide +kernel
theorem of76 : k0_off76 (BitVec.ofNat 32 a.val) (BitVec.ofNat 32 (a.val + d.val + 1)) t = ![(a.val + t.val) % 8] := by revert a d; decide +kernel
theorem of81 : k0_off81 (BitVec.ofNat 32 a.val) (BitVec.ofNat 32 (a.val + d.val + 1)) t = ![(a.val + t.val) % 8] := by revert a d; decide +kernel
theorem of86 : k0_off86 (BitVec.ofNat 32 a.val) (BitVec.ofNat 32 (a.val + d.val + 1)) t = ![(a.val + t.val) % 8] := by revert a d; decide +kernel
theorem of62 : k0_off62 (BitVec.ofNat 32 a.val) (BitVec.ofNat 32 (a.val + d.val + 1)) t = ![(a.val + t.val) % 8, 0, 0] := by revert a d; decide +kernel
theorem of67 : k0_off67 (BitVec.ofNat 32 a.val) (BitVec.ofNat 32 (a.val + d.val + 1)) t = ![(a.val + t.val) % 8, 40, 0] := by revert a d; decide +kernel
theorem of72 : k0_off72 (BitVec.ofNat 32 a.val) (BitVec.ofNat 32 (a.val + d.val + 1)) t = ![(a.val + t.val) % 8, 80, 0] := by revert a d; decide +kernel
theorem of94 : k0_off94 (BitVec.ofNat 32 a.val) (BitVec.ofNat 32 (a.val + d.val + 1)) t = ![(a.val + t.val) % 8, 0, 0] := by revert a d; decide +kernel
theorem of99 : k0_off99 (BitVec.ofNat 32 a.val) (BitVec.ofNat 32 (a.val + d.val + 1)) t = ![0, 40 * (a.val + t.val - min a.val 13), 0] := by revert a d; decide +kernel
theorem of105 : k0_off105 (BitVec.ofNat 32 a.val) (BitVec.ofNat 32 (a.val + d.val + 1)) t = ![1, 40 * (a.val + t.val - min a.val 13), 0] := by revert a d; decide +kernel
theorem of107 : k0_off107 (BitVec.ofNat 32 a.val) (BitVec.ofNat 32 (a.val + d.val + 1)) t = ![2, 40 * (a.val + t.val - min a.val 13), 0] := by revert a d; decide +kernel
end offs

theorem chk7_of (a : Fin 19) (d : Fin 6) (h : a.val + d.val + 1 ≤ 19) : k0_chk7 (BitVec.ofNat 32 a.val) (BitVec.ofNat 32 (a.val + d.val + 1)) := by
  revert h; revert a d; decide +kernel

variable (c : Dev nD) (E : Env) (I : In F)

/-- The units a window's copy credits. -/
abbrev Na : ℕ := sig.dmaCredit .tc (Kind.table .tc .vmem) E.arg16.view.buf S40x2048 .bf16
/-- The cell of slot `p`. -/
abbrev asem (p : ℕ) : DmaSem sig := E.arg26.ix (ix1 (Fin.ofNat 8 p))
/-- What copy `q` of segment `s` delivers. -/
abbrev aD (s q : ℕ) : sProp 𝕄 :=
  iprop(At (c : Thread nD τ) E.arg16.view fullShare (arow (s % 8) (40 * q) (40 * q + 40)) (I.aC s)
    ∗ At (c : Thread nD τ) E.arg8.view fullShare (awin q (base (I.st s))) I.A)
abbrev aB (s k u : ℕ) : sProp 𝕄 := Batch3 (c : Thread nD τ) (.dma (asem E (s % 8))) (Na E) (aD c E I s 0) (aD c E I s 1) (aD c E I s 2) k u
/-- The two tables read for each window. -/
abbrev Tb : sProp 𝕄 := iprop(At (c : Thread nD τ) E.arg1.view fullShare Finset.univ I.seg ∗ At (c : Thread nD τ) E.arg2.view fullShare Finset.univ I.start)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)
include G hs

/-- Part 6: the first window is started. -/
theorem part6_spec  :
    iprop(Tb c E I ∗ At (c : Thread nD τ) E.arg8.view fullShare (plane 0) I.A ∗ Any (c : Thread nD τ) E.arg16.view (arow ((a.val + t.val) % 8) (40 * 0) (40 * 0 + 40)) ∗ semVal ((c : Thread nD τ), .dma (asem E ((a.val + t.val) % 8))) 0)
      ⊢ wp frame (wpE (defs₀ (F := F)) 𝒱 (c : Thread nD τ) bd) Set.univ
          (k0_part6 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw 1#32 t)
          (fun r => iprop(⌜r = ⟨Scf.iv (BitVec.ofNat 32 a.val) 1#32 t, I.sgw (a.val + t.val), chk1_of _ (G.sg (a.val + t.val) hs)⟩⌝ ∗ iprop(Tb c E I ∗ At (c : Thread nD τ) E.arg8.view fullShare (arest 0 (base (I.st (a.val + t.val)))) I.A ∗ aB c E I (a.val + t.val) 1 0))) := by
  have hg := G.sg (a.val + t.val) hs
  have hv := G.st (a.val + t.val) hs
  rw [k0_part6_eq_skeleton]
  unfold k0_part6_skel
  have hsem : ((E.arg26.slice (Rect.unit (s := S8) (k0_off61 (BitVec.ofNat 32 a.val) (BitVec.ofNat 32 (a.val + d.val + 1)) t) S1.size (k0_off61_inb (BitVec.ofNat 32 a.val) (BitVec.ofNat 32 (a.val + d.val + 1)) hw t))).squeeze S_ squeezes_S1_S_).sem = asem E ((a.val + t.val) % 8) :=
    sem_at _ _ _ _ (emb1 _ (by rw [of61]; simp))
  obtain ⟨φd, hsd, hφd⟩ := slot_sub (Val := Elt F) (c : Thread nD τ) E.arg16 (inb := k0_off62_inb (BitVec.ofNat 32 a.val) (BitVec.ofNat 32 (a.val + d.val + 1)) hw t) (hr := fun _ => rfl) (of62 a d t) rfl squeezes_S1x40x2048_S40x2048 (h := 40) (b := 2048) (S := arow ((a.val + t.val) % 8) (40 * 0) (40 * 0 + 40))
    (fun i => by rw [mem_arow]; have h : (i 2).val < 2048 := (i 2).isLt; omega)
  obtain ⟨φs, hss, hφs⟩ := slot_sub (Val := Elt F) (c : Thread nD τ) E.arg8 (inb := k0_off63_inb (I.st (a.val + t.val)) (chk9_of _ hv)) (hr := fun _ => rfl) (p := 0) (r := base (I.st (a.val + t.val))) rfl rfl squeezes_S1x40x2048_S40x2048 (h := 40) (b := 2048) (S := awin 0 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 0 (base (I.st (a.val + t.val)))) (awin_disj _ _)).1 $$ HA
  icases HA with ⟨HA, HR⟩
  iapply (wp_word (c : Thread nD τ) 𝒱 bd (X := I.seg) (ix1 (Fin.ofNat 19 (a.val + t.val))) (emb1 _ (by rw [of59]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk9_of _ hv))
  iapply (wp_batch (c : Thread nD τ) 𝒱 bd (.dma (asem E ((a.val + t.val) % 8))) (Na E) (aD c E I (a.val + t.val) 0) (aD c E I (a.val + t.val) 1) (aD c E I (a.val + t.val) 2)) $$ HB
  iintro HB
  iapply (wp_cpB (c : Thread nD τ) 𝒱 bd (ms := E.arg8) (md := E.arg16) (X := I.A) (Y := I.aC (a.val + t.val))
    hss hsd _ (congrArg SemLoc.dma hsem) hYc (Na E) rfl (j := 0) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of64]; simp [Nat.mod_eq_of_lt hs]))) $$ H1
  iintro H1
  iapply (wp_as (c : Thread nD τ) 𝒱 bd (chk1_of _ hg))
  iapply (wp_done (c : Thread nD τ) 𝒱 bd)
  isplitr [H1 H2 HR HB]
  · ipureintro; rfl
  isplitl [H1 H2]
  · isplitl [H1] <;> iassumption
  isplitl [HR] <;> iassumption

/-- Part 7: the second window is started. -/
theorem part7_spec (v32 : BitVec 32) (hw10 : k0_chk10 (I.sgw (a.val + t.val))) :
    iprop(Tb c E I ∗ At (c : Thread nD τ) E.arg8.view fullShare (plane 1) I.A ∗ Any (c : Thread nD τ) E.arg16.view (arow ((a.val + t.val) % 8) (40 * 1) (40 * 1 + 40)) ∗ aB c E I (a.val + t.val) 1 0)
      ⊢ wp frame (wpE (defs₀ (F := F)) 𝒱 (c : Thread nD τ) bd) Set.univ
          (k0_part7 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.sgw (a.val + t.val)) hw10)
          (fun r => iprop(⌜r = ⟨I.st (a.val + t.val), chk13_of _ (G.st (a.val + t.val) hs), 3#32⟩⌝ ∗ iprop(Tb c E I ∗ At (c : Thread nD τ) E.arg8.view fullShare (arest 1 (base (I.st (a.val + t.val)))) I.A ∗ aB c E I (a.val + t.val) 2 0))) := by
  have hg := G.sg (a.val + t.val) hs
  have hv := G.st (a.val + t.val) hs
  rw [k0_part7_eq_skeleton]
  unfold k0_part7_skel
  have hsem : ((E.arg26.slice (Rect.unit (s := S8) (k0_off66 (BitVec.ofNat 32 a.val) (BitVec.ofNat 32 (a.val + d.val + 1)) t) S1.size (k0_off66_inb (BitVec.ofNat 32 a.val) (BitVec.ofNat 32 (a.val + d.val + 1)) hw t))).squeeze S_ squeezes_S1_S_).sem = asem E ((a.val + t.val) % 8) :=
    sem_at _ _ _ _ (emb1 _ (by rw [of66]; simp))
  obtain ⟨φd, hsd, hφd⟩ := slot_sub (Val := Elt F) (c : Thread nD τ) E.arg16 (inb := k0_off67_inb (BitVec.ofNat 32 a.val) (BitVec.ofNat 32 (a.val + d.val + 1)) hw t) (hr := fun _ => rfl) (of67 a d t) rfl squeezes_S1x40x2048_S40x2048 (h := 40) (b := 2048) (S := arow ((a.val + t.val) % 8) (40 * 1) (40 * 1 + 40))
    (fun i => by rw [mem_arow]; have h : (i 2).val < 2048 := (i 2).isLt; omega)
  obtain ⟨φs, hss, hφs⟩ := slot_sub (Val := Elt F) (c : Thread nD τ) E.arg8 (inb := k0_off68_inb (I.st (a.val + t.val)) (chk11_of _ hv)) (hr := fun _ => rfl) (p := 1) (r := base (I.st (a.val + t.val))) rfl rfl squeezes_S1x40x2048_S40x2048 (h := 40) (b := 2048) (S := awin 1 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 1 (base (I.st (a.val + t.val)))) (awin_disj _ _)).1 $$ HA
  icases HA with ⟨HA, HR⟩
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk11_of _ hv))
  iapply (wp_cpB (c : Thread nD τ) 𝒱 bd (ms := E.arg8) (md := E.arg16) (X := I.A) (Y := I.aC (a.val + t.val))
    hss hsd _ (congrArg SemLoc.dma hsem) hYc (Na E) rfl (j := 1) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of69]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk13_of _ hv))
  iapply (wp_done (c : Thread nD τ) 𝒱 bd)
  isplitr [H1 H2 HR HB]
  · ipureintro; rfl
  isplitl [H1 H2]
  · isplitl [H1] <;> iassumption
  isplitl [HR] <;> iassumption

/-- Part 8: the third window is started. -/
theorem part8_spec (v32 c3 : BitVec 32) (hw13 : k0_chk13 (I.st (a.val + t.val))) :
    iprop(Tb c E I ∗ At (c : Thread nD τ) E.arg8.view fullShare (plane 2) I.A ∗ Any (c : Thread nD τ) E.arg16.view (arow ((a.val + t.val) % 8) (40 * 2) (40 * 2 + 40)) ∗ aB c E I (a.val + t.val) 2 0)
      ⊢ wp frame (wpE (defs₀ (F := F)) 𝒱 (c : Thread nD τ) bd) Set.univ
          (k0_part8 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw13 c3)
          (fun r => iprop(⌜r = ⟨I.st (a.val + t.val), chk9_of _ (G.st (a.val + t.val) hs), Scalar.shli (Scalar.shrsi (I.st (a.val + t.val)) 3#32) 3#32, 960#32⟩⌝ ∗ iprop(Tb c E I ∗ At (c : Thread nD τ) E.arg8.view fullShare (arest 2 (base (I.st (a.val + t.val)))) I.A ∗ aB c E I (a.val + t.val) 3 0))) := by
  have hg := G.sg (a.val + t.val) hs
  have hv := G.st (a.val + t.val) hs
  rw [k0_part8_eq_skeleton]
  unfold k0_part8_skel
  have hsem : ((E.arg26.slice (Rect.unit (s := S8) (k0_off71 (BitVec.ofNat 32 a.val) (BitVec.ofNat 32 (a.val + d.val + 1)) t) S1.size (k0_off71_inb (BitVec.ofNat 32 a.val) (BitVec.ofNat 32 (a.val + d.val + 1)) hw t))).squeeze S_ squeezes_S1_S_).sem = asem E ((a.val + t.val) % 8) :=
    sem_at _ _ _ _ (emb1 _ (by rw [of71]; simp))
  obtain ⟨φd, hsd, hφd⟩ := slot_sub (Val := Elt F) (c : Thread nD τ) E.arg16 (inb := k0_off72_inb (BitVec.ofNat 32 a.val) (BitVec.ofNat 32 (a.val + d.val + 1)) hw t) (hr := fun _ => rfl) (of72 a d t) rfl squeezes_S1x40x2048_S40x2048 (h := 40) (b := 2048) (S := arow ((a.val + t.val) % 8) (40 * 2) (40 * 2 + 40))
    (fun i => by rw [mem_arow]; have h : (i 2).val < 2048 := (i 2).isLt; omega)
  obtain ⟨φs, hss, hφs⟩ := slot_sub (Val := Elt F) (c : Thread nD τ) E.arg8 (inb := k0_off73_inb (I.st (a.val + t.val)) hw13) (hr := fun _ => rfl) (p := 2) (r := base (I.st (a.val + t.val))) rfl rfl squeezes_S1x40x2048_S40x2048 (h := 40) (b := 2048) (S := awin 2 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 2 (base (I.st (a.val + t.val)))) (awin_disj _ _)).1 $$ HA
  icases HA with ⟨HA, HR⟩
  iapply (wp_cpB (c : Thread nD τ) 𝒱 bd (ms := E.arg8) (md := E.arg16) (X := I.A) (Y := I.aC (a.val + t.val))
    hss hsd _ (congrArg SemLoc.dma hsem) hYc (Na E) rfl (j := 2) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of74]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk9_of _ hv))
  iapply (wp_done (c : Thread nD τ) 𝒱 bd)
  isplitr [H1 H2 HR HB]
  · ipureintro; rfl
  isplitl [H1 H2]
  · isplitl [H1] <;> iassumption
  isplitl [HR] <;> iassumption

/-- Part 9: one window has arrived. -/
theorem part9_spec (v32 w1 w2 : BitVec 32) (hw15 : k0_chk15 (I.st (a.val + t.val))) :
    iprop(Tb c E I ∗ aB c E I (a.val + t.val) 3 0 ∗ Ow c)
      ⊢ wp frame (wpE (defs₀ (F := F)) 𝒱 (c : Thread nD τ) bd) Set.univ
          (k0_part9 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw15 w1 w2)
          (fun r => iprop(⌜r = ⟨I.st (a.val + t.val), chk11_of _ (G.st (a.val + t.val) hs), 8#32, 0#32⟩⌝ ∗ iprop(Tb c E I ∗ aB c E I (a.val + t.val) 3 (0 + Na E) ∗ Ow c))) := by
  have hg := G.sg (a.val + t.val) hs
  have hv := G.st (a.val + t.val) hs
  rw [k0_part9_eq_skeleton]
  unfold k0_part9_skel
  have hsem : ((E.arg26.slice (Rect.unit (s := S8) (k0_off76 (BitVec.ofNat 32 a.val) (BitVec.ofNat 32 (a.val + d.val + 1)) t) S1.size (k0_off76_inb (BitVec.ofNat 32 a.val) (BitVec.ofNat 32 (a.val + d.val + 1)) hw t))).squeeze S_ squeezes_S1_S_).sem = asem E ((a.val + t.val) % 8) :=
    sem_at _ _ _ _ (emb1 _ (by rw [of76]; simp))
  have hN0 : 0 < Na E := sig.dmaCredit_pos _ _ _ _ _ (by rw [Shape.numel]; simp [Fin.prod_univ_succ])
  iintro ⟨⟨H1, H2⟩, HB, HO⟩
  iapply (wp_wtB (c : Thread nD τ) 𝒱 bd _ hsem (N := Na E) rfl (u := 0) (by omega)) $$ [HB HO]
  · isplitl [HB] <;> iassumption
  iintro ⟨HB, HO⟩
  iapply (wp_word (c : Thread nD τ) 𝒱 bd (X := I.seg) (ix1 (Fin.ofNat 19 (a.val + t.val))) (emb1 _ (by rw [of79]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk11_of _ hv))
  iapply (wp_done (c : Thread nD τ) 𝒱 bd)
  isplitr [H1 H2 HB HO]
  · ipureintro; rfl
  isplitl [H1 H2]
  · isplitl [H1] <;> iassumption
  isplitl [HB] <;> iassumption

/-- Part 10: two windows have arrived. -/
theorem part10_spec (v32 : BitVec 32) (hw17 : k0_chk17 (I.st (a.val + t.val))) :
    iprop(Tb c E I ∗ aB c E I (a.val + t.val) 3 (0 + Na E) ∗ Ow c)
      ⊢ wp frame (wpE (defs₀ (F := F)) 𝒱 (c : Thread nD τ) bd) Set.univ
          (k0_part10 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw17 8#32 0#32)
          (fun r => iprop(⌜r = ⟨I.st (a.val + t.val), chk13_of _ (G.st (a.val + t.val) hs), Scalar.select (Scalar.cmpi .eq 8#32 0#32) 1#32 8#32, Scalar.remsi v32 (Scalar.select (Scalar.cmpi .eq 8#32 0#32) 1#32 8#32)⟩⌝ ∗ iprop(Tb c E I ∗ aB c E I (a.val + t.val) 3 (0 + Na E + Na E) ∗ Ow c))) := by
  have hg := G.sg (a.val + t.val) hs
  have hv := G.st (a.val + t.val) hs
  rw [k0_part10_eq_skeleton]
  unfold k0_part10_skel
  have hsem : ((E.arg26.slice (Rect.unit (s := S8) (k0_off81 (BitVec.ofNat 32 a.val) (BitVec.ofNat 32 (a.val + d.val + 1)) t) S1.size (k0_off81_inb (BitVec.ofNat 32 a.val) (BitVec.ofNat 32 (a.val + d.val + 1)) hw t))).squeeze S_ squeezes_S1_S_).sem = asem E ((a.val + t.val) % 8) :=
    sem_at _ _ _ _ (emb1 _ (by rw [of81]; simp))
  have hN0 : 0 < Na E := sig.dmaCredit_pos _ _ _ _ _ (by rw [Shape.numel]; simp [Fin.prod_univ_succ])
  iintro ⟨⟨H1, H2⟩, HB, HO⟩
  iapply (wp_wtB (c : Thread nD τ) 𝒱 bd _ hsem (N := Na E) rfl (u := 0 + Na E) (by omega)) $$ [HB HO]
  · isplitl [HB] <;> iassumption
  iintro ⟨HB, HO⟩
  iapply (wp_word (c : Thread nD τ) 𝒱 bd (X := I.seg) (ix1 (Fin.ofNat 19 (a.val + t.val))) (emb1 _ (by rw [of84]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk13_of _ hv))
  iapply (wp_done (c : Thread nD τ) 𝒱 bd)
  isplitr [H1 H2 HB HO]
  · ipureintro; rfl
  isplitl [H1 H2]
  · isplitl [H1] <;> iassumption
  isplitl [HB] <;> iassumption

/-- Part 11: all three windows have arrived. -/
theorem part11_spec (v32 w1 w2 : BitVec 32) (hw19 : k0_chk19 (I.st (a.val + t.val))) :
    iprop(Tb c E I ∗ At (c : Thread nD τ) E.arg3.view fullShare Finset.univ I.rank ∗ aB c E I (a.val + t.val) 3 (0 + Na E + Na E) ∗ Ow c)
      ⊢ wp frame (wpE (defs₀ (F := F)) 𝒱 (c : Thread nD τ) bd) Set.univ
          (k0_part11 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw19 w1 w2)
          (fun r => iprop(⌜r = ⟨I.sgw (a.val + t.val), chk20_of _ (G.sg (a.val + t.val) hs), I.st (a.val + t.val), I.st (a.val + t.val), chk22_of _ (G.st (a.val + t.val) hs), Scalar.subi (I.st (a.val + t.val)) (Scalar.minsi (Scalar.shli (Scalar.shrsi (I.st (a.val + t.val)) 3#32) 3#32) 960#32), I.rk (a.val + t.val), 8#32, Scalar.cmpi .eq 8#32 0#32⟩⌝ ∗ iprop(Tb c E I ∗ At (c : Thread nD τ) E.arg3.view fullShare Finset.univ I.rank ∗ (aD c E I (a.val + t.val) 0 ∗ aD c E I (a.val + t.val) 1 ∗ aD c E I (a.val + t.val) 2) ∗ semVal ((c : Thread nD τ), .dma (asem E ((a.val + t.val) % 8))) 0 ∗ Ow c))) := by
  have hg := G.sg (a.val + t.val) hs
  have hv := G.st (a.val + t.val) hs
  rw [k0_part11_eq_skeleton]
  unfold k0_part11_skel
  have hsem : ((E.arg26.slice (Rect.unit (s := S8) (k0_off86 (BitVec.ofNat 32 a.val) (BitVec.ofNat 32 (a.val + d.val + 1)) t) S1.size (k0_off86_inb (BitVec.ofNat 32 a.val) (BitVec.ofNat 32 (a.val + d.val + 1)) hw t))).squeeze S_ squeezes_S1_S_).sem = asem E ((a.val + t.val) % 8) :=
    sem_at _ _ _ _ (emb1 _ (by rw [of86]; simp))
  have hN0 : 0 < Na E := sig.dmaCredit_pos _ _ _ _ _ (by rw [Shape.numel]; simp [Fin.prod_univ_succ])
  iintro ⟨⟨H1, H2⟩, H3, HB, HO⟩
  iapply (wp_wtBLast (c : Thread nD τ) 𝒱 bd _ hsem (N := Na E) rfl hN0 (u := 0 + Na E + Na E) (by omega)) $$ [HB HO]
  · isplitl [HB] <;> iassumption
  iintro ⟨HD, HS, HO⟩
  iapply (wp_word (c : Thread nD τ) 𝒱 bd (X := I.seg) (ix1 (Fin.ofNat 19 (a.val + t.val))) (emb1 _ (by rw [of89]; simp [Nat.mod_eq_of_lt hs]))) $$ H1
  iintro H1
  iapply (wp_as (c : Thread nD τ) 𝒱 bd (chk20_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_word (c : Thread nD τ) 𝒱 bd (X := I.seg) (ix1 (Fin.ofNat 19 (a.val + t.val))) (emb1 _ (by rw [of91]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk22_of _ hv))
  iapply (wp_word (c : Thread nD τ) 𝒱 bd (X := I.rank) (ix1 (Fin.ofNat 23 (I.sgw (a.val + t.val)).toNat)) (emb1 _ (by
    show (I.sgw (a.val + t.val)).toNat = _; simp [Nat.mod_eq_of_lt hg]))) $$ H3
  iintro H3
  iapply (wp_done (c : Thread nD τ) 𝒱 bd)
  isplitr [H1 H2 H3 HD HS HO]
  · ipureintro; rfl
  isplitl [H1 H2]
  · isplitl [H1] <;> iassumption
  isplitl [H3]; · iexact H3
  isplitl [HD]; · iexact HD
  isplitl [HS] <;> iassumption

end Cert.Kernel.Hand

end
-- ==== Proof.Run.K.T5b.lean ====
/-
  One segment of a tile: its down-projection against the tile's tokens, masked to the segment, put in the window of
  the segment in the wide buffer and added to the narrow one.
-/
module

public import proofs.«01_k».proof.Proof.Run.K.T7
public import proofs.«01_k».proof.Proof.Run.K.T5a
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The row of its window at which a segment's rows begin. -/
def sh (s : ℕ) : ℕ := (I.st s).toNat - min ((I.st s).toNat / 8 * 8) 960
/-- The products of tile `i`'s tokens with segment `s`'s windows. -/
def D (i s : ℕ) : FVec F S120x512 .f32 := k0_pay17 (I.aseg s) (I.xblk i)
/-- The rows of a window, counted from the segment's first. -/
def p18 (s : ℕ) : IVec S40x512 32 := k0_pay18 (Scalar.subi (I.st s) (Scalar.minsi (Scalar.shli (Scalar.shrsi (I.st s) 3#32) 3#32) 960#32))
/-- The tokens of tile `i` that segment `s` holds. -/
def p19 (i s : ℕ) : IVec S40x512 1 := k0_pay19 (F := F) (BitVec.ofNat 32 (512 * i)) (I.of s) (I.of (s + 1))
/-- The mask of segment `s` in tile `i`. -/
def Mk (i s : ℕ) : IVec S40x512 1 := k0_pay21 (F := F) (I.rk s) (I.p18 s) (I.p19 i s) k0_pay20
/-- The scale of slice `c` for segment `s`. -/
def sc (s c : ℕ) : Elt F .f32 := I.scal (ix2 (Fin.ofNat 23 (I.sgw s).toNat) (Fin.ofNat 3 c))
/-- The masked, scaled, rounded products of slice `c`. -/
def H (i s : ℕ) : ℕ → FVec F S40x512 .f32
  | 0 => k0_pay22 (I.rk s) (I.D i s) (I.p18 s) (I.p19 i s) k0_pay20 (I.sc s 0)
  | 1 => k0_pay33 (I.D i s) (I.Mk i s) (I.sc s 1)
  | _ => k0_pay46 (I.D i s) (I.Mk i s) (I.sc s 2)
/-- The scratch planes holding slice `c`. -/
def Tm (i s c : ℕ) : S4x40x128.Idx → Elt F .f32 := fun x => I.H i s c (ix2 (x 1) (Fin.ofNat 512 (128 * (x 0).val + (x 2).val)))
/-- The narrow buffer after `n` segments from segment `a`. -/
def lc (i a : ℕ) : ℕ → S3x32x512.Idx → Elt F .bf16
  | 0 => k0_pay100
  | n + 1 => fun x => FloatOps.truncf .bf16 bitsLt_bf16_f32 (FloatOps.addf (FloatOps.extf .f32 bitsLt_bf16_f32 (lc i a n x))
      (I.H i (a + n) (x 0).val (ix2 (Fin.ofNat 40 (I.sh (a + n) + (x 1).val)) (x 2))))
/-- The wide buffer after `n` segments from segment `a`. -/
def bg (i a : ℕ) : ℕ → S3x256x512.Idx → Elt F .f32
  | 0 => k0_pay99
  | n + 1 => fun x => if 40 * (a + n - min a 13) ≤ (x 1).val ∧ (x 1).val < 40 * (a + n - min a 13) + 40
      then I.H i (a + n) (x 0).val (ix2 (Fin.ofNat 40 ((x 1).val - 40 * (a + n - min a 13))) (x 2)) else bg i a n x
/-- The scratch planes before slice `c`. -/
def TmP (Z : S4x40x128.Idx → Elt F .f32) (i s : ℕ) : ℕ → S4x40x128.Idx → Elt F .f32
  | 0 => Z
  | c + 1 => I.Tm i s c
end In

abbrev keyL (x : S3x32x512.Idx) : ℕ := 4 * (x 0).val + (x 2).val / 128
abbrev keyT (x : S4x40x128.Idx) : ℕ := (x 0).val
abbrev keyB (w : ℕ) (x : S3x256x512.Idx) : ℕ := if w ≤ (x 1).val ∧ (x 1).val < w + 40 then (x 0).val else 3

theorem setL (c q : ℕ) (hq : q < 4) {inb} : ∀ i, i ∈ (Rect.unit (s := S3x32x512) ![c, 0, 128 * q] S1x32x128.size inb).set ↔ keyL i = 4 * c + q := by
  intro i
  rw [mem3 rfl rfl]
  have h1 : (i 1).val < 32 := (i 1).isLt
  have h2 : (i 2).val < 512 := (i 2).isLt
  show _ ↔ 4 * (i 0).val + (i 2).val / 128 = 4 * c + q
  omega
theorem setT (q : ℕ) {inb} : ∀ i, i ∈ (Rect.unit (s := S4x40x128) ![q, 0, 0] S1x40x128.size inb).set ↔ keyT i = q := by
  intro i
  rw [mem3 rfl rfl]
  have h1 : (i 1).val < 40 := (i 1).isLt
  have h2 : (i 2).val < 128 := (i 2).isLt
  show _ ↔ (i 0).val = q
  omega
theorem setB (w c : ℕ) (hc : c < 3) {off : Fin 3 → ℕ} {inb} (ho : off = ![c, w, 0]) :
    ∀ i, i ∈ (Rect.unit (s := S3x256x512) off S1x40x512.size inb).set ↔ keyB w i = c := by
  intro i
  rw [mem3 ho rfl]
  have h0 : (i 0).val < 3 := (i 0).isLt
  have h2 : (i 2).val < 512 := (i 2).isLt
  unfold keyB
  split <;> omega

theorem off100_nat : ∀ n : Fin 969, k0_off100 (BitVec.ofNat 32 n.val) (BitVec.ofNat 32 n.val) = ![0, n.val - min (n.val / 8 * 8) 960, 0]
    ∧ k0_off101 (BitVec.ofNat 32 n.val) (BitVec.ofNat 32 n.val) = ![1, n.val - min (n.val / 8 * 8) 960, 0]
    ∧ k0_off102 (BitVec.ofNat 32 n.val) (BitVec.ofNat 32 n.val) = ![2, n.val - min (n.val / 8 * 8) 960, 0]
    ∧ k0_off103 (BitVec.ofNat 32 n.val) (BitVec.ofNat 32 n.val) = ![3, n.val - min (n.val / 8 * 8) 960, 0] := by decide +kernel

section pieces
variable (I : In F)
theorem sh_offs (s : ℕ) (h : (I.st s).toNat ≤ 968) : (k0_off100 (I.st s) (I.st s) = ![0, I.sh s, 0] ∧ k0_off101 (I.st s) (I.st s) = ![1, I.sh s, 0])
    ∧ k0_off102 (I.st s) (I.st s) = ![2, I.sh s, 0] ∧ k0_off103 (I.st s) (I.st s) = ![3, I.sh s, 0] := by
  obtain ⟨h0, h1, h2, h3⟩ := off100_nat ⟨(I.st s).toNat, by omega⟩
  simp only [BitVec.ofNat_toNat, BitVec.setWidth_eq] at h0 h1 h2 h3
  exact ⟨⟨h0, h1⟩, h2, h3⟩

theorem tmp_piece (i s c q : ℕ) (hq : q < 4) {inb} (h : S40x512.Slices ![0, 128 * q] S40x128) (x : S1x40x128.Idx) :
    I.Tm i s c ((Rect.unit (s := S4x40x128) ![q, 0, 0] S1x40x128.size inb).emb x)
      = shapeCast S1x40x128 (extractStridedSlice S40x128 ![0, 128 * q] (I.H i s c) h) shapeCasts_S40x128_S1x40x128 x := by
  refine Eq.trans ?_ (cast2_3 (a := 40) (b := 128) _ _ x).symm
  have h0 : (x 0).val < 1 := (x 0).isLt
  have h1 : (x 1).val < 40 := (x 1).isLt
  have h2 : (x 2).val < 128 := (x 2).isLt
  have e0 : ((Rect.unit (s := S4x40x128) ![q, 0, 0] S1x40x128.size inb).emb x 0).val = q := (emb_val 0).trans (by show q + (x 0).val = q; omega)
  have e1 : ((Rect.unit (s := S4x40x128) ![q, 0, 0] S1x40x128.size inb).emb x 1).val = (x 1).val := (emb_val 1).trans (by show 0 + (x 1).val = _; omega)
  have e2 : ((Rect.unit (s := S4x40x128) ![q, 0, 0] S1x40x128.size inb).emb x 2).val = (x 2).val := (emb_val 2).trans (by show 0 + (x 2).val = _; omega)
  unfold In.Tm extractStridedSlice
  refine congrArg (I.H i s c) (ext2 ?_ ?_)
  · refine e1.trans ?_
    show _ = 0 + (x 1).val
    omega
  · show (128 * _ + _) % 512 = 128 * q + (x 2).val
    rw [e0, e2]; omega

theorem lo_piece (i a n c q : ℕ) (hc : c < 3) (hq : q < 4) {inb} {off : Fin 3 → ℕ} {inb2} (ho : off = ![q, I.sh (a + n), 0]) (hsh : I.sh (a + n) ≤ 8)
    {k : ℕ} (hk : k = 4 * c + q) {A : S4x40x128.Idx → Elt F .f32} (x : S1x32x128.Idx) :
    I.lc i a (n + 1) ((Rect.unit (s := S3x32x512) ![c, 0, 128 * q] S1x32x128.size inb).emb x)
      = k0_pay25 (fun y => mix keyL k (I.lc i a n) (I.lc i a (n + 1)) ((Rect.unit (s := S3x32x512) ![c, 0, 128 * q] S1x32x128.size inb).toLoadRect.idx y))
          (fun y => mix keyT (q + 1) A (I.Tm i (a + n) c) ((Rect.unit (s := S4x40x128) off S1x32x128.size inb2).toLoadRect.idx y)) x := by
  subst ho hk
  show _ = shapeCast S1x32x128 (truncf .bf16 (addf (extf .f32 (shapeCast S32x128 _ shapeCasts_S1x32x128_S32x128) bitsLt_bf16_f32)
    (shapeCast S32x128 _ shapeCasts_S1x32x128_S32x128)) bitsLt_bf16_f32) shapeCasts_S32x128_S1x32x128 x
  refine Eq.trans ?_ (cast2_3 (a := 32) (b := 128) _ _ x).symm
  have h0 : (x 0).val < 1 := (x 0).isLt
  have h1 : (x 1).val < 32 := (x 1).isLt
  have h2 : (x 2).val < 128 := (x 2).isLt
  have e0 : ((Rect.unit (s := S3x32x512) ![c, 0, 128 * q] S1x32x128.size inb).emb x 0).val = c := (emb_val 0).trans (by show c + (x 0).val = c; omega)
  have e1 : ((Rect.unit (s := S3x32x512) ![c, 0, 128 * q] S1x32x128.size inb).emb x 1).val = (x 1).val := (emb_val 1).trans (by show 0 + (x 1).val = _; omega)
  have e2 : ((Rect.unit (s := S3x32x512) ![c, 0, 128 * q] S1x32x128.size inb).emb x 2).val = 128 * q + (x 2).val := emb_val 2
  refine congrArg (FloatOps.truncf .bf16 bitsLt_bf16_f32) (congrArg₂ FloatOps.addf (congrArg (FloatOps.extf .f32 bitsLt_bf16_f32) ?_) ?_)
  · refine Eq.trans ?_ (cast3_2 (a := 32) (b := 128) _ _ _).symm
    unfold mix
    rw [if_neg (by
      show ¬ 4 * (c + 1 * 0) + (128 * q + 1 * (x 2).val) / 128 < 4 * c + q
      omega)]
    refine congrArg _ (ext3 ?_ ?_ ?_)
    · refine e0.trans ?_
      show c = c + 1 * 0
      omega
    · refine e1.trans ?_
      show _ = 0 + 1 * (x 1).val
      omega
    · refine e2.trans ?_
      show _ = 128 * q + 1 * (x 2).val
      omega
  · refine Eq.trans ?_ (cast3_2 (a := 32) (b := 128) _ _ _).symm
    unfold mix
    rw [if_pos (by
      show q + 1 * 0 < q + 1
      omega)]
    unfold In.Tm
    rw [e0]
    refine congrArg _ (ext2 ?_ ?_)
    · show (_ + _) % 40 = I.sh (a + n) + 1 * (x 1).val
      rw [e1]; omega
    · refine e2.trans ?_
      show _ = (128 * (q + 1 * 0) + (0 + 1 * (x 2).val)) % 512
      omega

theorem bg_in (i a n : ℕ) (x : S3x256x512.Idx) (h : 40 * (a + n - min a 13) ≤ (x 1).val ∧ (x 1).val < 40 * (a + n - min a 13) + 40) :
    I.bg i a (n + 1) x = I.H i (a + n) (x 0).val (ix2 (Fin.ofNat 40 ((x 1).val - 40 * (a + n - min a 13))) (x 2)) := if_pos h
theorem bg_out (i a n : ℕ) (x : S3x256x512.Idx) (h : ¬ (40 * (a + n - min a 13) ≤ (x 1).val ∧ (x 1).val < 40 * (a + n - min a 13) + 40)) :
    I.bg i a (n + 1) x = I.bg i a n x := if_neg h

theorem big_piece (i a n c : ℕ) (hw : 40 * (a + n - min a 13) + 40 ≤ 256) {off : Fin 3 → ℕ} {inb} (ho : off = ![c, 40 * (a + n - min a 13), 0]) (x : S1x40x512.Idx) :
    I.bg i a (n + 1) ((Rect.unit (s := S3x256x512) off S1x40x512.size inb).emb x)
      = shapeCast S1x40x512 (I.H i (a + n) c) shapeCasts_S40x512_S1x40x512 x := by
  subst ho
  refine Eq.trans ?_ (cast2_3 (a := 40) (b := 512) _ _ x).symm
  have h0 : (x 0).val < 1 := (x 0).isLt
  have h1 : (x 1).val < 40 := (x 1).isLt
  have e0 : ((Rect.unit (s := S3x256x512) ![c, 40 * (a + n - min a 13), 0] S1x40x512.size inb).emb x 0).val = c := (emb_val 0).trans (by show c + (x 0).val = c; omega)
  have e1 : ((Rect.unit (s := S3x256x512) ![c, 40 * (a + n - min a 13), 0] S1x40x512.size inb).emb x 1).val = 40 * (a + n - min a 13) + (x 1).val := emb_val 1
  have e2 : ((Rect.unit (s := S3x256x512) ![c, 40 * (a + n - min a 13), 0] S1x40x512.size inb).emb x 2).val = (x 2).val := (emb_val 2).trans (by show 0 + (x 2).val = _; omega)
  refine (bg_in I i a n _ (by rw [e1]; omega)).trans ?_
  rw [e0]
  refine congrArg _ (ext2 ?_ ?_)
  · show (_ - _) % 40 = (x 1).val
    rw [e1]; omega
  · exact e2
end pieces

variable (c : Dev nD) (E : Env) (I : In F)

/-- The narrow buffer, `k` of its twelve pieces brought from segment `n` to the next. -/
abbrev loS (i a n k : ℕ) : sProp 𝕄 := At (c : Thread nD τ) E.arg21.view fullShare Finset.univ (mix keyL k (I.lc i a n) (I.lc i a (n + 1)))
/-- The scratch planes, `k` of them holding slice `q`. -/
abbrev tmS (Z : S4x40x128.Idx → Elt F .f32) (i s q k : ℕ) : sProp 𝕄 :=
  At (c : Thread nD τ) E.arg20.view fullShare Finset.univ (mix keyT k (I.TmP Z i s q) (I.Tm i s q))
/-- The wide buffer, `k` of its three windows written. -/
abbrev bgS (i a n k : ℕ) : sProp 𝕄 := At (c : Thread nD τ) E.arg18.view fullShare Finset.univ (mix (keyB (40 * (a + n - min a 13))) k (I.bg i a n) (I.bg i a (n + 1)))
abbrev scS : sProp 𝕄 := At (c : Thread nD τ) E.arg4.view fullShare Finset.univ I.scal

theorem tm_next (Z : S4x40x128.Idx → Elt F .f32) (i s q : ℕ) : tmS c E I Z i s q 4 = tmS c E I Z i s (q + 1) 0 :=
  congrArg (At (c : Thread nD τ) E.arg20.view fullShare Finset.univ) ((mix_all fun x => Or.inl (x 0).isLt).trans mix_zero.symm)
theorem lo_done (i a n : ℕ) : loS c E I i a n 12 = loS c E I i a (n + 1) 0 :=
  congrArg (At (c : Thread nD τ) E.arg21.view fullShare Finset.univ) ((mix_all fun x => Or.inl (by
    have h0 : (x 0).val < 3 := (x 0).isLt
    have h2 : (x 2).val < 512 := (x 2).isLt
    show 4 * (x 0).val + (x 2).val / 128 < 12
    omega)).trans mix_zero.symm)
theorem bg_done (i a n : ℕ) : bgS c E I i a n 3 = bgS c E I i a (n + 1) 0 :=
  congrArg (At (c : Thread nD τ) E.arg18.view fullShare Finset.univ) ((mix_all fun x => by
    have h0 : (x 0).val < 3 := (x 0).isLt
    by_cases h : 40 * (a + n - min a 13) ≤ (x 1).val ∧ (x 1).val < 40 * (a + n - min a 13) + 40
    · left; unfold keyB; rw [if_pos h]; exact h0
    · right; exact (if_neg h).symm).trans mix_zero.symm)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)
include G hs

omit G hs in
theorem emb11 {off : Fin 2 → ℕ} {inb} {i : S23x3.Idx} (h0 : off 0 = (i 0).val) (h1 : off 1 = (i 1).val) (x) :
    (Rect.unit (s := S23x3) off S1x1.size inb).emb x = i := by
  refine ext2 ?_ ?_
  · refine (emb_val 0).trans ?_
    have h : (x 0).val < 1 := (x 0).isLt
    omega
  · refine (emb_val 1).trans ?_
    have h : (x 1).val < 1 := (x 1).isLt
    omega

omit G hs in
theorem a_load : (fun y => I.aC (a.val + t.val) ((Rect.unit (s := S8x120x2048) (k0_off94 (BitVec.ofNat 32 a.val) (BitVec.ofNat 32 (a.val + d.val + 1)) t) S1x120x2048.size (k0_off94_inb (BitVec.ofNat 32 a.val) (BitVec.ofNat 32 (a.val + d.val + 1)) hw t)).toLoadRect.idx y)) = I.aseg (a.val + t.val) := by
  funext y
  have h1 : k0_off94 (BitVec.ofNat 32 a.val) (BitVec.ofNat 32 (a.val + d.val + 1)) t 1 = 0 := by rw [of94]; rfl
  have h2 : k0_off94 (BitVec.ofNat 32 a.val) (BitVec.ofNat 32 (a.val + d.val + 1)) t 2 = 0 := by rw [of94]; rfl
  have e1 : (k0_off94 (BitVec.ofNat 32 a.val) (BitVec.ofNat 32 (a.val + d.val + 1)) t 1 + 1 * (y 1).val) = (y 1).val := by omega
  refine congrArg I.A (ext3 ?_ ?_ ?_)
  · show ((k0_off94 (BitVec.ofNat 32 a.val) (BitVec.ofNat 32 (a.val + d.val + 1)) t 1 + 1 * (y 1).val) / 40) % 3 = ((y 1).val / 40) % 3
    rw [e1]
  · show (base _ + (k0_off94 (BitVec.ofNat 32 a.val) (BitVec.ofNat 32 (a.val + d.val + 1)) t 1 + 1 * (y 1).val) % 40) % 1000 = (base _ + (y 1).val % 40) % 1000
    rw [e1]
  · show (k0_off94 (BitVec.ofNat 32 a.val) (BitVec.ofNat 32 (a.val + d.val + 1)) t) 2 + 1 * (y 2).val = (y 2).val
    omega

omit G hs in
theorem of95 (i : Fin k0_t4_loop.trips) : k0_off95 i = ![i.val % 2, 0, 0] := by revert i; decide +kernel
omit G hs in
theorem x_load5 (i : Fin k0_t4_loop.trips) :
    (fun y => I.xC i.val ((Rect.unit (s := S2x512x2048) (k0_off95 i) S1x512x2048.size (k0_off95_inb i)).toLoadRect.idx y)) = I.xblk i.val := by
  funext y
  refine congrArg I.X (ext2 ?_ ?_)
  · show (512 * i.val + ((k0_off95 i) 1 + 1 * (y 1).val)) % 12288 = (512 * i.val + (y 1).val) % 12288
    have h : k0_off95 i 1 = 0 := by rw [of95]; rfl
    omega
  · show (k0_off95 i) 2 + 1 * (y 2).val = (y 2).val
    have h : k0_off95 i 2 = 0 := by rw [of95]; rfl
    omega

omit G in
/-- Part 12: the products, and the bounds of the segment. -/
theorem part12_spec (i : Fin k0_t4_loop.trips) (a30 a32 c8 : BitVec 32) (b : BitVec 1) :
    iprop(At (c : Thread nD τ) E.arg16.view fullShare (arow ((a.val + t.val) % 8) 0 120) (I.aC (a.val + t.val)) ∗ At (c : Thread nD τ) E.arg13.view fullShare (plane (i.val % 2)) (I.xC i.val)
      ∗ At (c : Thread nD τ) E.arg0.view fullShare Finset.univ I.off)
      ⊢ wp frame (wpE (defs₀ (F := F)) 𝒱 (c : Thread nD τ) bd) Set.univ
          (k0_part12 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw t a32 (Scalar.subi (I.st (a.val + t.val)) (Scalar.minsi (Scalar.shli (Scalar.shrsi (I.st (a.val + t.val)) 3#32) 3#32) 960#32)) c8 b)
          (fun r => iprop(⌜r = ⟨I.D i.val (a.val + t.val), I.p18 (a.val + t.val), I.p19 i.val (a.val + t.val), k0_pay20⟩⌝ ∗
    iprop(At (c : Thread nD τ) E.arg16.view fullShare (arow ((a.val + t.val) % 8) 0 120) (I.aC (a.val + t.val)) ∗ At (c : Thread nD τ) E.arg13.view fullShare (plane (i.val % 2)) (I.xC i.val)
      ∗ At (c : Thread nD τ) E.arg0.view fullShare Finset.univ I.off))) := by
  have hsub1 : (Rect.unit (s := S8x120x2048) (k0_off94 (BitVec.ofNat 32 a.val) (BitVec.ofNat 32 (a.val + d.val + 1)) t) S1x120x2048.size (k0_off94_inb (BitVec.ofNat 32 a.val) (BitVec.ofNat 32 (a.val + d.val + 1)) hw t)).toLoadRect.set ⊆ arow ((a.val + t.val) % 8) 0 120 := by
    intro z hz
    have h := (mem3 (of94 a d t) rfl).mp hz
    rw [mem_arow]; omega
  have hsub2 : (Rect.unit (s := S2x512x2048) (k0_off95 i) S1x512x2048.size (k0_off95_inb i)).toLoadRect.set ⊆ plane (i.val % 2) := by
    intro z hz
    have h := (mem3 (of95 i) rfl).mp hz
    rw [mem_plane]; omega
  rw [k0_part12_eq_skeleton]
  unfold k0_part12_skel In.D
  rw [← a_load I a d hw t, ← x_load5 I i]
  iintro ⟨HA, HX, HO⟩
  iapply (wp_ld (c : Thread nD τ) 𝒱 bd (X := I.aC (a.val + t.val)) hsub1) $$ HA
  iintro HA
  iapply (wp_ld (c : Thread nD τ) 𝒱 bd (X := I.xC i.val) hsub2) $$ HX
  iintro HX
  iapply (wp_word (c : Thread nD τ) 𝒱 bd (X := I.off) (ix1 (Fin.ofNat 20 (a.val + t.val))) (emb1 _ (by rw [of96]; simp; omega))) $$ HO
  iintro HO
  iapply (wp_word (c : Thread nD τ) 𝒱 bd (X := I.off) (ix1 (Fin.ofNat 20 ((a.val + t.val) + 1))) (emb1 _ (by rw [of97]; simp; omega))) $$ HO
  iintro HO
  iapply (wp_done (c : Thread nD τ) 𝒱 bd)
  isplitr [HA HX HO]
  · ipureintro; rfl
  isplitl [HA]; · iexact HA
  isplitl [HX] <;> iassumption

/-- Part 13: the first slice, its first piece. -/
theorem part13_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 0 0 ∗ loS c E I i a.val t.val 0 ∗ bgS c E I i a.val t.val 0 ∗ scS c E I)
      ⊢ wp frame (wpE (defs₀ (F := F)) 𝒱 (c : Thread nD τ) bd) Set.univ
          (k0_part13 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.rk (a.val + t.val)) (I.D i (a.val + t.val)) (I.p18 (a.val + t.val)) (I.p19 i (a.val + t.val)) k0_pay20)
          (fun r => iprop(⌜r = ⟨(I.Mk i (a.val + t.val)), I.H i (a.val + t.val) 0, k0_pay26 (I.rk (a.val + t.val)) (I.D i (a.val + t.val)) (I.p18 (a.val + t.val)) (I.p19 i (a.val + t.val)) k0_pay20 (I.sc (a.val + t.val) 0), (fun y => mix keyT 1 (I.TmP Z i (a.val + t.val) 0) (I.Tm i (a.val + t.val) 0) ((Rect.unit (s := S4x40x128) ![1, 0, 0] S1x40x128.size inb_S4x40x128_S1x40x128_1_0_0).toLoadRect.idx y))⟩⌝ ∗ iprop(tmS c E I Z i (a.val + t.val) 0 1 ∗ loS c E I i a.val t.val 1 ∗ bgS c E I i a.val t.val 1 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part13_eq_skeleton]
  unfold k0_part13_skel
  iintro ⟨HT, HL, HG, HS⟩
  iapply (wp_word (c : Thread nD τ) 𝒱 bd (X := I.scal) (ix2 (Fin.ofNat 23 (I.sgw (a.val + t.val)).toNat) (Fin.ofNat 3 0)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 0 (I.bg i a.val t.val) (I.bg i a.val (t.val + 1))) (Finset.subset_univ _)) $$ HG
  iintro HG
  iapply (wp_mix (c : Thread nD τ) 𝒱 bd (key := keyB (40 * (a.val + t.val - min a.val 13))) (n := 0) (B := I.bg i a.val (t.val + 1)) (setB _ 0 (by decide) (of99 a d t)) (big_piece I i a.val t.val 0 hwin (of99 a d t))) $$ HG
  iintro HG
  iapply (wp_ld (c : Thread nD τ) 𝒱 bd (X := mix keyT 0 (I.TmP Z i (a.val + t.val) 0) (I.Tm i (a.val + t.val) 0)) (Finset.subset_univ _)) $$ HT
  iintro HT
  iapply (wp_mix (c : Thread nD τ) 𝒱 bd (key := keyT) (n := 0) (B := I.Tm i (a.val + t.val) 0) (setT 0) (tmp_piece I i (a.val + t.val) 0 0 (by decide) slices_S40x512_o0_0_S40x128)) $$ HT
  iintro HT
  iapply (wp_ld (c : Thread nD τ) 𝒱 bd (X := mix keyL 0 (I.lc i a.val t.val) (I.lc i a.val (t.val + 1))) (Finset.subset_univ _)) $$ HL
  iintro HL
  iapply (wp_ld (c : Thread nD τ) 𝒱 bd (X := mix keyT 1 (I.TmP Z i (a.val + t.val) 0) (I.Tm i (a.val + t.val) 0)) (Finset.subset_univ _)) $$ HT
  iintro HT
  iapply (wp_ld (c : Thread nD τ) 𝒱 bd (X := mix keyL 0 (I.lc i a.val t.val) (I.lc i a.val (t.val + 1))) (Finset.subset_univ _)) $$ HL
  iintro HL
  iapply (wp_mix (c : Thread nD τ) 𝒱 bd (key := keyL) (n := 0) (B := I.lc i a.val (t.val + 1)) (setL 0 0 (by decide)) (lo_piece I i a.val t.val 0 0 (by decide) (by decide) (sh_offs I _ hv).1.1 hsh rfl)) $$ HL
  iintro HL
  iapply (wp_ld (c : Thread nD τ) 𝒱 bd (X := mix keyT 1 (I.TmP Z i (a.val + t.val) 0) (I.Tm i (a.val + t.val) 0)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 14: the first slice, its middle pieces. -/
theorem part14_spec (Z : S4x40x128.Idx → Elt F .f32) (i : ℕ) (v345 : BitVec 32) (v429 : Vec F S1x40x128 .f32) (hw22 : k0_chk22 (I.st (a.val + t.val)) (I.st (a.val + t.val))) :
    iprop(tmS c E I Z i (a.val + t.val) 0 1 ∗ loS c E I i a.val t.val 1)
      ⊢ wp frame (wpE (defs₀ (F := F)) 𝒱 (c : Thread nD τ) bd) Set.univ
          (k0_part14 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 0) (k0_pay26 (I.rk (a.val + t.val)) (I.D i (a.val + t.val)) (I.p18 (a.val + t.val)) (I.p19 i (a.val + t.val)) k0_pay20 (I.sc (a.val + t.val) 0)) v429)
          (fun r => iprop(⌜r = ⟨⟩⌝ ∗ iprop(tmS c E I Z i (a.val + t.val) 0 4 ∗ loS c E I i a.val t.val 3))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part14_eq_skeleton]
  unfold k0_part14_skel
  iintro ⟨HT, HL⟩
  iapply (wp_mix (c : Thread nD τ) 𝒱 bd (key := keyT) (n := 1) (B := I.Tm i (a.val + t.val) 0) (setT 1) (tmp_piece I i (a.val + t.val) 0 1 (by decide) slices_S40x512_o0_128_S40x128)) $$ HT
  iintro HT
  iapply (wp_ld (c : Thread nD τ) 𝒱 bd (X := mix keyL 1 (I.lc i a.val t.val) (I.lc i a.val (t.val + 1))) (Finset.subset_univ _)) $$ HL
  iintro HL
  iapply (wp_ld (c : Thread nD τ) 𝒱 bd (X := mix keyT 2 (I.TmP Z i (a.val + t.val) 0) (I.Tm i (a.val + t.val) 0)) (Finset.subset_univ _)) $$ HT
  iintro HT
  iapply (wp_ld (c : Thread nD τ) 𝒱 bd (X := mix keyL 1 (I.lc i a.val t.val) (I.lc i a.val (t.val + 1))) (Finset.subset_univ _)) $$ HL
  iintro HL
  iapply (wp_mix (c : Thread nD τ) 𝒱 bd (key := keyL) (n := 1) (B := I.lc i a.val (t.val + 1)) (setL 0 1 (by decide)) (lo_piece I i a.val t.val 0 1 (by decide) (by decide) (sh_offs I _ hv).1.2 hsh rfl)) $$ HL
  iintro HL
  iapply (wp_ld (c : Thread nD τ) 𝒱 bd (X := mix keyT 2 (I.TmP Z i (a.val + t.val) 0) (I.Tm i (a.val + t.val) 0)) (Finset.subset_univ _)) $$ HT
  iintro HT
  iapply (wp_mix (c : Thread nD τ) 𝒱 bd (key := keyT) (n := 2) (B := I.Tm i (a.val + t.val) 0) (setT 2) (tmp_piece I i (a.val + t.val) 0 2 (by decide) slices_S40x512_o0_256_S40x128)) $$ HT
  iintro HT
  iapply (wp_ld (c : Thread nD τ) 𝒱 bd (X := mix keyL 2 (I.lc i a.val t.val) (I.lc i a.val (t.val + 1))) (Finset.subset_univ _)) $$ HL
  iintro HL
  iapply (wp_ld (c : Thread nD τ) 𝒱 bd (X := mix keyT 3 (I.TmP Z i (a.val + t.val) 0) (I.Tm i (a.val + t.val) 0)) (Finset.subset_univ _)) $$ HT
  iintro HT
  iapply (wp_ld (c : Thread nD τ) 𝒱 bd (X := mix keyL 2 (I.lc i a.val t.val) (I.lc i a.val (t.val + 1))) (Finset.subset_univ _)) $$ HL
  iintro HL
  iapply (wp_mix (c : Thread nD τ) 𝒱 bd (key := keyL) (n := 2) (B := I.lc i a.val (t.val + 1)) (setL 0 2 (by decide)) (lo_piece I i a.val t.val 0 2 (by decide) (by decide) (sh_offs I _ hv).2.1 hsh rfl)) $$ HL
  iintro HL
  iapply (wp_ld (c : Thread nD τ) 𝒱 bd (X := mix keyT 3 (I.TmP Z i (a.val + t.val) 0) (I.Tm i (a.val + t.val) 0)) (Finset.subset_univ _)) $$ HT
  iintro HT
  iapply (wp_mix (c : Thread nD τ) 𝒱 bd (key := keyT) (n := 3) (B := I.Tm i (a.val + t.val) 0) (setT 3) (tmp_piece I i (a.val + t.val) 0 3 (by decide) slices_S40x512_o0_384_S40x128)) $$ HT
  iintro HT
  iapply (wp_done (c : Thread nD τ) 𝒱 bd)
  isplitr [HT HL]
  · ipureintro; rfl
  isplitl [HT] <;> iassumption

/-- Part 15: the first slice's last piece, and the second slice begun. -/
theorem part15_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 0 4 ∗ loS c E I i a.val t.val 3 ∗ bgS c E I i a.val t.val 1 ∗ scS c E I)
      ⊢ wp frame (wpE (defs₀ (F := F)) 𝒱 (c : Thread nD τ) bd) Set.univ
          (k0_part15 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.D i (a.val + t.val)) (I.Mk i (a.val + t.val)))
          (fun r => iprop(⌜r = ⟨I.H i (a.val + t.val) 1, k0_pay36 (fun y => mix keyL 4 (I.lc i a.val t.val) (I.lc i a.val (t.val + 1)) ((Rect.unit (s := S3x32x512) ![1, 0, 0] S1x32x128.size inb_S3x32x512_S1x32x128_1_0_0).toLoadRect.idx y)), k0_pay37 (fun y => mix keyT 1 (I.TmP Z i (a.val + t.val) 1) (I.Tm i (a.val + t.val) 1) ((Rect.unit (s := S4x40x128) (k0_off100 (I.st (a.val + t.val)) (I.st (a.val + t.val))) S1x32x128.size (k0_off100_inb (I.st (a.val + t.val)) (I.st (a.val + t.val)) hw22)).toLoadRect.idx y))⟩⌝ ∗ iprop(tmS c E I Z i (a.val + t.val) 1 1 ∗ loS c E I i a.val t.val 4 ∗ bgS c E I i a.val t.val 2 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part15_eq_skeleton]
  unfold k0_part15_skel
  iintro ⟨HT, HL, HG, HS⟩
  iapply (wp_ld (c : Thread nD τ) 𝒱 bd (X := mix keyL 3 (I.lc i a.val t.val) (I.lc i a.val (t.val + 1))) (Finset.subset_univ _)) $$ HL
  iintro HL
  iapply (wp_ld (c : Thread nD τ) 𝒱 bd (X := mix keyT 4 (I.TmP Z i (a.val + t.val) 0) (I.Tm i (a.val + t.val) 0)) (Finset.subset_univ _)) $$ HT
  iintro HT
  iapply (wp_ld (c : Thread nD τ) 𝒱 bd (X := mix keyL 3 (I.lc i a.val t.val) (I.lc i a.val (t.val + 1))) (Finset.subset_univ _)) $$ HL
  iintro HL
  iapply (wp_mix (c : Thread nD τ) 𝒱 bd (key := keyL) (n := 3) (B := I.lc i a.val (t.val + 1)) (setL 0 3 (by decide)) (lo_piece I i a.val t.val 0 3 (by decide) (by decide) (sh_offs I _ hv).2.2 hsh rfl)) $$ HL
  iintro HL
  iapply (wp_word (c : Thread nD τ) 𝒱 bd (X := I.scal) (ix2 (Fin.ofNat 23 (I.sgw (a.val + t.val)).toNat) (Fin.ofNat 3 1)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 1 (I.bg i a.val t.val) (I.bg i a.val (t.val + 1))) (Finset.subset_univ _)) $$ HG
  iintro HG
  iapply (wp_mix (c : Thread nD τ) 𝒱 bd (key := keyB (40 * (a.val + t.val - min a.val 13))) (n := 1) (B := I.bg i a.val (t.val + 1)) (setB _ 1 (by decide) (of105 a d t)) (big_piece I i a.val t.val 1 hwin (of105 a d t))) $$ HG
  iintro HG
  iapply (wp_ld (c : Thread nD τ) 𝒱 bd (X := mix keyT 4 (I.TmP Z i (a.val + t.val) 0) (I.Tm i (a.val + t.val) 0)) (Finset.subset_univ _)) $$ HT
  iintro HT
  ihave HT := (ent_of_eq (tm_next c E I Z i (a.val + t.val) 0)) $$ HT
  iapply (wp_mix (c : Thread nD τ) 𝒱 bd (key := keyT) (n := 0) (B := I.Tm i (a.val + t.val) 1) (setT 0) (tmp_piece I i (a.val + t.val) 1 0 (by decide) slices_S40x512_o0_0_S40x128)) $$ HT
  iintro HT
  iapply (wp_ld (c : Thread nD τ) 𝒱 bd (X := mix keyL 4 (I.lc i a.val t.val) (I.lc i a.val (t.val + 1))) (Finset.subset_univ _)) $$ HL
  iintro HL
  iapply (wp_ld (c : Thread nD τ) 𝒱 bd (X := mix keyT 1 (I.TmP Z i (a.val + t.val) 1) (I.Tm i (a.val + t.val) 1)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 16: the second slice. -/
theorem part16_spec (Z : S4x40x128.Idx → Elt F .f32) (i : ℕ) (v345 : BitVec 32) (hw22 : k0_chk22 (I.st (a.val + t.val)) (I.st (a.val + t.val))) :
    iprop(tmS c E I Z i (a.val + t.val) 1 1 ∗ loS c E I i a.val t.val 4)
      ⊢ wp frame (wpE (defs₀ (F := F)) 𝒱 (c : Thread nD τ) bd) Set.univ
          (k0_part16 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 1) (k0_pay36 (fun y => mix keyL 4 (I.lc i a.val t.val) (I.lc i a.val (t.val + 1)) ((Rect.unit (s := S3x32x512) ![1, 0, 0] S1x32x128.size inb_S3x32x512_S1x32x128_1_0_0).toLoadRect.idx y))) (k0_pay37 (fun y => mix keyT 1 (I.TmP Z i (a.val + t.val) 1) (I.Tm i (a.val + t.val) 1) ((Rect.unit (s := S4x40x128) (k0_off100 (I.st (a.val + t.val)) (I.st (a.val + t.val))) S1x32x128.size (k0_off100_inb (I.st (a.val + t.val)) (I.st (a.val + t.val)) hw22)).toLoadRect.idx y))))
          (fun r => iprop(⌜r = k0_pay42 (fun y => mix keyL 6 (I.lc i a.val t.val) (I.lc i a.val (t.val + 1)) ((Rect.unit (s := S3x32x512) ![1, 0, 256] S1x32x128.size inb_S3x32x512_S1x32x128_1_0_256).toLoadRect.idx y)) (fun y => mix keyT 3 (I.TmP Z i (a.val + t.val) 1) (I.Tm i (a.val + t.val) 1) ((Rect.unit (s := S4x40x128) (k0_off102 (I.st (a.val + t.val)) (I.st (a.val + t.val))) S1x32x128.size (k0_off102_inb (I.st (a.val + t.val)) (I.st (a.val + t.val)) hw22)).toLoadRect.idx y))⌝ ∗ iprop(tmS c E I Z i (a.val + t.val) 1 3 ∗ loS c E I i a.val t.val 6))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part16_eq_skeleton]
  unfold k0_part16_skel
  iintro ⟨HT, HL⟩
  iapply (wp_ld (c : Thread nD τ) 𝒱 bd (X := mix keyL 4 (I.lc i a.val t.val) (I.lc i a.val (t.val + 1))) (Finset.subset_univ _)) $$ HL
  iintro HL
  iapply (wp_mix (c : Thread nD τ) 𝒱 bd (key := keyL) (n := 4) (B := I.lc i a.val (t.val + 1)) (setL 1 0 (by decide)) (lo_piece I i a.val t.val 1 0 (by decide) (by decide) (sh_offs I _ hv).1.1 hsh rfl)) $$ HL
  iintro HL
  iapply (wp_ld (c : Thread nD τ) 𝒱 bd (X := mix keyT 1 (I.TmP Z i (a.val + t.val) 1) (I.Tm i (a.val + t.val) 1)) (Finset.subset_univ _)) $$ HT
  iintro HT
  iapply (wp_mix (c : Thread nD τ) 𝒱 bd (key := keyT) (n := 1) (B := I.Tm i (a.val + t.val) 1) (setT 1) (tmp_piece I i (a.val + t.val) 1 1 (by decide) slices_S40x512_o0_128_S40x128)) $$ HT
  iintro HT
  iapply (wp_ld (c : Thread nD τ) 𝒱 bd (X := mix keyL 5 (I.lc i a.val t.val) (I.lc i a.val (t.val + 1))) (Finset.subset_univ _)) $$ HL
  iintro HL
  iapply (wp_ld (c : Thread nD τ) 𝒱 bd (X := mix keyT 2 (I.TmP Z i (a.val + t.val) 1) (I.Tm i (a.val + t.val) 1)) (Finset.subset_univ _)) $$ HT
  iintro HT
  iapply (wp_ld (c : Thread nD τ) 𝒱 bd (X := mix keyL 5 (I.lc i a.val t.val) (I.lc i a.val (t.val + 1))) (Finset.subset_univ _)) $$ HL
  iintro HL
  iapply (wp_mix (c : Thread nD τ) 𝒱 bd (key := keyL) (n := 5) (B := I.lc i a.val (t.val + 1)) (setL 1 1 (by decide)) (lo_piece I i a.val t.val 1 1 (by decide) (by decide) (sh_offs I _ hv).1.2 hsh rfl)) $$ HL
  iintro HL
  iapply (wp_ld (c : Thread nD τ) 𝒱 bd (X := mix keyT 2 (I.TmP Z i (a.val + t.val) 1) (I.Tm i (a.val + t.val) 1)) (Finset.subset_univ _)) $$ HT
  iintro HT
  iapply (wp_mix (c : Thread nD τ) 𝒱 bd (key := keyT) (n := 2) (B := I.Tm i (a.val + t.val) 1) (setT 2) (tmp_piece I i (a.val + t.val) 1 2 (by decide) slices_S40x512_o0_256_S40x128)) $$ HT
  iintro HT
  iapply (wp_ld (c : Thread nD τ) 𝒱 bd (X := mix keyL 6 (I.lc i a.val t.val) (I.lc i a.val (t.val + 1))) (Finset.subset_univ _)) $$ HL
  iintro HL
  iapply (wp_ld (c : Thread nD τ) 𝒱 bd (X := mix keyT 3 (I.TmP Z i (a.val + t.val) 1) (I.Tm i (a.val + t.val) 1)) (Finset.subset_univ _)) $$ HT
  iintro HT
  iapply (wp_done (c : Thread nD τ) 𝒱 bd)
  isplitr [HT HL]
  · ipureintro; rfl
  isplitl [HT] <;> iassumption

/-- Part 17: the second slice's last pieces, and the third slice's window. -/
theorem part17_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 1 3 ∗ loS c E I i a.val t.val 6 ∗ bgS c E I i a.val t.val 2 ∗ scS c E I)
      ⊢ wp frame (wpE (defs₀ (F := F)) 𝒱 (c : Thread nD τ) bd) Set.univ
          (k0_part17 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.D i (a.val + t.val)) (I.Mk i (a.val + t.val)) (I.H i (a.val + t.val) 1) (k0_pay42 (fun y => mix keyL 6 (I.lc i a.val t.val) (I.lc i a.val (t.val + 1)) ((Rect.unit (s := S3x32x512) ![1, 0, 256] S1x32x128.size inb_S3x32x512_S1x32x128_1_0_256).toLoadRect.idx y)) (fun y => mix keyT 3 (I.TmP Z i (a.val + t.val) 1) (I.Tm i (a.val + t.val) 1) ((Rect.unit (s := S4x40x128) (k0_off102 (I.st (a.val + t.val)) (I.st (a.val + t.val))) S1x32x128.size (k0_off102_inb (I.st (a.val + t.val)) (I.st (a.val + t.val)) hw22)).toLoadRect.idx y))))
          (fun r => iprop(⌜r = ⟨I.H i (a.val + t.val) 2, k0_pay48 (I.D i (a.val + t.val)) (I.Mk i (a.val + t.val)) (I.sc (a.val + t.val) 2), (fun y => mix keyT 4 (I.TmP Z i (a.val + t.val) 1) (I.Tm i (a.val + t.val) 1) ((Rect.unit (s := S4x40x128) ![0, 0, 0] S1x40x128.size inb_S4x40x128_S1x40x128_0_0_0).toLoadRect.idx y))⟩⌝ ∗ iprop(tmS c E I Z i (a.val + t.val) 1 4 ∗ loS c E I i a.val t.val 8 ∗ bgS c E I i a.val t.val 3 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part17_eq_skeleton]
  unfold k0_part17_skel
  iintro ⟨HT, HL, HG, HS⟩
  iapply (wp_ld (c : Thread nD τ) 𝒱 bd (X := mix keyL 6 (I.lc i a.val t.val) (I.lc i a.val (t.val + 1))) (Finset.subset_univ _)) $$ HL
  iintro HL
  iapply (wp_mix (c : Thread nD τ) 𝒱 bd (key := keyL) (n := 6) (B := I.lc i a.val (t.val + 1)) (setL 1 2 (by decide)) (lo_piece I i a.val t.val 1 2 (by decide) (by decide) (sh_offs I _ hv).2.1 hsh rfl)) $$ HL
  iintro HL
  iapply (wp_ld (c : Thread nD τ) 𝒱 bd (X := mix keyT 3 (I.TmP Z i (a.val + t.val) 1) (I.Tm i (a.val + t.val) 1)) (Finset.subset_univ _)) $$ HT
  iintro HT
  iapply (wp_mix (c : Thread nD τ) 𝒱 bd (key := keyT) (n := 3) (B := I.Tm i (a.val + t.val) 1) (setT 3) (tmp_piece I i (a.val + t.val) 1 3 (by decide) slices_S40x512_o0_384_S40x128)) $$ HT
  iintro HT
  iapply (wp_ld (c : Thread nD τ) 𝒱 bd (X := mix keyL 7 (I.lc i a.val t.val) (I.lc i a.val (t.val + 1))) (Finset.subset_univ _)) $$ HL
  iintro HL
  iapply (wp_ld (c : Thread nD τ) 𝒱 bd (X := mix keyT 4 (I.TmP Z i (a.val + t.val) 1) (I.Tm i (a.val + t.val) 1)) (Finset.subset_univ _)) $$ HT
  iintro HT
  iapply (wp_ld (c : Thread nD τ) 𝒱 bd (X := mix keyL 7 (I.lc i a.val t.val) (I.lc i a.val (t.val + 1))) (Finset.subset_univ _)) $$ HL
  iintro HL
  iapply (wp_mix (c : Thread nD τ) 𝒱 bd (key := keyL) (n := 7) (B := I.lc i a.val (t.val + 1)) (setL 1 3 (by decide)) (lo_piece I i a.val t.val 1 3 (by decide) (by decide) (sh_offs I _ hv).2.2 hsh rfl)) $$ HL
  iintro HL
  iapply (wp_word (c : Thread nD τ) 𝒱 bd (X := I.scal) (ix2 (Fin.ofNat 23 (I.sgw (a.val + t.val)).toNat) (Fin.ofNat 3 2)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 2 (I.bg i a.val t.val) (I.bg i a.val (t.val + 1))) (Finset.subset_univ _)) $$ HG
  iintro HG
  iapply (wp_mix (c : Thread nD τ) 𝒱 bd (key := keyB (40 * (a.val + t.val - min a.val 13))) (n := 2) (B := I.bg i a.val (t.val + 1)) (setB _ 2 (by decide) (of107 a d t)) (big_piece I i a.val t.val 2 hwin (of107 a d t))) $$ HG
  iintro HG
  iapply (wp_ld (c : Thread nD τ) 𝒱 bd (X := mix keyT 4 (I.TmP Z i (a.val + t.val) 1) (I.Tm i (a.val + t.val) 1)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 18: the third slice. -/
theorem part18_spec (Z : S4x40x128.Idx → Elt F .f32) (i : ℕ) (v345 : BitVec 32) (v566 : Vec F S1x40x128 .f32) (hw22 : k0_chk22 (I.st (a.val + t.val)) (I.st (a.val + t.val))) :
    iprop(tmS c E I Z i (a.val + t.val) 1 4 ∗ loS c E I i a.val t.val 8)
      ⊢ wp frame (wpE (defs₀ (F := F)) 𝒱 (c : Thread nD τ) bd) Set.univ
          (k0_part18 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 2) (k0_pay48 (I.D i (a.val + t.val)) (I.Mk i (a.val + t.val)) (I.sc (a.val + t.val) 2)) v566)
          (fun r => iprop(⌜r = ⟨⟩⌝ ∗ iprop(tmS c E I Z i (a.val + t.val) 2 3 ∗ loS c E I i a.val t.val 10))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part18_eq_skeleton]
  unfold k0_part18_skel
  iintro ⟨HT, HL⟩
  ihave HT := (ent_of_eq (tm_next c E I Z i (a.val + t.val) 1)) $$ HT
  iapply (wp_mix (c : Thread nD τ) 𝒱 bd (key := keyT) (n := 0) (B := I.Tm i (a.val + t.val) 2) (setT 0) (tmp_piece I i (a.val + t.val) 2 0 (by decide) slices_S40x512_o0_0_S40x128)) $$ HT
  iintro HT
  iapply (wp_ld (c : Thread nD τ) 𝒱 bd (X := mix keyL 8 (I.lc i a.val t.val) (I.lc i a.val (t.val + 1))) (Finset.subset_univ _)) $$ HL
  iintro HL
  iapply (wp_ld (c : Thread nD τ) 𝒱 bd (X := mix keyT 1 (I.TmP Z i (a.val + t.val) 2) (I.Tm i (a.val + t.val) 2)) (Finset.subset_univ _)) $$ HT
  iintro HT
  iapply (wp_ld (c : Thread nD τ) 𝒱 bd (X := mix keyL 8 (I.lc i a.val t.val) (I.lc i a.val (t.val + 1))) (Finset.subset_univ _)) $$ HL
  iintro HL
  iapply (wp_mix (c : Thread nD τ) 𝒱 bd (key := keyL) (n := 8) (B := I.lc i a.val (t.val + 1)) (setL 2 0 (by decide)) (lo_piece I i a.val t.val 2 0 (by decide) (by decide) (sh_offs I _ hv).1.1 hsh rfl)) $$ HL
  iintro HL
  iapply (wp_ld (c : Thread nD τ) 𝒱 bd (X := mix keyT 1 (I.TmP Z i (a.val + t.val) 2) (I.Tm i (a.val + t.val) 2)) (Finset.subset_univ _)) $$ HT
  iintro HT
  iapply (wp_mix (c : Thread nD τ) 𝒱 bd (key := keyT) (n := 1) (B := I.Tm i (a.val + t.val) 2) (setT 1) (tmp_piece I i (a.val + t.val) 2 1 (by decide) slices_S40x512_o0_128_S40x128)) $$ HT
  iintro HT
  iapply (wp_ld (c : Thread nD τ) 𝒱 bd (X := mix keyL 9 (I.lc i a.val t.val) (I.lc i a.val (t.val + 1))) (Finset.subset_univ _)) $$ HL
  iintro HL
  iapply (wp_ld (c : Thread nD τ) 𝒱 bd (X := mix keyT 2 (I.TmP Z i (a.val + t.val) 2) (I.Tm i (a.val + t.val) 2)) (Finset.subset_univ _)) $$ HT
  iintro HT
  iapply (wp_ld (c : Thread nD τ) 𝒱 bd (X := mix keyL 9 (I.lc i a.val t.val) (I.lc i a.val (t.val + 1))) (Finset.subset_univ _)) $$ HL
  iintro HL
  iapply (wp_mix (c : Thread nD τ) 𝒱 bd (key := keyL) (n := 9) (B := I.lc i a.val (t.val + 1)) (setL 2 1 (by decide)) (lo_piece I i a.val t.val 2 1 (by decide) (by decide) (sh_offs I _ hv).1.2 hsh rfl)) $$ HL
  iintro HL
  iapply (wp_ld (c : Thread nD τ) 𝒱 bd (X := mix keyT 2 (I.TmP Z i (a.val + t.val) 2) (I.Tm i (a.val + t.val) 2)) (Finset.subset_univ _)) $$ HT
  iintro HT
  iapply (wp_mix (c : Thread nD τ) 𝒱 bd (key := keyT) (n := 2) (B := I.Tm i (a.val + t.val) 2) (setT 2) (tmp_piece I i (a.val + t.val) 2 2 (by decide) slices_S40x512_o0_256_S40x128)) $$ HT
  iintro HT
  iapply (wp_done (c : Thread nD τ) 𝒱 bd)
  isplitr [HT HL]
  · ipureintro; rfl
  isplitl [HT] <;> iassumption

end Cert.Kernel.Hand

end
-- ==== Proof.Run.K.T5c.lean ====
/-
  A trip of the loop over the segments of a tile.
-/
module

public import proofs.«01_k».proof.Proof.Run.K.T5b
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (c : Dev nD) (E : Env) (I : In F)

/-- The cell of slot `p` of the windows, at rest. -/
abbrev aCell (p : ℕ) : sProp 𝕄 := semVal ((c : Thread nD τ), .dma (asem E p)) 0
/-- The down-projection, plane by plane. -/
abbrev aAll : sProp 𝕄 := iprop(At (c : Thread nD τ) E.arg8.view fullShare (plane 0) I.A ∗ At (c : Thread nD τ) E.arg8.view fullShare (plane 1) I.A
  ∗ At (c : Thread nD τ) E.arg8.view fullShare (plane 2) I.A)

/-- Tile `i`, after `n` segments from segment `a`. -/
def T5inv (i a n : ℕ) : sProp 𝕄 :=
  iprop(Tb c E I ∗ At (c : Thread nD τ) E.arg3.view fullShare Finset.univ I.rank ∗ scS c E I ∗ At (c : Thread nD τ) E.arg0.view fullShare Finset.univ I.off
    ∗ aAll c E I ∗ At (c : Thread nD τ) E.arg13.view fullShare (plane (i % 2)) (I.xC i)
    ∗ Any (c : Thread nD τ) E.arg16.view Finset.univ ∗ Rg (aCell c E) 0 8
    ∗ Any (c : Thread nD τ) E.arg20.view Finset.univ ∗ bgS c E I i a n 0 ∗ loS c E I i a n 0 ∗ Ow c)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)

theorem slot_join (s : ℕ) : iprop((aD c E I s 0 ∗ aD c E I s 1 ∗ aD c E I s 2))
    ⊢ iprop(At (c : Thread nD τ) E.arg16.view fullShare (arow (s % 8) 0 120) (I.aC s)
      ∗ At (c : Thread nD τ) E.arg8.view fullShare (awin 0 (base (I.st s))) I.A ∗ At (c : Thread nD τ) E.arg8.view fullShare (awin 1 (base (I.st s))) I.A
      ∗ At (c : Thread nD τ) E.arg8.view fullShare (awin 2 (base (I.st s))) I.A) := by
  iintro ⟨⟨H0, A0⟩, ⟨H1, A1⟩, ⟨H2, A2⟩⟩
  ihave H := (At_split (c : Thread nD τ) (arow_split (s % 8) 40 80 120 (by decide) (by decide)) (arow_disj _ _ _ _)).2 $$ [H1 H2]
  · isplitl [H1] <;> iassumption
  ihave H := (At_split (c : Thread nD τ) (arow_split (s % 8) 0 40 120 (by decide) (by decide)) (arow_disj _ _ _ _)).2 $$ [H0 H]
  · isplitl [H0] <;> iassumption
  isplitl [H]; · iexact H
  isplitl [A0]; · iexact A0
  isplitl [A1] <;> iassumption

include G hs in
/-- A segment. -/
theorem part19_spec (i : Fin k0_t4_loop.trips) (a30 v59 : BitVec 32) :
    T5inv c E I i.val a.val t.val
      ⊢ wp frame (wpE (defs₀ (F := F)) 𝒱 (c : Thread nD τ) bd) Set.univ
          (k0_part19 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw v59 1#32 t)
          (fun r => iprop(⌜r = ⟨⟩⌝ ∗ T5inv c E I i.val a.val (t.val + 1))) := by
  have hg := G.sg (a.val + t.val) hs
  have hv := G.st (a.val + t.val) hs
  have hsh : I.sh (a.val + t.val) ≤ 8 := by unfold In.sh; omega
  have hw20 := chk20_of _ hg
  have hw22 := chk22_of _ hv
  unfold T5inv
  rw [k0_part19_eq_skeleton]
  unfold k0_part19_skel
  iintro ⟨HTb, Hrk, Hsc, Hof, ⟨A0, A1, A2⟩, Hx, H16, Hcells, H20, HG, HL, HO⟩
  ihave H16 := (Any_split (c : Thread nD τ) (aoff_split ((a.val + t.val) % 8)) (aoff_disj _)) $$ H16
  icases H16 with ⟨H16, H16r⟩
  ihave H16 := (Any_split (c : Thread nD τ) (arow_split ((a.val + t.val) % 8) 0 40 120 (by decide) (by decide)) (arow_disj _ _ _ _)) $$ H16
  icases H16 with ⟨W0, H16⟩
  ihave H16 := (Any_split (c : Thread nD τ) (arow_split ((a.val + t.val) % 8) 40 80 120 (by decide) (by decide)) (arow_disj _ _ _ _)) $$ H16
  icases H16 with ⟨W1, W2⟩
  ihave Hcells := (Rg_take (aCell c E) 8 0 ((a.val + t.val) % 8) (by omega)) $$ Hcells
  icases Hcells with ⟨Hcell, Hcells⟩
  ihave Hcell := (ent_of_eq (congrArg (aCell c E) (Nat.zero_add ((a.val + t.val) % 8)))) $$ Hcell
  iapply (wp_part (c : Thread nD τ) 𝒱 bd _ (part6_spec c E I 𝒱 bd G a d hw t hs)) $$ [HTb A0 W0 Hcell]
  · isplitl [HTb]; · iexact HTb
    isplitl [A0]; · iexact A0
    isplitl [W0] <;> iassumption
  iintro ⟨HTb, A0, HB⟩
  iapply (wp_part (c : Thread nD τ) 𝒱 bd _ (part7_spec c E I 𝒱 bd G a d hw t hs _ _)) $$ [HTb A1 W1 HB]
  · isplitl [HTb]; · iexact HTb
    isplitl [A1]; · iexact A1
    isplitl [W1] <;> iassumption
  iintro ⟨HTb, A1, HB⟩
  iapply (wp_part (c : Thread nD τ) 𝒱 bd _ (part8_spec c E I 𝒱 bd G a d hw t hs _ _ _)) $$ [HTb A2 W2 HB]
  · isplitl [HTb]; · iexact HTb
    isplitl [A2]; · iexact A2
    isplitl [W2] <;> iassumption
  iintro ⟨HTb, A2, HB⟩
  iapply (wp_part (c : Thread nD τ) 𝒱 bd _ (part9_spec c E I 𝒱 bd G a d hw t hs _ _ _ _)) $$ [HTb HB HO]
  · isplitl [HTb]; · iexact HTb
    isplitl [HB] <;> iassumption
  iintro ⟨HTb, HB, HO⟩
  iapply (wp_part (c : Thread nD τ) 𝒱 bd _ (part10_spec c E I 𝒱 bd G a d hw t hs _ _)) $$ [HTb HB HO]
  · isplitl [HTb]; · iexact HTb
    isplitl [HB] <;> iassumption
  iintro ⟨HTb, HB, HO⟩
  iapply (wp_part (c : Thread nD τ) 𝒱 bd _ (part11_spec c E I 𝒱 bd G a d hw t hs _ _ _ _)) $$ [HTb Hrk HB HO]
  · isplitl [HTb]; · iexact HTb
    isplitl [Hrk]; · iexact Hrk
    isplitl [HB] <;> iassumption
  iintro ⟨HTb, Hrk, HD, Hcell, HO⟩
  ihave HD := (slot_join c E I (a.val + t.val)) $$ HD
  icases HD with ⟨H16, B0, B1, B2⟩
  iapply (wp_part (c : Thread nD τ) 𝒱 bd _ (part12_spec c E I 𝒱 bd a d hw t hs i _ _ _ _)) $$ [H16 Hx Hof]
  · isplitl [H16]; · iexact H16
    isplitl [Hx] <;> iassumption
  iintro ⟨H16, Hx, Hof⟩
  ihave H20 := (show (Any (c : Thread nD τ) E.arg20.view Finset.univ : sProp 𝕄) ⊢ iprop(∃ X, At (c : Thread nD τ) E.arg20.view fullShare Finset.univ X) from .rfl) $$ H20
  icases H20 with ⟨%Z, HT⟩
  ihave HT := (ent_of_eq (congrArg (At (c : Thread nD τ) E.arg20.view fullShare Finset.univ) (mix_zero (key := keyT) (A := Z) (B := I.Tm i.val (a.val + t.val) 0)).symm)) $$ HT
  iapply (wp_part (c : Thread nD τ) 𝒱 bd _ (part13_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part14_spec c E I 𝒱 bd G a d t hs Z i.val _ _ hw22)) $$ [HT HL]
  · isplitl [HT] <;> iassumption
  iintro ⟨HT, HL⟩
  iapply (wp_part (c : Thread nD τ) 𝒱 bd _ (part15_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part16_spec c E I 𝒱 bd G a d t hs Z i.val _ hw22)) $$ [HT HL]
  · isplitl [HT] <;> iassumption
  iintro ⟨HT, HL⟩
  iapply (wp_part (c : Thread nD τ) 𝒱 bd _ (part17_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part18_spec c E I 𝒱 bd G a d t hs Z i.val _ _ hw22)) $$ [HT HL]
  · isplitl [HT] <;> iassumption
  iintro ⟨HT, HL⟩
  iapply (wp_ld (c : Thread nD τ) 𝒱 bd (X := mix keyL 10 (I.lc i.val a.val t.val) (I.lc i.val a.val (t.val + 1))) (Finset.subset_univ _)) $$ HL
  iintro HL
  iapply (wp_ld (c : Thread nD τ) 𝒱 bd (X := mix keyT 3 (I.TmP Z i.val (a.val + t.val) 2) (I.Tm i.val (a.val + t.val) 2)) (Finset.subset_univ _)) $$ HT
  iintro HT
  iapply (wp_ld (c : Thread nD τ) 𝒱 bd (X := mix keyL 10 (I.lc i.val a.val t.val) (I.lc i.val a.val (t.val + 1))) (Finset.subset_univ _)) $$ HL
  iintro HL
  iapply (wp_mix (c : Thread nD τ) 𝒱 bd (key := keyL) (n := 10) (B := I.lc i.val a.val (t.val + 1)) (setL 2 2 (by decide)) (lo_piece I i.val a.val t.val 2 2 (by decide) (by decide) (sh_offs I _ hv).2.1 hsh rfl)) $$ HL
  iintro HL
  iapply (wp_ld (c : Thread nD τ) 𝒱 bd (X := mix keyT 3 (I.TmP Z i.val (a.val + t.val) 2) (I.Tm i.val (a.val + t.val) 2)) (Finset.subset_univ _)) $$ HT
  iintro HT
  iapply (wp_mix (c : Thread nD τ) 𝒱 bd (key := keyT) (n := 3) (B := I.Tm i.val (a.val + t.val) 2) (setT 3) (tmp_piece I i.val (a.val + t.val) 2 3 (by decide) slices_S40x512_o0_384_S40x128)) $$ HT
  iintro HT
  iapply (wp_ld (c : Thread nD τ) 𝒱 bd (X := mix keyL 11 (I.lc i.val a.val t.val) (I.lc i.val a.val (t.val + 1))) (Finset.subset_univ _)) $$ HL
  iintro HL
  iapply (wp_ld (c : Thread nD τ) 𝒱 bd (X := mix keyT 4 (I.TmP Z i.val (a.val + t.val) 2) (I.Tm i.val (a.val + t.val) 2)) (Finset.subset_univ _)) $$ HT
  iintro HT
  iapply (wp_ld (c : Thread nD τ) 𝒱 bd (X := mix keyL 11 (I.lc i.val a.val t.val) (I.lc i.val a.val (t.val + 1))) (Finset.subset_univ _)) $$ HL
  iintro HL
  iapply (wp_mix (c : Thread nD τ) 𝒱 bd (key := keyL) (n := 11) (B := I.lc i.val a.val (t.val + 1)) (setL 2 3 (by decide)) (lo_piece I i.val a.val t.val 2 3 (by decide) (by decide) (sh_offs I _ hv).2.2 hsh rfl)) $$ HL
  iintro HL
  ihave HL := (ent_of_eq (lo_done c E I i.val a.val t.val)) $$ HL
  ihave HG := (ent_of_eq (bg_done c E I i.val a.val t.val)) $$ HG
  ihave HA0 := (At_split (c : Thread nD τ) (awin_split 0 (base (I.st (a.val + t.val)))) (awin_disj _ _)).2 $$ [B0 A0]
  · isplitl [B0] <;> iassumption
  ihave HA1 := (At_split (c : Thread nD τ) (awin_split 1 (base (I.st (a.val + t.val)))) (awin_disj _ _)).2 $$ [B1 A1]
  · isplitl [B1] <;> iassumption
  ihave HA2 := (At_split (c : Thread nD τ) (awin_split 2 (base (I.st (a.val + t.val)))) (awin_disj _ _)).2 $$ [B2 A2]
  · isplitl [B2] <;> iassumption
  ihave H16 := (Any_of_At (c : Thread nD τ)) $$ H16
  ihave H16 := (Any_join (c : Thread nD τ) (aoff_split ((a.val + t.val) % 8)) (aoff_disj _)) $$ [H16 H16r]
  · isplitl [H16] <;> iassumption
  ihave Hcells := Hcells $$ [Hcell]
  · iapply (ent_of_eq (congrArg (aCell c E) (Nat.zero_add ((a.val + t.val) % 8)).symm)) $$ Hcell
  iapply (wp_done (c : Thread nD τ) 𝒱 bd)
  isplitr [HTb Hrk Hsc Hof HA0 HA1 HA2 Hx H16 Hcells HT HG HL HO]
  · ipureintro; rfl
  isplitl [HTb]; · iexact HTb
  isplitl [Hrk]; · iexact Hrk
  isplitl [Hsc]; · iexact Hsc
  isplitl [Hof]; · iexact Hof
  isplitl [HA0 HA1 HA2]
  · isplitl [HA0]; · iexact HA0
    isplitl [HA1] <;> iassumption
  isplitl [Hx]; · iexact Hx
  isplitl [H16]; · iexact H16
  isplitl [Hcells]; · iexact Hcells
  isplitl [HT]; · iapply (Any_of_At (c : Thread nD τ)) $$ HT
  isplitl [HG]; · iexact HG
  isplitl [HL] <;> iassumption

include G hs in
/-- A trip. -/
theorem t5_step (i : Fin k0_t4_loop.trips) (a30 v59 u : BitVec 32) :
    T5inv c E I i.val a.val t.val ⊢ wp frame (wpE (defs₀ (F := F)) 𝒱 (c : Thread nD τ) bd) Set.univ
      (k0_t5_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw v59 t u) (fun r => T5inv c E I i.val a.val (t.val + 1)) := by
  unfold k0_t5_body
  iintro H
  iapply (wp_part (c : Thread nD τ) 𝒱 bd _ (part19_spec c E I 𝒱 bd G a d hw t hs i a30 v59)) $$ H
  iintro H
  iapply (wp_done (c : Thread nD τ) 𝒱 bd)
  iexact H

end Cert.Kernel.Hand

end
-- ==== Proof.Run.K.While.lean ====
/-
  The two scans that find the segments meeting a tile of tokens.
-/
module

public import proofs.«01_k».proof.Proof.Run.K.T1
public import Idealize.ShloMosaic.Lib.WordCmp
public import proofs.«01_k».proof.Proof.Run.Slots

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The first segment that ends behind the start of tile `i`. -/
def lo (i : ℕ) : ℕ := sInf {a : ℕ | (512 * i : ℤ) < (I.of (a + 1)).toInt}
/-- The first later segment that begins at or behind the end of tile `i`. -/
def hi (i : ℕ) : ℕ := sInf {b : ℕ | I.lo i < b ∧ (19 ≤ b ∨ (512 * i + 512 : ℤ) ≤ (I.of b).toInt)}
end In

variable {I : In F} (G : Good I)

include G in
theorem lo_le (i : ℕ) (hi : i < 24) : I.lo i ≤ 18 := Nat.sInf_le (by
  have := G.last
  show (512 * i : ℤ) < (I.of 19).toInt
  omega)
include G in
theorem lo_lt (i : ℕ) (hi : i < 24) : (512 * i : ℤ) < (I.of (I.lo i + 1)).toInt :=
  Nat.sInf_mem (s := {a : ℕ | (512 * i : ℤ) < (I.of (a + 1)).toInt}) ⟨18, by
    have := G.last
    show (512 * i : ℤ) < (I.of 19).toInt
    omega⟩
theorem le_lo (i s : ℕ) (h : s < I.lo i) : (I.of (s + 1)).toInt ≤ (512 * i : ℤ) :=
  not_lt.mp (Nat.notMem_of_lt_sInf (s := {a : ℕ | (512 * i : ℤ) < (I.of (a + 1)).toInt}) h)
include G in
theorem lo_mono (i : ℕ) (hi : i + 1 < 24) : I.lo i ≤ I.lo (i + 1) := by
  by_contra h
  have h1 := le_lo (I := I) i (I.lo (i + 1)) (by omega)
  have h2 := lo_lt G (i + 1) hi
  push_cast at h2
  omega
include G in
theorem hi_le (i : ℕ) (h : i < 24) : I.hi i ≤ 19 := Nat.sInf_le (show I.lo i < 19 ∧ _ from ⟨by have := lo_le G i h; omega, Or.inl le_rfl⟩)
include G in
theorem hi_mem (i : ℕ) (h : i < 24) : I.lo i < I.hi i ∧ (19 ≤ I.hi i ∨ (512 * i + 512 : ℤ) ≤ (I.of (I.hi i)).toInt) :=
  Nat.sInf_mem (s := {b : ℕ | I.lo i < b ∧ (19 ≤ b ∨ (512 * i + 512 : ℤ) ≤ (I.of b).toInt)}) ⟨19, by have := lo_le G i h; omega, Or.inl le_rfl⟩
theorem lt_hi (i b : ℕ) (h : b < I.hi i) (h1 : I.lo i < b) : b < 19 ∧ (I.of b).toInt < (512 * i + 512 : ℤ) := by
  have h2 : ¬ (I.lo i < b ∧ (19 ≤ b ∨ (512 * i + 512 : ℤ) ≤ (I.of b).toInt)) :=
    Nat.notMem_of_lt_sInf (s := {b : ℕ | I.lo i < b ∧ (19 ≤ b ∨ (512 * i + 512 : ℤ) ≤ (I.of b).toInt)}) h
  constructor
  · by_contra h3; exact h2 ⟨h1, Or.inl (by omega)⟩
  · by_contra h3; exact h2 ⟨h1, Or.inr (by omega)⟩
include G in
/-- No tile meets more than six segments. -/
theorem hi_near (i : ℕ) (h : i < 24) : I.hi i ≤ I.lo i + 6 := by
  by_contra h1
  have h2 := lt_hi (I := I) i (I.lo i + 6) (by omega) (by omega)
  have h3 := G.near i (by omega) (I.lo i) (by omega)
  have h4 := lo_lt G i h
  omega

theorem ofBool_decide (p : Prop) [Decidable p] : BitVec.ofBool (decide p) = 1#1 ↔ p := by
  by_cases h : p <;> simp [h]

theorem sle_tile (w : BitVec 32) (t : Fin k0_t4_loop.trips) :
    (Scalar.cmpi .sle w (Scalar.muli (Scf.iv 0#32 1#32 t) 512#32) = 1#1) ↔ w.toInt ≤ (512 * t.val : ℤ) := by
  have e : (Scalar.muli (Scf.iv 0#32 1#32 t) 512#32 : BitVec 32).toInt = (512 * t.val : ℤ) := by revert t; decide +kernel
  rw [← e]
  simp only [Scalar.cmpi, Idealize.ShloMosaic.WordCmp.cmpi_sle_eq, ofBool_decide]
theorem slt_tile (w : BitVec 32) (t : Fin k0_t4_loop.trips) :
    (Scalar.cmpi .slt w (Scalar.addi (Scalar.muli (Scf.iv 0#32 1#32 t) 512#32) 512#32) = 1#1) ↔ w.toInt < (512 * t.val + 512 : ℤ) := by
  have e : (Scalar.addi (Scalar.muli (Scf.iv 0#32 1#32 t) 512#32) 512#32 : BitVec 32).toInt = (512 * t.val + 512 : ℤ) := by revert t; decide +kernel
  rw [← e]
  simp only [Scalar.cmpi, Idealize.ShloMosaic.WordCmp.cmpi_slt_eq, ofBool_decide]
theorem off53_eq (a : Fin 19) : k0_off53 (BitVec.ofNat 32 a.val) = ![a.val + 1] := by revert a; decide +kernel
theorem off54_eq (a : Fin 20) : k0_off54 (BitVec.ofNat 32 a.val) = ![a.val] := by revert a; decide +kernel
theorem chk5_ok (a : Fin 19) : k0_chk5 (BitVec.ofNat 32 a.val) := by revert a; decide +kernel
theorem chk6_ok (a : Fin 20) : k0_chk6 (BitVec.ofNat 32 a.val) := by revert a; decide +kernel
theorem inc_word (a : Fin 20) : Scalar.addi (BitVec.ofNat 32 a.val) 1#32 = BitVec.ofNat 32 (a.val + 1) := by revert a; decide +kernel
theorem lt19_word (a : Fin 20) : Scalar.cmpi .slt (BitVec.ofNat 32 a.val) 19#32 = if a.val < 19 then 1#1 else 0#1 := by revert a; decide +kernel
theorem andi_one (a b : BitVec 1) : Scalar.andi a b = 1#1 ↔ a = 1#1 ∧ b = 1#1 := by revert a b; decide

variable (c : Dev nD) (m : Memref sig .tc .smem S20 .i32) (hm : m.IsWhole)

include G in
/-- The first scan, entered at or before its answer. -/
theorem while1_at (t : Fin k0_t4_loop.trips) : ∀ n a : ℕ, a + n = I.lo t.val → ∀ K : BitVec 32 → sProp 𝕄,
    iprop(At (c : Thread nD τ) m.view fullShare Finset.univ I.off ∗ (At (c : Thread nD τ) m.view fullShare Finset.univ I.off -∗ K (BitVec.ofNat 32 (I.lo t.val))))
      ⊢ wp frame (wpE (defs₀ (F := F)) Variants.nat (c : Thread nD τ) (some n)) Set.univ (cc0_while1 (F := F) t m hm (BitVec.ofNat 32 a)) K := by
  have hlo := lo_le G t.val t.isLt
  intro n
  induction n with
  | zero =>
    intro a ha K
    have hc : ¬ (Scalar.cmpi .sle (I.of (a + 1)) (Scalar.muli (Scf.iv 0#32 1#32 t) 512#32) = 1#1) := by
      rw [sle_tile, not_le, show a = I.lo t.val by omega]; exact lo_lt G t.val t.isLt
    have e : I.off (ix1 (Fin.ofNat 20 (a + 1))) = I.of (a + 1) := rfl
    rw [cc0_while1_eq_skeleton]
    unfold cc0_while1_skel
    iintro ⟨H, HK⟩
    iapply (wp_as (c : Thread nD τ) Variants.nat _ (chk5_ok ⟨a, by omega⟩))
    iapply (wp_word (c : Thread nD τ) Variants.nat _ (X := I.off) (ix1 (Fin.ofNat 20 (a + 1))) (emb1 _ (by
      rw [off53_eq ⟨a, by omega⟩]; show a + 1 = (a + 1) % 20; omega))) $$ H
    iintro H
    rw [e, if_neg hc]
    iapply (wp_done (c : Thread nD τ) Variants.nat _)
    rw [show a = I.lo t.val by omega]
    iapply HK $$ H
  | succ n ih =>
    intro a ha K
    have hc : Scalar.cmpi .sle (I.of (a + 1)) (Scalar.muli (Scf.iv 0#32 1#32 t) 512#32) = 1#1 := by
      rw [sle_tile]; exact le_lo t.val a (by omega)
    have e : I.off (ix1 (Fin.ofNat 20 (a + 1))) = I.of (a + 1) := rfl
    rw [cc0_while1_eq_skeleton]
    unfold cc0_while1_skel
    iintro ⟨H, HK⟩
    iapply (wp_as (c : Thread nD τ) Variants.nat _ (chk5_ok ⟨a, by omega⟩))
    iapply (wp_word (c : Thread nD τ) Variants.nat _ (X := I.off) (ix1 (Fin.ofNat 20 (a + 1))) (emb1 _ (by
      rw [off53_eq ⟨a, by omega⟩]; show a + 1 = (a + 1) % 20; omega))) $$ H
    iintro H
    rw [e, if_pos hc, inc_word ⟨a, by omega⟩]
    iapply (wp_call Variants.nat (c : Thread nD τ) (some (n + 1)) Set.univ n (fun u hu => by cases hu; exact Nat.lt_succ_self n))
    iapply (ih (a + 1) (by omega) _)
    isplitl [H]; · iexact H
    iintro H
    iapply (wp_done (c : Thread nD τ) Variants.nat _)
    iapply HK $$ H

include G in
/-- The second scan, entered behind the first one's answer. -/
theorem while2_at (t : Fin k0_t4_loop.trips) : ∀ n b : ℕ, b + n = I.hi t.val → I.lo t.val < b → ∀ K : BitVec 32 → sProp 𝕄,
    iprop(At (c : Thread nD τ) m.view fullShare Finset.univ I.off ∗ (At (c : Thread nD τ) m.view fullShare Finset.univ I.off -∗ K (BitVec.ofNat 32 (I.hi t.val))))
      ⊢ wp frame (wpE (defs₀ (F := F)) Variants.nat (c : Thread nD τ) (some n)) Set.univ (cc0_while2 (F := F) t m hm (BitVec.ofNat 32 b)) K := by
  have hhi := hi_le G t.val t.isLt
  have hmem := hi_mem G t.val t.isLt
  intro n
  induction n with
  | zero =>
    intro b hb hl K
    have hc : ¬ (Scalar.andi (Scalar.cmpi .slt (BitVec.ofNat 32 b) 19#32) (Scalar.cmpi .slt (I.of b) (Scalar.addi (Scalar.muli (Scf.iv 0#32 1#32 t) 512#32) 512#32)) = 1#1) := by
      rw [andi_one, lt19_word ⟨b, by omega⟩, slt_tile]
      have hb' : b = I.hi t.val := by omega
      rw [← hb'] at hmem
      rintro ⟨h1, h2⟩
      split_ifs at h1 with h3
      · rcases hmem.2 with h | h
        · exact absurd h3 (by simp only; omega)
        · omega
      · exact absurd h1 (by decide)
    have e : I.off (ix1 (Fin.ofNat 20 b)) = I.of b := rfl
    rw [cc0_while2_eq_skeleton]
    unfold cc0_while2_skel
    iintro ⟨H, HK⟩
    iapply (wp_as (c : Thread nD τ) Variants.nat _ (chk6_ok ⟨b, by omega⟩))
    iapply (wp_word (c : Thread nD τ) Variants.nat _ (X := I.off) (ix1 (Fin.ofNat 20 b)) (emb1 _ (by
      rw [off54_eq ⟨b, by omega⟩]; show b = b % 20; omega))) $$ H
    iintro H
    rw [e, if_neg hc]
    iapply (wp_done (c : Thread nD τ) Variants.nat _)
    rw [show b = I.hi t.val by omega]
    iapply HK $$ H
  | succ n ih =>
    intro b hb hl K
    have hlt := lt_hi (I := I) t.val b (by omega) hl
    have hc : Scalar.andi (Scalar.cmpi .slt (BitVec.ofNat 32 b) 19#32) (Scalar.cmpi .slt (I.of b) (Scalar.addi (Scalar.muli (Scf.iv 0#32 1#32 t) 512#32) 512#32)) = 1#1 := by
      rw [andi_one, lt19_word ⟨b, by omega⟩, slt_tile]
      exact ⟨if_pos hlt.1, hlt.2⟩
    have e : I.off (ix1 (Fin.ofNat 20 b)) = I.of b := rfl
    rw [cc0_while2_eq_skeleton]
    unfold cc0_while2_skel
    iintro ⟨H, HK⟩
    iapply (wp_as (c : Thread nD τ) Variants.nat _ (chk6_ok ⟨b, by omega⟩))
    iapply (wp_word (c : Thread nD τ) Variants.nat _ (X := I.off) (ix1 (Fin.ofNat 20 b)) (emb1 _ (by
      rw [off54_eq ⟨b, by omega⟩]; show b = b % 20; omega))) $$ H
    iintro H
    rw [e, if_pos hc, inc_word ⟨b, by omega⟩]
    iapply (wp_call Variants.nat (c : Thread nD τ) (some (n + 1)) Set.univ n (fun u hu => by cases hu; exact Nat.lt_succ_self n))
    iapply (ih (b + 1) (by omega) (by omega) _)
    isplitl [H]; · iexact H
    iintro H
    iapply (wp_done (c : Thread nD τ) Variants.nat _)
    iapply HK $$ H

include G in
/-- The first scan where a tile calls it. -/
theorem call1 {α} {Q : α → sProp 𝕄} (t : Fin k0_t4_loop.trips) (a : ℕ) (ha : a ≤ I.lo t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 (I.lo t.val))) Q)
      -∗ wp frame (wpE (defs₀ (F := F)) Variants.nat (c : Thread nD τ) none) Set.univ (Prog.lift (.call (1 : (Λ₀ F).Label) ⟨t, m, hm, BitVec.ofNat 32 a⟩) >>= k) Q) := by
  iintro H HK
  iapply (wp_call Variants.nat (c : Thread nD τ) none Set.univ (I.lo t.val - a) (fun u hu => by cases hu))
  iapply (while1_at G c m hm t (I.lo t.val - a) a (by omega) _)
  isplitl [H]; · iexact H
  iexact HK

include G in
/-- The second scan where a tile calls it. -/
theorem call2 {α} {Q : α → sProp 𝕄} (t : Fin k0_t4_loop.trips) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 (I.hi t.val))) Q)
      -∗ wp frame (wpE (defs₀ (F := F)) Variants.nat (c : Thread nD τ) none) Set.univ (Prog.lift (.call (2 : (Λ₀ F).Label) ⟨t, m, hm, Scalar.addi (BitVec.ofNat 32 (I.lo t.val)) 1#32⟩) >>= k) Q) := by
  have hlo := lo_le G t.val t.isLt
  have hmem := hi_mem G t.val t.isLt
  rw [inc_word ⟨I.lo t.val, by omega⟩]
  iintro H HK
  iapply (wp_call Variants.nat (c : Thread nD τ) none Set.univ (I.hi t.val - (I.lo t.val + 1)) (fun u hu => by cases hu))
  iapply (while2_at G c m hm t (I.hi t.val - (I.lo t.val + 1)) (I.lo t.val + 1) (by omega) (by omega) _)
  isplitl [H]; · iexact H
  iexact HK

end Cert.Kernel.Hand

end
-- ==== Proof.Run.K.T4.lean ====
/-
  A trip of the loop over the tiles of tokens.
-/
module

public import proofs.«01_k».proof.Proof.Run.K.T5c
public import proofs.«01_k».proof.Proof.Run.K.While

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

/-- A store of everything, from arbitrary contents. -/
theorem set_all3 {n0 n1 n2 : ℕ} {inb} : (Rect.unit (s := ⟨3, ![n0, n1, n2]⟩) ![0, 0, 0] (⟨3, ![n0, n1, n2]⟩ : Shape).size inb).set = Finset.univ := by
  ext i
  rw [mem3 rfl rfl]
  have h0 : (i 0).val < n0 := (i 0).isLt
  have h1 : (i 1).val < n1 := (i 1).isLt
  have h2 : (i 2).val < n2 := (i 2).isLt
  simp only [Finset.mem_univ, iff_true]
  omega

theorem emb_all3 {n0 n1 n2 : ℕ} {inb} (x : (⟨3, ![n0, n1, n2]⟩ : Shape).Idx) :
    (Rect.unit (s := ⟨3, ![n0, n1, n2]⟩) ![0, 0, 0] (⟨3, ![n0, n1, n2]⟩ : Shape).size inb).emb x = x :=
  ext3 ((emb_val 0).trans (Nat.zero_add _)) ((emb_val 1).trans (Nat.zero_add _)) ((emb_val 2).trans (Nat.zero_add _))

namespace In
variable (I : In F)
/-- The wide buffer once all segments of tile `i` are in it. -/
def bgF (i : ℕ) : S3x256x512.Idx → Elt F .f32 := I.bg i (I.lo i) (I.hi i - I.lo i)
/-- The narrow buffer once all segments of tile `i` are in it. -/
def lcF (i : ℕ) : S3x32x512.Idx → Elt F .bf16 := I.lc i (I.lo i) (I.hi i - I.lo i)
/-- The wide buffer transposed and rounded. -/
def Lt (i : ℕ) : S3x512x256.Idx → Elt F .bf16 := fun y => k0_pay101 (fun x => I.bgF i (ix3 (y 0) (x 1) (x 2))) (ix3 0 (y 1) (y 2))
/-- The down-projected rows, all of them. -/
def LH : S3x32x12288.Idx → Elt F .bf16 := fun y => I.lcF ((y 2).val / 512) (ix3 (y 0) (y 1) (Fin.ofNat 512 (y 2).val))
/-- The result. -/
def Yv : S12288x8192.Idx → Elt F .bf16 := fun r =>
  ytile I ((r 0).val / 512) ((r 1).val / 512) (I.Lt ((r 0).val / 512)) (I.lo ((r 0).val / 512)) (ix3 0 (Fin.ofNat 512 (r 0).val) (Fin.ofNat 512 (r 1).val))
/-- The segment the search of tile `i` starts from. -/
def car (i : ℕ) : ℕ := if i = 0 then 0 else I.lo (i - 1)
end In

abbrev keyH (y : S3x32x12288.Idx) : ℕ := (y 2).val / 512
abbrev keyP (y : S3x512x256.Idx) : ℕ := (y 0).val

variable (c : Dev nD) (E : Env) (I : In F)

/-- The units a tile of tokens credits. -/
abbrev Nx : ℕ := sig.dmaCredit .tc (Kind.table .tc .vmem) E.arg13.view.buf S512x2048 .bf16
/-- The cell of slot `p`. -/
abbrev xsem (p : ℕ) : DmaSem sig := E.arg23.ix (ix1 (Fin.ofNat 2 p))
/-- Slot `p` unused. -/
abbrev xIdle (p : ℕ) : sProp 𝕄 :=
  iprop(At (c : Thread nD τ) E.arg5.view (shareTokN fullShare p) Finset.univ I.X ∗ Any (c : Thread nD τ) E.arg13.view (plane p)
    ∗ semVal ((c : Thread nD τ), .dma (xsem E p)) 0)
/-- Slot `p` being filled with tile `k`. -/
abbrev xBusy (p k : ℕ) : sProp 𝕄 :=
  Flight EC (c : Thread nD τ) (.dma (xsem E p)) () (Nx E)
    iprop(At (c : Thread nD τ) E.arg13.view fullShare (plane p) (I.xC k) ∗ At (c : Thread nD τ) E.arg5.view (shareTokN fullShare p) Finset.univ I.X)
/-- The slot of tile `k`: being filled while there is such a tile. -/
def xNext (k : ℕ) : sProp 𝕄 := if k < 24 then xBusy c E I (k % 2) k else xIdle c E I (k % 2)

/-- The units a tile of down-projected rows credits. -/
abbrev Nl : ℕ := sig.dmaCredit .tc (Kind.table .tc .hbm) E.arg11.view.buf S3x32x512 .bf16
/-- The narrow buffer unused. -/
abbrev lIdle : sProp 𝕄 := iprop(Any (c : Thread nD τ) E.arg21.view Finset.univ ∗ semVal ((c : Thread nD τ), .dma E.arg29.sem) 0)
/-- The narrow buffer being written out as tile `i`. -/
abbrev lBusy (i : ℕ) : sProp 𝕄 :=
  Flight EC (c : Thread nD τ) (.dma E.arg29.sem) () (Nl E)
    iprop(At (c : Thread nD τ) E.arg11.view fullShare (only keyH i) I.LH ∗ At (c : Thread nD τ) E.arg21.view fullShare Finset.univ (I.lcF i))
/-- The narrow buffer before tile `i`. -/
def lSt (i : ℕ) : sProp 𝕄 := if i = 0 then lIdle c E else lBusy c E I (i - 1)
/-- The rows written, the rows to come. -/
abbrev Linv (i : ℕ) : sProp 𝕄 :=
  iprop(lSt c E I i ∗ At (c : Thread nD τ) E.arg11.view fullShare (below keyH (i - 1)) I.LH ∗ Any (c : Thread nD τ) E.arg11.view (above keyH i))
/-- What the segments' trips use over and over. -/
abbrev Fix : sProp 𝕄 :=
  iprop(Tb c E I ∗ At (c : Thread nD τ) E.arg3.view fullShare Finset.univ I.rank ∗ scS c E I
    ∗ aAll c E I ∗ Any (c : Thread nD τ) E.arg16.view Finset.univ ∗ Rg (aCell c E) 0 8 ∗ Any (c : Thread nD τ) E.arg20.view Finset.univ)
abbrev Off : sProp 𝕄 := At (c : Thread nD τ) E.arg0.view fullShare Finset.univ I.off

theorem og50 (t : Fin k0_t4_loop.trips) : k0_off50 t 0 = (t.val + 1) % 2 := by revert t; decide +kernel
theorem og51 (t : Fin k0_t4_loop.trips) : k0_off51 t = ![(t.val + 1) % 2, 0, 0] := by revert t; decide +kernel
theorem og52 (t : Fin k0_t4_loop.trips) : k0_off52 t = ![512 * (t.val + 1), 0] := by revert t; decide +kernel
theorem og55 (t : Fin k0_t4_loop.trips) : k0_off55 t 0 = t.val % 2 := by revert t; decide +kernel
theorem og157 (t : Fin k0_t4_loop.trips) : k0_off157 t = ![0, 0, 512 * t.val] := by revert t; decide +kernel
theorem chk38_of (a : Fin 19) : k0_chk38 (BitVec.ofNat 32 a.val) := by revert a; decide +kernel
theorem cond2_iff (t : Fin k0_t4_loop.trips) : k0_cond2 t = 1#1 ↔ t.val + 1 < 24 := by revert t; decide +kernel
theorem cond3_iff (t : Fin k0_t4_loop.trips) : k0_cond3 t = 1#1 ↔ t.val ≠ 0 := by revert t; decide +kernel
theorem mul512 (t : Fin k0_t4_loop.trips) : Scalar.muli (Scf.iv 0#32 1#32 t.val) 512#32 = BitVec.ofNat 32 (512 * t.val) := by revert t; decide +kernel
theorem t6_none (a : Fin 19) (d : Fin 6) : (k0_t6_loop (BitVec.ofNat 32 a.val) (BitVec.ofNat 32 (a.val + d.val + 1))).trips = 0 := by revert a d; decide +kernel

variable (G : Good I)

include G in
theorem call1' {α} {Q : α → sProp 𝕄} (m : Memref sig .tc .smem S20 .i32) (hm : m.IsWhole) (t : Fin k0_t4_loop.trips) (a b : ℕ) (ha : a ≤ I.lo t.val) (hb : b = I.lo t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 b)) Q)
      -∗ wp frame (wpE (defs₀ (F := F)) Variants.nat (c : Thread nD τ) none) Set.univ (Prog.lift (.call (1 : (Λ₀ F).Label) ⟨t, m, hm, BitVec.ofNat 32 a⟩) >>= k) Q) := by
  subst hb
  exact call1 G c m hm t a ha k

include G in
theorem call2' {α} {Q : α → sProp 𝕄} (m : Memref sig .tc .smem S20 .i32) (hm : m.IsWhole) (t : Fin k0_t4_loop.trips) (a b : ℕ) (ha : a = I.lo t.val) (hb : b = I.hi t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 b)) Q)
      -∗ wp frame (wpE (defs₀ (F := F)) Variants.nat (c : Thread nD τ) none) Set.univ (Prog.lift (.call (2 : (Λ₀ F).Label) ⟨t, m, hm, Scalar.addi (BitVec.ofNat 32 a) 1#32⟩) >>= k) Q) := by
  subst ha hb
  exact call2 G c m hm t k

include G in
/-- The first half of a tile's preparation: the next tile is asked for, the tile's segments are found. -/
theorem part36_spec (i : Fin k0_t4_loop.trips) (a : Fin 19) (d : Fin 6) (ha : a.val = I.lo i.val) (hd : a.val + d.val + 1 = I.hi i.val) :
    iprop(xIdle c E I ((i.val + 1) % 2) ∗ Off c E I)
      ⊢ wp frame (wpE (defs₀ (F := F)) Variants.nat (c : Thread nD τ) none) Set.univ
          (k0_part36 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 0#32 1#32 i (BitVec.ofNat 32 (I.car i.val)))
          (fun r => iprop(⌜r = ⟨Scf.iv 0#32 1#32 i, BitVec.ofNat 32 (512 * i.val), BitVec.ofNat 32 a.val, chk38_of a, BitVec.ofNat 32 (a.val + d.val + 1), chk7_of a d (by have := hi_le G i.val i.isLt; omega), Scalar.minsi (BitVec.ofNat 32 a.val) 13#32⟩⌝
            ∗ iprop(xNext c E I (i.val + 1) ∗ Off c E I))) := by
  have hi : i.val < 24 := i.isLt
  have hN0 : 0 < Nx E := sig.dmaCredit_pos _ _ _ _ _ (by rw [Shape.numel]; simp [Fin.prod_univ_succ])
  have hcar : I.car i.val ≤ I.lo i.val := by
    unfold In.car
    split_ifs with h0
    · omega
    · have := lo_mono G (i.val - 1) (by omega)
      rwa [show i.val - 1 + 1 = i.val by omega] at this
  have h38 := chk38_of a
  have h7 : k0_chk7 (BitVec.ofNat 32 a.val) (BitVec.ofNat 32 (a.val + d.val + 1)) := chk7_of a d (by have := hi_le G i.val i.isLt; omega)
  have h51 := mul512 i
  rw [k0_part36_eq_skeleton]
  unfold k0_part36_skel xNext
  by_cases h : i.val + 1 < 24
  · have hc : k0_cond2 i = 1#1 := (cond2_iff i).2 h
    have hsem' : ((E.arg23.slice (Rect.unit (s := S2) (k0_off50 i) S1.size (k0_off50_inb i hc))).squeeze S_ squeezes_S1_S_).sem = xsem E ((i.val + 1) % 2) :=
      sem_at _ _ _ _ (emb1 _ (by rw [og50]; simp))
    rw [dif_pos hc, if_pos h]
    simp only [bind_assoc, pure_bind]
    iintro ⟨HI, HO⟩
    iapply (ring_start (c : Thread nD τ) Variants.nat none (ms := E.arg5) (md := E.arg13) (X := I.X) (Y := I.xC (i.val + 1)) (og52 i) rfl (og51 i) rfl _ (congrArg SemLoc.dma hsem') ?_ (Nx E) rfl hN0) $$ HI
    · intro x j h0 h1 h2
      refine congrArg I.X (ext2 ?_ ?_)
      · rw [h1]
        have e : (x 1).val < 512 := (x 1).isLt
        show (512 * (i.val + 1) + (x 1).val) % 12288 = _
        omega
      · rw [h2]; exact (Nat.zero_add _).symm
    iintro HB
    iapply (call1' c I G E.arg0 E.harg0 i (I.car i.val) a.val hcar ha) $$ HO
    iintro HO
    iapply (wp_as (c : Thread nD τ) Variants.nat none h38)
    iapply (call2' c I G E.arg0 E.harg0 i a.val (a.val + d.val + 1) ha hd) $$ HO
    iintro HO
    iapply (wp_as (c : Thread nD τ) Variants.nat none h7)
    iapply (wp_done (c : Thread nD τ) Variants.nat none)
    isplitr [HB HO]
    · ipureintro; rw [← h51]
    isplitl [HB] <;> iassumption
  · have hc : ¬ k0_cond2 i = 1#1 := fun hc => h ((cond2_iff i).1 hc)
    rw [dif_neg hc, if_neg h]
    simp only [bind_assoc, pure_bind]
    iintro ⟨HB, HO⟩
    iapply (call1' c I G E.arg0 E.harg0 i (I.car i.val) a.val hcar ha) $$ HO
    iintro HO
    iapply (wp_as (c : Thread nD τ) Variants.nat none h38)
    iapply (call2' c I G E.arg0 E.harg0 i a.val (a.val + d.val + 1) ha hd) $$ HO
    iintro HO
    iapply (wp_as (c : Thread nD τ) Variants.nat none h7)
    iapply (wp_done (c : Thread nD τ) Variants.nat none)
    isplitr [HB HO]
    · ipureintro; rw [← h51]
    isplitl [HB] <;> iassumption

theorem P_set (k : ℕ) {inb} : (Rect.unit (s := S3x512x256) ![k, 0, 0] S1x512x256.size inb).set = only keyP k := by
  ext i
  rw [mem3 rfl rfl]
  have h1 : (i 1).val < 512 := (i 1).isLt
  have h2 : (i 2).val < 256 := (i 2).isLt
  simp only [only, Finset.mem_filter, Finset.mem_univ, _root_.true_and, keyP]
  omega

theorem P_sub (k : ℕ) {inb} : (Rect.unit (s := S3x512x256) ![k, 0, 0] S1x512x256.size inb).toLoadRect.set ⊆ above keyP k := by
  rw [show (Rect.unit (s := S3x512x256) ![k, 0, 0] S1x512x256.size inb).toLoadRect.set = _ from P_set k]
  intro y
  simp only [only, above, Finset.mem_filter, Finset.mem_univ, _root_.true_and]
  omega

/-- The transposed plane that a store writes. -/
theorem P_in (i k : ℕ) (hk : k < 3) {inb inb'} (x : S1x512x256.Idx) :
    I.Lt i ((Rect.unit (s := S3x512x256) ![k, 0, 0] S1x512x256.size inb).emb x)
      = k0_pay101 (fun y => I.bgF i ((Rect.unit (s := S3x256x512) ![k, 0, 0] S1x256x512.size inb').toLoadRect.idx y)) x := by
  have h0 : (x 0).val < 1 := (x 0).isLt
  have e0 : ((Rect.unit (s := S3x512x256) ![k, 0, 0] S1x512x256.size inb).emb x 0).val = k := (emb_val 0).trans (by show k + (x 0).val = k; omega)
  have e1 : ((Rect.unit (s := S3x512x256) ![k, 0, 0] S1x512x256.size inb).emb x 1).val = (x 1).val := (emb_val 1).trans (Nat.zero_add _)
  have e2 : ((Rect.unit (s := S3x512x256) ![k, 0, 0] S1x512x256.size inb).emb x 2).val = (x 2).val := (emb_val 2).trans (Nat.zero_add _)
  unfold In.Lt
  refine congr (congrArg k0_pay101 (funext fun y => congrArg (I.bgF i) (ext3 ?_ ?_ ?_))) (ext3 ?_ ?_ ?_)
  · have hy : (y 0).val < 1 := (y 0).isLt
    refine e0.trans ?_
    show k = k + 1 * (y 0).val
    omega
  · show (y 1).val = 0 + 1 * (y 1).val
    omega
  · show (y 2).val = 0 + 1 * (y 2).val
    omega
  · show 0 = (x 0).val
    omega
  · exact e1
  · exact e2

theorem H_set (i : Fin k0_t4_loop.trips) : (Rect.unit (s := S3x32x12288) (k0_off157 i) S3x32x512.size (k0_off157_inb i)).set = only keyH i.val := by
  ext y
  rw [mem3 (og157 i) rfl]
  have h0 : (y 0).val < 3 := (y 0).isLt
  have h1 : (y 1).val < 32 := (y 1).isLt
  simp only [only, Finset.mem_filter, Finset.mem_univ, _root_.true_and, keyH]
  omega

theorem H_in (i : Fin k0_t4_loop.trips) (x : S3x32x512.Idx) :
    I.LH ((Rect.unit (s := S3x32x12288) (k0_off157 i) S3x32x512.size (k0_off157_inb i)).emb x) = I.lcF i.val x := by
  have h2 : (x 2).val < 512 := (x 2).isLt
  have f0 : k0_off157 i 0 = 0 := by rw [og157]; rfl
  have f1 : k0_off157 i 1 = 0 := by rw [og157]; rfl
  have f2 : k0_off157 i 2 = 512 * i.val := by rw [og157]; rfl
  have e0 : ((Rect.unit (s := S3x32x12288) (k0_off157 i) S3x32x512.size (k0_off157_inb i)).emb x 0).val = (x 0).val := (emb_val 0).trans (by omega)
  have e1 : ((Rect.unit (s := S3x32x12288) (k0_off157 i) S3x32x512.size (k0_off157_inb i)).emb x 1).val = (x 1).val := (emb_val 1).trans (by omega)
  have e2 : ((Rect.unit (s := S3x32x12288) (k0_off157 i) S3x32x512.size (k0_off157_inb i)).emb x 2).val = 512 * i.val + (x 2).val := (emb_val 2).trans (by omega)
  unfold In.LH
  rw [e2, show (512 * i.val + (x 2).val) / 512 = i.val by omega]
  refine congrArg (I.lcF i.val) (ext3 e0 e1 ?_)
  show (512 * i.val + (x 2).val) % 512 = _
  omega

/-- The narrow buffer is free again: the rows of the tile before are written. -/
theorem l_done (i : Fin k0_t4_loop.trips) {α} {Q : α → sProp 𝕄} (k : Prog (TpuEff nD τ sig (Elt F) (Λ₀ F) .tc) α) :
    iprop(lSt c E I i.val ∗ At (c : Thread nD τ) E.arg11.view fullShare (below keyH (i.val - 1)) I.LH ∗ Ow c)
      ⊢ iprop((iprop(lIdle c E ∗ At (c : Thread nD τ) E.arg11.view fullShare (below keyH i.val) I.LH ∗ Ow c)
            -∗ wp frame (wpE (defs₀ (F := F)) Variants.nat (c : Thread nD τ) none) Set.univ k Q)
        -∗ wp frame (wpE (defs₀ (F := F)) Variants.nat (c : Thread nD τ) none) Set.univ
          (if k0_h3 : k0_cond3 i = 1#1 then (do
              Prog.lift (.waitDma2 E.arg29.sem E.arg21 (E.arg11.slice (Rect.unit (s := S3x32x12288) (k0_off58 i) S3x32x512.size (k0_off58_inb i k0_h3)) (fun _ => rfl)) E.harg21.wordExact (E.harg11.wordExact_slice rfl _ (k0_off58_wordsbf16 i k0_h3)))
              k) else k) Q) := by
  unfold lSt
  by_cases h : i.val = 0
  · rw [dif_neg (fun hc => (cond3_iff i).1 hc h), if_pos h, h]
    iintro ⟨HL, HH, HO⟩ HK
    iapply HK
    isplitl [HL]; · iexact HL
    isplitl [HH] <;> iassumption
  · rw [dif_pos ((cond3_iff i).2 h), if_neg h]
    iintro ⟨HL, HH, HO⟩ HK
    iapply (wp_wt (c : Thread nD τ) Variants.nat none (N := Nl E) E.arg29.sem rfl rfl) $$ [HL HO]
    · isplitl [HL] <;> iassumption
    iintro ⟨⟨HD, HS⟩, Hc, HO⟩
    iapply HK
    isplitl [HS Hc]
    · isplitl [HS]; · iapply (Any_of_At (c : Thread nD τ)) $$ HS
      iexact Hc
    isplitl [HH HD]
    · ihave HH := (below_snoc (c : Thread nD τ)) $$ [HH HD]
      · isplitl [HH] <;> iassumption
      iapply (ent_of_eq (congrArg (fun n => At (c : Thread nD τ) E.arg11.view fullShare (below keyH n) I.LH) (show i.val - 1 + 1 = i.val by omega))) $$ HH
    iexact HO

include G in
/-- The second half of a tile's preparation: its segments one after the other; the narrow buffer is sent off. -/
theorem part37_spec (i : Fin k0_t4_loop.trips) (a : Fin 19) (d : Fin 6) (ha : a.val = I.lo i.val) (hd : a.val + d.val + 1 = I.hi i.val)
    (hw : k0_chk7 (BitVec.ofNat 32 a.val) (BitVec.ofNat 32 (a.val + d.val + 1))) (v59 : BitVec 32) :
    iprop(xNext c E I i.val ∗ Linv c E I i.val ∗ Fix c E I ∗ Off c E I ∗ Any (c : Thread nD τ) E.arg18.view Finset.univ ∗ Any (c : Thread nD τ) E.arg19.view Finset.univ ∗ Ow c)
      ⊢ wp frame (wpE (defs₀ (F := F)) Variants.nat (c : Thread nD τ) none) Set.univ
          (k0_part37 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i (Scf.iv 0#32 1#32 i) (BitVec.ofNat 32 (512 * i.val)) (BitVec.ofNat 32 a.val) (BitVec.ofNat 32 (a.val + d.val + 1)) hw v59)
          (fun r => iprop(⌜r = ⟨⟩⌝ ∗ iprop(At (c : Thread nD τ) E.arg13.view fullShare (plane (i.val % 2)) (I.xC i.val)
              ∗ At (c : Thread nD τ) E.arg5.view (shareTokN fullShare (i.val % 2)) Finset.univ I.X ∗ semVal ((c : Thread nD τ), .dma (xsem E (i.val % 2))) 0
              ∗ Linv c E I (i.val + 1) ∗ Fix c E I ∗ Off c E I ∗ At (c : Thread nD τ) E.arg18.view fullShare Finset.univ (I.bgF i.val)
              ∗ At (c : Thread nD τ) E.arg19.view fullShare (below keyP 1) (I.Lt i.val) ∗ Any (c : Thread nD τ) E.arg19.view (above keyP 1) ∗ Ow c))) := by
  have hi : i.val < 24 := i.isLt
  have hN0 : 0 < Nl E := sig.dmaCredit_pos _ _ _ _ _ (by rw [Shape.numel]; simp [Fin.prod_univ_succ])
  have hsem : ((E.arg23.slice (Rect.unit (s := S2) (k0_off55 i) S1.size (k0_off55_inb i))).squeeze S_ squeezes_S1_S_).sem = xsem E (i.val % 2) :=
    sem_at _ _ _ _ (emb1 _ (by rw [og55]; simp))
  have htr := t5_trips a d
  have ht6 := t6_none a d
  have hl := hi_le G i.val hi
  have eb : I.bg i.val a.val (d.val + 1) = I.bgF i.val := by unfold In.bgF; rw [← ha, ← hd]; congr 1; omega
  have el : I.lc i.val a.val (d.val + 1) = I.lcF i.val := by unfold In.lcF; rw [← ha, ← hd]; congr 1; omega
  have hsub := (set_all3 (n0 := 3) (n1 := 256) (n2 := 512) (inb := inb_S3x256x512_S3x256x512_0_0_0))
  have hsub2 := (set_all3 (n0 := 3) (n1 := 32) (n2 := 512) (inb := inb_S3x32x512_S3x32x512_0_0_0))
  have hH : Sub (Val := Elt F) (c : Thread nD τ) E.arg11 (E.arg11.slice (Rect.unit (s := S3x32x12288) (k0_off157 i) S3x32x512.size (k0_off157_inb i)) (fun _ => rfl)) (only keyH i.val)
      (Rect.unit (s := S3x32x12288) (k0_off157 i) S3x32x512.size (k0_off157_inb i)).emb := H_set i ▸ Sub.slice (c : Thread nD τ) E.arg11 _ _
  rw [k0_part37_eq_skeleton]
  unfold k0_part37_skel xNext
  rw [if_pos hi]
  iintro ⟨HX, ⟨HL, HH, HHa⟩, ⟨HTb, Hrk, Hsc, HA, H16, Hcells, H20⟩, Hof, H18, H19, HO⟩
  iapply (wp_wt (c : Thread nD τ) Variants.nat none (N := Nx E) (xsem E (i.val % 2)) hsem rfl) $$ [HX HO]
  · isplitl [HX] <;> iassumption
  iintro ⟨⟨HX, HT⟩, Hc, HO⟩
  iapply (l_done c E I i) $$ [HL HH HO]
  · isplitl [HL]; · iexact HL
    isplitl [HH] <;> iassumption
  iintro ⟨⟨HL, HLc⟩, HH, HO⟩
  iapply (wp_ldA (c : Thread nD τ) Variants.nat none (Finset.subset_univ _)) $$ H18
  iintro %_ H18
  iapply (wp_stA (c : Thread nD τ) Variants.nat none (k0_pay99 (F := F)) hsub (fun x => congrArg (k0_pay99 (F := F)) (emb_all3 x))) $$ H18
  iintro H18
  iapply (wp_ldA (c : Thread nD τ) Variants.nat none (Finset.subset_univ _)) $$ HL
  iintro %_ HL
  iapply (wp_stA (c : Thread nD τ) Variants.nat none (k0_pay100 (F := F)) hsub2 (fun x => congrArg (k0_pay100 (F := F)) (emb_all3 x))) $$ HL
  iintro HL
  iapply (Scf.wp_for_bind _ _ _ _ _ _ _ _ _ (fun n _ => T5inv c E I i.val a.val n)
    (fun t u => t5_step c E I Variants.nat none G a d hw t (by have h : t.val < d.val + 1 := lt_of_lt_of_eq t.isLt htr; omega) i _ v59 u)) $$ [HTb Hrk Hsc HA H16 Hcells H20 Hof HX H18 HL HO]
  · unfold T5inv
    isplitl [HTb]; · iexact HTb
    isplitl [Hrk]; · iexact Hrk
    isplitl [Hsc]; · iexact Hsc
    isplitl [Hof]; · iexact Hof
    isplitl [HA]; · iexact HA
    isplitl [HX]; · iexact HX
    isplitl [H16]; · iexact H16
    isplitl [Hcells]; · iexact Hcells
    isplitl [H20]; · iexact H20
    isplitl [H18]; · iapply (ent_of_eq (congrArg (At (c : Thread nD τ) E.arg18.view fullShare Finset.univ) (show k0_pay99 (F := F) = mix (keyB (40 * (a.val + 0 - min a.val 13))) 0 (I.bg i.val a.val 0) (I.bg i.val a.val (0 + 1)) from (mix_zero (A := I.bg i.val a.val 0)).symm))) $$ H18
    isplitl [HL]; · iapply (ent_of_eq (congrArg (At (c : Thread nD τ) E.arg21.view fullShare Finset.univ) (show k0_pay100 (F := F) = mix keyL 0 (I.lc i.val a.val 0) (I.lc i.val a.val (0 + 1)) from (mix_zero (A := I.lc i.val a.val 0)).symm))) $$ HL
    iexact HO
  iintro %acc HI
  ihave HI := (ent_of_eq (congrArg (T5inv c E I i.val a.val) htr)) $$ HI
  ihave HI := (show T5inv c E I i.val a.val (d.val + 1) ⊢ iprop(Tb c E I ∗ At (c : Thread nD τ) E.arg3.view fullShare Finset.univ I.rank ∗ scS c E I ∗ At (c : Thread nD τ) E.arg0.view fullShare Finset.univ I.off
    ∗ aAll c E I ∗ At (c : Thread nD τ) E.arg13.view fullShare (plane (i.val % 2)) (I.xC i.val)
    ∗ Any (c : Thread nD τ) E.arg16.view Finset.univ ∗ Rg (aCell c E) 0 8
    ∗ Any (c : Thread nD τ) E.arg20.view Finset.univ ∗ bgS c E I i.val a.val (d.val + 1) 0 ∗ loS c E I i.val a.val (d.val + 1) 0 ∗ Ow c) from .rfl) $$ HI
  icases HI with ⟨HTb, Hrk, Hsc, Hof, HA, HX, H16, Hcells, H20, H18, HL, HO⟩
  ihave H18 := (ent_of_eq (congrArg (At (c : Thread nD τ) E.arg18.view fullShare Finset.univ) (mix_zero.trans eb))) $$ H18
  ihave HL := (ent_of_eq (congrArg (At (c : Thread nD τ) E.arg21.view fullShare Finset.univ) (mix_zero.trans el))) $$ HL
  iapply (Scf.wp_for_bind _ _ _ _ _ _ _ _ _ (fun _ _ => (iprop(emp) : sProp 𝕄)) (fun t u => absurd (lt_of_lt_of_eq t.isLt ht6) (Nat.not_lt_zero _))) $$ []
  · iempintro
  iintro %acc2 -
  ihave HHa := (above_take (c : Thread nD τ)) $$ HHa
  icases HHa with ⟨HHo, HHa⟩
  iapply (wp_cpG (c : Thread nD τ) Variants.nat none (Sub.whole (c : Thread nD τ) E.arg21) hH (SemLoc.dma E.arg29.sem) rfl (Finset.subset_univ _) (H_in I i) (Nl E) rfl hN0) $$ [HL HHo HLc]
  · isplitl [HL]; · iexact HL
    isplitl [HHo] <;> iassumption
  iintro HF
  iapply (wp_ld (c : Thread nD τ) Variants.nat none (X := I.bgF i.val) (Finset.subset_univ _)) $$ H18
  iintro H18
  iapply (wp_ldA (c : Thread nD τ) Variants.nat none (Finset.subset_univ _)) $$ H19
  iintro %_ H19
  ihave H19 := (ent_of_eq (congrArg (Any (c : Thread nD τ) E.arg19.view) (above_zero keyP).symm)) $$ H19
  iapply (wp_fill (c : Thread nD τ) Variants.nat none (key := keyP) (n := 0) (I.Lt i.val) (P_set 0) (P_in I i.val 0 (by decide))) $$ [H19]
  · isplitr [H19]
    · iapply (ent_of_eq (congrArg (fun S => At (c : Thread nD τ) E.arg19.view fullShare S (I.Lt i.val)) (below_zero keyP).symm))
      iapply (ent_of_eq (At_empty (c : Thread nD τ)).symm)
      iempintro
    iexact H19
  iintro ⟨H19, H19a⟩
  iapply (wp_done (c : Thread nD τ) Variants.nat none)
  isplitr [HX HT Hc HF HH HHa HTb Hrk Hsc HA H16 Hcells H20 Hof H18 H19 H19a HO]
  · ipureintro; rfl
  isplitl [HX]; · iexact HX
  isplitl [HT]; · iexact HT
  isplitl [Hc]; · iexact Hc
  isplitl [HF HH HHa]
  · isplitl [HF]
    · iapply (ent_of_eq (show lBusy c E I i.val = lSt c E I (i.val + 1) from (if_neg (Nat.succ_ne_zero _)).symm)) $$ HF
    isplitl [HH]; · iexact HH
    iexact HHa
  isplitl [HTb Hrk Hsc HA H16 Hcells H20]
  · isplitl [HTb]; · iexact HTb
    isplitl [Hrk]; · iexact Hrk
    isplitl [Hsc]; · iexact Hsc
    isplitl [HA]; · iexact HA
    isplitl [H16]; · iexact H16
    isplitl [Hcells] <;> iassumption
  isplitl [Hof]; · iexact Hof
  isplitl [H18]; · iexact H18
  isplitl [H19]; · iexact H19
  isplitl [H19a] <;> iassumption

theorem t7_trips : Scf.trips k0_t7_loop.lb k0_t7_loop.ub k0_t7_loop.st = 16 := by decide +kernel

/-- Before tile `i`. -/
def T4inv (i : ℕ) (w : BitVec 32) : sProp 𝕄 :=
  iprop(⌜w = BitVec.ofNat 32 (I.car i)⌝ ∗ xNext c E I i ∗ xIdle c E I ((i + 1) % 2) ∗ Linv c E I i ∗ Fix c E I ∗ Off c E I
    ∗ Any (c : Thread nD τ) E.arg18.view Finset.univ ∗ Any (c : Thread nD τ) E.arg19.view Finset.univ
    ∗ At (c : Thread nD τ) E.arg12.view fullShare Finset.univ I.W ∗ At (c : Thread nD τ) E.arg17.view fullShare Finset.univ I.Bv
    ∗ Yinv c E I.Yv (16 * i) ∗ Ow c)

theorem Yv_at (i : Fin k0_t4_loop.trips) (a : Fin 19) (ha : a.val = I.lo i.val) (j : ℕ) (hj : j < 16) (r : S12288x8192.Idx) (h0 : (r 0).val / 512 = i.val) (h1 : (r 1).val / 512 = j) :
    I.Yv r = ytile I i.val j (I.Lt i.val) a.val (ix3 0 (Fin.ofNat 512 (r 0).val) (Fin.ofNat 512 (r 1).val)) := by
  unfold In.Yv
  rw [h0, h1, ha]

include G in
/-- A tile. -/
theorem t4_step (i : Fin k0_t4_loop.trips) (w : BitVec 32) :
    T4inv c E I i.val w ⊢ wp frame (wpE (defs₀ (F := F)) Variants.nat (c : Thread nD τ) none) Set.univ (E.t4 (F := F) i w) (fun w' => T4inv c E I (i.val + 1) w') := by
  have hi : i.val < 24 := i.isLt
  have h1 := lo_le G i.val hi
  have h2 := (hi_mem G i.val hi).1
  have h3 := hi_near G i.val hi
  have h4 := hi_le G i.val hi
  obtain ⟨a, ha⟩ : ∃ a : Fin 19, a.val = I.lo i.val := ⟨⟨I.lo i.val, by omega⟩, rfl⟩
  obtain ⟨d, hd⟩ : ∃ d : Fin 6, a.val + d.val + 1 = I.hi i.val := ⟨⟨I.hi i.val - I.lo i.val - 1, by omega⟩, by rw [ha]; show I.lo i.val + (I.hi i.val - I.lo i.val - 1) + 1 = _; omega⟩
  unfold T4inv Env.t4 k0_t4_body
  iintro ⟨%hw, HX, HXi, HL, HF, Hof, H18, H19, HW, HB, HY, HO⟩
  subst hw
  iapply (wp_part (c : Thread nD τ) Variants.nat none _ (part36_spec c E I G i a d ha hd)) $$ [HXi Hof]
  · isplitl [HXi] <;> iassumption
  iintro ⟨HXn, Hof⟩
  iapply (wp_part (c : Thread nD τ) Variants.nat none _ (part37_spec c E I G i a d ha hd _ _)) $$ [HX HL HF Hof H18 H19 HO]
  · isplitl [HX]; · iexact HX
    isplitl [HL]; · iexact HL
    isplitl [HF]; · iexact HF
    isplitl [Hof]; · iexact Hof
    isplitl [H18]; · iexact H18
    isplitl [H19] <;> iassumption
  iintro ⟨HX, HT, Hc, HL, HF, Hof, H18, H19, H19a, HO⟩
  iapply (wp_ld (c : Thread nD τ) Variants.nat none (X := I.bgF i.val) (Finset.subset_univ _)) $$ H18
  iintro H18
  iapply (wp_ldA (c : Thread nD τ) Variants.nat none (P_sub 1)) $$ H19a
  iintro %_ H19a
  iapply (wp_fill (c : Thread nD τ) Variants.nat none (key := keyP) (n := 1) (I.Lt i.val) (P_set 1) (P_in I i.val 1 (by decide))) $$ [H19 H19a]
  · isplitl [H19] <;> iassumption
  iintro ⟨H19, H19a⟩
  iapply (wp_ld (c : Thread nD τ) Variants.nat none (X := I.bgF i.val) (Finset.subset_univ _)) $$ H18
  iintro H18
  iapply (wp_ldA (c : Thread nD τ) Variants.nat none (P_sub 2)) $$ H19a
  iintro %_ H19a
  iapply (wp_fill (c : Thread nD τ) Variants.nat none (key := keyP) (n := 2) (I.Lt i.val) (P_set 2) (P_in I i.val 2 (by decide))) $$ [H19 H19a]
  · isplitl [H19] <;> iassumption
  iintro ⟨H19, H19a⟩
  ihave H19 := (ent_of_eq (congrArg (fun S => At (c : Thread nD τ) E.arg19.view fullShare S (I.Lt i.val)) (below_all keyP 3 (fun y => (y 0).isLt)))) $$ H19
  iapply (Scf.wp_for_bind _ _ _ _ _ _ _ _ _ (fun n _ => T7inv c E I I.Yv (I.Lt i.val) i.val n)
    (fun t u => t7_step c E I I.Yv Variants.nat none (I.Lt i.val) i a _ _ (fun j hj r => Yv_at I i a ha j hj r) t u)) $$ [HX HW H19 HB HY HO]
  · unfold T7inv
    isplitl [HX]; · iexact HX
    isplitl [HW]; · iexact HW
    isplitl [H19]; · iexact H19
    isplitl [HB]; · iexact HB
    isplitl [HY]; · iexact HY
    iexact HO
  iintro %acc HI
  ihave HI := (ent_of_eq (congrArg (T7inv c E I I.Yv (I.Lt i.val) i.val) t7_trips)) $$ HI
  ihave HI := (show T7inv c E I I.Yv (I.Lt i.val) i.val 16 ⊢ iprop(At (c : Thread nD τ) E.arg13.view fullShare (plane (i.val % 2)) (I.xC i.val) ∗ At (c : Thread nD τ) E.arg12.view fullShare Finset.univ I.W
    ∗ At (c : Thread nD τ) E.arg19.view fullShare Finset.univ (I.Lt i.val) ∗ At (c : Thread nD τ) E.arg17.view fullShare Finset.univ I.Bv
    ∗ Yinv c E I.Yv (16 * i.val + 16) ∗ Ow c) from .rfl) $$ HI
  icases HI with ⟨HX, HW, H19, HB, HY, HO⟩
  iapply (wp_done (c : Thread nD τ) Variants.nat none)
  isplitr [HX HXn HT Hc HL HF Hof H18 H19 H19a HW HB HY HO]
  · ipureintro
    rw [ha]
    rfl
  isplitl [HXn]; · iexact HXn
  isplitl [HX HT Hc]
  · iapply (ent_of_eq (congrArg (xIdle c E I) (show i.val % 2 = (i.val + 1 + 1) % 2 by omega)))
    isplitl [HT]; · iexact HT
    isplitl [HX]; · iapply (Any_of_At (c : Thread nD τ)) $$ HX
    iexact Hc
  isplitl [HL]; · iexact HL
  isplitl [HF]; · iexact HF
  isplitl [Hof]; · iexact Hof
  isplitl [H18]; · iapply (Any_of_At (c : Thread nD τ)) $$ H18
  isplitl [H19]; · iapply (Any_of_At (c : Thread nD τ)) $$ H19
  isplitl [HW]; · iexact HW
  isplitl [HB]; · iexact HB
  isplitl [HY]; · iexact HY
  iexact HO

end Cert.Kernel.Hand

end
-- ==== Proof.Run.K.Body.lean ====
/-
  The loop that decodes the packed weights: sixteen blocks of words arrive in turn in two slots; each is decoded,
  scaled group by group and stored in the resident weight.
-/
module

public import proofs.«01_k».proof.Proof.Run.K.T4

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

section Planes
variable {n1 n2 : ℕ}

theorem plane_disj {n0 p q : ℕ} (h : p ≠ q) : Disjoint (plane p : Finset (⟨3, ![n0, n1, n2]⟩ : Shape).Idx) (plane q) := by
  rw [Finset.disjoint_left]; intro i hp hq
  rw [mem_plane] at hp hq
  omega

theorem univ_two : (Finset.univ : Finset (⟨3, ![2, n1, n2]⟩ : Shape).Idx) = plane 0 ∪ plane 1 := by
  ext i
  have h : (i 0).val < 2 := (i 0).isLt
  rw [Finset.mem_union, mem_plane, mem_plane]
  simp only [Finset.mem_univ, true_iff]
  omega

/-- The planes from `p` on. -/
abbrev planesFrom {n0 : ℕ} (p : ℕ) : Finset (⟨3, ![n0, n1, n2]⟩ : Shape).Idx := above (fun i => (i 0).val) p

theorem univ_from {n0 : ℕ} : (Finset.univ : Finset (⟨3, ![n0, n1, n2]⟩ : Shape).Idx) = plane 0 ∪ planesFrom 1 := by
  rw [← above_zero (fun i : (⟨3, ![n0, n1, n2]⟩ : Shape).Idx => (i 0).val)]
  exact above_succ _ 0

theorem from_last {n0 p : ℕ} (h : n0 = p + 1) : (planesFrom p : Finset (⟨3, ![n0, n1, n2]⟩ : Shape).Idx) = plane p := by
  subst h
  ext i
  have h : (i 0).val < p + 1 := (i 0).isLt
  simp only [above, only, Finset.mem_filter, Finset.mem_univ, _root_.true_and]
  omega

theorem from_disj {n0 p : ℕ} : Disjoint (plane p : Finset (⟨3, ![n0, n1, n2]⟩ : Shape).Idx) (planesFrom (p + 1)) := above_disj _ p
theorem from_succ {n0 p : ℕ} : (planesFrom p : Finset (⟨3, ![n0, n1, n2]⟩ : Shape).Idx) = plane p ∪ planesFrom (p + 1) := above_succ _ p

variable (c : Thread nD τ) {sp : Space} {e : EltTy}

theorem two_of {v : View sig c.2.kind sp ⟨3, ![2, n1, n2]⟩ e} : (Any c v Finset.univ : sProp 𝕄) ⊢ iprop(Any c v (plane 0) ∗ Any c v (plane 1)) :=
  Any_split c univ_two (plane_disj (by decide))

theorem of_two {v : View sig c.2.kind sp ⟨3, ![2, n1, n2]⟩ e} : iprop(Any c v (plane 0) ∗ Any c v (plane 1)) ⊢ (Any c v Finset.univ : sProp 𝕄) :=
  Any_join c univ_two (plane_disj (by decide))

theorem four_of {v : View sig c.2.kind sp ⟨3, ![4, n1, n2]⟩ e} :
    (Any c v Finset.univ : sProp 𝕄) ⊢ iprop(Any c v (plane 0) ∗ Any c v (plane 1) ∗ Any c v (plane 2) ∗ Any c v (plane 3)) := by
  iintro H
  ihave H := (Any_split c univ_from from_disj) $$ H
  icases H with ⟨H0, H⟩
  ihave H := (Any_split c from_succ from_disj) $$ H
  icases H with ⟨H1, H⟩
  ihave H := (Any_split c from_succ from_disj) $$ H
  icases H with ⟨H2, H⟩
  ihave H := (ent_of_eq (congrArg (Any c v) (from_last (n0 := 4) (p := 3) rfl))) $$ H
  isplitl [H0]; · iexact H0
  isplitl [H1]; · iexact H1
  isplitl [H2] <;> iassumption

theorem of_four {v : View sig c.2.kind sp ⟨3, ![4, n1, n2]⟩ e} :
    iprop(Any c v (plane 0) ∗ Any c v (plane 1) ∗ Any c v (plane 2) ∗ Any c v (plane 3)) ⊢ (Any c v Finset.univ : sProp 𝕄) := by
  iintro ⟨H0, H1, H2, H⟩
  ihave H := (ent_of_eq (congrArg (Any c v) (from_last (n0 := 4) (p := 3) rfl).symm)) $$ H
  ihave H := (Any_join c from_succ from_disj) $$ [H2 H]
  · isplitl [H2] <;> iassumption
  ihave H := (Any_join c from_succ from_disj) $$ [H1 H]
  · isplitl [H1] <;> iassumption
  iapply (Any_join c univ_from from_disj)
  isplitl [H0] <;> iassumption

theorem three_of {v : View sig c.2.kind sp ⟨3, ![3, n1, n2]⟩ e} {q : PosShare TreeShare} {X} :
    (At c v q Finset.univ X : sProp 𝕄) ⊣⊢ iprop(At c v q (plane 0) X ∗ At c v q (plane 1) X ∗ At c v q (plane 2) X) := by
  constructor
  · iintro H
    ihave H := (At_split c univ_from from_disj).1 $$ H
    icases H with ⟨H0, H⟩
    ihave H := (At_split c from_succ from_disj).1 $$ H
    icases H with ⟨H1, H⟩
    ihave H := (ent_of_eq (congrArg (fun S => At c v q S X) (from_last (n0 := 3) (p := 2) rfl))) $$ H
    isplitl [H0]; · iexact H0
    isplitl [H1] <;> iassumption
  · iintro ⟨H0, H1, H⟩
    ihave H := (ent_of_eq (congrArg (fun S => At c v q S X) (from_last (n0 := 3) (p := 2) rfl).symm)) $$ H
    ihave H := (At_split c from_succ from_disj).2 $$ [H1 H]
    · isplitl [H1] <;> iassumption
    iapply (At_split c univ_from from_disj).2
    isplitl [H0] <;> iassumption

/-- A buffer lent out twice. -/
theorem lend_two {s : Shape} {v : View sig c.2.kind sp s e} {S} {X} :
    (At c v fullShare S X : sProp 𝕄) ⊣⊢ iprop(At c v (shareDrop fullShare 2) S X ∗ At c v (shareTokN fullShare 0) S X ∗ At c v (shareTokN fullShare 1) S X) := by
  constructor
  · iintro H
    ihave H := (ent_of_eq (show (At c v fullShare S X : sProp 𝕄) = At c v (shareDrop fullShare 0) S X from rfl)) $$ H
    ihave H := (At_drop c).1 $$ H
    icases H with ⟨H, H0⟩
    ihave H := (At_drop c).1 $$ H
    icases H with ⟨H, H1⟩
    isplitl [H]; · iexact H
    isplitl [H0] <;> iassumption
  · iintro ⟨H, H0, H1⟩
    ihave H := (At_drop c).2 $$ [H H1]
    · isplitl [H] <;> iassumption
    ihave H := (At_drop c).2 $$ [H H0]
    · isplitl [H] <;> iassumption
    iexact H
end Planes

variable (c : Dev nD) (E : Env) (I : In F)

/-- The five tables. -/
abbrev Tabs : sProp 𝕄 := iprop(At (c : Thread nD τ) E.arg0.view fullShare Finset.univ I.off ∗ At (c : Thread nD τ) E.arg1.view fullShare Finset.univ I.seg ∗ At (c : Thread nD τ) E.arg2.view fullShare Finset.univ I.start ∗ At (c : Thread nD τ) E.arg3.view fullShare Finset.univ I.rank ∗ At (c : Thread nD τ) E.arg4.view fullShare Finset.univ I.scal)
/-- The five operands read by copies. -/
abbrev Opnds : sProp 𝕄 := iprop(At (c : Thread nD τ) E.arg5.view fullShare Finset.univ I.X ∗ At (c : Thread nD τ) E.arg6.view fullShare Finset.univ I.WP ∗ At (c : Thread nD τ) E.arg7.view fullShare Finset.univ I.WS ∗ At (c : Thread nD τ) E.arg8.view fullShare Finset.univ I.A ∗ At (c : Thread nD τ) E.arg9.view fullShare Finset.univ I.B)
/-- The scratch buffers, whatever they hold. -/
abbrev Scrs : sProp 𝕄 := iprop(Any (c : Thread nD τ) E.arg12.view Finset.univ ∗ Any (c : Thread nD τ) E.arg13.view Finset.univ ∗ Any (c : Thread nD τ) E.arg14.view Finset.univ ∗ Any (c : Thread nD τ) E.arg15.view Finset.univ ∗ Any (c : Thread nD τ) E.arg16.view Finset.univ ∗ Any (c : Thread nD τ) E.arg17.view Finset.univ ∗ Any (c : Thread nD τ) E.arg18.view Finset.univ ∗ Any (c : Thread nD τ) E.arg19.view Finset.univ ∗ Any (c : Thread nD τ) E.arg20.view Finset.univ ∗ Any (c : Thread nD τ) E.arg21.view Finset.univ ∗ Any (c : Thread nD τ) E.arg22.view Finset.univ)
/-- The cells, all at zero. -/
abbrev Cells : sProp 𝕄 := iprop(semVal ((c : Thread nD τ), .dma (xsem E 0)) 0 ∗ semVal ((c : Thread nD τ), .dma (xsem E 1)) 0 ∗ semVal ((c : Thread nD τ), .dma (wsem E 0)) 0 ∗ semVal ((c : Thread nD τ), .dma (wsem E 1)) 0 ∗ semVal ((c : Thread nD τ), .dma (E.arg25.sem)) 0 ∗ Rg (aCell c E) 0 8 ∗ Rg (bCell c E) 0 19 ∗ semVal ((c : Thread nD τ), .dma (ysem E 0)) 0 ∗ semVal ((c : Thread nD τ), .dma (ysem E 1)) 0 ∗ semVal ((c : Thread nD τ), .dma (ysem E 2)) 0 ∗ semVal ((c : Thread nD τ), .dma (ysem E 3)) 0 ∗ semVal ((c : Thread nD τ), .dma (E.arg29.sem)) 0)
/-- What the body starts from. -/
abbrev BodyPre : sProp 𝕄 := iprop(Tabs c E I ∗ Opnds c E I ∗ Any (c : Thread nD τ) E.arg10.view Finset.univ ∗ Any (c : Thread nD τ) E.arg11.view Finset.univ ∗ Scrs (F := F) c E ∗ Cells (F := F) c E ∗ Ow c)
/-- What the body ends with. -/
abbrev BodyPost : sProp 𝕄 := iprop(Tabs c E I ∗ Opnds c E I ∗ At (c : Thread nD τ) E.arg10.view fullShare Finset.univ I.Yv ∗ At (c : Thread nD τ) E.arg11.view fullShare Finset.univ I.LH ∗ Scrs (F := F) c E ∗ Cells (F := F) c E ∗ Ow c)

theorem B_set : (Rect.unit (s := S776x8192) ![760, 0] S16x8192.size inb_S776x8192_S16x8192_760_0).set = rowsB 760 776 := by
  ext z
  rw [mem2 rfl rfl]
  have h0 : (z 0).val < 776 := (z 0).isLt
  have h1 : (z 1).val < 8192 := (z 1).isLt
  simp only [rowsB, Finset.mem_filter, Finset.mem_univ, _root_.true_and]
  omega

theorem B_in (x : (Rect.unit (s := S776x8192) ![760, 0] S16x8192.size inb_S776x8192_S16x8192_760_0).shape.Idx) :
    I.Bv ((Rect.unit (s := S776x8192) ![760, 0] S16x8192.size inb_S776x8192_S16x8192_760_0).emb x) = k0_pay102 (F := F) x := by
  have h0 : (((Rect.unit (s := S776x8192) ![760, 0] S16x8192.size inb_S776x8192_S16x8192_760_0).emb x) 0).val = 760 + (x 0).val := (emb_val 0).trans rfl
  have h1 : (((Rect.unit (s := S776x8192) ![760, 0] S16x8192.size inb_S776x8192_S16x8192_760_0).emb x) 1).val = 0 + (x 1).val := (emb_val 1).trans rfl
  have hx : (x 0).val < 16 := (x 0).isLt
  unfold In.Bv
  rw [if_neg (by rw [h0]; omega)]
  refine congrArg (k0_pay102 (F := F)) (ext2 ?_ ?_)
  · show (_ - 760) % 16 = (x 0).val
    rw [h0]; omega
  · exact h1.trans (Nat.zero_add _)

theorem B_univ : (Finset.univ : Finset S776x8192.Idx) = rowsB 0 760 ∪ rowsB 760 776 := by
  rw [← rowsB_split 0 760 776 (by decide) (by decide)]
  ext z
  have h0 : (z 0).val < 776 := (z 0).isLt
  simp [rowsB, h0]

theorem B_disj : Disjoint (rowsB 0 760) (rowsB 760 776) := by
  rw [Finset.disjoint_left]; intro i
  simp only [rowsB, Finset.mem_filter, Finset.mem_univ, _root_.true_and]
  omega

theorem t1_trips : Scf.trips k0_t1_loop.lb k0_t1_loop.ub k0_t1_loop.st = 19 := by decide +kernel
theorem t2_trips : Scf.trips k0_t2_loop.lb k0_t2_loop.ub k0_t2_loop.st = 16 := by decide +kernel
theorem t3_trips : Scf.trips k0_t3_loop.lb k0_t3_loop.ub k0_t3_loop.st = 19 := by decide +kernel
theorem t4_trips : Scf.trips k0_t4_loop.lb k0_t4_loop.ub k0_t4_loop.st = 24 := by decide +kernel

/-- What is left aside by the loop over the tiles. -/
abbrev Aside : sProp 𝕄 := iprop(At (c : Thread nD τ) E.arg5.view (shareDrop fullShare 2) Finset.univ I.X ∗ At (c : Thread nD τ) E.arg6.view fullShare Finset.univ I.WP ∗ At (c : Thread nD τ) E.arg7.view fullShare Finset.univ I.WS ∗ At (c : Thread nD τ) E.arg9.view fullShare Finset.univ I.B
  ∗ Any (c : Thread nD τ) E.arg14.view Finset.univ ∗ Any (c : Thread nD τ) E.arg15.view Finset.univ ∗ semVal ((c : Thread nD τ), .dma (wsem E 0)) 0 ∗ semVal ((c : Thread nD τ), .dma (wsem E 1)) 0 ∗ semVal ((c : Thread nD τ), .dma (E.arg25.sem)) 0 ∗ Rg (bCell c E) 0 19)

variable {I} (G : Good I)
include G

/-- The first part of the body: everything but the last waits. -/
theorem part38_spec :
    BodyPre c E I
      ⊢ wp frame (wpE (defs₀ (F := F)) Variants.nat (c : Thread nD τ) none) Set.univ
          (k0_part38 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun r => iprop(⌜r = ⟨⟩⌝ ∗ iprop((∃ w, T4inv c E I 24 w) ∗ Aside c E I))) := by
  have hx0 : ((E.arg23.slice (Rect.unit (s := S2) ![0] S1.size inb_S2_S1_0)).squeeze S_ squeezes_S1_S_).sem = xsem E 0 :=
    sem_at _ _ _ _ (emb1 _ (by simp))
  have hw0 : ((E.arg24.slice (Rect.unit (s := S2) ![0] S1.size inb_S2_S1_0)).squeeze S_ squeezes_S1_S_).sem = wsem E 0 :=
    sem_at _ _ _ _ (emb1 _ (by simp))
  have hNx : 0 < Nx E := sig.dmaCredit_pos _ _ _ _ _ (by rw [Shape.numel]; simp [Fin.prod_univ_succ])
  have hNw : 0 < Nw E := sig.dmaCredit_pos _ _ _ _ _ (by rw [Shape.numel]; simp [Fin.prod_univ_succ])
  have hNs : 0 < sig.dmaCredit .tc (Kind.table .tc .vmem) E.arg15.view.buf S16x8192 .bf16 := sig.dmaCredit_pos _ _ _ _ _ (by rw [Shape.numel]; simp [Fin.prod_univ_succ])
  rw [k0_part38_eq_skeleton]
  unfold k0_part38_skel
  iintro ⟨⟨H0, H1, H2, H3, H4⟩, ⟨H5, H6, H7, H8, H9⟩, H10, H11, ⟨H12, H13, H14, H15, H16, H17, H18, H19, H20, H21, H22⟩, ⟨X0, X1, W0, W1, S0, CA, CB, Y0, Y1, Y2, Y3, L0⟩, HO⟩
  ihave H5 := (lend_two (c : Thread nD τ)).1 $$ H5
  icases H5 with ⟨H5, H5a, H5b⟩
  ihave H6 := (lend_two (c : Thread nD τ)).1 $$ H6
  icases H6 with ⟨H6, H6a, H6b⟩
  ihave H8 := (three_of (c : Thread nD τ)).1 $$ H8
  ihave H13 := (two_of (c : Thread nD τ)) $$ H13
  icases H13 with ⟨H13a, H13b⟩
  ihave H14 := (two_of (c : Thread nD τ)) $$ H14
  icases H14 with ⟨H14a, H14b⟩
  ihave H22 := (four_of (c : Thread nD τ)) $$ H22
  icases H22 with ⟨H22a, H22b, H22c, H22d⟩
  iapply (ring_start (c : Thread nD τ) Variants.nat none (ms := E.arg5) (md := E.arg13) (X := I.X) (Y := I.xC 0) (p := 0) (ps := 0) (rs := 0) rfl rfl rfl rfl _ (congrArg SemLoc.dma hx0) ?_ (Nx E) rfl hNx) $$ [H5a H13a X0]
  · intro i j h0 h1 h2
    have e1 : (i 1).val < 512 := (i 1).isLt
    refine congrArg I.X (ext2 ?_ ?_)
    · show (512 * 0 + (i 1).val) % 12288 = _
      rw [h1]; omega
    · rw [h2]; exact (Nat.zero_add _).symm
  · isplitl [H5a]; · iexact H5a
    isplitl [H13a] <;> iassumption
  iintro XB
  iapply (ring_start (c : Thread nD τ) Variants.nat none (ms := E.arg6) (md := E.arg14) (X := I.WP) (Y := I.wC 0) (p := 0) (ps := 0) (rs := 0) rfl rfl rfl rfl _ (congrArg SemLoc.dma hw0) ?_ (Nw E) rfl hNw) $$ [H6a H14a W0]
  · intro i j h0 h1 h2
    have e1 : (i 2).val < 512 := (i 2).isLt
    refine congrArg I.WP (ext2 ?_ ?_)
    · rw [h1]; exact (Nat.zero_add _).symm
    · show (512 * 0 + (i 2).val) % 8192 = _
      rw [h2]; omega
  · isplitl [H6a]; · iexact H6a
    isplitl [H14a] <;> iassumption
  iintro WB
  iapply (wp_cpG (c : Thread nD τ) Variants.nat none (ms := E.arg7) (md := E.arg15) (X := I.WS) (Y := I.WS) (Sub.whole (c : Thread nD τ) _) (Sub.whole (c : Thread nD τ) _) (.dma E.arg25.sem) rfl (le_refl _) (fun _ => rfl) (sig.dmaCredit .tc (Kind.table .tc .vmem) E.arg15.view.buf S16x8192 .bf16) rfl hNs) $$ [H7 H15 S0]
  · isplitl [H7]; · iexact H7
    isplitl [H15] <;> iassumption
  iintro SB
  ihave H17 := (Any_split (c : Thread nD τ) B_univ B_disj) $$ H17
  icases H17 with ⟨H17, H17z⟩
  iapply (Scf.wp_for_bind _ _ _ _ _ _ _ _ _ (fun n _ => T1inv c E I n) (fun t u => t1_step c E I Variants.nat none G t u)) $$ [H1 H2 H9 H17 CB]
  · unfold T1inv
    isplitl [H1]; · iexact H1
    isplitl [H2]; · iexact H2
    isplitl [H9]; · iexact H9
    isplitl [H17]; · iexact H17
    isplitl [CB]; · iexact CB
    iempintro
  iintro %acc HI
  ihave HI := (ent_of_eq (congrArg (T1inv c E I) t1_trips)) $$ HI
  ihave HI := (show T1inv c E I 19 ⊢ iprop(At (c : Thread nD τ) E.arg1.view fullShare Finset.univ I.seg ∗ At (c : Thread nD τ) E.arg2.view fullShare Finset.univ I.start ∗ At (c : Thread nD τ) E.arg9.view (shareDrop fullShare 19) Finset.univ I.B ∗ Any (c : Thread nD τ) E.arg17.view (rowsB (40 * 19) 760) ∗ Rg (bCell c E) 19 0 ∗ Rg (bFlight c E I) 0 19) from .rfl) $$ HI
  icases HI with ⟨H1, H2, H9, H17, -, BF⟩
  iapply (wp_ldA (c : Thread nD τ) Variants.nat none (le_of_eq B_set)) $$ H17z
  iintro %_ H17z
  iapply (wp_stA (c : Thread nD τ) Variants.nat none I.Bv B_set (B_in I)) $$ H17z
  iintro H17z
  iapply (wp_wt (c : Thread nD τ) Variants.nat none E.arg25.sem rfl rfl) $$ [SB HO]
  · isplitl [SB] <;> iassumption
  iintro ⟨⟨H15, H7⟩, S0, HO⟩
  iapply (Scf.wp_for_bind _ _ _ _ _ _ _ _ _ (fun n _ => T2inv c E I n) (fun t u => t2_step c E I Variants.nat none t u)) $$ [WB H6b H14b W1 H15 H12 HO]
  · unfold T2inv Wp
    isplitl [WB]; · iapply (ent_of_eq (show wBusy c E I 0 0 = wNext c E I 0 from (if_pos (by decide)).symm)) $$ WB
    isplitl [H6b H14b W1]
    · isplitl [H6b]; · iexact H6b
      isplitl [H14b] <;> iassumption
    isplitl [H15 H12]
    · isplitl [H15]; · iexact H15
      isplitr [H12]
      · iapply (ent_of_eq (congrArg (fun S => At (c : Thread nD τ) E.arg12.view fullShare S I.W) (below_zero keyW)).symm)
        iapply (ent_of_eq (At_empty (c : Thread nD τ)).symm)
        iempintro
      iapply (ent_of_eq (congrArg (Any (c : Thread nD τ) E.arg12.view) (above_zero keyW)).symm) $$ H12
    iexact HO
  iintro %acc2 HI
  ihave HI := (ent_of_eq (congrArg (T2inv c E I) t2_trips)) $$ HI
  ihave HI := (show T2inv c E I 16 ⊢ iprop(wIdle c E I 0 ∗ wIdle c E I 1 ∗ (At (c : Thread nD τ) E.arg15.view fullShare Finset.univ I.WS ∗ At (c : Thread nD τ) E.arg12.view fullShare (below keyW 256) I.W ∗ Any (c : Thread nD τ) E.arg12.view (above keyW 256)) ∗ Ow c) from .rfl) $$ HI
  icases HI with ⟨⟨H6a, H14a, W0⟩, ⟨H6b, H14b, W1⟩, ⟨H15, H12, -⟩, HO⟩
  ihave H12 := (ent_of_eq (congrArg (fun S => At (c : Thread nD τ) E.arg12.view fullShare S I.W) (below_all keyW 256 (fun y => by
    have h0 : (y 0).val < 16 := (y 0).isLt
    have h1 : (y 1).val < 2048 := (y 1).isLt
    show 16 * (y 0).val + (y 1).val / 128 < 256
    omega)))) $$ H12
  iapply (Scf.wp_for_bind _ _ _ _ _ _ _ _ _ (fun n _ => T3inv c E I n) (fun t u => t3_step c E I Variants.nat none G t u)) $$ [H1 H2 H17 BF HO]
  · unfold T3inv
    isplitl [H1]; · iexact H1
    isplitl [H2]; · iexact H2
    isplitl [H17]
    · iapply (ent_of_eq (congrArg (fun S => At (c : Thread nD τ) E.arg17.view fullShare S I.Bv) (show rowsB (40 * 0) (40 * 0) = ∅ from by ext z; simp [rowsB])).symm)
      iapply (ent_of_eq (At_empty (c : Thread nD τ)).symm)
      iempintro
    isplitr [BF HO]; · iempintro
    isplitr [BF HO]; · iempintro
    isplitl [BF] <;> iassumption
  iintro %acc3 HI
  ihave HI := (ent_of_eq (congrArg (T3inv c E I) t3_trips)) $$ HI
  ihave HI := (show T3inv c E I 19 ⊢ iprop(At (c : Thread nD τ) E.arg1.view fullShare Finset.univ I.seg ∗ At (c : Thread nD τ) E.arg2.view fullShare Finset.univ I.start ∗ At (c : Thread nD τ) E.arg17.view fullShare (rowsB 0 760) I.Bv ∗ Rg (fun k => At (c : Thread nD τ) E.arg9.view (shareTokN fullShare k) Finset.univ I.B) 0 19 ∗ Rg (bCell c E) 0 19 ∗ Rg (bFlight c E I) 19 0 ∗ Ow c) from .rfl) $$ HI
  icases HI with ⟨H1, H2, H17, BT, CB, -, HO⟩
  ihave H17 := (At_split (c : Thread nD τ) B_univ B_disj).2 $$ [H17 H17z]
  · isplitl [H17] <;> iassumption
  ihave H9 := (At_rejoin (c : Thread nD τ) 19) $$ [H9 BT]
  · isplitl [H9] <;> iassumption
  iapply (Scf.wp_for_bind _ _ _ _ _ _ _ _ _ (fun n w => T4inv c E I n w) (fun t w => t4_step c E I G t w)) $$ [H0 H1 H2 H3 H4 XB H5b H13b X1 L0 H21 H11 H8 H16 CA H20 H18 H19 H12 H17 H22a H22b H22c H22d Y0 Y1 Y2 Y3 H10 HO]
  · unfold T4inv
    isplitr [H0 H1 H2 H3 H4 XB H5b H13b X1 L0 H21 H11 H8 H16 CA H20 H18 H19 H12 H17 H22a H22b H22c H22d Y0 Y1 Y2 Y3 H10 HO]
    · ipureintro; rfl
    isplitl [XB]; · iapply (ent_of_eq (show xBusy c E I 0 0 = xNext c E I 0 from (if_pos (by decide)).symm)) $$ XB
    isplitl [H5b H13b X1]
    · isplitl [H5b]; · iexact H5b
      isplitl [H13b] <;> iassumption
    isplitl [L0 H21 H11]
    · isplitl [L0 H21]
      · iapply (ent_of_eq (show lIdle c E = lSt c E I 0 from (if_pos rfl).symm))
        isplitl [H21] <;> iassumption
      isplitr [H11]
      · iapply (ent_of_eq (congrArg (fun S => At (c : Thread nD τ) E.arg11.view fullShare S I.LH) (below_zero keyH)).symm)
        iapply (ent_of_eq (At_empty (c : Thread nD τ)).symm)
        iempintro
      iapply (ent_of_eq (congrArg (Any (c : Thread nD τ) E.arg11.view) (above_zero keyH)).symm) $$ H11
    isplitl [H1 H2 H3 H4 H8 H16 CA H20]
    · isplitl [H1 H2]
      · isplitl [H1] <;> iassumption
      isplitl [H3]; · iexact H3
      isplitl [H4]; · iexact H4
      isplitl [H8]; · iexact H8
      isplitl [H16]; · iexact H16
      isplitl [CA] <;> iassumption
    isplitl [H0]; · iexact H0
    isplitl [H18]; · iexact H18
    isplitl [H19]; · iexact H19
    isplitl [H12]; · iexact H12
    isplitl [H17]; · iexact H17
    isplitl [H22a H22b H22c H22d Y0 Y1 Y2 Y3 H10]
    · iapply (show iprop(yIdle c E 0 ∗ yIdle c E 1 ∗ yIdle c E 2 ∗ yIdle c E 3 ∗ At (c : Thread nD τ) E.arg10.view fullShare (below keyY 0) I.Yv ∗ Any (c : Thread nD τ) E.arg10.view (above keyY 0)) ⊢ Yinv c E I.Yv (16 * 0) from .rfl)
      isplitl [H22a Y0]
      · isplitl [H22a] <;> iassumption
      isplitl [H22b Y1]
      · isplitl [H22b] <;> iassumption
      isplitl [H22c Y2]
      · isplitl [H22c] <;> iassumption
      isplitl [H22d Y3]
      · isplitl [H22d] <;> iassumption
      isplitr [H10]
      · iapply (ent_of_eq (congrArg (fun S => At (c : Thread nD τ) E.arg10.view fullShare S I.Yv) (below_zero keyY)).symm)
        iapply (ent_of_eq (At_empty (c : Thread nD τ)).symm)
        iempintro
      iapply (ent_of_eq (congrArg (Any (c : Thread nD τ) E.arg10.view) (above_zero keyY)).symm) $$ H10
    iexact HO
  iintro %acc4 HI
  ihave HI := (ent_of_eq (congrArg (fun n => T4inv c E I n acc4) t4_trips)) $$ HI
  iapply (wp_done (c : Thread nD τ) Variants.nat none)
  isplitr [HI H5 H6 H6a H6b H7 H9 H14a H14b H15 W0 W1 S0 CB]
  · ipureintro; rfl
  isplitl [HI]
  · iexists acc4; iexact HI
  isplitl [H5]; · iexact H5
  isplitl [H6 H6a H6b]
  · iapply (lend_two (c : Thread nD τ)).2
    isplitl [H6]; · iexact H6
    isplitl [H6a] <;> iassumption
  isplitl [H7]; · iexact H7
  isplitl [H9]; · iexact H9
  isplitl [H14a H14b]
  · iapply (of_two (c : Thread nD τ))
    isplitl [H14a] <;> iassumption
  isplitl [H15]; · iapply (Any_of_At (c : Thread nD τ)) $$ H15
  isplitl [W0]; · iexact W0
  isplitl [W1]; · iexact W1
  isplitl [S0] <;> iassumption

omit G in
/-- The last four tiles of the result are awaited. -/
theorem part39_spec :
    iprop(Yinv c E I.Yv 384 ∗ Ow c)
      ⊢ wp frame (wpE (defs₀ (F := F)) Variants.nat (c : Thread nD τ) none) Set.univ
          (k0_part39 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun r => iprop(⌜r = ⟨⟩⌝ ∗ iprop(At (c : Thread nD τ) E.arg10.view fullShare Finset.univ I.Yv ∗ Any (c : Thread nD τ) E.arg22.view Finset.univ ∗ semVal ((c : Thread nD τ), .dma (ysem E 0)) 0 ∗ semVal ((c : Thread nD τ), .dma (ysem E 1)) 0 ∗ semVal ((c : Thread nD τ), .dma (ysem E 2)) 0 ∗ semVal ((c : Thread nD τ), .dma (ysem E 3)) 0 ∗ Ow c))) := by
  have hy0 : ((E.arg28.slice (Rect.unit (s := S4) ![0] S1.size inb_S4_S1_0)).squeeze S_ squeezes_S1_S_).sem = ysem E 0 :=
    sem_at _ _ _ _ (emb1 _ (by simp))
  have hy1 : ((E.arg28.slice (Rect.unit (s := S4) ![1] S1.size inb_S4_S1_1)).squeeze S_ squeezes_S1_S_).sem = ysem E 1 :=
    sem_at _ _ _ _ (emb1 _ (by simp))
  have hy2 : ((E.arg28.slice (Rect.unit (s := S4) ![2] S1.size inb_S4_S1_2)).squeeze S_ squeezes_S1_S_).sem = ysem E 2 :=
    sem_at _ _ _ _ (emb1 _ (by simp))
  have hy3 : ((E.arg28.slice (Rect.unit (s := S4) ![3] S1.size inb_S4_S1_3)).squeeze S_ squeezes_S1_S_).sem = ysem E 3 :=
    sem_at _ _ _ _ (emb1 _ (by simp))
  rw [k0_part39_eq_skeleton]
  unfold k0_part39_skel
  refine .trans (show iprop(Yinv c E I.Yv 384 ∗ Ow c) ⊢ iprop((yBusy c E I.Yv 0 380 ∗ yBusy c E I.Yv 1 381 ∗ yBusy c E I.Yv 2 382 ∗ yBusy c E I.Yv 3 383
    ∗ At (c : Thread nD τ) E.arg10.view fullShare (below keyY 380) I.Yv ∗ Any (c : Thread nD τ) E.arg10.view (above keyY 384)) ∗ Ow c) from .rfl) ?_
  iintro ⟨⟨B0, B1, B2, B3, HY, -⟩, HO⟩
  iapply (wp_wt (c : Thread nD τ) Variants.nat none (N := Ny E) (ysem E 0) hy0 rfl) $$ [B0 HO]
  · isplitl [B0] <;> iassumption
  iintro ⟨⟨HD, S0⟩, Y0, HO⟩
  ihave S0 := (Any_of_At (c : Thread nD τ)) $$ S0
  ihave HY := (below_snoc (c : Thread nD τ)) $$ [HY HD]
  · isplitl [HY] <;> iassumption
  iapply (wp_wt (c : Thread nD τ) Variants.nat none (N := Ny E) (ysem E 1) hy1 rfl) $$ [B1 HO]
  · isplitl [B1] <;> iassumption
  iintro ⟨⟨HD, S1⟩, Y1, HO⟩
  ihave S1 := (Any_of_At (c : Thread nD τ)) $$ S1
  ihave HY := (below_snoc (c : Thread nD τ)) $$ [HY HD]
  · isplitl [HY] <;> iassumption
  iapply (wp_wt (c : Thread nD τ) Variants.nat none (N := Ny E) (ysem E 2) hy2 rfl) $$ [B2 HO]
  · isplitl [B2] <;> iassumption
  iintro ⟨⟨HD, S2⟩, Y2, HO⟩
  ihave S2 := (Any_of_At (c : Thread nD τ)) $$ S2
  ihave HY := (below_snoc (c : Thread nD τ)) $$ [HY HD]
  · isplitl [HY] <;> iassumption
  iapply (wp_wt (c : Thread nD τ) Variants.nat none (N := Ny E) (ysem E 3) hy3 rfl) $$ [B3 HO]
  · isplitl [B3] <;> iassumption
  iintro ⟨⟨HD, S3⟩, Y3, HO⟩
  ihave S3 := (Any_of_At (c : Thread nD τ)) $$ S3
  ihave HY := (below_snoc (c : Thread nD τ)) $$ [HY HD]
  · isplitl [HY] <;> iassumption
  ihave HY := (ent_of_eq (congrArg (fun S => At (c : Thread nD τ) E.arg10.view fullShare S I.Yv) (below_all keyY 384 (fun r => by
    have h0 : (r 0).val < 12288 := (r 0).isLt
    have h1 : (r 1).val < 8192 := (r 1).isLt
    show 16 * ((r 0).val / 512) + (r 1).val / 512 < 384
    omega)))) $$ HY
  iapply (wp_done (c : Thread nD τ) Variants.nat none)
  isplitr [HY S0 S1 S2 S3 Y0 Y1 Y2 Y3 HO]
  · ipureintro; rfl
  isplitl [HY]; · iexact HY
  isplitl [S0 S1 S2 S3]
  · iapply (of_four (c : Thread nD τ))
    isplitl [S0]; · iexact S0
    isplitl [S1]; · iexact S1
    isplitl [S2] <;> iassumption
  isplitl [Y0]; · iexact Y0
  isplitl [Y1]; · iexact Y1
  isplitl [Y2]; · iexact Y2
  isplitl [Y3] <;> iassumption

/-- The body fills the two results with `Yv` and `LH`. -/
theorem body_spec :
    BodyPre c E I
      ⊢ wp frame (wpE (defs₀ (F := F)) Variants.nat (c : Thread nD τ) none) Set.univ
          (cc0_multi_slice_lora (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun _ => BodyPost c E I) := by
  rw [cc0_multi_slice_lora_eq_skeleton]
  unfold cc0_multi_slice_lora_skel
  iintro H
  iapply (wp_part (c : Thread nD τ) Variants.nat none _ (part38_spec c E G)) $$ H
  iintro ⟨⟨%w, HI⟩, ⟨H5, H6, H7, H9, H14, H15, W0, W1, S0, CB⟩⟩
  ihave HI := (show T4inv c E I 24 w ⊢ iprop(⌜w = BitVec.ofNat 32 (I.car 24)⌝ ∗ xIdle c E I 0 ∗ xIdle c E I 1 ∗ (lBusy c E I 23 ∗ At (c : Thread nD τ) E.arg11.view fullShare (below keyH 23) I.LH ∗ Any (c : Thread nD τ) E.arg11.view (above keyH 24))
    ∗ Fix c E I ∗ Off c E I ∗ Any (c : Thread nD τ) E.arg18.view Finset.univ ∗ Any (c : Thread nD τ) E.arg19.view Finset.univ ∗ At (c : Thread nD τ) E.arg12.view fullShare Finset.univ I.W ∗ At (c : Thread nD τ) E.arg17.view fullShare Finset.univ I.Bv ∗ Yinv c E I.Yv 384 ∗ Ow c) from .rfl) $$ HI
  icases HI with ⟨-, ⟨H5a, H13a, X0⟩, ⟨H5b, H13b, X1⟩, ⟨LB, HL, -⟩, ⟨⟨H1, H2⟩, H3, H4, H8, H16, CA, H20⟩, H0, H18, H19, H12, H17, HY, HO⟩
  iapply (wp_part (c : Thread nD τ) Variants.nat none _ (part39_spec c E)) $$ [HY HO]
  · isplitl [HY] <;> iassumption
  iintro ⟨HY, H22, Y0, Y1, Y2, Y3, HO⟩
  iapply (wp_wt (c : Thread nD τ) Variants.nat none (N := Nl E) E.arg29.sem rfl rfl) $$ [LB HO]
  · isplitl [LB] <;> iassumption
  iintro ⟨⟨HD, H21⟩, L0, HO⟩
  ihave HL := (below_snoc (c : Thread nD τ)) $$ [HL HD]
  · isplitl [HL] <;> iassumption
  ihave HL := (ent_of_eq (congrArg (fun S => At (c : Thread nD τ) E.arg11.view fullShare S I.LH) (below_all keyH 24 (fun r => by
    have h0 : (r 2).val < 12288 := (r 2).isLt
    show (r 2).val / 512 < 24
    omega)))) $$ HL
  iapply (wp_done (c : Thread nD τ) Variants.nat none)
  isplitl [H0 H1 H2 H3 H4]
  · isplitl [H0]; · iexact H0
    isplitl [H1]; · iexact H1
    isplitl [H2]; · iexact H2
    isplitl [H3] <;> iassumption
  isplitl [H5 H5a H5b H6 H7 H8 H9]
  · isplitl [H5 H5a H5b]
    · iapply (lend_two (c : Thread nD τ)).2
      isplitl [H5]; · iexact H5
      isplitl [H5a] <;> iassumption
    isplitl [H6]; · iexact H6
    isplitl [H7]; · iexact H7
    isplitl [H8]; · iapply (three_of (c : Thread nD τ)).2 $$ H8
    iexact H9
  isplitl [HY]; · iexact HY
  isplitl [HL]; · iexact HL
  isplitl [H12 H13a H13b H14 H15 H16 H17 H18 H19 H20 H21 H22]
  · isplitl [H12]; · iapply (Any_of_At (c : Thread nD τ)) $$ H12
    isplitl [H13a H13b]
    · iapply (of_two (c : Thread nD τ))
      isplitl [H13a] <;> iassumption
    isplitl [H14]; · iexact H14
    isplitl [H15]; · iexact H15
    isplitl [H16]; · iexact H16
    isplitl [H17]; · iapply (Any_of_At (c : Thread nD τ)) $$ H17
    isplitl [H18]; · iexact H18
    isplitl [H19]; · iexact H19
    isplitl [H20]; · iexact H20
    isplitl [H21]; · iapply (Any_of_At (c : Thread nD τ)) $$ H21
    iexact H22
  isplitr [HO]
  · isplitl [X0]; · iexact X0
    isplitl [X1]; · iexact X1
    isplitl [W0]; · iexact W0
    isplitl [W1]; · iexact W1
    isplitl [S0]; · iexact S0
    isplitl [CA]; · iexact CA
    isplitl [CB]; · iexact CB
    isplitl [Y0]; · iexact Y0
    isplitl [Y1]; · iexact Y1
    isplitl [Y2]; · iexact Y2
    isplitl [Y3] <;> iassumption
  iexact HO

end Cert.Kernel.Hand

end
-- ==== Proof.Run.K.Run.lean ====
/-
  The launch: the five tables are staged, the body runs on the operands left in HBM, and the two results are
  reshaped. What every buffer holds at the end, from any memory whose tables are good.
-/
module

public import proofs.«01_k».proof.Proof.Run.K.Body
public import proofs.«01_k».proof.Proof.Gen.Kernel.Launch
public import proofs.«01_k».proof.Proof.Gen.Kernel.Points
public import Idealize.ShloMosaic.Lib.Pipeline.FrameBody
public import Idealize.ShloMosaic.Lib.Pipeline.FrameSuffixV
public import Idealize.ShloMosaic.Lib.Pipeline.TableIdle

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

/-- The body's buffers and cells. -/
abbrev E0 (t : Fin (cfg0 (F := F)).N) : Env := ⟨(win0_0.stage ((cfg0 (F := F)).slots t 0)), (hstage0_0 0), (win0_1.stage ((cfg0 (F := F)).slots t 1)), (hstage0_1 0), (win0_2.stage ((cfg0 (F := F)).slots t 2)), (hstage0_2 0), (win0_3.stage ((cfg0 (F := F)).slots t 3)), (hstage0_3 0), (win0_4.stage ((cfg0 (F := F)).slots t 4)), (hstage0_4 0), (Memref.whole main_v0), (Memref.isWhole_whole _), (Memref.whole main_arg1), (Memref.isWhole_whole _), (Memref.whole main_arg2), (Memref.isWhole_whole _), (Memref.whole main_arg3), (Memref.isWhole_whole _), (Memref.whole main_arg4), (Memref.isWhole_whole _), (Memref.whole main_v1_0), (Memref.isWhole_whole _), (Memref.whole main_v1_1), (Memref.isWhole_whole _), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _), (Memref.whole cc0_scratch5), (Memref.isWhole_whole _), (Memref.whole cc0_scratch6), (Memref.isWhole_whole _), (Memref.whole cc0_scratch7), (Memref.isWhole_whole _), (Memref.whole cc0_scratch8), (Memref.isWhole_whole _), (Memref.whole cc0_scratch9), (Memref.isWhole_whole _), (Memref.whole cc0_scratch10), (Memref.isWhole_whole _), cc0_scratch11, cc0_scratch12, cc0_scratch13, cc0_scratch14, cc0_scratch15, cc0_scratch16, cc0_scratch17⟩

/-- What the buffers hold when the kernel is launched. -/
abbrev V0 (c : Dev nD) : Valuation τ sig (Elt F) := StableHlo.after hostOps0 (fun b => m (c, b))
/-- The same, buffer by buffer. -/
abbrev V (c : Dev nD) (b : Ref sig .tc) : Buf (Elt F) ((c : Thread nD τ).loc b) := V0 m c (Proc.devRef .tc b)

/-- The kernel's inputs. -/
abbrev I0 (c : Dev nD) : In F where
  off := V m c main_arg8
  seg := V m c main_arg9
  start := V m c main_arg5
  rank := V m c main_arg6
  scal := V m c main_arg7
  X := V m c main_v0
  WP := V m c main_arg1
  WS := V m c main_arg2
  A := V m c main_arg3
  B := V m c main_arg4

/-- The kernel's cells: the thirty-seven after the staging's five. -/
abbrev osem0 : Fin 37 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 37 → SemLoc sig) j
theorem ownSemFacts0 : Pipeline.OwnSemFacts spec0 osem0 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl

theorem cells_of (c : Dev nD) (t : Fin (cfg0 (F := F)).N) :
    (Pipeline.ownSems0 (Ix := Unit) (Name := ℕ) (U := Pipeline.UD sig nD τ) (Lvl := ℕ) (Val := Elt F) (τ := τ) osem0 c : sProp 𝕄) ⊢ Cells (F := F) c (E0 (F := F) t) := by
  rw [ownSems00_eq]
  unfold Cells
  simp only [Rg_succ, Rg_zero]
  iintro ⟨Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41⟩
  isplitl [Q5]; · iexact Q5
  isplitl [Q6]; · iexact Q6
  isplitl [Q7]; · iexact Q7
  isplitl [Q8]; · iexact Q8
  isplitl [Q9]; · iexact Q9
  isplitl [Q10 Q11 Q12 Q13 Q14 Q15 Q16 Q17]
  · isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    iempintro
  isplitl [Q18 Q19 Q20 Q21 Q22 Q23 Q24 Q25 Q26 Q27 Q28 Q29 Q30 Q31 Q32 Q33 Q34 Q35 Q36]
  · isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    iempintro
  isplitl [Q37]; · iexact Q37
  isplitl [Q38]; · iexact Q38
  isplitl [Q39]; · iexact Q39
  isplitl [Q40]; · iexact Q40
  iexact Q41

theorem of_cells (c : Dev nD) (t : Fin (cfg0 (F := F)).N) :
    Cells (F := F) c (E0 (F := F) t) ⊢ (Pipeline.ownSems0 (Ix := Unit) (Name := ℕ) (U := Pipeline.UD sig nD τ) (Lvl := ℕ) (Val := Elt F) (τ := τ) osem0 c : sProp 𝕄) := by
  rw [ownSems00_eq]
  unfold Cells
  simp only [Rg_succ, Rg_zero]
  iintro ⟨Q5, Q6, Q7, Q8, Q9, ⟨Q10, Q11, Q12, Q13, Q14, Q15, Q16, Q17, -⟩, ⟨Q18, Q19, Q20, Q21, Q22, Q23, Q24, Q25, Q26, Q27, Q28, Q29, Q30, Q31, Q32, Q33, Q34, Q35, Q36, -⟩, Q37, Q38, Q39, Q40, Q41⟩
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  iexact Q41

theorem At_whole (c : Thread nD τ) {sp : Space} {s : Shape} {e : EltTy} (M : Memref sig c.2.kind sp s e) (q : PosShare TreeShare) (X : s.Idx → Elt F e) :
    (At c M.view q Finset.univ X : sProp 𝕄) = owns c M q X := by
  rw [Idealize.ShloMosaic.owns_eq_rep]; rfl

theorem At_ref (c : Thread nD τ) (b : Ref sig c.2.kind) (q : PosShare TreeShare) (f : b.ty.Contents (Elt F)) :
    (At c (Memref.whole b).view q Finset.univ f : sProp 𝕄) = ((c.loc b) ↦{q} f) := by
  rw [At_whole, owns_whole]

theorem Any_ref (c : Thread nD τ) (b : Ref sig c.2.kind) :
    (Any c (Memref.whole b).view Finset.univ : sProp 𝕄) = iprop(∃ f : Buf (Elt F) (c.loc b), (c.loc b) ↦{fullShare} f) := by
  unfold Any
  exact congrArg _ (funext fun f => At_ref c b fullShare f)

/-- The operands read by copies. -/
def H0 : Finset (Ref sig .tc) := {main_v0, main_arg1, main_arg2, main_arg3, main_arg4}
theorem H0_sub : H0 ⊆ Pipeline.restRefs sig spec0 := by decide +kernel
/-- The results written by copies. -/
def R0 : Finset (Ref sig .tc) := {main_v1_0, main_v1_1}
theorem R0_sub : R0 ⊆ Pipeline.restRefs sig spec0 \ H0 := by decide +kernel

theorem scr_eq (c : Dev nD) (t : Fin (cfg0 (F := F)).N) :
    (Pipeline.scopedRest (Ix := Unit) (Name := ℕ) (U := Pipeline.UD sig nD τ) (Lvl := ℕ) (Val := Elt F) spec0 c : sProp 𝕄) = Scrs (F := F) c (E0 (F := F) t) := by
  rw [scopedRest0_eq]
  simp only [Scrs, E0]
  rw [Any_ref (c : Thread nD τ) cc0_scratch0, Any_ref (c : Thread nD τ) cc0_scratch1, Any_ref (c : Thread nD τ) cc0_scratch2, Any_ref (c : Thread nD τ) cc0_scratch3, Any_ref (c : Thread nD τ) cc0_scratch4, Any_ref (c : Thread nD τ) cc0_scratch5, Any_ref (c : Thread nD τ) cc0_scratch6, Any_ref (c : Thread nD τ) cc0_scratch7, Any_ref (c : Thread nD τ) cc0_scratch8, Any_ref (c : Thread nD τ) cc0_scratch9, Any_ref (c : Thread nD τ) cc0_scratch10]

theorem H0_eq (c : Dev nD) (t : Fin (cfg0 (F := F)).N) :
    (bigSep H0 (fun b => ((c : Thread nD τ).loc b) ↦{fullShare} V m c b) : sProp 𝕄) = Opnds c (E0 (F := F) t) (I0 m c) := by
  rw [BI.bigSep_eq_bigSepL_of_eq [main_v0, main_arg1, main_arg2, main_arg3, main_arg4] (by decide) (by decide)]
  simp only [Opnds, E0]
  rw [At_ref (c : Thread nD τ) main_v0 fullShare (V m c main_v0), At_ref (c : Thread nD τ) main_arg1 fullShare (V m c main_arg1), At_ref (c : Thread nD τ) main_arg2 fullShare (V m c main_arg2),
    At_ref (c : Thread nD τ) main_arg3 fullShare (V m c main_arg3), At_ref (c : Thread nD τ) main_arg4 fullShare (V m c main_arg4)]
  rfl

theorem R0_eq (c : Dev nD) (t : Fin (cfg0 (F := F)).N) (G : (b : Ref sig .tc) → Buf (Elt F) ((c : Thread nD τ).loc b)) :
    (bigSep R0 (fun b => ((c : Thread nD τ).loc b) ↦{fullShare} G b) : sProp 𝕄)
      = iprop(At (c : Thread nD τ) (Memref.whole main_v1_0).view fullShare Finset.univ (G main_v1_0) ∗ At (c : Thread nD τ) (Memref.whole main_v1_1).view fullShare Finset.univ (G main_v1_1)) := by
  rw [BI.bigSep_eq_bigSepL_of_eq [main_v1_0, main_v1_1] (by decide) (by decide)]
  rw [At_ref (c : Thread nD τ) main_v1_0 fullShare (G main_v1_0), At_ref (c : Thread nD τ) main_v1_1 fullShare (G main_v1_1)]
  rfl

/-- What the body leaves: the two results at their values. -/
def G0 (c : Dev nD) : (b : Ref sig .tc) → Buf (Elt F) ((c : Thread nD τ).loc b) :=
  Function.update (Function.update (V m c) main_v1_0 (I0 m c).Yv) main_v1_1 (I0 m c).LH

theorem G0_y (c : Dev nD) : G0 m c main_v1_0 = (I0 m c).Yv := by
  unfold G0
  rw [Function.update_of_ne (by decide), Function.update_self]
theorem G0_l (c : Dev nD) : G0 m c main_v1_1 = (I0 m c).LH := by
  unfold G0
  rw [Function.update_self]

/-- The proof data of the one pipeline: the tables are left as staged, the results change from launch to end. -/
def dats (_ : Fin 1) (c : Dev nD) : Pipeline.Dat τ (Elt F) Unit ℕ (Pipeline.UD sig nD τ) ℕ (cfg0 (F := F)) c where
  A w := V m c (Pipeline.arrRef spec0 w)
  after w t := match w with
    | ⟨0, _⟩ => (I0 m c).off
    | ⟨1, _⟩ => (I0 m c).seg
    | ⟨2, _⟩ => (I0 m c).start
    | ⟨3, _⟩ => (I0 m c).rank
    | ⟨4, _⟩ => (I0 m c).scal
  Φ k := Pipeline.ΦDRV osem0 spec0 H0 R0 (V m) (if k.val = 0 then V m else G0 m) c
  q _ := fullShare
  owed _ := 0

theorem A_eq (c : Dev nD) (w : Fin (cfg0 (F := F)).W) : (dats m 0 c).A w = V m c (Pipeline.arrRef spec0 w) := by
  dsimp only [dats]

theorem before_0 (c : Dev nD) (t : Fin (cfg0 (F := F)).N) (d) : (dats m 0 c).before 0 t d = (I0 m c).off := by
  rw [(dats m 0 c).before_fetched 0 t (fetch0_0 t) d]
  funext x
  refine congrArg (V m c main_arg8) ?_
  funext a; apply Fin.ext
  show 0 * _ + 1 * (x a).val = (x a).val
  omega

theorem before_1 (c : Dev nD) (t : Fin (cfg0 (F := F)).N) (d) : (dats m 0 c).before 1 t d = (I0 m c).seg := by
  rw [(dats m 0 c).before_fetched 1 t (fetch0_1 t) d]
  funext x
  refine congrArg (V m c main_arg9) ?_
  funext a; apply Fin.ext
  show 0 * _ + 1 * (x a).val = (x a).val
  omega

theorem before_2 (c : Dev nD) (t : Fin (cfg0 (F := F)).N) (d) : (dats m 0 c).before 2 t d = (I0 m c).start := by
  rw [(dats m 0 c).before_fetched 2 t (fetch0_2 t) d]
  funext x
  refine congrArg (V m c main_arg5) ?_
  funext a; apply Fin.ext
  show 0 * _ + 1 * (x a).val = (x a).val
  omega

theorem before_3 (c : Dev nD) (t : Fin (cfg0 (F := F)).N) (d) : (dats m 0 c).before 3 t d = (I0 m c).rank := by
  rw [(dats m 0 c).before_fetched 3 t (fetch0_3 t) d]
  funext x
  refine congrArg (V m c main_arg6) ?_
  funext a; apply Fin.ext
  show 0 * _ + 1 * (x a).val = (x a).val
  omega

theorem before_4 (c : Dev nD) (t : Fin (cfg0 (F := F)).N) (d) : (dats m 0 c).before 4 t d = (I0 m c).scal := by
  rw [(dats m 0 c).before_fetched 4 t (fetch0_4 t) d]
  funext x
  refine congrArg (V m c main_arg7) ?_
  funext a; apply Fin.ext
  show 0 * _ + 1 * (x a).val = (x a).val
  omega

theorem Ow_of (c : Dev nD) (k) : ((dats m 0 c).owesAt () k : sProp 𝕄) ⊢ Ow c := by
  unfold Pipeline.Dat.owesAt Pipeline.owesWithin
  rw [show (dats m 0 c).owed k = 0 from rfl]
  iintro ⟨%W, -, HW⟩
  iexists W; iexact HW

theorem of_Ow (c : Dev nD) (k) : Ow c ⊢ ((dats m 0 c).owesAt () k : sProp 𝕄) := by
  unfold Pipeline.Dat.owesAt Pipeline.owesWithin
  rw [show (dats m 0 c).owed k = 0 from rfl]
  iintro ⟨%W, HW⟩
  iexists W
  isplitr
  · ipureintro; exact fun _ _ => Or.inl trivial
  iexact HW

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

theorem tab_of (c : Dev nD) (t : Fin (cfg0 (F := F)).N) :
    iprop((∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))) ⊢ Tabs c (E0 (F := F) t) (I0 m c) := by
  simp only [before_0, before_1, before_2, before_3, before_4]
  unfold Tabs
  rw [At_whole, At_whole, At_whole, At_whole, At_whole]
  iintro ⟨⟨%_, T0⟩, ⟨%_, T1⟩, ⟨%_, T2⟩, ⟨%_, T3⟩, ⟨%_, T4⟩⟩
  isplitl [T0]; · iexact T0
  isplitl [T1]; · iexact T1
  isplitl [T2]; · iexact T2
  isplitl [T3]; · iexact T3
  iexact T4

theorem of_tab (c : Dev nD) (t : Fin (cfg0 (F := F)).N) :
    Tabs c (E0 (F := F) t) (I0 m c) ⊢ iprop(owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)) := by
  unfold Tabs
  rw [At_whole, At_whole, At_whole, At_whole, At_whole]
  iintro ⟨T0, T1, T2, T3, T4⟩
  isplitl [T0]; · iexact T0
  isplitl [T1]; · iexact T1
  isplitl [T2]; · iexact T2
  isplitl [T3]; · iexact T3
  iexact T4

theorem t_zero (t : Fin (cfg0 (F := F)).N) : t.val = 0 := by
  have h := fin_N0 t
  rw [h]; rfl

theorem sound_body (c : Dev nD) (hG : Good (I0 m c)) (t : Fin (cfg0 (F := F)).N) :
    bodyPre m c t ⊢ wp frame (wpE (defs₀ (F := F)) Variants.nat (c : Thread nD τ) none) Set.univ (bodyAt0 t) (fun _ => bodyPost m c t) := by
  have ht := t_zero t
  unfold bodyPre bodyPost
  rw [show (dats m 0 c).Φ t.castSucc = Pipeline.ΦDRV osem0 spec0 H0 R0 (V m) (V m) c from by
      show Pipeline.ΦDRV osem0 spec0 H0 R0 (V m) (if t.val = 0 then V m else G0 m) c = _
      rw [if_pos ht],
    show (dats m 0 c).Φ t.succ = Pipeline.ΦDRV osem0 spec0 H0 R0 (V m) (G0 m) c from by
      show Pipeline.ΦDRV osem0 spec0 H0 R0 (V m) (if t.val + 1 = 0 then V m else G0 m) c = _
      rw [if_neg (Nat.succ_ne_zero _)]]
  unfold Pipeline.ΦDRV
  rw [scr_eq c t, H0_eq m c t, R0_eq c t, R0_eq c t, G0_y, G0_l]
  iintro ⟨⟨HS, HC, HH, ⟨HY, HL⟩⟩, HO, HT⟩
  ihave HC := (cells_of (F := F) c t) $$ HC
  ihave HO := (Ow_of m c _) $$ HO
  ihave HT := (tab_of m c t) $$ HT
  ihave HW := (body_spec c (E0 (F := F) t) hG) $$ [HS HC HH HY HL HO HT]
  · isplitl [HT]; · iexact HT
    isplitl [HH]; · iexact HH
    isplitl [HY]; · iapply (Any_of_At (c : Thread nD τ)) $$ HY
    isplitl [HL]; · iapply (Any_of_At (c : Thread nD τ)) $$ HL
    isplitl [HS]; · iexact HS
    isplitl [HC]; · iexact HC
    iexact HO
  iapply (wp_mono _ _ _ ?_) $$ HW
  intro _
  iintro ⟨HT, HH, HY, HL, HS, HC, HO⟩
  isplitl [HS HC HH HY HL]
  · isplitl [HS]; · iexact HS
    isplitl [HC]; · iapply (of_cells (F := F) c t) $$ HC
    isplitl [HH]; · iexact HH
    isplitl [HY]; · iexact HY
    iexact HL
  isplitl [HO]; · iapply (of_Ow m c _) $$ HO
  iapply (of_tab m c t) $$ HT

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) (hG : Good (I0 m c)) : Pipeline.BodyObligation (dats m 0 c) (defs₀ (F := F)) Variants.nat () Set.univ := fun t => by
  rw [bigSep_W0, bigSep_W0, defs₀_row]
  exact triple_restated (sound_body m c hG t) rfl .rfl fun _ => .rfl

end Cert.Kernel.Hand

end
-- ==== Proof.Run.K.Launch.lean ====
/-
  The run as a whole: both results as functions of the arguments, the arguments unchanged, every cell back at zero.
-/
module

public import proofs.«01_k».proof.Proof.Run.K.Run
public import proofs.«01_k».proof.Proof.Gen.Kernel.Launch
public import proofs.«01_k».proof.Proof.Gen.Kernel.Points
public import Idealize.ShloMosaic.Lib.Pipeline.FrameBody
public import Idealize.ShloMosaic.Lib.Pipeline.FrameSuffixV
public import Idealize.ShloMosaic.Lib.Pipeline.TableIdle

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

theorem hostOps0_sub' : ([hostOps0] : List (List (HloOp τ sig (Elt F)))).Forall fun ops => ops.Forall fun op => op.bufs ⊆ StableHlo.tcRefs τ sig :=
  List.forall_iff_forall_mem.mpr fun ops h => by
    obtain rfl := List.mem_singleton.mp h
    exact hostOps0_sub
theorem hostOps0_fresh' : ([hostOps0] : List (List (HloOp τ sig (Elt F)))).Forall fun ops => ops.Forall fun op => op.fresh = ∅ :=
  List.forall_iff_forall_mem.mpr fun ops h => List.forall_iff_forall_mem.mpr fun op ho => by
    obtain rfl := List.mem_singleton.mp h
    obtain rfl := List.mem_singleton.mp ho
    rfl
theorem ops1_sub : ∀ ops ∈ ([hostOps1] : List (List (HloOp τ sig (Elt F)))), ∀ op ∈ ops, op.bufs ⊆ Pipeline.tailRefs sig Pipeline.Prefetch.none spec0 := fun ops ho op hop => by
  obtain rfl := List.mem_singleton.mp ho
  rw [Pipeline.tailRefs_none _ (by decide)]
  exact Pipeline.sub_ucRefs op (List.forall_iff_forall_mem.mp hostOps1_sub op hop)
theorem ops1_fresh : ∀ ops ∈ ([hostOps1] : List (List (HloOp τ sig (Elt F)))), ∀ op ∈ ops, op.fresh = ∅ := fun ops ho op hop => by
  obtain rfl := List.mem_singleton.mp ho
  simp only [List.mem_cons, List.mem_nil_iff, _root_.or_false] at hop
  rcases hop with rfl | rfl <;> rfl
theorem ops1_keep : ∀ ops ∈ ([hostOps1] : List (List (HloOp τ sig (Elt F)))), ∀ op ∈ ops, ∀ w, Proc.devRef .tc (Pipeline.arrRef spec0 w) ∉ op.writes := fun ops ho op hop w => by
  obtain rfl := List.mem_singleton.mp ho
  simp only [List.mem_cons, List.mem_nil_iff, _root_.or_false] at hop
  rcases hop with rfl | rfl
  · show Proc.devRef .tc (Pipeline.arrRef spec0 w) ∉ ({Proc.devRef .tc main_v2} : Finset (DevRef τ sig)); revert w; decide
  · show Proc.devRef .tc (Pipeline.arrRef spec0 w) ∉ ({Proc.devRef .tc main_v3} : Finset (DevRef τ sig)); revert w; decide

theorem hmain : Pipeline.HMainK (Ix := Unit) (Name := ℕ) (U := Pipeline.UD sig nD τ) (Lvl := ℕ) cfgs 0 (defs₀ (F := F)) Variants.nat m main
    (fun c b => V0 m c (Proc.devRef .tc b)) (fun _ => Pipeline.chain ([hostOps1].map StableHlo.seq)) :=
  Pipeline.hmain_around cfgs 0 defs₀ Variants.nat m main [hostOps0] [hostOps1] hostOps0_sub' hostOps0_fresh' main_chain

/-- What the buffers hold at the end. -/
abbrev VEnd (c : Dev nD) : Valuation τ sig (Elt F) :=
  StableHlo.after hostOps1 (Pipeline.withArrays spec0 c (Pipeline.withR (V0 m c) R0 c (G0 m c)) fun w => (dats m 0 c).arrAt w (cfg0 (F := F)).N)

set_option backward.isDefEq.respectTransparency.types false in
/-- The run: every buffer that is no window ends as `VEnd` says, the tables unchanged, the cells at zero. -/
theorem run_main (hG : ∀ c, Good (I0 m c)) : θ_run defs (onTc (τ := τ) (main (F := F))) (s₀ m ρ) (fun r =>
      (∀ c : Dev nD, (∀ w, r.2.mem ((spec0 w).arr.view.loc (c.tc : Thread nD τ)) = (dats m 0 c).arrAt w (cfg0 (F := F)).N)
        ∧ ∀ b ∈ Pipeline.restRefs sig spec0, r.2.mem ((c.tc : Thread nD τ).loc b) = VEnd m c (Proc.devRef .tc b)) ∧ r.2.sem = fun _ => 0) :=
  Pipeline.θ_run_frame_dmaR_aroundV cfgs (dats m) (0 : Fin 1) launch0 osem0 defs₀ Variants.nat ownSemFacts0 H0 R0 H0_sub R0_sub m ρ main
    (hbody := fun c => (body_obligation m c (hG c)).loose) (hshare := fun c => (dats m 0 c).share_full fun _ => rfl)
    (howed := fun _ _ => rfl) (V₀ := V0 m) (opss := [hostOps1])
    (hsub := ops1_sub) (hfresh := ops1_fresh) (hkeep := ops1_keep)
    (G := G0 m) (hmain := hmain m) (hA := A_eq m)
    (hin := fun _ => .rfl) (hout := fun _ => .rfl)
    (Q' := fun r => (∀ c : Dev nD, (∀ w, r.2.mem ((spec0 w).arr.view.loc (c.tc : Thread nD τ)) = (dats m 0 c).arrAt w (cfg0 (F := F)).N)
        ∧ ∀ b ∈ Pipeline.restRefs sig spec0, r.2.mem ((c.tc : Thread nD τ).loc b) = VEnd m c (Proc.devRef .tc b)) ∧ r.2.sem = fun _ => 0)
    (hQ' := fun r h => h)

/-- An unscoped buffer that the passes over arguments and results do not write, no window and no result of the kernel, keeps what it held. -/
theorem VEnd_keep (c : Dev nD) (b : Ref sig .tc) (h0 : b ≠ main_v0) (h1 : b ∉ R0) (h2 : b ≠ main_v2) (h3 : b ≠ main_v3)
    (hw : ∀ w, Pipeline.arrRef spec0 w ≠ b) : VEnd m c (Proc.devRef .tc b) = m ((c.tc : Thread nD τ).loc b) := by
  have e : ∀ {a b : Ref sig .tc}, a ≠ b → (Proc.devRef .tc a : DevRef τ sig) ≠ Proc.devRef .tc b := fun h h' => h (Proc.devRef_injective _ h')
  unfold VEnd
  rw [StableHlo.after_of_forall_not_mem, Pipeline.withArrays_of_ne (hb := hw), Pipeline.withR_of_not_mem (hb := h1)]
  · show StableHlo.after hostOps0 _ _ = _
    rw [StableHlo.after_of_forall_not_mem]
    intro op ho
    obtain rfl := List.mem_singleton.mp ho
    exact fun h => e h0 (Finset.mem_singleton.mp h)
  · intro op ho
    simp only [List.mem_cons, List.mem_nil_iff, _root_.or_false] at ho
    rcases ho with rfl | rfl
    · exact fun h => e h2 (Finset.mem_singleton.mp h)
    · exact fun h => e h3 (Finset.mem_singleton.mp h)

/-- The first result, the kernel's first output under another shape. -/
theorem VEnd_y (c : Dev nD) : VEnd m c (Proc.devRef .tc main_v2)
    = (shapeCast S12x1024x8192 (I0 m c).Yv shapeCasts_S12288x8192_S12x1024x8192 : main_v2.ty.Contents (Elt F)) := by
  have h : Pipeline.withArrays spec0 c (Pipeline.withR (V0 m c) R0 c (G0 m c)) (fun w => (dats m 0 c).arrAt w (cfg0 (F := F)).N) (Proc.devRef .tc main_v1_0) = (I0 m c).Yv := by
    rw [Pipeline.withArrays_of_ne (hb := by decide), Pipeline.withR_of_mem (hb := by decide), G0_y]
  unfold VEnd
  rw [StableHlo.after_cons, StableHlo.after_cons, StableHlo.after_nil, StableHlo.unary_result_ne' (h := by decide), StableHlo.reshape_result', h]
  rfl

/-- The second result, the kernel's second output with its axes turned. -/
theorem VEnd_l (c : Dev nD) : VEnd m c (Proc.devRef .tc main_v3)
    = (transpose S12288x3x32 [2, 0, 1] (I0 m c).LH transposes_S3x32x12288_S12288x3x32_2_0_1 : main_v3.ty.Contents (Elt F)) := by
  have h : Pipeline.withArrays spec0 c (Pipeline.withR (V0 m c) R0 c (G0 m c)) (fun w => (dats m 0 c).arrAt w (cfg0 (F := F)).N) (Proc.devRef .tc main_v1_1) = (I0 m c).LH := by
    rw [Pipeline.withArrays_of_ne (hb := by decide), Pipeline.withR_of_mem (hb := by decide), G0_l]
  unfold VEnd
  rw [StableHlo.after_cons, StableHlo.after_cons, StableHlo.after_nil, StableHlo.unary_result', StableHlo.reshape_result_ne' (h := by decide), h]

theorem arr_keep (c : Dev nD) (w : Fin 5) : (dats m 0 c).arrAt w (cfg0 (F := F)).N = m ((c.tc : Thread nD τ).loc (Pipeline.arrRef spec0 w)) := by
  refine ((dats m 0 c).arrAt_in w (by fin_cases w <;> rfl) _).trans ?_
  have e : ∀ {a b : Ref sig .tc}, a ≠ b → (Proc.devRef .tc a : DevRef τ sig) ≠ Proc.devRef .tc b := fun h h' => h (Proc.devRef_injective _ h')
  have hn : main_v0 ≠ Pipeline.arrRef spec0 w := by revert w; decide
  have hk : V0 m c (Proc.devRef .tc (Pipeline.arrRef spec0 w)) = m ((c.tc : Thread nD τ).loc (Pipeline.arrRef spec0 w)) := by
    show StableHlo.after hostOps0 _ _ = _
    rw [StableHlo.after_of_forall_not_mem]
    intro op ho
    obtain rfl := List.mem_singleton.mp ho
    exact fun h => e hn (Finset.mem_singleton.mp h).symm
  rw [← hk]
  fin_cases w <;> rfl

/-- The run from a memory that meets the precondition: both results, the arguments as they were, the cells at zero. -/
theorem run_value (hG : ∀ c, Good (I0 m c)) : θ_run defs (onTc (τ := τ) (main (F := F))) (s₀ m ρ) (fun r =>
      (∀ c : Dev nD, r.2.mem ((c.tc : Thread nD τ).loc main_v2) = (shapeCast S12x1024x8192 (I0 m c).Yv shapeCasts_S12288x8192_S12x1024x8192 : main_v2.ty.Contents (Elt F))
        ∧ r.2.mem ((c.tc : Thread nD τ).loc main_v3) = (transpose S12288x3x32 [2, 0, 1] (I0 m c).LH transposes_S3x32x12288_S12288x3x32_2_0_1 : main_v3.ty.Contents (Elt F))
        ∧ ∀ b ∈ ([main_arg0, main_arg1, main_arg2, main_arg3, main_arg4, main_arg5, main_arg6, main_arg7, main_arg8, main_arg9] : List (Ref sig .tc)), r.2.mem ((c.tc : Thread nD τ).loc b) = m ((c.tc : Thread nD τ).loc b))
      ∧ r.2.sem = fun _ => 0) := by
  refine (θ_run _ _ _).mono (fun r h => ⟨fun c => ⟨?_, ?_, ?_⟩, h.2⟩) (run_main m ρ hG)
  · rw [(h.1 c).2 main_v2 (by decide), VEnd_y]
  · rw [(h.1 c).2 main_v3 (by decide), VEnd_l]
  · have ho : ∀ b ∈ ([main_arg0, main_arg1, main_arg2, main_arg3, main_arg4] : List (Ref sig .tc)), b ∈ Pipeline.restRefs sig spec0 ∧ b ≠ main_v0 ∧ b ∉ R0 ∧ b ≠ main_v2 ∧ b ≠ main_v3 ∧ ∀ w, Pipeline.arrRef spec0 w ≠ b := by decide
    have hw : ∀ b ∈ ([main_arg5, main_arg6, main_arg7, main_arg8, main_arg9] : List (Ref sig .tc)), ∃ w, Pipeline.arrRef spec0 w = b := by decide
    intro b hb
    rcases List.mem_append.mp (show b ∈ ([main_arg0, main_arg1, main_arg2, main_arg3, main_arg4] : List (Ref sig .tc)) ++ [main_arg5, main_arg6, main_arg7, main_arg8, main_arg9] from hb) with hb | hb
    · obtain ⟨h1, h2, h3, h4, h5, h6⟩ := ho b hb
      rw [(h.1 c).2 b h1, VEnd_keep m c b h2 h3 h4 h5 h6]
    · obtain ⟨w, rfl⟩ := hw b hb
      exact ((h.1 c).1 w).trans (arr_keep m c w)

end Cert.Kernel.Hand

end
-- ==== Proof.Pre.lean ====
/-
  What the precondition says of the tables, element by element.
-/
module

public import proofs.«01_k».proof.Pre_well_formed
public import Idealize.ShloMosaic.Lib.ReduceAll
public import Idealize.ShloMosaic.Lib.Routing.OpsSearch
public import Idealize.ShloMosaic.Lib.WordCmp

@[expose] public section

noncomputable section

namespace Lora

open Idealize.ShloMosaic Idealize.ShloMosaic.ValueIdx
open Cert.Pre_well_formed Cert.Pre_well_formed.Facts

variable {F : FTy → Type} [FloatOps F] [Cert.Pre_well_formed.Facts]

/-- The tables are such that the kernel can walk them: every adapter named is one of the 23, its 32 rows lie within the
    pool, its rank is at most 32, the segments follow each other, the last one ends within the last tile of tokens or
    after it, and no tile of 512 tokens meets seven segments. -/
structure Tables (off : IVec S20 32) (seg : IVec S19 32) (start rank : IVec S23 32) : Prop where
  sg : ∀ s : Fin 19, (seg (ix1 s)).toNat < 23
  st : ∀ s : Fin 19, ∀ h : (seg (ix1 s)).toNat < 23, (start (ix1 ⟨_, h⟩)).toNat ≤ 968
  rk : ∀ s : Fin 19, ∀ h : (seg (ix1 s)).toNat < 23, (rank (ix1 ⟨_, h⟩)).toInt ≤ 32
  mono : ∀ s : Fin 19, (off (ix1 s.castSucc)).toInt ≤ (off (ix1 s.succ)).toInt
  last : 11776 < (off (ix1 (19 : Fin 20))).toInt
  near : ∀ i : Fin 24, ∀ a : Fin 13, (off (ix1 ⟨a.val + 1, by omega⟩)).toInt ≤ 512 * (i.val : ℤ)
    ∨ 512 * (i.val : ℤ) + 512 ≤ (off (ix1 ⟨a.val + 6, by omega⟩)).toInt

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem of_bool_one {b : Bool} (h : BitVec.ofBool b = 1#1) : b = true := by
  revert b; decide

theorem nat_of_int {w : BitVec 32} {k : ℕ} (h0 : 0 ≤ w.toInt) (h1 : w.toInt ≤ k) : w.toNat ≤ k := by
  have := BitVec.toInt_eq_toNat_cond w
  split at this <;> omega

theorem take_at (t : IVec S23 32) (seg : IVec S19 32) (s : Fin 19) (h : (seg (ix1 s)).toNat < 23) :
    fn_take (F := F) t seg (ix1 s) = t (ix1 ⟨_, h⟩) := by
  unfold fn_take
  refine Routing.take_ap _ rfl rfl rfl rfl _ _ s h (by omega) ?_
  rw [broadcastInDim_apply _ _ _ (ix2 s (0 : Fin 1)) (ix1 s) (fun e => by
    obtain rfl : e = 0 := Subsingleton.elim _ _
    rfl)]
  rw [BitVec.ofNat_toNat, BitVec.setWidth_eq]

theorem slice19 (off : IVec S20 32) (k : ℕ) (h) (s : Fin 19) (hs : s.val + k < 20) :
    extractStridedSlice (s := S20) S19 ![k] off h (ix1 s) = off (ix1 ⟨s.val + k, hs⟩) :=
  extractStridedSlice_apply _ _ _ _ _ fun e => by
    obtain rfl : e = 0 := Subsingleton.elim _ _
    exact Nat.add_comm _ _

theorem slice13 (off : IVec S20 32) (k : ℕ) (h h1 h2) (i : Fin 24) (a : Fin 13) (hs : a.val + k < 20) :
    broadcastInDim S24x13 ![0, 1] h2 (broadcastInDim S1x13 ![1] h1 (extractStridedSlice (s := S20) S13 ![k] off h)) (ix2 i a) = off (ix1 ⟨a.val + k, hs⟩) := by
  rw [broadcastInDim_apply _ _ _ (ix2 i a) (ix2 (0 : Fin 1) a) (fun e => by fin_cases e <;> rfl),
    broadcastInDim_apply _ _ _ (ix2 (0 : Fin 1) a) (ix1 a) (fun e => by
      obtain rfl : e = 0 := Subsingleton.elim _ _
      rfl)]
  exact extractStridedSlice_apply _ _ _ _ _ fun e => by
    obtain rfl : e = 0 := Subsingleton.elim _ _
    exact Nat.add_comm _ _

theorem bcast24 (v : IVec S24x1 32) (h2) (i : Fin 24) (a : Fin 13) :
    broadcastInDim S24x13 ![0, 1] h2 v (ix2 i a) = v (ix2 i (0 : Fin 1)) :=
  broadcastInDim_apply _ _ _ (ix2 i a) (ix2 i (0 : Fin 1)) (fun e => by fin_cases e <;> rfl)

theorem bcast24' (v : IVec S24 32) (h2) (i : Fin 24) :
    broadcastInDim S24x1 ![0] h2 v (ix2 i (0 : Fin 1)) = v (ix1 i) :=
  broadcastInDim_apply _ _ _ (ix2 i (0 : Fin 1)) (ix1 i) (fun e => by
    obtain rfl : e = 0 := Subsingleton.elim _ _
    rfl)

theorem word_tile : ∀ i : Fin 24, (512#32 * BitVec.ofNat 32 i.val).toInt = 512 * (i.val : ℤ)
    ∧ (512#32 * BitVec.ofNat 32 i.val + 512#32).toInt = 512 * (i.val : ℤ) + 512 := by decide

theorem tables_of {x wp ws pa pb start rank sc off seg}
    (h : Cert.Pre_well_formed.fn (F := F) x wp ws pa pb start rank sc off seg = fun _ => 1#1) : Tables off seg start rank := by
  have h0 := congrFun h (fun a => a.elim0)
  unfold Cert.Pre_well_formed.fn fn_part1 fn_part2 at h0
  obtain ⟨h0, hn⟩ := and_one h0
  obtain ⟨h0, hl⟩ := and_one h0
  obtain ⟨h0, hm⟩ := and_one h0
  obtain ⟨h0, hr⟩ := and_one h0
  obtain ⟨hs, ht⟩ := and_one h0
  clear h0 h
  haveI : Subsingleton S_.Idx := ⟨fun a b => funext fun e => e.elim0⟩
  have hsg : ∀ s : Fin 19, (seg (ix1 s)).toNat < 23 := fun s => by
    have e := Host.reduce_andi_all _ _ _ _ _ hs (ix1 s)
    obtain ⟨e1, e2⟩ := and_one e
    have e1 : 0 ≤ (seg (ix1 s)).toInt := of_decide_eq_true (of_bool_one e1)
    have e2 : (seg (ix1 s)).toInt < 23 := of_decide_eq_true (of_bool_one e2)
    have := nat_of_int (k := 22) e1 (by omega)
    omega
  refine ⟨hsg, fun s hh => ?_, fun s hh => ?_, fun s => ?_, ?_, fun i a => ?_⟩
  · have e := Host.reduce_andi_all _ _ _ _ _ ht (ix1 s)
    obtain ⟨e1, e2⟩ := and_one e
    have e1 : 0 ≤ (fn_take (F := F) start seg (ix1 s)).toInt := of_decide_eq_true (of_bool_one e1)
    have e2 : (fn_take (F := F) start seg (ix1 s)).toInt ≤ 968 := of_decide_eq_true (of_bool_one e2)
    rw [take_at _ _ _ hh] at e1 e2
    exact nat_of_int e1 e2
  · have e := Host.reduce_andi_all _ _ _ _ _ hr (ix1 s)
    have e : (fn_take (F := F) rank seg (ix1 s)).toInt ≤ 32 := of_decide_eq_true (of_bool_one e)
    rwa [take_at _ _ _ hh] at e
  · have e := of_decide_eq_true (of_bool_one (Host.reduce_andi_all _ _ _ _ _ hm (ix1 s)))
    have e : (extractStridedSlice (s := S20) S19 ![0] off slices_S20_S19_0 (ix1 s)).toInt ≤ (extractStridedSlice (s := S20) S19 ![1] off slices_S20_S19_1 (ix1 s)).toInt := e
    rw [slice19 _ 0 _ s (by omega), slice19 _ 1 _ s (by omega)] at e
    exact e
  · have e := of_decide_eq_true (of_bool_one hl)
    have e : (11776 : ℤ) < (shapeCast S_ (extractStridedSlice (s := S20) S1 ![19] off slices_S20_S1_19) shapeCasts_S1_S_ (fun a => a.elim0)).toInt := e
    have e2 : shapeCast S_ (extractStridedSlice (s := S20) S1 ![19] off slices_S20_S1_19) shapeCasts_S1_S_ (fun a => a.elim0) = off (ix1 (19 : Fin 20)) := by
      refine (shapeCast_apply _ _ _ (ix1 (0 : Fin 1)) ?_).trans (extractStridedSlice_apply _ _ _ _ (ix1 (19 : Fin 20)) fun e => ?_)
      · have h1 := ((⟨1, ![1]⟩ : Shape).rowMajor (ix1 (0 : Fin 1))).isLt
        have h2 := (S_.rowMajor fun a => a.elim0).isLt
        have n1 : (⟨1, ![1]⟩ : Shape).numel = 1 := by decide
        have n2 : S_.numel = 1 := by decide
        omega
      · obtain rfl : e = 0 := Subsingleton.elim _ _
        rfl
    exact lt_of_lt_of_eq e (congrArg BitVec.toInt e2)
  · obtain ⟨w1, w2⟩ := word_tile i
    rcases or_one (Host.reduce_andi_all _ _ _ _ _ hn (ix2 i a)) with e | e
    · left
      have e := of_decide_eq_true (of_bool_one e)
      dsimp only at e
      rw [slice13 off 1 _ _ _ i a (by omega), bcast24] at e
      simp only [muli] at e
      rw [bcast24'] at e
      exact le_of_le_of_eq e w1
    · right
      have e := of_decide_eq_true (of_bool_one e)
      dsimp only at e
      rw [slice13 off 6 _ _ _ i a (by omega), bcast24] at e
      simp only [addi, muli] at e
      rw [bcast24'] at e
      exact le_of_eq_of_le w2.symm e

end Lora

end
-- ==== Proof.Run.K.Good.lean ====
/-
  The precondition, as the run uses it.
-/
module

public import proofs.«01_k».proof.Proof.Run.K.Run
public import proofs.«01_k».proof.Proof.Pre
public import proofs.«01_k».proof.Proof.Gen.Kernel.Launch
public import proofs.«01_k».proof.Proof.Gen.Kernel.Points
public import Idealize.ShloMosaic.Lib.Pipeline.FrameBody
public import Idealize.ShloMosaic.Lib.Pipeline.FrameSuffixV
public import Idealize.ShloMosaic.Lib.Pipeline.TableIdle

@[expose] public section

noncomputable section

namespace Cert.Kernel.Hand

open Cert.Kernel Cert.Kernel.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

/-- A buffer that the pass over the arguments does not write holds at the launch what it held at the start. -/
theorem V_keep (c : Dev nD) (b : Ref sig .tc) (h0 : main_v0 ≠ b) : V m c b = m ((c.tc : Thread nD τ).loc b) := by
  show StableHlo.after hostOps0 _ _ = _
  rw [StableHlo.after_of_forall_not_mem]
  intro op ho
  obtain rfl := List.mem_singleton.mp ho
  exact fun h => h0 (Proc.devRef_injective _ (Finset.mem_singleton.mp h)).symm

theorem Good_of_tables (I : In F) (h : Lora.Tables I.off I.seg I.start I.rank) : Good I := by
  have sg : ∀ s < 19, (I.sgw s).toNat < 23 := fun s hs => h.sg (Fin.ofNat 19 s)
  refine ⟨sg, fun s hs => ?_, fun s hs => ?_, fun s hs => ?_, h.last, fun i hi a ha => ?_⟩
  · have e := h.st (Fin.ofNat 19 s) (sg s hs)
    unfold In.st
    rwa [show Fin.ofNat 23 (I.sgw s).toNat = ⟨(I.sgw s).toNat, sg s hs⟩ from Fin.ext (Nat.mod_eq_of_lt (sg s hs))]
  · have e := h.rk (Fin.ofNat 19 s) (sg s hs)
    unfold In.rk
    rwa [show Fin.ofNat 23 (I.sgw s).toNat = ⟨(I.sgw s).toNat, sg s hs⟩ from Fin.ext (Nat.mod_eq_of_lt (sg s hs))]
  · have e := h.mono ⟨s, hs⟩
    unfold In.of
    rwa [show Fin.ofNat 20 s = (⟨s, hs⟩ : Fin 19).castSucc from Fin.ext (Nat.mod_eq_of_lt (by omega)),
      show Fin.ofNat 20 (s + 1) = (⟨s, hs⟩ : Fin 19).succ from Fin.ext (Nat.mod_eq_of_lt (by omega))]
  · have e := h.near ⟨i, hi⟩ ⟨a, ha⟩
    unfold In.of
    rwa [show Fin.ofNat 20 (a + 1) = ⟨a + 1, by omega⟩ from Fin.ext (Nat.mod_eq_of_lt (by omega)),
      show Fin.ofNat 20 (a + 6) = ⟨a + 6, by omega⟩ from Fin.ext (Nat.mod_eq_of_lt (by omega))]

/-- The precondition of the arguments' contents makes the kernel's tables good. -/
theorem good_of_pre [Cert.Pre_well_formed.Facts]
    (h : ∀ c : Dev nD, Cert.Pre_well_formed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1)
    (c : Dev nD) : Good (I0 m c) := by
  have ht := Lora.tables_of (h c)
  apply Good_of_tables
  show Lora.Tables (V m c main_arg8) (V m c main_arg9) (V m c main_arg5) (V m c main_arg6)
  rw [V_keep m c _ (by decide), V_keep m c _ (by decide), V_keep m c _ (by decide), V_keep m c _ (by decide)]
  exact ht

end Cert.Kernel.Hand

end
-- ==== Proof.Run.KI.Env.lean ====
/-
  The kernel's operands as one record, and the loop bodies over it.
-/
module

public import proofs.«01_k».proof.Proof.Run.Basic
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.Pointwise.Index

@[expose] public section

noncomputable section

namespace Cert.KernelIdeal.Hand

open Cert.KernelIdeal Cert.KernelIdeal.Gen Lora
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The operands and scratch buffers of the kernel. -/
structure Env where
  arg0 : Memref sig .tc .smem S20 .i32
  harg0 : arg0.IsWhole
  arg1 : Memref sig .tc .smem S19 .i32
  harg1 : arg1.IsWhole
  arg2 : Memref sig .tc .smem S23 .i32
  harg2 : arg2.IsWhole
  arg3 : Memref sig .tc .smem S23 .i32
  harg3 : arg3.IsWhole
  arg4 : Memref sig .tc .smem S23x3 .f32
  harg4 : arg4.IsWhole
  arg5 : Memref sig .tc .hbm S12288x2048 .bf16
  harg5 : arg5.IsWhole
  arg6 : Memref sig .tc .hbm S256x8192 .i32
  harg6 : arg6.IsWhole
  arg7 : Memref sig .tc .hbm S16x8192 .bf16
  harg7 : arg7.IsWhole
  arg8 : Memref sig .tc .hbm S3x1000x2048 .bf16
  harg8 : arg8.IsWhole
  arg9 : Memref sig .tc .hbm S1000x8192 .bf16
  harg9 : arg9.IsWhole
  arg10 : Memref sig .tc .hbm S12288x8192 .bf16
  harg10 : arg10.IsWhole
  arg11 : Memref sig .tc .hbm S3x32x12288 .bf16
  harg11 : arg11.IsWhole
  arg12 : Memref sig .tc .vmem S16x2048x512 .bf16
  harg12 : arg12.IsWhole
  arg13 : Memref sig .tc .vmem S2x512x2048 .bf16
  harg13 : arg13.IsWhole
  arg14 : Memref sig .tc .vmem S2x256x512 .i32
  harg14 : arg14.IsWhole
  arg15 : Memref sig .tc .vmem S16x8192 .bf16
  harg15 : arg15.IsWhole
  arg16 : Memref sig .tc .vmem S8x120x2048 .bf16
  harg16 : arg16.IsWhole
  arg17 : Memref sig .tc .vmem S776x8192 .bf16
  harg17 : arg17.IsWhole
  arg18 : Memref sig .tc .vmem S3x256x512 .f32
  harg18 : arg18.IsWhole
  arg19 : Memref sig .tc .vmem S3x512x256 .bf16
  harg19 : arg19.IsWhole
  arg20 : Memref sig .tc .vmem S4x40x128 .f32
  harg20 : arg20.IsWhole
  arg21 : Memref sig .tc .vmem S3x32x512 .bf16
  harg21 : arg21.IsWhole
  arg22 : Memref sig .tc .vmem S4x512x512 .bf16
  harg22 : arg22.IsWhole
  arg23 : DmaSems sig S2
  arg24 : DmaSems sig S2
  arg25 : DmaSems sig S_
  arg26 : DmaSems sig S8
  arg27 : DmaSems sig S19
  arg28 : DmaSems sig S4
  arg29 : DmaSems sig S_

/-- The contents of the operands the kernel reads. -/
structure In (F : FTy → Type) where
  off : S20.Idx → Elt F .i32
  seg : S19.Idx → Elt F .i32
  start : S23.Idx → Elt F .i32
  rank : S23.Idx → Elt F .i32
  scal : S23x3.Idx → Elt F .f32
  X : S12288x2048.Idx → Elt F .bf16
  WP : S256x8192.Idx → Elt F .i32
  WS : S16x8192.Idx → Elt F .bf16
  A : S3x1000x2048.Idx → Elt F .bf16
  B : S1000x8192.Idx → Elt F .bf16

/-- A trip of the kernel's loop t1. -/
abbrev Env.t1 (E : Env) := k0_t1_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t2. -/
abbrev Env.t2 (E : Env) := k0_t2_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t3. -/
abbrev Env.t3 (E : Env) := k0_t3_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

/-- A trip of the kernel's loop t4. -/
abbrev Env.t4 (E : Env) := k0_t4_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

end Cert.KernelIdeal.Hand

end
-- ==== Proof.Run.KI.T1.lean ====
/-
  The loops that fetch the adapters' up-projection windows: nineteen copies are started, each on its own cell, and
  later waited for in the same order.
-/
module

public import proofs.«01_k».proof.Proof.Run.KI.Env

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

/-- The first row of the aligned window of forty rows around row `w`. -/
def base (w : BitVec 32) : ℕ := (Scalar.minsi (Scalar.shli (Scalar.shrsi w 3#32) 3#32) 960#32).toNat

namespace In
variable (I : In F)
/-- The adapter of segment `s`, as a word. -/
def sgw (s : ℕ) : BitVec 32 := I.seg (ix1 (Fin.ofNat 19 s))
/-- The first slot of the adapter of segment `s`. -/
def st (s : ℕ) : BitVec 32 := I.start (ix1 (Fin.ofNat 23 (I.sgw s).toNat))
/-- The rank of the adapter of segment `s`. -/
def rk (s : ℕ) : BitVec 32 := I.rank (ix1 (Fin.ofNat 23 (I.sgw s).toNat))
/-- The token where segment `s` begins. -/
def of (s : ℕ) : BitVec 32 := I.off (ix1 (Fin.ofNat 20 s))
/-- The scratch of up-projection windows once filled: forty rows a segment, then zeros. -/
def Bv : S776x8192.Idx → Elt F .bf16 := fun i =>
  if (i 0).val < 760 then I.B (ix2 (Fin.ofNat 1000 (base (I.st ((i 0).val / 40)) + (i 0).val % 40)) (i 1))
  else k0_pay102 (F := F) (ix2 (Fin.ofNat 16 ((i 0).val - 760)) (i 1))
end In

/-- What the precondition says of the tables. -/
structure Good (I : In F) : Prop where
  sg : ∀ s < 19, (I.sgw s).toNat < 23
  st : ∀ s < 19, (I.st s).toNat ≤ 968
  rk : ∀ s < 19, (I.rk s).toInt ≤ 32
  mono : ∀ s < 19, (I.of s).toInt ≤ (I.of (s + 1)).toInt
  last : 11776 < (I.of 19).toInt
  near : ∀ i : ℕ, i < 24 → ∀ a < 13, (I.of (a + 1)).toInt ≤ 512 * (i : ℤ) ∨ 512 * (i : ℤ) + 512 ≤ (I.of (a + 6)).toInt

theorem base_eq (w : BitVec 32) (h : w.toNat ≤ 968) : base w = min (w.toNat / 8 * 8) 960 := by
  have : ∀ n : Fin 969, base (BitVec.ofNat 32 n.val) = min (n.val / 8 * 8) 960 := by decide +kernel
  have h1 := this ⟨w.toNat, by omega⟩
  simpa using h1

theorem emb1 {n : ℕ} {off : Fin 1 → ℕ} {inb} (i : (⟨1, ![n]⟩ : Shape).Idx) (h : off 0 = (i 0).val) :
    ∀ x, (Rect.unit (s := ⟨1, ![n]⟩) off S1.size inb).emb x = i := by
  intro x
  funext a
  apply Fin.ext
  rw [Rect.emb_apply]
  have ha : a = 0 := Subsingleton.elim _ _
  subst ha
  have hx : (x 0).val < 1 := (x 0).isLt
  show off 0 + 1 * (x 0).val = _
  omega

/-- Rows `lo` up to `hi` of the scratch of windows. -/
def rowsB (lo hi : ℕ) : Finset S776x8192.Idx := Finset.univ.filter fun i => lo ≤ (i 0).val ∧ (i 0).val < hi

theorem rowsB_split (lo mid hi : ℕ) (h1 : lo ≤ mid) (h2 : mid ≤ hi) : rowsB lo hi = rowsB lo mid ∪ rowsB mid hi := by
  ext i; simp only [rowsB, Finset.mem_filter, Finset.mem_union, Finset.mem_univ, true_and]; omega

theorem rowsB_disj (lo mid hi : ℕ) : Disjoint (rowsB lo mid) (rowsB mid hi) := by
  rw [Finset.disjoint_left]; intro i; simp only [rowsB, Finset.mem_filter, Finset.mem_univ, true_and]; omega

theorem set_rowsB {off : Fin 2 → ℕ} {n : ℕ} {inb} (h0 : off 1 = 0) :
    (Rect.unit (s := S776x8192) off (![n, 8192] : Fin 2 → ℕ) inb).set = rowsB (off 0) (off 0 + n) := by
  ext i
  rw [Rect.mem_set_unit]
  simp only [rowsB, Finset.mem_filter, Finset.mem_univ, true_and, Fin.forall_fin_two, h0]
  have : (i 1).val < 8192 := (i 1).isLt
  simp only [Matrix.cons_val_zero, Matrix.cons_val_one]
  omega

theorem words_B (m : Fin 121) (inb) : (Rect.unit (s := S1000x8192) ![8 * m.val, 0] S40x8192.size inb).WholeWords (EltTy.packing .bf16) := by
  revert inb; revert m; decide +kernel

theorem chk2_of (w : BitVec 32) (h : w.toNat ≤ 968) : k0_chk2 w := by
  have hb := base_eq w h
  have ho : k0_off5 w = ![base w, 0] := rfl
  have hm : k0_mult3 w = Scalar.minsi (Scalar.shli (Scalar.shrsi w 3#32) 3#32) 960#32 := rfl
  obtain ⟨m, hm'⟩ : ∃ m : Fin 121, base w = 8 * m.val := ⟨⟨min (w.toNat / 8) 120, by omega⟩, by rw [hb]; dsimp only; omega⟩
  refine ⟨?_, ?_, ?_⟩
  · rw [hm]; exact ⟨m.val, hm'⟩
  · rw [ho, hm']; have := m.isLt
    intro a; fin_cases a <;> simp <;> omega
  · rw [ho, hm']; exact words_B m

theorem chk1_of (w : BitVec 32) (h : w.toNat < 23) : k0_chk1 w := by
  intro a
  have ha : a = 0 := Subsingleton.elim _ _
  subst ha
  show w.toNat + 1 ≤ 23
  omega

variable (c : Dev nD) (E : Env) (I : In F)

/-- The units a window's copy credits. -/
abbrev Nb : ℕ := sig.dmaCredit .tc (Kind.table .tc .vmem) E.arg17.view.buf S40x8192 .bf16
/-- The cell of window `t`. -/
abbrev bsem (t : ℕ) : DmaSem sig := E.arg27.ix (ix1 (Fin.ofNat 19 t))
/-- Window `t` being fetched. -/
abbrev bFlight (t : ℕ) : sProp 𝕄 :=
  Flight EC (c : Thread nD τ) (.dma (bsem E t)) () (Nb E)
    iprop(At (c : Thread nD τ) E.arg17.view fullShare (rowsB (40 * t) (40 * t + 40)) I.Bv
      ∗ At (c : Thread nD τ) E.arg9.view (shareTokN fullShare t) Finset.univ I.B)
/-- The cell of window `t` at rest. -/
abbrev bCell (t : ℕ) : sProp 𝕄 := semVal ((c : Thread nD τ), .dma (bsem E t)) 0

/-- After `k` windows are started. -/
def T1inv (k : ℕ) : sProp 𝕄 :=
  iprop(At (c : Thread nD τ) E.arg1.view fullShare Finset.univ I.seg ∗ At (c : Thread nD τ) E.arg2.view fullShare Finset.univ I.start
    ∗ At (c : Thread nD τ) E.arg9.view (shareDrop fullShare k) Finset.univ I.B ∗ Any (c : Thread nD τ) E.arg17.view (rowsB (40 * k) 760)
    ∗ Rg (bCell c E) k (19 - k) ∗ Rg (bFlight c E I) 0 k)

variable (𝒱 : Variants) (bd : Option 𝒱.V)

theorem t1_step (hI : Good I) (t : Fin k0_t1_loop.trips) (u : Unit) :
    T1inv c E I t.val ⊢ wp frame (wpE (defs₀ (F := F)) 𝒱 (c : Thread nD τ) bd) Set.univ (E.t1 (F := F) t u) (fun _ => T1inv c E I (t.val + 1)) := by
  have ht : t.val < 19 := t.isLt
  have hoff1 : k0_off1 t 0 = t.val := by revert t; decide +kernel
  have hoff3 : k0_off3 t 0 = t.val := by revert t; decide +kernel
  have hoff4 : k0_off4 t = ![40 * t.val, 0] := by revert t; decide +kernel
  unfold Env.t1 k0_t1_body T1inv
  have hsem : ((E.arg27.slice (Rect.unit (s := S19) (k0_off3 t) S1.size (k0_off3_inb t))).squeeze S_ squeezes_S1_S_).sem = bsem E t.val :=
    sem_at _ _ _ _ (emb1 _ (by rw [hoff3]; simp [Nat.mod_eq_of_lt ht]))
  rw [show 19 - t.val = (19 - (t.val + 1)) + 1 by omega, Rg_succ]
  have hs := hI.sg t.val ht
  have hw := hI.st t.val ht
  iintro ⟨Hseg, Hst, HB, Hv, Hcell, HF⟩
  iapply (wp_word (c : Thread nD τ) 𝒱 bd (X := I.seg) (ix1 (Fin.ofNat 19 t.val)) (emb1 _ (by rw [hoff1]; simp [Nat.mod_eq_of_lt ht]))) $$ Hseg
  iintro Hseg
  iapply (wp_as (c : Thread nD τ) 𝒱 bd (chk1_of _ hs))
  iapply (wp_word (c : Thread nD τ) 𝒱 bd (X := I.start) (ix1 (Fin.ofNat 23 (I.sgw t.val).toNat)) (emb1 _ (by
    show (I.sgw t.val).toNat = _; simp [Nat.mod_eq_of_lt hs]))) $$ Hst
  iintro Hst
  iapply (wp_as (c : Thread nD τ) 𝒱 bd (chk2_of _ hw))
  ihave HB := (At_drop (c : Thread nD τ)).1 $$ HB
  icases HB with ⟨HB, Htok⟩
  ihave Hv := (Any_split (c : Thread nD τ) (rowsB_split (40 * t.val) (40 * t.val + 40) 760 (by omega) (by omega)) (rowsB_disj _ _ _)) $$ Hv
  icases Hv with ⟨Hw, Hv⟩
  icases Hcell with ⟨Hc, Hcell⟩
  have hset := set_rowsB (off := k0_off4 t) (n := 40) (inb := k0_off4_inb t) (by rw [hoff4]; rfl)
  rw [show k0_off4 t 0 = 40 * t.val by rw [hoff4]; rfl] at hset
  have hsd := Sub.slice (Val := Elt F) (c : Thread nD τ) E.arg17 (Rect.unit (s := S776x8192) (k0_off4 t) S40x8192.size (k0_off4_inb t)) (fun _ => rfl)
  rw [hset] at hsd
  have hN0 : 0 < Nb E := sig.dmaCredit_pos _ _ _ _ _ (by rw [Shape.numel]; simp [Fin.prod_univ_succ])
  have hs2 := Sub.slice (Val := Elt F) (c : Thread nD τ) E.arg9 (Rect.unit (s := S1000x8192) (k0_off5 (I.st t.val)) S40x8192.size (k0_off5_inb (I.st t.val) (chk2_of _ hw))) (fun _ => rfl)
  iapply (wp_cpG (c : Thread nD τ) 𝒱 bd (ms := E.arg9) (md := E.arg17) (X := I.B) (Y := I.Bv)
    hs2 hsd _ (congrArg SemLoc.dma hsem) (Finset.subset_univ _) ?_ (Nb E) rfl hN0) $$ [Htok Hw Hc]
  · intro x
    have h0 : (x 0).val < 40 := (x 0).isLt
    have e0 : ((Rect.unit (s := S776x8192) (k0_off4 t) S40x8192.size (k0_off4_inb t)).emb x 0).val = 40 * t.val + (x 0).val := by
      rw [Rect.emb_apply]; show k0_off4 t 0 + 1 * (x 0).val = _; rw [hoff4]; simp
    have e1 : ((Rect.unit (s := S776x8192) (k0_off4 t) S40x8192.size (k0_off4_inb t)).emb x 1).val = (x 1).val := by
      rw [Rect.emb_apply]; show k0_off4 t 1 + 1 * (x 1).val = _; rw [hoff4]; simp
    unfold In.Bv
    rw [if_pos (by rw [e0]; omega)]
    refine congrArg I.B ?_
    have hb := base_eq _ hw
    funext a
    apply Fin.ext
    refine Eq.trans ?_ (Rect.emb_apply _ _ _).symm
    match a with
    | ⟨0, _⟩ =>
      show (Fin.ofNat 1000 _).val = base (I.st t.val) + 1 * (x 0).val
      rw [e0, show (40 * t.val + (x 0).val) / 40 = t.val by omega, show (40 * t.val + (x 0).val) % 40 = (x 0).val by omega]
      simp only [Fin.val_ofNat]
      omega
    | ⟨1, _⟩ =>
      refine e1.trans ?_
      show _ = 0 + 1 * (x 1).val
      omega
  · isplitl [Htok]; · iexact Htok
    isplitl [Hw]; · iexact Hw
    iexact Hc
  iintro HF1
  iapply (wp_done (c : Thread nD τ) 𝒱 bd)
  isplitl [Hseg]; · iexact Hseg
  isplitl [Hst]; · iexact Hst
  isplitl [HB]; · iexact HB
  isplitl [Hv]; · iexact Hv
  isplitl [Hcell]; · iexact Hcell
  iapply (Rg_snoc (bFlight c E I) 0 t.val)
  isplitl [HF]; · iexact HF
  iapply (ent_of_eq (congrArg (bFlight c E I) (Nat.zero_add t.val).symm)) $$ HF1

end Cert.KernelIdeal.Hand

end
-- ==== Proof.Run.KI.T3.lean ====
/-
  The loop that waits for the nineteen windows of the up-projection.
-/
module

public import proofs.«01_k».proof.Proof.Run.KI.T1
public import proofs.«01_k».proof.Proof.Run.Keyed

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (c : Dev nD) (E : Env) (I : In F)

/-- What the waits a thread has passed leave behind. -/
abbrev Ow : sProp 𝕄 := iprop(∃ W, owes (c : Thread nD τ) 0 W)

/-- After `k` windows have arrived. -/
def T3inv (k : ℕ) : sProp 𝕄 :=
  iprop(At (c : Thread nD τ) E.arg1.view fullShare Finset.univ I.seg ∗ At (c : Thread nD τ) E.arg2.view fullShare Finset.univ I.start
    ∗ At (c : Thread nD τ) E.arg17.view fullShare (rowsB 0 (40 * k)) I.Bv
    ∗ Rg (fun t => At (c : Thread nD τ) E.arg9.view (shareTokN fullShare t) Finset.univ I.B) 0 k
    ∗ Rg (bCell c E) 0 k ∗ Rg (bFlight c E I) k (19 - k) ∗ Ow c)

variable (𝒱 : Variants) (bd : Option 𝒱.V)

theorem chk3_of (w : BitVec 32) (h : w.toNat < 23) : k0_chk3 w := chk1_of w h
theorem chk4_of (w : BitVec 32) (h : w.toNat ≤ 968) : k0_chk4 w := chk2_of w h

theorem t3_step (hI : Good I) (t : Fin k0_t3_loop.trips) (u : Unit) :
    T3inv c E I t.val ⊢ wp frame (wpE (defs₀ (F := F)) 𝒱 (c : Thread nD τ) bd) Set.univ (E.t3 (F := F) t u) (fun _ => T3inv c E I (t.val + 1)) := by
  have ht : t.val < 19 := t.isLt
  have hoff1 : k0_off45 t 0 = t.val := by revert t; decide +kernel
  have hoff3 : k0_off47 t 0 = t.val := by revert t; decide +kernel
  unfold Env.t3 k0_t3_body T3inv
  have hsem : ((E.arg27.slice (Rect.unit (s := S19) (k0_off47 t) S1.size (k0_off47_inb t))).squeeze S_ squeezes_S1_S_).sem = bsem E t.val :=
    sem_at _ _ _ _ (emb1 _ (by rw [hoff3]; simp [Nat.mod_eq_of_lt ht]))
  rw [show 19 - t.val = (19 - (t.val + 1)) + 1 by omega, Rg_succ]
  have hs := hI.sg t.val ht
  have hw := hI.st t.val ht
  iintro ⟨Hseg, Hst, Hv, Htok, Hcell, HF, HO⟩
  iapply (wp_word (c : Thread nD τ) 𝒱 bd (X := I.seg) (ix1 (Fin.ofNat 19 t.val)) (emb1 _ (by rw [hoff1]; simp [Nat.mod_eq_of_lt ht]))) $$ Hseg
  iintro Hseg
  iapply (wp_as (c : Thread nD τ) 𝒱 bd (chk3_of _ hs))
  iapply (wp_word (c : Thread nD τ) 𝒱 bd (X := I.start) (ix1 (Fin.ofNat 23 (I.sgw t.val).toNat)) (emb1 _ (by
    show (I.sgw t.val).toNat = _; simp [Nat.mod_eq_of_lt hs]))) $$ Hst
  iintro Hst
  iapply (wp_as (c : Thread nD τ) 𝒱 bd (chk4_of _ hw))
  icases HF with ⟨HF1, HF⟩
  iapply (wp_wt (c : Thread nD τ) 𝒱 bd (N := Nb E) (bsem E t.val) hsem rfl) $$ [HF1 HO]
  · isplitl [HF1] <;> iassumption
  iintro ⟨⟨HD, HT⟩, Hc, HO⟩
  iapply (wp_done (c : Thread nD τ) 𝒱 bd)
  isplitl [Hseg]; · iexact Hseg
  isplitl [Hst]; · iexact Hst
  isplitl [Hv HD]
  · iapply (At_split (c : Thread nD τ) (rowsB_split 0 (40 * t.val) (40 * (t.val + 1)) (by omega) (by omega)) (rowsB_disj _ _ _)).2
    isplitl [Hv] <;> iassumption
  isplitl [Htok HT]
  · iapply (Rg_snoc (fun t => At (c : Thread nD τ) E.arg9.view (shareTokN fullShare t) Finset.univ I.B) 0 t.val)
    isplitl [Htok]; · iexact Htok
    iapply (ent_of_eq (congrArg (fun t => At (c : Thread nD τ) E.arg9.view (shareTokN fullShare t) Finset.univ I.B) (Nat.zero_add t.val).symm)) $$ HT
  isplitl [Hcell Hc]
  · iapply (Rg_snoc (bCell c E) 0 t.val)
    isplitl [Hcell]; · iexact Hcell
    iapply (ent_of_eq (congrArg (bCell c E) (Nat.zero_add t.val).symm)) $$ Hc
  isplitl [HF] <;> iassumption

end Cert.KernelIdeal.Hand

end
-- ==== Proof.Run.KI.T2.lean ====
/-
  The loop that decodes the packed weights: sixteen blocks of words arrive in turn in two slots; each is decoded,
  scaled group by group and stored in the resident weight.
-/
module

public import proofs.«01_k».proof.Proof.Run.KI.T3
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- Block `k` of the packed words. -/
def wblk (k : ℕ) : S1x256x512.Idx → Elt F .i32 := fun x => I.WP (ix2 (x 1) (Fin.ofNat 8192 (512 * k + (x 2).val)))
/-- A slot holding block `k`. -/
def wC (k : ℕ) : S2x256x512.Idx → Elt F .i32 := fun x => I.WP (ix2 (x 1) (Fin.ofNat 8192 (512 * k + (x 2).val)))
/-- The decoded, scaled weight, block by block. -/
def W : S16x2048x512.Idx → Elt F .bf16 := fun i =>
  FloatOps.mulf (φ := .bf16) (k0_pay1 (F := F) (I.wblk (i 0).val) (ix2 (i 1) (i 2)))
    (I.WS (ix2 (Fin.ofNat 16 ((i 1).val / 128)) (Fin.ofNat 8192 (512 * (i 0).val + (i 2).val))))
end In

/-- The order in which the pieces of the weight are stored. -/
abbrev keyW (i : S16x2048x512.Idx) : ℕ := 16 * (i 0).val + (i 1).val / 128

variable (c : Dev nD) (E : Env) (I : In F)

/-- The units a block's copy credits. -/
abbrev Nw : ℕ := sig.dmaCredit .tc (Kind.table .tc .vmem) E.arg14.view.buf S256x512 .i32
/-- The cell of slot `p`. -/
abbrev wsem (p : ℕ) : DmaSem sig := E.arg24.ix (ix1 (Fin.ofNat 2 p))
/-- Slot `p` unused. -/
abbrev wIdle (p : ℕ) : sProp 𝕄 :=
  iprop(At (c : Thread nD τ) E.arg6.view (shareTokN fullShare p) Finset.univ I.WP ∗ Any (c : Thread nD τ) E.arg14.view (plane p)
    ∗ semVal ((c : Thread nD τ), .dma (wsem E p)) 0)
/-- Slot `p` being filled with block `k`. -/
abbrev wBusy (p k : ℕ) : sProp 𝕄 :=
  Flight EC (c : Thread nD τ) (.dma (wsem E p)) () (Nw E)
    iprop(At (c : Thread nD τ) E.arg14.view fullShare (plane p) (I.wC k) ∗ At (c : Thread nD τ) E.arg6.view (shareTokN fullShare p) Finset.univ I.WP)
/-- The slot of block `k`: being filled while there is such a block. -/
def wNext (k : ℕ) : sProp 𝕄 := if k < 16 then wBusy c E I (k % 2) k else wIdle c E I (k % 2)

variable (𝒱 : Variants) (bd : Option 𝒱.V)

/-- Part 1 of a trip: the next block is asked for, this one is awaited. -/
theorem part1_spec (t : Fin k0_t2_loop.trips) :
    iprop(wNext c E I t.val ∗ wIdle c E I ((t.val + 1) % 2) ∗ Ow c)
      ⊢ wp frame (wpE (defs₀ (F := F)) 𝒱 (c : Thread nD τ) bd) Set.univ
          (k0_part1 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 0#32 1#32 t)
          (fun r => iprop(⌜r = ⟨Scf.iv 0#32 1#32 t, Scalar.select (Scalar.cmpi .eq 2#32 0#32) 1#32 2#32, Scalar.remsi (Scf.iv 0#32 1#32 t) (Scalar.select (Scalar.cmpi .eq 2#32 0#32) 1#32 2#32), 0#32⟩⌝
            ∗ iprop(At (c : Thread nD τ) E.arg14.view fullShare (plane (t.val % 2)) (I.wC t.val)
              ∗ At (c : Thread nD τ) E.arg6.view (shareTokN fullShare (t.val % 2)) Finset.univ I.WP ∗ semVal ((c : Thread nD τ), .dma (wsem E (t.val % 2))) 0
              ∗ wNext c E I (t.val + 1) ∗ Ow c))) := by
  have ht : t.val < 16 := t.isLt
  have hoff9 : k0_off9 t 0 = t.val % 2 := by revert t; decide +kernel
  have hsem : ((E.arg24.slice (Rect.unit (s := S2) (k0_off9 t) S1.size (k0_off9_inb t))).squeeze S_ squeezes_S1_S_).sem = wsem E (t.val % 2) :=
    sem_at _ _ _ _ (emb1 _ (by rw [hoff9]; simp))
  have hN0 : 0 < Nw E := sig.dmaCredit_pos _ _ _ _ _ (by rw [Shape.numel]; simp [Fin.prod_univ_succ])
  rw [k0_part1_eq_skeleton]
  unfold k0_part1_skel wNext
  by_cases h : t.val + 1 < 16
  · have hc : k0_cond1 t = 1#1 := by clear hsem hN0 hoff9; revert t; decide +kernel
    have hoff6 : k0_off6 t 0 = (t.val + 1) % 2 := by clear hsem hN0 hc hoff9; revert t; decide +kernel
    have hoff7 : k0_off7 t = ![(t.val + 1) % 2, 0, 0] := by clear hsem hN0 hc hoff9; revert t; decide +kernel
    have hoff8 : k0_off8 t = ![0, 512 * (t.val + 1)] := by clear hsem hN0 hc hoff9 hoff6 hoff7; revert t; decide +kernel
    have hsem' : ((E.arg24.slice (Rect.unit (s := S2) (k0_off6 t) S1.size (k0_off6_inb t hc))).squeeze S_ squeezes_S1_S_).sem = wsem E ((t.val + 1) % 2) :=
      sem_at _ _ _ _ (emb1 _ (by rw [hoff6]; simp))
    rw [dif_pos hc, if_pos ht, if_pos h]
    simp only [bind_assoc, pure_bind]
    iintro ⟨HF, HI, HO⟩
    iapply (ring_start (c : Thread nD τ) 𝒱 bd (ms := E.arg6) (md := E.arg14) (X := I.WP) (Y := I.wC (t.val + 1)) hoff8 rfl hoff7 rfl _ (congrArg SemLoc.dma hsem') ?_ (Nw E) rfl hN0) $$ HI
    · intro i j h0 h1 h2
      have := (i 2).isLt
      refine congrArg I.WP (ext2 ?_ ?_)
      · rw [h1]; simp
      · rw [h2]
        have e : (i 2).val < 512 := (i 2).isLt
        simp; omega
    iintro HB
    iapply (wp_wt (c : Thread nD τ) 𝒱 bd (N := Nw E) (wsem E (t.val % 2)) hsem rfl) $$ [HF HO]
    · isplitl [HF] <;> iassumption
    iintro ⟨⟨HD, HT⟩, Hc, HO⟩
    iapply (wp_done (c : Thread nD τ) 𝒱 bd)
    isplitr [HD HT Hc HB HO]
    · ipureintro; rfl
    isplitl [HD]; · iexact HD
    isplitl [HT]; · iexact HT
    isplitl [Hc]; · iexact Hc
    isplitl [HB] <;> iassumption
  · have hc : ¬ k0_cond1 t = 1#1 := by clear hsem hN0 hoff9; revert t; decide +kernel
    rw [dif_neg hc, if_pos ht, if_neg h]
    simp only [bind_assoc, pure_bind]
    iintro ⟨HF, HI, HO⟩
    iapply (wp_wt (c : Thread nD τ) 𝒱 bd (N := Nw E) (wsem E (t.val % 2)) hsem rfl) $$ [HF HO]
    · isplitl [HF] <;> iassumption
    iintro ⟨⟨HD, HT⟩, Hc, HO⟩
    iapply (wp_done (c : Thread nD τ) 𝒱 bd)
    isplitr [HD HT Hc HI HO]
    · ipureintro; rfl
    isplitl [HD]; · iexact HD
    isplitl [HT]; · iexact HT
    isplitl [Hc]; · iexact Hc
    isplitl [HI] <;> iassumption

/-- A group of 128 rows of a decoded block, scaled. -/
theorem pay_at (v109 : FVec F S2048x512 .bf16) (v : Vec F S1x512 .bf16) (o : ℕ) (ho : o + 128 ≤ 2048) (h : S2048x512.Slices ![o, 0] S128x512) (x : S1x128x512.Idx) :
    shapeCast S1x128x512 (mulf (extractStridedSlice S128x512 ![o, 0] v109 h) (broadcastTo S128x512 v broadcasts_S1x512_S128x512)) shapeCasts_S128x512_S1x128x512 x
      = FloatOps.mulf (φ := .bf16) (v109 (ix2 (Fin.ofNat 2048 (o + (x 1).val)) (x 2))) (v (ix2 0 (x 2))) := by
  have h1 : (x 1).val < 128 := (x 1).isLt
  refine (cast2_3 (a := 128) (b := 512) _ shapeCasts_S128x512_S1x128x512 x).trans ?_
  refine congrArg₂ (FloatOps.mulf (φ := .bf16)) (congrArg v109 (ext2 ?_ ?_)) (congrArg v (ext2 ?_ ?_))
  · show o + (x 1).val = (o + (x 1).val) % 2048
    omega
  · exact Nat.zero_add _
  · rfl
  · rfl

/-- What a group's store writes is its piece of the weight. -/
theorem piece (t g : ℕ) (ht : t < 16) (hg : g < 16) {off : Fin 3 → ℕ} {inb} (ho : off = ![t, 128 * g, 0]) {off2 : Fin 2 → ℕ} {inb2} (ho2 : off2 = ![g, 512 * t])
    (h : S2048x512.Slices ![128 * g, 0] S128x512) (x : S1x128x512.Idx) :
    I.W ((Rect.unit (s := S16x2048x512) off S1x128x512.size inb).emb x)
      = shapeCast S1x128x512 (mulf (extractStridedSlice S128x512 ![128 * g, 0] (k0_pay1 (F := F) (I.wblk t)) h)
          (broadcastTo S128x512 (fun y => I.WS ((Rect.unit (s := S16x8192) off2 S1x512.size inb2).toLoadRect.idx y)) broadcasts_S1x512_S128x512)) shapeCasts_S128x512_S1x128x512 x := by
  subst ho ho2
  have h0 : (x 0).val < 1 := (x 0).isLt
  have h1 : (x 1).val < 128 := (x 1).isLt
  have h2 : (x 2).val < 512 := (x 2).isLt
  have e0 : ((Rect.unit (s := S16x2048x512) ![t, 128 * g, 0] S1x128x512.size inb).emb x 0).val = t := (emb_val 0).trans (by show t + (x 0).val = t; omega)
  have e1 : ((Rect.unit (s := S16x2048x512) ![t, 128 * g, 0] S1x128x512.size inb).emb x 1).val = 128 * g + (x 1).val := emb_val 1
  have e2 : ((Rect.unit (s := S16x2048x512) ![t, 128 * g, 0] S1x128x512.size inb).emb x 2).val = (x 2).val := (emb_val 2).trans (by show 0 + (x 2).val = _; omega)
  rw [pay_at _ _ _ (by omega)]
  unfold In.W
  refine congrArg₂ (FloatOps.mulf (φ := .bf16)) ?_ (congrArg I.WS (ext2 ?_ ?_))
  · rw [e0]
    refine congrArg (k0_pay1 (F := F) (I.wblk t)) (ext2 ?_ ?_)
    · refine e1.trans ?_
      show _ = (128 * g + (x 1).val) % 2048
      omega
    · exact e2
  · show (_ / 128) % 16 = g + 0
    rw [e1]; omega
  · show (512 * _ + _) % 8192 = 512 * t + 1 * (x 2).val
    rw [e0, e2]; omega

/-- The elements of a group's store. -/
theorem piece_set (t g : ℕ) (hg : g < 16) {off : Fin 3 → ℕ} {inb} (ho : off = ![t, 128 * g, 0]) :
    (Rect.unit (s := S16x2048x512) off S1x128x512.size inb).set = only keyW (16 * t + g) := by
  ext i
  rw [mem3 ho rfl]
  have h1 : (i 1).val < 2048 := (i 1).isLt
  have h2 : (i 2).val < 512 := (i 2).isLt
  simp only [only, Finset.mem_filter, Finset.mem_univ, true_and, keyW]
  omega

theorem ow0 (t : Fin k0_t2_loop.trips) : k0_off13 t = ![0, 512 * t.val] := by revert t; decide +kernel
theorem os0 (t : Fin k0_t2_loop.trips) : k0_off14 t = ![t.val, 128 * 0, 0] := by revert t; decide +kernel
theorem ow1 (t : Fin k0_t2_loop.trips) : k0_off15 t = ![1, 512 * t.val] := by revert t; decide +kernel
theorem os1 (t : Fin k0_t2_loop.trips) : k0_off16 t = ![t.val, 128 * 1, 0] := by revert t; decide +kernel
theorem ow2 (t : Fin k0_t2_loop.trips) : k0_off17 t = ![2, 512 * t.val] := by revert t; decide +kernel
theorem os2 (t : Fin k0_t2_loop.trips) : k0_off18 t = ![t.val, 128 * 2, 0] := by revert t; decide +kernel
theorem ow3 (t : Fin k0_t2_loop.trips) : k0_off19 t = ![3, 512 * t.val] := by revert t; decide +kernel
theorem os3 (t : Fin k0_t2_loop.trips) : k0_off20 t = ![t.val, 128 * 3, 0] := by revert t; decide +kernel
theorem ow4 (t : Fin k0_t2_loop.trips) : k0_off21 t = ![4, 512 * t.val] := by revert t; decide +kernel
theorem os4 (t : Fin k0_t2_loop.trips) : k0_off22 t = ![t.val, 128 * 4, 0] := by revert t; decide +kernel
theorem ow5 (t : Fin k0_t2_loop.trips) : k0_off23 t = ![5, 512 * t.val] := by revert t; decide +kernel
theorem os5 (t : Fin k0_t2_loop.trips) : k0_off24 t = ![t.val, 128 * 5, 0] := by revert t; decide +kernel
theorem ow6 (t : Fin k0_t2_loop.trips) : k0_off25 t = ![6, 512 * t.val] := by revert t; decide +kernel
theorem os6 (t : Fin k0_t2_loop.trips) : k0_off26 t = ![t.val, 128 * 6, 0] := by revert t; decide +kernel
theorem ow7 (t : Fin k0_t2_loop.trips) : k0_off27 t = ![7, 512 * t.val] := by revert t; decide +kernel
theorem os7 (t : Fin k0_t2_loop.trips) : k0_off28 t = ![t.val, 128 * 7, 0] := by revert t; decide +kernel
theorem ow8 (t : Fin k0_t2_loop.trips) : k0_off29 t = ![8, 512 * t.val] := by revert t; decide +kernel
theorem os8 (t : Fin k0_t2_loop.trips) : k0_off30 t = ![t.val, 128 * 8, 0] := by revert t; decide +kernel
theorem ow9 (t : Fin k0_t2_loop.trips) : k0_off31 t = ![9, 512 * t.val] := by revert t; decide +kernel
theorem os9 (t : Fin k0_t2_loop.trips) : k0_off32 t = ![t.val, 128 * 9, 0] := by revert t; decide +kernel
theorem ow10 (t : Fin k0_t2_loop.trips) : k0_off33 t = ![10, 512 * t.val] := by revert t; decide +kernel
theorem os10 (t : Fin k0_t2_loop.trips) : k0_off34 t = ![t.val, 128 * 10, 0] := by revert t; decide +kernel
theorem ow11 (t : Fin k0_t2_loop.trips) : k0_off35 t = ![11, 512 * t.val] := by revert t; decide +kernel
theorem os11 (t : Fin k0_t2_loop.trips) : k0_off36 t = ![t.val, 128 * 11, 0] := by revert t; decide +kernel
theorem ow12 (t : Fin k0_t2_loop.trips) : k0_off37 t = ![12, 512 * t.val] := by revert t; decide +kernel
theorem os12 (t : Fin k0_t2_loop.trips) : k0_off38 t = ![t.val, 128 * 12, 0] := by revert t; decide +kernel
theorem ow13 (t : Fin k0_t2_loop.trips) : k0_off39 t = ![13, 512 * t.val] := by revert t; decide +kernel
theorem os13 (t : Fin k0_t2_loop.trips) : k0_off40 t = ![t.val, 128 * 13, 0] := by revert t; decide +kernel
theorem ow14 (t : Fin k0_t2_loop.trips) : k0_off41 t = ![14, 512 * t.val] := by revert t; decide +kernel
theorem os14 (t : Fin k0_t2_loop.trips) : k0_off42 t = ![t.val, 128 * 14, 0] := by revert t; decide +kernel
theorem ow15 (t : Fin k0_t2_loop.trips) : k0_off43 t = ![15, 512 * t.val] := by revert t; decide +kernel
theorem os15 (t : Fin k0_t2_loop.trips) : k0_off44 t = ![t.val, 128 * 15, 0] := by revert t; decide +kernel
theorem ow_blk (t : Fin k0_t2_loop.trips) : k0_off12 t = ![t.val % 2, 0, 0] := by revert t; decide +kernel

/-- The weight with its first `n` pieces stored, and the scales. -/
abbrev Wp (n : ℕ) : sProp 𝕄 :=
  iprop(At (c : Thread nD τ) E.arg15.view fullShare Finset.univ I.WS
    ∗ At (c : Thread nD τ) E.arg12.view fullShare (below keyW n) I.W ∗ Any (c : Thread nD τ) E.arg12.view (above keyW n))

/-- A group's row of scales. -/
abbrev wsv {off : Fin 2 → ℕ} (inb : ∀ a, off a + S1x512.size a ≤ S16x8192.size a) : Vec F S1x512 .bf16 :=
  fun y => I.WS ((Rect.unit (s := S16x8192) off S1x512.size inb).toLoadRect.idx y)

theorem blk_load (t : Fin k0_t2_loop.trips) :
    (fun y => I.wC t.val ((Rect.unit (s := S2x256x512) (k0_off12 t) S1x256x512.size (k0_off12_inb t)).toLoadRect.idx y)) = I.wblk t.val := by
  funext y
  refine congrArg I.WP (ext2 ?_ ?_)
  · show (k0_off12 t) 1 + 1 * (y 1).val = (y 1).val
    have h : k0_off12 t 1 = 0 := by rw [ow_blk]; rfl
    omega
  · show (512 * t.val + ((k0_off12 t) 2 + 1 * (y 2).val)) % 8192 = (512 * t.val + (y 2).val) % 8192
    have h : k0_off12 t 2 = 0 := by rw [ow_blk]; rfl
    omega

theorem piece_in (t g : ℕ) (hg : g < 16) {off : Fin 3 → ℕ} {inb} (ho : off = ![t, 128 * g, 0]) :
    (Rect.unit (s := S16x2048x512) off S1x128x512.size inb).toLoadRect.set ⊆ above keyW (16 * t + g) := by
  have h : (Rect.unit (s := S16x2048x512) off S1x128x512.size inb).toLoadRect.set = only keyW (16 * t + g) :=
    piece_set t g hg ho
  rw [h]
  intro i
  simp only [only, above, Finset.mem_filter, Finset.mem_univ, _root_.true_and]
  omega

theorem part2_spec (t : Fin k0_t2_loop.trips) (a1 a2 a3 a4 : BitVec 32) :
    iprop(At (c : Thread nD τ) E.arg14.view fullShare (plane (t.val % 2)) (I.wC t.val) ∗ Wp c E I (16 * t.val + 0)) ⊢ wp frame (wpE (defs₀ (F := F)) 𝒱 (c : Thread nD τ) bd) Set.univ
          (k0_part2 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 a2 a3 a4)
          (fun r => iprop(⌜r = ⟨(k0_pay1 (F := F) (I.wblk t.val)), k0_pay3 (F := F) (I.wblk t.val) (wsv I (k0_off15_inb t))⟩⌝
            ∗ iprop(At (c : Thread nD τ) E.arg14.view fullShare (plane (t.val % 2)) (I.wC t.val) ∗ Wp c E I (16 * t.val + 1)))) := by
  have ht : t.val < 16 := t.isLt
  have hsub : (Rect.unit (s := S2x256x512) (k0_off12 t) S1x256x512.size (k0_off12_inb t)).toLoadRect.set ⊆ plane (t.val % 2) := by
    intro i hi
    have h := (mem3 (ow_blk t) rfl).mp hi
    rw [mem_plane]; omega
  rw [k0_part2_eq_skeleton]
  unfold k0_part2_skel
  iintro ⟨Hblk, Hws, Hb, Ha⟩
  iapply (wp_ld (c : Thread nD τ) 𝒱 bd (X := I.wC t.val) hsub) $$ Hblk
  rw [blk_load]
  iintro Hblk
  iapply (wp_ld (c : Thread nD τ) 𝒱 bd (X := I.WS) (Finset.subset_univ _)) $$ Hws
  iintro Hws
  iapply (wp_ldA (c : Thread nD τ) 𝒱 bd (piece_in t.val 0 (by decide) (os0 t))) $$ Ha
  iintro %_ Ha
  iapply (wp_fill (c : Thread nD τ) 𝒱 bd (key := keyW) (n := 16 * t.val + 0) I.W (piece_set t.val 0 (by decide) (os0 t)) (piece I t.val 0 ht (by decide) (os0 t) (ow0 t) slices_S2048x512_o0_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_done (c : Thread nD τ) 𝒱 bd)
  isplitr [Hblk Hws Hb Ha]
  · ipureintro; rfl
  isplitl [Hblk]; · iexact Hblk
  isplitl [Hws]; · iexact Hws
  isplitl [Hb] <;> iassumption

theorem part3_spec (t : Fin k0_t2_loop.trips) (a1 : BitVec 32) :
    Wp c E I (16 * t.val + 1) ⊢ wp frame (wpE (defs₀ (F := F)) 𝒱 (c : Thread nD τ) bd) Set.univ
          (k0_part3 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 (k0_pay1 (F := F) (I.wblk t.val)) (k0_pay3 (F := F) (I.wblk t.val) (wsv I (k0_off15_inb t))))
          (fun r => iprop(⌜r = ⟨(wsv I (k0_off23_inb t)), k0_pay8 (k0_pay1 (F := F) (I.wblk t.val))⟩⌝ ∗ Wp c E I (16 * t.val + 5))) := by
  have ht : t.val < 16 := t.isLt
  rw [k0_part3_eq_skeleton]
  unfold k0_part3_skel
  iintro ⟨Hws, Hb, Ha⟩
  iapply (wp_ldA (c : Thread nD τ) 𝒱 bd (piece_in t.val 1 (by decide) (os1 t))) $$ Ha
  iintro %_ Ha
  iapply (wp_fill (c : Thread nD τ) 𝒱 bd (key := keyW) (n := 16 * t.val + 1) I.W (piece_set t.val 1 (by decide) (os1 t)) (piece I t.val 1 ht (by decide) (os1 t) (ow1 t) slices_S2048x512_o128_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 2 (by decide) (os2 t))) $$ Ha
  iintro %_ Ha
  iapply (wp_fill (c : Thread nD τ) 𝒱 bd (key := keyW) (n := 16 * t.val + 2) I.W (piece_set t.val 2 (by decide) (os2 t)) (piece I t.val 2 ht (by decide) (os2 t) (ow2 t) slices_S2048x512_o256_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 3 (by decide) (os3 t))) $$ Ha
  iintro %_ Ha
  iapply (wp_fill (c : Thread nD τ) 𝒱 bd (key := keyW) (n := 16 * t.val + 3) I.W (piece_set t.val 3 (by decide) (os3 t)) (piece I t.val 3 ht (by decide) (os3 t) (ow3 t) slices_S2048x512_o384_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 4 (by decide) (os4 t))) $$ Ha
  iintro %_ Ha
  iapply (wp_fill (c : Thread nD τ) 𝒱 bd (key := keyW) (n := 16 * t.val + 4) I.W (piece_set t.val 4 (by decide) (os4 t)) (piece I t.val 4 ht (by decide) (os4 t) (ow4 t) slices_S2048x512_o512_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_done (c : Thread nD τ) 𝒱 bd)
  isplitr [Hws Hb Ha]
  · ipureintro; rfl
  isplitl [Hws]; · iexact Hws
  isplitl [Hb] <;> iassumption

theorem part4_spec (t : Fin k0_t2_loop.trips)  :
    Wp c E I (16 * t.val + 5) ⊢ wp frame (wpE (defs₀ (F := F)) 𝒱 (c : Thread nD τ) bd) Set.univ
          (k0_part4 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t (Scf.iv 0#32 1#32 t) (k0_pay1 (F := F) (I.wblk t.val)) (wsv I (k0_off23_inb t)) (k0_pay8 (k0_pay1 (F := F) (I.wblk t.val))))
          (fun r => iprop(⌜r = (Scalar.muli (Scf.iv 0#32 1#32 t) 512#32)⌝ ∗ Wp c E I (16 * t.val + 9))) := by
  have ht : t.val < 16 := t.isLt
  rw [k0_part4_eq_skeleton]
  unfold k0_part4_skel
  iintro ⟨Hws, Hb, Ha⟩
  iapply (wp_ldA (c : Thread nD τ) 𝒱 bd (piece_in t.val 5 (by decide) (os5 t))) $$ Ha
  iintro %_ Ha
  iapply (wp_fill (c : Thread nD τ) 𝒱 bd (key := keyW) (n := 16 * t.val + 5) I.W (piece_set t.val 5 (by decide) (os5 t)) (piece I t.val 5 ht (by decide) (os5 t) (ow5 t) slices_S2048x512_o640_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 6 (by decide) (os6 t))) $$ Ha
  iintro %_ Ha
  iapply (wp_fill (c : Thread nD τ) 𝒱 bd (key := keyW) (n := 16 * t.val + 6) I.W (piece_set t.val 6 (by decide) (os6 t)) (piece I t.val 6 ht (by decide) (os6 t) (ow6 t) slices_S2048x512_o768_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 7 (by decide) (os7 t))) $$ Ha
  iintro %_ Ha
  iapply (wp_fill (c : Thread nD τ) 𝒱 bd (key := keyW) (n := 16 * t.val + 7) I.W (piece_set t.val 7 (by decide) (os7 t)) (piece I t.val 7 ht (by decide) (os7 t) (ow7 t) slices_S2048x512_o896_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 8 (by decide) (os8 t))) $$ Ha
  iintro %_ Ha
  iapply (wp_fill (c : Thread nD τ) 𝒱 bd (key := keyW) (n := 16 * t.val + 8) I.W (piece_set t.val 8 (by decide) (os8 t)) (piece I t.val 8 ht (by decide) (os8 t) (ow8 t) slices_S2048x512_o1024_0_S128x512)) $$ [Hb Ha]
  · isplitl [Hb] <;> iassumption
  iintro ⟨Hb, Ha⟩
  iapply (wp_done (c : Thread nD τ) 𝒱 bd)
  isplitr [Hws Hb Ha]
  · ipureintro; rfl
  isplitl [Hws]; · iexact Hws
  isplitl [Hb] <;> iassumption

theorem part5_spec (t : Fin k0_t2_loop.trips) (a1 a2 : BitVec 32) :
    Wp c E I (16 * t.val + 9) ⊢ wp frame (wpE (defs₀ (F := F)) 𝒱 (c : Thread nD τ) bd) Set.univ
          (k0_part5 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 t a1 (k0_pay1 (F := F) (I.wblk t.val)) a2)
          (fun r => iprop(⌜r = k0_pay16 (k0_pay1 (F := F) (I.wblk t.val)) (wsv I (k0_off37_inb t))⌝ ∗ Wp c E I (16 * t.val + 12))) := by
  have ht : t.val < 16 := t.isLt
  rw [k0_part5_eq_skeleton]
  unfold k0_part5_skel
  iintro ⟨Hws, Hb, Ha⟩
  iapply (wp_ld (c : Thread nD τ) 𝒱 bd (X := I.WS) (Finset.subset_univ _)) $$ Hws
  iintro Hws
  iapply (wp_ldA (c : Thread nD τ) 𝒱 bd (piece_in t.val 9 (by decide) (os9 t))) $$ Ha
  iintro %_ Ha
  iapply (wp_fill (c : Thread nD τ) 𝒱 bd (key := keyW) (n := 16 * t.val + 9) I.W (piece_set t.val 9 (by decide) (os9 t)) (piece I t.val 9 ht (by decide) (os9 t) (ow9 t) slices_S2048x512_o1152_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 10 (by decide) (os10 t))) $$ Ha
  iintro %_ Ha
  iapply (wp_fill (c : Thread nD τ) 𝒱 bd (key := keyW) (n := 16 * t.val + 10) I.W (piece_set t.val 10 (by decide) (os10 t)) (piece I t.val 10 ht (by decide) (os10 t) (ow10 t) slices_S2048x512_o1280_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 11 (by decide) (os11 t))) $$ Ha
  iintro %_ Ha
  iapply (wp_fill (c : Thread nD τ) 𝒱 bd (key := keyW) (n := 16 * t.val + 11) I.W (piece_set t.val 11 (by decide) (os11 t)) (piece I t.val 11 ht (by decide) (os11 t) (ow11 t) slices_S2048x512_o1408_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 12 (by decide) (os12 t))) $$ Ha
  iintro %_ Ha
  iapply (wp_done (c : Thread nD τ) 𝒱 bd)
  isplitr [Hws Hb Ha]
  · ipureintro; rfl
  isplitl [Hws]; · iexact Hws
  isplitl [Hb] <;> iassumption

/-- After `k` blocks. -/
def T2inv (k : ℕ) : sProp 𝕄 := iprop(wNext c E I k ∗ wIdle c E I ((k + 1) % 2) ∗ Wp c E I (16 * k) ∗ Ow c)

theorem t2_step (t : Fin k0_t2_loop.trips) (u : Unit) :
    T2inv c E I t.val ⊢ wp frame (wpE (defs₀ (F := F)) 𝒱 (c : Thread nD τ) bd) Set.univ (E.t2 (F := F) t u) (fun _ => T2inv c E I (t.val + 1)) := by
  have ht : t.val < 16 := t.isLt
  unfold Env.t2 k0_t2_body T2inv
  iintro ⟨HF, HI, HW, HO⟩
  iapply (wp_part (c : Thread nD τ) 𝒱 bd _ (part1_spec c E I 𝒱 bd t)) $$ [HF HI HO]
  · isplitl [HF]; · iexact HF
    isplitl [HI] <;> iassumption
  iintro ⟨Hblk, HT, Hc, HN, HO⟩
  iapply (wp_part (c : Thread nD τ) 𝒱 bd _ (part2_spec c E I 𝒱 bd t _ _ _ _)) $$ [Hblk HW]
  · isplitl [Hblk] <;> iassumption
  iintro ⟨Hblk, HW⟩
  iapply (wp_part (c : Thread nD τ) 𝒱 bd _ (part3_spec c E I 𝒱 bd t _)) $$ HW
  iintro HW
  iapply (wp_part (c : Thread nD τ) 𝒱 bd _ (part4_spec c E I 𝒱 bd t)) $$ HW
  iintro HW
  iapply (wp_part (c : Thread nD τ) 𝒱 bd _ (part5_spec c E I 𝒱 bd t _ _)) $$ HW
  iintro ⟨Hws, Hb, Ha⟩
  iapply (wp_fill (c : Thread nD τ) 𝒱 bd (key := keyW) (n := 16 * t.val + 12) I.W (piece_set t.val 12 (by decide) (os12 t)) (piece I t.val 12 ht (by decide) (os12 t) (ow12 t) slices_S2048x512_o1536_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 13 (by decide) (os13 t))) $$ Ha
  iintro %_ Ha
  iapply (wp_fill (c : Thread nD τ) 𝒱 bd (key := keyW) (n := 16 * t.val + 13) I.W (piece_set t.val 13 (by decide) (os13 t)) (piece I t.val 13 ht (by decide) (os13 t) (ow13 t) slices_S2048x512_o1664_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 14 (by decide) (os14 t))) $$ Ha
  iintro %_ Ha
  iapply (wp_fill (c : Thread nD τ) 𝒱 bd (key := keyW) (n := 16 * t.val + 14) I.W (piece_set t.val 14 (by decide) (os14 t)) (piece I t.val 14 ht (by decide) (os14 t) (ow14 t) slices_S2048x512_o1792_0_S128x512)) $$ [Hb Ha]
  · isplitl [Hb] <;> iassumption
  iintro ⟨Hb, Ha⟩
  iapply (wp_ld (c : Thread nD τ) 𝒱 bd (X := I.WS) (Finset.subset_univ _)) $$ Hws
  iintro Hws
  iapply (wp_ldA (c : Thread nD τ) 𝒱 bd (piece_in t.val 15 (by decide) (os15 t))) $$ Ha
  iintro %_ Ha
  iapply (wp_fill (c : Thread nD τ) 𝒱 bd (key := keyW) (n := 16 * t.val + 15) I.W (piece_set t.val 15 (by decide) (os15 t)) (piece I t.val 15 ht (by decide) (os15 t) (ow15 t) slices_S2048x512_o1920_0_S128x512)) $$ [Hb Ha]
  · isplitl [Hb] <;> iassumption
  iintro ⟨Hb, Ha⟩
  iapply (wp_done (c : Thread nD τ) 𝒱 bd)
  isplitl [HN]; · iexact HN
  isplitl [Hblk HT Hc]
  · iapply (ent_of_eq (congrArg (wIdle c E I) (show t.val % 2 = (t.val + 1 + 1) % 2 by omega)))
    isplitl [HT]; · iexact HT
    isplitl [Hblk]; · iapply (Any_of_At (c : Thread nD τ)) $$ Hblk
    iexact Hc
  isplitl [Hws Hb Ha]
  · iapply (ent_of_eq (congrArg (Wp c E I) (show 16 * t.val + 16 = 16 * (t.val + 1) by omega)))
    isplitl [Hws]; · iexact Hws
    isplitl [Hb] <;> iassumption
  iexact HO

end Cert.KernelIdeal.Hand

end
-- ==== Proof.Run.KI.T7.lean ====
/-
  The loop over the sixteen column blocks of a tile of tokens: two products, their sum rounded, and a copy to the result.
-/
module

public import proofs.«01_k».proof.Proof.Run.KI.T2
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- Tile `i` of the tokens, in its slot. -/
def xC (i : ℕ) : S2x512x2048.Idx → Elt F .bf16 := fun x => I.X (ix2 (Fin.ofNat 12288 (512 * i + (x 1).val)) (x 2))
/-- Tile `i` of the tokens. -/
def xblk (i : ℕ) : S1x512x2048.Idx → Elt F .bf16 := fun x => I.X (ix2 (Fin.ofNat 12288 (512 * i + (x 1).val)) (x 2))
/-- Column block `j` of the weight. -/
def Wblk (j : ℕ) : S1x2048x512.Idx → Elt F .bf16 := fun x => I.W (ix3 (Fin.ofNat 16 j) (x 1) (x 2))
/-- The window of the up-projection that tile's segments use, its column block `j`. -/
def Bblk (a j : ℕ) : S256x512.Idx → Elt F .bf16 := fun x => I.Bv (ix2 (Fin.ofNat 776 (40 * min a 13 + (x 0).val)) (Fin.ofNat 8192 (512 * j + (x 1).val)))
end In

/-- The slice of the layer that column block `j` belongs to. -/
def sl (j : ℕ) : ℕ := if j < 8 then 0 else if j < 12 then 1 else 2
/-- The down-projected rows of slice `c`. -/
def Lblk (L : S3x512x256.Idx → Elt F .bf16) (j : ℕ) : S1x512x256.Idx → Elt F .bf16 := fun x => L (ix3 (Fin.ofNat 3 (sl j)) (x 1) (x 2))
/-- A tile of the result. -/
def ytile (I : In F) (i j : ℕ) (L : S3x512x256.Idx → Elt F .bf16) (a : ℕ) : FVec F S1x512x512 .bf16 :=
  k0_pay98 (k0_pay97 (I.xblk i) (I.Wblk j) (Lblk L j) (I.Bblk a j))

/-- The order in which the tiles of the result are written. -/
abbrev keyY (r : S12288x8192.Idx) : ℕ := 16 * ((r 0).val / 512) + (r 1).val / 512

variable (c : Dev nD) (E : Env) (I : In F) (Y : S12288x8192.Idx → Elt F .bf16)

/-- The units a tile's copy credits. -/
abbrev Ny : ℕ := sig.dmaCredit .tc (Kind.table .tc .hbm) E.arg10.view.buf S512x512 .bf16
/-- The cell of slot `p`. -/
abbrev ysem (p : ℕ) : DmaSem sig := E.arg28.ix (ix1 (Fin.ofNat 4 p))
/-- A slot that holds tile `g` of the result. -/
def yC (g : ℕ) : S4x512x512.Idx → Elt F .bf16 := fun x => Y (ix2 (Fin.ofNat 12288 (512 * (g / 16) + (x 1).val)) (Fin.ofNat 8192 (512 * (g % 16) + (x 2).val)))
/-- Slot `p` unused. -/
abbrev yIdle (p : ℕ) : sProp 𝕄 :=
  iprop(Any (c : Thread nD τ) E.arg22.view (plane p) ∗ semVal ((c : Thread nD τ), .dma (ysem E p)) 0)
/-- Slot `p` being written out as tile `g`. -/
abbrev yBusy (p g : ℕ) : sProp 𝕄 :=
  Flight EC (c : Thread nD τ) (.dma (ysem E p)) () (Ny E)
    iprop(At (c : Thread nD τ) E.arg10.view fullShare (only keyY g) Y ∗ At (c : Thread nD τ) E.arg22.view fullShare (plane p) (yC Y g))
/-- The slot of tile `g` before its turn. -/
def ySl (g : ℕ) : sProp 𝕄 := if g < 4 then yIdle c E (g % 4) else yBusy c E Y (g % 4) (g - 4)
/-- Before tile `g`: four slots, the tiles written, the tiles to come. -/
def Yinv (g : ℕ) : sProp 𝕄 :=
  iprop(ySl c E Y g ∗ ySl c E Y (g + 1) ∗ ySl c E Y (g + 2) ∗ ySl c E Y (g + 3)
    ∗ At (c : Thread nD τ) E.arg10.view fullShare (below keyY (g - 4)) Y ∗ Any (c : Thread nD τ) E.arg10.view (above keyY g))

variable (𝒱 : Variants) (bd : Option 𝒱.V)

/-- A trip of the loop over the column blocks. -/
abbrev Env.t7 (E : Env) := k0_t7_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29

theorem of158 (t : Fin k0_t4_loop.trips) : k0_off158 t = ![t.val % 2, 0, 0] := by revert t; decide +kernel
theorem of159 (t : Fin k0_t7_loop.trips) : k0_off159 t = ![t.val, 0, 0] := by revert t; decide +kernel
theorem of160 (t : Fin k0_t7_loop.trips) : k0_off160 t = ![sl t.val, 0, 0] := by revert t; decide +kernel
theorem of161 (a : Fin 19) (t : Fin k0_t7_loop.trips) : k0_off161 (BitVec.ofNat 32 a.val) t = ![40 * min a.val 13, 512 * t.val] := by revert a t; decide +kernel
theorem of162 (t : Fin k0_t7_loop.trips) : k0_off162 t = ![t.val % 4] := by revert t; decide +kernel
theorem of165 (t : Fin k0_t7_loop.trips) : k0_off165 t = ![t.val % 4, 0, 0] := by revert t; decide +kernel
theorem of166 (t : Fin k0_t7_loop.trips) : k0_off166 t = ![t.val % 4] := by revert t; decide +kernel
theorem of167 (i : Fin k0_t4_loop.trips) (t : Fin k0_t7_loop.trips) : k0_off167 i t = ![512 * i.val, 512 * t.val] := by revert i t; decide +kernel
theorem of168 (t : Fin k0_t7_loop.trips) : k0_off168 t = ![t.val % 4, 0, 0] := by revert t; decide +kernel
theorem cond4_pos (i : Fin k0_t4_loop.trips) (t : Fin k0_t7_loop.trips) : 4 ≤ 16 * i.val + t.val → k0_cond4 i t = 1#1 := by revert i t; decide +kernel
theorem cond4_neg (i : Fin k0_t4_loop.trips) (t : Fin k0_t7_loop.trips) : 16 * i.val + t.val < 4 → ¬ k0_cond4 i t = 1#1 := by revert i t; decide +kernel

theorem x_load (i : Fin k0_t4_loop.trips) :
    (fun y => I.xC i.val ((Rect.unit (s := S2x512x2048) (k0_off158 i) S1x512x2048.size (k0_off158_inb i)).toLoadRect.idx y)) = I.xblk i.val := by
  funext y
  refine congrArg I.X (ext2 ?_ ?_)
  · show (512 * i.val + ((k0_off158 i) 1 + 1 * (y 1).val)) % 12288 = (512 * i.val + (y 1).val) % 12288
    have h : k0_off158 i 1 = 0 := by rw [of158]; rfl
    omega
  · show (k0_off158 i) 2 + 1 * (y 2).val = (y 2).val
    have h : k0_off158 i 2 = 0 := by rw [of158]; rfl
    omega

theorem w_load (t : Fin k0_t7_loop.trips) :
    (fun y => I.W ((Rect.unit (s := S16x2048x512) (k0_off159 t) S1x2048x512.size (k0_off159_inb t)).toLoadRect.idx y)) = I.Wblk t.val := by
  funext y
  have ht : t.val < 16 := t.isLt
  refine congrArg I.W (ext3 ?_ ?_ ?_)
  · show (k0_off159 t) 0 + 1 * (y 0).val = t.val % 16
    have h : k0_off159 t 0 = t.val := by rw [of159]; rfl
    have : (y 0).val < 1 := (y 0).isLt
    omega
  · show (k0_off159 t) 1 + 1 * (y 1).val = (y 1).val
    have h : k0_off159 t 1 = 0 := by rw [of159]; rfl
    omega
  · show (k0_off159 t) 2 + 1 * (y 2).val = (y 2).val
    have h : k0_off159 t 2 = 0 := by rw [of159]; rfl
    omega

theorem l_load (L : S3x512x256.Idx → Elt F .bf16) (t : Fin k0_t7_loop.trips) :
    (fun y => L ((Rect.unit (s := S3x512x256) (k0_off160 t) S1x512x256.size (k0_off160_inb t)).toLoadRect.idx y)) = Lblk L t.val := by
  funext y
  have hsl : sl t.val < 3 := by unfold sl; split_ifs <;> omega
  refine congrArg L (ext3 ?_ ?_ ?_)
  · show (k0_off160 t) 0 + 1 * (y 0).val = sl t.val % 3
    have h : k0_off160 t 0 = sl t.val := by rw [of160]; rfl
    have : (y 0).val < 1 := (y 0).isLt
    omega
  · show (k0_off160 t) 1 + 1 * (y 1).val = (y 1).val
    have h : k0_off160 t 1 = 0 := by rw [of160]; rfl
    omega
  · show (k0_off160 t) 2 + 1 * (y 2).val = (y 2).val
    have h : k0_off160 t 2 = 0 := by rw [of160]; rfl
    omega

theorem b_load (a : Fin 19) (hw : k0_chk38 (BitVec.ofNat 32 a.val)) (t : Fin k0_t7_loop.trips) :
    (fun y => I.Bv ((Rect.unit (s := S776x8192) (k0_off161 (BitVec.ofNat 32 a.val) t) S256x512.size (k0_off161_inb (BitVec.ofNat 32 a.val) hw t)).toLoadRect.idx y)) = I.Bblk a.val t.val := by
  funext y
  have ht : t.val < 16 := t.isLt
  have h0 : (y 0).val < 256 := (y 0).isLt
  have h1 : (y 1).val < 512 := (y 1).isLt
  refine congrArg I.Bv (ext2 ?_ ?_)
  · show (k0_off161 (BitVec.ofNat 32 a.val) t) 0 + 1 * (y 0).val = (40 * min a.val 13 + (y 0).val) % 776
    have h : k0_off161 (BitVec.ofNat 32 a.val) t 0 = 40 * min a.val 13 := by rw [of161]; rfl
    omega
  · show (k0_off161 (BitVec.ofNat 32 a.val) t) 1 + 1 * (y 1).val = (512 * t.val + (y 1).val) % 8192
    have h : k0_off161 (BitVec.ofNat 32 a.val) t 1 = 512 * t.val := by rw [of161]; rfl
    omega

/-- What the trips of a tile keep: the tokens, the weight, the down-projected rows, the up-projection windows. -/
def T7inv (L : S3x512x256.Idx → Elt F .bf16) (i j : ℕ) : sProp 𝕄 :=
  iprop(At (c : Thread nD τ) E.arg13.view fullShare (plane (i % 2)) (I.xC i) ∗ At (c : Thread nD τ) E.arg12.view fullShare Finset.univ I.W
    ∗ At (c : Thread nD τ) E.arg19.view fullShare Finset.univ L ∗ At (c : Thread nD τ) E.arg17.view fullShare Finset.univ I.Bv
    ∗ Yinv c E Y (16 * i + j) ∗ Ow c)

theorem part34_spec (L : S3x512x256.Idx → Elt F .bf16) (i : Fin k0_t4_loop.trips) (a : Fin 19) (hw : k0_chk38 (BitVec.ofNat 32 a.val)) (v59 : BitVec 32) (t : Fin k0_t7_loop.trips) :
    iprop(At (c : Thread nD τ) E.arg13.view fullShare (plane (i.val % 2)) (I.xC i.val) ∗ At (c : Thread nD τ) E.arg12.view fullShare Finset.univ I.W
      ∗ At (c : Thread nD τ) E.arg19.view fullShare Finset.univ L ∗ At (c : Thread nD τ) E.arg17.view fullShare Finset.univ I.Bv)
      ⊢ wp frame (wpE (defs₀ (F := F)) 𝒱 (c : Thread nD τ) bd) Set.univ
          (k0_part34 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i (Scf.iv 0#32 1#32 i) (BitVec.ofNat 32 a.val) hw v59 0#32 1#32 t)
          (fun r => iprop(⌜r = ⟨Scf.iv 0#32 1#32 t, k0_pay97 (I.xblk i.val) (I.Wblk t.val) (Lblk L t.val) (I.Bblk a.val t.val), Scalar.cmpi .sgt (Scf.iv 0#32 1#32 i) 0#32, 4#32⟩⌝
            ∗ iprop(At (c : Thread nD τ) E.arg13.view fullShare (plane (i.val % 2)) (I.xC i.val) ∗ At (c : Thread nD τ) E.arg12.view fullShare Finset.univ I.W
      ∗ At (c : Thread nD τ) E.arg19.view fullShare Finset.univ L ∗ At (c : Thread nD τ) E.arg17.view fullShare Finset.univ I.Bv))) := by
  have hsub : (Rect.unit (s := S2x512x2048) (k0_off158 i) S1x512x2048.size (k0_off158_inb i)).toLoadRect.set ⊆ plane (i.val % 2) := by
    intro z hz
    have h := (mem3 (of158 i) rfl).mp hz
    rw [mem_plane]; omega
  rw [k0_part34_eq_skeleton]
  unfold k0_part34_skel
  rw [← x_load I i, ← w_load I t, ← l_load L t, ← b_load I a hw t]
  iintro ⟨H1, H2, H3, H4⟩
  iapply (wp_ld (c : Thread nD τ) 𝒱 bd (X := I.xC i.val) hsub) $$ H1
  iintro H1
  iapply (wp_ld (c : Thread nD τ) 𝒱 bd (X := I.W) (Finset.subset_univ _)) $$ H2
  iintro H2
  iapply (wp_ld (c : Thread nD τ) 𝒱 bd (X := L) (Finset.subset_univ _)) $$ H3
  iintro H3
  iapply (wp_ld (c : Thread nD τ) 𝒱 bd (X := I.Bv) (Finset.subset_univ _)) $$ H4
  iintro H4
  iapply (wp_done (c : Thread nD τ) 𝒱 bd)
  isplitr [H1 H2 H3 H4]
  · ipureintro; rfl
  isplitl [H1]; · iexact H1
  isplitl [H2]; · iexact H2
  isplitl [H3] <;> iassumption

/-- Part 35: the slot's previous tile is awaited, and the slot filled. -/
theorem part35_spec (i : Fin k0_t4_loop.trips) (t : Fin k0_t7_loop.trips) (a30 a32 a4 : BitVec 32) (b164 : BitVec 1) (v : FVec F S512x512 .f32)
    (hv : ∀ x : S4x512x512.Idx, yC Y (16 * i.val + t.val) x = k0_pay98 v (ix3 0 (x 1) (x 2))) :
    iprop(ySl c E Y (16 * i.val + t.val) ∗ At (c : Thread nD τ) E.arg10.view fullShare (below keyY (16 * i.val + t.val - 4)) Y ∗ Ow c)
      ⊢ wp frame (wpE (defs₀ (F := F)) 𝒱 (c : Thread nD τ) bd) Set.univ
          (k0_part35 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 t a32 v b164 a4)
          (fun r => iprop(⌜r = ⟨Scalar.select (Scalar.cmpi .eq 4#32 0#32) 1#32 4#32, Scalar.remsi a32 (Scalar.select (Scalar.cmpi .eq 4#32 0#32) 1#32 4#32), Scalar.cmpi .ne (Scalar.remsi a32 (Scalar.select (Scalar.cmpi .eq 4#32 0#32) 1#32 4#32)) 0#32⟩⌝
            ∗ iprop(At (c : Thread nD τ) E.arg22.view fullShare (plane (t.val % 4)) (yC Y (16 * i.val + t.val)) ∗ semVal ((c : Thread nD τ), .dma (ysem E (t.val % 4))) 0
              ∗ At (c : Thread nD τ) E.arg10.view fullShare (below keyY (16 * i.val + t.val + 1 - 4)) Y ∗ Ow c))) := by
  have ht : t.val < 16 := t.isLt
  have hset : (Rect.unit (s := S4x512x512) (k0_off165 t) S1x512x512.size (k0_off165_inb t)).set = plane (t.val % 4) := by
    ext z
    rw [mem3 (of165 t) rfl, mem_plane]
    have h1 : (z 1).val < 512 := (z 1).isLt
    have h2 : (z 2).val < 512 := (z 2).isLt
    omega
  have hin : ∀ x, yC Y (16 * i.val + t.val) ((Rect.unit (s := S4x512x512) (k0_off165 t) S1x512x512.size (k0_off165_inb t)).emb x) = k0_pay98 v x := by
    intro x
    rw [hv]
    refine congrArg (k0_pay98 v) (ext3 ?_ ?_ ?_)
    · have : (x 0).val < 1 := (x 0).isLt
      show 0 = (x 0).val
      omega
    · refine (emb_val 1).trans ?_
      have h : k0_off165 t 1 = 0 := by rw [of165]; rfl
      exact (congrArg (· + (x 1).val) h).trans (Nat.zero_add _)
    · refine (emb_val 2).trans ?_
      have h : k0_off165 t 2 = 0 := by rw [of165]; rfl
      exact (congrArg (· + (x 2).val) h).trans (Nat.zero_add _)
  have e4 : (16 * i.val + t.val) % 4 = t.val % 4 := by omega
  rw [k0_part35_eq_skeleton]
  unfold k0_part35_skel ySl
  rw [e4]
  by_cases h : 16 * i.val + t.val < 4
  · rw [dif_neg (cond4_neg i t h), if_pos h]
    simp only [bind_assoc, pure_bind]
    rw [show 16 * i.val + t.val + 1 - 4 = 16 * i.val + t.val - 4 by omega]
    iintro ⟨⟨HS, Hc⟩, HY, HO⟩
    iapply (wp_ldA (c : Thread nD τ) 𝒱 bd (le_of_eq hset)) $$ HS
    iintro %_ HS
    iapply (wp_stA (c : Thread nD τ) 𝒱 bd (yC Y (16 * i.val + t.val)) hset hin) $$ HS
    iintro HS
    iapply (wp_done (c : Thread nD τ) 𝒱 bd)
    isplitr [HS Hc HY HO]
    · ipureintro; rfl
    isplitl [HS]; · iexact HS
    isplitl [Hc]; · iexact Hc
    isplitl [HY] <;> iassumption
  · have hc := cond4_pos i t (by omega)
    have hsem : ((E.arg28.slice (Rect.unit (s := S4) (k0_off162 t) S1.size (k0_off162_inb i t hc))).squeeze S_ squeezes_S1_S_).sem = ysem E (t.val % 4) :=
      sem_at _ _ _ _ (emb1 _ (by rw [of162]; simp))
    rw [dif_pos hc, if_neg h]
    simp only [bind_assoc, pure_bind]
    rw [show 16 * i.val + t.val + 1 - 4 = 16 * i.val + t.val - 4 + 1 by omega]
    iintro ⟨HS, HY, HO⟩
    iapply (wp_wt (c : Thread nD τ) 𝒱 bd (N := Ny E) (ysem E (t.val % 4)) hsem rfl) $$ [HS HO]
    · isplitl [HS] <;> iassumption
    iintro ⟨⟨HD, HS⟩, Hc, HO⟩
    ihave HS := (Any_of_At (c : Thread nD τ)) $$ HS
    iapply (wp_ldA (c : Thread nD τ) 𝒱 bd (le_of_eq hset)) $$ HS
    iintro %_ HS
    iapply (wp_stA (c : Thread nD τ) 𝒱 bd (yC Y (16 * i.val + t.val)) hset hin) $$ HS
    iintro HS
    iapply (wp_done (c : Thread nD τ) 𝒱 bd)
    isplitr [HS Hc HY HD HO]
    · ipureintro; rfl
    isplitl [HS]; · iexact HS
    isplitl [Hc]; · iexact Hc
    isplitl [HY HD]
    · iapply (below_snoc (c : Thread nD τ))
      isplitl [HY] <;> iassumption
    iexact HO

theorem t7_step (L : S3x512x256.Idx → Elt F .bf16) (i : Fin k0_t4_loop.trips) (a : Fin 19) (hw : k0_chk38 (BitVec.ofNat 32 a.val)) (v59 : BitVec 32)
    (hY : ∀ j < 16, ∀ r : S12288x8192.Idx, (r 0).val / 512 = i.val → (r 1).val / 512 = j →
      Y r = ytile I i.val j L a.val (ix3 0 (Fin.ofNat 512 (r 0).val) (Fin.ofNat 512 (r 1).val)))
    (t : Fin k0_t7_loop.trips) (u : Unit) :
    T7inv c E I Y L i.val t.val ⊢ wp frame (wpE (defs₀ (F := F)) 𝒱 (c : Thread nD τ) bd) Set.univ
      (E.t7 (F := F) i (Scf.iv 0#32 1#32 i) (BitVec.ofNat 32 a.val) hw v59 t u) (fun _ => T7inv c E I Y L i.val (t.val + 1)) := by
  have ht : t.val < 16 := t.isLt
  have hi : i.val < 24 := i.isLt
  have hsem : ((E.arg28.slice (Rect.unit (s := S4) (k0_off166 t) S1.size (k0_off166_inb t))).squeeze S_ squeezes_S1_S_).sem = ysem E (t.val % 4) :=
    sem_at _ _ _ _ (emb1 _ (by rw [of166]; simp))
  have hN0 : 0 < Ny E := sig.dmaCredit_pos _ _ _ _ _ (by rw [Shape.numel]; simp [Fin.prod_univ_succ])
  have hv : ∀ x : S4x512x512.Idx, yC Y (16 * i.val + t.val) x
      = k0_pay98 (k0_pay97 (I.xblk i.val) (I.Wblk t.val) (Lblk L t.val) (I.Bblk a.val t.val)) (ix3 0 (x 1) (x 2)) := by
    intro x
    have h1 : (x 1).val < 512 := (x 1).isLt
    have h2 : (x 2).val < 512 := (x 2).isLt
    unfold yC
    rw [hY t.val ht _ (by show (_ % 12288) / 512 = _; omega) (by show (_ % 8192) / 512 = _; omega)]
    refine congrArg (ytile I i.val t.val L a.val) (ext3 rfl ?_ ?_)
    · show (_ % 12288) % 512 = (x 1).val
      omega
    · show (_ % 8192) % 512 = (x 2).val
      omega
  obtain ⟨Sd, φd, hsd, hSd, hφd⟩ := blk_sub (Val := Elt F) (c : Thread nD τ) E.arg10 (sz := S512x512.size) (inb := k0_off167_inb i t) (hr := fun _ => rfl) (of167 i t) rfl
  have hSd' : Sd = only keyY (16 * i.val + t.val) := by
    ext r
    rw [hSd]
    have h1 : (r 0).val < 12288 := (r 0).isLt
    have h2 : (r 1).val < 8192 := (r 1).isLt
    simp only [only, Finset.mem_filter, Finset.mem_univ, _root_.true_and, keyY]
    omega
  subst hSd'
  obtain ⟨φs, hss, hφs⟩ := slot_sub (Val := Elt F) (c : Thread nD τ) (h := 512) (b := 512) E.arg22 (sz := S1x512x512.size) (inb := k0_off168_inb t) (hr := fun _ => rfl) (of168 t) rfl
    squeezes_S1x512x512_S512x512 (S := plane (t.val % 4)) (fun z => by
      rw [mem_plane]
      have h1 : (z 1).val < 512 := (z 1).isLt
      have h2 : (z 2).val < 512 := (z 2).isLt
      omega)
  have hYc : ∀ x, Y (φd x) = yC Y (16 * i.val + t.val) (φs x) := by
    intro x
    have h1 : (x 0).val < 512 := (x 0).isLt
    have h2 : (x 1).val < 512 := (x 1).isLt
    obtain ⟨a0, a1⟩ := hφd x
    obtain ⟨b0, b1, b2⟩ := hφs x
    refine congrArg Y (ext2 ?_ ?_)
    · rw [a0]; show _ = (_ % 12288); rw [b1]; omega
    · rw [a1]; show _ = (_ % 8192); rw [b2]; omega
  unfold Env.t7 k0_t7_body T7inv Yinv
  iintro ⟨H1, H2, H3, H4, ⟨S0, S1, S2, S3, HY, HA⟩, HO⟩
  iapply (wp_part (c : Thread nD τ) 𝒱 bd _ (part34_spec c E I 𝒱 bd L i a hw v59 t)) $$ [H1 H2 H3 H4]
  · isplitl [H1]; · iexact H1
    isplitl [H2]; · iexact H2
    isplitl [H3] <;> iassumption
  iintro ⟨H1, H2, H3, H4⟩
  iapply (wp_part (c : Thread nD τ) 𝒱 bd _ (part35_spec c E Y 𝒱 bd i t _ _ _ _ _ hv)) $$ [S0 HY HO]
  · isplitl [S0]; · iexact S0
    isplitl [HY] <;> iassumption
  iintro ⟨HS, Hc, HY, HO⟩
  ihave HA := (above_take (c : Thread nD τ)) $$ HA
  icases HA with ⟨HA1, HA⟩
  iapply (wp_cpG (c : Thread nD τ) 𝒱 bd (ms := E.arg22) (md := E.arg10) (X := yC Y (16 * i.val + t.val)) (Y := Y)
    hss hsd _ (congrArg SemLoc.dma hsem) (le_refl _) hYc (Ny E) rfl hN0) $$ [HS HA1 Hc]
  · isplitl [HS]; · iexact HS
    isplitl [HA1]; · iexact HA1
    iexact Hc
  iintro HB
  iapply (wp_done (c : Thread nD τ) 𝒱 bd)
  isplitl [H1]; · iexact H1
  isplitl [H2]; · iexact H2
  isplitl [H3]; · iexact H3
  isplitl [H4]; · iexact H4
  isplitr [HO]
  · isplitl [S1]; · iexact S1
    isplitl [S2]; · iexact S2
    isplitl [S3]; · iexact S3
    isplitl [HB]
    · have e : yBusy c E Y (t.val % 4) (16 * i.val + t.val) = ySl c E Y (16 * i.val + t.val + 1 + 3) := by
        unfold ySl
        rw [if_neg (by omega), show (16 * i.val + t.val + 1 + 3) % 4 = t.val % 4 by omega, show 16 * i.val + t.val + 1 + 3 - 4 = 16 * i.val + t.val by omega]
      iapply (ent_of_eq e) $$ HB
    isplitl [HY] <;> iassumption
  iexact HO

end Cert.KernelIdeal.Hand

end
-- ==== Proof.Run.KI.T5a.lean ====
/-
  The three windows of the down-projection that a segment uses: started together on one cell, then waited for.
-/
module

public import proofs.«01_k».proof.Proof.Run.KI.T2
public import proofs.«01_k».proof.Proof.Run.Batch
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The three windows of segment `s`, in a slot. -/
def aC (s : ℕ) : S8x120x2048.Idx → Elt F .bf16 := fun x => I.A (ix3 (Fin.ofNat 3 ((x 1).val / 40)) (Fin.ofNat 1000 (base (I.st s) + (x 1).val % 40)) (x 2))
/-- The three windows of segment `s`. -/
def aseg (s : ℕ) : S1x120x2048.Idx → Elt F .bf16 := fun x => I.A (ix3 (Fin.ofNat 3 ((x 1).val / 40)) (Fin.ofNat 1000 (base (I.st s) + (x 1).val % 40)) (x 2))
end In

/-- Rows `lo ≤ r < hi` of slot `p`. -/
def arow (p lo hi : ℕ) : Finset S8x120x2048.Idx := Finset.univ.filter fun i => (i 0).val = p ∧ lo ≤ (i 1).val ∧ (i 1).val < hi
theorem mem_arow (p lo hi : ℕ) (i) : i ∈ arow p lo hi ↔ (i 0).val = p ∧ lo ≤ (i 1).val ∧ (i 1).val < hi := by simp [arow]
/-- The other slots. -/
def aoff (p : ℕ) : Finset S8x120x2048.Idx := Finset.univ.filter fun i => (i 0).val ≠ p
theorem arow_split (p lo mid hi : ℕ) (h1 : lo ≤ mid) (h2 : mid ≤ hi) : arow p lo hi = arow p lo mid ∪ arow p mid hi := by
  ext i; simp only [Finset.mem_union, mem_arow]; omega
theorem arow_disj (p lo mid hi : ℕ) : Disjoint (arow p lo mid) (arow p mid hi) := by
  rw [Finset.disjoint_left]; intro i; simp only [mem_arow]; omega
theorem aoff_split (p : ℕ) : (Finset.univ : Finset S8x120x2048.Idx) = arow p 0 120 ∪ aoff p := by
  ext i
  have h : (i 1).val < 120 := (i 1).isLt
  simp only [Finset.mem_union, mem_arow, aoff, Finset.mem_filter, Finset.mem_univ, _root_.true_and, true_iff]; omega
theorem aoff_disj (p : ℕ) : Disjoint (arow p 0 120) (aoff p) := by
  rw [Finset.disjoint_left]; intro i; simp only [mem_arow, aoff, Finset.mem_filter, Finset.mem_univ, _root_.true_and]; omega

/-- Plane `q` of the down-projection: a window of forty rows, and the rest. -/
def awin (q w : ℕ) : Finset S3x1000x2048.Idx := Finset.univ.filter fun i => (i 0).val = q ∧ w ≤ (i 1).val ∧ (i 1).val < w + 40
def arest (q w : ℕ) : Finset S3x1000x2048.Idx := Finset.univ.filter fun i => (i 0).val = q ∧ ¬ (w ≤ (i 1).val ∧ (i 1).val < w + 40)
theorem mem_awin (q w : ℕ) (i) : i ∈ awin q w ↔ (i 0).val = q ∧ w ≤ (i 1).val ∧ (i 1).val < w + 40 := by simp [awin]
theorem awin_split (q w : ℕ) : (plane q : Finset S3x1000x2048.Idx) = awin q w ∪ arest q w := by
  ext i; simp only [Finset.mem_union, mem_awin, mem_plane, arest, Finset.mem_filter, Finset.mem_univ, _root_.true_and]; tauto
theorem awin_disj (q w : ℕ) : Disjoint (awin q w) (arest q w) := by
  rw [Finset.disjoint_left]; intro i; simp only [mem_awin, arest, Finset.mem_filter, Finset.mem_univ, _root_.true_and]; tauto

theorem words_A (q : Fin 3) (m : Fin 121) (inb) : (Rect.unit (s := S3x1000x2048) ![q.val, 8 * m.val, 0] S1x40x2048.size inb).WholeWords (EltTy.packing .bf16) := by
  revert inb; revert m; revert q; decide +kernel

theorem chk9_of (w : BitVec 32) (h : w.toNat ≤ 968) : k0_chk9 w := by
  have hb := base_eq w h
  obtain ⟨m, hm'⟩ : ∃ m : Fin 121, base w = 8 * m.val := ⟨⟨min (w.toNat / 8) 120, by omega⟩, by rw [hb]; dsimp only; omega⟩
  have ho : k0_off63 w = ![0, base w, 0] := rfl
  refine ⟨⟨m.val, hm'⟩, ?_, ?_⟩
  · rw [ho, hm']; have := m.isLt
    intro a; fin_cases a <;> simp <;> omega
  · rw [ho, hm']; exact words_A 0 m
theorem chk11_of (w : BitVec 32) (h : w.toNat ≤ 968) : k0_chk11 w := by
  have hb := base_eq w h
  obtain ⟨m, hm'⟩ : ∃ m : Fin 121, base w = 8 * m.val := ⟨⟨min (w.toNat / 8) 120, by omega⟩, by rw [hb]; dsimp only; omega⟩
  have ho : k0_off68 w = ![1, base w, 0] := rfl
  refine ⟨⟨m.val, hm'⟩, ?_, ?_⟩
  · rw [ho, hm']; have := m.isLt
    intro a; fin_cases a <;> simp <;> omega
  · rw [ho, hm']; exact words_A 1 m
theorem chk13_of (w : BitVec 32) (h : w.toNat ≤ 968) : k0_chk13 w := by
  have hb := base_eq w h
  obtain ⟨m, hm'⟩ : ∃ m : Fin 121, base w = 8 * m.val := ⟨⟨min (w.toNat / 8) 120, by omega⟩, by rw [hb]; dsimp only; omega⟩
  have ho : k0_off73 w = ![2, base w, 0] := rfl
  refine ⟨⟨m.val, hm'⟩, ?_, ?_⟩
  · rw [ho, hm']; have := m.isLt
    intro a; fin_cases a <;> simp <;> omega
  · rw [ho, hm']; exact words_A 2 m
theorem chk20_of (w : BitVec 32) (h : w.toNat < 23) : k0_chk20 w := by
  have h1 : k0_off90 w = ![w.toNat] := rfl
  have h2 : k0_off93 w = ![w.toNat] := rfl
  have h3 : k0_off98 w = ![w.toNat, 0] := rfl
  have h4 : k0_off104 w = ![w.toNat, 1] := rfl
  have h5 : k0_off106 w = ![w.toNat, 2] := rfl
  refine ⟨?_, ?_, ?_, ?_, ?_⟩
  · rw [h1]; intro a; fin_cases a <;> simp <;> omega
  · rw [h2]; intro a; fin_cases a <;> simp <;> omega
  · rw [h3]; intro a; fin_cases a <;> simp <;> omega
  · rw [h4]; intro a; fin_cases a <;> simp <;> omega
  · rw [h5]; intro a; fin_cases a <;> simp <;> omega
theorem chk22_nat : ∀ n : Fin 969, k0_chk22 (BitVec.ofNat 32 n.val) (BitVec.ofNat 32 n.val) := by decide +kernel
theorem chk22_of (w : BitVec 32) (h : w.toNat ≤ 968) : k0_chk22 w w := by
  have := chk22_nat ⟨w.toNat, by omega⟩
  simpa using this

section offs
variable (a : Fin 19) (d : Fin 6) (t : Fin (k0_t5_loop (BitVec.ofNat 32 a.val) (BitVec.ofNat 32 (a.val + d.val + 1))).trips)
theorem t5_trips : (k0_t5_loop (BitVec.ofNat 32 a.val) (BitVec.ofNat 32 (a.val + d.val + 1))).trips = d.val + 1 := by revert a d; decide +kernel
theorem of59 : k0_off59 (BitVec.ofNat 32 a.val) (BitVec.ofNat 32 (a.val + d.val + 1)) t = ![a.val + t.val] := by revert a d; decide +kernel
theorem of64 : k0_off64 (BitVec.ofNat 32 a.val) (BitVec.ofNat 32 (a.val + d.val + 1)) t = ![a.val + t.val] := by revert a d; decide +kernel
theorem of69 : k0_off69 (BitVec.ofNat 32 a.val) (BitVec.ofNat 32 (a.val + d.val + 1)) t = ![a.val + t.val] := by revert a d; decide +kernel
theorem of74 : k0_off74 (BitVec.ofNat 32 a.val) (BitVec.ofNat 32 (a.val + d.val + 1)) t = ![a.val + t.val] := by revert a d; decide +kernel
theorem of79 : k0_off79 (BitVec.ofNat 32 a.val) (BitVec.ofNat 32 (a.val + d.val + 1)) t = ![a.val + t.val] := by revert a d; decide +kernel
theorem of84 : k0_off84 (BitVec.ofNat 32 a.val) (BitVec.ofNat 32 (a.val + d.val + 1)) t = ![a.val + t.val] := by revert a d; decide +kernel
theorem of89 : k0_off89 (BitVec.ofNat 32 a.val) (BitVec.ofNat 32 (a.val + d.val + 1)) t = ![a.val + t.val] := by revert a d; decide +kernel
theorem of91 : k0_off91 (BitVec.ofNat 32 a.val) (BitVec.ofNat 32 (a.val + d.val + 1)) t = ![a.val + t.val] := by revert a d; decide +kernel
theorem of96 : k0_off96 (BitVec.ofNat 32 a.val) (BitVec.ofNat 32 (a.val + d.val + 1)) t = ![a.val + t.val] := by revert a d; decide +kernel
theorem of97 : k0_off97 (BitVec.ofNat 32 a.val) (BitVec.ofNat 32 (a.val + d.val + 1)) t = ![a.val + t.val + 1] := by revert a d; decide +kernel
theorem of61 : k0_off61 (BitVec.ofNat 32 a.val) (BitVec.ofNat 32 (a.val + d.val + 1)) t = ![(a.val + t.val) % 8] := by revert a d; decide +kernel
theorem of66 : k0_off66 (BitVec.ofNat 32 a.val) (BitVec.ofNat 32 (a.val + d.val + 1)) t = ![(a.val + t.val) % 8] := by revert a d; decide +kernel
theorem of71 : k0_off71 (BitVec.ofNat 32 a.val) (BitVec.ofNat 32 (a.val + d.val + 1)) t = ![(a.val + t.val) % 8] := by revert a d; decide +kernel
theorem of76 : k0_off76 (BitVec.ofNat 32 a.val) (BitVec.ofNat 32 (a.val + d.val + 1)) t = ![(a.val + t.val) % 8] := by revert a d; decide +kernel
theorem of81 : k0_off81 (BitVec.ofNat 32 a.val) (BitVec.ofNat 32 (a.val + d.val + 1)) t = ![(a.val + t.val) % 8] := by revert a d; decide +kernel
theorem of86 : k0_off86 (BitVec.ofNat 32 a.val) (BitVec.ofNat 32 (a.val + d.val + 1)) t = ![(a.val + t.val) % 8] := by revert a d; decide +kernel
theorem of62 : k0_off62 (BitVec.ofNat 32 a.val) (BitVec.ofNat 32 (a.val + d.val + 1)) t = ![(a.val + t.val) % 8, 0, 0] := by revert a d; decide +kernel
theorem of67 : k0_off67 (BitVec.ofNat 32 a.val) (BitVec.ofNat 32 (a.val + d.val + 1)) t = ![(a.val + t.val) % 8, 40, 0] := by revert a d; decide +kernel
theorem of72 : k0_off72 (BitVec.ofNat 32 a.val) (BitVec.ofNat 32 (a.val + d.val + 1)) t = ![(a.val + t.val) % 8, 80, 0] := by revert a d; decide +kernel
theorem of94 : k0_off94 (BitVec.ofNat 32 a.val) (BitVec.ofNat 32 (a.val + d.val + 1)) t = ![(a.val + t.val) % 8, 0, 0] := by revert a d; decide +kernel
theorem of99 : k0_off99 (BitVec.ofNat 32 a.val) (BitVec.ofNat 32 (a.val + d.val + 1)) t = ![0, 40 * (a.val + t.val - min a.val 13), 0] := by revert a d; decide +kernel
theorem of105 : k0_off105 (BitVec.ofNat 32 a.val) (BitVec.ofNat 32 (a.val + d.val + 1)) t = ![1, 40 * (a.val + t.val - min a.val 13), 0] := by revert a d; decide +kernel
theorem of107 : k0_off107 (BitVec.ofNat 32 a.val) (BitVec.ofNat 32 (a.val + d.val + 1)) t = ![2, 40 * (a.val + t.val - min a.val 13), 0] := by revert a d; decide +kernel
end offs

theorem chk7_of (a : Fin 19) (d : Fin 6) (h : a.val + d.val + 1 ≤ 19) : k0_chk7 (BitVec.ofNat 32 a.val) (BitVec.ofNat 32 (a.val + d.val + 1)) := by
  revert h; revert a d; decide +kernel

variable (c : Dev nD) (E : Env) (I : In F)

/-- The units a window's copy credits. -/
abbrev Na : ℕ := sig.dmaCredit .tc (Kind.table .tc .vmem) E.arg16.view.buf S40x2048 .bf16
/-- The cell of slot `p`. -/
abbrev asem (p : ℕ) : DmaSem sig := E.arg26.ix (ix1 (Fin.ofNat 8 p))
/-- What copy `q` of segment `s` delivers. -/
abbrev aD (s q : ℕ) : sProp 𝕄 :=
  iprop(At (c : Thread nD τ) E.arg16.view fullShare (arow (s % 8) (40 * q) (40 * q + 40)) (I.aC s)
    ∗ At (c : Thread nD τ) E.arg8.view fullShare (awin q (base (I.st s))) I.A)
abbrev aB (s k u : ℕ) : sProp 𝕄 := Batch3 (c : Thread nD τ) (.dma (asem E (s % 8))) (Na E) (aD c E I s 0) (aD c E I s 1) (aD c E I s 2) k u
/-- The two tables read for each window. -/
abbrev Tb : sProp 𝕄 := iprop(At (c : Thread nD τ) E.arg1.view fullShare Finset.univ I.seg ∗ At (c : Thread nD τ) E.arg2.view fullShare Finset.univ I.start)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)
include G hs

/-- Part 6: the first window is started. -/
theorem part6_spec  :
    iprop(Tb c E I ∗ At (c : Thread nD τ) E.arg8.view fullShare (plane 0) I.A ∗ Any (c : Thread nD τ) E.arg16.view (arow ((a.val + t.val) % 8) (40 * 0) (40 * 0 + 40)) ∗ semVal ((c : Thread nD τ), .dma (asem E ((a.val + t.val) % 8))) 0)
      ⊢ wp frame (wpE (defs₀ (F := F)) 𝒱 (c : Thread nD τ) bd) Set.univ
          (k0_part6 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw 1#32 t)
          (fun r => iprop(⌜r = ⟨Scf.iv (BitVec.ofNat 32 a.val) 1#32 t, I.sgw (a.val + t.val), chk1_of _ (G.sg (a.val + t.val) hs)⟩⌝ ∗ iprop(Tb c E I ∗ At (c : Thread nD τ) E.arg8.view fullShare (arest 0 (base (I.st (a.val + t.val)))) I.A ∗ aB c E I (a.val + t.val) 1 0))) := by
  have hg := G.sg (a.val + t.val) hs
  have hv := G.st (a.val + t.val) hs
  rw [k0_part6_eq_skeleton]
  unfold k0_part6_skel
  have hsem : ((E.arg26.slice (Rect.unit (s := S8) (k0_off61 (BitVec.ofNat 32 a.val) (BitVec.ofNat 32 (a.val + d.val + 1)) t) S1.size (k0_off61_inb (BitVec.ofNat 32 a.val) (BitVec.ofNat 32 (a.val + d.val + 1)) hw t))).squeeze S_ squeezes_S1_S_).sem = asem E ((a.val + t.val) % 8) :=
    sem_at _ _ _ _ (emb1 _ (by rw [of61]; simp))
  obtain ⟨φd, hsd, hφd⟩ := slot_sub (Val := Elt F) (c : Thread nD τ) E.arg16 (inb := k0_off62_inb (BitVec.ofNat 32 a.val) (BitVec.ofNat 32 (a.val + d.val + 1)) hw t) (hr := fun _ => rfl) (of62 a d t) rfl squeezes_S1x40x2048_S40x2048 (h := 40) (b := 2048) (S := arow ((a.val + t.val) % 8) (40 * 0) (40 * 0 + 40))
    (fun i => by rw [mem_arow]; have h : (i 2).val < 2048 := (i 2).isLt; omega)
  obtain ⟨φs, hss, hφs⟩ := slot_sub (Val := Elt F) (c : Thread nD τ) E.arg8 (inb := k0_off63_inb (I.st (a.val + t.val)) (chk9_of _ hv)) (hr := fun _ => rfl) (p := 0) (r := base (I.st (a.val + t.val))) rfl rfl squeezes_S1x40x2048_S40x2048 (h := 40) (b := 2048) (S := awin 0 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 0 (base (I.st (a.val + t.val)))) (awin_disj _ _)).1 $$ HA
  icases HA with ⟨HA, HR⟩
  iapply (wp_word (c : Thread nD τ) 𝒱 bd (X := I.seg) (ix1 (Fin.ofNat 19 (a.val + t.val))) (emb1 _ (by rw [of59]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk9_of _ hv))
  iapply (wp_batch (c : Thread nD τ) 𝒱 bd (.dma (asem E ((a.val + t.val) % 8))) (Na E) (aD c E I (a.val + t.val) 0) (aD c E I (a.val + t.val) 1) (aD c E I (a.val + t.val) 2)) $$ HB
  iintro HB
  iapply (wp_cpB (c : Thread nD τ) 𝒱 bd (ms := E.arg8) (md := E.arg16) (X := I.A) (Y := I.aC (a.val + t.val))
    hss hsd _ (congrArg SemLoc.dma hsem) hYc (Na E) rfl (j := 0) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of64]; simp [Nat.mod_eq_of_lt hs]))) $$ H1
  iintro H1
  iapply (wp_as (c : Thread nD τ) 𝒱 bd (chk1_of _ hg))
  iapply (wp_done (c : Thread nD τ) 𝒱 bd)
  isplitr [H1 H2 HR HB]
  · ipureintro; rfl
  isplitl [H1 H2]
  · isplitl [H1] <;> iassumption
  isplitl [HR] <;> iassumption

/-- Part 7: the second window is started. -/
theorem part7_spec (v32 : BitVec 32) (hw10 : k0_chk10 (I.sgw (a.val + t.val))) :
    iprop(Tb c E I ∗ At (c : Thread nD τ) E.arg8.view fullShare (plane 1) I.A ∗ Any (c : Thread nD τ) E.arg16.view (arow ((a.val + t.val) % 8) (40 * 1) (40 * 1 + 40)) ∗ aB c E I (a.val + t.val) 1 0)
      ⊢ wp frame (wpE (defs₀ (F := F)) 𝒱 (c : Thread nD τ) bd) Set.univ
          (k0_part7 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.sgw (a.val + t.val)) hw10)
          (fun r => iprop(⌜r = ⟨I.st (a.val + t.val), chk13_of _ (G.st (a.val + t.val) hs), 3#32⟩⌝ ∗ iprop(Tb c E I ∗ At (c : Thread nD τ) E.arg8.view fullShare (arest 1 (base (I.st (a.val + t.val)))) I.A ∗ aB c E I (a.val + t.val) 2 0))) := by
  have hg := G.sg (a.val + t.val) hs
  have hv := G.st (a.val + t.val) hs
  rw [k0_part7_eq_skeleton]
  unfold k0_part7_skel
  have hsem : ((E.arg26.slice (Rect.unit (s := S8) (k0_off66 (BitVec.ofNat 32 a.val) (BitVec.ofNat 32 (a.val + d.val + 1)) t) S1.size (k0_off66_inb (BitVec.ofNat 32 a.val) (BitVec.ofNat 32 (a.val + d.val + 1)) hw t))).squeeze S_ squeezes_S1_S_).sem = asem E ((a.val + t.val) % 8) :=
    sem_at _ _ _ _ (emb1 _ (by rw [of66]; simp))
  obtain ⟨φd, hsd, hφd⟩ := slot_sub (Val := Elt F) (c : Thread nD τ) E.arg16 (inb := k0_off67_inb (BitVec.ofNat 32 a.val) (BitVec.ofNat 32 (a.val + d.val + 1)) hw t) (hr := fun _ => rfl) (of67 a d t) rfl squeezes_S1x40x2048_S40x2048 (h := 40) (b := 2048) (S := arow ((a.val + t.val) % 8) (40 * 1) (40 * 1 + 40))
    (fun i => by rw [mem_arow]; have h : (i 2).val < 2048 := (i 2).isLt; omega)
  obtain ⟨φs, hss, hφs⟩ := slot_sub (Val := Elt F) (c : Thread nD τ) E.arg8 (inb := k0_off68_inb (I.st (a.val + t.val)) (chk11_of _ hv)) (hr := fun _ => rfl) (p := 1) (r := base (I.st (a.val + t.val))) rfl rfl squeezes_S1x40x2048_S40x2048 (h := 40) (b := 2048) (S := awin 1 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 1 (base (I.st (a.val + t.val)))) (awin_disj _ _)).1 $$ HA
  icases HA with ⟨HA, HR⟩
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk11_of _ hv))
  iapply (wp_cpB (c : Thread nD τ) 𝒱 bd (ms := E.arg8) (md := E.arg16) (X := I.A) (Y := I.aC (a.val + t.val))
    hss hsd _ (congrArg SemLoc.dma hsem) hYc (Na E) rfl (j := 1) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of69]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk13_of _ hv))
  iapply (wp_done (c : Thread nD τ) 𝒱 bd)
  isplitr [H1 H2 HR HB]
  · ipureintro; rfl
  isplitl [H1 H2]
  · isplitl [H1] <;> iassumption
  isplitl [HR] <;> iassumption

/-- Part 8: the third window is started. -/
theorem part8_spec (v32 c3 : BitVec 32) (hw13 : k0_chk13 (I.st (a.val + t.val))) :
    iprop(Tb c E I ∗ At (c : Thread nD τ) E.arg8.view fullShare (plane 2) I.A ∗ Any (c : Thread nD τ) E.arg16.view (arow ((a.val + t.val) % 8) (40 * 2) (40 * 2 + 40)) ∗ aB c E I (a.val + t.val) 2 0)
      ⊢ wp frame (wpE (defs₀ (F := F)) 𝒱 (c : Thread nD τ) bd) Set.univ
          (k0_part8 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw13 c3)
          (fun r => iprop(⌜r = ⟨I.st (a.val + t.val), chk9_of _ (G.st (a.val + t.val) hs), Scalar.shli (Scalar.shrsi (I.st (a.val + t.val)) 3#32) 3#32, 960#32⟩⌝ ∗ iprop(Tb c E I ∗ At (c : Thread nD τ) E.arg8.view fullShare (arest 2 (base (I.st (a.val + t.val)))) I.A ∗ aB c E I (a.val + t.val) 3 0))) := by
  have hg := G.sg (a.val + t.val) hs
  have hv := G.st (a.val + t.val) hs
  rw [k0_part8_eq_skeleton]
  unfold k0_part8_skel
  have hsem : ((E.arg26.slice (Rect.unit (s := S8) (k0_off71 (BitVec.ofNat 32 a.val) (BitVec.ofNat 32 (a.val + d.val + 1)) t) S1.size (k0_off71_inb (BitVec.ofNat 32 a.val) (BitVec.ofNat 32 (a.val + d.val + 1)) hw t))).squeeze S_ squeezes_S1_S_).sem = asem E ((a.val + t.val) % 8) :=
    sem_at _ _ _ _ (emb1 _ (by rw [of71]; simp))
  obtain ⟨φd, hsd, hφd⟩ := slot_sub (Val := Elt F) (c : Thread nD τ) E.arg16 (inb := k0_off72_inb (BitVec.ofNat 32 a.val) (BitVec.ofNat 32 (a.val + d.val + 1)) hw t) (hr := fun _ => rfl) (of72 a d t) rfl squeezes_S1x40x2048_S40x2048 (h := 40) (b := 2048) (S := arow ((a.val + t.val) % 8) (40 * 2) (40 * 2 + 40))
    (fun i => by rw [mem_arow]; have h : (i 2).val < 2048 := (i 2).isLt; omega)
  obtain ⟨φs, hss, hφs⟩ := slot_sub (Val := Elt F) (c : Thread nD τ) E.arg8 (inb := k0_off73_inb (I.st (a.val + t.val)) hw13) (hr := fun _ => rfl) (p := 2) (r := base (I.st (a.val + t.val))) rfl rfl squeezes_S1x40x2048_S40x2048 (h := 40) (b := 2048) (S := awin 2 (base (I.st (a.val + t.val))))
    (fun i => by rw [mem_awin]; have h : (i 2).val < 2048 := (i 2).isLt; omega)
  have hYc : ∀ x, I.aC (a.val + t.val) (φd x) = I.A (φs x) := by
    intro x
    have hb := base_eq _ hv
    obtain ⟨h1, h2, h3⟩ := hφd x
    obtain ⟨h4, h5, h6⟩ := hφs x
    have hx : (x 0).val < 40 := (x 0).isLt
    refine congrArg I.A (ext3 ?_ ?_ ?_)
    · show (Fin.ofNat 3 _).val = _
      simp only [Fin.val_ofNat]; omega
    · show (Fin.ofNat 1000 _).val = _
      simp only [Fin.val_ofNat]; omega
    · exact h3.trans h6.symm
  iintro ⟨⟨H1, H2⟩, HA, HW, HB⟩
  ihave HA := (At_split (c : Thread nD τ) (awin_split 2 (base (I.st (a.val + t.val)))) (awin_disj _ _)).1 $$ HA
  icases HA with ⟨HA, HR⟩
  iapply (wp_cpB (c : Thread nD τ) 𝒱 bd (ms := E.arg8) (md := E.arg16) (X := I.A) (Y := I.aC (a.val + t.val))
    hss hsd _ (congrArg SemLoc.dma hsem) hYc (Na E) rfl (j := 2) (by decide) rfl) $$ [HA HW HB]
  · isplitl [HA]; · iexact HA
    isplitl [HW]; · iexact HW
    iexact HB
  iintro HB
  iapply (wp_word (c : Thread nD τ) 𝒱 bd (X := I.seg) (ix1 (Fin.ofNat 19 (a.val + t.val))) (emb1 _ (by rw [of74]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk9_of _ hv))
  iapply (wp_done (c : Thread nD τ) 𝒱 bd)
  isplitr [H1 H2 HR HB]
  · ipureintro; rfl
  isplitl [H1 H2]
  · isplitl [H1] <;> iassumption
  isplitl [HR] <;> iassumption

/-- Part 9: one window has arrived. -/
theorem part9_spec (v32 w1 w2 : BitVec 32) (hw15 : k0_chk15 (I.st (a.val + t.val))) :
    iprop(Tb c E I ∗ aB c E I (a.val + t.val) 3 0 ∗ Ow c)
      ⊢ wp frame (wpE (defs₀ (F := F)) 𝒱 (c : Thread nD τ) bd) Set.univ
          (k0_part9 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw15 w1 w2)
          (fun r => iprop(⌜r = ⟨I.st (a.val + t.val), chk11_of _ (G.st (a.val + t.val) hs), 8#32, 0#32⟩⌝ ∗ iprop(Tb c E I ∗ aB c E I (a.val + t.val) 3 (0 + Na E) ∗ Ow c))) := by
  have hg := G.sg (a.val + t.val) hs
  have hv := G.st (a.val + t.val) hs
  rw [k0_part9_eq_skeleton]
  unfold k0_part9_skel
  have hsem : ((E.arg26.slice (Rect.unit (s := S8) (k0_off76 (BitVec.ofNat 32 a.val) (BitVec.ofNat 32 (a.val + d.val + 1)) t) S1.size (k0_off76_inb (BitVec.ofNat 32 a.val) (BitVec.ofNat 32 (a.val + d.val + 1)) hw t))).squeeze S_ squeezes_S1_S_).sem = asem E ((a.val + t.val) % 8) :=
    sem_at _ _ _ _ (emb1 _ (by rw [of76]; simp))
  have hN0 : 0 < Na E := sig.dmaCredit_pos _ _ _ _ _ (by rw [Shape.numel]; simp [Fin.prod_univ_succ])
  iintro ⟨⟨H1, H2⟩, HB, HO⟩
  iapply (wp_wtB (c : Thread nD τ) 𝒱 bd _ hsem (N := Na E) rfl (u := 0) (by omega)) $$ [HB HO]
  · isplitl [HB] <;> iassumption
  iintro ⟨HB, HO⟩
  iapply (wp_word (c : Thread nD τ) 𝒱 bd (X := I.seg) (ix1 (Fin.ofNat 19 (a.val + t.val))) (emb1 _ (by rw [of79]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk11_of _ hv))
  iapply (wp_done (c : Thread nD τ) 𝒱 bd)
  isplitr [H1 H2 HB HO]
  · ipureintro; rfl
  isplitl [H1 H2]
  · isplitl [H1] <;> iassumption
  isplitl [HB] <;> iassumption

/-- Part 10: two windows have arrived. -/
theorem part10_spec (v32 : BitVec 32) (hw17 : k0_chk17 (I.st (a.val + t.val))) :
    iprop(Tb c E I ∗ aB c E I (a.val + t.val) 3 (0 + Na E) ∗ Ow c)
      ⊢ wp frame (wpE (defs₀ (F := F)) 𝒱 (c : Thread nD τ) bd) Set.univ
          (k0_part10 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw17 8#32 0#32)
          (fun r => iprop(⌜r = ⟨I.st (a.val + t.val), chk13_of _ (G.st (a.val + t.val) hs), Scalar.select (Scalar.cmpi .eq 8#32 0#32) 1#32 8#32, Scalar.remsi v32 (Scalar.select (Scalar.cmpi .eq 8#32 0#32) 1#32 8#32)⟩⌝ ∗ iprop(Tb c E I ∗ aB c E I (a.val + t.val) 3 (0 + Na E + Na E) ∗ Ow c))) := by
  have hg := G.sg (a.val + t.val) hs
  have hv := G.st (a.val + t.val) hs
  rw [k0_part10_eq_skeleton]
  unfold k0_part10_skel
  have hsem : ((E.arg26.slice (Rect.unit (s := S8) (k0_off81 (BitVec.ofNat 32 a.val) (BitVec.ofNat 32 (a.val + d.val + 1)) t) S1.size (k0_off81_inb (BitVec.ofNat 32 a.val) (BitVec.ofNat 32 (a.val + d.val + 1)) hw t))).squeeze S_ squeezes_S1_S_).sem = asem E ((a.val + t.val) % 8) :=
    sem_at _ _ _ _ (emb1 _ (by rw [of81]; simp))
  have hN0 : 0 < Na E := sig.dmaCredit_pos _ _ _ _ _ (by rw [Shape.numel]; simp [Fin.prod_univ_succ])
  iintro ⟨⟨H1, H2⟩, HB, HO⟩
  iapply (wp_wtB (c : Thread nD τ) 𝒱 bd _ hsem (N := Na E) rfl (u := 0 + Na E) (by omega)) $$ [HB HO]
  · isplitl [HB] <;> iassumption
  iintro ⟨HB, HO⟩
  iapply (wp_word (c : Thread nD τ) 𝒱 bd (X := I.seg) (ix1 (Fin.ofNat 19 (a.val + t.val))) (emb1 _ (by rw [of84]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk13_of _ hv))
  iapply (wp_done (c : Thread nD τ) 𝒱 bd)
  isplitr [H1 H2 HB HO]
  · ipureintro; rfl
  isplitl [H1 H2]
  · isplitl [H1] <;> iassumption
  isplitl [HB] <;> iassumption

/-- Part 11: all three windows have arrived. -/
theorem part11_spec (v32 w1 w2 : BitVec 32) (hw19 : k0_chk19 (I.st (a.val + t.val))) :
    iprop(Tb c E I ∗ At (c : Thread nD τ) E.arg3.view fullShare Finset.univ I.rank ∗ aB c E I (a.val + t.val) 3 (0 + Na E + Na E) ∗ Ow c)
      ⊢ wp frame (wpE (defs₀ (F := F)) 𝒱 (c : Thread nD τ) bd) Set.univ
          (k0_part11 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw t v32 (I.st (a.val + t.val)) hw19 w1 w2)
          (fun r => iprop(⌜r = ⟨I.sgw (a.val + t.val), chk20_of _ (G.sg (a.val + t.val) hs), I.st (a.val + t.val), I.st (a.val + t.val), chk22_of _ (G.st (a.val + t.val) hs), Scalar.subi (I.st (a.val + t.val)) (Scalar.minsi (Scalar.shli (Scalar.shrsi (I.st (a.val + t.val)) 3#32) 3#32) 960#32), I.rk (a.val + t.val), 8#32, Scalar.cmpi .eq 8#32 0#32⟩⌝ ∗ iprop(Tb c E I ∗ At (c : Thread nD τ) E.arg3.view fullShare Finset.univ I.rank ∗ (aD c E I (a.val + t.val) 0 ∗ aD c E I (a.val + t.val) 1 ∗ aD c E I (a.val + t.val) 2) ∗ semVal ((c : Thread nD τ), .dma (asem E ((a.val + t.val) % 8))) 0 ∗ Ow c))) := by
  have hg := G.sg (a.val + t.val) hs
  have hv := G.st (a.val + t.val) hs
  rw [k0_part11_eq_skeleton]
  unfold k0_part11_skel
  have hsem : ((E.arg26.slice (Rect.unit (s := S8) (k0_off86 (BitVec.ofNat 32 a.val) (BitVec.ofNat 32 (a.val + d.val + 1)) t) S1.size (k0_off86_inb (BitVec.ofNat 32 a.val) (BitVec.ofNat 32 (a.val + d.val + 1)) hw t))).squeeze S_ squeezes_S1_S_).sem = asem E ((a.val + t.val) % 8) :=
    sem_at _ _ _ _ (emb1 _ (by rw [of86]; simp))
  have hN0 : 0 < Na E := sig.dmaCredit_pos _ _ _ _ _ (by rw [Shape.numel]; simp [Fin.prod_univ_succ])
  iintro ⟨⟨H1, H2⟩, H3, HB, HO⟩
  iapply (wp_wtBLast (c : Thread nD τ) 𝒱 bd _ hsem (N := Na E) rfl hN0 (u := 0 + Na E + Na E) (by omega)) $$ [HB HO]
  · isplitl [HB] <;> iassumption
  iintro ⟨HD, HS, HO⟩
  iapply (wp_word (c : Thread nD τ) 𝒱 bd (X := I.seg) (ix1 (Fin.ofNat 19 (a.val + t.val))) (emb1 _ (by rw [of89]; simp [Nat.mod_eq_of_lt hs]))) $$ H1
  iintro H1
  iapply (wp_as (c : Thread nD τ) 𝒱 bd (chk20_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_word (c : Thread nD τ) 𝒱 bd (X := I.seg) (ix1 (Fin.ofNat 19 (a.val + t.val))) (emb1 _ (by rw [of91]; simp [Nat.mod_eq_of_lt hs]))) $$ H1
  iintro H1
  iapply (wp_as (c : Thread nD τ) 𝒱 bd (chk1_of _ hg))
  iapply (wp_word (c : Thread nD τ) 𝒱 bd (X := I.start) (ix1 (Fin.ofNat 23 (I.sgw (a.val + t.val)).toNat)) (emb1 _ (by
    show (I.sgw (a.val + t.val)).toNat = _; simp [Nat.mod_eq_of_lt hg]))) $$ H2
  iintro H2
  iapply (wp_as (c : Thread nD τ) 𝒱 bd (chk22_of _ hv))
  iapply (wp_word (c : Thread nD τ) 𝒱 bd (X := I.rank) (ix1 (Fin.ofNat 23 (I.sgw (a.val + t.val)).toNat)) (emb1 _ (by
    show (I.sgw (a.val + t.val)).toNat = _; simp [Nat.mod_eq_of_lt hg]))) $$ H3
  iintro H3
  iapply (wp_done (c : Thread nD τ) 𝒱 bd)
  isplitr [H1 H2 H3 HD HS HO]
  · ipureintro; rfl
  isplitl [H1 H2]
  · isplitl [H1] <;> iassumption
  isplitl [H3]; · iexact H3
  isplitl [HD]; · iexact HD
  isplitl [HS] <;> iassumption

end Cert.KernelIdeal.Hand

end
-- ==== Proof.Run.KI.T5b.lean ====
/-
  One segment of a tile: its down-projection against the tile's tokens, masked to the segment, put in the window of
  the segment in the wide buffer and added to the narrow one.
-/
module

public import proofs.«01_k».proof.Proof.Run.KI.T7
public import proofs.«01_k».proof.Proof.Run.KI.T5a
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The row of its window at which a segment's rows begin. -/
def sh (s : ℕ) : ℕ := (I.st s).toNat - min ((I.st s).toNat / 8 * 8) 960
/-- The products of tile `i`'s tokens with segment `s`'s windows. -/
def D (i s : ℕ) : FVec F S120x512 .f32 := k0_pay17 (I.aseg s) (I.xblk i)
/-- The rows of a window, counted from the segment's first. -/
def p18 (s : ℕ) : IVec S40x512 32 := k0_pay18 (Scalar.subi (I.st s) (Scalar.minsi (Scalar.shli (Scalar.shrsi (I.st s) 3#32) 3#32) 960#32))
/-- The tokens of tile `i` that segment `s` holds. -/
def p19 (i s : ℕ) : IVec S40x512 1 := k0_pay19 (F := F) (BitVec.ofNat 32 (512 * i)) (I.of s) (I.of (s + 1))
/-- The mask of segment `s` in tile `i`. -/
def Mk (i s : ℕ) : IVec S40x512 1 := k0_pay21 (F := F) (I.rk s) (I.p18 s) (I.p19 i s) k0_pay20
/-- The scale of slice `c` for segment `s`. -/
def sc (s c : ℕ) : Elt F .f32 := I.scal (ix2 (Fin.ofNat 23 (I.sgw s).toNat) (Fin.ofNat 3 c))
/-- The masked, scaled, rounded products of slice `c`. -/
def H (i s : ℕ) : ℕ → FVec F S40x512 .f32
  | 0 => k0_pay22 (I.rk s) (I.D i s) (I.p18 s) (I.p19 i s) k0_pay20 (I.sc s 0)
  | 1 => k0_pay33 (I.D i s) (I.Mk i s) (I.sc s 1)
  | _ => k0_pay46 (I.D i s) (I.Mk i s) (I.sc s 2)
/-- The scratch planes holding slice `c`. -/
def Tm (i s c : ℕ) : S4x40x128.Idx → Elt F .f32 := fun x => I.H i s c (ix2 (x 1) (Fin.ofNat 512 (128 * (x 0).val + (x 2).val)))
/-- The narrow buffer after `n` segments from segment `a`. -/
def lc (i a : ℕ) : ℕ → S3x32x512.Idx → Elt F .bf16
  | 0 => k0_pay100
  | n + 1 => fun x => FloatOps.truncf .bf16 bitsLt_bf16_f32 (FloatOps.addf (FloatOps.extf .f32 bitsLt_bf16_f32 (lc i a n x))
      (I.H i (a + n) (x 0).val (ix2 (Fin.ofNat 40 (I.sh (a + n) + (x 1).val)) (x 2))))
/-- The wide buffer after `n` segments from segment `a`. -/
def bg (i a : ℕ) : ℕ → S3x256x512.Idx → Elt F .f32
  | 0 => k0_pay99
  | n + 1 => fun x => if 40 * (a + n - min a 13) ≤ (x 1).val ∧ (x 1).val < 40 * (a + n - min a 13) + 40
      then I.H i (a + n) (x 0).val (ix2 (Fin.ofNat 40 ((x 1).val - 40 * (a + n - min a 13))) (x 2)) else bg i a n x
/-- The scratch planes before slice `c`. -/
def TmP (Z : S4x40x128.Idx → Elt F .f32) (i s : ℕ) : ℕ → S4x40x128.Idx → Elt F .f32
  | 0 => Z
  | c + 1 => I.Tm i s c
end In

abbrev keyL (x : S3x32x512.Idx) : ℕ := 4 * (x 0).val + (x 2).val / 128
abbrev keyT (x : S4x40x128.Idx) : ℕ := (x 0).val
abbrev keyB (w : ℕ) (x : S3x256x512.Idx) : ℕ := if w ≤ (x 1).val ∧ (x 1).val < w + 40 then (x 0).val else 3

theorem setL (c q : ℕ) (hq : q < 4) {inb} : ∀ i, i ∈ (Rect.unit (s := S3x32x512) ![c, 0, 128 * q] S1x32x128.size inb).set ↔ keyL i = 4 * c + q := by
  intro i
  rw [mem3 rfl rfl]
  have h1 : (i 1).val < 32 := (i 1).isLt
  have h2 : (i 2).val < 512 := (i 2).isLt
  show _ ↔ 4 * (i 0).val + (i 2).val / 128 = 4 * c + q
  omega
theorem setT (q : ℕ) {inb} : ∀ i, i ∈ (Rect.unit (s := S4x40x128) ![q, 0, 0] S1x40x128.size inb).set ↔ keyT i = q := by
  intro i
  rw [mem3 rfl rfl]
  have h1 : (i 1).val < 40 := (i 1).isLt
  have h2 : (i 2).val < 128 := (i 2).isLt
  show _ ↔ (i 0).val = q
  omega
theorem setB (w c : ℕ) (hc : c < 3) {off : Fin 3 → ℕ} {inb} (ho : off = ![c, w, 0]) :
    ∀ i, i ∈ (Rect.unit (s := S3x256x512) off S1x40x512.size inb).set ↔ keyB w i = c := by
  intro i
  rw [mem3 ho rfl]
  have h0 : (i 0).val < 3 := (i 0).isLt
  have h2 : (i 2).val < 512 := (i 2).isLt
  unfold keyB
  split <;> omega

theorem off100_nat : ∀ n : Fin 969, k0_off100 (BitVec.ofNat 32 n.val) (BitVec.ofNat 32 n.val) = ![0, n.val - min (n.val / 8 * 8) 960, 0]
    ∧ k0_off101 (BitVec.ofNat 32 n.val) (BitVec.ofNat 32 n.val) = ![1, n.val - min (n.val / 8 * 8) 960, 0]
    ∧ k0_off102 (BitVec.ofNat 32 n.val) (BitVec.ofNat 32 n.val) = ![2, n.val - min (n.val / 8 * 8) 960, 0]
    ∧ k0_off103 (BitVec.ofNat 32 n.val) (BitVec.ofNat 32 n.val) = ![3, n.val - min (n.val / 8 * 8) 960, 0] := by decide +kernel

section pieces
variable (I : In F)
theorem sh_offs (s : ℕ) (h : (I.st s).toNat ≤ 968) : (k0_off100 (I.st s) (I.st s) = ![0, I.sh s, 0] ∧ k0_off101 (I.st s) (I.st s) = ![1, I.sh s, 0])
    ∧ k0_off102 (I.st s) (I.st s) = ![2, I.sh s, 0] ∧ k0_off103 (I.st s) (I.st s) = ![3, I.sh s, 0] := by
  obtain ⟨h0, h1, h2, h3⟩ := off100_nat ⟨(I.st s).toNat, by omega⟩
  simp only [BitVec.ofNat_toNat, BitVec.setWidth_eq] at h0 h1 h2 h3
  exact ⟨⟨h0, h1⟩, h2, h3⟩

theorem tmp_piece (i s c q : ℕ) (hq : q < 4) {inb} (h : S40x512.Slices ![0, 128 * q] S40x128) (x : S1x40x128.Idx) :
    I.Tm i s c ((Rect.unit (s := S4x40x128) ![q, 0, 0] S1x40x128.size inb).emb x)
      = shapeCast S1x40x128 (extractStridedSlice S40x128 ![0, 128 * q] (I.H i s c) h) shapeCasts_S40x128_S1x40x128 x := by
  refine Eq.trans ?_ (cast2_3 (a := 40) (b := 128) _ _ x).symm
  have h0 : (x 0).val < 1 := (x 0).isLt
  have h1 : (x 1).val < 40 := (x 1).isLt
  have h2 : (x 2).val < 128 := (x 2).isLt
  have e0 : ((Rect.unit (s := S4x40x128) ![q, 0, 0] S1x40x128.size inb).emb x 0).val = q := (emb_val 0).trans (by show q + (x 0).val = q; omega)
  have e1 : ((Rect.unit (s := S4x40x128) ![q, 0, 0] S1x40x128.size inb).emb x 1).val = (x 1).val := (emb_val 1).trans (by show 0 + (x 1).val = _; omega)
  have e2 : ((Rect.unit (s := S4x40x128) ![q, 0, 0] S1x40x128.size inb).emb x 2).val = (x 2).val := (emb_val 2).trans (by show 0 + (x 2).val = _; omega)
  unfold In.Tm extractStridedSlice
  refine congrArg (I.H i s c) (ext2 ?_ ?_)
  · refine e1.trans ?_
    show _ = 0 + (x 1).val
    omega
  · show (128 * _ + _) % 512 = 128 * q + (x 2).val
    rw [e0, e2]; omega

theorem lo_piece (i a n c q : ℕ) (hc : c < 3) (hq : q < 4) {inb} {off : Fin 3 → ℕ} {inb2} (ho : off = ![q, I.sh (a + n), 0]) (hsh : I.sh (a + n) ≤ 8)
    {k : ℕ} (hk : k = 4 * c + q) {A : S4x40x128.Idx → Elt F .f32} (x : S1x32x128.Idx) :
    I.lc i a (n + 1) ((Rect.unit (s := S3x32x512) ![c, 0, 128 * q] S1x32x128.size inb).emb x)
      = k0_pay25 (fun y => mix keyL k (I.lc i a n) (I.lc i a (n + 1)) ((Rect.unit (s := S3x32x512) ![c, 0, 128 * q] S1x32x128.size inb).toLoadRect.idx y))
          (fun y => mix keyT (q + 1) A (I.Tm i (a + n) c) ((Rect.unit (s := S4x40x128) off S1x32x128.size inb2).toLoadRect.idx y)) x := by
  subst ho hk
  show _ = shapeCast S1x32x128 (truncf .bf16 (addf (extf .f32 (shapeCast S32x128 _ shapeCasts_S1x32x128_S32x128) bitsLt_bf16_f32)
    (shapeCast S32x128 _ shapeCasts_S1x32x128_S32x128)) bitsLt_bf16_f32) shapeCasts_S32x128_S1x32x128 x
  refine Eq.trans ?_ (cast2_3 (a := 32) (b := 128) _ _ x).symm
  have h0 : (x 0).val < 1 := (x 0).isLt
  have h1 : (x 1).val < 32 := (x 1).isLt
  have h2 : (x 2).val < 128 := (x 2).isLt
  have e0 : ((Rect.unit (s := S3x32x512) ![c, 0, 128 * q] S1x32x128.size inb).emb x 0).val = c := (emb_val 0).trans (by show c + (x 0).val = c; omega)
  have e1 : ((Rect.unit (s := S3x32x512) ![c, 0, 128 * q] S1x32x128.size inb).emb x 1).val = (x 1).val := (emb_val 1).trans (by show 0 + (x 1).val = _; omega)
  have e2 : ((Rect.unit (s := S3x32x512) ![c, 0, 128 * q] S1x32x128.size inb).emb x 2).val = 128 * q + (x 2).val := emb_val 2
  refine congrArg (FloatOps.truncf .bf16 bitsLt_bf16_f32) (congrArg₂ FloatOps.addf (congrArg (FloatOps.extf .f32 bitsLt_bf16_f32) ?_) ?_)
  · refine Eq.trans ?_ (cast3_2 (a := 32) (b := 128) _ _ _).symm
    unfold mix
    rw [if_neg (by
      show ¬ 4 * (c + 1 * 0) + (128 * q + 1 * (x 2).val) / 128 < 4 * c + q
      omega)]
    refine congrArg _ (ext3 ?_ ?_ ?_)
    · refine e0.trans ?_
      show c = c + 1 * 0
      omega
    · refine e1.trans ?_
      show _ = 0 + 1 * (x 1).val
      omega
    · refine e2.trans ?_
      show _ = 128 * q + 1 * (x 2).val
      omega
  · refine Eq.trans ?_ (cast3_2 (a := 32) (b := 128) _ _ _).symm
    unfold mix
    rw [if_pos (by
      show q + 1 * 0 < q + 1
      omega)]
    unfold In.Tm
    rw [e0]
    refine congrArg _ (ext2 ?_ ?_)
    · show (_ + _) % 40 = I.sh (a + n) + 1 * (x 1).val
      rw [e1]; omega
    · refine e2.trans ?_
      show _ = (128 * (q + 1 * 0) + (0 + 1 * (x 2).val)) % 512
      omega

theorem bg_in (i a n : ℕ) (x : S3x256x512.Idx) (h : 40 * (a + n - min a 13) ≤ (x 1).val ∧ (x 1).val < 40 * (a + n - min a 13) + 40) :
    I.bg i a (n + 1) x = I.H i (a + n) (x 0).val (ix2 (Fin.ofNat 40 ((x 1).val - 40 * (a + n - min a 13))) (x 2)) := if_pos h
theorem bg_out (i a n : ℕ) (x : S3x256x512.Idx) (h : ¬ (40 * (a + n - min a 13) ≤ (x 1).val ∧ (x 1).val < 40 * (a + n - min a 13) + 40)) :
    I.bg i a (n + 1) x = I.bg i a n x := if_neg h

theorem big_piece (i a n c : ℕ) (hw : 40 * (a + n - min a 13) + 40 ≤ 256) {off : Fin 3 → ℕ} {inb} (ho : off = ![c, 40 * (a + n - min a 13), 0]) (x : S1x40x512.Idx) :
    I.bg i a (n + 1) ((Rect.unit (s := S3x256x512) off S1x40x512.size inb).emb x)
      = shapeCast S1x40x512 (I.H i (a + n) c) shapeCasts_S40x512_S1x40x512 x := by
  subst ho
  refine Eq.trans ?_ (cast2_3 (a := 40) (b := 512) _ _ x).symm
  have h0 : (x 0).val < 1 := (x 0).isLt
  have h1 : (x 1).val < 40 := (x 1).isLt
  have e0 : ((Rect.unit (s := S3x256x512) ![c, 40 * (a + n - min a 13), 0] S1x40x512.size inb).emb x 0).val = c := (emb_val 0).trans (by show c + (x 0).val = c; omega)
  have e1 : ((Rect.unit (s := S3x256x512) ![c, 40 * (a + n - min a 13), 0] S1x40x512.size inb).emb x 1).val = 40 * (a + n - min a 13) + (x 1).val := emb_val 1
  have e2 : ((Rect.unit (s := S3x256x512) ![c, 40 * (a + n - min a 13), 0] S1x40x512.size inb).emb x 2).val = (x 2).val := (emb_val 2).trans (by show 0 + (x 2).val = _; omega)
  refine (bg_in I i a n _ (by rw [e1]; omega)).trans ?_
  rw [e0]
  refine congrArg _ (ext2 ?_ ?_)
  · show (_ - _) % 40 = (x 1).val
    rw [e1]; omega
  · exact e2
end pieces

variable (c : Dev nD) (E : Env) (I : In F)

/-- The narrow buffer, `k` of its twelve pieces brought from segment `n` to the next. -/
abbrev loS (i a n k : ℕ) : sProp 𝕄 := At (c : Thread nD τ) E.arg21.view fullShare Finset.univ (mix keyL k (I.lc i a n) (I.lc i a (n + 1)))
/-- The scratch planes, `k` of them holding slice `q`. -/
abbrev tmS (Z : S4x40x128.Idx → Elt F .f32) (i s q k : ℕ) : sProp 𝕄 :=
  At (c : Thread nD τ) E.arg20.view fullShare Finset.univ (mix keyT k (I.TmP Z i s q) (I.Tm i s q))
/-- The wide buffer, `k` of its three windows written. -/
abbrev bgS (i a n k : ℕ) : sProp 𝕄 := At (c : Thread nD τ) E.arg18.view fullShare Finset.univ (mix (keyB (40 * (a + n - min a 13))) k (I.bg i a n) (I.bg i a (n + 1)))
abbrev scS : sProp 𝕄 := At (c : Thread nD τ) E.arg4.view fullShare Finset.univ I.scal

theorem tm_next (Z : S4x40x128.Idx → Elt F .f32) (i s q : ℕ) : tmS c E I Z i s q 4 = tmS c E I Z i s (q + 1) 0 :=
  congrArg (At (c : Thread nD τ) E.arg20.view fullShare Finset.univ) ((mix_all fun x => Or.inl (x 0).isLt).trans mix_zero.symm)
theorem lo_done (i a n : ℕ) : loS c E I i a n 12 = loS c E I i a (n + 1) 0 :=
  congrArg (At (c : Thread nD τ) E.arg21.view fullShare Finset.univ) ((mix_all fun x => Or.inl (by
    have h0 : (x 0).val < 3 := (x 0).isLt
    have h2 : (x 2).val < 512 := (x 2).isLt
    show 4 * (x 0).val + (x 2).val / 128 < 12
    omega)).trans mix_zero.symm)
theorem bg_done (i a n : ℕ) : bgS c E I i a n 3 = bgS c E I i a (n + 1) 0 :=
  congrArg (At (c : Thread nD τ) E.arg18.view fullShare Finset.univ) ((mix_all fun x => by
    have h0 : (x 0).val < 3 := (x 0).isLt
    by_cases h : 40 * (a + n - min a 13) ≤ (x 1).val ∧ (x 1).val < 40 * (a + n - min a 13) + 40
    · left; unfold keyB; rw [if_pos h]; exact h0
    · right; exact (if_neg h).symm).trans mix_zero.symm)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)
include G hs

omit G hs in
theorem emb11 {off : Fin 2 → ℕ} {inb} {i : S23x3.Idx} (h0 : off 0 = (i 0).val) (h1 : off 1 = (i 1).val) (x) :
    (Rect.unit (s := S23x3) off S1x1.size inb).emb x = i := by
  refine ext2 ?_ ?_
  · refine (emb_val 0).trans ?_
    have h : (x 0).val < 1 := (x 0).isLt
    omega
  · refine (emb_val 1).trans ?_
    have h : (x 1).val < 1 := (x 1).isLt
    omega

omit G hs in
theorem a_load : (fun y => I.aC (a.val + t.val) ((Rect.unit (s := S8x120x2048) (k0_off94 (BitVec.ofNat 32 a.val) (BitVec.ofNat 32 (a.val + d.val + 1)) t) S1x120x2048.size (k0_off94_inb (BitVec.ofNat 32 a.val) (BitVec.ofNat 32 (a.val + d.val + 1)) hw t)).toLoadRect.idx y)) = I.aseg (a.val + t.val) := by
  funext y
  have h1 : k0_off94 (BitVec.ofNat 32 a.val) (BitVec.ofNat 32 (a.val + d.val + 1)) t 1 = 0 := by rw [of94]; rfl
  have h2 : k0_off94 (BitVec.ofNat 32 a.val) (BitVec.ofNat 32 (a.val + d.val + 1)) t 2 = 0 := by rw [of94]; rfl
  have e1 : (k0_off94 (BitVec.ofNat 32 a.val) (BitVec.ofNat 32 (a.val + d.val + 1)) t 1 + 1 * (y 1).val) = (y 1).val := by omega
  refine congrArg I.A (ext3 ?_ ?_ ?_)
  · show ((k0_off94 (BitVec.ofNat 32 a.val) (BitVec.ofNat 32 (a.val + d.val + 1)) t 1 + 1 * (y 1).val) / 40) % 3 = ((y 1).val / 40) % 3
    rw [e1]
  · show (base _ + (k0_off94 (BitVec.ofNat 32 a.val) (BitVec.ofNat 32 (a.val + d.val + 1)) t 1 + 1 * (y 1).val) % 40) % 1000 = (base _ + (y 1).val % 40) % 1000
    rw [e1]
  · show (k0_off94 (BitVec.ofNat 32 a.val) (BitVec.ofNat 32 (a.val + d.val + 1)) t) 2 + 1 * (y 2).val = (y 2).val
    omega

omit G hs in
theorem of95 (i : Fin k0_t4_loop.trips) : k0_off95 i = ![i.val % 2, 0, 0] := by revert i; decide +kernel
omit G hs in
theorem x_load5 (i : Fin k0_t4_loop.trips) :
    (fun y => I.xC i.val ((Rect.unit (s := S2x512x2048) (k0_off95 i) S1x512x2048.size (k0_off95_inb i)).toLoadRect.idx y)) = I.xblk i.val := by
  funext y
  refine congrArg I.X (ext2 ?_ ?_)
  · show (512 * i.val + ((k0_off95 i) 1 + 1 * (y 1).val)) % 12288 = (512 * i.val + (y 1).val) % 12288
    have h : k0_off95 i 1 = 0 := by rw [of95]; rfl
    omega
  · show (k0_off95 i) 2 + 1 * (y 2).val = (y 2).val
    have h : k0_off95 i 2 = 0 := by rw [of95]; rfl
    omega

omit G in
/-- Part 12: the products, and the bounds of the segment. -/
theorem part12_spec (i : Fin k0_t4_loop.trips) (a30 a32 c8 : BitVec 32) (b : BitVec 1) :
    iprop(At (c : Thread nD τ) E.arg16.view fullShare (arow ((a.val + t.val) % 8) 0 120) (I.aC (a.val + t.val)) ∗ At (c : Thread nD τ) E.arg13.view fullShare (plane (i.val % 2)) (I.xC i.val)
      ∗ At (c : Thread nD τ) E.arg0.view fullShare Finset.univ I.off)
      ⊢ wp frame (wpE (defs₀ (F := F)) 𝒱 (c : Thread nD τ) bd) Set.univ
          (k0_part12 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw t a32 (Scalar.subi (I.st (a.val + t.val)) (Scalar.minsi (Scalar.shli (Scalar.shrsi (I.st (a.val + t.val)) 3#32) 3#32) 960#32)) c8 b)
          (fun r => iprop(⌜r = ⟨I.D i.val (a.val + t.val), I.p18 (a.val + t.val), I.p19 i.val (a.val + t.val), k0_pay20⟩⌝ ∗
    iprop(At (c : Thread nD τ) E.arg16.view fullShare (arow ((a.val + t.val) % 8) 0 120) (I.aC (a.val + t.val)) ∗ At (c : Thread nD τ) E.arg13.view fullShare (plane (i.val % 2)) (I.xC i.val)
      ∗ At (c : Thread nD τ) E.arg0.view fullShare Finset.univ I.off))) := by
  have hsub1 : (Rect.unit (s := S8x120x2048) (k0_off94 (BitVec.ofNat 32 a.val) (BitVec.ofNat 32 (a.val + d.val + 1)) t) S1x120x2048.size (k0_off94_inb (BitVec.ofNat 32 a.val) (BitVec.ofNat 32 (a.val + d.val + 1)) hw t)).toLoadRect.set ⊆ arow ((a.val + t.val) % 8) 0 120 := by
    intro z hz
    have h := (mem3 (of94 a d t) rfl).mp hz
    rw [mem_arow]; omega
  have hsub2 : (Rect.unit (s := S2x512x2048) (k0_off95 i) S1x512x2048.size (k0_off95_inb i)).toLoadRect.set ⊆ plane (i.val % 2) := by
    intro z hz
    have h := (mem3 (of95 i) rfl).mp hz
    rw [mem_plane]; omega
  rw [k0_part12_eq_skeleton]
  unfold k0_part12_skel In.D
  rw [← a_load I a d hw t, ← x_load5 I i]
  iintro ⟨HA, HX, HO⟩
  iapply (wp_ld (c : Thread nD τ) 𝒱 bd (X := I.aC (a.val + t.val)) hsub1) $$ HA
  iintro HA
  iapply (wp_ld (c : Thread nD τ) 𝒱 bd (X := I.xC i.val) hsub2) $$ HX
  iintro HX
  iapply (wp_word (c : Thread nD τ) 𝒱 bd (X := I.off) (ix1 (Fin.ofNat 20 (a.val + t.val))) (emb1 _ (by rw [of96]; simp; omega))) $$ HO
  iintro HO
  iapply (wp_word (c : Thread nD τ) 𝒱 bd (X := I.off) (ix1 (Fin.ofNat 20 ((a.val + t.val) + 1))) (emb1 _ (by rw [of97]; simp; omega))) $$ HO
  iintro HO
  iapply (wp_done (c : Thread nD τ) 𝒱 bd)
  isplitr [HA HX HO]
  · ipureintro; rfl
  isplitl [HA]; · iexact HA
  isplitl [HX] <;> iassumption

/-- Part 13: the first slice, its first piece. -/
theorem part13_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 0 0 ∗ loS c E I i a.val t.val 0 ∗ bgS c E I i a.val t.val 0 ∗ scS c E I)
      ⊢ wp frame (wpE (defs₀ (F := F)) 𝒱 (c : Thread nD τ) bd) Set.univ
          (k0_part13 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.rk (a.val + t.val)) (I.D i (a.val + t.val)) (I.p18 (a.val + t.val)) (I.p19 i (a.val + t.val)) k0_pay20)
          (fun r => iprop(⌜r = ⟨(I.Mk i (a.val + t.val)), I.H i (a.val + t.val) 0, k0_pay26 (I.rk (a.val + t.val)) (I.D i (a.val + t.val)) (I.p18 (a.val + t.val)) (I.p19 i (a.val + t.val)) k0_pay20 (I.sc (a.val + t.val) 0), (fun y => mix keyT 1 (I.TmP Z i (a.val + t.val) 0) (I.Tm i (a.val + t.val) 0) ((Rect.unit (s := S4x40x128) ![1, 0, 0] S1x40x128.size inb_S4x40x128_S1x40x128_1_0_0).toLoadRect.idx y))⟩⌝ ∗ iprop(tmS c E I Z i (a.val + t.val) 0 1 ∗ loS c E I i a.val t.val 1 ∗ bgS c E I i a.val t.val 1 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part13_eq_skeleton]
  unfold k0_part13_skel
  iintro ⟨HT, HL, HG, HS⟩
  iapply (wp_word (c : Thread nD τ) 𝒱 bd (X := I.scal) (ix2 (Fin.ofNat 23 (I.sgw (a.val + t.val)).toNat) (Fin.ofNat 3 0)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 0 (I.bg i a.val t.val) (I.bg i a.val (t.val + 1))) (Finset.subset_univ _)) $$ HG
  iintro HG
  iapply (wp_mix (c : Thread nD τ) 𝒱 bd (key := keyB (40 * (a.val + t.val - min a.val 13))) (n := 0) (B := I.bg i a.val (t.val + 1)) (setB _ 0 (by decide) (of99 a d t)) (big_piece I i a.val t.val 0 hwin (of99 a d t))) $$ HG
  iintro HG
  iapply (wp_ld (c : Thread nD τ) 𝒱 bd (X := mix keyT 0 (I.TmP Z i (a.val + t.val) 0) (I.Tm i (a.val + t.val) 0)) (Finset.subset_univ _)) $$ HT
  iintro HT
  iapply (wp_mix (c : Thread nD τ) 𝒱 bd (key := keyT) (n := 0) (B := I.Tm i (a.val + t.val) 0) (setT 0) (tmp_piece I i (a.val + t.val) 0 0 (by decide) slices_S40x512_o0_0_S40x128)) $$ HT
  iintro HT
  iapply (wp_ld (c : Thread nD τ) 𝒱 bd (X := mix keyL 0 (I.lc i a.val t.val) (I.lc i a.val (t.val + 1))) (Finset.subset_univ _)) $$ HL
  iintro HL
  iapply (wp_ld (c : Thread nD τ) 𝒱 bd (X := mix keyT 1 (I.TmP Z i (a.val + t.val) 0) (I.Tm i (a.val + t.val) 0)) (Finset.subset_univ _)) $$ HT
  iintro HT
  iapply (wp_ld (c : Thread nD τ) 𝒱 bd (X := mix keyL 0 (I.lc i a.val t.val) (I.lc i a.val (t.val + 1))) (Finset.subset_univ _)) $$ HL
  iintro HL
  iapply (wp_mix (c : Thread nD τ) 𝒱 bd (key := keyL) (n := 0) (B := I.lc i a.val (t.val + 1)) (setL 0 0 (by decide)) (lo_piece I i a.val t.val 0 0 (by decide) (by decide) (sh_offs I _ hv).1.1 hsh rfl)) $$ HL
  iintro HL
  iapply (wp_ld (c : Thread nD τ) 𝒱 bd (X := mix keyT 1 (I.TmP Z i (a.val + t.val) 0) (I.Tm i (a.val + t.val) 0)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 14: the first slice, its middle pieces. -/
theorem part14_spec (Z : S4x40x128.Idx → Elt F .f32) (i : ℕ) (v345 : BitVec 32) (v429 : Vec F S1x40x128 .f32) (hw22 : k0_chk22 (I.st (a.val + t.val)) (I.st (a.val + t.val))) :
    iprop(tmS c E I Z i (a.val + t.val) 0 1 ∗ loS c E I i a.val t.val 1)
      ⊢ wp frame (wpE (defs₀ (F := F)) 𝒱 (c : Thread nD τ) bd) Set.univ
          (k0_part14 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 0) (k0_pay26 (I.rk (a.val + t.val)) (I.D i (a.val + t.val)) (I.p18 (a.val + t.val)) (I.p19 i (a.val + t.val)) k0_pay20 (I.sc (a.val + t.val) 0)) v429)
          (fun r => iprop(⌜r = ⟨⟩⌝ ∗ iprop(tmS c E I Z i (a.val + t.val) 0 4 ∗ loS c E I i a.val t.val 3))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part14_eq_skeleton]
  unfold k0_part14_skel
  iintro ⟨HT, HL⟩
  iapply (wp_mix (c : Thread nD τ) 𝒱 bd (key := keyT) (n := 1) (B := I.Tm i (a.val + t.val) 0) (setT 1) (tmp_piece I i (a.val + t.val) 0 1 (by decide) slices_S40x512_o0_128_S40x128)) $$ HT
  iintro HT
  iapply (wp_ld (c : Thread nD τ) 𝒱 bd (X := mix keyL 1 (I.lc i a.val t.val) (I.lc i a.val (t.val + 1))) (Finset.subset_univ _)) $$ HL
  iintro HL
  iapply (wp_ld (c : Thread nD τ) 𝒱 bd (X := mix keyT 2 (I.TmP Z i (a.val + t.val) 0) (I.Tm i (a.val + t.val) 0)) (Finset.subset_univ _)) $$ HT
  iintro HT
  iapply (wp_ld (c : Thread nD τ) 𝒱 bd (X := mix keyL 1 (I.lc i a.val t.val) (I.lc i a.val (t.val + 1))) (Finset.subset_univ _)) $$ HL
  iintro HL
  iapply (wp_mix (c : Thread nD τ) 𝒱 bd (key := keyL) (n := 1) (B := I.lc i a.val (t.val + 1)) (setL 0 1 (by decide)) (lo_piece I i a.val t.val 0 1 (by decide) (by decide) (sh_offs I _ hv).1.2 hsh rfl)) $$ HL
  iintro HL
  iapply (wp_ld (c : Thread nD τ) 𝒱 bd (X := mix keyT 2 (I.TmP Z i (a.val + t.val) 0) (I.Tm i (a.val + t.val) 0)) (Finset.subset_univ _)) $$ HT
  iintro HT
  iapply (wp_mix (c : Thread nD τ) 𝒱 bd (key := keyT) (n := 2) (B := I.Tm i (a.val + t.val) 0) (setT 2) (tmp_piece I i (a.val + t.val) 0 2 (by decide) slices_S40x512_o0_256_S40x128)) $$ HT
  iintro HT
  iapply (wp_ld (c : Thread nD τ) 𝒱 bd (X := mix keyL 2 (I.lc i a.val t.val) (I.lc i a.val (t.val + 1))) (Finset.subset_univ _)) $$ HL
  iintro HL
  iapply (wp_ld (c : Thread nD τ) 𝒱 bd (X := mix keyT 3 (I.TmP Z i (a.val + t.val) 0) (I.Tm i (a.val + t.val) 0)) (Finset.subset_univ _)) $$ HT
  iintro HT
  iapply (wp_ld (c : Thread nD τ) 𝒱 bd (X := mix keyL 2 (I.lc i a.val t.val) (I.lc i a.val (t.val + 1))) (Finset.subset_univ _)) $$ HL
  iintro HL
  iapply (wp_mix (c : Thread nD τ) 𝒱 bd (key := keyL) (n := 2) (B := I.lc i a.val (t.val + 1)) (setL 0 2 (by decide)) (lo_piece I i a.val t.val 0 2 (by decide) (by decide) (sh_offs I _ hv).2.1 hsh rfl)) $$ HL
  iintro HL
  iapply (wp_ld (c : Thread nD τ) 𝒱 bd (X := mix keyT 3 (I.TmP Z i (a.val + t.val) 0) (I.Tm i (a.val + t.val) 0)) (Finset.subset_univ _)) $$ HT
  iintro HT
  iapply (wp_mix (c : Thread nD τ) 𝒱 bd (key := keyT) (n := 3) (B := I.Tm i (a.val + t.val) 0) (setT 3) (tmp_piece I i (a.val + t.val) 0 3 (by decide) slices_S40x512_o0_384_S40x128)) $$ HT
  iintro HT
  iapply (wp_done (c : Thread nD τ) 𝒱 bd)
  isplitr [HT HL]
  · ipureintro; rfl
  isplitl [HT] <;> iassumption

/-- Part 15: the first slice's last piece, and the second slice begun. -/
theorem part15_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 0 4 ∗ loS c E I i a.val t.val 3 ∗ bgS c E I i a.val t.val 1 ∗ scS c E I)
      ⊢ wp frame (wpE (defs₀ (F := F)) 𝒱 (c : Thread nD τ) bd) Set.univ
          (k0_part15 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.D i (a.val + t.val)) (I.Mk i (a.val + t.val)))
          (fun r => iprop(⌜r = ⟨I.H i (a.val + t.val) 1, k0_pay36 (fun y => mix keyL 4 (I.lc i a.val t.val) (I.lc i a.val (t.val + 1)) ((Rect.unit (s := S3x32x512) ![1, 0, 0] S1x32x128.size inb_S3x32x512_S1x32x128_1_0_0).toLoadRect.idx y)), k0_pay37 (fun y => mix keyT 1 (I.TmP Z i (a.val + t.val) 1) (I.Tm i (a.val + t.val) 1) ((Rect.unit (s := S4x40x128) (k0_off100 (I.st (a.val + t.val)) (I.st (a.val + t.val))) S1x32x128.size (k0_off100_inb (I.st (a.val + t.val)) (I.st (a.val + t.val)) hw22)).toLoadRect.idx y))⟩⌝ ∗ iprop(tmS c E I Z i (a.val + t.val) 1 1 ∗ loS c E I i a.val t.val 4 ∗ bgS c E I i a.val t.val 2 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part15_eq_skeleton]
  unfold k0_part15_skel
  iintro ⟨HT, HL, HG, HS⟩
  iapply (wp_ld (c : Thread nD τ) 𝒱 bd (X := mix keyL 3 (I.lc i a.val t.val) (I.lc i a.val (t.val + 1))) (Finset.subset_univ _)) $$ HL
  iintro HL
  iapply (wp_ld (c : Thread nD τ) 𝒱 bd (X := mix keyT 4 (I.TmP Z i (a.val + t.val) 0) (I.Tm i (a.val + t.val) 0)) (Finset.subset_univ _)) $$ HT
  iintro HT
  iapply (wp_ld (c : Thread nD τ) 𝒱 bd (X := mix keyL 3 (I.lc i a.val t.val) (I.lc i a.val (t.val + 1))) (Finset.subset_univ _)) $$ HL
  iintro HL
  iapply (wp_mix (c : Thread nD τ) 𝒱 bd (key := keyL) (n := 3) (B := I.lc i a.val (t.val + 1)) (setL 0 3 (by decide)) (lo_piece I i a.val t.val 0 3 (by decide) (by decide) (sh_offs I _ hv).2.2 hsh rfl)) $$ HL
  iintro HL
  iapply (wp_word (c : Thread nD τ) 𝒱 bd (X := I.scal) (ix2 (Fin.ofNat 23 (I.sgw (a.val + t.val)).toNat) (Fin.ofNat 3 1)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 1 (I.bg i a.val t.val) (I.bg i a.val (t.val + 1))) (Finset.subset_univ _)) $$ HG
  iintro HG
  iapply (wp_mix (c : Thread nD τ) 𝒱 bd (key := keyB (40 * (a.val + t.val - min a.val 13))) (n := 1) (B := I.bg i a.val (t.val + 1)) (setB _ 1 (by decide) (of105 a d t)) (big_piece I i a.val t.val 1 hwin (of105 a d t))) $$ HG
  iintro HG
  iapply (wp_ld (c : Thread nD τ) 𝒱 bd (X := mix keyT 4 (I.TmP Z i (a.val + t.val) 0) (I.Tm i (a.val + t.val) 0)) (Finset.subset_univ _)) $$ HT
  iintro HT
  ihave HT := (ent_of_eq (tm_next c E I Z i (a.val + t.val) 0)) $$ HT
  iapply (wp_mix (c : Thread nD τ) 𝒱 bd (key := keyT) (n := 0) (B := I.Tm i (a.val + t.val) 1) (setT 0) (tmp_piece I i (a.val + t.val) 1 0 (by decide) slices_S40x512_o0_0_S40x128)) $$ HT
  iintro HT
  iapply (wp_ld (c : Thread nD τ) 𝒱 bd (X := mix keyL 4 (I.lc i a.val t.val) (I.lc i a.val (t.val + 1))) (Finset.subset_univ _)) $$ HL
  iintro HL
  iapply (wp_ld (c : Thread nD τ) 𝒱 bd (X := mix keyT 1 (I.TmP Z i (a.val + t.val) 1) (I.Tm i (a.val + t.val) 1)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 16: the second slice. -/
theorem part16_spec (Z : S4x40x128.Idx → Elt F .f32) (i : ℕ) (v345 : BitVec 32) (hw22 : k0_chk22 (I.st (a.val + t.val)) (I.st (a.val + t.val))) :
    iprop(tmS c E I Z i (a.val + t.val) 1 1 ∗ loS c E I i a.val t.val 4)
      ⊢ wp frame (wpE (defs₀ (F := F)) 𝒱 (c : Thread nD τ) bd) Set.univ
          (k0_part16 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 1) (k0_pay36 (fun y => mix keyL 4 (I.lc i a.val t.val) (I.lc i a.val (t.val + 1)) ((Rect.unit (s := S3x32x512) ![1, 0, 0] S1x32x128.size inb_S3x32x512_S1x32x128_1_0_0).toLoadRect.idx y))) (k0_pay37 (fun y => mix keyT 1 (I.TmP Z i (a.val + t.val) 1) (I.Tm i (a.val + t.val) 1) ((Rect.unit (s := S4x40x128) (k0_off100 (I.st (a.val + t.val)) (I.st (a.val + t.val))) S1x32x128.size (k0_off100_inb (I.st (a.val + t.val)) (I.st (a.val + t.val)) hw22)).toLoadRect.idx y))))
          (fun r => iprop(⌜r = k0_pay42 (fun y => mix keyL 6 (I.lc i a.val t.val) (I.lc i a.val (t.val + 1)) ((Rect.unit (s := S3x32x512) ![1, 0, 256] S1x32x128.size inb_S3x32x512_S1x32x128_1_0_256).toLoadRect.idx y)) (fun y => mix keyT 3 (I.TmP Z i (a.val + t.val) 1) (I.Tm i (a.val + t.val) 1) ((Rect.unit (s := S4x40x128) (k0_off102 (I.st (a.val + t.val)) (I.st (a.val + t.val))) S1x32x128.size (k0_off102_inb (I.st (a.val + t.val)) (I.st (a.val + t.val)) hw22)).toLoadRect.idx y))⌝ ∗ iprop(tmS c E I Z i (a.val + t.val) 1 3 ∗ loS c E I i a.val t.val 6))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part16_eq_skeleton]
  unfold k0_part16_skel
  iintro ⟨HT, HL⟩
  iapply (wp_ld (c : Thread nD τ) 𝒱 bd (X := mix keyL 4 (I.lc i a.val t.val) (I.lc i a.val (t.val + 1))) (Finset.subset_univ _)) $$ HL
  iintro HL
  iapply (wp_mix (c : Thread nD τ) 𝒱 bd (key := keyL) (n := 4) (B := I.lc i a.val (t.val + 1)) (setL 1 0 (by decide)) (lo_piece I i a.val t.val 1 0 (by decide) (by decide) (sh_offs I _ hv).1.1 hsh rfl)) $$ HL
  iintro HL
  iapply (wp_ld (c : Thread nD τ) 𝒱 bd (X := mix keyT 1 (I.TmP Z i (a.val + t.val) 1) (I.Tm i (a.val + t.val) 1)) (Finset.subset_univ _)) $$ HT
  iintro HT
  iapply (wp_mix (c : Thread nD τ) 𝒱 bd (key := keyT) (n := 1) (B := I.Tm i (a.val + t.val) 1) (setT 1) (tmp_piece I i (a.val + t.val) 1 1 (by decide) slices_S40x512_o0_128_S40x128)) $$ HT
  iintro HT
  iapply (wp_ld (c : Thread nD τ) 𝒱 bd (X := mix keyL 5 (I.lc i a.val t.val) (I.lc i a.val (t.val + 1))) (Finset.subset_univ _)) $$ HL
  iintro HL
  iapply (wp_ld (c : Thread nD τ) 𝒱 bd (X := mix keyT 2 (I.TmP Z i (a.val + t.val) 1) (I.Tm i (a.val + t.val) 1)) (Finset.subset_univ _)) $$ HT
  iintro HT
  iapply (wp_ld (c : Thread nD τ) 𝒱 bd (X := mix keyL 5 (I.lc i a.val t.val) (I.lc i a.val (t.val + 1))) (Finset.subset_univ _)) $$ HL
  iintro HL
  iapply (wp_mix (c : Thread nD τ) 𝒱 bd (key := keyL) (n := 5) (B := I.lc i a.val (t.val + 1)) (setL 1 1 (by decide)) (lo_piece I i a.val t.val 1 1 (by decide) (by decide) (sh_offs I _ hv).1.2 hsh rfl)) $$ HL
  iintro HL
  iapply (wp_ld (c : Thread nD τ) 𝒱 bd (X := mix keyT 2 (I.TmP Z i (a.val + t.val) 1) (I.Tm i (a.val + t.val) 1)) (Finset.subset_univ _)) $$ HT
  iintro HT
  iapply (wp_mix (c : Thread nD τ) 𝒱 bd (key := keyT) (n := 2) (B := I.Tm i (a.val + t.val) 1) (setT 2) (tmp_piece I i (a.val + t.val) 1 2 (by decide) slices_S40x512_o0_256_S40x128)) $$ HT
  iintro HT
  iapply (wp_ld (c : Thread nD τ) 𝒱 bd (X := mix keyL 6 (I.lc i a.val t.val) (I.lc i a.val (t.val + 1))) (Finset.subset_univ _)) $$ HL
  iintro HL
  iapply (wp_ld (c : Thread nD τ) 𝒱 bd (X := mix keyT 3 (I.TmP Z i (a.val + t.val) 1) (I.Tm i (a.val + t.val) 1)) (Finset.subset_univ _)) $$ HT
  iintro HT
  iapply (wp_done (c : Thread nD τ) 𝒱 bd)
  isplitr [HT HL]
  · ipureintro; rfl
  isplitl [HT] <;> iassumption

/-- Part 17: the second slice's last pieces, and the third slice's window. -/
theorem part17_spec (Z : S4x40x128.Idx → Elt F .f32) (i : ℕ) (v59 a32 v345 : BitVec 32) (hw20 : k0_chk20 (I.sgw (a.val + t.val))) (hw22 : k0_chk22 (I.st (a.val + t.val)) (I.st (a.val + t.val))) :
    iprop(tmS c E I Z i (a.val + t.val) 1 3 ∗ loS c E I i a.val t.val 6 ∗ bgS c E I i a.val t.val 2 ∗ scS c E I)
      ⊢ wp frame (wpE (defs₀ (F := F)) 𝒱 (c : Thread nD τ) bd) Set.univ
          (k0_part17 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (BitVec.ofNat 32 a.val) (BitVec.ofNat 32 (a.val + d.val + 1)) hw v59 t a32 (I.sgw (a.val + t.val)) hw20 (I.st (a.val + t.val)) (I.st (a.val + t.val)) hw22 v345 (I.D i (a.val + t.val)) (I.Mk i (a.val + t.val)) (I.H i (a.val + t.val) 1) (k0_pay42 (fun y => mix keyL 6 (I.lc i a.val t.val) (I.lc i a.val (t.val + 1)) ((Rect.unit (s := S3x32x512) ![1, 0, 256] S1x32x128.size inb_S3x32x512_S1x32x128_1_0_256).toLoadRect.idx y)) (fun y => mix keyT 3 (I.TmP Z i (a.val + t.val) 1) (I.Tm i (a.val + t.val) 1) ((Rect.unit (s := S4x40x128) (k0_off102 (I.st (a.val + t.val)) (I.st (a.val + t.val))) S1x32x128.size (k0_off102_inb (I.st (a.val + t.val)) (I.st (a.val + t.val)) hw22)).toLoadRect.idx y))))
          (fun r => iprop(⌜r = ⟨I.H i (a.val + t.val) 2, k0_pay48 (I.D i (a.val + t.val)) (I.Mk i (a.val + t.val)) (I.sc (a.val + t.val) 2), (fun y => mix keyT 4 (I.TmP Z i (a.val + t.val) 1) (I.Tm i (a.val + t.val) 1) ((Rect.unit (s := S4x40x128) ![0, 0, 0] S1x40x128.size inb_S4x40x128_S1x40x128_0_0_0).toLoadRect.idx y))⟩⌝ ∗ iprop(tmS c E I Z i (a.val + t.val) 1 4 ∗ loS c E I i a.val t.val 8 ∗ bgS c E I i a.val t.val 3 ∗ scS c E I))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part17_eq_skeleton]
  unfold k0_part17_skel
  iintro ⟨HT, HL, HG, HS⟩
  iapply (wp_ld (c : Thread nD τ) 𝒱 bd (X := mix keyL 6 (I.lc i a.val t.val) (I.lc i a.val (t.val + 1))) (Finset.subset_univ _)) $$ HL
  iintro HL
  iapply (wp_mix (c : Thread nD τ) 𝒱 bd (key := keyL) (n := 6) (B := I.lc i a.val (t.val + 1)) (setL 1 2 (by decide)) (lo_piece I i a.val t.val 1 2 (by decide) (by decide) (sh_offs I _ hv).2.1 hsh rfl)) $$ HL
  iintro HL
  iapply (wp_ld (c : Thread nD τ) 𝒱 bd (X := mix keyT 3 (I.TmP Z i (a.val + t.val) 1) (I.Tm i (a.val + t.val) 1)) (Finset.subset_univ _)) $$ HT
  iintro HT
  iapply (wp_mix (c : Thread nD τ) 𝒱 bd (key := keyT) (n := 3) (B := I.Tm i (a.val + t.val) 1) (setT 3) (tmp_piece I i (a.val + t.val) 1 3 (by decide) slices_S40x512_o0_384_S40x128)) $$ HT
  iintro HT
  iapply (wp_ld (c : Thread nD τ) 𝒱 bd (X := mix keyL 7 (I.lc i a.val t.val) (I.lc i a.val (t.val + 1))) (Finset.subset_univ _)) $$ HL
  iintro HL
  iapply (wp_ld (c : Thread nD τ) 𝒱 bd (X := mix keyT 4 (I.TmP Z i (a.val + t.val) 1) (I.Tm i (a.val + t.val) 1)) (Finset.subset_univ _)) $$ HT
  iintro HT
  iapply (wp_ld (c : Thread nD τ) 𝒱 bd (X := mix keyL 7 (I.lc i a.val t.val) (I.lc i a.val (t.val + 1))) (Finset.subset_univ _)) $$ HL
  iintro HL
  iapply (wp_mix (c : Thread nD τ) 𝒱 bd (key := keyL) (n := 7) (B := I.lc i a.val (t.val + 1)) (setL 1 3 (by decide)) (lo_piece I i a.val t.val 1 3 (by decide) (by decide) (sh_offs I _ hv).2.2 hsh rfl)) $$ HL
  iintro HL
  iapply (wp_word (c : Thread nD τ) 𝒱 bd (X := I.scal) (ix2 (Fin.ofNat 23 (I.sgw (a.val + t.val)).toNat) (Fin.ofNat 3 2)) (emb11 (by show (I.sgw (a.val + t.val)).toNat = _; simp [Nat.mod_eq_of_lt hg]) rfl)) $$ HS
  iintro HS
  iapply (wp_ld (c : Thread nD τ) 𝒱 bd (X := mix (keyB (40 * (a.val + t.val - min a.val 13))) 2 (I.bg i a.val t.val) (I.bg i a.val (t.val + 1))) (Finset.subset_univ _)) $$ HG
  iintro HG
  iapply (wp_mix (c : Thread nD τ) 𝒱 bd (key := keyB (40 * (a.val + t.val - min a.val 13))) (n := 2) (B := I.bg i a.val (t.val + 1)) (setB _ 2 (by decide) (of107 a d t)) (big_piece I i a.val t.val 2 hwin (of107 a d t))) $$ HG
  iintro HG
  iapply (wp_ld (c : Thread nD τ) 𝒱 bd (X := mix keyT 4 (I.TmP Z i (a.val + t.val) 1) (I.Tm i (a.val + t.val) 1)) (Finset.subset_univ _)) $$ HT
  iintro HT
  iapply (wp_done (c : Thread nD τ) 𝒱 bd)
  isplitr [HT HL HG HS]
  · ipureintro; rfl
  isplitl [HT]; · iexact HT
  isplitl [HL]; · iexact HL
  isplitl [HG] <;> iassumption

/-- Part 18: the third slice. -/
theorem part18_spec (Z : S4x40x128.Idx → Elt F .f32) (i : ℕ) (v345 : BitVec 32) (v566 : Vec F S1x40x128 .f32) (hw22 : k0_chk22 (I.st (a.val + t.val)) (I.st (a.val + t.val))) :
    iprop(tmS c E I Z i (a.val + t.val) 1 4 ∗ loS c E I i a.val t.val 8)
      ⊢ wp frame (wpE (defs₀ (F := F)) 𝒱 (c : Thread nD τ) bd) Set.univ
          (k0_part18 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 (I.st (a.val + t.val)) (I.st (a.val + t.val)) hw22 v345 (I.H i (a.val + t.val) 2) (k0_pay48 (I.D i (a.val + t.val)) (I.Mk i (a.val + t.val)) (I.sc (a.val + t.val) 2)) v566)
          (fun r => iprop(⌜r = ⟨⟩⌝ ∗ iprop(tmS c E I Z i (a.val + t.val) 2 3 ∗ loS c E I i a.val t.val 10))) := by
  have hg := G.sg (a.val + t.val) hs
  have hv := G.st (a.val + t.val) hs
  have hsh : I.sh (a.val + t.val) ≤ 8 := by unfold In.sh; omega
  have hwin : 40 * (a.val + t.val - min a.val 13) + 40 ≤ 256 := by
    have h1 : t.val < d.val + 1 := lt_of_lt_of_eq t.isLt (t5_trips a d)
    have h2 := d.isLt
    omega
  rw [k0_part18_eq_skeleton]
  unfold k0_part18_skel
  iintro ⟨HT, HL⟩
  ihave HT := (ent_of_eq (tm_next c E I Z i (a.val + t.val) 1)) $$ HT
  iapply (wp_mix (c : Thread nD τ) 𝒱 bd (key := keyT) (n := 0) (B := I.Tm i (a.val + t.val) 2) (setT 0) (tmp_piece I i (a.val + t.val) 2 0 (by decide) slices_S40x512_o0_0_S40x128)) $$ HT
  iintro HT
  iapply (wp_ld (c : Thread nD τ) 𝒱 bd (X := mix keyL 8 (I.lc i a.val t.val) (I.lc i a.val (t.val + 1))) (Finset.subset_univ _)) $$ HL
  iintro HL
  iapply (wp_ld (c : Thread nD τ) 𝒱 bd (X := mix keyT 1 (I.TmP Z i (a.val + t.val) 2) (I.Tm i (a.val + t.val) 2)) (Finset.subset_univ _)) $$ HT
  iintro HT
  iapply (wp_ld (c : Thread nD τ) 𝒱 bd (X := mix keyL 8 (I.lc i a.val t.val) (I.lc i a.val (t.val + 1))) (Finset.subset_univ _)) $$ HL
  iintro HL
  iapply (wp_mix (c : Thread nD τ) 𝒱 bd (key := keyL) (n := 8) (B := I.lc i a.val (t.val + 1)) (setL 2 0 (by decide)) (lo_piece I i a.val t.val 2 0 (by decide) (by decide) (sh_offs I _ hv).1.1 hsh rfl)) $$ HL
  iintro HL
  iapply (wp_ld (c : Thread nD τ) 𝒱 bd (X := mix keyT 1 (I.TmP Z i (a.val + t.val) 2) (I.Tm i (a.val + t.val) 2)) (Finset.subset_univ _)) $$ HT
  iintro HT
  iapply (wp_mix (c : Thread nD τ) 𝒱 bd (key := keyT) (n := 1) (B := I.Tm i (a.val + t.val) 2) (setT 1) (tmp_piece I i (a.val + t.val) 2 1 (by decide) slices_S40x512_o0_128_S40x128)) $$ HT
  iintro HT
  iapply (wp_ld (c : Thread nD τ) 𝒱 bd (X := mix keyL 9 (I.lc i a.val t.val) (I.lc i a.val (t.val + 1))) (Finset.subset_univ _)) $$ HL
  iintro HL
  iapply (wp_ld (c : Thread nD τ) 𝒱 bd (X := mix keyT 2 (I.TmP Z i (a.val + t.val) 2) (I.Tm i (a.val + t.val) 2)) (Finset.subset_univ _)) $$ HT
  iintro HT
  iapply (wp_ld (c : Thread nD τ) 𝒱 bd (X := mix keyL 9 (I.lc i a.val t.val) (I.lc i a.val (t.val + 1))) (Finset.subset_univ _)) $$ HL
  iintro HL
  iapply (wp_mix (c : Thread nD τ) 𝒱 bd (key := keyL) (n := 9) (B := I.lc i a.val (t.val + 1)) (setL 2 1 (by decide)) (lo_piece I i a.val t.val 2 1 (by decide) (by decide) (sh_offs I _ hv).1.2 hsh rfl)) $$ HL
  iintro HL
  iapply (wp_ld (c : Thread nD τ) 𝒱 bd (X := mix keyT 2 (I.TmP Z i (a.val + t.val) 2) (I.Tm i (a.val + t.val) 2)) (Finset.subset_univ _)) $$ HT
  iintro HT
  iapply (wp_mix (c : Thread nD τ) 𝒱 bd (key := keyT) (n := 2) (B := I.Tm i (a.val + t.val) 2) (setT 2) (tmp_piece I i (a.val + t.val) 2 2 (by decide) slices_S40x512_o0_256_S40x128)) $$ HT
  iintro HT
  iapply (wp_done (c : Thread nD τ) 𝒱 bd)
  isplitr [HT HL]
  · ipureintro; rfl
  isplitl [HT] <;> iassumption

end Cert.KernelIdeal.Hand

end
-- ==== Proof.Run.KI.T5c.lean ====
/-
  A trip of the loop over the segments of a tile.
-/
module

public import proofs.«01_k».proof.Proof.Run.KI.T5b
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (c : Dev nD) (E : Env) (I : In F)

/-- The cell of slot `p` of the windows, at rest. -/
abbrev aCell (p : ℕ) : sProp 𝕄 := semVal ((c : Thread nD τ), .dma (asem E p)) 0
/-- The down-projection, plane by plane. -/
abbrev aAll : sProp 𝕄 := iprop(At (c : Thread nD τ) E.arg8.view fullShare (plane 0) I.A ∗ At (c : Thread nD τ) E.arg8.view fullShare (plane 1) I.A
  ∗ At (c : Thread nD τ) E.arg8.view fullShare (plane 2) I.A)

/-- Tile `i`, after `n` segments from segment `a`. -/
def T5inv (i a n : ℕ) : sProp 𝕄 :=
  iprop(Tb c E I ∗ At (c : Thread nD τ) E.arg3.view fullShare Finset.univ I.rank ∗ scS c E I ∗ At (c : Thread nD τ) E.arg0.view fullShare Finset.univ I.off
    ∗ aAll c E I ∗ At (c : Thread nD τ) E.arg13.view fullShare (plane (i % 2)) (I.xC i)
    ∗ Any (c : Thread nD τ) E.arg16.view Finset.univ ∗ Rg (aCell c E) 0 8
    ∗ Any (c : Thread nD τ) E.arg20.view Finset.univ ∗ bgS c E I i a n 0 ∗ loS c E I i a n 0 ∗ Ow c)

variable (𝒱 : Variants) (bd : Option 𝒱.V)
variable (G : Good I) (a : Fin 19) (d : Fin 6) (hw : k0_chk7 (BitVec.ofNat 32 a.val) (BitVec.ofNat 32 (a.val + d.val + 1)))
  (t : Fin (k0_t5_loop (BitVec.ofNat 32 a.val) (BitVec.ofNat 32 (a.val + d.val + 1))).trips) (hs : a.val + t.val < 19)

theorem slot_join (s : ℕ) : iprop((aD c E I s 0 ∗ aD c E I s 1 ∗ aD c E I s 2))
    ⊢ iprop(At (c : Thread nD τ) E.arg16.view fullShare (arow (s % 8) 0 120) (I.aC s)
      ∗ At (c : Thread nD τ) E.arg8.view fullShare (awin 0 (base (I.st s))) I.A ∗ At (c : Thread nD τ) E.arg8.view fullShare (awin 1 (base (I.st s))) I.A
      ∗ At (c : Thread nD τ) E.arg8.view fullShare (awin 2 (base (I.st s))) I.A) := by
  iintro ⟨⟨H0, A0⟩, ⟨H1, A1⟩, ⟨H2, A2⟩⟩
  ihave H := (At_split (c : Thread nD τ) (arow_split (s % 8) 40 80 120 (by decide) (by decide)) (arow_disj _ _ _ _)).2 $$ [H1 H2]
  · isplitl [H1] <;> iassumption
  ihave H := (At_split (c : Thread nD τ) (arow_split (s % 8) 0 40 120 (by decide) (by decide)) (arow_disj _ _ _ _)).2 $$ [H0 H]
  · isplitl [H0] <;> iassumption
  isplitl [H]; · iexact H
  isplitl [A0]; · iexact A0
  isplitl [A1] <;> iassumption

include G hs in
/-- A segment. -/
theorem part19_spec (i : Fin k0_t4_loop.trips) (a30 v59 : BitVec 32) :
    T5inv c E I i.val a.val t.val
      ⊢ wp frame (wpE (defs₀ (F := F)) 𝒱 (c : Thread nD τ) bd) Set.univ
          (k0_part19 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw v59 1#32 t)
          (fun r => iprop(⌜r = ⟨⟩⌝ ∗ T5inv c E I i.val a.val (t.val + 1))) := by
  have hg := G.sg (a.val + t.val) hs
  have hv := G.st (a.val + t.val) hs
  have hsh : I.sh (a.val + t.val) ≤ 8 := by unfold In.sh; omega
  have hw20 := chk20_of _ hg
  have hw22 := chk22_of _ hv
  unfold T5inv
  rw [k0_part19_eq_skeleton]
  unfold k0_part19_skel
  iintro ⟨HTb, Hrk, Hsc, Hof, ⟨A0, A1, A2⟩, Hx, H16, Hcells, H20, HG, HL, HO⟩
  ihave H16 := (Any_split (c : Thread nD τ) (aoff_split ((a.val + t.val) % 8)) (aoff_disj _)) $$ H16
  icases H16 with ⟨H16, H16r⟩
  ihave H16 := (Any_split (c : Thread nD τ) (arow_split ((a.val + t.val) % 8) 0 40 120 (by decide) (by decide)) (arow_disj _ _ _ _)) $$ H16
  icases H16 with ⟨W0, H16⟩
  ihave H16 := (Any_split (c : Thread nD τ) (arow_split ((a.val + t.val) % 8) 40 80 120 (by decide) (by decide)) (arow_disj _ _ _ _)) $$ H16
  icases H16 with ⟨W1, W2⟩
  ihave Hcells := (Rg_take (aCell c E) 8 0 ((a.val + t.val) % 8) (by omega)) $$ Hcells
  icases Hcells with ⟨Hcell, Hcells⟩
  ihave Hcell := (ent_of_eq (congrArg (aCell c E) (Nat.zero_add ((a.val + t.val) % 8)))) $$ Hcell
  iapply (wp_part (c : Thread nD τ) 𝒱 bd _ (part6_spec c E I 𝒱 bd G a d hw t hs)) $$ [HTb A0 W0 Hcell]
  · isplitl [HTb]; · iexact HTb
    isplitl [A0]; · iexact A0
    isplitl [W0] <;> iassumption
  iintro ⟨HTb, A0, HB⟩
  iapply (wp_part (c : Thread nD τ) 𝒱 bd _ (part7_spec c E I 𝒱 bd G a d hw t hs _ _)) $$ [HTb A1 W1 HB]
  · isplitl [HTb]; · iexact HTb
    isplitl [A1]; · iexact A1
    isplitl [W1] <;> iassumption
  iintro ⟨HTb, A1, HB⟩
  iapply (wp_part (c : Thread nD τ) 𝒱 bd _ (part8_spec c E I 𝒱 bd G a d hw t hs _ _ _)) $$ [HTb A2 W2 HB]
  · isplitl [HTb]; · iexact HTb
    isplitl [A2]; · iexact A2
    isplitl [W2] <;> iassumption
  iintro ⟨HTb, A2, HB⟩
  iapply (wp_part (c : Thread nD τ) 𝒱 bd _ (part9_spec c E I 𝒱 bd G a d hw t hs _ _ _ _)) $$ [HTb HB HO]
  · isplitl [HTb]; · iexact HTb
    isplitl [HB] <;> iassumption
  iintro ⟨HTb, HB, HO⟩
  iapply (wp_part (c : Thread nD τ) 𝒱 bd _ (part10_spec c E I 𝒱 bd G a d hw t hs _ _)) $$ [HTb HB HO]
  · isplitl [HTb]; · iexact HTb
    isplitl [HB] <;> iassumption
  iintro ⟨HTb, HB, HO⟩
  iapply (wp_part (c : Thread nD τ) 𝒱 bd _ (part11_spec c E I 𝒱 bd G a d hw t hs _ _ _ _)) $$ [HTb Hrk HB HO]
  · isplitl [HTb]; · iexact HTb
    isplitl [Hrk]; · iexact Hrk
    isplitl [HB] <;> iassumption
  iintro ⟨HTb, Hrk, HD, Hcell, HO⟩
  ihave HD := (slot_join c E I (a.val + t.val)) $$ HD
  icases HD with ⟨H16, B0, B1, B2⟩
  iapply (wp_part (c : Thread nD τ) 𝒱 bd _ (part12_spec c E I 𝒱 bd a d hw t hs i _ _ _ _)) $$ [H16 Hx Hof]
  · isplitl [H16]; · iexact H16
    isplitl [Hx] <;> iassumption
  iintro ⟨H16, Hx, Hof⟩
  ihave H20 := (show (Any (c : Thread nD τ) E.arg20.view Finset.univ : sProp 𝕄) ⊢ iprop(∃ X, At (c : Thread nD τ) E.arg20.view fullShare Finset.univ X) from .rfl) $$ H20
  icases H20 with ⟨%Z, HT⟩
  ihave HT := (ent_of_eq (congrArg (At (c : Thread nD τ) E.arg20.view fullShare Finset.univ) (mix_zero (key := keyT) (A := Z) (B := I.Tm i.val (a.val + t.val) 0)).symm)) $$ HT
  iapply (wp_part (c : Thread nD τ) 𝒱 bd _ (part13_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part14_spec c E I 𝒱 bd G a d t hs Z i.val _ _ hw22)) $$ [HT HL]
  · isplitl [HT] <;> iassumption
  iintro ⟨HT, HL⟩
  iapply (wp_part (c : Thread nD τ) 𝒱 bd _ (part15_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part16_spec c E I 𝒱 bd G a d t hs Z i.val _ hw22)) $$ [HT HL]
  · isplitl [HT] <;> iassumption
  iintro ⟨HT, HL⟩
  iapply (wp_part (c : Thread nD τ) 𝒱 bd _ (part17_spec c E I 𝒱 bd G a d hw t hs Z i.val _ _ _ hw20 hw22)) $$ [HT HL HG Hsc]
  · isplitl [HT]; · iexact HT
    isplitl [HL]; · iexact HL
    isplitl [HG] <;> iassumption
  iintro ⟨HT, HL, HG, Hsc⟩
  iapply (wp_part (c : Thread nD τ) 𝒱 bd _ (part18_spec c E I 𝒱 bd G a d t hs Z i.val _ _ hw22)) $$ [HT HL]
  · isplitl [HT] <;> iassumption
  iintro ⟨HT, HL⟩
  iapply (wp_ld (c : Thread nD τ) 𝒱 bd (X := mix keyL 10 (I.lc i.val a.val t.val) (I.lc i.val a.val (t.val + 1))) (Finset.subset_univ _)) $$ HL
  iintro HL
  iapply (wp_ld (c : Thread nD τ) 𝒱 bd (X := mix keyT 3 (I.TmP Z i.val (a.val + t.val) 2) (I.Tm i.val (a.val + t.val) 2)) (Finset.subset_univ _)) $$ HT
  iintro HT
  iapply (wp_ld (c : Thread nD τ) 𝒱 bd (X := mix keyL 10 (I.lc i.val a.val t.val) (I.lc i.val a.val (t.val + 1))) (Finset.subset_univ _)) $$ HL
  iintro HL
  iapply (wp_mix (c : Thread nD τ) 𝒱 bd (key := keyL) (n := 10) (B := I.lc i.val a.val (t.val + 1)) (setL 2 2 (by decide)) (lo_piece I i.val a.val t.val 2 2 (by decide) (by decide) (sh_offs I _ hv).2.1 hsh rfl)) $$ HL
  iintro HL
  iapply (wp_ld (c : Thread nD τ) 𝒱 bd (X := mix keyT 3 (I.TmP Z i.val (a.val + t.val) 2) (I.Tm i.val (a.val + t.val) 2)) (Finset.subset_univ _)) $$ HT
  iintro HT
  iapply (wp_mix (c : Thread nD τ) 𝒱 bd (key := keyT) (n := 3) (B := I.Tm i.val (a.val + t.val) 2) (setT 3) (tmp_piece I i.val (a.val + t.val) 2 3 (by decide) slices_S40x512_o0_384_S40x128)) $$ HT
  iintro HT
  iapply (wp_ld (c : Thread nD τ) 𝒱 bd (X := mix keyL 11 (I.lc i.val a.val t.val) (I.lc i.val a.val (t.val + 1))) (Finset.subset_univ _)) $$ HL
  iintro HL
  iapply (wp_ld (c : Thread nD τ) 𝒱 bd (X := mix keyT 4 (I.TmP Z i.val (a.val + t.val) 2) (I.Tm i.val (a.val + t.val) 2)) (Finset.subset_univ _)) $$ HT
  iintro HT
  iapply (wp_ld (c : Thread nD τ) 𝒱 bd (X := mix keyL 11 (I.lc i.val a.val t.val) (I.lc i.val a.val (t.val + 1))) (Finset.subset_univ _)) $$ HL
  iintro HL
  iapply (wp_mix (c : Thread nD τ) 𝒱 bd (key := keyL) (n := 11) (B := I.lc i.val a.val (t.val + 1)) (setL 2 3 (by decide)) (lo_piece I i.val a.val t.val 2 3 (by decide) (by decide) (sh_offs I _ hv).2.2 hsh rfl)) $$ HL
  iintro HL
  ihave HL := (ent_of_eq (lo_done c E I i.val a.val t.val)) $$ HL
  ihave HG := (ent_of_eq (bg_done c E I i.val a.val t.val)) $$ HG
  ihave HA0 := (At_split (c : Thread nD τ) (awin_split 0 (base (I.st (a.val + t.val)))) (awin_disj _ _)).2 $$ [B0 A0]
  · isplitl [B0] <;> iassumption
  ihave HA1 := (At_split (c : Thread nD τ) (awin_split 1 (base (I.st (a.val + t.val)))) (awin_disj _ _)).2 $$ [B1 A1]
  · isplitl [B1] <;> iassumption
  ihave HA2 := (At_split (c : Thread nD τ) (awin_split 2 (base (I.st (a.val + t.val)))) (awin_disj _ _)).2 $$ [B2 A2]
  · isplitl [B2] <;> iassumption
  ihave H16 := (Any_of_At (c : Thread nD τ)) $$ H16
  ihave H16 := (Any_join (c : Thread nD τ) (aoff_split ((a.val + t.val) % 8)) (aoff_disj _)) $$ [H16 H16r]
  · isplitl [H16] <;> iassumption
  ihave Hcells := Hcells $$ [Hcell]
  · iapply (ent_of_eq (congrArg (aCell c E) (Nat.zero_add ((a.val + t.val) % 8)).symm)) $$ Hcell
  iapply (wp_done (c : Thread nD τ) 𝒱 bd)
  isplitr [HTb Hrk Hsc Hof HA0 HA1 HA2 Hx H16 Hcells HT HG HL HO]
  · ipureintro; rfl
  isplitl [HTb]; · iexact HTb
  isplitl [Hrk]; · iexact Hrk
  isplitl [Hsc]; · iexact Hsc
  isplitl [Hof]; · iexact Hof
  isplitl [HA0 HA1 HA2]
  · isplitl [HA0]; · iexact HA0
    isplitl [HA1] <;> iassumption
  isplitl [Hx]; · iexact Hx
  isplitl [H16]; · iexact H16
  isplitl [Hcells]; · iexact Hcells
  isplitl [HT]; · iapply (Any_of_At (c : Thread nD τ)) $$ HT
  isplitl [HG]; · iexact HG
  isplitl [HL] <;> iassumption

include G hs in
/-- A trip. -/
theorem t5_step (i : Fin k0_t4_loop.trips) (a30 v59 u : BitVec 32) :
    T5inv c E I i.val a.val t.val ⊢ wp frame (wpE (defs₀ (F := F)) 𝒱 (c : Thread nD τ) bd) Set.univ
      (k0_t5_body (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i a30 (BitVec.ofNat 32 (512 * i.val)) (BitVec.ofNat 32 a.val) (BitVec.ofNat 32 (a.val + d.val + 1)) hw v59 t u) (fun r => T5inv c E I i.val a.val (t.val + 1)) := by
  unfold k0_t5_body
  iintro H
  iapply (wp_part (c : Thread nD τ) 𝒱 bd _ (part19_spec c E I 𝒱 bd G a d hw t hs i a30 v59)) $$ H
  iintro H
  iapply (wp_done (c : Thread nD τ) 𝒱 bd)
  iexact H

end Cert.KernelIdeal.Hand

end
-- ==== Proof.Run.KI.While.lean ====
/-
  The two scans that find the segments meeting a tile of tokens.
-/
module

public import proofs.«01_k».proof.Proof.Run.KI.T1
public import Idealize.ShloMosaic.Lib.WordCmp
public import proofs.«01_k».proof.Proof.Run.Slots

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

namespace In
variable (I : In F)
/-- The first segment that ends behind the start of tile `i`. -/
def lo (i : ℕ) : ℕ := sInf {a : ℕ | (512 * i : ℤ) < (I.of (a + 1)).toInt}
/-- The first later segment that begins at or behind the end of tile `i`. -/
def hi (i : ℕ) : ℕ := sInf {b : ℕ | I.lo i < b ∧ (19 ≤ b ∨ (512 * i + 512 : ℤ) ≤ (I.of b).toInt)}
end In

variable {I : In F} (G : Good I)

include G in
theorem lo_le (i : ℕ) (hi : i < 24) : I.lo i ≤ 18 := Nat.sInf_le (by
  have := G.last
  show (512 * i : ℤ) < (I.of 19).toInt
  omega)
include G in
theorem lo_lt (i : ℕ) (hi : i < 24) : (512 * i : ℤ) < (I.of (I.lo i + 1)).toInt :=
  Nat.sInf_mem (s := {a : ℕ | (512 * i : ℤ) < (I.of (a + 1)).toInt}) ⟨18, by
    have := G.last
    show (512 * i : ℤ) < (I.of 19).toInt
    omega⟩
theorem le_lo (i s : ℕ) (h : s < I.lo i) : (I.of (s + 1)).toInt ≤ (512 * i : ℤ) :=
  not_lt.mp (Nat.notMem_of_lt_sInf (s := {a : ℕ | (512 * i : ℤ) < (I.of (a + 1)).toInt}) h)
include G in
theorem lo_mono (i : ℕ) (hi : i + 1 < 24) : I.lo i ≤ I.lo (i + 1) := by
  by_contra h
  have h1 := le_lo (I := I) i (I.lo (i + 1)) (by omega)
  have h2 := lo_lt G (i + 1) hi
  push_cast at h2
  omega
include G in
theorem hi_le (i : ℕ) (h : i < 24) : I.hi i ≤ 19 := Nat.sInf_le (show I.lo i < 19 ∧ _ from ⟨by have := lo_le G i h; omega, Or.inl le_rfl⟩)
include G in
theorem hi_mem (i : ℕ) (h : i < 24) : I.lo i < I.hi i ∧ (19 ≤ I.hi i ∨ (512 * i + 512 : ℤ) ≤ (I.of (I.hi i)).toInt) :=
  Nat.sInf_mem (s := {b : ℕ | I.lo i < b ∧ (19 ≤ b ∨ (512 * i + 512 : ℤ) ≤ (I.of b).toInt)}) ⟨19, by have := lo_le G i h; omega, Or.inl le_rfl⟩
theorem lt_hi (i b : ℕ) (h : b < I.hi i) (h1 : I.lo i < b) : b < 19 ∧ (I.of b).toInt < (512 * i + 512 : ℤ) := by
  have h2 : ¬ (I.lo i < b ∧ (19 ≤ b ∨ (512 * i + 512 : ℤ) ≤ (I.of b).toInt)) :=
    Nat.notMem_of_lt_sInf (s := {b : ℕ | I.lo i < b ∧ (19 ≤ b ∨ (512 * i + 512 : ℤ) ≤ (I.of b).toInt)}) h
  constructor
  · by_contra h3; exact h2 ⟨h1, Or.inl (by omega)⟩
  · by_contra h3; exact h2 ⟨h1, Or.inr (by omega)⟩
include G in
/-- No tile meets more than six segments. -/
theorem hi_near (i : ℕ) (h : i < 24) : I.hi i ≤ I.lo i + 6 := by
  by_contra h1
  have h2 := lt_hi (I := I) i (I.lo i + 6) (by omega) (by omega)
  have h3 := G.near i (by omega) (I.lo i) (by omega)
  have h4 := lo_lt G i h
  omega

theorem ofBool_decide (p : Prop) [Decidable p] : BitVec.ofBool (decide p) = 1#1 ↔ p := by
  by_cases h : p <;> simp [h]

theorem sle_tile (w : BitVec 32) (t : Fin k0_t4_loop.trips) :
    (Scalar.cmpi .sle w (Scalar.muli (Scf.iv 0#32 1#32 t) 512#32) = 1#1) ↔ w.toInt ≤ (512 * t.val : ℤ) := by
  have e : (Scalar.muli (Scf.iv 0#32 1#32 t) 512#32 : BitVec 32).toInt = (512 * t.val : ℤ) := by revert t; decide +kernel
  rw [← e]
  simp only [Scalar.cmpi, Idealize.ShloMosaic.WordCmp.cmpi_sle_eq, ofBool_decide]
theorem slt_tile (w : BitVec 32) (t : Fin k0_t4_loop.trips) :
    (Scalar.cmpi .slt w (Scalar.addi (Scalar.muli (Scf.iv 0#32 1#32 t) 512#32) 512#32) = 1#1) ↔ w.toInt < (512 * t.val + 512 : ℤ) := by
  have e : (Scalar.addi (Scalar.muli (Scf.iv 0#32 1#32 t) 512#32) 512#32 : BitVec 32).toInt = (512 * t.val + 512 : ℤ) := by revert t; decide +kernel
  rw [← e]
  simp only [Scalar.cmpi, Idealize.ShloMosaic.WordCmp.cmpi_slt_eq, ofBool_decide]
theorem off53_eq (a : Fin 19) : k0_off53 (BitVec.ofNat 32 a.val) = ![a.val + 1] := by revert a; decide +kernel
theorem off54_eq (a : Fin 20) : k0_off54 (BitVec.ofNat 32 a.val) = ![a.val] := by revert a; decide +kernel
theorem chk5_ok (a : Fin 19) : k0_chk5 (BitVec.ofNat 32 a.val) := by revert a; decide +kernel
theorem chk6_ok (a : Fin 20) : k0_chk6 (BitVec.ofNat 32 a.val) := by revert a; decide +kernel
theorem inc_word (a : Fin 20) : Scalar.addi (BitVec.ofNat 32 a.val) 1#32 = BitVec.ofNat 32 (a.val + 1) := by revert a; decide +kernel
theorem lt19_word (a : Fin 20) : Scalar.cmpi .slt (BitVec.ofNat 32 a.val) 19#32 = if a.val < 19 then 1#1 else 0#1 := by revert a; decide +kernel
theorem andi_one (a b : BitVec 1) : Scalar.andi a b = 1#1 ↔ a = 1#1 ∧ b = 1#1 := by revert a b; decide

variable (c : Dev nD) (m : Memref sig .tc .smem S20 .i32) (hm : m.IsWhole)

include G in
/-- The first scan, entered at or before its answer. -/
theorem while1_at (t : Fin k0_t4_loop.trips) : ∀ n a : ℕ, a + n = I.lo t.val → ∀ K : BitVec 32 → sProp 𝕄,
    iprop(At (c : Thread nD τ) m.view fullShare Finset.univ I.off ∗ (At (c : Thread nD τ) m.view fullShare Finset.univ I.off -∗ K (BitVec.ofNat 32 (I.lo t.val))))
      ⊢ wp frame (wpE (defs₀ (F := F)) Variants.nat (c : Thread nD τ) (some n)) Set.univ (cc0_while1 (F := F) t m hm (BitVec.ofNat 32 a)) K := by
  have hlo := lo_le G t.val t.isLt
  intro n
  induction n with
  | zero =>
    intro a ha K
    have hc : ¬ (Scalar.cmpi .sle (I.of (a + 1)) (Scalar.muli (Scf.iv 0#32 1#32 t) 512#32) = 1#1) := by
      rw [sle_tile, not_le, show a = I.lo t.val by omega]; exact lo_lt G t.val t.isLt
    have e : I.off (ix1 (Fin.ofNat 20 (a + 1))) = I.of (a + 1) := rfl
    rw [cc0_while1_eq_skeleton]
    unfold cc0_while1_skel
    iintro ⟨H, HK⟩
    iapply (wp_as (c : Thread nD τ) Variants.nat _ (chk5_ok ⟨a, by omega⟩))
    iapply (wp_word (c : Thread nD τ) Variants.nat _ (X := I.off) (ix1 (Fin.ofNat 20 (a + 1))) (emb1 _ (by
      rw [off53_eq ⟨a, by omega⟩]; show a + 1 = (a + 1) % 20; omega))) $$ H
    iintro H
    rw [e, if_neg hc]
    iapply (wp_done (c : Thread nD τ) Variants.nat _)
    rw [show a = I.lo t.val by omega]
    iapply HK $$ H
  | succ n ih =>
    intro a ha K
    have hc : Scalar.cmpi .sle (I.of (a + 1)) (Scalar.muli (Scf.iv 0#32 1#32 t) 512#32) = 1#1 := by
      rw [sle_tile]; exact le_lo t.val a (by omega)
    have e : I.off (ix1 (Fin.ofNat 20 (a + 1))) = I.of (a + 1) := rfl
    rw [cc0_while1_eq_skeleton]
    unfold cc0_while1_skel
    iintro ⟨H, HK⟩
    iapply (wp_as (c : Thread nD τ) Variants.nat _ (chk5_ok ⟨a, by omega⟩))
    iapply (wp_word (c : Thread nD τ) Variants.nat _ (X := I.off) (ix1 (Fin.ofNat 20 (a + 1))) (emb1 _ (by
      rw [off53_eq ⟨a, by omega⟩]; show a + 1 = (a + 1) % 20; omega))) $$ H
    iintro H
    rw [e, if_pos hc, inc_word ⟨a, by omega⟩]
    iapply (wp_call Variants.nat (c : Thread nD τ) (some (n + 1)) Set.univ n (fun u hu => by cases hu; exact Nat.lt_succ_self n))
    iapply (ih (a + 1) (by omega) _)
    isplitl [H]; · iexact H
    iintro H
    iapply (wp_done (c : Thread nD τ) Variants.nat _)
    iapply HK $$ H

include G in
/-- The second scan, entered behind the first one's answer. -/
theorem while2_at (t : Fin k0_t4_loop.trips) : ∀ n b : ℕ, b + n = I.hi t.val → I.lo t.val < b → ∀ K : BitVec 32 → sProp 𝕄,
    iprop(At (c : Thread nD τ) m.view fullShare Finset.univ I.off ∗ (At (c : Thread nD τ) m.view fullShare Finset.univ I.off -∗ K (BitVec.ofNat 32 (I.hi t.val))))
      ⊢ wp frame (wpE (defs₀ (F := F)) Variants.nat (c : Thread nD τ) (some n)) Set.univ (cc0_while2 (F := F) t m hm (BitVec.ofNat 32 b)) K := by
  have hhi := hi_le G t.val t.isLt
  have hmem := hi_mem G t.val t.isLt
  intro n
  induction n with
  | zero =>
    intro b hb hl K
    have hc : ¬ (Scalar.andi (Scalar.cmpi .slt (BitVec.ofNat 32 b) 19#32) (Scalar.cmpi .slt (I.of b) (Scalar.addi (Scalar.muli (Scf.iv 0#32 1#32 t) 512#32) 512#32)) = 1#1) := by
      rw [andi_one, lt19_word ⟨b, by omega⟩, slt_tile]
      have hb' : b = I.hi t.val := by omega
      rw [← hb'] at hmem
      rintro ⟨h1, h2⟩
      split_ifs at h1 with h3
      · rcases hmem.2 with h | h
        · exact absurd h3 (by simp only; omega)
        · omega
      · exact absurd h1 (by decide)
    have e : I.off (ix1 (Fin.ofNat 20 b)) = I.of b := rfl
    rw [cc0_while2_eq_skeleton]
    unfold cc0_while2_skel
    iintro ⟨H, HK⟩
    iapply (wp_as (c : Thread nD τ) Variants.nat _ (chk6_ok ⟨b, by omega⟩))
    iapply (wp_word (c : Thread nD τ) Variants.nat _ (X := I.off) (ix1 (Fin.ofNat 20 b)) (emb1 _ (by
      rw [off54_eq ⟨b, by omega⟩]; show b = b % 20; omega))) $$ H
    iintro H
    rw [e, if_neg hc]
    iapply (wp_done (c : Thread nD τ) Variants.nat _)
    rw [show b = I.hi t.val by omega]
    iapply HK $$ H
  | succ n ih =>
    intro b hb hl K
    have hlt := lt_hi (I := I) t.val b (by omega) hl
    have hc : Scalar.andi (Scalar.cmpi .slt (BitVec.ofNat 32 b) 19#32) (Scalar.cmpi .slt (I.of b) (Scalar.addi (Scalar.muli (Scf.iv 0#32 1#32 t) 512#32) 512#32)) = 1#1 := by
      rw [andi_one, lt19_word ⟨b, by omega⟩, slt_tile]
      exact ⟨if_pos hlt.1, hlt.2⟩
    have e : I.off (ix1 (Fin.ofNat 20 b)) = I.of b := rfl
    rw [cc0_while2_eq_skeleton]
    unfold cc0_while2_skel
    iintro ⟨H, HK⟩
    iapply (wp_as (c : Thread nD τ) Variants.nat _ (chk6_ok ⟨b, by omega⟩))
    iapply (wp_word (c : Thread nD τ) Variants.nat _ (X := I.off) (ix1 (Fin.ofNat 20 b)) (emb1 _ (by
      rw [off54_eq ⟨b, by omega⟩]; show b = b % 20; omega))) $$ H
    iintro H
    rw [e, if_pos hc, inc_word ⟨b, by omega⟩]
    iapply (wp_call Variants.nat (c : Thread nD τ) (some (n + 1)) Set.univ n (fun u hu => by cases hu; exact Nat.lt_succ_self n))
    iapply (ih (b + 1) (by omega) (by omega) _)
    isplitl [H]; · iexact H
    iintro H
    iapply (wp_done (c : Thread nD τ) Variants.nat _)
    iapply HK $$ H

include G in
/-- The first scan where a tile calls it. -/
theorem call1 {α} {Q : α → sProp 𝕄} (t : Fin k0_t4_loop.trips) (a : ℕ) (ha : a ≤ I.lo t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 (I.lo t.val))) Q)
      -∗ wp frame (wpE (defs₀ (F := F)) Variants.nat (c : Thread nD τ) none) Set.univ (Prog.lift (.call (1 : (Λ₀ F).Label) ⟨t, m, hm, BitVec.ofNat 32 a⟩) >>= k) Q) := by
  iintro H HK
  iapply (wp_call Variants.nat (c : Thread nD τ) none Set.univ (I.lo t.val - a) (fun u hu => by cases hu))
  iapply (while1_at G c m hm t (I.lo t.val - a) a (by omega) _)
  isplitl [H]; · iexact H
  iexact HK

include G in
/-- The second scan where a tile calls it. -/
theorem call2 {α} {Q : α → sProp 𝕄} (t : Fin k0_t4_loop.trips) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 (I.hi t.val))) Q)
      -∗ wp frame (wpE (defs₀ (F := F)) Variants.nat (c : Thread nD τ) none) Set.univ (Prog.lift (.call (2 : (Λ₀ F).Label) ⟨t, m, hm, Scalar.addi (BitVec.ofNat 32 (I.lo t.val)) 1#32⟩) >>= k) Q) := by
  have hlo := lo_le G t.val t.isLt
  have hmem := hi_mem G t.val t.isLt
  rw [inc_word ⟨I.lo t.val, by omega⟩]
  iintro H HK
  iapply (wp_call Variants.nat (c : Thread nD τ) none Set.univ (I.hi t.val - (I.lo t.val + 1)) (fun u hu => by cases hu))
  iapply (while2_at G c m hm t (I.hi t.val - (I.lo t.val + 1)) (I.lo t.val + 1) (by omega) (by omega) _)
  isplitl [H]; · iexact H
  iexact HK

end Cert.KernelIdeal.Hand

end
-- ==== Proof.Run.KI.T4.lean ====
/-
  A trip of the loop over the tiles of tokens.
-/
module

public import proofs.«01_k».proof.Proof.Run.KI.T5c
public import proofs.«01_k».proof.Proof.Run.KI.While

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

/-- A store of everything, from arbitrary contents. -/
theorem set_all3 {n0 n1 n2 : ℕ} {inb} : (Rect.unit (s := ⟨3, ![n0, n1, n2]⟩) ![0, 0, 0] (⟨3, ![n0, n1, n2]⟩ : Shape).size inb).set = Finset.univ := by
  ext i
  rw [mem3 rfl rfl]
  have h0 : (i 0).val < n0 := (i 0).isLt
  have h1 : (i 1).val < n1 := (i 1).isLt
  have h2 : (i 2).val < n2 := (i 2).isLt
  simp only [Finset.mem_univ, iff_true]
  omega

theorem emb_all3 {n0 n1 n2 : ℕ} {inb} (x : (⟨3, ![n0, n1, n2]⟩ : Shape).Idx) :
    (Rect.unit (s := ⟨3, ![n0, n1, n2]⟩) ![0, 0, 0] (⟨3, ![n0, n1, n2]⟩ : Shape).size inb).emb x = x :=
  ext3 ((emb_val 0).trans (Nat.zero_add _)) ((emb_val 1).trans (Nat.zero_add _)) ((emb_val 2).trans (Nat.zero_add _))

namespace In
variable (I : In F)
/-- The wide buffer once all segments of tile `i` are in it. -/
def bgF (i : ℕ) : S3x256x512.Idx → Elt F .f32 := I.bg i (I.lo i) (I.hi i - I.lo i)
/-- The narrow buffer once all segments of tile `i` are in it. -/
def lcF (i : ℕ) : S3x32x512.Idx → Elt F .bf16 := I.lc i (I.lo i) (I.hi i - I.lo i)
/-- The wide buffer transposed and rounded. -/
def Lt (i : ℕ) : S3x512x256.Idx → Elt F .bf16 := fun y => k0_pay101 (fun x => I.bgF i (ix3 (y 0) (x 1) (x 2))) (ix3 0 (y 1) (y 2))
/-- The down-projected rows, all of them. -/
def LH : S3x32x12288.Idx → Elt F .bf16 := fun y => I.lcF ((y 2).val / 512) (ix3 (y 0) (y 1) (Fin.ofNat 512 (y 2).val))
/-- The result. -/
def Yv : S12288x8192.Idx → Elt F .bf16 := fun r =>
  ytile I ((r 0).val / 512) ((r 1).val / 512) (I.Lt ((r 0).val / 512)) (I.lo ((r 0).val / 512)) (ix3 0 (Fin.ofNat 512 (r 0).val) (Fin.ofNat 512 (r 1).val))
/-- The segment the search of tile `i` starts from. -/
def car (i : ℕ) : ℕ := if i = 0 then 0 else I.lo (i - 1)
end In

abbrev keyH (y : S3x32x12288.Idx) : ℕ := (y 2).val / 512
abbrev keyP (y : S3x512x256.Idx) : ℕ := (y 0).val

variable (c : Dev nD) (E : Env) (I : In F)

/-- The units a tile of tokens credits. -/
abbrev Nx : ℕ := sig.dmaCredit .tc (Kind.table .tc .vmem) E.arg13.view.buf S512x2048 .bf16
/-- The cell of slot `p`. -/
abbrev xsem (p : ℕ) : DmaSem sig := E.arg23.ix (ix1 (Fin.ofNat 2 p))
/-- Slot `p` unused. -/
abbrev xIdle (p : ℕ) : sProp 𝕄 :=
  iprop(At (c : Thread nD τ) E.arg5.view (shareTokN fullShare p) Finset.univ I.X ∗ Any (c : Thread nD τ) E.arg13.view (plane p)
    ∗ semVal ((c : Thread nD τ), .dma (xsem E p)) 0)
/-- Slot `p` being filled with tile `k`. -/
abbrev xBusy (p k : ℕ) : sProp 𝕄 :=
  Flight EC (c : Thread nD τ) (.dma (xsem E p)) () (Nx E)
    iprop(At (c : Thread nD τ) E.arg13.view fullShare (plane p) (I.xC k) ∗ At (c : Thread nD τ) E.arg5.view (shareTokN fullShare p) Finset.univ I.X)
/-- The slot of tile `k`: being filled while there is such a tile. -/
def xNext (k : ℕ) : sProp 𝕄 := if k < 24 then xBusy c E I (k % 2) k else xIdle c E I (k % 2)

/-- The units a tile of down-projected rows credits. -/
abbrev Nl : ℕ := sig.dmaCredit .tc (Kind.table .tc .hbm) E.arg11.view.buf S3x32x512 .bf16
/-- The narrow buffer unused. -/
abbrev lIdle : sProp 𝕄 := iprop(Any (c : Thread nD τ) E.arg21.view Finset.univ ∗ semVal ((c : Thread nD τ), .dma E.arg29.sem) 0)
/-- The narrow buffer being written out as tile `i`. -/
abbrev lBusy (i : ℕ) : sProp 𝕄 :=
  Flight EC (c : Thread nD τ) (.dma E.arg29.sem) () (Nl E)
    iprop(At (c : Thread nD τ) E.arg11.view fullShare (only keyH i) I.LH ∗ At (c : Thread nD τ) E.arg21.view fullShare Finset.univ (I.lcF i))
/-- The narrow buffer before tile `i`. -/
def lSt (i : ℕ) : sProp 𝕄 := if i = 0 then lIdle c E else lBusy c E I (i - 1)
/-- The rows written, the rows to come. -/
abbrev Linv (i : ℕ) : sProp 𝕄 :=
  iprop(lSt c E I i ∗ At (c : Thread nD τ) E.arg11.view fullShare (below keyH (i - 1)) I.LH ∗ Any (c : Thread nD τ) E.arg11.view (above keyH i))
/-- What the segments' trips use over and over. -/
abbrev Fix : sProp 𝕄 :=
  iprop(Tb c E I ∗ At (c : Thread nD τ) E.arg3.view fullShare Finset.univ I.rank ∗ scS c E I
    ∗ aAll c E I ∗ Any (c : Thread nD τ) E.arg16.view Finset.univ ∗ Rg (aCell c E) 0 8 ∗ Any (c : Thread nD τ) E.arg20.view Finset.univ)
abbrev Off : sProp 𝕄 := At (c : Thread nD τ) E.arg0.view fullShare Finset.univ I.off

theorem og50 (t : Fin k0_t4_loop.trips) : k0_off50 t 0 = (t.val + 1) % 2 := by revert t; decide +kernel
theorem og51 (t : Fin k0_t4_loop.trips) : k0_off51 t = ![(t.val + 1) % 2, 0, 0] := by revert t; decide +kernel
theorem og52 (t : Fin k0_t4_loop.trips) : k0_off52 t = ![512 * (t.val + 1), 0] := by revert t; decide +kernel
theorem og55 (t : Fin k0_t4_loop.trips) : k0_off55 t 0 = t.val % 2 := by revert t; decide +kernel
theorem og157 (t : Fin k0_t4_loop.trips) : k0_off157 t = ![0, 0, 512 * t.val] := by revert t; decide +kernel
theorem chk38_of (a : Fin 19) : k0_chk38 (BitVec.ofNat 32 a.val) := by revert a; decide +kernel
theorem cond2_iff (t : Fin k0_t4_loop.trips) : k0_cond2 t = 1#1 ↔ t.val + 1 < 24 := by revert t; decide +kernel
theorem cond3_iff (t : Fin k0_t4_loop.trips) : k0_cond3 t = 1#1 ↔ t.val ≠ 0 := by revert t; decide +kernel
theorem mul512 (t : Fin k0_t4_loop.trips) : Scalar.muli (Scf.iv 0#32 1#32 t.val) 512#32 = BitVec.ofNat 32 (512 * t.val) := by revert t; decide +kernel
theorem t6_none (a : Fin 19) (d : Fin 6) : (k0_t6_loop (BitVec.ofNat 32 a.val) (BitVec.ofNat 32 (a.val + d.val + 1))).trips = 0 := by revert a d; decide +kernel

variable (G : Good I)

include G in
theorem call1' {α} {Q : α → sProp 𝕄} (m : Memref sig .tc .smem S20 .i32) (hm : m.IsWhole) (t : Fin k0_t4_loop.trips) (a b : ℕ) (ha : a ≤ I.lo t.val) (hb : b = I.lo t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 b)) Q)
      -∗ wp frame (wpE (defs₀ (F := F)) Variants.nat (c : Thread nD τ) none) Set.univ (Prog.lift (.call (1 : (Λ₀ F).Label) ⟨t, m, hm, BitVec.ofNat 32 a⟩) >>= k) Q) := by
  subst hb
  exact call1 G c m hm t a ha k

include G in
theorem call2' {α} {Q : α → sProp 𝕄} (m : Memref sig .tc .smem S20 .i32) (hm : m.IsWhole) (t : Fin k0_t4_loop.trips) (a b : ℕ) (ha : a = I.lo t.val) (hb : b = I.hi t.val) (k : BitVec 32 → Prog (TpuEff nD τ sig (Elt F) (Λ₀ F) .tc) α) :
    (At (c : Thread nD τ) m.view fullShare Finset.univ I.off : sProp 𝕄) ⊢
      iprop((At (c : Thread nD τ) m.view fullShare Finset.univ I.off -∗ wp frame (wpE (defs₀ (F := F)) Variants.nat (c : Thread nD τ) none) Set.univ (k (BitVec.ofNat 32 b)) Q)
      -∗ wp frame (wpE (defs₀ (F := F)) Variants.nat (c : Thread nD τ) none) Set.univ (Prog.lift (.call (2 : (Λ₀ F).Label) ⟨t, m, hm, Scalar.addi (BitVec.ofNat 32 a) 1#32⟩) >>= k) Q) := by
  subst ha hb
  exact call2 G c m hm t k

include G in
/-- The first half of a tile's preparation: the next tile is asked for, the tile's segments are found. -/
theorem part36_spec (i : Fin k0_t4_loop.trips) (a : Fin 19) (d : Fin 6) (ha : a.val = I.lo i.val) (hd : a.val + d.val + 1 = I.hi i.val) :
    iprop(xIdle c E I ((i.val + 1) % 2) ∗ Off c E I)
      ⊢ wp frame (wpE (defs₀ (F := F)) Variants.nat (c : Thread nD τ) none) Set.univ
          (k0_part36 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 0#32 1#32 i (BitVec.ofNat 32 (I.car i.val)))
          (fun r => iprop(⌜r = ⟨Scf.iv 0#32 1#32 i, BitVec.ofNat 32 (512 * i.val), BitVec.ofNat 32 a.val, chk38_of a, BitVec.ofNat 32 (a.val + d.val + 1), chk7_of a d (by have := hi_le G i.val i.isLt; omega), Scalar.minsi (BitVec.ofNat 32 a.val) 13#32⟩⌝
            ∗ iprop(xNext c E I (i.val + 1) ∗ Off c E I))) := by
  have hi : i.val < 24 := i.isLt
  have hN0 : 0 < Nx E := sig.dmaCredit_pos _ _ _ _ _ (by rw [Shape.numel]; simp [Fin.prod_univ_succ])
  have hcar : I.car i.val ≤ I.lo i.val := by
    unfold In.car
    split_ifs with h0
    · omega
    · have := lo_mono G (i.val - 1) (by omega)
      rwa [show i.val - 1 + 1 = i.val by omega] at this
  have h38 := chk38_of a
  have h7 : k0_chk7 (BitVec.ofNat 32 a.val) (BitVec.ofNat 32 (a.val + d.val + 1)) := chk7_of a d (by have := hi_le G i.val i.isLt; omega)
  have h51 := mul512 i
  rw [k0_part36_eq_skeleton]
  unfold k0_part36_skel xNext
  by_cases h : i.val + 1 < 24
  · have hc : k0_cond2 i = 1#1 := (cond2_iff i).2 h
    have hsem' : ((E.arg23.slice (Rect.unit (s := S2) (k0_off50 i) S1.size (k0_off50_inb i hc))).squeeze S_ squeezes_S1_S_).sem = xsem E ((i.val + 1) % 2) :=
      sem_at _ _ _ _ (emb1 _ (by rw [og50]; simp))
    rw [dif_pos hc, if_pos h]
    simp only [bind_assoc, pure_bind]
    iintro ⟨HI, HO⟩
    iapply (ring_start (c : Thread nD τ) Variants.nat none (ms := E.arg5) (md := E.arg13) (X := I.X) (Y := I.xC (i.val + 1)) (og52 i) rfl (og51 i) rfl _ (congrArg SemLoc.dma hsem') ?_ (Nx E) rfl hN0) $$ HI
    · intro x j h0 h1 h2
      refine congrArg I.X (ext2 ?_ ?_)
      · rw [h1]
        have e : (x 1).val < 512 := (x 1).isLt
        show (512 * (i.val + 1) + (x 1).val) % 12288 = _
        omega
      · rw [h2]; exact (Nat.zero_add _).symm
    iintro HB
    iapply (call1' c I G E.arg0 E.harg0 i (I.car i.val) a.val hcar ha) $$ HO
    iintro HO
    iapply (wp_as (c : Thread nD τ) Variants.nat none h38)
    iapply (call2' c I G E.arg0 E.harg0 i a.val (a.val + d.val + 1) ha hd) $$ HO
    iintro HO
    iapply (wp_as (c : Thread nD τ) Variants.nat none h7)
    iapply (wp_done (c : Thread nD τ) Variants.nat none)
    isplitr [HB HO]
    · ipureintro; rw [← h51]
    isplitl [HB] <;> iassumption
  · have hc : ¬ k0_cond2 i = 1#1 := fun hc => h ((cond2_iff i).1 hc)
    rw [dif_neg hc, if_neg h]
    simp only [bind_assoc, pure_bind]
    iintro ⟨HB, HO⟩
    iapply (call1' c I G E.arg0 E.harg0 i (I.car i.val) a.val hcar ha) $$ HO
    iintro HO
    iapply (wp_as (c : Thread nD τ) Variants.nat none h38)
    iapply (call2' c I G E.arg0 E.harg0 i a.val (a.val + d.val + 1) ha hd) $$ HO
    iintro HO
    iapply (wp_as (c : Thread nD τ) Variants.nat none h7)
    iapply (wp_done (c : Thread nD τ) Variants.nat none)
    isplitr [HB HO]
    · ipureintro; rw [← h51]
    isplitl [HB] <;> iassumption

theorem P_set (k : ℕ) {inb} : (Rect.unit (s := S3x512x256) ![k, 0, 0] S1x512x256.size inb).set = only keyP k := by
  ext i
  rw [mem3 rfl rfl]
  have h1 : (i 1).val < 512 := (i 1).isLt
  have h2 : (i 2).val < 256 := (i 2).isLt
  simp only [only, Finset.mem_filter, Finset.mem_univ, _root_.true_and, keyP]
  omega

theorem P_sub (k : ℕ) {inb} : (Rect.unit (s := S3x512x256) ![k, 0, 0] S1x512x256.size inb).toLoadRect.set ⊆ above keyP k := by
  rw [show (Rect.unit (s := S3x512x256) ![k, 0, 0] S1x512x256.size inb).toLoadRect.set = _ from P_set k]
  intro y
  simp only [only, above, Finset.mem_filter, Finset.mem_univ, _root_.true_and]
  omega

/-- The transposed plane that a store writes. -/
theorem P_in (i k : ℕ) (hk : k < 3) {inb inb'} (x : S1x512x256.Idx) :
    I.Lt i ((Rect.unit (s := S3x512x256) ![k, 0, 0] S1x512x256.size inb).emb x)
      = k0_pay101 (fun y => I.bgF i ((Rect.unit (s := S3x256x512) ![k, 0, 0] S1x256x512.size inb').toLoadRect.idx y)) x := by
  have h0 : (x 0).val < 1 := (x 0).isLt
  have e0 : ((Rect.unit (s := S3x512x256) ![k, 0, 0] S1x512x256.size inb).emb x 0).val = k := (emb_val 0).trans (by show k + (x 0).val = k; omega)
  have e1 : ((Rect.unit (s := S3x512x256) ![k, 0, 0] S1x512x256.size inb).emb x 1).val = (x 1).val := (emb_val 1).trans (Nat.zero_add _)
  have e2 : ((Rect.unit (s := S3x512x256) ![k, 0, 0] S1x512x256.size inb).emb x 2).val = (x 2).val := (emb_val 2).trans (Nat.zero_add _)
  unfold In.Lt
  refine congr (congrArg k0_pay101 (funext fun y => congrArg (I.bgF i) (ext3 ?_ ?_ ?_))) (ext3 ?_ ?_ ?_)
  · have hy : (y 0).val < 1 := (y 0).isLt
    refine e0.trans ?_
    show k = k + 1 * (y 0).val
    omega
  · show (y 1).val = 0 + 1 * (y 1).val
    omega
  · show (y 2).val = 0 + 1 * (y 2).val
    omega
  · show 0 = (x 0).val
    omega
  · exact e1
  · exact e2

theorem H_set (i : Fin k0_t4_loop.trips) : (Rect.unit (s := S3x32x12288) (k0_off157 i) S3x32x512.size (k0_off157_inb i)).set = only keyH i.val := by
  ext y
  rw [mem3 (og157 i) rfl]
  have h0 : (y 0).val < 3 := (y 0).isLt
  have h1 : (y 1).val < 32 := (y 1).isLt
  simp only [only, Finset.mem_filter, Finset.mem_univ, _root_.true_and, keyH]
  omega

theorem H_in (i : Fin k0_t4_loop.trips) (x : S3x32x512.Idx) :
    I.LH ((Rect.unit (s := S3x32x12288) (k0_off157 i) S3x32x512.size (k0_off157_inb i)).emb x) = I.lcF i.val x := by
  have h2 : (x 2).val < 512 := (x 2).isLt
  have f0 : k0_off157 i 0 = 0 := by rw [og157]; rfl
  have f1 : k0_off157 i 1 = 0 := by rw [og157]; rfl
  have f2 : k0_off157 i 2 = 512 * i.val := by rw [og157]; rfl
  have e0 : ((Rect.unit (s := S3x32x12288) (k0_off157 i) S3x32x512.size (k0_off157_inb i)).emb x 0).val = (x 0).val := (emb_val 0).trans (by omega)
  have e1 : ((Rect.unit (s := S3x32x12288) (k0_off157 i) S3x32x512.size (k0_off157_inb i)).emb x 1).val = (x 1).val := (emb_val 1).trans (by omega)
  have e2 : ((Rect.unit (s := S3x32x12288) (k0_off157 i) S3x32x512.size (k0_off157_inb i)).emb x 2).val = 512 * i.val + (x 2).val := (emb_val 2).trans (by omega)
  unfold In.LH
  rw [e2, show (512 * i.val + (x 2).val) / 512 = i.val by omega]
  refine congrArg (I.lcF i.val) (ext3 e0 e1 ?_)
  show (512 * i.val + (x 2).val) % 512 = _
  omega

/-- The narrow buffer is free again: the rows of the tile before are written. -/
theorem l_done (i : Fin k0_t4_loop.trips) {α} {Q : α → sProp 𝕄} (k : Prog (TpuEff nD τ sig (Elt F) (Λ₀ F) .tc) α) :
    iprop(lSt c E I i.val ∗ At (c : Thread nD τ) E.arg11.view fullShare (below keyH (i.val - 1)) I.LH ∗ Ow c)
      ⊢ iprop((iprop(lIdle c E ∗ At (c : Thread nD τ) E.arg11.view fullShare (below keyH i.val) I.LH ∗ Ow c)
            -∗ wp frame (wpE (defs₀ (F := F)) Variants.nat (c : Thread nD τ) none) Set.univ k Q)
        -∗ wp frame (wpE (defs₀ (F := F)) Variants.nat (c : Thread nD τ) none) Set.univ
          (if k0_h3 : k0_cond3 i = 1#1 then (do
              Prog.lift (.waitDma2 E.arg29.sem E.arg21 (E.arg11.slice (Rect.unit (s := S3x32x12288) (k0_off58 i) S3x32x512.size (k0_off58_inb i k0_h3)) (fun _ => rfl)) E.harg21.wordExact (E.harg11.wordExact_slice rfl _ (k0_off58_wordsbf16 i k0_h3)))
              k) else k) Q) := by
  unfold lSt
  by_cases h : i.val = 0
  · rw [dif_neg (fun hc => (cond3_iff i).1 hc h), if_pos h, h]
    iintro ⟨HL, HH, HO⟩ HK
    iapply HK
    isplitl [HL]; · iexact HL
    isplitl [HH] <;> iassumption
  · rw [dif_pos ((cond3_iff i).2 h), if_neg h]
    iintro ⟨HL, HH, HO⟩ HK
    iapply (wp_wt (c : Thread nD τ) Variants.nat none (N := Nl E) E.arg29.sem rfl rfl) $$ [HL HO]
    · isplitl [HL] <;> iassumption
    iintro ⟨⟨HD, HS⟩, Hc, HO⟩
    iapply HK
    isplitl [HS Hc]
    · isplitl [HS]; · iapply (Any_of_At (c : Thread nD τ)) $$ HS
      iexact Hc
    isplitl [HH HD]
    · ihave HH := (below_snoc (c : Thread nD τ)) $$ [HH HD]
      · isplitl [HH] <;> iassumption
      iapply (ent_of_eq (congrArg (fun n => At (c : Thread nD τ) E.arg11.view fullShare (below keyH n) I.LH) (show i.val - 1 + 1 = i.val by omega))) $$ HH
    iexact HO

include G in
/-- The second half of a tile's preparation: its segments one after the other; the narrow buffer is sent off. -/
theorem part37_spec (i : Fin k0_t4_loop.trips) (a : Fin 19) (d : Fin 6) (ha : a.val = I.lo i.val) (hd : a.val + d.val + 1 = I.hi i.val)
    (hw : k0_chk7 (BitVec.ofNat 32 a.val) (BitVec.ofNat 32 (a.val + d.val + 1))) (v59 : BitVec 32) :
    iprop(xNext c E I i.val ∗ Linv c E I i.val ∗ Fix c E I ∗ Off c E I ∗ Any (c : Thread nD τ) E.arg18.view Finset.univ ∗ Any (c : Thread nD τ) E.arg19.view Finset.univ ∗ Ow c)
      ⊢ wp frame (wpE (defs₀ (F := F)) Variants.nat (c : Thread nD τ) none) Set.univ
          (k0_part37 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29 i (Scf.iv 0#32 1#32 i) (BitVec.ofNat 32 (512 * i.val)) (BitVec.ofNat 32 a.val) (BitVec.ofNat 32 (a.val + d.val + 1)) hw v59)
          (fun r => iprop(⌜r = ⟨⟩⌝ ∗ iprop(At (c : Thread nD τ) E.arg13.view fullShare (plane (i.val % 2)) (I.xC i.val)
              ∗ At (c : Thread nD τ) E.arg5.view (shareTokN fullShare (i.val % 2)) Finset.univ I.X ∗ semVal ((c : Thread nD τ), .dma (xsem E (i.val % 2))) 0
              ∗ Linv c E I (i.val + 1) ∗ Fix c E I ∗ Off c E I ∗ At (c : Thread nD τ) E.arg18.view fullShare Finset.univ (I.bgF i.val)
              ∗ At (c : Thread nD τ) E.arg19.view fullShare (below keyP 1) (I.Lt i.val) ∗ Any (c : Thread nD τ) E.arg19.view (above keyP 1) ∗ Ow c))) := by
  have hi : i.val < 24 := i.isLt
  have hN0 : 0 < Nl E := sig.dmaCredit_pos _ _ _ _ _ (by rw [Shape.numel]; simp [Fin.prod_univ_succ])
  have hsem : ((E.arg23.slice (Rect.unit (s := S2) (k0_off55 i) S1.size (k0_off55_inb i))).squeeze S_ squeezes_S1_S_).sem = xsem E (i.val % 2) :=
    sem_at _ _ _ _ (emb1 _ (by rw [og55]; simp))
  have htr := t5_trips a d
  have ht6 := t6_none a d
  have hl := hi_le G i.val hi
  have eb : I.bg i.val a.val (d.val + 1) = I.bgF i.val := by unfold In.bgF; rw [← ha, ← hd]; congr 1; omega
  have el : I.lc i.val a.val (d.val + 1) = I.lcF i.val := by unfold In.lcF; rw [← ha, ← hd]; congr 1; omega
  have hsub := (set_all3 (n0 := 3) (n1 := 256) (n2 := 512) (inb := inb_S3x256x512_S3x256x512_0_0_0))
  have hsub2 := (set_all3 (n0 := 3) (n1 := 32) (n2 := 512) (inb := inb_S3x32x512_S3x32x512_0_0_0))
  have hH : Sub (Val := Elt F) (c : Thread nD τ) E.arg11 (E.arg11.slice (Rect.unit (s := S3x32x12288) (k0_off157 i) S3x32x512.size (k0_off157_inb i)) (fun _ => rfl)) (only keyH i.val)
      (Rect.unit (s := S3x32x12288) (k0_off157 i) S3x32x512.size (k0_off157_inb i)).emb := H_set i ▸ Sub.slice (c : Thread nD τ) E.arg11 _ _
  rw [k0_part37_eq_skeleton]
  unfold k0_part37_skel xNext
  rw [if_pos hi]
  iintro ⟨HX, ⟨HL, HH, HHa⟩, ⟨HTb, Hrk, Hsc, HA, H16, Hcells, H20⟩, Hof, H18, H19, HO⟩
  iapply (wp_wt (c : Thread nD τ) Variants.nat none (N := Nx E) (xsem E (i.val % 2)) hsem rfl) $$ [HX HO]
  · isplitl [HX] <;> iassumption
  iintro ⟨⟨HX, HT⟩, Hc, HO⟩
  iapply (l_done c E I i) $$ [HL HH HO]
  · isplitl [HL]; · iexact HL
    isplitl [HH] <;> iassumption
  iintro ⟨⟨HL, HLc⟩, HH, HO⟩
  iapply (wp_ldA (c : Thread nD τ) Variants.nat none (Finset.subset_univ _)) $$ H18
  iintro %_ H18
  iapply (wp_stA (c : Thread nD τ) Variants.nat none (k0_pay99 (F := F)) hsub (fun x => congrArg (k0_pay99 (F := F)) (emb_all3 x))) $$ H18
  iintro H18
  iapply (wp_ldA (c : Thread nD τ) Variants.nat none (Finset.subset_univ _)) $$ HL
  iintro %_ HL
  iapply (wp_stA (c : Thread nD τ) Variants.nat none (k0_pay100 (F := F)) hsub2 (fun x => congrArg (k0_pay100 (F := F)) (emb_all3 x))) $$ HL
  iintro HL
  iapply (Scf.wp_for_bind _ _ _ _ _ _ _ _ _ (fun n _ => T5inv c E I i.val a.val n)
    (fun t u => t5_step c E I Variants.nat none G a d hw t (by have h : t.val < d.val + 1 := lt_of_lt_of_eq t.isLt htr; omega) i _ v59 u)) $$ [HTb Hrk Hsc HA H16 Hcells H20 Hof HX H18 HL HO]
  · unfold T5inv
    isplitl [HTb]; · iexact HTb
    isplitl [Hrk]; · iexact Hrk
    isplitl [Hsc]; · iexact Hsc
    isplitl [Hof]; · iexact Hof
    isplitl [HA]; · iexact HA
    isplitl [HX]; · iexact HX
    isplitl [H16]; · iexact H16
    isplitl [Hcells]; · iexact Hcells
    isplitl [H20]; · iexact H20
    isplitl [H18]; · iapply (ent_of_eq (congrArg (At (c : Thread nD τ) E.arg18.view fullShare Finset.univ) (show k0_pay99 (F := F) = mix (keyB (40 * (a.val + 0 - min a.val 13))) 0 (I.bg i.val a.val 0) (I.bg i.val a.val (0 + 1)) from (mix_zero (A := I.bg i.val a.val 0)).symm))) $$ H18
    isplitl [HL]; · iapply (ent_of_eq (congrArg (At (c : Thread nD τ) E.arg21.view fullShare Finset.univ) (show k0_pay100 (F := F) = mix keyL 0 (I.lc i.val a.val 0) (I.lc i.val a.val (0 + 1)) from (mix_zero (A := I.lc i.val a.val 0)).symm))) $$ HL
    iexact HO
  iintro %acc HI
  ihave HI := (ent_of_eq (congrArg (T5inv c E I i.val a.val) htr)) $$ HI
  ihave HI := (show T5inv c E I i.val a.val (d.val + 1) ⊢ iprop(Tb c E I ∗ At (c : Thread nD τ) E.arg3.view fullShare Finset.univ I.rank ∗ scS c E I ∗ At (c : Thread nD τ) E.arg0.view fullShare Finset.univ I.off
    ∗ aAll c E I ∗ At (c : Thread nD τ) E.arg13.view fullShare (plane (i.val % 2)) (I.xC i.val)
    ∗ Any (c : Thread nD τ) E.arg16.view Finset.univ ∗ Rg (aCell c E) 0 8
    ∗ Any (c : Thread nD τ) E.arg20.view Finset.univ ∗ bgS c E I i.val a.val (d.val + 1) 0 ∗ loS c E I i.val a.val (d.val + 1) 0 ∗ Ow c) from .rfl) $$ HI
  icases HI with ⟨HTb, Hrk, Hsc, Hof, HA, HX, H16, Hcells, H20, H18, HL, HO⟩
  ihave H18 := (ent_of_eq (congrArg (At (c : Thread nD τ) E.arg18.view fullShare Finset.univ) (mix_zero.trans eb))) $$ H18
  ihave HL := (ent_of_eq (congrArg (At (c : Thread nD τ) E.arg21.view fullShare Finset.univ) (mix_zero.trans el))) $$ HL
  iapply (Scf.wp_for_bind _ _ _ _ _ _ _ _ _ (fun _ _ => (iprop(emp) : sProp 𝕄)) (fun t u => absurd (lt_of_lt_of_eq t.isLt ht6) (Nat.not_lt_zero _))) $$ []
  · iempintro
  iintro %acc2 -
  ihave HHa := (above_take (c : Thread nD τ)) $$ HHa
  icases HHa with ⟨HHo, HHa⟩
  iapply (wp_cpG (c : Thread nD τ) Variants.nat none (Sub.whole (c : Thread nD τ) E.arg21) hH (SemLoc.dma E.arg29.sem) rfl (Finset.subset_univ _) (H_in I i) (Nl E) rfl hN0) $$ [HL HHo HLc]
  · isplitl [HL]; · iexact HL
    isplitl [HHo] <;> iassumption
  iintro HF
  iapply (wp_ld (c : Thread nD τ) Variants.nat none (X := I.bgF i.val) (Finset.subset_univ _)) $$ H18
  iintro H18
  iapply (wp_ldA (c : Thread nD τ) Variants.nat none (Finset.subset_univ _)) $$ H19
  iintro %_ H19
  ihave H19 := (ent_of_eq (congrArg (Any (c : Thread nD τ) E.arg19.view) (above_zero keyP).symm)) $$ H19
  iapply (wp_fill (c : Thread nD τ) Variants.nat none (key := keyP) (n := 0) (I.Lt i.val) (P_set 0) (P_in I i.val 0 (by decide))) $$ [H19]
  · isplitr [H19]
    · iapply (ent_of_eq (congrArg (fun S => At (c : Thread nD τ) E.arg19.view fullShare S (I.Lt i.val)) (below_zero keyP).symm))
      iapply (ent_of_eq (At_empty (c : Thread nD τ)).symm)
      iempintro
    iexact H19
  iintro ⟨H19, H19a⟩
  iapply (wp_done (c : Thread nD τ) Variants.nat none)
  isplitr [HX HT Hc HF HH HHa HTb Hrk Hsc HA H16 Hcells H20 Hof H18 H19 H19a HO]
  · ipureintro; rfl
  isplitl [HX]; · iexact HX
  isplitl [HT]; · iexact HT
  isplitl [Hc]; · iexact Hc
  isplitl [HF HH HHa]
  · isplitl [HF]
    · iapply (ent_of_eq (show lBusy c E I i.val = lSt c E I (i.val + 1) from (if_neg (Nat.succ_ne_zero _)).symm)) $$ HF
    isplitl [HH]; · iexact HH
    iexact HHa
  isplitl [HTb Hrk Hsc HA H16 Hcells H20]
  · isplitl [HTb]; · iexact HTb
    isplitl [Hrk]; · iexact Hrk
    isplitl [Hsc]; · iexact Hsc
    isplitl [HA]; · iexact HA
    isplitl [H16]; · iexact H16
    isplitl [Hcells] <;> iassumption
  isplitl [Hof]; · iexact Hof
  isplitl [H18]; · iexact H18
  isplitl [H19]; · iexact H19
  isplitl [H19a] <;> iassumption

theorem t7_trips : Scf.trips k0_t7_loop.lb k0_t7_loop.ub k0_t7_loop.st = 16 := by decide +kernel

/-- Before tile `i`. -/
def T4inv (i : ℕ) (w : BitVec 32) : sProp 𝕄 :=
  iprop(⌜w = BitVec.ofNat 32 (I.car i)⌝ ∗ xNext c E I i ∗ xIdle c E I ((i + 1) % 2) ∗ Linv c E I i ∗ Fix c E I ∗ Off c E I
    ∗ Any (c : Thread nD τ) E.arg18.view Finset.univ ∗ Any (c : Thread nD τ) E.arg19.view Finset.univ
    ∗ At (c : Thread nD τ) E.arg12.view fullShare Finset.univ I.W ∗ At (c : Thread nD τ) E.arg17.view fullShare Finset.univ I.Bv
    ∗ Yinv c E I.Yv (16 * i) ∗ Ow c)

theorem Yv_at (i : Fin k0_t4_loop.trips) (a : Fin 19) (ha : a.val = I.lo i.val) (j : ℕ) (hj : j < 16) (r : S12288x8192.Idx) (h0 : (r 0).val / 512 = i.val) (h1 : (r 1).val / 512 = j) :
    I.Yv r = ytile I i.val j (I.Lt i.val) a.val (ix3 0 (Fin.ofNat 512 (r 0).val) (Fin.ofNat 512 (r 1).val)) := by
  unfold In.Yv
  rw [h0, h1, ha]

include G in
/-- A tile. -/
theorem t4_step (i : Fin k0_t4_loop.trips) (w : BitVec 32) :
    T4inv c E I i.val w ⊢ wp frame (wpE (defs₀ (F := F)) Variants.nat (c : Thread nD τ) none) Set.univ (E.t4 (F := F) i w) (fun w' => T4inv c E I (i.val + 1) w') := by
  have hi : i.val < 24 := i.isLt
  have h1 := lo_le G i.val hi
  have h2 := (hi_mem G i.val hi).1
  have h3 := hi_near G i.val hi
  have h4 := hi_le G i.val hi
  obtain ⟨a, ha⟩ : ∃ a : Fin 19, a.val = I.lo i.val := ⟨⟨I.lo i.val, by omega⟩, rfl⟩
  obtain ⟨d, hd⟩ : ∃ d : Fin 6, a.val + d.val + 1 = I.hi i.val := ⟨⟨I.hi i.val - I.lo i.val - 1, by omega⟩, by rw [ha]; show I.lo i.val + (I.hi i.val - I.lo i.val - 1) + 1 = _; omega⟩
  unfold T4inv Env.t4 k0_t4_body
  iintro ⟨%hw, HX, HXi, HL, HF, Hof, H18, H19, HW, HB, HY, HO⟩
  subst hw
  iapply (wp_part (c : Thread nD τ) Variants.nat none _ (part36_spec c E I G i a d ha hd)) $$ [HXi Hof]
  · isplitl [HXi] <;> iassumption
  iintro ⟨HXn, Hof⟩
  iapply (wp_part (c : Thread nD τ) Variants.nat none _ (part37_spec c E I G i a d ha hd _ _)) $$ [HX HL HF Hof H18 H19 HO]
  · isplitl [HX]; · iexact HX
    isplitl [HL]; · iexact HL
    isplitl [HF]; · iexact HF
    isplitl [Hof]; · iexact Hof
    isplitl [H18]; · iexact H18
    isplitl [H19] <;> iassumption
  iintro ⟨HX, HT, Hc, HL, HF, Hof, H18, H19, H19a, HO⟩
  iapply (wp_ld (c : Thread nD τ) Variants.nat none (X := I.bgF i.val) (Finset.subset_univ _)) $$ H18
  iintro H18
  iapply (wp_ldA (c : Thread nD τ) Variants.nat none (P_sub 1)) $$ H19a
  iintro %_ H19a
  iapply (wp_fill (c : Thread nD τ) Variants.nat none (key := keyP) (n := 1) (I.Lt i.val) (P_set 1) (P_in I i.val 1 (by decide))) $$ [H19 H19a]
  · isplitl [H19] <;> iassumption
  iintro ⟨H19, H19a⟩
  iapply (wp_ld (c : Thread nD τ) Variants.nat none (X := I.bgF i.val) (Finset.subset_univ _)) $$ H18
  iintro H18
  iapply (wp_ldA (c : Thread nD τ) Variants.nat none (P_sub 2)) $$ H19a
  iintro %_ H19a
  iapply (wp_fill (c : Thread nD τ) Variants.nat none (key := keyP) (n := 2) (I.Lt i.val) (P_set 2) (P_in I i.val 2 (by decide))) $$ [H19 H19a]
  · isplitl [H19] <;> iassumption
  iintro ⟨H19, H19a⟩
  ihave H19 := (ent_of_eq (congrArg (fun S => At (c : Thread nD τ) E.arg19.view fullShare S (I.Lt i.val)) (below_all keyP 3 (fun y => (y 0).isLt)))) $$ H19
  iapply (Scf.wp_for_bind _ _ _ _ _ _ _ _ _ (fun n _ => T7inv c E I I.Yv (I.Lt i.val) i.val n)
    (fun t u => t7_step c E I I.Yv Variants.nat none (I.Lt i.val) i a _ _ (fun j hj r => Yv_at I i a ha j hj r) t u)) $$ [HX HW H19 HB HY HO]
  · unfold T7inv
    isplitl [HX]; · iexact HX
    isplitl [HW]; · iexact HW
    isplitl [H19]; · iexact H19
    isplitl [HB]; · iexact HB
    isplitl [HY]; · iexact HY
    iexact HO
  iintro %acc HI
  ihave HI := (ent_of_eq (congrArg (T7inv c E I I.Yv (I.Lt i.val) i.val) t7_trips)) $$ HI
  ihave HI := (show T7inv c E I I.Yv (I.Lt i.val) i.val 16 ⊢ iprop(At (c : Thread nD τ) E.arg13.view fullShare (plane (i.val % 2)) (I.xC i.val) ∗ At (c : Thread nD τ) E.arg12.view fullShare Finset.univ I.W
    ∗ At (c : Thread nD τ) E.arg19.view fullShare Finset.univ (I.Lt i.val) ∗ At (c : Thread nD τ) E.arg17.view fullShare Finset.univ I.Bv
    ∗ Yinv c E I.Yv (16 * i.val + 16) ∗ Ow c) from .rfl) $$ HI
  icases HI with ⟨HX, HW, H19, HB, HY, HO⟩
  iapply (wp_done (c : Thread nD τ) Variants.nat none)
  isplitr [HX HXn HT Hc HL HF Hof H18 H19 H19a HW HB HY HO]
  · ipureintro
    rw [ha]
    rfl
  isplitl [HXn]; · iexact HXn
  isplitl [HX HT Hc]
  · iapply (ent_of_eq (congrArg (xIdle c E I) (show i.val % 2 = (i.val + 1 + 1) % 2 by omega)))
    isplitl [HT]; · iexact HT
    isplitl [HX]; · iapply (Any_of_At (c : Thread nD τ)) $$ HX
    iexact Hc
  isplitl [HL]; · iexact HL
  isplitl [HF]; · iexact HF
  isplitl [Hof]; · iexact Hof
  isplitl [H18]; · iapply (Any_of_At (c : Thread nD τ)) $$ H18
  isplitl [H19]; · iapply (Any_of_At (c : Thread nD τ)) $$ H19
  isplitl [HW]; · iexact HW
  isplitl [HB]; · iexact HB
  isplitl [HY]; · iexact HY
  iexact HO

end Cert.KernelIdeal.Hand

end
-- ==== Proof.Run.KI.Body.lean ====
/-
  The loop that decodes the packed weights: sixteen blocks of words arrive in turn in two slots; each is decoded,
  scaled group by group and stored in the resident weight.
-/
module

public import proofs.«01_k».proof.Proof.Run.KI.T4

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

section Planes
variable {n1 n2 : ℕ}

theorem plane_disj {n0 p q : ℕ} (h : p ≠ q) : Disjoint (plane p : Finset (⟨3, ![n0, n1, n2]⟩ : Shape).Idx) (plane q) := by
  rw [Finset.disjoint_left]; intro i hp hq
  rw [mem_plane] at hp hq
  omega

theorem univ_two : (Finset.univ : Finset (⟨3, ![2, n1, n2]⟩ : Shape).Idx) = plane 0 ∪ plane 1 := by
  ext i
  have h : (i 0).val < 2 := (i 0).isLt
  rw [Finset.mem_union, mem_plane, mem_plane]
  simp only [Finset.mem_univ, true_iff]
  omega

/-- The planes from `p` on. -/
abbrev planesFrom {n0 : ℕ} (p : ℕ) : Finset (⟨3, ![n0, n1, n2]⟩ : Shape).Idx := above (fun i => (i 0).val) p

theorem univ_from {n0 : ℕ} : (Finset.univ : Finset (⟨3, ![n0, n1, n2]⟩ : Shape).Idx) = plane 0 ∪ planesFrom 1 := by
  rw [← above_zero (fun i : (⟨3, ![n0, n1, n2]⟩ : Shape).Idx => (i 0).val)]
  exact above_succ _ 0

theorem from_last {n0 p : ℕ} (h : n0 = p + 1) : (planesFrom p : Finset (⟨3, ![n0, n1, n2]⟩ : Shape).Idx) = plane p := by
  subst h
  ext i
  have h : (i 0).val < p + 1 := (i 0).isLt
  simp only [above, only, Finset.mem_filter, Finset.mem_univ, _root_.true_and]
  omega

theorem from_disj {n0 p : ℕ} : Disjoint (plane p : Finset (⟨3, ![n0, n1, n2]⟩ : Shape).Idx) (planesFrom (p + 1)) := above_disj _ p
theorem from_succ {n0 p : ℕ} : (planesFrom p : Finset (⟨3, ![n0, n1, n2]⟩ : Shape).Idx) = plane p ∪ planesFrom (p + 1) := above_succ _ p

variable (c : Thread nD τ) {sp : Space} {e : EltTy}

theorem two_of {v : View sig c.2.kind sp ⟨3, ![2, n1, n2]⟩ e} : (Any c v Finset.univ : sProp 𝕄) ⊢ iprop(Any c v (plane 0) ∗ Any c v (plane 1)) :=
  Any_split c univ_two (plane_disj (by decide))

theorem of_two {v : View sig c.2.kind sp ⟨3, ![2, n1, n2]⟩ e} : iprop(Any c v (plane 0) ∗ Any c v (plane 1)) ⊢ (Any c v Finset.univ : sProp 𝕄) :=
  Any_join c univ_two (plane_disj (by decide))

theorem four_of {v : View sig c.2.kind sp ⟨3, ![4, n1, n2]⟩ e} :
    (Any c v Finset.univ : sProp 𝕄) ⊢ iprop(Any c v (plane 0) ∗ Any c v (plane 1) ∗ Any c v (plane 2) ∗ Any c v (plane 3)) := by
  iintro H
  ihave H := (Any_split c univ_from from_disj) $$ H
  icases H with ⟨H0, H⟩
  ihave H := (Any_split c from_succ from_disj) $$ H
  icases H with ⟨H1, H⟩
  ihave H := (Any_split c from_succ from_disj) $$ H
  icases H with ⟨H2, H⟩
  ihave H := (ent_of_eq (congrArg (Any c v) (from_last (n0 := 4) (p := 3) rfl))) $$ H
  isplitl [H0]; · iexact H0
  isplitl [H1]; · iexact H1
  isplitl [H2] <;> iassumption

theorem of_four {v : View sig c.2.kind sp ⟨3, ![4, n1, n2]⟩ e} :
    iprop(Any c v (plane 0) ∗ Any c v (plane 1) ∗ Any c v (plane 2) ∗ Any c v (plane 3)) ⊢ (Any c v Finset.univ : sProp 𝕄) := by
  iintro ⟨H0, H1, H2, H⟩
  ihave H := (ent_of_eq (congrArg (Any c v) (from_last (n0 := 4) (p := 3) rfl).symm)) $$ H
  ihave H := (Any_join c from_succ from_disj) $$ [H2 H]
  · isplitl [H2] <;> iassumption
  ihave H := (Any_join c from_succ from_disj) $$ [H1 H]
  · isplitl [H1] <;> iassumption
  iapply (Any_join c univ_from from_disj)
  isplitl [H0] <;> iassumption

theorem three_of {v : View sig c.2.kind sp ⟨3, ![3, n1, n2]⟩ e} {q : PosShare TreeShare} {X} :
    (At c v q Finset.univ X : sProp 𝕄) ⊣⊢ iprop(At c v q (plane 0) X ∗ At c v q (plane 1) X ∗ At c v q (plane 2) X) := by
  constructor
  · iintro H
    ihave H := (At_split c univ_from from_disj).1 $$ H
    icases H with ⟨H0, H⟩
    ihave H := (At_split c from_succ from_disj).1 $$ H
    icases H with ⟨H1, H⟩
    ihave H := (ent_of_eq (congrArg (fun S => At c v q S X) (from_last (n0 := 3) (p := 2) rfl))) $$ H
    isplitl [H0]; · iexact H0
    isplitl [H1] <;> iassumption
  · iintro ⟨H0, H1, H⟩
    ihave H := (ent_of_eq (congrArg (fun S => At c v q S X) (from_last (n0 := 3) (p := 2) rfl).symm)) $$ H
    ihave H := (At_split c from_succ from_disj).2 $$ [H1 H]
    · isplitl [H1] <;> iassumption
    iapply (At_split c univ_from from_disj).2
    isplitl [H0] <;> iassumption

/-- A buffer lent out twice. -/
theorem lend_two {s : Shape} {v : View sig c.2.kind sp s e} {S} {X} :
    (At c v fullShare S X : sProp 𝕄) ⊣⊢ iprop(At c v (shareDrop fullShare 2) S X ∗ At c v (shareTokN fullShare 0) S X ∗ At c v (shareTokN fullShare 1) S X) := by
  constructor
  · iintro H
    ihave H := (ent_of_eq (show (At c v fullShare S X : sProp 𝕄) = At c v (shareDrop fullShare 0) S X from rfl)) $$ H
    ihave H := (At_drop c).1 $$ H
    icases H with ⟨H, H0⟩
    ihave H := (At_drop c).1 $$ H
    icases H with ⟨H, H1⟩
    isplitl [H]; · iexact H
    isplitl [H0] <;> iassumption
  · iintro ⟨H, H0, H1⟩
    ihave H := (At_drop c).2 $$ [H H1]
    · isplitl [H] <;> iassumption
    ihave H := (At_drop c).2 $$ [H H0]
    · isplitl [H] <;> iassumption
    iexact H
end Planes

variable (c : Dev nD) (E : Env) (I : In F)

/-- The five tables. -/
abbrev Tabs : sProp 𝕄 := iprop(At (c : Thread nD τ) E.arg0.view fullShare Finset.univ I.off ∗ At (c : Thread nD τ) E.arg1.view fullShare Finset.univ I.seg ∗ At (c : Thread nD τ) E.arg2.view fullShare Finset.univ I.start ∗ At (c : Thread nD τ) E.arg3.view fullShare Finset.univ I.rank ∗ At (c : Thread nD τ) E.arg4.view fullShare Finset.univ I.scal)
/-- The five operands read by copies. -/
abbrev Opnds : sProp 𝕄 := iprop(At (c : Thread nD τ) E.arg5.view fullShare Finset.univ I.X ∗ At (c : Thread nD τ) E.arg6.view fullShare Finset.univ I.WP ∗ At (c : Thread nD τ) E.arg7.view fullShare Finset.univ I.WS ∗ At (c : Thread nD τ) E.arg8.view fullShare Finset.univ I.A ∗ At (c : Thread nD τ) E.arg9.view fullShare Finset.univ I.B)
/-- The scratch buffers, whatever they hold. -/
abbrev Scrs : sProp 𝕄 := iprop(Any (c : Thread nD τ) E.arg12.view Finset.univ ∗ Any (c : Thread nD τ) E.arg13.view Finset.univ ∗ Any (c : Thread nD τ) E.arg14.view Finset.univ ∗ Any (c : Thread nD τ) E.arg15.view Finset.univ ∗ Any (c : Thread nD τ) E.arg16.view Finset.univ ∗ Any (c : Thread nD τ) E.arg17.view Finset.univ ∗ Any (c : Thread nD τ) E.arg18.view Finset.univ ∗ Any (c : Thread nD τ) E.arg19.view Finset.univ ∗ Any (c : Thread nD τ) E.arg20.view Finset.univ ∗ Any (c : Thread nD τ) E.arg21.view Finset.univ ∗ Any (c : Thread nD τ) E.arg22.view Finset.univ)
/-- The cells, all at zero. -/
abbrev Cells : sProp 𝕄 := iprop(semVal ((c : Thread nD τ), .dma (xsem E 0)) 0 ∗ semVal ((c : Thread nD τ), .dma (xsem E 1)) 0 ∗ semVal ((c : Thread nD τ), .dma (wsem E 0)) 0 ∗ semVal ((c : Thread nD τ), .dma (wsem E 1)) 0 ∗ semVal ((c : Thread nD τ), .dma (E.arg25.sem)) 0 ∗ Rg (aCell c E) 0 8 ∗ Rg (bCell c E) 0 19 ∗ semVal ((c : Thread nD τ), .dma (ysem E 0)) 0 ∗ semVal ((c : Thread nD τ), .dma (ysem E 1)) 0 ∗ semVal ((c : Thread nD τ), .dma (ysem E 2)) 0 ∗ semVal ((c : Thread nD τ), .dma (ysem E 3)) 0 ∗ semVal ((c : Thread nD τ), .dma (E.arg29.sem)) 0)
/-- What the body starts from. -/
abbrev BodyPre : sProp 𝕄 := iprop(Tabs c E I ∗ Opnds c E I ∗ Any (c : Thread nD τ) E.arg10.view Finset.univ ∗ Any (c : Thread nD τ) E.arg11.view Finset.univ ∗ Scrs (F := F) c E ∗ Cells (F := F) c E ∗ Ow c)
/-- What the body ends with. -/
abbrev BodyPost : sProp 𝕄 := iprop(Tabs c E I ∗ Opnds c E I ∗ At (c : Thread nD τ) E.arg10.view fullShare Finset.univ I.Yv ∗ At (c : Thread nD τ) E.arg11.view fullShare Finset.univ I.LH ∗ Scrs (F := F) c E ∗ Cells (F := F) c E ∗ Ow c)

theorem B_set : (Rect.unit (s := S776x8192) ![760, 0] S16x8192.size inb_S776x8192_S16x8192_760_0).set = rowsB 760 776 := by
  ext z
  rw [mem2 rfl rfl]
  have h0 : (z 0).val < 776 := (z 0).isLt
  have h1 : (z 1).val < 8192 := (z 1).isLt
  simp only [rowsB, Finset.mem_filter, Finset.mem_univ, _root_.true_and]
  omega

theorem B_in (x : (Rect.unit (s := S776x8192) ![760, 0] S16x8192.size inb_S776x8192_S16x8192_760_0).shape.Idx) :
    I.Bv ((Rect.unit (s := S776x8192) ![760, 0] S16x8192.size inb_S776x8192_S16x8192_760_0).emb x) = k0_pay102 (F := F) x := by
  have h0 : (((Rect.unit (s := S776x8192) ![760, 0] S16x8192.size inb_S776x8192_S16x8192_760_0).emb x) 0).val = 760 + (x 0).val := (emb_val 0).trans rfl
  have h1 : (((Rect.unit (s := S776x8192) ![760, 0] S16x8192.size inb_S776x8192_S16x8192_760_0).emb x) 1).val = 0 + (x 1).val := (emb_val 1).trans rfl
  have hx : (x 0).val < 16 := (x 0).isLt
  unfold In.Bv
  rw [if_neg (by rw [h0]; omega)]
  refine congrArg (k0_pay102 (F := F)) (ext2 ?_ ?_)
  · show (_ - 760) % 16 = (x 0).val
    rw [h0]; omega
  · exact h1.trans (Nat.zero_add _)

theorem B_univ : (Finset.univ : Finset S776x8192.Idx) = rowsB 0 760 ∪ rowsB 760 776 := by
  rw [← rowsB_split 0 760 776 (by decide) (by decide)]
  ext z
  have h0 : (z 0).val < 776 := (z 0).isLt
  simp [rowsB, h0]

theorem B_disj : Disjoint (rowsB 0 760) (rowsB 760 776) := by
  rw [Finset.disjoint_left]; intro i
  simp only [rowsB, Finset.mem_filter, Finset.mem_univ, _root_.true_and]
  omega

theorem t1_trips : Scf.trips k0_t1_loop.lb k0_t1_loop.ub k0_t1_loop.st = 19 := by decide +kernel
theorem t2_trips : Scf.trips k0_t2_loop.lb k0_t2_loop.ub k0_t2_loop.st = 16 := by decide +kernel
theorem t3_trips : Scf.trips k0_t3_loop.lb k0_t3_loop.ub k0_t3_loop.st = 19 := by decide +kernel
theorem t4_trips : Scf.trips k0_t4_loop.lb k0_t4_loop.ub k0_t4_loop.st = 24 := by decide +kernel

/-- What is left aside by the loop over the tiles. -/
abbrev Aside : sProp 𝕄 := iprop(At (c : Thread nD τ) E.arg5.view (shareDrop fullShare 2) Finset.univ I.X ∗ At (c : Thread nD τ) E.arg6.view fullShare Finset.univ I.WP ∗ At (c : Thread nD τ) E.arg7.view fullShare Finset.univ I.WS ∗ At (c : Thread nD τ) E.arg9.view fullShare Finset.univ I.B
  ∗ Any (c : Thread nD τ) E.arg14.view Finset.univ ∗ Any (c : Thread nD τ) E.arg15.view Finset.univ ∗ semVal ((c : Thread nD τ), .dma (wsem E 0)) 0 ∗ semVal ((c : Thread nD τ), .dma (wsem E 1)) 0 ∗ semVal ((c : Thread nD τ), .dma (E.arg25.sem)) 0 ∗ Rg (bCell c E) 0 19)

variable {I} (G : Good I)
include G

/-- The first part of the body: everything but the last waits. -/
theorem part38_spec :
    BodyPre c E I
      ⊢ wp frame (wpE (defs₀ (F := F)) Variants.nat (c : Thread nD τ) none) Set.univ
          (k0_part38 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun r => iprop(⌜r = ⟨⟩⌝ ∗ iprop((∃ w, T4inv c E I 24 w) ∗ Aside c E I))) := by
  have hx0 : ((E.arg23.slice (Rect.unit (s := S2) ![0] S1.size inb_S2_S1_0)).squeeze S_ squeezes_S1_S_).sem = xsem E 0 :=
    sem_at _ _ _ _ (emb1 _ (by simp))
  have hw0 : ((E.arg24.slice (Rect.unit (s := S2) ![0] S1.size inb_S2_S1_0)).squeeze S_ squeezes_S1_S_).sem = wsem E 0 :=
    sem_at _ _ _ _ (emb1 _ (by simp))
  have hNx : 0 < Nx E := sig.dmaCredit_pos _ _ _ _ _ (by rw [Shape.numel]; simp [Fin.prod_univ_succ])
  have hNw : 0 < Nw E := sig.dmaCredit_pos _ _ _ _ _ (by rw [Shape.numel]; simp [Fin.prod_univ_succ])
  have hNs : 0 < sig.dmaCredit .tc (Kind.table .tc .vmem) E.arg15.view.buf S16x8192 .bf16 := sig.dmaCredit_pos _ _ _ _ _ (by rw [Shape.numel]; simp [Fin.prod_univ_succ])
  rw [k0_part38_eq_skeleton]
  unfold k0_part38_skel
  iintro ⟨⟨H0, H1, H2, H3, H4⟩, ⟨H5, H6, H7, H8, H9⟩, H10, H11, ⟨H12, H13, H14, H15, H16, H17, H18, H19, H20, H21, H22⟩, ⟨X0, X1, W0, W1, S0, CA, CB, Y0, Y1, Y2, Y3, L0⟩, HO⟩
  ihave H5 := (lend_two (c : Thread nD τ)).1 $$ H5
  icases H5 with ⟨H5, H5a, H5b⟩
  ihave H6 := (lend_two (c : Thread nD τ)).1 $$ H6
  icases H6 with ⟨H6, H6a, H6b⟩
  ihave H8 := (three_of (c : Thread nD τ)).1 $$ H8
  ihave H13 := (two_of (c : Thread nD τ)) $$ H13
  icases H13 with ⟨H13a, H13b⟩
  ihave H14 := (two_of (c : Thread nD τ)) $$ H14
  icases H14 with ⟨H14a, H14b⟩
  ihave H22 := (four_of (c : Thread nD τ)) $$ H22
  icases H22 with ⟨H22a, H22b, H22c, H22d⟩
  iapply (ring_start (c : Thread nD τ) Variants.nat none (ms := E.arg5) (md := E.arg13) (X := I.X) (Y := I.xC 0) (p := 0) (ps := 0) (rs := 0) rfl rfl rfl rfl _ (congrArg SemLoc.dma hx0) ?_ (Nx E) rfl hNx) $$ [H5a H13a X0]
  · intro i j h0 h1 h2
    have e1 : (i 1).val < 512 := (i 1).isLt
    refine congrArg I.X (ext2 ?_ ?_)
    · show (512 * 0 + (i 1).val) % 12288 = _
      rw [h1]; omega
    · rw [h2]; exact (Nat.zero_add _).symm
  · isplitl [H5a]; · iexact H5a
    isplitl [H13a] <;> iassumption
  iintro XB
  iapply (ring_start (c : Thread nD τ) Variants.nat none (ms := E.arg6) (md := E.arg14) (X := I.WP) (Y := I.wC 0) (p := 0) (ps := 0) (rs := 0) rfl rfl rfl rfl _ (congrArg SemLoc.dma hw0) ?_ (Nw E) rfl hNw) $$ [H6a H14a W0]
  · intro i j h0 h1 h2
    have e1 : (i 2).val < 512 := (i 2).isLt
    refine congrArg I.WP (ext2 ?_ ?_)
    · rw [h1]; exact (Nat.zero_add _).symm
    · show (512 * 0 + (i 2).val) % 8192 = _
      rw [h2]; omega
  · isplitl [H6a]; · iexact H6a
    isplitl [H14a] <;> iassumption
  iintro WB
  iapply (wp_cpG (c : Thread nD τ) Variants.nat none (ms := E.arg7) (md := E.arg15) (X := I.WS) (Y := I.WS) (Sub.whole (c : Thread nD τ) _) (Sub.whole (c : Thread nD τ) _) (.dma E.arg25.sem) rfl (le_refl _) (fun _ => rfl) (sig.dmaCredit .tc (Kind.table .tc .vmem) E.arg15.view.buf S16x8192 .bf16) rfl hNs) $$ [H7 H15 S0]
  · isplitl [H7]; · iexact H7
    isplitl [H15] <;> iassumption
  iintro SB
  ihave H17 := (Any_split (c : Thread nD τ) B_univ B_disj) $$ H17
  icases H17 with ⟨H17, H17z⟩
  iapply (Scf.wp_for_bind _ _ _ _ _ _ _ _ _ (fun n _ => T1inv c E I n) (fun t u => t1_step c E I Variants.nat none G t u)) $$ [H1 H2 H9 H17 CB]
  · unfold T1inv
    isplitl [H1]; · iexact H1
    isplitl [H2]; · iexact H2
    isplitl [H9]; · iexact H9
    isplitl [H17]; · iexact H17
    isplitl [CB]; · iexact CB
    iempintro
  iintro %acc HI
  ihave HI := (ent_of_eq (congrArg (T1inv c E I) t1_trips)) $$ HI
  ihave HI := (show T1inv c E I 19 ⊢ iprop(At (c : Thread nD τ) E.arg1.view fullShare Finset.univ I.seg ∗ At (c : Thread nD τ) E.arg2.view fullShare Finset.univ I.start ∗ At (c : Thread nD τ) E.arg9.view (shareDrop fullShare 19) Finset.univ I.B ∗ Any (c : Thread nD τ) E.arg17.view (rowsB (40 * 19) 760) ∗ Rg (bCell c E) 19 0 ∗ Rg (bFlight c E I) 0 19) from .rfl) $$ HI
  icases HI with ⟨H1, H2, H9, H17, -, BF⟩
  iapply (wp_ldA (c : Thread nD τ) Variants.nat none (le_of_eq B_set)) $$ H17z
  iintro %_ H17z
  iapply (wp_stA (c : Thread nD τ) Variants.nat none I.Bv B_set (B_in I)) $$ H17z
  iintro H17z
  iapply (wp_wt (c : Thread nD τ) Variants.nat none E.arg25.sem rfl rfl) $$ [SB HO]
  · isplitl [SB] <;> iassumption
  iintro ⟨⟨H15, H7⟩, S0, HO⟩
  iapply (Scf.wp_for_bind _ _ _ _ _ _ _ _ _ (fun n _ => T2inv c E I n) (fun t u => t2_step c E I Variants.nat none t u)) $$ [WB H6b H14b W1 H15 H12 HO]
  · unfold T2inv Wp
    isplitl [WB]; · iapply (ent_of_eq (show wBusy c E I 0 0 = wNext c E I 0 from (if_pos (by decide)).symm)) $$ WB
    isplitl [H6b H14b W1]
    · isplitl [H6b]; · iexact H6b
      isplitl [H14b] <;> iassumption
    isplitl [H15 H12]
    · isplitl [H15]; · iexact H15
      isplitr [H12]
      · iapply (ent_of_eq (congrArg (fun S => At (c : Thread nD τ) E.arg12.view fullShare S I.W) (below_zero keyW)).symm)
        iapply (ent_of_eq (At_empty (c : Thread nD τ)).symm)
        iempintro
      iapply (ent_of_eq (congrArg (Any (c : Thread nD τ) E.arg12.view) (above_zero keyW)).symm) $$ H12
    iexact HO
  iintro %acc2 HI
  ihave HI := (ent_of_eq (congrArg (T2inv c E I) t2_trips)) $$ HI
  ihave HI := (show T2inv c E I 16 ⊢ iprop(wIdle c E I 0 ∗ wIdle c E I 1 ∗ (At (c : Thread nD τ) E.arg15.view fullShare Finset.univ I.WS ∗ At (c : Thread nD τ) E.arg12.view fullShare (below keyW 256) I.W ∗ Any (c : Thread nD τ) E.arg12.view (above keyW 256)) ∗ Ow c) from .rfl) $$ HI
  icases HI with ⟨⟨H6a, H14a, W0⟩, ⟨H6b, H14b, W1⟩, ⟨H15, H12, -⟩, HO⟩
  ihave H12 := (ent_of_eq (congrArg (fun S => At (c : Thread nD τ) E.arg12.view fullShare S I.W) (below_all keyW 256 (fun y => by
    have h0 : (y 0).val < 16 := (y 0).isLt
    have h1 : (y 1).val < 2048 := (y 1).isLt
    show 16 * (y 0).val + (y 1).val / 128 < 256
    omega)))) $$ H12
  iapply (Scf.wp_for_bind _ _ _ _ _ _ _ _ _ (fun n _ => T3inv c E I n) (fun t u => t3_step c E I Variants.nat none G t u)) $$ [H1 H2 H17 BF HO]
  · unfold T3inv
    isplitl [H1]; · iexact H1
    isplitl [H2]; · iexact H2
    isplitl [H17]
    · iapply (ent_of_eq (congrArg (fun S => At (c : Thread nD τ) E.arg17.view fullShare S I.Bv) (show rowsB (40 * 0) (40 * 0) = ∅ from by ext z; simp [rowsB])).symm)
      iapply (ent_of_eq (At_empty (c : Thread nD τ)).symm)
      iempintro
    isplitr [BF HO]; · iempintro
    isplitr [BF HO]; · iempintro
    isplitl [BF] <;> iassumption
  iintro %acc3 HI
  ihave HI := (ent_of_eq (congrArg (T3inv c E I) t3_trips)) $$ HI
  ihave HI := (show T3inv c E I 19 ⊢ iprop(At (c : Thread nD τ) E.arg1.view fullShare Finset.univ I.seg ∗ At (c : Thread nD τ) E.arg2.view fullShare Finset.univ I.start ∗ At (c : Thread nD τ) E.arg17.view fullShare (rowsB 0 760) I.Bv ∗ Rg (fun k => At (c : Thread nD τ) E.arg9.view (shareTokN fullShare k) Finset.univ I.B) 0 19 ∗ Rg (bCell c E) 0 19 ∗ Rg (bFlight c E I) 19 0 ∗ Ow c) from .rfl) $$ HI
  icases HI with ⟨H1, H2, H17, BT, CB, -, HO⟩
  ihave H17 := (At_split (c : Thread nD τ) B_univ B_disj).2 $$ [H17 H17z]
  · isplitl [H17] <;> iassumption
  ihave H9 := (At_rejoin (c : Thread nD τ) 19) $$ [H9 BT]
  · isplitl [H9] <;> iassumption
  iapply (Scf.wp_for_bind _ _ _ _ _ _ _ _ _ (fun n w => T4inv c E I n w) (fun t w => t4_step c E I G t w)) $$ [H0 H1 H2 H3 H4 XB H5b H13b X1 L0 H21 H11 H8 H16 CA H20 H18 H19 H12 H17 H22a H22b H22c H22d Y0 Y1 Y2 Y3 H10 HO]
  · unfold T4inv
    isplitr [H0 H1 H2 H3 H4 XB H5b H13b X1 L0 H21 H11 H8 H16 CA H20 H18 H19 H12 H17 H22a H22b H22c H22d Y0 Y1 Y2 Y3 H10 HO]
    · ipureintro; rfl
    isplitl [XB]; · iapply (ent_of_eq (show xBusy c E I 0 0 = xNext c E I 0 from (if_pos (by decide)).symm)) $$ XB
    isplitl [H5b H13b X1]
    · isplitl [H5b]; · iexact H5b
      isplitl [H13b] <;> iassumption
    isplitl [L0 H21 H11]
    · isplitl [L0 H21]
      · iapply (ent_of_eq (show lIdle c E = lSt c E I 0 from (if_pos rfl).symm))
        isplitl [H21] <;> iassumption
      isplitr [H11]
      · iapply (ent_of_eq (congrArg (fun S => At (c : Thread nD τ) E.arg11.view fullShare S I.LH) (below_zero keyH)).symm)
        iapply (ent_of_eq (At_empty (c : Thread nD τ)).symm)
        iempintro
      iapply (ent_of_eq (congrArg (Any (c : Thread nD τ) E.arg11.view) (above_zero keyH)).symm) $$ H11
    isplitl [H1 H2 H3 H4 H8 H16 CA H20]
    · isplitl [H1 H2]
      · isplitl [H1] <;> iassumption
      isplitl [H3]; · iexact H3
      isplitl [H4]; · iexact H4
      isplitl [H8]; · iexact H8
      isplitl [H16]; · iexact H16
      isplitl [CA] <;> iassumption
    isplitl [H0]; · iexact H0
    isplitl [H18]; · iexact H18
    isplitl [H19]; · iexact H19
    isplitl [H12]; · iexact H12
    isplitl [H17]; · iexact H17
    isplitl [H22a H22b H22c H22d Y0 Y1 Y2 Y3 H10]
    · iapply (show iprop(yIdle c E 0 ∗ yIdle c E 1 ∗ yIdle c E 2 ∗ yIdle c E 3 ∗ At (c : Thread nD τ) E.arg10.view fullShare (below keyY 0) I.Yv ∗ Any (c : Thread nD τ) E.arg10.view (above keyY 0)) ⊢ Yinv c E I.Yv (16 * 0) from .rfl)
      isplitl [H22a Y0]
      · isplitl [H22a] <;> iassumption
      isplitl [H22b Y1]
      · isplitl [H22b] <;> iassumption
      isplitl [H22c Y2]
      · isplitl [H22c] <;> iassumption
      isplitl [H22d Y3]
      · isplitl [H22d] <;> iassumption
      isplitr [H10]
      · iapply (ent_of_eq (congrArg (fun S => At (c : Thread nD τ) E.arg10.view fullShare S I.Yv) (below_zero keyY)).symm)
        iapply (ent_of_eq (At_empty (c : Thread nD τ)).symm)
        iempintro
      iapply (ent_of_eq (congrArg (Any (c : Thread nD τ) E.arg10.view) (above_zero keyY)).symm) $$ H10
    iexact HO
  iintro %acc4 HI
  ihave HI := (ent_of_eq (congrArg (fun n => T4inv c E I n acc4) t4_trips)) $$ HI
  iapply (wp_done (c : Thread nD τ) Variants.nat none)
  isplitr [HI H5 H6 H6a H6b H7 H9 H14a H14b H15 W0 W1 S0 CB]
  · ipureintro; rfl
  isplitl [HI]
  · iexists acc4; iexact HI
  isplitl [H5]; · iexact H5
  isplitl [H6 H6a H6b]
  · iapply (lend_two (c : Thread nD τ)).2
    isplitl [H6]; · iexact H6
    isplitl [H6a] <;> iassumption
  isplitl [H7]; · iexact H7
  isplitl [H9]; · iexact H9
  isplitl [H14a H14b]
  · iapply (of_two (c : Thread nD τ))
    isplitl [H14a] <;> iassumption
  isplitl [H15]; · iapply (Any_of_At (c : Thread nD τ)) $$ H15
  isplitl [W0]; · iexact W0
  isplitl [W1]; · iexact W1
  isplitl [S0] <;> iassumption

omit G in
/-- The last four tiles of the result are awaited. -/
theorem part39_spec :
    iprop(Yinv c E I.Yv 384 ∗ Ow c)
      ⊢ wp frame (wpE (defs₀ (F := F)) Variants.nat (c : Thread nD τ) none) Set.univ
          (k0_part39 (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun r => iprop(⌜r = ⟨⟩⌝ ∗ iprop(At (c : Thread nD τ) E.arg10.view fullShare Finset.univ I.Yv ∗ Any (c : Thread nD τ) E.arg22.view Finset.univ ∗ semVal ((c : Thread nD τ), .dma (ysem E 0)) 0 ∗ semVal ((c : Thread nD τ), .dma (ysem E 1)) 0 ∗ semVal ((c : Thread nD τ), .dma (ysem E 2)) 0 ∗ semVal ((c : Thread nD τ), .dma (ysem E 3)) 0 ∗ Ow c))) := by
  have hy0 : ((E.arg28.slice (Rect.unit (s := S4) ![0] S1.size inb_S4_S1_0)).squeeze S_ squeezes_S1_S_).sem = ysem E 0 :=
    sem_at _ _ _ _ (emb1 _ (by simp))
  have hy1 : ((E.arg28.slice (Rect.unit (s := S4) ![1] S1.size inb_S4_S1_1)).squeeze S_ squeezes_S1_S_).sem = ysem E 1 :=
    sem_at _ _ _ _ (emb1 _ (by simp))
  have hy2 : ((E.arg28.slice (Rect.unit (s := S4) ![2] S1.size inb_S4_S1_2)).squeeze S_ squeezes_S1_S_).sem = ysem E 2 :=
    sem_at _ _ _ _ (emb1 _ (by simp))
  have hy3 : ((E.arg28.slice (Rect.unit (s := S4) ![3] S1.size inb_S4_S1_3)).squeeze S_ squeezes_S1_S_).sem = ysem E 3 :=
    sem_at _ _ _ _ (emb1 _ (by simp))
  rw [k0_part39_eq_skeleton]
  unfold k0_part39_skel
  refine .trans (show iprop(Yinv c E I.Yv 384 ∗ Ow c) ⊢ iprop((yBusy c E I.Yv 0 380 ∗ yBusy c E I.Yv 1 381 ∗ yBusy c E I.Yv 2 382 ∗ yBusy c E I.Yv 3 383
    ∗ At (c : Thread nD τ) E.arg10.view fullShare (below keyY 380) I.Yv ∗ Any (c : Thread nD τ) E.arg10.view (above keyY 384)) ∗ Ow c) from .rfl) ?_
  iintro ⟨⟨B0, B1, B2, B3, HY, -⟩, HO⟩
  iapply (wp_wt (c : Thread nD τ) Variants.nat none (N := Ny E) (ysem E 0) hy0 rfl) $$ [B0 HO]
  · isplitl [B0] <;> iassumption
  iintro ⟨⟨HD, S0⟩, Y0, HO⟩
  ihave S0 := (Any_of_At (c : Thread nD τ)) $$ S0
  ihave HY := (below_snoc (c : Thread nD τ)) $$ [HY HD]
  · isplitl [HY] <;> iassumption
  iapply (wp_wt (c : Thread nD τ) Variants.nat none (N := Ny E) (ysem E 1) hy1 rfl) $$ [B1 HO]
  · isplitl [B1] <;> iassumption
  iintro ⟨⟨HD, S1⟩, Y1, HO⟩
  ihave S1 := (Any_of_At (c : Thread nD τ)) $$ S1
  ihave HY := (below_snoc (c : Thread nD τ)) $$ [HY HD]
  · isplitl [HY] <;> iassumption
  iapply (wp_wt (c : Thread nD τ) Variants.nat none (N := Ny E) (ysem E 2) hy2 rfl) $$ [B2 HO]
  · isplitl [B2] <;> iassumption
  iintro ⟨⟨HD, S2⟩, Y2, HO⟩
  ihave S2 := (Any_of_At (c : Thread nD τ)) $$ S2
  ihave HY := (below_snoc (c : Thread nD τ)) $$ [HY HD]
  · isplitl [HY] <;> iassumption
  iapply (wp_wt (c : Thread nD τ) Variants.nat none (N := Ny E) (ysem E 3) hy3 rfl) $$ [B3 HO]
  · isplitl [B3] <;> iassumption
  iintro ⟨⟨HD, S3⟩, Y3, HO⟩
  ihave S3 := (Any_of_At (c : Thread nD τ)) $$ S3
  ihave HY := (below_snoc (c : Thread nD τ)) $$ [HY HD]
  · isplitl [HY] <;> iassumption
  ihave HY := (ent_of_eq (congrArg (fun S => At (c : Thread nD τ) E.arg10.view fullShare S I.Yv) (below_all keyY 384 (fun r => by
    have h0 : (r 0).val < 12288 := (r 0).isLt
    have h1 : (r 1).val < 8192 := (r 1).isLt
    show 16 * ((r 0).val / 512) + (r 1).val / 512 < 384
    omega)))) $$ HY
  iapply (wp_done (c : Thread nD τ) Variants.nat none)
  isplitr [HY S0 S1 S2 S3 Y0 Y1 Y2 Y3 HO]
  · ipureintro; rfl
  isplitl [HY]; · iexact HY
  isplitl [S0 S1 S2 S3]
  · iapply (of_four (c : Thread nD τ))
    isplitl [S0]; · iexact S0
    isplitl [S1]; · iexact S1
    isplitl [S2] <;> iassumption
  isplitl [Y0]; · iexact Y0
  isplitl [Y1]; · iexact Y1
  isplitl [Y2]; · iexact Y2
  isplitl [Y3] <;> iassumption

/-- The body fills the two results with `Yv` and `LH`. -/
theorem body_spec :
    BodyPre c E I
      ⊢ wp frame (wpE (defs₀ (F := F)) Variants.nat (c : Thread nD τ) none) Set.univ
          (cc0_multi_slice_lora (F := F) E.arg0 E.harg0 E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.arg22 E.harg22 E.arg23 E.arg24 E.arg25 E.arg26 E.arg27 E.arg28 E.arg29)
          (fun _ => BodyPost c E I) := by
  rw [cc0_multi_slice_lora_eq_skeleton]
  unfold cc0_multi_slice_lora_skel
  iintro H
  iapply (wp_part (c : Thread nD τ) Variants.nat none _ (part38_spec c E G)) $$ H
  iintro ⟨⟨%w, HI⟩, ⟨H5, H6, H7, H9, H14, H15, W0, W1, S0, CB⟩⟩
  ihave HI := (show T4inv c E I 24 w ⊢ iprop(⌜w = BitVec.ofNat 32 (I.car 24)⌝ ∗ xIdle c E I 0 ∗ xIdle c E I 1 ∗ (lBusy c E I 23 ∗ At (c : Thread nD τ) E.arg11.view fullShare (below keyH 23) I.LH ∗ Any (c : Thread nD τ) E.arg11.view (above keyH 24))
    ∗ Fix c E I ∗ Off c E I ∗ Any (c : Thread nD τ) E.arg18.view Finset.univ ∗ Any (c : Thread nD τ) E.arg19.view Finset.univ ∗ At (c : Thread nD τ) E.arg12.view fullShare Finset.univ I.W ∗ At (c : Thread nD τ) E.arg17.view fullShare Finset.univ I.Bv ∗ Yinv c E I.Yv 384 ∗ Ow c) from .rfl) $$ HI
  icases HI with ⟨-, ⟨H5a, H13a, X0⟩, ⟨H5b, H13b, X1⟩, ⟨LB, HL, -⟩, ⟨⟨H1, H2⟩, H3, H4, H8, H16, CA, H20⟩, H0, H18, H19, H12, H17, HY, HO⟩
  iapply (wp_part (c : Thread nD τ) Variants.nat none _ (part39_spec c E)) $$ [HY HO]
  · isplitl [HY] <;> iassumption
  iintro ⟨HY, H22, Y0, Y1, Y2, Y3, HO⟩
  iapply (wp_wt (c : Thread nD τ) Variants.nat none (N := Nl E) E.arg29.sem rfl rfl) $$ [LB HO]
  · isplitl [LB] <;> iassumption
  iintro ⟨⟨HD, H21⟩, L0, HO⟩
  ihave HL := (below_snoc (c : Thread nD τ)) $$ [HL HD]
  · isplitl [HL] <;> iassumption
  ihave HL := (ent_of_eq (congrArg (fun S => At (c : Thread nD τ) E.arg11.view fullShare S I.LH) (below_all keyH 24 (fun r => by
    have h0 : (r 2).val < 12288 := (r 2).isLt
    show (r 2).val / 512 < 24
    omega)))) $$ HL
  iapply (wp_done (c : Thread nD τ) Variants.nat none)
  isplitl [H0 H1 H2 H3 H4]
  · isplitl [H0]; · iexact H0
    isplitl [H1]; · iexact H1
    isplitl [H2]; · iexact H2
    isplitl [H3] <;> iassumption
  isplitl [H5 H5a H5b H6 H7 H8 H9]
  · isplitl [H5 H5a H5b]
    · iapply (lend_two (c : Thread nD τ)).2
      isplitl [H5]; · iexact H5
      isplitl [H5a] <;> iassumption
    isplitl [H6]; · iexact H6
    isplitl [H7]; · iexact H7
    isplitl [H8]; · iapply (three_of (c : Thread nD τ)).2 $$ H8
    iexact H9
  isplitl [HY]; · iexact HY
  isplitl [HL]; · iexact HL
  isplitl [H12 H13a H13b H14 H15 H16 H17 H18 H19 H20 H21 H22]
  · isplitl [H12]; · iapply (Any_of_At (c : Thread nD τ)) $$ H12
    isplitl [H13a H13b]
    · iapply (of_two (c : Thread nD τ))
      isplitl [H13a] <;> iassumption
    isplitl [H14]; · iexact H14
    isplitl [H15]; · iexact H15
    isplitl [H16]; · iexact H16
    isplitl [H17]; · iapply (Any_of_At (c : Thread nD τ)) $$ H17
    isplitl [H18]; · iexact H18
    isplitl [H19]; · iexact H19
    isplitl [H20]; · iexact H20
    isplitl [H21]; · iapply (Any_of_At (c : Thread nD τ)) $$ H21
    iexact H22
  isplitr [HO]
  · isplitl [X0]; · iexact X0
    isplitl [X1]; · iexact X1
    isplitl [W0]; · iexact W0
    isplitl [W1]; · iexact W1
    isplitl [S0]; · iexact S0
    isplitl [CA]; · iexact CA
    isplitl [CB]; · iexact CB
    isplitl [Y0]; · iexact Y0
    isplitl [Y1]; · iexact Y1
    isplitl [Y2]; · iexact Y2
    isplitl [Y3] <;> iassumption
  iexact HO

end Cert.KernelIdeal.Hand

end
-- ==== Proof.Run.KI.Run.lean ====
/-
  The launch: the five tables are staged, the body runs on the operands left in HBM, and the two results are
  reshaped. What every buffer holds at the end, from any memory whose tables are good.
-/
module

public import proofs.«01_k».proof.Proof.Run.KI.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffixV
public import Idealize.ShloMosaic.Lib.Pipeline.TableIdle

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

/-- The body's buffers and cells. -/
abbrev E0 (t : Fin (cfg0 (F := F)).N) : Env := ⟨(win0_0.stage ((cfg0 (F := F)).slots t 0)), (hstage0_0 0), (win0_1.stage ((cfg0 (F := F)).slots t 1)), (hstage0_1 0), (win0_2.stage ((cfg0 (F := F)).slots t 2)), (hstage0_2 0), (win0_3.stage ((cfg0 (F := F)).slots t 3)), (hstage0_3 0), (win0_4.stage ((cfg0 (F := F)).slots t 4)), (hstage0_4 0), (Memref.whole main_v0), (Memref.isWhole_whole _), (Memref.whole main_arg1), (Memref.isWhole_whole _), (Memref.whole main_arg2), (Memref.isWhole_whole _), (Memref.whole main_arg3), (Memref.isWhole_whole _), (Memref.whole main_arg4), (Memref.isWhole_whole _), (Memref.whole main_v1_0), (Memref.isWhole_whole _), (Memref.whole main_v1_1), (Memref.isWhole_whole _), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _), (Memref.whole cc0_scratch5), (Memref.isWhole_whole _), (Memref.whole cc0_scratch6), (Memref.isWhole_whole _), (Memref.whole cc0_scratch7), (Memref.isWhole_whole _), (Memref.whole cc0_scratch8), (Memref.isWhole_whole _), (Memref.whole cc0_scratch9), (Memref.isWhole_whole _), (Memref.whole cc0_scratch10), (Memref.isWhole_whole _), cc0_scratch11, cc0_scratch12, cc0_scratch13, cc0_scratch14, cc0_scratch15, cc0_scratch16, cc0_scratch17⟩

/-- What the buffers hold when the kernel is launched. -/
abbrev V0 (c : Dev nD) : Valuation τ sig (Elt F) := StableHlo.after hostOps0 (fun b => m (c, b))
/-- The same, buffer by buffer. -/
abbrev V (c : Dev nD) (b : Ref sig .tc) : Buf (Elt F) ((c : Thread nD τ).loc b) := V0 m c (Proc.devRef .tc b)

/-- The kernel's inputs. -/
abbrev I0 (c : Dev nD) : In F where
  off := V m c main_arg8
  seg := V m c main_arg9
  start := V m c main_arg5
  rank := V m c main_arg6
  scal := V m c main_arg7
  X := V m c main_v0
  WP := V m c main_arg1
  WS := V m c main_arg2
  A := V m c main_arg3
  B := V m c main_arg4

/-- The kernel's cells: the thirty-seven after the staging's five. -/
abbrev osem0 : Fin 37 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 37 → SemLoc sig) j
theorem ownSemFacts0 : Pipeline.OwnSemFacts spec0 osem0 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl

theorem cells_of (c : Dev nD) (t : Fin (cfg0 (F := F)).N) :
    (Pipeline.ownSems0 (Ix := Unit) (Name := ℕ) (U := Pipeline.UD sig nD τ) (Lvl := ℕ) (Val := Elt F) (τ := τ) osem0 c : sProp 𝕄) ⊢ Cells (F := F) c (E0 (F := F) t) := by
  rw [ownSems00_eq]
  unfold Cells
  simp only [Rg_succ, Rg_zero]
  iintro ⟨Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41⟩
  isplitl [Q5]; · iexact Q5
  isplitl [Q6]; · iexact Q6
  isplitl [Q7]; · iexact Q7
  isplitl [Q8]; · iexact Q8
  isplitl [Q9]; · iexact Q9
  isplitl [Q10 Q11 Q12 Q13 Q14 Q15 Q16 Q17]
  · isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    iempintro
  isplitl [Q18 Q19 Q20 Q21 Q22 Q23 Q24 Q25 Q26 Q27 Q28 Q29 Q30 Q31 Q32 Q33 Q34 Q35 Q36]
  · isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    iempintro
  isplitl [Q37]; · iexact Q37
  isplitl [Q38]; · iexact Q38
  isplitl [Q39]; · iexact Q39
  isplitl [Q40]; · iexact Q40
  iexact Q41

theorem of_cells (c : Dev nD) (t : Fin (cfg0 (F := F)).N) :
    Cells (F := F) c (E0 (F := F) t) ⊢ (Pipeline.ownSems0 (Ix := Unit) (Name := ℕ) (U := Pipeline.UD sig nD τ) (Lvl := ℕ) (Val := Elt F) (τ := τ) osem0 c : sProp 𝕄) := by
  rw [ownSems00_eq]
  unfold Cells
  simp only [Rg_succ, Rg_zero]
  iintro ⟨Q5, Q6, Q7, Q8, Q9, ⟨Q10, Q11, Q12, Q13, Q14, Q15, Q16, Q17, -⟩, ⟨Q18, Q19, Q20, Q21, Q22, Q23, Q24, Q25, Q26, Q27, Q28, Q29, Q30, Q31, Q32, Q33, Q34, Q35, Q36, -⟩, Q37, Q38, Q39, Q40, Q41⟩
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  iexact Q41

theorem At_whole (c : Thread nD τ) {sp : Space} {s : Shape} {e : EltTy} (M : Memref sig c.2.kind sp s e) (q : PosShare TreeShare) (X : s.Idx → Elt F e) :
    (At c M.view q Finset.univ X : sProp 𝕄) = owns c M q X := by
  rw [Idealize.ShloMosaic.owns_eq_rep]; rfl

theorem At_ref (c : Thread nD τ) (b : Ref sig c.2.kind) (q : PosShare TreeShare) (f : b.ty.Contents (Elt F)) :
    (At c (Memref.whole b).view q Finset.univ f : sProp 𝕄) = ((c.loc b) ↦{q} f) := by
  rw [At_whole, owns_whole]

theorem Any_ref (c : Thread nD τ) (b : Ref sig c.2.kind) :
    (Any c (Memref.whole b).view Finset.univ : sProp 𝕄) = iprop(∃ f : Buf (Elt F) (c.loc b), (c.loc b) ↦{fullShare} f) := by
  unfold Any
  exact congrArg _ (funext fun f => At_ref c b fullShare f)

/-- The operands read by copies. -/
def H0 : Finset (Ref sig .tc) := {main_v0, main_arg1, main_arg2, main_arg3, main_arg4}
theorem H0_sub : H0 ⊆ Pipeline.restRefs sig spec0 := by decide +kernel
/-- The results written by copies. -/
def R0 : Finset (Ref sig .tc) := {main_v1_0, main_v1_1}
theorem R0_sub : R0 ⊆ Pipeline.restRefs sig spec0 \ H0 := by decide +kernel

theorem scr_eq (c : Dev nD) (t : Fin (cfg0 (F := F)).N) :
    (Pipeline.scopedRest (Ix := Unit) (Name := ℕ) (U := Pipeline.UD sig nD τ) (Lvl := ℕ) (Val := Elt F) spec0 c : sProp 𝕄) = Scrs (F := F) c (E0 (F := F) t) := by
  rw [scopedRest0_eq]
  simp only [Scrs, E0]
  rw [Any_ref (c : Thread nD τ) cc0_scratch0, Any_ref (c : Thread nD τ) cc0_scratch1, Any_ref (c : Thread nD τ) cc0_scratch2, Any_ref (c : Thread nD τ) cc0_scratch3, Any_ref (c : Thread nD τ) cc0_scratch4, Any_ref (c : Thread nD τ) cc0_scratch5, Any_ref (c : Thread nD τ) cc0_scratch6, Any_ref (c : Thread nD τ) cc0_scratch7, Any_ref (c : Thread nD τ) cc0_scratch8, Any_ref (c : Thread nD τ) cc0_scratch9, Any_ref (c : Thread nD τ) cc0_scratch10]

theorem H0_eq (c : Dev nD) (t : Fin (cfg0 (F := F)).N) :
    (bigSep H0 (fun b => ((c : Thread nD τ).loc b) ↦{fullShare} V m c b) : sProp 𝕄) = Opnds c (E0 (F := F) t) (I0 m c) := by
  rw [BI.bigSep_eq_bigSepL_of_eq [main_v0, main_arg1, main_arg2, main_arg3, main_arg4] (by decide) (by decide)]
  simp only [Opnds, E0]
  rw [At_ref (c : Thread nD τ) main_v0 fullShare (V m c main_v0), At_ref (c : Thread nD τ) main_arg1 fullShare (V m c main_arg1), At_ref (c : Thread nD τ) main_arg2 fullShare (V m c main_arg2),
    At_ref (c : Thread nD τ) main_arg3 fullShare (V m c main_arg3), At_ref (c : Thread nD τ) main_arg4 fullShare (V m c main_arg4)]
  rfl

theorem R0_eq (c : Dev nD) (t : Fin (cfg0 (F := F)).N) (G : (b : Ref sig .tc) → Buf (Elt F) ((c : Thread nD τ).loc b)) :
    (bigSep R0 (fun b => ((c : Thread nD τ).loc b) ↦{fullShare} G b) : sProp 𝕄)
      = iprop(At (c : Thread nD τ) (Memref.whole main_v1_0).view fullShare Finset.univ (G main_v1_0) ∗ At (c : Thread nD τ) (Memref.whole main_v1_1).view fullShare Finset.univ (G main_v1_1)) := by
  rw [BI.bigSep_eq_bigSepL_of_eq [main_v1_0, main_v1_1] (by decide) (by decide)]
  rw [At_ref (c : Thread nD τ) main_v1_0 fullShare (G main_v1_0), At_ref (c : Thread nD τ) main_v1_1 fullShare (G main_v1_1)]
  rfl

/-- What the body leaves: the two results at their values. -/
def G0 (c : Dev nD) : (b : Ref sig .tc) → Buf (Elt F) ((c : Thread nD τ).loc b) :=
  Function.update (Function.update (V m c) main_v1_0 (I0 m c).Yv) main_v1_1 (I0 m c).LH

theorem G0_y (c : Dev nD) : G0 m c main_v1_0 = (I0 m c).Yv := by
  unfold G0
  rw [Function.update_of_ne (by decide), Function.update_self]
theorem G0_l (c : Dev nD) : G0 m c main_v1_1 = (I0 m c).LH := by
  unfold G0
  rw [Function.update_self]

/-- The proof data of the one pipeline: the tables are left as staged, the results change from launch to end. -/
def dats (_ : Fin 1) (c : Dev nD) : Pipeline.Dat τ (Elt F) Unit ℕ (Pipeline.UD sig nD τ) ℕ (cfg0 (F := F)) c where
  A w := V m c (Pipeline.arrRef spec0 w)
  after w t := match w with
    | ⟨0, _⟩ => (I0 m c).off
    | ⟨1, _⟩ => (I0 m c).seg
    | ⟨2, _⟩ => (I0 m c).start
    | ⟨3, _⟩ => (I0 m c).rank
    | ⟨4, _⟩ => (I0 m c).scal
  Φ k := Pipeline.ΦDRV osem0 spec0 H0 R0 (V m) (if k.val = 0 then V m else G0 m) c
  q _ := fullShare
  owed _ := 0

theorem A_eq (c : Dev nD) (w : Fin (cfg0 (F := F)).W) : (dats m 0 c).A w = V m c (Pipeline.arrRef spec0 w) := by
  dsimp only [dats]

theorem before_0 (c : Dev nD) (t : Fin (cfg0 (F := F)).N) (d) : (dats m 0 c).before 0 t d = (I0 m c).off := by
  rw [(dats m 0 c).before_fetched 0 t (fetch0_0 t) d]
  funext x
  refine congrArg (V m c main_arg8) ?_
  funext a; apply Fin.ext
  show 0 * _ + 1 * (x a).val = (x a).val
  omega

theorem before_1 (c : Dev nD) (t : Fin (cfg0 (F := F)).N) (d) : (dats m 0 c).before 1 t d = (I0 m c).seg := by
  rw [(dats m 0 c).before_fetched 1 t (fetch0_1 t) d]
  funext x
  refine congrArg (V m c main_arg9) ?_
  funext a; apply Fin.ext
  show 0 * _ + 1 * (x a).val = (x a).val
  omega

theorem before_2 (c : Dev nD) (t : Fin (cfg0 (F := F)).N) (d) : (dats m 0 c).before 2 t d = (I0 m c).start := by
  rw [(dats m 0 c).before_fetched 2 t (fetch0_2 t) d]
  funext x
  refine congrArg (V m c main_arg5) ?_
  funext a; apply Fin.ext
  show 0 * _ + 1 * (x a).val = (x a).val
  omega

theorem before_3 (c : Dev nD) (t : Fin (cfg0 (F := F)).N) (d) : (dats m 0 c).before 3 t d = (I0 m c).rank := by
  rw [(dats m 0 c).before_fetched 3 t (fetch0_3 t) d]
  funext x
  refine congrArg (V m c main_arg6) ?_
  funext a; apply Fin.ext
  show 0 * _ + 1 * (x a).val = (x a).val
  omega

theorem before_4 (c : Dev nD) (t : Fin (cfg0 (F := F)).N) (d) : (dats m 0 c).before 4 t d = (I0 m c).scal := by
  rw [(dats m 0 c).before_fetched 4 t (fetch0_4 t) d]
  funext x
  refine congrArg (V m c main_arg7) ?_
  funext a; apply Fin.ext
  show 0 * _ + 1 * (x a).val = (x a).val
  omega

theorem Ow_of (c : Dev nD) (k) : ((dats m 0 c).owesAt () k : sProp 𝕄) ⊢ Ow c := by
  unfold Pipeline.Dat.owesAt Pipeline.owesWithin
  rw [show (dats m 0 c).owed k = 0 from rfl]
  iintro ⟨%W, -, HW⟩
  iexists W; iexact HW

theorem of_Ow (c : Dev nD) (k) : Ow c ⊢ ((dats m 0 c).owesAt () k : sProp 𝕄) := by
  unfold Pipeline.Dat.owesAt Pipeline.owesWithin
  rw [show (dats m 0 c).owed k = 0 from rfl]
  iintro ⟨%W, HW⟩
  iexists W
  isplitr
  · ipureintro; exact fun _ _ => Or.inl trivial
  iexact HW

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

theorem tab_of (c : Dev nD) (t : Fin (cfg0 (F := F)).N) :
    iprop((∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))) ⊢ Tabs c (E0 (F := F) t) (I0 m c) := by
  simp only [before_0, before_1, before_2, before_3, before_4]
  unfold Tabs
  rw [At_whole, At_whole, At_whole, At_whole, At_whole]
  iintro ⟨⟨%_, T0⟩, ⟨%_, T1⟩, ⟨%_, T2⟩, ⟨%_, T3⟩, ⟨%_, T4⟩⟩
  isplitl [T0]; · iexact T0
  isplitl [T1]; · iexact T1
  isplitl [T2]; · iexact T2
  isplitl [T3]; · iexact T3
  iexact T4

theorem of_tab (c : Dev nD) (t : Fin (cfg0 (F := F)).N) :
    Tabs c (E0 (F := F) t) (I0 m c) ⊢ iprop(owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)) := by
  unfold Tabs
  rw [At_whole, At_whole, At_whole, At_whole, At_whole]
  iintro ⟨T0, T1, T2, T3, T4⟩
  isplitl [T0]; · iexact T0
  isplitl [T1]; · iexact T1
  isplitl [T2]; · iexact T2
  isplitl [T3]; · iexact T3
  iexact T4

theorem t_zero (t : Fin (cfg0 (F := F)).N) : t.val = 0 := by
  have h := fin_N0 t
  rw [h]; rfl

theorem sound_body (c : Dev nD) (hG : Good (I0 m c)) (t : Fin (cfg0 (F := F)).N) :
    bodyPre m c t ⊢ wp frame (wpE (defs₀ (F := F)) Variants.nat (c : Thread nD τ) none) Set.univ (bodyAt0 t) (fun _ => bodyPost m c t) := by
  have ht := t_zero t
  unfold bodyPre bodyPost
  rw [show (dats m 0 c).Φ t.castSucc = Pipeline.ΦDRV osem0 spec0 H0 R0 (V m) (V m) c from by
      show Pipeline.ΦDRV osem0 spec0 H0 R0 (V m) (if t.val = 0 then V m else G0 m) c = _
      rw [if_pos ht],
    show (dats m 0 c).Φ t.succ = Pipeline.ΦDRV osem0 spec0 H0 R0 (V m) (G0 m) c from by
      show Pipeline.ΦDRV osem0 spec0 H0 R0 (V m) (if t.val + 1 = 0 then V m else G0 m) c = _
      rw [if_neg (Nat.succ_ne_zero _)]]
  unfold Pipeline.ΦDRV
  rw [scr_eq c t, H0_eq m c t, R0_eq c t, R0_eq c t, G0_y, G0_l]
  iintro ⟨⟨HS, HC, HH, ⟨HY, HL⟩⟩, HO, HT⟩
  ihave HC := (cells_of (F := F) c t) $$ HC
  ihave HO := (Ow_of m c _) $$ HO
  ihave HT := (tab_of m c t) $$ HT
  ihave HW := (body_spec c (E0 (F := F) t) hG) $$ [HS HC HH HY HL HO HT]
  · isplitl [HT]; · iexact HT
    isplitl [HH]; · iexact HH
    isplitl [HY]; · iapply (Any_of_At (c : Thread nD τ)) $$ HY
    isplitl [HL]; · iapply (Any_of_At (c : Thread nD τ)) $$ HL
    isplitl [HS]; · iexact HS
    isplitl [HC]; · iexact HC
    iexact HO
  iapply (wp_mono _ _ _ ?_) $$ HW
  intro _
  iintro ⟨HT, HH, HY, HL, HS, HC, HO⟩
  isplitl [HS HC HH HY HL]
  · isplitl [HS]; · iexact HS
    isplitl [HC]; · iapply (of_cells (F := F) c t) $$ HC
    isplitl [HH]; · iexact HH
    isplitl [HY]; · iexact HY
    iexact HL
  isplitl [HO]; · iapply (of_Ow m c _) $$ HO
  iapply (of_tab m c t) $$ HT

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) (hG : Good (I0 m c)) : Pipeline.BodyObligation (dats m 0 c) (defs₀ (F := F)) Variants.nat () Set.univ := fun t => by
  rw [bigSep_W0, bigSep_W0, defs₀_row]
  exact triple_restated (sound_body m c hG t) rfl .rfl fun _ => .rfl

end Cert.KernelIdeal.Hand

end
-- ==== Proof.Run.KI.Launch.lean ====
/-
  The run as a whole: both results as functions of the arguments, the arguments unchanged, every cell back at zero.
-/
module

public import proofs.«01_k».proof.Proof.Run.KI.Run
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffixV
public import Idealize.ShloMosaic.Lib.Pipeline.TableIdle

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

theorem hostOps0_sub' : ([hostOps0] : List (List (HloOp τ sig (Elt F)))).Forall fun ops => ops.Forall fun op => op.bufs ⊆ StableHlo.tcRefs τ sig :=
  List.forall_iff_forall_mem.mpr fun ops h => by
    obtain rfl := List.mem_singleton.mp h
    exact hostOps0_sub
theorem hostOps0_fresh' : ([hostOps0] : List (List (HloOp τ sig (Elt F)))).Forall fun ops => ops.Forall fun op => op.fresh = ∅ :=
  List.forall_iff_forall_mem.mpr fun ops h => List.forall_iff_forall_mem.mpr fun op ho => by
    obtain rfl := List.mem_singleton.mp h
    obtain rfl := List.mem_singleton.mp ho
    rfl
theorem ops1_sub : ∀ ops ∈ ([hostOps1] : List (List (HloOp τ sig (Elt F)))), ∀ op ∈ ops, op.bufs ⊆ Pipeline.tailRefs sig Pipeline.Prefetch.none spec0 := fun ops ho op hop => by
  obtain rfl := List.mem_singleton.mp ho
  rw [Pipeline.tailRefs_none _ (by decide)]
  exact Pipeline.sub_ucRefs op (List.forall_iff_forall_mem.mp hostOps1_sub op hop)
theorem ops1_fresh : ∀ ops ∈ ([hostOps1] : List (List (HloOp τ sig (Elt F)))), ∀ op ∈ ops, op.fresh = ∅ := fun ops ho op hop => by
  obtain rfl := List.mem_singleton.mp ho
  simp only [List.mem_cons, List.mem_nil_iff, _root_.or_false] at hop
  rcases hop with rfl | rfl <;> rfl
theorem ops1_keep : ∀ ops ∈ ([hostOps1] : List (List (HloOp τ sig (Elt F)))), ∀ op ∈ ops, ∀ w, Proc.devRef .tc (Pipeline.arrRef spec0 w) ∉ op.writes := fun ops ho op hop w => by
  obtain rfl := List.mem_singleton.mp ho
  simp only [List.mem_cons, List.mem_nil_iff, _root_.or_false] at hop
  rcases hop with rfl | rfl
  · show Proc.devRef .tc (Pipeline.arrRef spec0 w) ∉ ({Proc.devRef .tc main_v2} : Finset (DevRef τ sig)); revert w; decide
  · show Proc.devRef .tc (Pipeline.arrRef spec0 w) ∉ ({Proc.devRef .tc main_v3} : Finset (DevRef τ sig)); revert w; decide

theorem hmain : Pipeline.HMainK (Ix := Unit) (Name := ℕ) (U := Pipeline.UD sig nD τ) (Lvl := ℕ) cfgs 0 (defs₀ (F := F)) Variants.nat m main
    (fun c b => V0 m c (Proc.devRef .tc b)) (fun _ => Pipeline.chain ([hostOps1].map StableHlo.seq)) :=
  Pipeline.hmain_around cfgs 0 defs₀ Variants.nat m main [hostOps0] [hostOps1] hostOps0_sub' hostOps0_fresh' main_chain

/-- What the buffers hold at the end. -/
abbrev VEnd (c : Dev nD) : Valuation τ sig (Elt F) :=
  StableHlo.after hostOps1 (Pipeline.withArrays spec0 c (Pipeline.withR (V0 m c) R0 c (G0 m c)) fun w => (dats m 0 c).arrAt w (cfg0 (F := F)).N)

set_option backward.isDefEq.respectTransparency.types false in
/-- The run: every buffer that is no window ends as `VEnd` says, the tables unchanged, the cells at zero. -/
theorem run_main (hG : ∀ c, Good (I0 m c)) : θ_run defs (onTc (τ := τ) (main (F := F))) (s₀ m ρ) (fun r =>
      (∀ c : Dev nD, (∀ w, r.2.mem ((spec0 w).arr.view.loc (c.tc : Thread nD τ)) = (dats m 0 c).arrAt w (cfg0 (F := F)).N)
        ∧ ∀ b ∈ Pipeline.restRefs sig spec0, r.2.mem ((c.tc : Thread nD τ).loc b) = VEnd m c (Proc.devRef .tc b)) ∧ r.2.sem = fun _ => 0) :=
  Pipeline.θ_run_frame_dmaR_aroundV cfgs (dats m) (0 : Fin 1) launch0 osem0 defs₀ Variants.nat ownSemFacts0 H0 R0 H0_sub R0_sub m ρ main
    (hbody := fun c => (body_obligation m c (hG c)).loose) (hshare := fun c => (dats m 0 c).share_full fun _ => rfl)
    (howed := fun _ _ => rfl) (V₀ := V0 m) (opss := [hostOps1])
    (hsub := ops1_sub) (hfresh := ops1_fresh) (hkeep := ops1_keep)
    (G := G0 m) (hmain := hmain m) (hA := A_eq m)
    (hin := fun _ => .rfl) (hout := fun _ => .rfl)
    (Q' := fun r => (∀ c : Dev nD, (∀ w, r.2.mem ((spec0 w).arr.view.loc (c.tc : Thread nD τ)) = (dats m 0 c).arrAt w (cfg0 (F := F)).N)
        ∧ ∀ b ∈ Pipeline.restRefs sig spec0, r.2.mem ((c.tc : Thread nD τ).loc b) = VEnd m c (Proc.devRef .tc b)) ∧ r.2.sem = fun _ => 0)
    (hQ' := fun r h => h)

/-- An unscoped buffer that the passes over arguments and results do not write, no window and no result of the kernel, keeps what it held. -/
theorem VEnd_keep (c : Dev nD) (b : Ref sig .tc) (h0 : b ≠ main_v0) (h1 : b ∉ R0) (h2 : b ≠ main_v2) (h3 : b ≠ main_v3)
    (hw : ∀ w, Pipeline.arrRef spec0 w ≠ b) : VEnd m c (Proc.devRef .tc b) = m ((c.tc : Thread nD τ).loc b) := by
  have e : ∀ {a b : Ref sig .tc}, a ≠ b → (Proc.devRef .tc a : DevRef τ sig) ≠ Proc.devRef .tc b := fun h h' => h (Proc.devRef_injective _ h')
  unfold VEnd
  rw [StableHlo.after_of_forall_not_mem, Pipeline.withArrays_of_ne (hb := hw), Pipeline.withR_of_not_mem (hb := h1)]
  · show StableHlo.after hostOps0 _ _ = _
    rw [StableHlo.after_of_forall_not_mem]
    intro op ho
    obtain rfl := List.mem_singleton.mp ho
    exact fun h => e h0 (Finset.mem_singleton.mp h)
  · intro op ho
    simp only [List.mem_cons, List.mem_nil_iff, _root_.or_false] at ho
    rcases ho with rfl | rfl
    · exact fun h => e h2 (Finset.mem_singleton.mp h)
    · exact fun h => e h3 (Finset.mem_singleton.mp h)

/-- The first result, the kernel's first output under another shape. -/
theorem VEnd_y (c : Dev nD) : VEnd m c (Proc.devRef .tc main_v2)
    = (shapeCast S12x1024x8192 (I0 m c).Yv shapeCasts_S12288x8192_S12x1024x8192 : main_v2.ty.Contents (Elt F)) := by
  have h : Pipeline.withArrays spec0 c (Pipeline.withR (V0 m c) R0 c (G0 m c)) (fun w => (dats m 0 c).arrAt w (cfg0 (F := F)).N) (Proc.devRef .tc main_v1_0) = (I0 m c).Yv := by
    rw [Pipeline.withArrays_of_ne (hb := by decide), Pipeline.withR_of_mem (hb := by decide), G0_y]
  unfold VEnd
  rw [StableHlo.after_cons, StableHlo.after_cons, StableHlo.after_nil, StableHlo.unary_result_ne' (h := by decide), StableHlo.reshape_result', h]
  rfl

/-- The second result, the kernel's second output with its axes turned. -/
theorem VEnd_l (c : Dev nD) : VEnd m c (Proc.devRef .tc main_v3)
    = (transpose S12288x3x32 [2, 0, 1] (I0 m c).LH transposes_S3x32x12288_S12288x3x32_2_0_1 : main_v3.ty.Contents (Elt F)) := by
  have h : Pipeline.withArrays spec0 c (Pipeline.withR (V0 m c) R0 c (G0 m c)) (fun w => (dats m 0 c).arrAt w (cfg0 (F := F)).N) (Proc.devRef .tc main_v1_1) = (I0 m c).LH := by
    rw [Pipeline.withArrays_of_ne (hb := by decide), Pipeline.withR_of_mem (hb := by decide), G0_l]
  unfold VEnd
  rw [StableHlo.after_cons, StableHlo.after_cons, StableHlo.after_nil, StableHlo.unary_result', StableHlo.reshape_result_ne' (h := by decide), h]

theorem arr_keep (c : Dev nD) (w : Fin 5) : (dats m 0 c).arrAt w (cfg0 (F := F)).N = m ((c.tc : Thread nD τ).loc (Pipeline.arrRef spec0 w)) := by
  refine ((dats m 0 c).arrAt_in w (by fin_cases w <;> rfl) _).trans ?_
  have e : ∀ {a b : Ref sig .tc}, a ≠ b → (Proc.devRef .tc a : DevRef τ sig) ≠ Proc.devRef .tc b := fun h h' => h (Proc.devRef_injective _ h')
  have hn : main_v0 ≠ Pipeline.arrRef spec0 w := by revert w; decide
  have hk : V0 m c (Proc.devRef .tc (Pipeline.arrRef spec0 w)) = m ((c.tc : Thread nD τ).loc (Pipeline.arrRef spec0 w)) := by
    show StableHlo.after hostOps0 _ _ = _
    rw [StableHlo.after_of_forall_not_mem]
    intro op ho
    obtain rfl := List.mem_singleton.mp ho
    exact fun h => e hn (Finset.mem_singleton.mp h).symm
  rw [← hk]
  fin_cases w <;> rfl

/-- The run from a memory that meets the precondition: both results, the arguments as they were, the cells at zero. -/
theorem run_value (hG : ∀ c, Good (I0 m c)) : θ_run defs (onTc (τ := τ) (main (F := F))) (s₀ m ρ) (fun r =>
      (∀ c : Dev nD, r.2.mem ((c.tc : Thread nD τ).loc main_v2) = (shapeCast S12x1024x8192 (I0 m c).Yv shapeCasts_S12288x8192_S12x1024x8192 : main_v2.ty.Contents (Elt F))
        ∧ r.2.mem ((c.tc : Thread nD τ).loc main_v3) = (transpose S12288x3x32 [2, 0, 1] (I0 m c).LH transposes_S3x32x12288_S12288x3x32_2_0_1 : main_v3.ty.Contents (Elt F))
        ∧ ∀ b ∈ ([main_arg0, main_arg1, main_arg2, main_arg3, main_arg4, main_arg5, main_arg6, main_arg7, main_arg8, main_arg9] : List (Ref sig .tc)), r.2.mem ((c.tc : Thread nD τ).loc b) = m ((c.tc : Thread nD τ).loc b))
      ∧ r.2.sem = fun _ => 0) := by
  refine (θ_run _ _ _).mono (fun r h => ⟨fun c => ⟨?_, ?_, ?_⟩, h.2⟩) (run_main m ρ hG)
  · rw [(h.1 c).2 main_v2 (by decide), VEnd_y]
  · rw [(h.1 c).2 main_v3 (by decide), VEnd_l]
  · have ho : ∀ b ∈ ([main_arg0, main_arg1, main_arg2, main_arg3, main_arg4] : List (Ref sig .tc)), b ∈ Pipeline.restRefs sig spec0 ∧ b ≠ main_v0 ∧ b ∉ R0 ∧ b ≠ main_v2 ∧ b ≠ main_v3 ∧ ∀ w, Pipeline.arrRef spec0 w ≠ b := by decide
    have hw : ∀ b ∈ ([main_arg5, main_arg6, main_arg7, main_arg8, main_arg9] : List (Ref sig .tc)), ∃ w, Pipeline.arrRef spec0 w = b := by decide
    intro b hb
    rcases List.mem_append.mp (show b ∈ ([main_arg0, main_arg1, main_arg2, main_arg3, main_arg4] : List (Ref sig .tc)) ++ [main_arg5, main_arg6, main_arg7, main_arg8, main_arg9] from hb) with hb | hb
    · obtain ⟨h1, h2, h3, h4, h5, h6⟩ := ho b hb
      rw [(h.1 c).2 b h1, VEnd_keep m c b h2 h3 h4 h5 h6]
    · obtain ⟨w, rfl⟩ := hw b hb
      exact ((h.1 c).1 w).trans (arr_keep m c w)

end Cert.KernelIdeal.Hand

end
-- ==== Proof.Run.KI.Good.lean ====
/-
  The precondition, as the run uses it.
-/
module

public import proofs.«01_k».proof.Proof.Run.KI.Run
public import proofs.«01_k».proof.Proof.Pre
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffixV
public import Idealize.ShloMosaic.Lib.Pipeline.TableIdle

@[expose] public section

noncomputable section

namespace Cert.KernelIdeal.Hand

open Cert.KernelIdeal Cert.KernelIdeal.Gen Lora
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (m : (ℓ : Loc nD τ sig) → Buf (Elt F) ℓ) (ρ : Dev nD → PrngReg)

/-- A buffer that the pass over the arguments does not write holds at the launch what it held at the start. -/
theorem V_keep (c : Dev nD) (b : Ref sig .tc) (h0 : main_v0 ≠ b) : V m c b = m ((c.tc : Thread nD τ).loc b) := by
  show StableHlo.after hostOps0 _ _ = _
  rw [StableHlo.after_of_forall_not_mem]
  intro op ho
  obtain rfl := List.mem_singleton.mp ho
  exact fun h => h0 (Proc.devRef_injective _ (Finset.mem_singleton.mp h)).symm

theorem Good_of_tables (I : In F) (h : Lora.Tables I.off I.seg I.start I.rank) : Good I := by
  have sg : ∀ s < 19, (I.sgw s).toNat < 23 := fun s hs => h.sg (Fin.ofNat 19 s)
  refine ⟨sg, fun s hs => ?_, fun s hs => ?_, fun s hs => ?_, h.last, fun i hi a ha => ?_⟩
  · have e := h.st (Fin.ofNat 19 s) (sg s hs)
    unfold In.st
    rwa [show Fin.ofNat 23 (I.sgw s).toNat = ⟨(I.sgw s).toNat, sg s hs⟩ from Fin.ext (Nat.mod_eq_of_lt (sg s hs))]
  · have e := h.rk (Fin.ofNat 19 s) (sg s hs)
    unfold In.rk
    rwa [show Fin.ofNat 23 (I.sgw s).toNat = ⟨(I.sgw s).toNat, sg s hs⟩ from Fin.ext (Nat.mod_eq_of_lt (sg s hs))]
  · have e := h.mono ⟨s, hs⟩
    unfold In.of
    rwa [show Fin.ofNat 20 s = (⟨s, hs⟩ : Fin 19).castSucc from Fin.ext (Nat.mod_eq_of_lt (by omega)),
      show Fin.ofNat 20 (s + 1) = (⟨s, hs⟩ : Fin 19).succ from Fin.ext (Nat.mod_eq_of_lt (by omega))]
  · have e := h.near ⟨i, hi⟩ ⟨a, ha⟩
    unfold In.of
    rwa [show Fin.ofNat 20 (a + 1) = ⟨a + 1, by omega⟩ from Fin.ext (Nat.mod_eq_of_lt (by omega)),
      show Fin.ofNat 20 (a + 6) = ⟨a + 6, by omega⟩ from Fin.ext (Nat.mod_eq_of_lt (by omega))]

/-- The precondition of the arguments' contents makes the kernel's tables good. -/
theorem good_of_pre [Cert.Pre_well_formed.Facts]
    (h : ∀ c : Dev nD, Cert.Pre_well_formed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1)
    (c : Dev nD) : Good (I0 m c) := by
  have ht := Lora.tables_of (h c)
  apply Good_of_tables
  show Lora.Tables (V m c main_arg8) (V m c main_arg9) (V m c main_arg5) (V m c main_arg6)
  rw [V_keep m c _ (by decide), V_keep m c _ (by decide), V_keep m c _ (by decide), V_keep m c _ (by decide)]
  exact ht

end Cert.KernelIdeal.Hand

end
-- ==== Proof.Frames.lean ====
/-
  The three frame claims: every program ends, leaves its arguments as they were, and leaves every semaphore at zero.
-/
module

public import proofs.«01_k».proof.Defs
public import proofs.«01_k».proof.Proof.Run.K.Launch
public import proofs.«01_k».proof.Proof.Run.K.Good
public import proofs.«01_k».proof.Proof.Run.KI.Launch
public import proofs.«01_k».proof.Proof.Run.KI.Good
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_well_formed

@[expose] public section

noncomputable section

namespace Cert.Proof

open Idealize.ShloMosaic Idealize.ShloMosaic.TcCoe Idealize.SL.Sem

/-- What a fact about each of ten buffers says of them one by one. -/
theorem ten {α : Type} {p : α → Prop} {a0 a1 a2 a3 a4 a5 a6 a7 a8 a9 : α}
    (h : ∀ b ∈ [a0, a1, a2, a3, a4, a5, a6, a7, a8, a9], p b) :
    p a0 ∧ p a1 ∧ p a2 ∧ p a3 ∧ p a4 ∧ p a5 ∧ p a6 ∧ p a7 ∧ p a8 ∧ p a9 :=
  ⟨h _ (by simp), h _ (by simp), h _ (by simp), h _ (by simp), h _ (by simp), h _ (by simp), h _ (by simp),
    h _ (by simp), h _ (by simp), h _ (by simp)⟩

/-- The kernel on bits ends, with its arguments unchanged and its semaphores at zero. -/
theorem frame_k : Cert.quiescent_Kernel := fun m ρ hp =>
  (θ_run Cert.Kernel.defs _ _).mono (fun r h => ⟨fun c => ten (h.1 c).2.2, h.2⟩)
    (Cert.Kernel.Hand.run_value (F := Bits) m ρ (Cert.Kernel.Hand.good_of_pre m hp))

/-- The kernel on the extended reals ends, with its arguments unchanged and its semaphores at zero. -/
theorem frame_ki : Cert.quiescent_KernelIdeal := fun m ρ hp =>
  (θ_run Cert.KernelIdeal.defs _ _).mono (fun r h => ⟨fun c => ten (h.1 c).2.2, h.2⟩)
    (Cert.KernelIdeal.Hand.run_value (F := Ideal) m ρ (Cert.KernelIdeal.Hand.good_of_pre m hp))

/-- The reference on the extended reals ends, with its arguments unchanged; it has no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof

end
-- ==== Proof.Value.Spec.lean ====
/-
  The layer's mathematics, token by token: what both programs are shown to compute on the extended reals.
-/
module

public import proofs.«01_k».proof.Proof.Run.KI.T4
public import Idealize.ShloMosaic.Lib.ValueIdx
public import Idealize.ShloMosaic.Lib.StackMember

@[expose] public section

noncomputable section

open scoped BigOperators

namespace Lora

open Idealize.ShloMosaic
open Cert.KernelIdeal.Hand (In sl)

variable (I : In Ideal)

/-- Token `t` lies in segment `s`. -/
def seg (t s : ℕ) : Prop := (I.of s).toInt ≤ (t : ℤ) ∧ (t : ℤ) < (I.of (s + 1)).toInt
instance (t s : ℕ) : Decidable (seg I t s) := by unfold seg; infer_instance
/-- Row `r` of segment `s`'s adapter counts for token `t`. -/
def on (t s r : ℕ) : Prop := seg I t s ∧ (r : ℤ) < (I.rk s).toInt
instance (t s r : ℕ) : Decidable (on I t s r) := by unfold on; infer_instance
/-- An entry of the activations. -/
def x (t : ℕ) (d : Fin 2048) : EReal := I.X (ix2 (Fin.ofNat 12288 t) d)
/-- An entry of the down-projections of slice `c`. -/
def a (c k : ℕ) (d : Fin 2048) : EReal := I.A (ix3 (Fin.ofNat 3 c) (Fin.ofNat 1000 k) d)
/-- An entry of the up-projections. -/
def b (k n : ℕ) : EReal := I.B (ix2 (Fin.ofNat 1000 k) (Fin.ofNat 8192 n))
/-- The scale of slice `c` for segment `s`. -/
def scale (s c : ℕ) : EReal := I.sc s c
/-- Token `t` times row `r` of segment `s`'s adapter of slice `c`, scaled. -/
def hval (t s c r : ℕ) : EReal := (∑ d, x I t d * a I c ((I.st s).toNat + r) d) * scale I s c
/-- The down-projected row of token `t`. -/
def lora (t c r : ℕ) : EReal := ∑ s ∈ Finset.range 19, if on I t s r then hval I t s c r else 0
/-- What the adapters add to the result. -/
def delta (t n : ℕ) : EReal :=
  ∑ s ∈ Finset.range 19, ∑ r ∈ Finset.range 32, (if on I t s r then hval I t s (sl (n / 512)) r else 0) * b I ((I.st s).toNat + r) n
/-- The signed four-bit code of the weight at row `d`, column `n`. -/
def code (d n : ℕ) : BitVec 32 :=
  BitVec.sshiftRight (I.WP (ix2 (Fin.ofNat 256 (d / 8)) (Fin.ofNat 8192 n)) <<< (28 - 4 * (d % 8))) 28
/-- The scale of the group of rows that row `d` lies in. -/
def ws (d n : ℕ) : EReal := I.WS (ix2 (Fin.ofNat 16 (d / 128)) (Fin.ofNat 8192 n))
/-- The base layer's result. -/
def bas (t n : ℕ) : EReal := ∑ d : Fin 2048, x I t d * ((((code I d.val n).toInt : ℝ) : EReal) * ws I d.val n)

/-- A sum over a dot's one contracted coordinate, its factors named. -/
theorem dot_sum {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx) (L R : Fin n → EReal)
    (hL : ∀ k : D.contr.Idx, ∀ c : Fin n, (k ⟨0, by omega⟩).val = c.val → l (D.lhsIdx j k) = L c)
    (hR : ∀ k : D.contr.Idx, ∀ c : Fin n, (k ⟨0, by omega⟩).val = c.val → r (D.rhsIdx j k) = R c) :
    (∑ k : D.contr.Idx, l (D.lhsIdx j k) * r (D.rhsIdx j k)) = ∑ c, L c * R c := by
  rw [← Equiv.sum_comp (ValueIdx.contrEquiv1 D n hr hs).symm]
  refine Finset.sum_congr rfl fun c _ => ?_
  rw [hL _ c (ValueIdx.contrEquiv1_symm_val D n hr hs c), hR _ c (ValueIdx.contrEquiv1_symm_val D n hr hs c)]

/-- Reading a small word as an integer. -/
theorem toInt_small (w : BitVec 32) (h : w.toNat < 2 ^ 31) : w.toInt = w.toNat := by
  rw [BitVec.toInt_eq_toNat_cond]; omega

theorem toInt_ofNat (n : ℕ) (h : n < 2 ^ 31) : (BitVec.ofNat 32 n).toInt = n := by
  rw [toInt_small _ (by rw [BitVec.toNat_ofNat]; omega), BitVec.toNat_ofNat]; omega

theorem toInt_sub_small (a b : BitVec 32) (ha : a.toNat < 2 ^ 31) (hb : b.toNat < 2 ^ 31) :
    (a - b).toInt = (a.toNat : ℤ) - b.toNat := by
  rw [BitVec.toInt_eq_toNat_cond, BitVec.toNat_sub]; omega

theorem ofBool_one (p : Prop) [Decidable p] : (BitVec.ofBool (decide p) = 1#1) ↔ p := by
  by_cases h : p <;> simp [h]

theorem and_ofBool (p q : Prop) [Decidable p] [Decidable q] :
    BitVec.ofBool (decide p) &&& BitVec.ofBool (decide q) = BitVec.ofBool (decide (p ∧ q)) := by
  by_cases h : p <;> by_cases h' : q <;> simp [h, h']

theorem select_ofBool {α : Type} (p : Prop) [Decidable p] (u v : α) :
    Scalar.select (BitVec.ofBool (decide p)) u v = if p then u else v := by
  unfold Scalar.select
  exact if_congr (ofBool_one p) rfl rfl

end Lora

end
-- ==== Proof.Value.KH.lean ====
/-
  The kernel's masked, scaled products of one segment with one tile, read at an element.
-/
module

public import proofs.«01_k».proof.Proof.Value.Spec

@[expose] public section

noncomputable section

open scoped BigOperators

namespace Lora

open Idealize.ShloMosaic
open Cert.KernelIdeal Cert.KernelIdeal.Gen
open Cert.KernelIdeal.Hand

variable {I : In Ideal} (G : Good I)

include G in
/-- How far a segment's first row lies behind the start of its window. -/
theorem sh_word (s : ℕ) (hs : s < 19) :
    (Scalar.subi (I.st s) (Scalar.minsi (Scalar.shli (Scalar.shrsi (I.st s) 3#32) 3#32) 960#32)).toNat = I.sh s ∧ I.sh s ≤ 8
      ∧ base (I.st s) + I.sh s = (I.st s).toNat := by
  have h := G.st s hs
  have hb := base_eq _ h
  have hb' := hb
  unfold base at hb'
  unfold In.sh
  refine ⟨?_, by omega, by omega⟩
  show ((I.st s) - _).toNat = _
  rw [BitVec.toNat_sub, hb']
  have := (I.st s).isLt
  omega

include G in
theorem Mk_apply (i s : ℕ) (hi : i < 24) (hs : s < 19) (r : Fin 40) (q : Fin 512) :
    I.Mk i s (ix2 r q) = BitVec.ofBool (decide (seg I (512 * i + q.val) s ∧ I.sh s ≤ r.val ∧ ((r.val - I.sh s : ℕ) : ℤ) < (I.rk s).toInt)) := by
  obtain ⟨h1, h2, h3⟩ := sh_word G s hs
  have hr := r.isLt
  have hq := q.isLt
  have e18 : (I.p18 s (ix2 r q)).toInt = (r.val : ℤ) - I.sh s := by
    have e : I.p18 s (ix2 r q) = BitVec.ofNat 32 r.val
        - Scalar.subi (I.st s) (Scalar.minsi (Scalar.shli (Scalar.shrsi (I.st s) 3#32) 3#32) 960#32) := by
      unfold In.p18 k0_pay18
      show iota .tc S40x512 32 [0] _ (ix2 r q) - _ = _
      rw [iota_single_apply]; rfl
    rw [e, toInt_sub_small _ _ (by rw [BitVec.toNat_ofNat]; omega) (by omega), h1, BitVec.toNat_ofNat]
    omega
  have e19 : I.p19 i s (ix2 r q) = BitVec.ofBool (decide (seg I (512 * i + q.val) s)) := by
    have e : I.p19 i s (ix2 r q) = IntOp.cmpi .sge (BitVec.ofNat 32 (512 * i + q.val)) (I.of s)
        &&& IntOp.cmpi .slt (BitVec.ofNat 32 (512 * i + q.val)) (I.of (s + 1)) := by
      unfold In.p19 k0_pay19
      show IntOp.cmpi .sge (BitVec.ofNat 32 (512 * i) + iota .tc S40x512 32 [1] _ (ix2 r q)) (I.of s)
        &&& IntOp.cmpi .slt (BitVec.ofNat 32 (512 * i) + iota .tc S40x512 32 [1] _ (ix2 r q)) (I.of (s + 1)) = _
      rw [iota_single_apply, ← BitVec.ofNat_add]; rfl
    rw [e, WordCmp.cmpi_sge_eq, WordCmp.cmpi_slt_eq, and_ofBool, toInt_ofNat _ (by omega)]
    rfl
  have e : I.Mk i s (ix2 r q) = I.p19 i s (ix2 r q)
      &&& (IntOp.cmpi .sge (I.p18 s (ix2 r q)) 0#32 &&& IntOp.cmpi .slt (I.p18 s (ix2 r q)) (I.rk s)) := rfl
  rw [e, e19, WordCmp.cmpi_sge_eq, WordCmp.cmpi_slt_eq, and_ofBool, and_ofBool, e18]
  congr 1
  refine decide_eq_decide.mpr (and_congr_right fun _ => ?_)
  show ((0#32 : BitVec 32).toInt ≤ _ ∧ _) ↔ _
  rw [show (0#32 : BitVec 32).toInt = 0 from rfl]
  omega

theorem D_apply (i s : ℕ) (k : Fin 120) (q : Fin 512) (hi : i < 24) :
    (I.D i s (ix2 k q) : EReal) = ∑ d, x I (512 * i + q.val) d * a I (k.val / 40) (base (I.st s) + k.val % 40) d := by
  unfold In.D k0_pay17
  simp only [matmul]
  rw [Ideal.matmul_constant_zero_apply]
  rw [dot_sum dot_S120x2048_S512x2048_S120x512_1_1_0_0_n_n 2048 rfl rfl _ _ _
    (fun d => a I (k.val / 40) (base (I.st s) + k.val % 40) d) (fun d => x I (512 * i + q.val) d) ?_ ?_]
  · exact Finset.sum_congr rfl fun d _ => mul_comm _ _
  · intro kk c hc
    refine (shapeCast_apply _ _ _ (ix3 (0 : Fin 1) k c) ?_).trans rfl
    rw [Shape.rowMajor_val_three, Shape.rowMajor_val_two]
    have e0 : (dot_S120x2048_S512x2048_S120x512_1_1_0_0_n_n.lhsIdx (ix2 k q) kk 0).val = k.val := rfl
    have e1 : (dot_S120x2048_S512x2048_S120x512_1_1_0_0_n_n.lhsIdx (ix2 k q) kk 1).val = c.val := hc
    rw [e0, e1]
    simp
  · intro kk c hc
    refine (shapeCast_apply _ _ _ (ix3 (0 : Fin 1) q c) ?_).trans rfl
    rw [Shape.rowMajor_val_three, Shape.rowMajor_val_two]
    have e0 : (dot_S120x2048_S512x2048_S120x512_1_1_0_0_n_n.rhsIdx (ix2 k q) kk 0).val = q.val := rfl
    have e1 : (dot_S120x2048_S512x2048_S120x512_1_1_0_0_n_n.rhsIdx (ix2 k q) kk 1).val = c.val := hc
    rw [e0, e1]
    simp

include G in
/-- A segment's masked, scaled products with a tile: row `r` of the window counts when it is one of the segment's rows. -/
theorem H_apply (i s c : ℕ) (hi : i < 24) (hs : s < 19) (hc : c < 3) (r : Fin 40) (q : Fin 512) :
    (I.H i s c (ix2 r q) : EReal) = if I.sh s ≤ r.val ∧ on I (512 * i + q.val) s (r.val - I.sh s)
      then hval I (512 * i + q.val) s c (r.val - I.sh s) else 0 := by
  obtain ⟨h1, h2, h3⟩ := sh_word G s hs
  have key : ∀ (k : Fin 120), k.val = 40 * c + r.val → (I.H i s c (ix2 r q) : EReal)
      = Scalar.select (I.Mk i s (ix2 r q)) ((I.D i s (ix2 k q) : EReal) * I.sc s c) (0 : EReal) →
      (I.H i s c (ix2 r q) : EReal) = if I.sh s ≤ r.val ∧ on I (512 * i + q.val) s (r.val - I.sh s)
      then hval I (512 * i + q.val) s c (r.val - I.sh s) else 0 := by
    intro k hk e
    rw [e, Mk_apply G i s hi hs, select_ofBool]
    have hr := r.isLt
    by_cases hm : I.sh s ≤ r.val ∧ on I (512 * i + q.val) s (r.val - I.sh s)
    · rw [if_pos hm, if_pos ⟨hm.2.1, hm.1, hm.2.2⟩, D_apply i s k q hi]
      unfold hval scale
      rw [show k.val / 40 = c by omega, show k.val % 40 = r.val by omega,
        show base (I.st s) + r.val = (I.st s).toNat + (r.val - I.sh s) by omega]
    · rw [if_neg hm, if_neg (fun h => hm ⟨h.2.1, h.1, h.2.2⟩)]
  have z : (Scalar.ofBits (F := Ideal) .f32 0x00000000#32 : EReal) = 0 := Ideal.ofBits_zero_f32
  have hr := r.isLt
  match c, hc with
  | 0, _ =>
    refine key ⟨r.val, by omega⟩ (by simp) ?_
    unfold In.H k0_pay22
    show Scalar.select (I.Mk i s (ix2 r q)) ((extractStridedSlice S40x512 ![0, 0] (I.D i s) _ (ix2 r q) : EReal) * I.sc s 0) _ = _
    rw [extractStridedSlice_apply _ _ _ _ (ix2 (⟨r.val, by omega⟩ : Fin 120) q) (fun e => by fin_cases e <;> simp)]
    exact congrArg _ z
  | 1, _ =>
    refine key ⟨40 + r.val, by omega⟩ (by simp) ?_
    unfold In.H k0_pay33
    show Scalar.select (I.Mk i s (ix2 r q)) ((extractStridedSlice S40x512 ![40, 0] (I.D i s) _ (ix2 r q) : EReal) * I.sc s 1) _ = _
    rw [extractStridedSlice_apply _ _ _ _ (ix2 (⟨40 + r.val, by omega⟩ : Fin 120) q) (fun e => by fin_cases e <;> simp)]
    exact congrArg _ z
  | 2, _ =>
    refine key ⟨80 + r.val, by omega⟩ (by simp) ?_
    unfold In.H k0_pay46
    show Scalar.select (I.Mk i s (ix2 r q)) ((extractStridedSlice S40x512 ![80, 0] (I.D i s) _ (ix2 r q) : EReal) * I.sc s 2) _ = _
    rw [extractStridedSlice_apply _ _ _ _ (ix2 (⟨80 + r.val, by omega⟩ : Fin 120) q) (fun e => by fin_cases e <;> simp)]
    exact congrArg _ z

end Lora

end
-- ==== Proof.Value.KLora.lean ====
/-
  The kernel's sums over the segments of a tile, as sums over all segments.
-/
module

public import proofs.«01_k».proof.Proof.Value.KH

@[expose] public section

noncomputable section

open scoped BigOperators

namespace Lora

open Idealize.ShloMosaic
open Cert.KernelIdeal Cert.KernelIdeal.Gen
open Cert.KernelIdeal.Hand

/-- A sum over a range of which only a window counts. -/
theorem sum_window (N p w : ℕ) (h : p + w ≤ N) (f : ℕ → EReal) :
    (∑ k ∈ Finset.range N, if p ≤ k ∧ k < p + w then f (k - p) else 0) = ∑ r ∈ Finset.range w, f r := by
  rw [← Finset.sum_filter]
  have e : (Finset.range N).filter (fun k => p ≤ k ∧ k < p + w) = Finset.Ico p (p + w) := by
    ext k; simp only [Finset.mem_filter, Finset.mem_range, Finset.mem_Ico]; omega
  rw [e, Finset.sum_Ico_eq_sum_range]
  simp

variable {I : In Ideal} (G : Good I)

include G in
/-- The offsets do not decrease. -/
theorem of_mono (s s' : ℕ) (h : s ≤ s') (h' : s' ≤ 19) : (I.of s).toInt ≤ (I.of s').toInt := by
  induction s', h using Nat.le_induction with
  | base => exact le_rfl
  | succ n hn ih => exact (ih (by omega)).trans (G.mono n (by omega))

include G in
/-- A segment that holds a token of tile `i` is one the tile goes through. -/
theorem seg_tile (i q s : ℕ) (hi : i < 24) (hq : q < 512) (hs : s < 19) (h : seg I (512 * i + q) s) : I.lo i ≤ s ∧ s < I.hi i := by
  obtain ⟨h1, h2⟩ := h
  push_cast at h1 h2
  refine ⟨not_lt.mp fun hl => ?_, not_le.mp fun hl => ?_⟩
  · have e1 := le_lo (I := I) i s hl
    omega
  · obtain ⟨h3, h4⟩ := hi_mem G i hi
    have e1 := of_mono G (I.hi i) s hl (by omega)
    omega

include G in
/-- The sum over a tile's segments is the sum over all of them, when the others contribute nothing. -/
theorem tile_sum (i q : ℕ) (hi : i < 24) (hq : q < 512) (f : ℕ → EReal)
    (hf : ∀ s < 19, ¬ seg I (512 * i + q) s → f s = 0) :
    (∑ m ∈ Finset.range (I.hi i - I.lo i), f (I.lo i + m)) = ∑ s ∈ Finset.range 19, f s := by
  rw [← Finset.sum_Ico_eq_sum_range]
  refine Finset.sum_subset (fun s hs => ?_) fun s hs hn => ?_
  · have := hi_le G i hi
    simp only [Finset.mem_Ico, Finset.mem_range] at hs ⊢
    omega
  · have hs' := Finset.mem_range.mp hs
    exact hf s hs' fun h => hn (Finset.mem_Ico.mpr (seg_tile G i q s hi hq hs' h))

/-- The narrow buffer is the sum of the segments' rows. -/
theorem lc_sum (i a n : ℕ) (y : S3x32x512.Idx) :
    (I.lc i a n y : EReal) = ∑ m ∈ Finset.range n, (I.H i (a + m) (y 0).val (ix2 (Fin.ofNat 40 (I.sh (a + m) + (y 1).val)) (y 2)) : EReal) := by
  induction n with
  | zero =>
    show Ideal.ofBits .bf16 0x0000#16 = _
    simp [Ideal.ofBits, Ideal.ieee]
  | succ n ih =>
    rw [Finset.sum_range_succ, ← ih]
    rfl

include G in
/-- The kernel's down-projected rows. -/
theorem LH_apply (t : Fin 12288) (c : Fin 3) (r : Fin 32) : (I.LH (ix3 c r t) : EReal) = lora I t.val c.val r.val := by
  have ht := t.isLt
  have hr := r.isLt
  have hi : t.val / 512 < 24 := by omega
  have hq : t.val % 512 < 512 := Nat.mod_lt _ (by norm_num)
  have e : I.LH (ix3 c r t) = I.lc (t.val / 512) (I.lo (t.val / 512)) (I.hi (t.val / 512) - I.lo (t.val / 512)) (ix3 c r (Fin.ofNat 512 t.val)) := rfl
  rw [e, lc_sum]
  have hh := hi_le G (t.val / 512) hi
  have step : ∀ s < 19, (I.H (t.val / 512) s c.val (ix2 (Fin.ofNat 40 (I.sh s + r.val)) (Fin.ofNat 512 t.val)) : EReal)
      = if on I t.val s r.val then hval I t.val s c.val r.val else 0 := by
    intro s hs
    obtain ⟨h1, h2, h3⟩ := sh_word G s hs
    rw [H_apply G _ s c.val hi hs c.isLt]
    rw [show (Fin.ofNat 40 (I.sh s + r.val)).val = I.sh s + r.val from Nat.mod_eq_of_lt (by omega)]
    rw [show (Fin.ofNat 512 t.val).val = t.val % 512 from rfl, show 512 * (t.val / 512) + t.val % 512 = t.val by omega,
      show I.sh s + r.val - I.sh s = r.val by omega]
    exact if_congr (and_iff_right (by omega)) rfl rfl
  rw [← show 512 * (t.val / 512) + t.val % 512 = t.val by omega] at step
  unfold lora
  rw [← tile_sum G (t.val / 512) (t.val % 512) hi hq (fun s => if on I t.val s r.val then hval I t.val s c.val r.val else 0)
    (fun s hs hn => if_neg fun h => hn (by rw [show 512 * (t.val / 512) + t.val % 512 = t.val by omega]; exact h.1))]
  refine Finset.sum_congr rfl fun m hm => ?_
  have hm' := Finset.mem_range.mp hm
  have := step (I.lo (t.val / 512) + m) (by omega)
  rw [show 512 * (t.val / 512) + t.val % 512 = t.val by omega] at this
  exact this

/-- The wide buffer times an entry is the sum of the segments' rows times that entry: no two windows meet. -/
theorem bg_sum (i a n : ℕ) (ha : a ≤ 18) (c : Fin 3) (k : Fin 256) (q : Fin 512) (v : EReal) :
    (I.bg i a n (ix3 c k q) : EReal) * v = ∑ m ∈ Finset.range n,
      if 40 * (a + m - min a 13) ≤ k.val ∧ k.val < 40 * (a + m - min a 13) + 40
      then (I.H i (a + m) c.val (ix2 (Fin.ofNat 40 (k.val - 40 * (a + m - min a 13))) q) : EReal) * v else 0 := by
  induction n with
  | zero =>
    have e : (I.bg i a 0 (ix3 c k q) : EReal) = 0 := by
      show Ideal.ofBits .f32 0x00000000#32 = _
      exact Ideal.ofBits_zero_f32
    rw [e]; simp
  | succ n ih =>
    rw [Finset.sum_range_succ, ← ih]
    have e : I.bg i a (n + 1) (ix3 c k q) = if 40 * (a + n - min a 13) ≤ k.val ∧ k.val < 40 * (a + n - min a 13) + 40
        then I.H i (a + n) c.val (ix2 (Fin.ofNat 40 (k.val - 40 * (a + n - min a 13))) q) else I.bg i a n (ix3 c k q) := rfl
    by_cases h : 40 * (a + n - min a 13) ≤ k.val ∧ k.val < 40 * (a + n - min a 13) + 40
    · rw [e, if_pos h, if_pos h]
      have z : (I.bg i a n (ix3 c k q) : EReal) * v = 0 := by
        rw [ih]
        refine Finset.sum_eq_zero fun m hm => if_neg fun h' => ?_
        have := Finset.mem_range.mp hm
        omega
      rw [z, zero_add]
    · rw [e, if_neg h, if_neg h, add_zero]

include G in
/-- A row of the scratch of windows that is one of a segment's rows. -/
theorem Bv_apply (s r n : ℕ) (hs : s < 19) (hr : r < 40) (hn : n < 8192) :
    (I.Bv (ix2 (Fin.ofNat 776 (40 * s + r)) (Fin.ofNat 8192 n)) : EReal) = b I (base (I.st s) + r) n := by
  unfold In.Bv
  have e : ((ix2 (Fin.ofNat 776 (40 * s + r)) (Fin.ofNat 8192 n) : S776x8192.Idx) 0).val = 40 * s + r := Nat.mod_eq_of_lt (by omega)
  rw [if_pos (by rw [e]; omega), e, show (40 * s + r) / 40 = s by omega, show (40 * s + r) % 40 = r by omega]
  rfl

include G in
/-- The up-projection of a tile's rows. -/
theorem up_apply (i j : ℕ) (c : Fin 3) (q : Fin 512) (hi : i < 24) (n : ℕ) (hn : n < 8192) (hc : c.val = sl (n / 512)) :
    (∑ k : Fin 256, (I.bgF i (ix3 c k q) : EReal) * I.Bv (ix2 (Fin.ofNat 776 (40 * min (I.lo i) 13 + k.val)) (Fin.ofNat 8192 n)))
      = delta I (512 * i + q.val) n := by
  have hl := lo_le G i hi
  have hh := hi_le G i hi
  have hn6 := hi_near G i hi
  unfold In.bgF
  simp only [bg_sum i (I.lo i) _ hl]
  rw [Finset.sum_comm]
  unfold delta
  rw [← tile_sum G i q.val hi q.isLt (fun s => ∑ r ∈ Finset.range 32, (if on I (512 * i + q.val) s r then hval I (512 * i + q.val) s (sl (n / 512)) r else 0)
      * b I ((I.st s).toNat + r) n)
    (fun s hs hne => Finset.sum_eq_zero fun r _ => by rw [if_neg fun h => hne h.1, zero_mul])]
  refine Finset.sum_congr rfl fun m hm => ?_
  have hm' := Finset.mem_range.mp hm
  have hs : I.lo i + m < 19 := by omega
  obtain ⟨h1, h2, h3⟩ := sh_word G _ hs
  generalize hsd : I.lo i + m = s at *
  rw [Fin.sum_univ_eq_sum_range (fun k => if 40 * (s - min (I.lo i) 13) ≤ k ∧ k < 40 * (s - min (I.lo i) 13) + 40
      then (I.H i s c.val (ix2 (Fin.ofNat 40 (k - 40 * (s - min (I.lo i) 13))) q) : EReal)
        * I.Bv (ix2 (Fin.ofNat 776 (40 * min (I.lo i) 13 + k)) (Fin.ofNat 8192 n)) else 0) 256]
  have e1 : ∀ k ∈ Finset.range 256, (if 40 * (s - min (I.lo i) 13) ≤ k ∧ k < 40 * (s - min (I.lo i) 13) + 40
      then (I.H i s c.val (ix2 (Fin.ofNat 40 (k - 40 * (s - min (I.lo i) 13))) q) : EReal)
        * I.Bv (ix2 (Fin.ofNat 776 (40 * min (I.lo i) 13 + k)) (Fin.ofNat 8192 n)) else 0)
      = if 40 * (s - min (I.lo i) 13) ≤ k ∧ k < 40 * (s - min (I.lo i) 13) + 40
        then (fun r => (I.H i s c.val (ix2 (Fin.ofNat 40 r) q) : EReal) * b I (base (I.st s) + r) n) (k - 40 * (s - min (I.lo i) 13)) else 0 := by
    intro k _
    by_cases h : 40 * (s - min (I.lo i) 13) ≤ k ∧ k < 40 * (s - min (I.lo i) 13) + 40
    · rw [if_pos h, if_pos h]
      refine congrArg _ ?_
      rw [← Bv_apply G s _ n hs (by omega) hn]
      rw [show 40 * min (I.lo i) 13 + k = 40 * s + (k - 40 * (s - min (I.lo i) 13)) by omega]
    · rw [if_neg h, if_neg h]
  rw [Finset.sum_congr rfl e1, sum_window 256 (40 * (s - min (I.lo i) 13)) 40 (by omega) (fun r => (I.H i s c.val (ix2 (Fin.ofNat 40 r) q) : EReal) * b I (base (I.st s) + r) n)]
  have e2 : ∀ r ∈ Finset.range 40, (I.H i s c.val (ix2 (Fin.ofNat 40 r) q) : EReal) * b I (base (I.st s) + r) n
      = if I.sh s ≤ r ∧ r < I.sh s + 32 then (fun r => (if on I (512 * i + q.val) s r then hval I (512 * i + q.val) s c.val r else 0)
        * b I ((I.st s).toNat + r) n) (r - I.sh s) else 0 := by
    intro r hr
    have hr' := Finset.mem_range.mp hr
    rw [H_apply G i s c.val hi hs c.isLt, show (Fin.ofNat 40 r).val = r from Nat.mod_eq_of_lt hr']
    have hrk := G.rk s hs
    by_cases h : I.sh s ≤ r ∧ r < I.sh s + 32
    · rw [if_pos h]
      dsimp only
      rw [show (I.st s).toNat + (r - I.sh s) = base (I.st s) + r by omega]
      exact congrArg (· * _) (if_congr (and_iff_right h.1) rfl rfl)
    · rw [if_neg h, if_neg (fun h' => h ⟨h'.1, by have := h'.2.2; omega⟩), zero_mul]
  rw [Finset.sum_congr rfl e2, sum_window 40 (I.sh s) 32 (by omega) (fun r => (if on I (512 * i + q.val) s r then hval I (512 * i + q.val) s c.val r else 0)
        * b I ((I.st s).toNat + r) n), hc]

end Lora

end
-- ==== Proof.Value.KOut.lean ====
/-
  The kernel's result, read at an element.
-/
module

public import proofs.«01_k».proof.Proof.Value.KLora

@[expose] public section

noncomputable section

open scoped BigOperators

namespace Lora

open Idealize.ShloMosaic
open Cert.KernelIdeal Cert.KernelIdeal.Gen
open Cert.KernelIdeal.Hand

variable {I : In Ideal} (G : Good I)

/-- The shift that brings code `d % 8` of a word to the top. -/
theorem amount (d : Fin 2048) :
    IntOp.subi 28#32 (IntOp.muli 4#32 (IntOp.andi (BitVec.ofNat 32 d.val) 7#32)) = BitVec.ofNat 32 (28 - 4 * (d.val % 8)) := by
  revert d; decide +kernel

/-- A decoded entry of column block `j`. -/
theorem dec_apply (j : ℕ) (hj : j < 16) (d : Fin 2048) (n : Fin 512) :
    (k0_pay1 (F := Ideal) (I.wblk j) (ix2 d n) : EReal) = (((code I d.val (512 * j + n.val)).toInt : ℝ) : EReal) := by
  unfold k0_pay1
  dsimp only
  have hd := d.isLt
  have hn := n.isLt
  have eW : shapeCast S2048x512 (broadcastTo S256x8x512 (shapeCast S256x1x512 (shapeCast S256x1x512 (shapeCast S256x512 (I.wblk j)
      shapeCasts_S1x256x512_S256x512) shapeCasts_S256x512_S256x1x512) shapeCasts_S256x1x512_S256x1x512) broadcasts_S256x1x512_S256x8x512)
      shapeCasts_S256x8x512_S2048x512 (ix2 d n) = I.WP (ix2 (Fin.ofNat 256 (d.val / 8)) (Fin.ofNat 8192 (512 * j + n.val))) := by
    rw [shapeCast_apply _ _ _ (ix3 (⟨d.val / 8, by omega⟩ : Fin 256) (⟨d.val % 8, by omega⟩ : Fin 8) n) (by
      rw [Shape.rowMajor_val_three, Shape.rowMajor_val_two]
      show (d.val / 8 * 8 + d.val % 8) * 512 + n.val = d.val * 512 + n.val
      omega)]
    rw [broadcastTo_apply _ _ _ (ix3 (⟨d.val / 8, by omega⟩ : Fin 256) (0 : Fin 1) n) (fun e => by fin_cases e <;> rfl)]
    rw [shapeCast_apply _ _ _ (ix3 (⟨d.val / 8, by omega⟩ : Fin 256) (0 : Fin 1) n) rfl]
    rw [shapeCast_apply _ _ _ (ix2 (⟨d.val / 8, by omega⟩ : Fin 256) n) (by
      rw [Shape.rowMajor_val_three, Shape.rowMajor_val_two]
      show d.val / 8 * 512 + n.val = (d.val / 8 * 1 + 0) * 512 + n.val
      omega)]
    rw [shapeCast_apply _ _ _ (ix3 (0 : Fin 1) (⟨d.val / 8, by omega⟩ : Fin 256) n) (by
      rw [Shape.rowMajor_val_three, Shape.rowMajor_val_two]
      show (0 * 256 + d.val / 8) * 512 + n.val = d.val / 8 * 512 + n.val
      omega)]
    unfold In.wblk
    refine congrArg I.WP ?_
    funext e
    fin_cases e
    · exact Fin.ext (Nat.mod_eq_of_lt (show d.val / 8 < 256 by omega)).symm
    · rfl
  show ((((IntOp.shrsi .vector (IntOp.shli .vector _ (IntOp.subi 28#32 (IntOp.muli 4#32 (IntOp.andi (iota .tc S2048x512 32 [0] _ (ix2 d n)) 7#32)))) 28#32).toInt : ℝ)) : EReal) = _
  rw [eW, iota_single_apply]
  show ((((IntOp.shrsi .vector (IntOp.shli .vector _ (IntOp.subi 28#32 (IntOp.muli 4#32 (IntOp.andi (BitVec.ofNat 32 d.val) 7#32)))) 28#32).toInt : ℝ)) : EReal) = _
  rw [amount]
  have ea : (BitVec.ofNat 32 (28 - 4 * (d.val % 8))).toNat = 28 - 4 * (d.val % 8) := by rw [BitVec.toNat_ofNat]; omega
  have e1 : ∀ w : BitVec 32, IntOp.shli .vector w (BitVec.ofNat 32 (28 - 4 * (d.val % 8))) = w <<< (28 - 4 * (d.val % 8)) := by
    intro w
    unfold IntOp.shli
    rw [if_pos (by rw [ea]; omega), BitVec.shiftLeft_eq', ea]
  have e2 : ∀ w : BitVec 32, IntOp.shrsi .vector w 28#32 = BitVec.sshiftRight w 28 := by
    intro w
    unfold IntOp.shrsi
    rw [if_pos (by decide)]
    rfl
  rw [e1, e2]
  rfl

include G in
/-- The kernel's result at token `t`, column `n`. -/
theorem Yv_apply (t : Fin 12288) (n : Fin 8192) : (I.Yv (ix2 t n) : EReal) = bas I t.val n.val + delta I t.val n.val := by
  have ht := t.isLt
  have hn := n.isLt
  have hi : t.val / 512 < 24 := by omega
  have hj : n.val / 512 < 16 := by omega
  have e : I.Yv (ix2 t n) = k0_pay98 (k0_pay97 (I.xblk (t.val / 512)) (I.Wblk (n.val / 512)) (Lblk (I.Lt (t.val / 512)) (n.val / 512))
      (I.Bblk (I.lo (t.val / 512)) (n.val / 512))) (ix3 0 (Fin.ofNat 512 t.val) (Fin.ofNat 512 n.val)) := rfl
  rw [e]
  generalize hq : (Fin.ofNat 512 t.val) = q
  generalize hp : (Fin.ofNat 512 n.val) = p
  have hq' : q.val = t.val % 512 := by rw [← hq]; rfl
  have hp' : p.val = n.val % 512 := by rw [← hp]; rfl
  unfold k0_pay98
  rw [shapeCast_apply _ _ _ (ix2 q p) (by
    rw [Shape.rowMajor_val_three, Shape.rowMajor_val_two]
    show q.val * 512 + p.val = (0 * 512 + q.val) * 512 + p.val
    omega)]
  unfold k0_pay97
  show (matmul (F := Ideal) dot_S512x2048_S2048x512_S512x512_1_0_0_1_n_n none _ _ _ (ix2 q p) : EReal)
    + matmul (F := Ideal) dot_S512x256_S256x512_S512x512_1_0_0_1_n_n none _ _ _ (ix2 q p) = _
  refine congrArg₂ _ ?_ ?_
  · simp only [matmul]
    rw [Ideal.matmul_constant_zero_apply]
    refine dot_sum dot_S512x2048_S2048x512_S512x512_1_0_0_1_n_n 2048 rfl rfl _ _ _ _ _ ?_ ?_
    · intro kk d hd
      rw [show dot_S512x2048_S2048x512_S512x512_1_0_0_1_n_n.lhsIdx (ix2 q p) kk = ix2 q d from
        funext fun e => match e with | ⟨0, _⟩ => rfl | ⟨1, _⟩ => Fin.ext hd]
      rw [shapeCast_apply _ _ _ (ix3 (0 : Fin 1) q d) (by
        rw [Shape.rowMajor_val_three, Shape.rowMajor_val_two]
        show (0 * 512 + q.val) * 2048 + d.val = q.val * 2048 + d.val
        omega)]
      show I.X (ix2 (Fin.ofNat 12288 (512 * (t.val / 512) + q.val)) d) = I.X (ix2 (Fin.ofNat 12288 t.val) d)
      rw [show 512 * (t.val / 512) + q.val = t.val by omega]
    · intro kk d hd
      rw [show dot_S512x2048_S2048x512_S512x512_1_0_0_1_n_n.rhsIdx (ix2 q p) kk = ix2 d p from
        funext fun e => match e with | ⟨0, _⟩ => Fin.ext hd | ⟨1, _⟩ => rfl]
      rw [shapeCast_apply _ _ _ (ix3 (0 : Fin 1) d p) (by
        rw [Shape.rowMajor_val_three, Shape.rowMajor_val_two]
        show (0 * 2048 + d.val) * 512 + p.val = d.val * 512 + p.val
        omega)]
      show (k0_pay1 (F := Ideal) (I.wblk (Fin.ofNat 16 (n.val / 512)).val) (ix2 d p) : EReal)
        * I.WS (ix2 (Fin.ofNat 16 (d.val / 128)) (Fin.ofNat 8192 (512 * (Fin.ofNat 16 (n.val / 512)).val + p.val))) = _
      rw [show (Fin.ofNat 16 (n.val / 512)).val = n.val / 512 from Nat.mod_eq_of_lt hj, dec_apply _ hj,
        show 512 * (n.val / 512) + p.val = n.val by omega]
      rfl
  · simp only [matmul]
    rw [Ideal.matmul_constant_zero_apply]
    have hsl : sl (n.val / 512) < 3 := by unfold sl; split_ifs <;> omega
    have hu := up_apply G (t.val / 512) 0 ⟨sl (n.val / 512), hsl⟩ q hi n.val hn rfl
    rw [show 512 * (t.val / 512) + q.val = t.val by omega] at hu
    rw [← hu]
    refine dot_sum dot_S512x256_S256x512_S512x512_1_0_0_1_n_n 256 rfl rfl _ _ _ _ _ ?_ ?_
    · intro kk k hk
      rw [show dot_S512x256_S256x512_S512x512_1_0_0_1_n_n.lhsIdx (ix2 q p) kk = ix2 q k from
        funext fun e => match e with | ⟨0, _⟩ => rfl | ⟨1, _⟩ => Fin.ext hk]
      rw [shapeCast_apply _ _ _ (ix3 (0 : Fin 1) q k) (by
        rw [Shape.rowMajor_val_three, Shape.rowMajor_val_two]
        show (0 * 512 + q.val) * 256 + k.val = q.val * 256 + k.val
        omega)]
      show (k0_pay101 (F := Ideal) (fun x => I.bgF (t.val / 512) (ix3 (Fin.ofNat 3 (sl (n.val / 512))) (x 1) (x 2))) (ix3 0 q k) : EReal) = _
      unfold k0_pay101
      dsimp only
      rw [shapeCast_apply _ _ _ (ix2 q k) (by
        rw [Shape.rowMajor_val_three, Shape.rowMajor_val_two]
        show q.val * 256 + k.val = (0 * 512 + q.val) * 256 + k.val
        omega)]
      rw [ValueIdx.truncf_apply]
      rw [transpose_apply (t := S512x256) [1, 0] _ transposes_S256x512_p1_0_S512x256 (ix2 q k) (ix2 k q) (fun e => by
        match e with
        | ⟨0, _⟩ => rfl
        | ⟨1, _⟩ => rfl)]
      rw [shapeCast_apply _ _ _ (ix3 (0 : Fin 1) k q) (by
        rw [Shape.rowMajor_val_three, Shape.rowMajor_val_two]
        show (0 * 256 + k.val) * 512 + q.val = k.val * 512 + q.val
        omega)]
      show (I.bgF (t.val / 512) (ix3 (Fin.ofNat 3 (sl (n.val / 512))) k q) : EReal) = _
      rw [show Fin.ofNat 3 (sl (n.val / 512)) = ⟨sl (n.val / 512), hsl⟩ from Fin.ext (Nat.mod_eq_of_lt hsl)]
    · intro kk k hk
      rw [show dot_S512x256_S256x512_S512x512_1_0_0_1_n_n.rhsIdx (ix2 q p) kk = ix2 k p from
        funext fun e => match e with | ⟨0, _⟩ => Fin.ext hk | ⟨1, _⟩ => rfl]
      show (I.Bv (ix2 (Fin.ofNat 776 (40 * min (I.lo (t.val / 512)) 13 + k.val)) (Fin.ofNat 8192 (512 * (n.val / 512) + p.val))) : EReal) = _
      rw [show 512 * (n.val / 512) + p.val = n.val by omega]

end Lora

end
-- ==== Proof.Value.RefMask.lean ====
/-
  The reference's tables, read at an element: which tokens a segment holds, the rows of its adapter, its scales.
-/
module

public import proofs.«01_k».proof.Proof.Value.KLora
public import proofs.«01_k».proof.Proof.Gen.ReferenceIdeal.Run
public import Idealize.ShloMosaic.Lib.Routing.OpsSearch

@[expose] public section

noncomputable section

open scoped BigOperators

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

/-- The reference's arguments are the arrays `I`. -/
structure Args (V0 : Valuation τ sig (Elt Ideal)) (I : In Ideal) : Prop where
  off : V0 (Proc.devRef .tc main_arg8) = I.off
  seg : V0 (Proc.devRef .tc main_arg9) = I.seg
  start : V0 (Proc.devRef .tc main_arg5) = I.start
  rank : V0 (Proc.devRef .tc main_arg6) = I.rank
  scal : V0 (Proc.devRef .tc main_arg7) = I.scal
  X : res_main_v0 V0 = I.X
  WP : V0 (Proc.devRef .tc main_arg1) = I.WP
  WS : V0 (Proc.devRef .tc main_arg2) = I.WS
  A : V0 (Proc.devRef .tc main_arg3) = I.A
  B : V0 (Proc.devRef .tc main_arg4) = I.B

variable {V0 : Valuation τ sig (Elt Ideal)} {I : In Ideal} (hA : Args V0 I) (G : Good I)

/-- A row of nineteen, the same for every token. -/
theorem row19 {α : Type} (v : S19.Idx → α) (t : Fin 12288) (s : Fin 19) :
    broadcastInDim S12288x19 ![0, 1] bcast_S1x19_S12288x19_0_1 (broadcastInDim S1x19 ![1] bcast_S19_S1x19_1 v) (ix2 t s) = v (ix1 s) := by
  refine (broadcastInDim_apply _ bcast_S1x19_S12288x19_0_1 _ _ (ix2 (0 : Fin 1) s) fun e => by
    match e with
    | ⟨0, _⟩ => rfl
    | ⟨1, _⟩ => rfl).trans (broadcastInDim_apply _ bcast_S19_S1x19_1 v _ (ix1 s) fun e => by
    match e with
    | ⟨0, _⟩ => rfl)

/-- The number of a token. -/
theorem tok (t : Fin 12288) (s : Fin 19) :
    broadcastInDim S12288x19 ![0, 1] bcast_S12288x1_S12288x19_0_1 (res_main_v123 V0) (ix2 t s) = BitVec.ofNat 32 t.val := by
  unfold res_main_v123
  refine (broadcastInDim_apply _ bcast_S12288x1_S12288x19_0_1 _ _ (ix2 t (0 : Fin 1)) fun e => by
    match e with
    | ⟨0, _⟩ => rfl
    | ⟨1, _⟩ => rfl).trans ((broadcastInDim_apply _ bcast_S12288_S12288x1_0 _ _ (ix1 t) fun e => by
    match e with
    | ⟨0, _⟩ => rfl).trans rfl)

include hA in
/-- Which tokens a segment holds. -/
theorem mask_apply (t : Fin 12288) (s : Fin 19) :
    res_main_v134 V0 (ix2 t s) = BitVec.ofBool (decide (seg I t.val s.val)) := by
  unfold res_main_v134
  have e0 : extractStridedSlice S19 ![0] (V0 (Proc.devRef .tc main_arg8)) slices_S20_S19_0 (ix1 s) = I.of s.val := by
    rw [hA.off]
    refine (extractStridedSlice_apply (t := S19) ![0] I.off slices_S20_S19_0 (ix1 s) (ix1 (Fin.ofNat 20 s.val)) (fun e => by
      match e with
      | ⟨0, _⟩ =>
        show s.val % 20 = 0 + s.val
        have := s.isLt
        omega)).trans rfl
  have e1 : extractStridedSlice S19 ![1] (V0 (Proc.devRef .tc main_arg8)) slices_S20_S19_1 (ix1 s) = I.of (s.val + 1) := by
    rw [hA.off]
    refine (extractStridedSlice_apply (t := S19) ![1] I.off slices_S20_S19_1 (ix1 s) (ix1 (Fin.ofNat 20 (s.val + 1))) (fun e => by
      match e with
      | ⟨0, _⟩ =>
        show (s.val + 1) % 20 = 1 + s.val
        have := s.isLt
        omega)).trans rfl
  have e := congrArg₂ IntOp.andi
    (congrArg₂ (IntOp.cmpi .sge) (tok (V0 := V0) t s) ((row19 (extractStridedSlice S19 ![0] (V0 (Proc.devRef .tc main_arg8)) slices_S20_S19_0) t s).trans e0))
    (congrArg₂ (IntOp.cmpi .slt) (tok (V0 := V0) t s) ((row19 (extractStridedSlice S19 ![1] (V0 (Proc.devRef .tc main_arg8)) slices_S20_S19_1) t s).trans e1))
  refine e.trans ?_
  rw [WordCmp.cmpi_sge_eq, WordCmp.cmpi_slt_eq]
  show BitVec.ofBool _ &&& BitVec.ofBool _ = _
  rw [and_ofBool, toInt_ofNat _ (by have := t.isLt; omega)]
  rfl

include hA in
/-- The index of a segment's adapter, as a column. -/
theorem sgw_col (s : Fin 19) : broadcastInDim S19x1 ![0] bcast_S19_S19x1_0 (V0 (Proc.devRef .tc main_arg9)) (ix2 s (0 : Fin 1)) = I.sgw s.val := by
  rw [hA.seg]
  refine (broadcastInDim_apply _ bcast_S19_S19x1_0 _ _ (ix1 s) fun e => by
    match e with
    | ⟨0, _⟩ => rfl).trans ?_
  show I.seg _ = I.seg _
  refine congrArg (fun k : Fin 19 => I.seg (ix1 k)) (Fin.ext (Nat.mod_eq_of_lt s.isLt).symm)

include hA G in
/-- A table of the adapters, read for a segment. -/
theorem take23 {α : Type} (v : S23.Idx → α) (s : Fin 19) :
    Host.gather gather_S23_S19x1_S19_n_0_n_n_0_1_1 v (broadcastInDim S19x1 ![0] bcast_S19_S19x1_0 (V0 (Proc.devRef .tc main_arg9))) (ix1 s)
      = v (ix1 (Fin.ofNat 23 (I.sgw s.val).toNat)) := by
  have h := G.sg s.val s.isLt
  refine (Routing.take_ap gather_S23_S19x1_S19_n_0_n_n_0_1_1 rfl rfl rfl rfl v _ s (k := (I.sgw s.val).toNat) h (by omega)
    ((sgw_col hA s).trans (BitVec.ofNat_toNat _ _ ▸ by simp))).trans ?_
  exact congrArg (fun k : Fin 23 => v (ix1 k)) (Fin.ext (Nat.mod_eq_of_lt h).symm)

include hA G in
/-- The scale of slice `c` for a segment. -/
theorem v149_apply (s : Fin 19) (c : Fin 3) : (res_main_v149 V0 (ix2 s c) : EReal) = scale I s.val c.val := by
  have h := G.sg s.val s.isLt
  unfold res_main_v149
  rw [hA.scal]
  refine (Routing.gather_row gather_S23x3_S19x1_S19x3_1_0_n_n_0_1_13 rfl rfl rfl rfl rfl I.scal _ s c (Fin.ofNat 23 (I.sgw s.val).toNat)
    ((sgw_col hA s).trans ?_) (by decide)).trans ?_
  · rw [show (Fin.ofNat 23 (I.sgw s.val).toNat).val = (I.sgw s.val).toNat from Nat.mod_eq_of_lt h]
    simp
  · unfold scale Cert.KernelIdeal.Hand.In.sc
    rw [show Fin.ofNat 3 c.val = c from Fin.ext (Nat.mod_eq_of_lt c.isLt)]
    rfl

/-- A column of nineteen, the same for every row of an adapter. -/
theorem col32 {α : Type} (v : S19.Idx → α) (s : Fin 19) (r : Fin 32) :
    broadcastInDim S19x32 ![0, 1] bcast_S19x1_S19x32_0_1 (broadcastInDim S19x1 ![0] bcast_S19_S19x1_0 v) (ix2 s r) = v (ix1 s) := by
  refine (broadcastInDim_apply _ bcast_S19x1_S19x32_0_1 _ _ (ix2 s (0 : Fin 1)) fun e => by
    match e with
    | ⟨0, _⟩ => rfl
    | ⟨1, _⟩ => rfl).trans (broadcastInDim_apply _ bcast_S19_S19x1_0 v _ (ix1 s) fun e => by
    match e with
    | ⟨0, _⟩ => rfl)

/-- A row of thirty-two, the same for every segment. -/
theorem row32 {α : Type} (v : S32.Idx → α) (s : Fin 19) (r : Fin 32) :
    broadcastInDim S19x32 ![0, 1] bcast_S1x32_S19x32_0_1 (broadcastInDim S1x32 ![1] bcast_S32_S1x32_1 v) (ix2 s r) = v (ix1 r) := by
  refine (broadcastInDim_apply _ bcast_S1x32_S19x32_0_1 _ _ (ix2 (0 : Fin 1) r) fun e => by
    match e with
    | ⟨0, _⟩ => rfl
    | ⟨1, _⟩ => rfl).trans (broadcastInDim_apply _ bcast_S32_S1x32_1 v _ (ix1 r) fun e => by
    match e with
    | ⟨0, _⟩ => rfl)

include hA G in
/-- The row of the pool that row `r` of a segment's adapter is. -/
theorem v141_apply (s : Fin 19) (r : Fin 32) : res_main_v141 V0 (ix2 s r) = BitVec.ofNat 32 ((I.st s.val).toNat + r.val) := by
  unfold res_main_v141
  rw [hA.start]
  have e0 := take23 hA G I.start s
  generalize Host.gather gather_S23_S19x1_S19_n_0_n_n_0_1_1 I.start (broadcastInDim S19x1 ![0] bcast_S19_S19x1_0 (V0 (Proc.devRef .tc main_arg9))) = g at *
  have e1 : iotaInDim S32 32 0 (ix1 r) = BitVec.ofNat 32 r.val := rfl
  refine (congrArg₂ IntOp.addi ((col32 g s r).trans e0) ((row32 (iotaInDim S32 32 0) s r).trans e1)).trans ?_
  show I.st s.val + BitVec.ofNat 32 r.val = _
  rw [BitVec.ofNat_add]; simp

end Lora

end
-- ==== Proof.Value.RefGather.lean ====
/-
  The reference's rows of the pools and its sums over the segments, read at an element.
-/
module

public import proofs.«01_k».proof.Proof.Value.RefMask

@[expose] public section

noncomputable section

open scoped BigOperators

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

variable {V0 : Valuation τ sig (Elt Ideal)} {I : In Ideal} (hA : Args V0 I) (G : Good I)

include hA G in
/-- The row indices, with a last axis of one. -/
theorem row_index (s : Fin 19) (r : Fin 32) :
    (broadcastInDim S19x32x1 ![0, 1] bcast_S19x32_S19x32x1_0_1 (res_main_v141 V0) (ix3 s r (0 : Fin 1))).toInt = ((I.st s.val).toNat + r.val : ℕ) := by
  have h := G.st s.val s.isLt
  have hr := r.isLt
  rw [broadcastInDim_apply _ bcast_S19x32_S19x32x1_0_1 _ _ (ix2 s r) (fun e => by
    match e with
    | ⟨0, _⟩ => rfl
    | ⟨1, _⟩ => rfl), v141_apply hA G, toInt_ofNat _ (by omega)]

/-- Rows of the up-projection pool, gathered. -/
theorem gatherB {α : Type} (x : S1000x8192.Idx → α) (idx : IVec S19x32x1 32) (s : Fin 19) (r : Fin 32) (n : Fin 8192) (k : Fin 1000)
    (hk : (idx (ix3 s r (0 : Fin 1))).toInt = (k.val : ℤ)) :
    Host.gather gather_S1000x8192_S19x32x1_S19x32x8192_2_0_n_n_0_2_18192 x idx (ix3 s r n) = x (ix2 k n) := by
  unfold Host.gather
  refine congrArg x (funext fun a => Fin.ext ?_)
  have hbN : ∀ a', a' ∉ (gather_S1000x8192_S19x32x1_S19x32x8192_2_0_n_n_0_2_18192).operandBatchingDims := fun a' => List.not_mem_nil
  match a with
  | ⟨0, _⟩ =>
    show (gather_S1000x8192_S19x32x1_S19x32x8192_2_0_n_n_0_2_18192).start (ix3 s r n) idx 0
      + (gather_S1000x8192_S19x32x1_S19x32x8192_2_0_n_n_0_2_18192).batchCoord (ix3 s r n) 0
      + (gather_S1000x8192_S19x32x1_S19x32x8192_2_0_n_n_0_2_18192).offCoord (ix3 s r n) 0 = k.val
    rw [GatherDims.batchCoord_eq_zero _ _ _ (hbN 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000x8192_S19x32x1_S19x32x8192_2_0_n_n_0_2_18192).startIndexMap from List.mem_singleton.mpr rfl)]
    have hsi : (gather_S1000x8192_S19x32x1_S19x32x8192_2_0_n_n_0_2_18192).siIdx (ix3 s r n)
        ⟨List.idxOf (0 : Fin 2) (gather_S1000x8192_S19x32x1_S19x32x8192_2_0_n_n_0_2_18192).startIndexMap,
        List.idxOf_lt_length_iff.2 (List.mem_singleton.mpr rfl)⟩ = ix3 s r (0 : Fin 1) := by
      funext b; refine Fin.ext ?_
      match b with
      | ⟨0, _⟩ => rfl
      | ⟨1, _⟩ => rfl
      | ⟨2, _⟩ => rfl
    rw [hsi, hk]
    show min ((k.val : ℤ)).toNat (1000 - 1) = k.val
    have := k.isLt
    omega
  | ⟨1, _⟩ =>
    show (gather_S1000x8192_S19x32x1_S19x32x8192_2_0_n_n_0_2_18192).start (ix3 s r n) idx 1
      + (gather_S1000x8192_S19x32x1_S19x32x8192_2_0_n_n_0_2_18192).batchCoord (ix3 s r n) 1
      + (gather_S1000x8192_S19x32x1_S19x32x8192_2_0_n_n_0_2_18192).offCoord (ix3 s r n) 1 = n.val
    rw [GatherDims.batchCoord_eq_zero _ _ _ (hbN 1), Nat.add_zero]
    unfold GatherDims.start GatherDims.offCoord
    rw [dif_neg (show (1 : Fin 2) ∉ (gather_S1000x8192_S19x32x1_S19x32x8192_2_0_n_n_0_2_18192).startIndexMap from (by decide : (1 : Fin 2) ∉ [(0 : Fin 2)])), dif_pos ((GatherDims.mem_sKept _ _).mpr
      ⟨(by decide : (1 : Fin 2) ∉ [(0 : Fin 2)]), hbN 1⟩), Nat.zero_add]
    rfl

/-- Rows of the down-projection pools, gathered. -/
theorem gatherA {α : Type} (x : S3x1000x2048.Idx → α) (idx : IVec S19x32x1 32) (c : Fin 3) (s : Fin 19) (r : Fin 32) (d : Fin 2048) (k : Fin 1000)
    (hk : (idx (ix3 s r (0 : Fin 1))).toInt = (k.val : ℤ)) :
    Host.gather gather_S3x1000x2048_S19x32x1_S3x19x32x2048_03_1_n_n_1_2_312048 x idx (ix4 c s r d) = x (ix3 c k d) := by
  unfold Host.gather
  refine congrArg x (funext fun a => Fin.ext ?_)
  have hbN : ∀ a', a' ∉ (gather_S3x1000x2048_S19x32x1_S3x19x32x2048_03_1_n_n_1_2_312048).operandBatchingDims := fun a' => List.not_mem_nil
  match a with
  | ⟨0, _⟩ =>
    show (gather_S3x1000x2048_S19x32x1_S3x19x32x2048_03_1_n_n_1_2_312048).start (ix4 c s r d) idx 0
      + (gather_S3x1000x2048_S19x32x1_S3x19x32x2048_03_1_n_n_1_2_312048).batchCoord (ix4 c s r d) 0
      + (gather_S3x1000x2048_S19x32x1_S3x19x32x2048_03_1_n_n_1_2_312048).offCoord (ix4 c s r d) 0 = c.val
    rw [GatherDims.batchCoord_eq_zero _ _ _ (hbN 0), Nat.add_zero]
    unfold GatherDims.start GatherDims.offCoord
    rw [dif_neg (show (0 : Fin 3) ∉ (gather_S3x1000x2048_S19x32x1_S3x19x32x2048_03_1_n_n_1_2_312048).startIndexMap from (by decide : (0 : Fin 3) ∉ [(1 : Fin 3)])), dif_pos ((GatherDims.mem_sKept _ _).mpr
      ⟨(by decide : (0 : Fin 3) ∉ [(1 : Fin 3)]), hbN 0⟩), Nat.zero_add]
    rfl
  | ⟨1, _⟩ =>
    show (gather_S3x1000x2048_S19x32x1_S3x19x32x2048_03_1_n_n_1_2_312048).start (ix4 c s r d) idx 1
      + (gather_S3x1000x2048_S19x32x1_S3x19x32x2048_03_1_n_n_1_2_312048).batchCoord (ix4 c s r d) 1
      + (gather_S3x1000x2048_S19x32x1_S3x19x32x2048_03_1_n_n_1_2_312048).offCoord (ix4 c s r d) 1 = k.val
    rw [GatherDims.batchCoord_eq_zero _ _ _ (hbN 1),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S3x1000x2048_S19x32x1_S3x19x32x2048_03_1_n_n_1_2_312048).startIndexMap from List.mem_singleton.mpr rfl)]
    have hsi : (gather_S3x1000x2048_S19x32x1_S3x19x32x2048_03_1_n_n_1_2_312048).siIdx (ix4 c s r d)
        ⟨List.idxOf (1 : Fin 3) (gather_S3x1000x2048_S19x32x1_S3x19x32x2048_03_1_n_n_1_2_312048).startIndexMap,
        List.idxOf_lt_length_iff.2 (List.mem_singleton.mpr rfl)⟩ = ix3 s r (0 : Fin 1) := by
      funext b; refine Fin.ext ?_
      match b with
      | ⟨0, _⟩ => rfl
      | ⟨1, _⟩ => rfl
      | ⟨2, _⟩ => rfl
    rw [hsi, hk]
    show min ((k.val : ℤ)).toNat (1000 - 1) = k.val
    have := k.isLt
    omega
  | ⟨2, _⟩ =>
    show (gather_S3x1000x2048_S19x32x1_S3x19x32x2048_03_1_n_n_1_2_312048).start (ix4 c s r d) idx 2
      + (gather_S3x1000x2048_S19x32x1_S3x19x32x2048_03_1_n_n_1_2_312048).batchCoord (ix4 c s r d) 2
      + (gather_S3x1000x2048_S19x32x1_S3x19x32x2048_03_1_n_n_1_2_312048).offCoord (ix4 c s r d) 2 = d.val
    rw [GatherDims.batchCoord_eq_zero _ _ _ (hbN 2), Nat.add_zero]
    unfold GatherDims.start GatherDims.offCoord
    rw [dif_neg (show (2 : Fin 3) ∉ (gather_S3x1000x2048_S19x32x1_S3x19x32x2048_03_1_n_n_1_2_312048).startIndexMap from (by decide : (2 : Fin 3) ∉ [(1 : Fin 3)])), dif_pos ((GatherDims.mem_sKept _ _).mpr
      ⟨(by decide : (2 : Fin 3) ∉ [(1 : Fin 3)]), hbN 2⟩), Nat.zero_add]
    rfl

/-- A sum over the segments of what a token's own segments hold. -/
theorem sum19 (v : FVec Ideal S12288x19 .f32) (t : Fin 12288) :
    (Host.reduceAdd v (constant S_ .f32 0x00000000#32) reducesTo_S12288x19_S12288_d1 h_S_ (ix1 t) : EReal) = ∑ s : Fin 19, (v (ix2 t s) : EReal) := by
  have h : S12288x19.Reduces [1] S12288 := by decide
  refine (Ideal.hostReduceAdd_single reducesTo_S12288x19_S12288_d1 h v _ (ix1 t)).trans ?_
  have e0 : (constant (F := Ideal) S_ .f32 0x00000000#32 (Shape.Idx.first h_S_) : EReal) = 0 := Ideal.ofBits_zero_f32
  rw [e0, zero_add]
  refine Finset.sum_congr rfl fun s _ => congrArg v ?_
  funext e
  match e with
  | ⟨0, _⟩ => rfl
  | ⟨1, _⟩ => rfl

end Lora

end
-- ==== Proof.Value.RefLora.lean ====
/-
  The reference's second result, read at an element.
-/
module

public import proofs.«01_k».proof.Proof.Value.RefGather

@[expose] public section

noncomputable section

open scoped BigOperators

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

variable {V0 : Valuation τ sig (Elt Ideal)} {I : In Ideal} (hA : Args V0 I) (G : Good I)

include G in
/-- A token lies in at most one segment. -/
theorem seg_unique (t s s' : ℕ) (hs : s < 19) (hs' : s' < 19) (h : seg I t s) (h' : seg I t s') : s = s' := by
  obtain ⟨h1, h2⟩ := h
  obtain ⟨h3, h4⟩ := h'
  rcases lt_trichotomy s s' with hl | he | hl
  · have := of_mono G (s + 1) s' hl (by omega)
    omega
  · exact he
  · have := of_mono G (s' + 1) s hl (by omega)
    omega

/-- The products of the tokens with every segment's adapter, masked and summed. -/
theorem sumW {W : ℕ} (mask : IVec S12288x19 1) (b1 : S12288x19x1.BroadcastsInDim ⟨3, ![12288, 19, W]⟩ (![0, 1, 2] : Fin 3 → Fin (⟨3, ![12288, 19, W]⟩ : Shape).rank))
    (b0 : S_.BroadcastsInDim ⟨3, ![12288, 19, W]⟩ (![] : Fin 0 → Fin (⟨3, ![12288, 19, W]⟩ : Shape).rank))
    (h' : (⟨3, ![12288, 19, W]⟩ : Shape).ReducesTo [1] ⟨2, ![12288, W]⟩) (h : (⟨3, ![12288, 19, W]⟩ : Shape).Reduces [1] ⟨2, ![12288, W]⟩)
    (v : FVec Ideal ⟨3, ![12288, 19, W]⟩ .f32) (t : Fin 12288) (m : Fin W) (P : ℕ → Prop) [DecidablePred P]
    (hP : ∀ s : Fin 19, mask (ix2 t s) = BitVec.ofBool (decide (P s.val))) :
    (Host.reduceAdd (select (broadcastInDim ⟨3, ![12288, 19, W]⟩ ![0, 1, 2] b1 (broadcastInDim S12288x19x1 ![0, 1] bcast_S12288x19_S12288x19x1_0_1 mask)) v
      (broadcastInDim ⟨3, ![12288, 19, W]⟩ ![] b0 (id (constant (F := Ideal) S_ .f32 0x00000000#32)))) (constant S_ .f32 0x00000000#32) h' h_S_ (ix2 t m) : EReal)
      = ∑ s : Fin 19, if P s.val then (v (ix3 t s m) : EReal) else 0 := by
  refine (Ideal.hostReduceAdd_single h' h _ _ (ix2 t m)).trans ?_
  have e0 : (constant (F := Ideal) S_ .f32 0x00000000#32 (Shape.Idx.first h_S_) : EReal) = 0 := Ideal.ofBits_zero_f32
  rw [e0, zero_add]
  refine Finset.sum_congr rfl fun s _ => ?_
  have el : h.lift (ix2 t m) s = ix3 t s m := by
    funext e
    match e with
    | ⟨0, _⟩ => rfl
    | ⟨1, _⟩ => rfl
    | ⟨2, _⟩ => rfl
  rw [el]
  have eb : broadcastInDim ⟨3, ![12288, 19, W]⟩ ![0, 1, 2] b1 (broadcastInDim S12288x19x1 ![0, 1] bcast_S12288x19_S12288x19x1_0_1 mask) (ix3 t s m) = BitVec.ofBool (decide (P s.val)) := by
    refine (broadcastInDim_apply _ b1 _ _ (ix3 t s (0 : Fin 1)) fun e => by
      match e with
      | ⟨0, _⟩ => rfl
      | ⟨1, _⟩ => rfl
      | ⟨2, _⟩ => rfl).trans ((broadcastInDim_apply _ bcast_S12288x19_S12288x19x1_0_1 mask _ (ix2 t s) fun e => by
      match e with
      | ⟨0, _⟩ => rfl
      | ⟨1, _⟩ => rfl).trans (hP s))
  show Scalar.select (broadcastInDim ⟨3, ![12288, 19, W]⟩ ![0, 1, 2] b1 (broadcastInDim S12288x19x1 ![0, 1] bcast_S12288x19_S12288x19x1_0_1 mask) (ix3 t s m))
    (v (ix3 t s m) : EReal) (Ideal.ofBits .f32 0x00000000#32) = _
  rw [eb, select_ofBool, Ideal.ofBits_zero_f32]

include hA G in
/-- A token times row `m % 32` of a segment's adapter of slice `m / 32`. -/
theorem dotA_apply (t : Fin 12288) (s : Fin 19) (m : Fin 96) :
    (Host.dotGeneral (φ₁ := .bf16) (φ₂ := .bf16) dot_S12288x2048_S19x2048x96_S12288x19x96_1_1_0_02_n_n none (res_main_v0 V0) (shapeCast S19x2048x96
      (transpose S19x2048x3x32 [1, 3, 0, 2] (Host.gather gather_S3x1000x2048_S19x32x1_S3x19x32x2048_03_1_n_n_1_2_312048 (V0 (Proc.devRef .tc main_arg3))
        (broadcastInDim S19x32x1 ![0, 1] bcast_S19x32_S19x32x1_0_1 (res_main_v141 V0))) transposes_S3x19x32x2048_S19x2048x3x32_1_3_0_2) shapeCasts_S19x2048x3x32_S19x2048x96)
      (ix3 t s m) : EReal) = ∑ d, x I t.val d * a I (m.val / 32) ((I.st s.val).toNat + m.val % 32) d := by
  have hm := m.isLt
  have hst := G.st s.val s.isLt
  simp only [Host.dotGeneral]
  rw [Ideal.dotGeneral_apply]
  rw [dot_sum dot_S12288x2048_S19x2048x96_S12288x19x96_1_1_0_02_n_n 2048 rfl rfl _ _ _
    (fun d => x I t.val d) (fun d => a I (m.val / 32) ((I.st s.val).toNat + m.val % 32) d) ?_ ?_]
  · intro kk c hc
    rw [hA.X]
    unfold x
    refine congrArg I.X ?_
    funext e
    match e with
    | ⟨0, _⟩ => exact Fin.ext (Nat.mod_eq_of_lt t.isLt).symm
    | ⟨1, _⟩ => exact Fin.ext hc
  · intro kk c hc
    rw [hA.A]
    have er := row_index hA G s (⟨m.val % 32, by omega⟩ : Fin 32)
    generalize broadcastInDim S19x32x1 ![0, 1] bcast_S19x32_S19x32x1_0_1 (res_main_v141 V0) = idx at *
    refine (shapeCast_apply _ _ _ (ix4 s c (⟨m.val / 32, by omega⟩ : Fin 3) (⟨m.val % 32, by omega⟩ : Fin 32)) ?_).trans ?_
    · rw [Shape.rowMajor_val_three, Shape.rowMajor_val_four]
      have e0 : (dot_S12288x2048_S19x2048x96_S12288x19x96_1_1_0_02_n_n.rhsIdx (ix3 t s m) kk 0).val = s.val := rfl
      have e1 : (dot_S12288x2048_S19x2048x96_S12288x19x96_1_1_0_02_n_n.rhsIdx (ix3 t s m) kk 1).val = c.val := hc
      have e2 : (dot_S12288x2048_S19x2048x96_S12288x19x96_1_1_0_02_n_n.rhsIdx (ix3 t s m) kk 2).val = m.val := rfl
      rw [e0, e1, e2]
      show ((s.val * 2048 + c.val) * 3 + m.val / 32) * 32 + m.val % 32 = (s.val * 2048 + c.val) * 96 + m.val
      omega
    · refine (transpose_apply _ _ transposes_S3x19x32x2048_S19x2048x3x32_1_3_0_2 _ (ix4 (⟨m.val / 32, by omega⟩ : Fin 3) s (⟨m.val % 32, by omega⟩ : Fin 32) c) (fun e => by
        match e with
        | ⟨0, _⟩ => rfl
        | ⟨1, _⟩ => rfl
        | ⟨2, _⟩ => rfl
        | ⟨3, _⟩ => rfl)).trans ?_
      refine (gatherA I.A idx _ s _ c (⟨(I.st s.val).toNat + m.val % 32, by omega⟩ : Fin 1000) er).trans ?_
      unfold a
      refine congrArg I.A ?_
      funext e
      match e with
      | ⟨0, _⟩ => exact Fin.ext (Nat.mod_eq_of_lt (show m.val / 32 < 3 by omega)).symm
      | ⟨1, _⟩ => exact Fin.ext (Nat.mod_eq_of_lt (show (I.st s.val).toNat + m.val % 32 < 1000 by omega)).symm
      | ⟨2, _⟩ => rfl

/-- Nineteen words of which at most one is kept, added up. -/
theorem fold_pick (S : Finset (Fin 19)) (P : Fin 19 → Prop) [DecidablePred P] (w : Fin 19 → BitVec 32) :
    ((∀ s ∈ S, ¬ P s) → S.fold IntOp.addi 0#32 (fun s => if P s then w s else 0#32) = 0#32)
      ∧ (∀ s0 ∈ S, P s0 → (∀ s ∈ S, P s → s = s0) → S.fold IntOp.addi 0#32 (fun s => if P s then w s else 0#32) = w s0) := by
  induction S using Finset.induction_on with
  | empty => exact ⟨fun _ => rfl, fun s0 h => absurd h (Finset.notMem_empty _)⟩
  | insert s S hs ih =>
    constructor
    · intro h
      rw [Finset.fold_insert hs, if_neg (h s (Finset.mem_insert_self _ _)), ih.1 fun s' h' => h s' (Finset.mem_insert_of_mem h')]
      rfl
    · intro s0 h0 hp hu
      rw [Finset.fold_insert hs]
      by_cases he : s = s0
      · rw [if_pos (he ▸ hp), ih.1 fun s' h' hp' => hs (by rw [he, ← hu s' (Finset.mem_insert_of_mem h') hp']; exact h'), he]
        show w s0 + 0#32 = w s0
        simp
      · rw [if_neg fun hp' => he (hu s (Finset.mem_insert_self _ _) hp'),
          ih.2 s0 ((Finset.mem_insert.mp h0).resolve_left fun e => he e.symm) hp fun s' h' => hu s' (Finset.mem_insert_of_mem h')]
        show 0#32 + w s0 = w s0
        simp

/-- The words of a token's own segments, added up. -/
theorem rank19 (mask : IVec S12288x19 1) (v : S19.Idx → BitVec 32) (t : Fin 12288) (P : ℕ → Prop) [DecidablePred P]
    (hP : ∀ s : Fin 19, mask (ix2 t s) = BitVec.ofBool (decide (P s.val))) :
    Host.reduce IntOp.addi (select mask (broadcastInDim S12288x19 ![0, 1] bcast_S1x19_S12288x19_0_1 (broadcastInDim S1x19 ![1] bcast_S19_S1x19_1 v))
      (broadcastInDim S12288x19 ![] bcast_S_S12288x19 (constantI S_ 32 0#32))) (constantI S_ 32 0#32) reducesTo_S12288x19_S12288_d1 h_S_ (ix1 t)
      = (Finset.univ : Finset (Fin 19)).fold IntOp.addi 0#32 (fun s => if P s.val then v (ix1 s) else 0#32) := by
  have h : S12288x19.Reduces [1] S12288 := by decide
  refine (Host.reduce_eq_fold_single IntOp.addi _ _ reducesTo_S12288x19_S12288_d1 h h_S_ (ix1 t)).trans ?_
  refine congrArg (fun f : Fin 19 → BitVec 32 => Finset.fold IntOp.addi 0#32 f Finset.univ) (funext fun (s : Fin 19) => ?_)
  have el : h.lift (ix1 t) s = (ix2 t s : S12288x19.Idx) := by
    funext e
    match e with
    | ⟨0, _⟩ => rfl
    | ⟨1, _⟩ => rfl
  show Scalar.select (mask (h.lift (ix1 t) s)) (broadcastInDim S12288x19 ![0, 1] bcast_S1x19_S12288x19_0_1 (broadcastInDim S1x19 ![1] bcast_S19_S1x19_1 v) (h.lift (ix1 t) s)) 0#32 = _
  rw [el, hP, select_ofBool, row19]

/-- The scales of a token's own segments, added up. -/
theorem scale19 (mask : IVec S12288x19 1) (v : FVec Ideal S19x3 .f32) (c : Fin 3) (off : Fin 2 → ℕ) (h0 : off 0 = 0) (h1 : off 1 = c.val)
    (hsl : S19x3.Slices off S19x1) (t : Fin 12288) (P : ℕ → Prop) [DecidablePred P]
    (hP : ∀ s : Fin 19, mask (ix2 t s) = BitVec.ofBool (decide (P s.val))) :
    (broadcastInDim S12288x1 ![0] bcast_S12288_S12288x1_0 (Host.reduceAdd (select mask (broadcastInDim S12288x19 ![0, 1] bcast_S1x19_S12288x19_0_1
      (broadcastInDim S1x19 ![1] bcast_S19_S1x19_1 (shapeCast S19 (extractStridedSlice S19x1 off v hsl) shapeCasts_S19x1_S19)))
      (broadcastInDim S12288x19 ![] bcast_S_S12288x19 (constant (F := Ideal) S_ .f32 0x00000000#32))) (constant S_ .f32 0x00000000#32) reducesTo_S12288x19_S12288_d1 h_S_)
      (ix2 t (0 : Fin 1)) : EReal) = ∑ s : Fin 19, if P s.val then (v (ix2 s c) : EReal) else 0 := by
  refine (broadcastInDim_apply _ bcast_S12288_S12288x1_0 _ _ (ix1 t) fun e => by
    match e with
    | ⟨0, _⟩ => rfl).trans ?_
  rw [sum19]
  refine Finset.sum_congr rfl fun s _ => ?_
  have ev : (shapeCast S19 (extractStridedSlice S19x1 off v hsl) shapeCasts_S19x1_S19 (ix1 s) : EReal) = v (ix2 s c) := by
    refine (shapeCast_apply _ _ _ (ix2 s (0 : Fin 1)) ?_).trans (extractStridedSlice_apply off v hsl _ (ix2 s c) fun e => ?_)
    · rw [Shape.rowMajor_val_two, Shape.rowMajor_val_one]
      show s.val * 1 + 0 = s.val
      omega
    · match e with
      | ⟨0, _⟩ => show s.val = off 0 + s.val; omega
      | ⟨1, _⟩ => show c.val = off 1 + 0; omega
  generalize shapeCast S19 (extractStridedSlice S19x1 off v hsl) shapeCasts_S19x1_S19 = u at *
  show Scalar.select (mask (ix2 t s)) (broadcastInDim S12288x19 ![0, 1] bcast_S1x19_S12288x19_0_1 (broadcastInDim S1x19 ![1] bcast_S19_S1x19_1 u) (ix2 t s) : EReal)
    (Ideal.ofBits .f32 0x00000000#32) = _
  rw [hP, select_ofBool, row19, Ideal.ofBits_zero_f32, ev]

/-- The rows kept, scaled. -/
theorem v184_read (RK : S12288.Idx → BitVec 32) (H : FVec Ideal S12288x96 .f32) (SC : FVec Ideal S12288x3 .f32) (t : Fin 12288) (c : Fin 3) (r : Fin 32) :
    (select (broadcastInDim S12288x3x32 ![0, 1, 2] bcast_S12288x1x32_S12288x3x32_0_1_2 (cmpi .slt (broadcastInDim S12288x1x32 ![0, 1, 2] bcast_S1x1x32_S12288x1x32_0_1_2
        (broadcastInDim S1x1x32 ![2] bcast_S32_S1x1x32_2 (iotaInDim S32 32 0))) (broadcastInDim S12288x1x32 ![0, 1, 2] bcast_S12288x1x1_S12288x1x32_0_1_2
        (broadcastInDim S12288x1x1 ![0] bcast_S12288_S12288x1x1_0 RK))))
      (truncf .bf16 (mulf (shapeCast S12288x3x32 H shapeCasts_S12288x96_S12288x3x32) (broadcastInDim S12288x3x32 ![0, 1, 2] bcast_S12288x3x1_S12288x3x32_0_1_2
        (broadcastInDim S12288x3x1 ![0, 1] bcast_S12288x3_S12288x3x1_0_1 SC))) bitsLt_bf16_f32)
      (broadcastInDim S12288x3x32 ![] bcast_S_S12288x3x32 (constant (F := Ideal) S_ .bf16 0x0000#16)) (ix3 t c r) : EReal)
      = Scalar.select (IntOp.cmpi .slt (BitVec.ofNat 32 r.val) (RK (ix1 t)))
        ((H (ix2 t (⟨32 * c.val + r.val, by have := c.isLt; have := r.isLt; omega⟩ : Fin 96)) : EReal) * SC (ix2 t c)) (0 : EReal) := by
  have e1 : broadcastInDim S12288x3x32 ![0, 1, 2] bcast_S12288x1x32_S12288x3x32_0_1_2 (cmpi .slt (broadcastInDim S12288x1x32 ![0, 1, 2] bcast_S1x1x32_S12288x1x32_0_1_2
        (broadcastInDim S1x1x32 ![2] bcast_S32_S1x1x32_2 (iotaInDim S32 32 0))) (broadcastInDim S12288x1x32 ![0, 1, 2] bcast_S12288x1x1_S12288x1x32_0_1_2
        (broadcastInDim S12288x1x1 ![0] bcast_S12288_S12288x1x1_0 RK))) (ix3 t c r) = IntOp.cmpi .slt (BitVec.ofNat 32 r.val) (RK (ix1 t)) := by
    refine (broadcastInDim_apply _ bcast_S12288x1x32_S12288x3x32_0_1_2 _ _ (ix3 t (0 : Fin 1) r) fun e => by
      match e with
      | ⟨0, _⟩ => rfl
      | ⟨1, _⟩ => rfl
      | ⟨2, _⟩ => rfl).trans (congrArg₂ (IntOp.cmpi .slt) ?_ ?_)
    · refine (broadcastInDim_apply _ bcast_S1x1x32_S12288x1x32_0_1_2 _ _ (ix3 (0 : Fin 1) (0 : Fin 1) r) fun e => by
        match e with
        | ⟨0, _⟩ => rfl
        | ⟨1, _⟩ => rfl
        | ⟨2, _⟩ => rfl).trans ((broadcastInDim_apply _ bcast_S32_S1x1x32_2 _ _ (ix1 r) fun e => by
        match e with
        | ⟨0, _⟩ => rfl).trans rfl)
    · refine (broadcastInDim_apply _ bcast_S12288x1x1_S12288x1x32_0_1_2 _ _ (ix3 t (0 : Fin 1) (0 : Fin 1)) fun e => by
        match e with
        | ⟨0, _⟩ => rfl
        | ⟨1, _⟩ => rfl
        | ⟨2, _⟩ => rfl).trans (broadcastInDim_apply _ bcast_S12288_S12288x1x1_0 RK _ (ix1 t) fun e => by
        match e with
        | ⟨0, _⟩ => rfl)
  have e2 : (shapeCast S12288x3x32 H shapeCasts_S12288x96_S12288x3x32 (ix3 t c r) : EReal)
      = H (ix2 t (⟨32 * c.val + r.val, by have := c.isLt; have := r.isLt; omega⟩ : Fin 96)) := by
    refine shapeCast_apply _ _ _ _ ?_
    rw [Shape.rowMajor_val_two, Shape.rowMajor_val_three]
    show t.val * 96 + (32 * c.val + r.val) = (t.val * 3 + c.val) * 32 + r.val
    omega
  have e3 : (broadcastInDim S12288x3x32 ![0, 1, 2] bcast_S12288x3x1_S12288x3x32_0_1_2
        (broadcastInDim S12288x3x1 ![0, 1] bcast_S12288x3_S12288x3x1_0_1 SC) (ix3 t c r) : EReal) = SC (ix2 t c) := by
    refine (broadcastInDim_apply _ bcast_S12288x3x1_S12288x3x32_0_1_2 _ _ (ix3 t c (0 : Fin 1)) fun e => by
      match e with
      | ⟨0, _⟩ => rfl
      | ⟨1, _⟩ => rfl
      | ⟨2, _⟩ => rfl).trans (broadcastInDim_apply _ bcast_S12288x3_S12288x3x1_0_1 SC _ (ix2 t c) fun e => by
      match e with
      | ⟨0, _⟩ => rfl
      | ⟨1, _⟩ => rfl)
  refine (congrArg₂ (fun (w : BitVec 1) (v : EReal) => Scalar.select w v (Ideal.ofBits .bf16 0x0000#16)) e1
    (congrArg₂ (fun p q : EReal => p * q) e2 e3)).trans ?_
  rw [Ideal.ofBits_zero_bf16]

/-- Three columns side by side. -/
theorem cat3 {α : Type} (u0 u1 u2 : S12288x1.Idx → α) (t : Fin 12288) (c : Fin 3) :
    concatenate S12288x3 1 [⟨S12288x1, u0⟩, ⟨S12288x1, u1⟩, ⟨S12288x1, u2⟩] concatenates_S12288x1_S12288x1_S12288x1_S12288x3_d1 (ix2 t c)
      = (match c with | 0 => u0 | 1 => u1 | 2 => u2) (ix2 t (0 : Fin 1)) := by
  have h : ∀ (c : Fin 3) (xs : List ((s : Shape) × (s.Idx → α))) (hc : Shape.Concatenates (xs.map (·.1)) S12288x3 1) (k : ℕ) (hk : k < xs.length) (u : S12288x1.Idx → α)
      (hx : xs[k] = ⟨S12288x1, u⟩) (hpre : (((xs.take k).map (·.1)).map fun s => if h : s.rank = S12288x3.rank then s.size ((1 : Fin S12288x3.rank).cast h.symm) else 0).sum = k)
      (hkc : k = c.val), concatenate S12288x3 1 xs hc (ix2 t c) = u (ix2 t (0 : Fin 1)) := by
    intro c xs hc k hk u hx hpre hkc
    refine concatenate_apply_piece (t := S12288x3) 1 xs hc (ix2 t c) k hk S12288x1 u hx rfl k hpre (ix2 t (0 : Fin 1)) (fun b hb => ?_) ?_
    · match b with
      | ⟨0, _⟩ => rfl
      | ⟨1, _⟩ => exact absurd rfl hb
    · show k + 0 = c.val
      omega
  match c with
  | ⟨0, _⟩ => exact h _ [⟨S12288x1, u0⟩, ⟨S12288x1, u1⟩, ⟨S12288x1, u2⟩] concatenates_S12288x1_S12288x1_S12288x1_S12288x3_d1 0 (show 0 < 3 by decide) u0 rfl rfl rfl
  | ⟨1, _⟩ => exact h _ [⟨S12288x1, u0⟩, ⟨S12288x1, u1⟩, ⟨S12288x1, u2⟩] concatenates_S12288x1_S12288x1_S12288x1_S12288x3_d1 1 (show 1 < 3 by decide) u1 rfl rfl rfl
  | ⟨2, _⟩ => exact h _ [⟨S12288x1, u0⟩, ⟨S12288x1, u1⟩, ⟨S12288x1, u2⟩] concatenates_S12288x1_S12288x1_S12288x1_S12288x3_d1 2 (show 2 < 3 by decide) u2 rfl rfl rfl

include hA G in
/-- The reference's second result at token `t`, slice `c`, row `r`. -/
theorem v184_apply (t : Fin 12288) (c : Fin 3) (r : Fin 32) : (res_main_v184 V0 (ix3 t c r) : EReal) = lora I t.val c.val r.val := by
  have hc := c.isLt
  have hr := r.isLt
  have hM := mask_apply hA t
  unfold res_main_v184
  refine (v184_read _ _ _ t c r).trans ?_
  have eR := (rank19 (res_main_v134 V0) (Host.gather gather_S23_S19x1_S19_n_0_n_n_0_1_1 (V0 (Proc.devRef .tc main_arg6))
    (broadcastInDim S19x1 ![0] bcast_S19_S19x1_0 (V0 (Proc.devRef .tc main_arg9)))) t (seg I t.val) hM)
  have eH := sumW (W := 96) (res_main_v134 V0) bcast_S12288x19x1_S12288x19x96_0_1_2 bcast_S_S12288x19x96 reducesTo_S12288x19x96_S12288x96_d1 (by decide)
    (Host.dotGeneral (φ₁ := .bf16) (φ₂ := .bf16) dot_S12288x2048_S19x2048x96_S12288x19x96_1_1_0_02_n_n none (res_main_v0 V0) (shapeCast S19x2048x96
      (transpose S19x2048x3x32 [1, 3, 0, 2] (Host.gather gather_S3x1000x2048_S19x32x1_S3x19x32x2048_03_1_n_n_1_2_312048 (V0 (Proc.devRef .tc main_arg3))
        (broadcastInDim S19x32x1 ![0, 1] bcast_S19x32_S19x32x1_0_1 (res_main_v141 V0))) transposes_S3x19x32x2048_S19x2048x3x32_1_3_0_2) shapeCasts_S19x2048x3x32_S19x2048x96))
    t (⟨32 * c.val + r.val, by omega⟩ : Fin 96) (seg I t.val) hM
  obtain ⟨V, hV⟩ : ∃ V : S19x3.Idx → EReal, V = res_main_v149 V0 := ⟨_, rfl⟩
  have eS : ∀ s : Fin 19, V (ix2 s c) = scale I s.val c.val := by
    intro s
    subst hV
    exact v149_apply hA G s c
  have eD : ∀ s : Fin 19, _ := fun s => dotA_apply hA G t s (⟨32 * c.val + r.val, by omega⟩ : Fin 96)
  have ek : ∀ s : Fin 19, Host.gather gather_S23_S19x1_S19_n_0_n_n_0_1_1 (V0 (Proc.devRef .tc main_arg6))
    (broadcastInDim S19x1 ![0] bcast_S19_S19x1_0 (V0 (Proc.devRef .tc main_arg9))) (ix1 s) = I.rk s.val := by
    intro s
    rw [hA.rank]
    exact take23 hA G I.rank s
  refine (congrArg₂ (fun (w : BitVec 32) (v : EReal) => Scalar.select (IntOp.cmpi .slt (BitVec.ofNat 32 r.val) w) v (0 : EReal)) eR
    (congrArg₂ (fun p q : EReal => p * q) eH (?_ : (_ : EReal) = ∑ s : Fin 19, if seg I t.val s.val then V (ix2 s c) else 0))).trans ?_
  · subst hV
    refine (cat3 _ _ _ t c).trans ?_
    match c with
    | ⟨0, _⟩ => exact scale19 (res_main_v134 V0) (res_main_v149 V0) 0 ![0, 0] rfl rfl slices_S19x3_S19x1_0_0 t (seg I t.val) hM
    | ⟨1, _⟩ => exact scale19 (res_main_v134 V0) (res_main_v149 V0) 1 ![0, 1] rfl rfl slices_S19x3_S19x1_0_1 t (seg I t.val) hM
    | ⟨2, _⟩ => exact scale19 (res_main_v134 V0) (res_main_v149 V0) 2 ![0, 2] rfl rfl slices_S19x3_S19x1_0_2 t (seg I t.val) hM
  simp only [ek, eD, eS]
  have e32 : (32 * c.val + r.val) / 32 = c.val := by omega
  have e32' : (32 * c.val + r.val) % 32 = r.val := by omega
  simp only [e32, e32']
  rw [WordCmp.cmpi_slt_eq, select_ofBool, toInt_ofNat _ (by omega)]
  unfold lora
  by_cases hx : ∃ s0 : Fin 19, seg I t.val s0.val
  · obtain ⟨s0, h0⟩ := hx
    have hu : ∀ s : Fin 19, seg I t.val s.val → s = s0 := fun s h => Fin.ext (seg_unique G t.val s.val s0.val s.isLt s0.isLt h h0)
    rw [(fold_pick Finset.univ (fun s => seg I t.val s.val) (fun s => I.rk s.val)).2 s0 (Finset.mem_univ _) h0 fun s _ h => hu s h]
    rw [Finset.sum_eq_single s0 (fun s _ hne => if_neg fun h => hne (hu s h)) (fun h => absurd (Finset.mem_univ _) h), if_pos h0,
      Finset.sum_eq_single s0 (fun s _ hne => if_neg fun h => hne (hu s h)) (fun h => absurd (Finset.mem_univ _) h), if_pos h0,
      Finset.sum_eq_single s0.val (fun s hs hne => if_neg fun h => hne (congrArg Fin.val (hu ⟨s, Finset.mem_range.mp hs⟩ h.1))) (fun h => absurd (Finset.mem_range.mpr s0.isLt) h)]
    exact if_congr (by unfold on; exact ⟨fun h => ⟨h0, h⟩, fun h => h.2⟩) rfl rfl
  · rw [(fold_pick Finset.univ (fun s => seg I t.val s.val) (fun s => I.rk s.val)).1 fun s _ h => hx ⟨s, h⟩]
    rw [if_neg (by show ¬ ((r.val : ℤ) < (0#32 : BitVec 32).toInt); rw [show (0#32 : BitVec 32).toInt = 0 from rfl]; omega)]
    exact (Finset.sum_eq_zero fun s hs => if_neg fun h => hx ⟨⟨s, Finset.mem_range.mp hs⟩, h.1⟩).symm

end Lora

end
-- ==== Proof.Value.RefBase.lean ====
/-
  The reference's base layer, read at an element.
-/
module

public import proofs.«01_k».proof.Proof.Value.RefMask

@[expose] public section

noncomputable section

open scoped BigOperators

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

variable {V0 : Valuation τ sig (Elt Ideal)} {I : In Ideal} (hA : Args V0 I)

theorem toNat_of_toInt (b : BitVec 32) : (b.toNat : ℤ) = b.toInt % 2 ^ 32 := by
  rw [BitVec.toInt_eq_toNat_cond]
  have := b.isLt
  split <;> omega

/-- A four-bit field of a word. -/
theorem field_toNat (w : BitVec 32) (j : ℕ) (hj : j < 8) : (BitVec.sshiftRight w (4 * j) &&& 15#32).toNat = w.toNat / 2 ^ (4 * j) % 16 := by
  rw [BitVec.toNat_and, show (15#32 : BitVec 32).toNat = 2 ^ 4 - 1 from rfl, Nat.and_two_pow_sub_one_eq_mod]
  have h := toNat_of_toInt (BitVec.sshiftRight w (4 * j))
  rw [BitVec.toInt_sshiftRight, Int.shiftRight_eq_div_pow, BitVec.toInt_eq_toNat_cond] at h
  have hw := w.isLt
  generalize (w.sshiftRight (4 * j)).toNat = q at *
  generalize w.toNat = n at *
  interval_cases j <;> norm_num at h ⊢ <;> split at h <;> omega

/-- Read as a signed field, both ways. -/
theorem word_eq (w f : BitVec 32) (j : ℕ) (hj : j < 8) (hf : f = BitVec.sshiftRight w (4 * j) &&& 15#32) :
    (f - 16#32 * BitVec.setWidth 32 (BitVec.ofBool (decide (8 ≤ f.toInt)))).toInt = (BitVec.sshiftRight (w <<< (28 - 4 * j)) 28).toInt := by
  have hn := field_toNat w j hj
  rw [← hf] at hn
  have hi : f.toInt = f.toNat := toInt_small f (by omega)
  have hl : (f - 16#32 * BitVec.setWidth 32 (BitVec.ofBool (decide (8 ≤ f.toInt)))).toInt = if 8 ≤ f.toNat then (f.toNat : ℤ) - 16 else f.toNat := by
    by_cases h : 8 ≤ f.toNat
    · rw [if_pos h, decide_eq_true (by rw [hi]; omega)]
      rw [show (16#32 * BitVec.setWidth 32 (BitVec.ofBool true) : BitVec 32) = 16#32 from by decide, toInt_sub_small _ _ (by omega) (by decide)]
      rfl
    · rw [if_neg h, decide_eq_false (by rw [hi]; omega)]
      rw [show (16#32 * BitVec.setWidth 32 (BitVec.ofBool false) : BitVec 32) = 0#32 from by decide, toInt_sub_small _ _ (by omega) (by decide)]
      simp
  rw [hl, BitVec.toInt_sshiftRight, Int.shiftRight_eq_div_pow, BitVec.toInt_eq_toNat_cond, BitVec.toNat_shiftLeft, Nat.shiftLeft_eq, hn]
  have hw := w.isLt
  generalize w.toNat = n at *
  clear hl hi hn hf
  interval_cases j <;> norm_num <;> split <;> split <;> omega

include hA in
/-- A row of scales, sixteen words to a group. -/
theorem v2_apply (k : Fin 256) (n : Fin 8192) (j : ℕ) (hj : j < 8) : (res_main_v2 V0 (ix2 k n) : EReal) = ws I (8 * k.val + j) n.val := by
  have hk := k.isLt
  unfold res_main_v2
  rw [hA.WS]
  show (shapeCast S256x8192 (broadcastInDim S16x16x8192 ![0, 2] bcast_S16x8192_S16x16x8192_0_2 I.WS) shapeCasts_S16x16x8192_S256x8192 (ix2 k n) : EReal) = _
  refine (shapeCast_apply _ _ _ (ix3 (⟨k.val / 16, by omega⟩ : Fin 16) (⟨k.val % 16, by omega⟩ : Fin 16) n) ?_).trans
    ((broadcastInDim_apply _ bcast_S16x8192_S16x16x8192_0_2 I.WS _ (ix2 (⟨k.val / 16, by omega⟩ : Fin 16) n) fun e => by
      match e with
      | ⟨0, _⟩ => rfl
      | ⟨1, _⟩ => rfl).trans ?_)
  · rw [Shape.rowMajor_val_three, Shape.rowMajor_val_two]
    show (k.val / 16 * 16 + k.val % 16) * 8192 + n.val = k.val * 8192 + n.val
    omega
  · unfold ws
    refine congrArg I.WS ?_
    funext e
    match e with
    | ⟨0, _⟩ => exact Fin.ext (show k.val / 16 = (8 * k.val + j) / 128 % 16 by omega)
    | ⟨1, _⟩ => exact Fin.ext (Nat.mod_eq_of_lt n.isLt).symm

/-- A four-bit field of the packed words. -/
theorem field_apply (WP : IVec S256x8192 32) (a : BitVec 32) (j : ℕ) (hj : j < 8) (ha : a.toNat = 4 * j) (k : Fin 256) (n : Fin 8192) :
    andi (Host.shrsi WP (broadcastInDim S256x8192 ![] bcast_S_S256x8192 (constantI S_ 32 a))) (broadcastInDim S256x8192 ![] bcast_S_S256x8192 (constantI S_ 32 15#32)) (ix2 k n)
      = BitVec.sshiftRight (WP (ix2 k n)) (4 * j) &&& 15#32 := by
  show IntOp.shrsi .host (WP (ix2 k n)) a &&& 15#32 = _
  unfold IntOp.shrsi
  rw [if_pos (by omega), BitVec.sshiftRight', ha]

include hA in
/-- The products with every eighth row of the weights. -/
theorem part_apply (off : Fin 2 → ℕ) (j : ℕ) (hj : j < 8) (h0 : off 0 = 0) (h1 : off 1 = j) (hs : S12288x2048.SlicesBy off ![1, 8] S12288x256)
    (FV : IVec S256x8192 32) (hF : ∀ (k : Fin 256) (n : Fin 8192), FV (ix2 k n) = BitVec.sshiftRight (I.WP (ix2 k n)) (4 * j) &&& 15#32)
    (t : Fin 12288) (n : Fin 8192) :
    (Host.dotGeneral (φ₁ := .bf16) (φ₂ := .bf16) dot_S12288x256_S256x8192_S12288x8192_1_0_0_1_n_n none (Host.slice S12288x256 off ![1, 8] (res_main_v0 V0) hs)
      (mulf (sitofp .bf16 (subi FV (muli (broadcastInDim S256x8192 ![] bcast_S_S256x8192 (constantI S_ 32 16#32)) (extui 32 (cmpi .sge FV
        (broadcastInDim S256x8192 ![] bcast_S_S256x8192 (constantI S_ 32 8#32))) natLt_1_32)))) (res_main_v2 V0)) (ix2 t n) : EReal)
      = ∑ k : Fin 256, (fun d : Fin 2048 => x I t.val d * ((((code I d.val n.val).toInt : ℝ) : EReal) * ws I d.val n.val)) ⟨8 * k.val + j, by have := k.isLt; omega⟩ := by
  simp only [Host.dotGeneral]
  rw [Ideal.dotGeneral_apply]
  refine dot_sum dot_S12288x256_S256x8192_S12288x8192_1_0_0_1_n_n 256 rfl rfl _ _ _
    (fun k => x I t.val ⟨8 * k.val + j, by have := k.isLt; omega⟩)
    (fun k => (((code I (8 * k.val + j) n.val).toInt : ℝ) : EReal) * ws I (8 * k.val + j) n.val) ?_ ?_
  · intro kk c hc
    rw [hA.X]
    unfold x Host.slice
    refine congrArg I.X ?_
    funext e
    match e with
    | ⟨0, _⟩ =>
      refine Fin.ext ?_
      show off 0 + 1 * t.val = t.val % 12288
      have := t.isLt
      omega
    | ⟨1, _⟩ =>
      refine Fin.ext ?_
      show off 1 + 8 * (kk ⟨0, _⟩).val = 8 * c.val + j
      rw [hc, h1]; omega
  · intro kk c hc
    have ei : dot_S12288x256_S256x8192_S12288x8192_1_0_0_1_n_n.rhsIdx (ix2 t n) kk = ix2 c n := by
      funext e
      match e with
      | ⟨0, _⟩ => exact Fin.ext hc
      | ⟨1, _⟩ => rfl
    rw [ei]
    have e2 := v2_apply hA c n j hj
    have e1 : (subi FV (muli (broadcastInDim S256x8192 ![] bcast_S_S256x8192 (constantI S_ 32 16#32)) (extui 32 (cmpi .sge FV
        (broadcastInDim S256x8192 ![] bcast_S_S256x8192 (constantI S_ 32 8#32))) natLt_1_32)) (ix2 c n)).toInt = (code I (8 * c.val + j) n.val).toInt := by
      have e : subi FV (muli (broadcastInDim S256x8192 ![] bcast_S_S256x8192 (constantI S_ 32 16#32)) (extui 32 (cmpi .sge FV
        (broadcastInDim S256x8192 ![] bcast_S_S256x8192 (constantI S_ 32 8#32))) natLt_1_32)) (ix2 c n)
          = FV (ix2 c n) - 16#32 * BitVec.setWidth 32 (IntOp.cmpi .sge (FV (ix2 c n)) 8#32) := rfl
      rw [e, WordCmp.cmpi_sge_eq]
      refine (word_eq (I.WP (ix2 c n)) (FV (ix2 c n)) j hj (hF c n)).trans ?_
      unfold code
      have hc' := c.isLt
      rw [show (8 * c.val + j) / 8 = c.val by omega, show (8 * c.val + j) % 8 = j by omega,
        show Fin.ofNat 256 c.val = c from Fin.ext (Nat.mod_eq_of_lt c.isLt), show Fin.ofNat 8192 n.val = n from Fin.ext (Nat.mod_eq_of_lt n.isLt)]
    exact congrArg₂ (fun (i : ℤ) (v : EReal) => ((i : ℝ) : EReal) * v) e1 e2

/-- A sum over the rows, eight interleaved sums. -/
theorem eight (F : Fin 2048 → EReal) (P : ℕ → EReal) (hP : ∀ (j : ℕ) (hj : j < 8), P j = ∑ k : Fin 256, F ⟨8 * k.val + j, by have := k.isLt; omega⟩) :
    P 0 + P 1 + P 2 + P 3 + P 4 + P 5 + P 6 + P 7 = ∑ d, F d := by
  rw [← Equiv.sum_comp (finProdFinEquiv (m := 256) (n := 8)) F, Fintype.sum_prod_type, Finset.sum_comm, Fin.sum_univ_eight]
  have h : ∀ j : Fin 8, (∑ k : Fin 256, F (finProdFinEquiv (k, j))) = P j.val := by
    intro j
    rw [hP j.val j.isLt]
    refine Finset.sum_congr rfl fun k _ => congrArg F (Fin.ext ?_)
    show j.val + 8 * k.val = 8 * k.val + j.val
    omega
  rw [h, h, h, h, h, h, h, h]
  rfl

end Lora

end
-- ==== Proof.Value.RefOut.lean ====
/-
  The reference's first result, read at an element.
-/
module

public import proofs.«01_k».proof.Proof.Value.RefLora
public import proofs.«01_k».proof.Proof.Value.RefBase

@[expose] public section

noncomputable section

open scoped BigOperators

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

variable {V0 : Valuation τ sig (Elt Ideal)} {I : In Ideal} (hA : Args V0 I) (G : Good I)

include G in
/-- A token's down-projected row times its own segment's up-projection is what the adapters add. -/
theorem delta_eq (t n c : ℕ) (hc : sl (n / 512) = c) :
    (∑ s : Fin 19, if seg I t s.val then ∑ r : Fin 32, lora I t c r.val * b I ((I.st s.val).toNat + r.val) n else 0) = delta I t n := by
  rw [Fin.sum_univ_eq_sum_range (fun s => if seg I t s then ∑ r : Fin 32, lora I t c r.val * b I ((I.st s).toNat + r.val) n else 0) 19]
  unfold delta
  refine Finset.sum_congr rfl fun s hs => ?_
  have hs' := Finset.mem_range.mp hs
  by_cases h : seg I t s
  · rw [if_pos h, Fin.sum_univ_eq_sum_range (fun r => lora I t c r * b I ((I.st s).toNat + r) n) 32]
    refine Finset.sum_congr rfl fun r _ => ?_
    unfold lora
    rw [Finset.sum_eq_single s (fun s' h' hne => if_neg fun ho => hne (seg_unique G t s' s (Finset.mem_range.mp h') hs' ho.1 h)) (fun h' => absurd hs h'), hc]
  · rw [if_neg h]
    exact (Finset.sum_eq_zero fun r _ => by rw [if_neg fun ho => h ho.1, zero_mul]).symm

/-- The tokens' rows times every segment's up-projection. -/
theorem dotB {W : ℕ} (D : DotDims S12288x32 ⟨3, ![19, 32, W]⟩ ⟨3, ![12288, 19, W]⟩) (hr : D.contr.rank = 1) (hs : D.contr.size ⟨0, by omega⟩ = 32)
    (t : Fin 12288) (s : Fin 19) (n : Fin W)
    (hL : ∀ (k : D.contr.Idx) (c : Fin 32), (k ⟨0, by omega⟩).val = c.val → D.lhsIdx (ix3 t s n) k = ix2 t c)
    (hR : ∀ (k : D.contr.Idx) (c : Fin 32), (k ⟨0, by omega⟩).val = c.val → D.rhsIdx (ix3 t s n) k = ix3 s c n)
    (L : FVec Ideal S12288x32 .bf16) (R : FVec Ideal ⟨3, ![19, 32, W]⟩ .bf16) :
    (Host.dotGeneral (φ₁ := .bf16) (φ₂ := .bf16) D none L R (ix3 t s n) : EReal) = ∑ c : Fin 32, (L (ix2 t c) : EReal) * R (ix3 s c n) := by
  simp only [Host.dotGeneral]
  rw [Ideal.dotGeneral_apply]
  refine dot_sum D 32 hr hs _ _ _ (fun c => L (ix2 t c)) (fun c => R (ix3 s c n)) ?_ ?_
  · intro kk c hc
    rw [hL kk c hc]
  · intro kk c hc
    rw [hR kk c hc]

/-- One slice's rows, cut out of the three. -/
theorem cutL (L : FVec Ideal S12288x3x32 .bf16) (c : Fin 3) (off : Fin 3 → ℕ) (o0 : off 0 = 0) (o1 : off 1 = c.val) (o2 : off 2 = 0)
    (hsl : S12288x3x32.Slices off S12288x1x32) (t : Fin 12288) (r : Fin 32) :
    shapeCast S12288x32 (extractStridedSlice S12288x1x32 off L hsl) shapeCasts_S12288x1x32_S12288x32 (ix2 t r) = L (ix3 t c r) := by
  refine (shapeCast_apply (extractStridedSlice S12288x1x32 off L hsl) shapeCasts_S12288x1x32_S12288x32 (ix2 t r) (ix3 t (0 : Fin 1) r) ?_).trans ?_
  · rw [Shape.rowMajor_val_three, Shape.rowMajor_val_two]
    show (t.val * 1 + 0) * 32 + r.val = t.val * 32 + r.val
    omega
  · refine extractStridedSlice_apply off L hsl (ix3 t (0 : Fin 1) r) (ix3 t c r) fun e => ?_
    match e with
    | ⟨0, _⟩ => show t.val = off 0 + t.val; omega
    | ⟨1, _⟩ => show c.val = off 1 + 0; omega
    | ⟨2, _⟩ => show r.val = off 2 + r.val; omega

/-- One slice's columns, cut out of them all. -/
theorem cutR {W : ℕ} (R : FVec Ideal S19x32x8192 .bf16) (off' : Fin 3 → ℕ) (o : ℕ) (p0 : off' 0 = 0) (p1 : off' 1 = 0) (p2 : off' 2 = o)
    (hsl' : S19x32x8192.Slices off' ⟨3, ![19, 32, W]⟩) (s : Fin 19) (r : Fin 32) (m : Fin W) (n : Fin 8192) (hn : n.val = o + m.val) :
    extractStridedSlice ⟨3, ![19, 32, W]⟩ off' R hsl' (ix3 s r m) = R (ix3 s r n) := by
  refine extractStridedSlice_apply off' R hsl' (ix3 s r m) (ix3 s r n) fun e => ?_
  match e with
  | ⟨0, _⟩ => show s.val = off' 0 + s.val; omega
  | ⟨1, _⟩ => show r.val = off' 1 + r.val; omega
  | ⟨2, _⟩ => show n.val = off' 2 + m.val; omega

include hA G in
/-- What one slice of the adapters adds. -/
theorem piece {W : ℕ} (D : DotDims S12288x32 ⟨3, ![19, 32, W]⟩ ⟨3, ![12288, 19, W]⟩) (hr : D.contr.rank = 1) (hs : D.contr.size ⟨0, by omega⟩ = 32)
    (hL : ∀ (t : Fin 12288) (s : Fin 19) (n : Fin W) (k : D.contr.Idx) (c : Fin 32), (k ⟨0, by omega⟩).val = c.val → D.lhsIdx (ix3 t s n) k = ix2 t c)
    (hR : ∀ (t : Fin 12288) (s : Fin 19) (n : Fin W) (k : D.contr.Idx) (c : Fin 32), (k ⟨0, by omega⟩).val = c.val → D.rhsIdx (ix3 t s n) k = ix3 s c n)
    (b1 : S12288x19x1.BroadcastsInDim ⟨3, ![12288, 19, W]⟩ (![0, 1, 2] : Fin 3 → Fin (⟨3, ![12288, 19, W]⟩ : Shape).rank))
    (b0 : S_.BroadcastsInDim ⟨3, ![12288, 19, W]⟩ (![] : Fin 0 → Fin (⟨3, ![12288, 19, W]⟩ : Shape).rank))
    (h' : (⟨3, ![12288, 19, W]⟩ : Shape).ReducesTo [1] ⟨2, ![12288, W]⟩) (h : (⟨3, ![12288, 19, W]⟩ : Shape).Reduces [1] ⟨2, ![12288, W]⟩)
    (c : Fin 3) (off : Fin 3 → ℕ) (o0 : off 0 = 0) (o1 : off 1 = c.val) (o2 : off 2 = 0) (hsl : S12288x3x32.Slices off S12288x1x32)
    (off' : Fin 3 → ℕ) (o : ℕ) (p0 : off' 0 = 0) (p1 : off' 1 = 0) (p2 : off' 2 = o) (hsl' : S19x32x8192.Slices off' ⟨3, ![19, 32, W]⟩)
    (t : Fin 12288) (m : Fin W) (n : Fin 8192) (hn : n.val = o + m.val) (hc : sl (n.val / 512) = c.val) :
    (Host.reduceAdd (select (broadcastInDim ⟨3, ![12288, 19, W]⟩ ![0, 1, 2] b1 (broadcastInDim S12288x19x1 ![0, 1] bcast_S12288x19_S12288x19x1_0_1 (res_main_v134 V0)))
      (Host.dotGeneral (φ₁ := .bf16) (φ₂ := .bf16) D none (shapeCast S12288x32 (extractStridedSlice S12288x1x32 off (res_main_v184 V0) hsl) shapeCasts_S12288x1x32_S12288x32)
        (extractStridedSlice ⟨3, ![19, 32, W]⟩ off' (res_main_v185 V0) hsl'))
      (broadcastInDim ⟨3, ![12288, 19, W]⟩ ![] b0 (id (constant (F := Ideal) S_ .f32 0x00000000#32)))) (constant S_ .f32 0x00000000#32) h' h_S_ (ix2 t m) : EReal)
      = delta I t.val n.val := by
  rw [sumW _ b1 b0 h' h _ t m (seg I t.val) (mask_apply hA t), ← delta_eq G t.val n.val c.val hc]
  refine Finset.sum_congr rfl fun s _ => ?_
  refine if_congr Iff.rfl ?_ rfl
  rw [dotB D hr hs t s m (hL t s m) (hR t s m)]
  refine Finset.sum_congr rfl fun r _ => ?_
  have hst := G.st s.val s.isLt
  have hr' := r.isLt
  refine congrArg₂ (fun p q : EReal => p * q) ?_ ?_
  · exact (cutL (res_main_v184 V0) c off o0 o1 o2 hsl t r).trans (v184_apply hA G t c r)
  · refine (cutR (res_main_v185 V0) off' o p0 p1 p2 hsl' s r m n hn).trans ?_
    unfold res_main_v185
    rw [hA.B]
    refine (gatherB I.B _ s r n (⟨(I.st s.val).toNat + r.val, by omega⟩ : Fin 1000) (row_index hA G s r)).trans ?_
    unfold b
    refine congrArg I.B ?_
    funext e
    match e with
    | ⟨0, _⟩ => exact Fin.ext (Nat.mod_eq_of_lt (show (I.st s.val).toNat + r.val < 1000 by omega)).symm
    | ⟨1, _⟩ => exact Fin.ext (Nat.mod_eq_of_lt n.isLt).symm

/-- The three slices' columns side by side. -/
theorem catN {α : Type} (u0 : S12288x4096.Idx → α) (u1 u2 : S12288x2048.Idx → α) (t : Fin 12288) (n : Fin 8192) (v : α)
    (h0 : ∀ m : Fin 4096, n.val = 0 + m.val → u0 (ix2 t m) = v) (h1 : ∀ m : Fin 2048, n.val = 4096 + m.val → u1 (ix2 t m) = v)
    (h2 : ∀ m : Fin 2048, n.val = 6144 + m.val → u2 (ix2 t m) = v) :
    concatenate S12288x8192 1 [⟨S12288x4096, u0⟩, ⟨S12288x2048, u1⟩, ⟨S12288x2048, u2⟩] concatenates_S12288x4096_S12288x2048_S12288x2048_S12288x8192_d1 (ix2 t n) = v := by
  have h : ∀ (W : ℕ) (m : Fin W) (xs : List ((s : Shape) × (s.Idx → α))) (hc : Shape.Concatenates (xs.map (·.1)) S12288x8192 1) (k : ℕ) (hk : k < xs.length)
      (u : (⟨2, ![12288, W]⟩ : Shape).Idx → α) (pre : ℕ) (hx : xs[k] = ⟨⟨2, ![12288, W]⟩, u⟩)
      (hpre : (((xs.take k).map (·.1)).map fun s => if h : s.rank = S12288x8192.rank then s.size ((1 : Fin S12288x8192.rank).cast h.symm) else 0).sum = pre)
      (hm : pre + m.val = n.val), concatenate S12288x8192 1 xs hc (ix2 t n) = u (ix2 t m) := by
    intro W m xs hc k hk u pre hx hpre hm
    refine concatenate_apply_piece (t := S12288x8192) 1 xs hc (ix2 t n) k hk ⟨2, ![12288, W]⟩ u hx rfl pre hpre (ix2 t m) (fun b hb => ?_) hm
    match b with
    | ⟨0, _⟩ => rfl
    | ⟨1, _⟩ => exact absurd rfl hb
  have hn := n.isLt
  by_cases g0 : n.val < 4096
  · exact (h 4096 ⟨n.val, g0⟩ [⟨S12288x4096, u0⟩, ⟨S12288x2048, u1⟩, ⟨S12288x2048, u2⟩] concatenates_S12288x4096_S12288x2048_S12288x2048_S12288x8192_d1 0
      (show 0 < 3 by decide) u0 0 rfl rfl (Nat.zero_add _)).trans (h0 _ (Nat.zero_add _).symm)
  · by_cases g1 : n.val < 6144
    · exact (h 2048 ⟨n.val - 4096, by omega⟩ [⟨S12288x4096, u0⟩, ⟨S12288x2048, u1⟩, ⟨S12288x2048, u2⟩] concatenates_S12288x4096_S12288x2048_S12288x2048_S12288x8192_d1 1
        (show 1 < 3 by decide) u1 4096 rfl rfl (by show 4096 + (n.val - 4096) = n.val; omega)).trans (h1 _ (by show n.val = 4096 + (n.val - 4096); omega))
    · exact (h 2048 ⟨n.val - 6144, by omega⟩ [⟨S12288x4096, u0⟩, ⟨S12288x2048, u1⟩, ⟨S12288x2048, u2⟩] concatenates_S12288x4096_S12288x2048_S12288x2048_S12288x8192_d1 2
        (show 2 < 3 by decide) u2 6144 rfl rfl (by show 6144 + (n.val - 6144) = n.val; omega)).trans (h2 _ (by show n.val = 6144 + (n.val - 6144); omega))

theorem lhsIdx4096 (t : Fin 12288) (s : Fin 19) (n : Fin 4096) (k : dot_S12288x32_S19x32x4096_S12288x19x4096_1_1_0_02_n_n.contr.Idx) (c : Fin 32)
    (h : (k ⟨0, Nat.one_pos⟩).val = c.val) : dot_S12288x32_S19x32x4096_S12288x19x4096_1_1_0_02_n_n.lhsIdx (ix3 t s n) k = ix2 t c := by
  funext e
  match e with
  | ⟨0, _⟩ => rfl
  | ⟨1, _⟩ => exact Fin.ext h

theorem rhsIdx4096 (t : Fin 12288) (s : Fin 19) (n : Fin 4096) (k : dot_S12288x32_S19x32x4096_S12288x19x4096_1_1_0_02_n_n.contr.Idx) (c : Fin 32)
    (h : (k ⟨0, Nat.one_pos⟩).val = c.val) : dot_S12288x32_S19x32x4096_S12288x19x4096_1_1_0_02_n_n.rhsIdx (ix3 t s n) k = ix3 s c n := by
  funext e
  match e with
  | ⟨0, _⟩ => rfl
  | ⟨1, _⟩ => exact Fin.ext h
  | ⟨2, _⟩ => rfl

theorem lhsIdx2048 (t : Fin 12288) (s : Fin 19) (n : Fin 2048) (k : dot_S12288x32_S19x32x2048_S12288x19x2048_1_1_0_02_n_n.contr.Idx) (c : Fin 32)
    (h : (k ⟨0, Nat.one_pos⟩).val = c.val) : dot_S12288x32_S19x32x2048_S12288x19x2048_1_1_0_02_n_n.lhsIdx (ix3 t s n) k = ix2 t c := by
  funext e
  match e with
  | ⟨0, _⟩ => rfl
  | ⟨1, _⟩ => exact Fin.ext h

theorem rhsIdx2048 (t : Fin 12288) (s : Fin 19) (n : Fin 2048) (k : dot_S12288x32_S19x32x2048_S12288x19x2048_1_1_0_02_n_n.contr.Idx) (c : Fin 32)
    (h : (k ⟨0, Nat.one_pos⟩).val = c.val) : dot_S12288x32_S19x32x2048_S12288x19x2048_1_1_0_02_n_n.rhsIdx (ix3 t s n) k = ix3 s c n := by
  funext e
  match e with
  | ⟨0, _⟩ => rfl
  | ⟨1, _⟩ => exact Fin.ext h
  | ⟨2, _⟩ => rfl

include hA G in
/-- The reference's first result, before its rounding, at token `t`, column `n`. -/
theorem v208_apply (t : Fin 12288) (n : Fin 8192) : (res_main_v208 V0 (ix2 t n) : EReal) = bas I t.val n.val + delta I t.val n.val := by
  have hn := n.isLt
  have hw : ∀ (k : Fin 256) (m : Fin 8192), (V0 (Proc.devRef .tc main_arg1) : IVec S256x8192 32) (ix2 k m) = I.WP (ix2 k m) := fun k m => by rw [hA.WP]
  unfold bas
  rw [← eight (fun d : Fin 2048 => x I t.val d * ((((code I d.val n.val).toInt : ℝ) : EReal) * ws I d.val n.val))
    (fun j => if hj : j < 8 then ∑ k : Fin 256, (fun d : Fin 2048 => x I t.val d * ((((code I d.val n.val).toInt : ℝ) : EReal) * ws I d.val n.val)) ⟨8 * k.val + j, by have := k.isLt; omega⟩ else 0)
    (fun j hj => dif_pos hj)]
  unfold res_main_v208
  have part := fun (off : Fin 2 → ℕ) (j : ℕ) (hj : j < 8) (a : BitVec 32) (ha : a.toNat = 4 * j) (h0 : off 0 = 0) (h1 : off 1 = j) hs FV
      (hFV : FV = andi (Host.shrsi (V0 (Proc.devRef .tc main_arg1)) (broadcastInDim S256x8192 ![] bcast_S_S256x8192 (constantI S_ 32 a))) (broadcastInDim S256x8192 ![] bcast_S_S256x8192 (constantI S_ 32 15#32))) =>
    part_apply hA off j hj h0 h1 hs FV (fun k m => by rw [hFV, field_apply _ a j hj ha, hw]) t n
  refine congrArg₂ (fun p q : EReal => p + q) ?_ ?_
  · refine congrArg₂ (fun p q : EReal => p + q) ?_ (part ![0, 7] 7 (by decide) 28#32 rfl rfl rfl slicesBy_S12288x2048_S12288x256_0s1_7s8 (res_main_v110 V0) rfl)
    refine congrArg₂ (fun p q : EReal => p + q) ?_ (part ![0, 6] 6 (by decide) 24#32 rfl rfl rfl slicesBy_S12288x2048_S12288x256_0s1_6s8 (res_main_v95 V0) rfl)
    refine congrArg₂ (fun p q : EReal => p + q) ?_ (part ![0, 5] 5 (by decide) 20#32 rfl rfl rfl slicesBy_S12288x2048_S12288x256_0s1_5s8 (res_main_v80 V0) rfl)
    refine congrArg₂ (fun p q : EReal => p + q) ?_ (part ![0, 4] 4 (by decide) 16#32 rfl rfl rfl slicesBy_S12288x2048_S12288x256_0s1_4s8 (res_main_v65 V0) rfl)
    refine congrArg₂ (fun p q : EReal => p + q) ?_ (part ![0, 3] 3 (by decide) 12#32 rfl rfl rfl slicesBy_S12288x2048_S12288x256_0s1_3s8 (res_main_v50 V0) rfl)
    refine congrArg₂ (fun p q : EReal => p + q) ?_ (part ![0, 2] 2 (by decide) 8#32 rfl rfl rfl slicesBy_S12288x2048_S12288x256_0s1_2s8 (res_main_v35 V0) rfl)
    exact congrArg₂ (fun p q : EReal => p + q) (part ![0, 0] 0 (by decide) 0#32 rfl rfl rfl slicesBy_S12288x2048_S12288x256_0s1_0s8 (res_main_v6 V0) rfl)
      (part ![0, 1] 1 (by decide) 4#32 rfl rfl rfl slicesBy_S12288x2048_S12288x256_0s1_1s8 (res_main_v20 V0) rfl)
  · refine catN _ _ _ t n _ (fun m hm => ?_) (fun m hm => ?_) (fun m hm => ?_)
    · exact piece hA G dot_S12288x32_S19x32x4096_S12288x19x4096_1_1_0_02_n_n rfl rfl lhsIdx4096 rhsIdx4096 bcast_S12288x19x1_S12288x19x4096_0_1_2 bcast_S_S12288x19x4096
        reducesTo_S12288x19x4096_S12288x4096_d1 (by decide) 0 ![0, 0, 0] rfl rfl rfl slices_S12288x3x32_S12288x1x32_0_0_0 ![0, 0, 0] 0 rfl rfl rfl
        slices_S19x32x8192_S19x32x4096_0_0_0 t m n hm (by have := m.isLt; unfold sl; rw [if_pos (by omega)]; rfl)
    · exact piece hA G dot_S12288x32_S19x32x2048_S12288x19x2048_1_1_0_02_n_n rfl rfl lhsIdx2048 rhsIdx2048 bcast_S12288x19x1_S12288x19x2048_0_1_2 bcast_S_S12288x19x2048
        reducesTo_S12288x19x2048_S12288x2048_d1 (by decide) 1 ![0, 1, 0] rfl rfl rfl slices_S12288x3x32_S12288x1x32_0_1_0 ![0, 0, 4096] 4096 rfl rfl rfl
        slices_S19x32x8192_S19x32x2048_0_0_4096 t m n hm (by have := m.isLt; unfold sl; rw [if_neg (by omega), if_pos (by omega)]; rfl)
    · exact piece hA G dot_S12288x32_S19x32x2048_S12288x19x2048_1_1_0_02_n_n rfl rfl lhsIdx2048 rhsIdx2048 bcast_S12288x19x1_S12288x19x2048_0_1_2 bcast_S_S12288x19x2048
        reducesTo_S12288x19x2048_S12288x2048_d1 (by decide) 2 ![0, 2, 0] rfl rfl rfl slices_S12288x3x32_S12288x1x32_0_2_0 ![0, 0, 6144] 6144 rfl rfl rfl
        slices_S19x32x8192_S19x32x2048_0_0_6144 t m n hm (by have := m.isLt; unfold sl; rw [if_neg (by omega), if_neg (by omega)]; rfl)

end Lora

end
-- ==== Proof.Algebraic.lean ====
/-
  On the extended reals the kernel and the reference give the same two results.
-/
module

public import proofs.«01_k».proof.Defs
public import proofs.«01_k».proof.Proof.Frames
public import proofs.«01_k».proof.Proof.Value.KOut
public import proofs.«01_k».proof.Proof.Value.RefOut

@[expose] public section

noncomputable section

namespace Lora

open Idealize.ShloMosaic Idealize.ShloMosaic.TcCoe Idealize.ShloMosaic.StableHlo
open Cert.ReferenceIdeal Cert.ReferenceIdeal.Gen Cert.ReferenceIdeal.Value
open Cert.KernelIdeal.Hand (In Good sl)

variable {V0 : Valuation τ sig (Elt Ideal)} {I : In Ideal} (hA : Args V0 I) (G : Good I)

include hA G in
/-- The first result, before it is reshaped. -/
theorem first_eq : (truncf .bf16 (res_main_v208 V0) bitsLt_bf16_f32 : FVec Ideal S12288x8192 .bf16) = I.Yv := by
  funext i
  rw [show i = ix2 (i 0) (i 1) from funext fun e => by match e with | ⟨0, _⟩ => rfl | ⟨1, _⟩ => rfl]
  exact (v208_apply hA G (i 0) (i 1)).trans (Yv_apply G (i 0) (i 1)).symm

include hA G in
/-- The second result. -/
theorem second_eq : (res_main_v184 V0 : FVec Ideal S12288x3x32 .bf16)
    = transpose S12288x3x32 [2, 0, 1] I.LH Cert.KernelIdeal.Gen.transposes_S3x32x12288_S12288x3x32_2_0_1 := by
  funext i
  rw [show i = ix3 (i 0) (i 1) (i 2) from funext fun e => by match e with | ⟨0, _⟩ => rfl | ⟨1, _⟩ => rfl | ⟨2, _⟩ => rfl]
  refine (v184_apply hA G (i 0) (i 1) (i 2)).trans ((LH_apply G (i 0) (i 1) (i 2)).symm.trans ?_)
  refine (transpose_apply [2, 0, 1] I.LH _ (ix3 (i 0) (i 1) (i 2)) (ix3 (i 1) (i 2) (i 0)) fun e => ?_).symm
  match e with
  | ⟨0, _⟩ => rfl
  | ⟨1, _⟩ => rfl
  | ⟨2, _⟩ => rfl

end Lora

namespace Cert.Proof

open Idealize.ShloMosaic Idealize.ShloMosaic.TcCoe Idealize.SL.Sem

/-- The kernel reads the tokens as one table of rows. -/
theorem tokens (m : (ℓ : Loc Cert.KernelIdeal.nD Cert.KernelIdeal.τ Cert.KernelIdeal.sig) → Buf (Elt Ideal) ℓ) (c : Dev Cert.KernelIdeal.nD) :
    Cert.KernelIdeal.Hand.V m c Cert.KernelIdeal.main_v0
      = shapeCast Cert.KernelIdeal.S12288x2048 (m ((c.tc : Thread Cert.KernelIdeal.nD Cert.KernelIdeal.τ).loc Cert.KernelIdeal.main_arg0)) Cert.KernelIdeal.Gen.shapeCasts_S12x1024x2048_S12288x2048 := by
  show StableHlo.after Cert.KernelIdeal.Gen.hostOps0 _ _ = _
  rw [StableHlo.after_cons, StableHlo.after_nil, StableHlo.reshape_result']
  rfl

/-- From memories that agree on the arguments and meet the precondition, the kernel and the reference, both on the extended reals, end with equal results. -/
theorem algebraic : Cert.algebraic_KernelIdeal_ReferenceIdeal := by
  intro m ρ m' ρ' hp hagree
  have hG := Cert.KernelIdeal.Hand.good_of_pre m hp
  have hA : ∀ c, Lora.Args (Idealize.ShloMosaic.StableHlo.launchContents m' c) (Cert.KernelIdeal.Hand.I0 m c) := fun c => by
    obtain ⟨h0, h1, h2, h3, h4, h5, h6, h7, h8, h9⟩ := hagree c
    have hk := fun b h => Cert.KernelIdeal.Hand.V_keep m c b h
    exact {
      off := h8.trans (hk _ (by decide)).symm
      seg := h9.trans (hk _ (by decide)).symm
      start := h5.trans (hk _ (by decide)).symm
      rank := h6.trans (hk _ (by decide)).symm
      scal := h7.trans (hk _ (by decide)).symm
      X := (congrArg (fun v => shapeCast Cert.ReferenceIdeal.S12288x2048 v Cert.ReferenceIdeal.Gen.shapeCasts_S12x1024x2048_S12288x2048) h0).trans (tokens m c).symm
      WP := h1.trans (hk _ (by decide)).symm
      WS := h2.trans (hk _ (by decide)).symm
      A := h3.trans (hk _ (by decide)).symm
      B := h4.trans (hk _ (by decide)).symm }
  refine ⟨_, _, ⟨(θ_run Cert.KernelIdeal.defs _ _).mono (fun r h c => ⟨(h.1 c).1, (h.1 c).2.1, ten (h.1 c).2.2⟩)
    (Cert.KernelIdeal.Hand.run_value (F := Ideal) m ρ hG), ?_⟩⟩
  refine (θ_run Cert.ReferenceIdeal.defs _ _).mono (fun r h c => ⟨(h c).1.trans ?_, (h c).2.1.trans ?_, (h c).2.2⟩) (Cert.ReferenceIdeal.Value.run (F := Ideal) m' ρ')
  · exact congrArg (fun v => shapeCast Cert.ReferenceIdeal.S12x1024x8192 v Cert.ReferenceIdeal.Gen.shapeCasts_S12288x8192_S12x1024x8192) (Lora.first_eq (hA c) (hG c))
  · exact Lora.second_eq (hA c) (hG c)

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_well_formed.Gen.facts,
    frame_k, frame_ki, frame_ri, trivial, algebraic⟩

end Cert.Proof

end
